-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S512x512 : Shape := ⟨2, ![512, 512]⟩
abbrev S_ : Shape := ⟨0, ![]⟩
abbrev S4x2048 : Shape := ⟨2, ![4, 2048]⟩
abbrev S4x2048x1 : Shape := ⟨3, ![4, 2048, 1]⟩
abbrev S1x512 : Shape := ⟨2, ![1, 512]⟩
abbrev S4x2048x512 : Shape := ⟨3, ![4, 2048, 512]⟩
abbrev S1x2048x1024 : Shape := ⟨3, ![1, 2048, 1024]⟩
abbrev S1x2048x512 : Shape := ⟨3, ![1, 2048, 512]⟩
abbrev S2048x1024 : Shape := ⟨2, ![2048, 1024]⟩
abbrev S2048x512 : Shape := ⟨2, ![2048, 512]⟩
abbrev S4x2048x2048 : Shape := ⟨3, ![4, 2048, 2048]⟩
abbrev S1x512x1024 : Shape := ⟨3, ![1, 512, 1024]⟩
abbrev S1x512x2048 : Shape := ⟨3, ![1, 512, 2048]⟩
abbrev S512x2048 : Shape := ⟨2, ![512, 2048]⟩
abbrev S1x1024 : Shape := ⟨2, ![1, 1024]⟩
abbrev S65536 : Shape := ⟨1, ![65536]⟩
abbrev S32768 : Shape := ⟨1, ![32768]⟩
abbrev S16 : Shape := ⟨1, ![16]⟩
abbrev S2048 : Shape := ⟨1, ![2048]⟩
abbrev S1x1x2048 : Shape := ⟨3, ![1, 1, 2048]⟩
abbrev S1x2048x32 : Shape := ⟨3, ![1, 2048, 32]⟩
abbrev S1x256x32 : Shape := ⟨3, ![1, 256, 32]⟩
abbrev S1x256x512 : Shape := ⟨3, ![1, 256, 512]⟩
abbrev S256x32 : Shape := ⟨2, ![256, 32]⟩
abbrev S256x2048 : Shape := ⟨2, ![256, 2048]⟩
abbrev S256x1 : Shape := ⟨2, ![256, 1]⟩
abbrev S256 : Shape := ⟨1, ![256]⟩
abbrev S256x512 : Shape := ⟨2, ![256, 512]⟩
abbrev S256x1024 : Shape := ⟨2, ![256, 1024]⟩
abbrev S4x2048x32 : Shape := ⟨3, ![4, 2048, 32]⟩

abbrev nBuf : Table → Nat
  | .hbm => 62
  | .local .tc .vmem => 90
  | .local .scVector .vmem => 16
  | _ => 0

abbrev bufTy : (tb : Table) → Fin (nBuf tb) → BufTy
  | .hbm, ⟨0, _⟩ => ⟨S4x2048x1024, .f32⟩
  | .hbm, ⟨1, _⟩ => ⟨S1024x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S4x2048x1024, .bf16⟩
  | .hbm, ⟨24, _⟩ => ⟨S1024x512, .bf16⟩
  | .hbm, ⟨25, _⟩ => ⟨S1x512, .f32⟩
  | .hbm, ⟨26, _⟩ => ⟨S4x2048x512, .f32⟩
  | .hbm, ⟨27, _⟩ => ⟨S4x2048x512, .bf16⟩
  | .hbm, ⟨28, _⟩ => ⟨S4x2048x2048, .f32⟩
  | .hbm, ⟨29, _⟩ => ⟨S512x1024, .bf16⟩
  | .hbm, ⟨30, _⟩ => ⟨S1x1024, .f32⟩
  | .hbm, ⟨31, _⟩ => ⟨S1024x512, .bf16⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S512x512, .bf16⟩
  | .hbm, ⟨36, _⟩ => ⟨S1x512, .f32⟩
  | .hbm, ⟨37, _⟩ => ⟨S512x512, .bf16⟩
  | .hbm, ⟨38, _⟩ => ⟨S1x512, .f32⟩
  | .hbm, ⟨39, _⟩ => ⟨S65536, .f32⟩
  | .hbm, ⟨40, _⟩ => ⟨S65536, .i32⟩
  | .hbm, ⟨41, _⟩ => ⟨S1x2048x32, .f32⟩
  | .hbm, ⟨42, _⟩ => ⟨S1x2048x32, .i32⟩
  | .hbm, ⟨43, _⟩ => ⟨S1x2048x512, .f32⟩
  | .hbm, ⟨44, _⟩ => ⟨S65536, .f32⟩
  | .hbm, ⟨45, _⟩ => ⟨S65536, .i32⟩
  | .hbm, ⟨46, _⟩ => ⟨S1x2048x32, .f32⟩
  | .hbm, ⟨47, _⟩ => ⟨S1x2048x32, .i32⟩
  | .hbm, ⟨48, _⟩ => ⟨S1x2048x512, .f32⟩
  | .hbm, ⟨49, _⟩ => ⟨S65536, .f32⟩
  | .hbm, ⟨50, _⟩ => ⟨S65536, .i32⟩
  | .hbm, ⟨51, _⟩ => ⟨S1x2048x32, .f32⟩
  | .hbm, ⟨52, _⟩ => ⟨S1x2048x32, .i32⟩
  | .hbm, ⟨53, _⟩ => ⟨S1x2048x512, .f32⟩
  | .hbm, ⟨54, _⟩ => ⟨S65536, .f32⟩
  | .hbm, ⟨55, _⟩ => ⟨S65536, .i32⟩
  | .hbm, ⟨56, _⟩ => ⟨S1x2048x32, .f32⟩
  | .hbm, ⟨57, _⟩ => ⟨S1x2048x32, .i32⟩
  | .hbm, ⟨58, _⟩ => ⟨S1x2048x512, .f32⟩
  | .hbm, ⟨59, _⟩ => ⟨S4x2048x32, .f32⟩
  | .hbm, ⟨60, _⟩ => ⟨S4x2048x32, .i32⟩
  | .hbm, ⟨61, _⟩ => ⟨S4x2048x512, .f32⟩
  | .local .tc .vmem, ⟨0, _⟩ => ⟨S1x2048x1024, .f32⟩
  | .local .tc .vmem, ⟨1, _⟩ => ⟨S1x2048x1024, .f32⟩
  | .local .tc .vmem, ⟨2, _⟩ => ⟨S1024x512, .bf16⟩
  | .local .tc .vmem, ⟨3, _⟩ => ⟨S1x512, .f32⟩
  | .local .tc .vmem, ⟨4, _⟩ => ⟨S1x2048x512, .f32⟩
  | .local .tc .vmem, ⟨5, _⟩ => ⟨S1x2048x512, .f32⟩
  | .local .tc .vmem, ⟨6, _⟩ => ⟨S1x2048x512, .bf16⟩
  | .local .tc .vmem, ⟨7, _⟩ => ⟨S1x2048x512, .bf16⟩
  | .local .tc .vmem, ⟨8, _⟩ => ⟨S1x2048x1024, .bf16⟩
  | .local .tc .vmem, ⟨9, _⟩ => ⟨S1x2048x1024, .bf16⟩
  | .local .tc .vmem, ⟨10, _⟩ => ⟨S1x512x1024, .bf16⟩
  | .local .tc .vmem, ⟨11, _⟩ => ⟨S1x512x1024, .bf16⟩
  | .local .tc .vmem, ⟨12, _⟩ => ⟨S1x512x2048, .f32⟩
  | .local .tc .vmem, ⟨13, _⟩ => ⟨S1x512x2048, .f32⟩
  | .local .tc .vmem, ⟨14, _⟩ => ⟨S1x256x32, .f32⟩
  | .local .tc .vmem, ⟨15, _⟩ => ⟨S1x256x32, .f32⟩
  | .local .tc .vmem, ⟨16, _⟩ => ⟨S1x256x32, .i32⟩
  | .local .tc .vmem, ⟨17, _⟩ => ⟨S1x256x32, .i32⟩
  | .local .tc .vmem, ⟨18, _⟩ => ⟨S1x2048x512, .bf16⟩
  | .local .tc .vmem, ⟨19, _⟩ => ⟨S1x256x512, .f32⟩
  | .local .tc .vmem, ⟨20, _⟩ => ⟨S1x256x512, .f32⟩
  | .local .tc .vmem, ⟨21, _⟩ => ⟨S512x1024, .bf16⟩
  | .local .tc .vmem, ⟨22, _⟩ => ⟨S1x1024, .f32⟩
  | .local .tc .vmem, ⟨23, _⟩ => ⟨S1024x512, .bf16⟩
  | .local .tc .vmem, ⟨24, _⟩ => ⟨S1x512, .f32⟩
  | .local .tc .vmem, ⟨25, _⟩ => ⟨S1x512, .f32⟩
  | .local .tc .vmem, ⟨26, _⟩ => ⟨S1x512, .f32⟩
  | .local .tc .vmem, ⟨27, _⟩ => ⟨S512x512, .bf16⟩
  | .local .tc .vmem, ⟨28, _⟩ => ⟨S1x512, .f32⟩
  | .local .tc .vmem, ⟨29, _⟩ => ⟨S512x512, .bf16⟩
  | .local .tc .vmem, ⟨30, _⟩ => ⟨S1x512, .f32⟩
  | .local .tc .vmem, ⟨31, _⟩ => ⟨S1x256x512, .f32⟩
  | .local .tc .vmem, ⟨32, _⟩ => ⟨S1x256x512, .f32⟩
  | .local .tc .vmem, ⟨33, _⟩ => ⟨S1x256x32, .f32⟩
  | .local .tc .vmem, ⟨34, _⟩ => ⟨S1x256x32, .f32⟩
  | .local .tc .vmem, ⟨35, _⟩ => ⟨S1x256x32, .i32⟩
  | .local .tc .vmem, ⟨36, _⟩ => ⟨S1x256x32, .i32⟩
  | .local .tc .vmem, ⟨37, _⟩ => ⟨S1x2048x512, .bf16⟩
  | .local .tc .vmem, ⟨38, _⟩ => ⟨S1x256x512, .f32⟩
  | .local .tc .vmem, ⟨39, _⟩ => ⟨S1x256x512, .f32⟩
  | .local .tc .vmem, ⟨40, _⟩ => ⟨S512x1024, .bf16⟩
  | .local .tc .vmem, ⟨41, _⟩ => ⟨S1x1024, .f32⟩
  | .local .tc .vmem, ⟨42, _⟩ => ⟨S1024x512, .bf16⟩
  | .local .tc .vmem, ⟨43, _⟩ => ⟨S1x512, .f32⟩
  | .local .tc .vmem, ⟨44, _⟩ => ⟨S1x512, .f32⟩
  | .local .tc .vmem, ⟨45, _⟩ => ⟨S1x512, .f32⟩
  | .local .tc .vmem, ⟨46, _⟩ => ⟨S512x512, .bf16⟩
  | .local .tc .vmem, ⟨47, _⟩ => ⟨S1x512, .f32⟩
  | .local .tc .vmem, ⟨48, _⟩ => ⟨S512x512, .bf16⟩
  | .local .tc .vmem, ⟨49, _⟩ => ⟨S1x512, .f32⟩
  | .local .tc .vmem, ⟨50, _⟩ => ⟨S1x256x512, .f32⟩
  | .local .tc .vmem, ⟨51, _⟩ => ⟨S1x256x512, .f32⟩
  | .local .tc .vmem, ⟨52, _⟩ => ⟨S1x256x32, .f32⟩
  | .local .tc .vmem, ⟨53, _⟩ => ⟨S1x256x32, .f32⟩
  | .local .tc .vmem, ⟨54, _⟩ => ⟨S1x256x32, .i32⟩
  | .local .tc .vmem, ⟨55, _⟩ => ⟨S1x256x32, .i32⟩
  | .local .tc .vmem, ⟨56, _⟩ => ⟨S1x2048x512, .bf16⟩
  | .local .tc .vmem, ⟨57, _⟩ => ⟨S1x256x512, .f32⟩
  | .local .tc .vmem, ⟨58, _⟩ => ⟨S1x256x512, .f32⟩
  | .local .tc .vmem, ⟨59, _⟩ => ⟨S512x1024, .bf16⟩
  | .local .tc .vmem, ⟨60, _⟩ => ⟨S1x1024, .f32⟩
  | .local .tc .vmem, ⟨61, _⟩ => ⟨S1024x512, .bf16⟩
  | .local .tc .vmem, ⟨62, _⟩ => ⟨S1x512, .f32⟩
  | .local .tc .vmem, ⟨63, _⟩ => ⟨S1x512, .f32⟩
  | .local .tc .vmem, ⟨64, _⟩ => ⟨S1x512, .f32⟩
  | .local .tc .vmem, ⟨65, _⟩ => ⟨S512x512, .bf16⟩
  | .local .tc .vmem, ⟨66, _⟩ => ⟨S1x512, .f32⟩
  | .local .tc .vmem, ⟨67, _⟩ => ⟨S512x512, .bf16⟩
  | .local .tc .vmem, ⟨68, _⟩ => ⟨S1x512, .f32⟩
  | .local .tc .vmem, ⟨69, _⟩ => ⟨S1x256x512, .f32⟩
  | .local .tc .vmem, ⟨70, _⟩ => ⟨S1x256x512, .f32⟩
  | .local .tc .vmem, ⟨71, _⟩ => ⟨S1x256x32, .f32⟩
  | .local .tc .vmem, ⟨72, _⟩ => ⟨S1x256x32, .f32⟩
  | .local .tc .vmem, ⟨73, _⟩ => ⟨S1x256x32, .i32⟩
  | .local .tc .vmem, ⟨74, _⟩ => ⟨S1x256x32, .i32⟩
  | .local .tc .vmem, ⟨75, _⟩ => ⟨S1x2048x512, .bf16⟩
  | .local .tc .vmem, ⟨76, _⟩ => ⟨S1x256x512, .f32⟩
  | .local .tc .vmem, ⟨77, _⟩ => ⟨S1x256x512, .f32⟩
  | .local .tc .vmem, ⟨78, _⟩ => ⟨S512x1024, .bf16⟩
  | .local .tc .vmem, ⟨79, _⟩ => ⟨S1x1024, .f32⟩
  | .local .tc .vmem, ⟨80, _⟩ => ⟨S1024x512, .bf16⟩
  | .local .tc .vmem, ⟨81, _⟩ => ⟨S1x512, .f32⟩
  | .local .tc .vmem, ⟨82, _⟩ => ⟨S1x512, .f32⟩
  | .local .tc .vmem, ⟨83, _⟩ => ⟨S1x512, .f32⟩
  | .local .tc .vmem, ⟨84, _⟩ => ⟨S512x512, .bf16⟩
  | .local .tc .vmem, ⟨85, _⟩ => ⟨S1x512, .f32⟩
  | .local .tc .vmem, ⟨86, _⟩ => ⟨S512x512, .bf16⟩
  | .local .tc .vmem, ⟨87, _⟩ => ⟨S1x512, .f32⟩
  | .local .tc .vmem, ⟨88, _⟩ => ⟨S1x256x512, .f32⟩
  | .local .tc .vmem, ⟨89, _⟩ => ⟨S1x256x512, .f32⟩
  | .local .scVector .vmem, ⟨0, _⟩ => ⟨S32768, .f32⟩
  | .local .scVector .vmem, ⟨1, _⟩ => ⟨S1024, .f32⟩
  | .local .scVector .vmem, ⟨2, _⟩ => ⟨S512, .f32⟩
  | .local .scVector .vmem, ⟨3, _⟩ => ⟨S512, .i32⟩
  | .local .scVector .vmem, ⟨4, _⟩ => ⟨S32768, .f32⟩
  | .local .scVector .vmem, ⟨5, _⟩ => ⟨S1024, .f32⟩
  | .local .scVector .vmem, ⟨6, _⟩ => ⟨S512, .f32⟩
  | .local .scVector .vmem, ⟨7, _⟩ => ⟨S512, .i32⟩
  | .local .scVector .vmem, ⟨8, _⟩ => ⟨S32768, .f32⟩
  | .local .scVector .vmem, ⟨9, _⟩ => ⟨S1024, .f32⟩
  | .local .scVector .vmem, ⟨10, _⟩ => ⟨S512, .f32⟩
  | .local .scVector .vmem, ⟨11, _⟩ => ⟨S512, .i32⟩
  | .local .scVector .vmem, ⟨12, _⟩ => ⟨S32768, .f32⟩
  | .local .scVector .vmem, ⟨13, _⟩ => ⟨S1024, .f32⟩
  | .local .scVector .vmem, ⟨14, _⟩ => ⟨S512, .f32⟩
  | .local .scVector .vmem, ⟨15, _⟩ => ⟨S512, .i32⟩
  | _, _ => ⟨S4x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => false
  | ⟨37, _⟩ => false
  | ⟨38, _⟩ => false
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => false
  | ⟨59, _⟩ => false
  | ⟨60, _⟩ => false
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => false
  | ⟨81, _⟩ => false
  | ⟨82, _⟩ => false
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTables nBuf rfl bufTy 4 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32_0 : Ref sig .tc := ⟨.hbm, 54, rfl⟩
abbrev main_v32_1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v9_scv : Ref sig .scVector := ⟨.hbm, 28, rfl⟩
abbrev main_v20_0_scv : Ref sig .scVector := ⟨.hbm, 39, rfl⟩
abbrev main_v20_1_scv : Ref sig .scVector := ⟨.hbm, 40, rfl⟩
abbrev main_v24_0_scv : Ref sig .scVector := ⟨.hbm, 44, rfl⟩
abbrev main_v24_1_scv : Ref sig .scVector := ⟨.hbm, 45, rfl⟩
abbrev main_v28_0_scv : Ref sig .scVector := ⟨.hbm, 49, rfl⟩
abbrev main_v28_1_scv : Ref sig .scVector := ⟨.hbm, 50, rfl⟩
abbrev main_v32_0_scv : Ref sig .scVector := ⟨.hbm, 54, rfl⟩
abbrev main_v32_1_scv : Ref sig .scVector := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg8_0 : Ref sig .tc := ⟨.vmem, 25, rfl⟩
abbrev cc3_stg9_0 : Ref sig .tc := ⟨.vmem, 26, rfl⟩
abbrev cc3_stg10_0 : Ref sig .tc := ⟨.vmem, 27, rfl⟩
abbrev cc3_stg11_0 : Ref sig .tc := ⟨.vmem, 28, rfl⟩
abbrev cc3_stg12_0 : Ref sig .tc := ⟨.vmem, 29, rfl⟩
abbrev cc3_stg13_0 : Ref sig .tc := ⟨.vmem, 30, rfl⟩
abbrev cc3_stg14_0 : Ref sig .tc := ⟨.vmem, 31, rfl⟩
abbrev cc3_stg14_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg7_0 : Ref sig .tc := ⟨.vmem, 43, rfl⟩
abbrev cc5_stg8_0 : Ref sig .tc := ⟨.vmem, 44, rfl⟩
abbrev cc5_stg9_0 : Ref sig .tc := ⟨.vmem, 45, rfl⟩
abbrev cc5_stg10_0 : Ref sig .tc := ⟨.vmem, 46, rfl⟩
abbrev cc5_stg11_0 : Ref sig .tc := ⟨.vmem, 47, rfl⟩
abbrev cc5_stg12_0 : Ref sig .tc := ⟨.vmem, 48, rfl⟩
abbrev cc5_stg13_0 : Ref sig .tc := ⟨.vmem, 49, rfl⟩
abbrev cc5_stg14_0 : Ref sig .tc := ⟨.vmem, 50, rfl⟩
abbrev cc5_stg14_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg6_0 : Ref sig .tc := ⟨.vmem, 61, rfl⟩
abbrev cc7_stg7_0 : Ref sig .tc := ⟨.vmem, 62, rfl⟩
abbrev cc7_stg8_0 : Ref sig .tc := ⟨.vmem, 63, rfl⟩
abbrev cc7_stg9_0 : Ref sig .tc := ⟨.vmem, 64, rfl⟩
abbrev cc7_stg10_0 : Ref sig .tc := ⟨.vmem, 65, rfl⟩
abbrev cc7_stg11_0 : Ref sig .tc := ⟨.vmem, 66, rfl⟩
abbrev cc7_stg12_0 : Ref sig .tc := ⟨.vmem, 67, rfl⟩
abbrev cc7_stg13_0 : Ref sig .tc := ⟨.vmem, 68, rfl⟩
abbrev cc7_stg14_0 : Ref sig .tc := ⟨.vmem, 69, rfl⟩
abbrev cc7_stg14_1 : Ref sig .tc := ⟨.vmem, 70, rfl⟩
abbrev cc9_stg0_0 : Ref sig .tc := ⟨.vmem, 71, rfl⟩
abbrev cc9_stg0_1 : Ref sig .tc := ⟨.vmem, 72, rfl⟩
abbrev cc9_stg1_0 : Ref sig .tc := ⟨.vmem, 73, rfl⟩
abbrev cc9_stg1_1 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc9_stg4_0 : Ref sig .tc := ⟨.vmem, 78, rfl⟩
abbrev cc9_stg5_0 : Ref sig .tc := ⟨.vmem, 79, rfl⟩
abbrev cc9_stg6_0 : Ref sig .tc := ⟨.vmem, 80, rfl⟩
abbrev cc9_stg7_0 : Ref sig .tc := ⟨.vmem, 81, rfl⟩
abbrev cc9_stg8_0 : Ref sig .tc := ⟨.vmem, 82, rfl⟩
abbrev cc9_stg9_0 : Ref sig .tc := ⟨.vmem, 83, rfl⟩
abbrev cc9_stg10_0 : Ref sig .tc := ⟨.vmem, 84, rfl⟩
abbrev cc9_stg11_0 : Ref sig .tc := ⟨.vmem, 85, rfl⟩
abbrev cc9_stg12_0 : Ref sig .tc := ⟨.vmem, 86, rfl⟩
abbrev cc9_stg13_0 : Ref sig .tc := ⟨.vmem, 87, rfl⟩
abbrev cc9_stg14_0 : Ref sig .tc := ⟨.vmem, 88, rfl⟩
abbrev cc9_stg14_1 : Ref sig .tc := ⟨.vmem, 89, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc4_scratch0 : Ref sig .scVector := ⟨.vmem, 4, rfl⟩
abbrev cc4_scratch1 : Ref sig .scVector := ⟨.vmem, 5, rfl⟩
abbrev cc4_scratch2 : Ref sig .scVector := ⟨.vmem, 6, rfl⟩
abbrev cc4_scratch3 : Ref sig .scVector := ⟨.vmem, 7, rfl⟩
abbrev cc6_scratch0 : Ref sig .scVector := ⟨.vmem, 8, rfl⟩
abbrev cc6_scratch1 : Ref sig .scVector := ⟨.vmem, 9, rfl⟩
abbrev cc6_scratch2 : Ref sig .scVector := ⟨.vmem, 10, rfl⟩
abbrev cc6_scratch3 : Ref sig .scVector := ⟨.vmem, 11, rfl⟩
abbrev cc8_scratch0 : Ref sig .scVector := ⟨.vmem, 12, rfl⟩
abbrev cc8_scratch1 : Ref sig .scVector := ⟨.vmem, 13, rfl⟩
abbrev cc8_scratch2 : Ref sig .scVector := ⟨.vmem, 14, rfl⟩
abbrev cc8_scratch3 : Ref sig .scVector := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem8_0 : DmaSem sig := 28
abbrev cc3_sem9_0 : DmaSem sig := 29
abbrev cc3_sem10_0 : DmaSem sig := 30
abbrev cc3_sem11_0 : DmaSem sig := 31
abbrev cc3_sem12_0 : DmaSem sig := 32
abbrev cc3_sem13_0 : DmaSem sig := 33
abbrev cc3_sem14_0 : DmaSem sig := 34
abbrev cc3_sem14_1 : DmaSem sig := 35
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem3_1 : DmaSem sig := 45
abbrev cc5_sem4_0 : DmaSem sig := 46
abbrev cc5_sem5_0 : DmaSem sig := 47
abbrev cc5_sem6_0 : DmaSem sig := 48
abbrev cc5_sem7_0 : DmaSem sig := 49
abbrev cc5_sem8_0 : DmaSem sig := 50
abbrev cc5_sem9_0 : DmaSem sig := 51
abbrev cc5_sem10_0 : DmaSem sig := 52
abbrev cc5_sem11_0 : DmaSem sig := 53
abbrev cc5_sem12_0 : DmaSem sig := 54
abbrev cc5_sem13_0 : DmaSem sig := 55
abbrev cc5_sem14_0 : DmaSem sig := 56
abbrev cc5_sem14_1 : DmaSem sig := 57
abbrev cc7_sem0_0 : DmaSem sig := 61
abbrev cc7_sem0_1 : DmaSem sig := 62
abbrev cc7_sem1_0 : DmaSem sig := 63
abbrev cc7_sem1_1 : DmaSem sig := 64
abbrev cc7_sem2_0 : DmaSem sig := 65
abbrev cc7_sem3_0 : DmaSem sig := 66
abbrev cc7_sem3_1 : DmaSem sig := 67
abbrev cc7_sem4_0 : DmaSem sig := 68
abbrev cc7_sem5_0 : DmaSem sig := 69
abbrev cc7_sem6_0 : DmaSem sig := 70
abbrev cc7_sem7_0 : DmaSem sig := 71
abbrev cc7_sem8_0 : DmaSem sig := 72
abbrev cc7_sem9_0 : DmaSem sig := 73
abbrev cc7_sem10_0 : DmaSem sig := 74
abbrev cc7_sem11_0 : DmaSem sig := 75
abbrev cc7_sem12_0 : DmaSem sig := 76
abbrev cc7_sem13_0 : DmaSem sig := 77
abbrev cc7_sem14_0 : DmaSem sig := 78
abbrev cc7_sem14_1 : DmaSem sig := 79
abbrev cc9_sem0_0 : DmaSem sig := 83
abbrev cc9_sem0_1 : DmaSem sig := 84
abbrev cc9_sem1_0 : DmaSem sig := 85
abbrev cc9_sem1_1 : DmaSem sig := 86
abbrev cc9_sem2_0 : DmaSem sig := 87
abbrev cc9_sem3_0 : DmaSem sig := 88
abbrev cc9_sem3_1 : DmaSem sig := 89
abbrev cc9_sem4_0 : DmaSem sig := 90
abbrev cc9_sem5_0 : DmaSem sig := 91
abbrev cc9_sem6_0 : DmaSem sig := 92
abbrev cc9_sem7_0 : DmaSem sig := 93
abbrev cc9_sem8_0 : DmaSem sig := 94
abbrev cc9_sem9_0 : DmaSem sig := 95
abbrev cc9_sem10_0 : DmaSem sig := 96
abbrev cc9_sem11_0 : DmaSem sig := 97
abbrev cc9_sem12_0 : DmaSem sig := 98
abbrev cc9_sem13_0 : DmaSem sig := 99
abbrev cc9_sem14_0 : DmaSem sig := 100
abbrev cc9_sem14_1 : DmaSem sig := 101
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

@[reducible] def k2_t1_loop : Scf.Loop 32 :=
  let c0_i32_1 : BitVec 32 := 0#32
  let c4_i32 : BitVec 32 := 4#32
  let v8 : BitVec 32 := Scalar.addi c0_i32_1 c4_i32
  let c1_i32 : BitVec 32 := 1#32
  ⟨c0_i32_1, v8, c1_i32⟩
def k2_off1 (i : grid2.Coords) (k2_t1 : Fin k2_t1_loop.trips) (c0_i32_3 : BitVec 32) : Fin 3 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k2_t1
  let c16_i32 : BitVec 32 := 16#32
  let v9 : BitVec 32 := Scalar.muli arg10 c16_i32
  let v10 : BitVec 32 := Scalar.addi v2 v9
  let v11 : BitVec 32 := Scalar.addi v10 c0_i32_3
  let c0_i32_6 : BitVec 32 := 0#32
  ![0, v11.toNat, 0]
@[reducible] def k2_t2_loop : Scf.Loop 32 :=
  let c0_i32_154 : BitVec 32 := 0#32
  let c64_i32_155 : BitVec 32 := 64#32
  let v219 : BitVec 32 := Scalar.addi c0_i32_154 c64_i32_155
  let c1_i32_156 : BitVec 32 := 1#32
  ⟨c0_i32_154, v219, c1_i32_156⟩

def k2_chk1 (v227 : IVec S16 32) : Prop :=
  (∀ a x, ((![v227] : Fin 1 → IVec S16 32) a x).toNat < S32768.size a)
theorem k2_idx1_inb : ∀ (v227 : IVec S16 32) (k2_hw1 : k2_chk1 v227), ∀ a x, ((![v227] : Fin 1 → IVec S16 32) a x).toNat < S32768.size a := fun v227 k2_hw1 => k2_hw1

def k2_chk2 (v231 : IVec S16 32) : Prop :=
  (∀ a x, ((![v231] : Fin 1 → IVec S16 32) a x).toNat < S32768.size a)
theorem k2_idx2_inb : ∀ (v231 : IVec S16 32) (k2_hw2 : k2_chk2 v231), ∀ a x, ((![v231] : Fin 1 → IVec S16 32) a x).toNat < S32768.size a := fun v231 k2_hw2 => k2_hw2

def k2_chk3 (v235 : IVec S16 32) : Prop :=
  (∀ a x, ((![v235] : Fin 1 → IVec S16 32) a x).toNat < S32768.size a)
theorem k2_idx3_inb : ∀ (v235 : IVec S16 32) (k2_hw3 : k2_chk3 v235), ∀ a x, ((![v235] : Fin 1 → IVec S16 32) a x).toNat < S32768.size a := fun v235 k2_hw3 => k2_hw3

def k2_chk4 (v239 : IVec S16 32) : Prop :=
  (∀ a x, ((![v239] : Fin 1 → IVec S16 32) a x).toNat < S32768.size a)
theorem k2_idx4_inb : ∀ (v239 : IVec S16 32) (k2_hw4 : k2_chk4 v239), ∀ a x, ((![v239] : Fin 1 → IVec S16 32) a x).toNat < S32768.size a := fun v239 k2_hw4 => k2_hw4

def k2_chk5 (v243 : IVec S16 32) : Prop :=
  (∀ a x, ((![v243] : Fin 1 → IVec S16 32) a x).toNat < S32768.size a)
theorem k2_idx5_inb : ∀ (v243 : IVec S16 32) (k2_hw5 : k2_chk5 v243), ∀ a x, ((![v243] : Fin 1 → IVec S16 32) a x).toNat < S32768.size a := fun v243 k2_hw5 => k2_hw5

def k2_chk6 (v247 : IVec S16 32) : Prop :=
  (∀ a x, ((![v247] : Fin 1 → IVec S16 32) a x).toNat < S32768.size a)
theorem k2_idx6_inb : ∀ (v247 : IVec S16 32) (k2_hw6 : k2_chk6 v247), ∀ a x, ((![v247] : Fin 1 → IVec S16 32) a x).toNat < S32768.size a := fun v247 k2_hw6 => k2_hw6

def k2_chk7 (v251 : IVec S16 32) : Prop :=
  (∀ a x, ((![v251] : Fin 1 → IVec S16 32) a x).toNat < S32768.size a)
theorem k2_idx7_inb : ∀ (v251 : IVec S16 32) (k2_hw7 : k2_chk7 v251), ∀ a x, ((![v251] : Fin 1 → IVec S16 32) a x).toNat < S32768.size a := fun v251 k2_hw7 => k2_hw7

def k2_chk8 (v255 : IVec S16 32) : Prop :=
  (∀ a x, ((![v255] : Fin 1 → IVec S16 32) a x).toNat < S32768.size a)
theorem k2_idx8_inb : ∀ (v255 : IVec S16 32) (k2_hw8 : k2_chk8 v255), ∀ a x, ((![v255] : Fin 1 → IVec S16 32) a x).toNat < S32768.size a := fun v255 k2_hw8 => k2_hw8

def k2_chk9 (v259 : IVec S16 32) : Prop :=
  (∀ a x, ((![v259] : Fin 1 → IVec S16 32) a x).toNat < S32768.size a)
theorem k2_idx9_inb : ∀ (v259 : IVec S16 32) (k2_hw9 : k2_chk9 v259), ∀ a x, ((![v259] : Fin 1 → IVec S16 32) a x).toNat < S32768.size a := fun v259 k2_hw9 => k2_hw9

def k2_chk10 (v263 : IVec S16 32) : Prop :=
  (∀ a x, ((![v263] : Fin 1 → IVec S16 32) a x).toNat < S32768.size a)
theorem k2_idx10_inb : ∀ (v263 : IVec S16 32) (k2_hw10 : k2_chk10 v263), ∀ a x, ((![v263] : Fin 1 → IVec S16 32) a x).toNat < S32768.size a := fun v263 k2_hw10 => k2_hw10

def k2_chk11 (v267 : IVec S16 32) : Prop :=
  (∀ a x, ((![v267] : Fin 1 → IVec S16 32) a x).toNat < S32768.size a)
theorem k2_idx11_inb : ∀ (v267 : IVec S16 32) (k2_hw11 : k2_chk11 v267), ∀ a x, ((![v267] : Fin 1 → IVec S16 32) a x).toNat < S32768.size a := fun v267 k2_hw11 => k2_hw11

def k2_chk12 (v271 : IVec S16 32) : Prop :=
  (∀ a x, ((![v271] : Fin 1 → IVec S16 32) a x).toNat < S32768.size a)
theorem k2_idx12_inb : ∀ (v271 : IVec S16 32) (k2_hw12 : k2_chk12 v271), ∀ a x, ((![v271] : Fin 1 → IVec S16 32) a x).toNat < S32768.size a := fun v271 k2_hw12 => k2_hw12

def k2_chk13 (v275 : IVec S16 32) : Prop :=
  (∀ a x, ((![v275] : Fin 1 → IVec S16 32) a x).toNat < S32768.size a)
theorem k2_idx13_inb : ∀ (v275 : IVec S16 32) (k2_hw13 : k2_chk13 v275), ∀ a x, ((![v275] : Fin 1 → IVec S16 32) a x).toNat < S32768.size a := fun v275 k2_hw13 => k2_hw13

def k2_chk14 (v279 : IVec S16 32) : Prop :=
  (∀ a x, ((![v279] : Fin 1 → IVec S16 32) a x).toNat < S32768.size a)
theorem k2_idx14_inb : ∀ (v279 : IVec S16 32) (k2_hw14 : k2_chk14 v279), ∀ a x, ((![v279] : Fin 1 → IVec S16 32) a x).toNat < S32768.size a := fun v279 k2_hw14 => k2_hw14

def k2_chk15 (v283 : IVec S16 32) : Prop :=
  (∀ a x, ((![v283] : Fin 1 → IVec S16 32) a x).toNat < S32768.size a)
theorem k2_idx15_inb : ∀ (v283 : IVec S16 32) (k2_hw15 : k2_chk15 v283), ∀ a x, ((![v283] : Fin 1 → IVec S16 32) a x).toNat < S32768.size a := fun v283 k2_hw15 => k2_hw15

def k2_chk16 (v287 : IVec S16 32) : Prop :=
  (∀ a x, ((![v287] : Fin 1 → IVec S16 32) a x).toNat < S32768.size a)
theorem k2_idx16_inb : ∀ (v287 : IVec S16 32) (k2_hw16 : k2_chk16 v287), ∀ a x, ((![v287] : Fin 1 → IVec S16 32) a x).toNat < S32768.size a := fun v287 k2_hw16 => k2_hw16

def k2_chk17 (v291 : IVec S16 32) : Prop :=
  (∀ a x, ((![v291] : Fin 1 → IVec S16 32) a x).toNat < S32768.size a)
theorem k2_idx17_inb : ∀ (v291 : IVec S16 32) (k2_hw17 : k2_chk17 v291), ∀ a x, ((![v291] : Fin 1 → IVec S16 32) a x).toNat < S32768.size a := fun v291 k2_hw17 => k2_hw17

def k2_chk18 (v295 : IVec S16 32) : Prop :=
  (∀ a x, ((![v295] : Fin 1 → IVec S16 32) a x).toNat < S32768.size a)
theorem k2_idx18_inb : ∀ (v295 : IVec S16 32) (k2_hw18 : k2_chk18 v295), ∀ a x, ((![v295] : Fin 1 → IVec S16 32) a x).toNat < S32768.size a := fun v295 k2_hw18 => k2_hw18

def k2_chk19 (v299 : IVec S16 32) : Prop :=
  (∀ a x, ((![v299] : Fin 1 → IVec S16 32) a x).toNat < S32768.size a)
theorem k2_idx19_inb : ∀ (v299 : IVec S16 32) (k2_hw19 : k2_chk19 v299), ∀ a x, ((![v299] : Fin 1 → IVec S16 32) a x).toNat < S32768.size a := fun v299 k2_hw19 => k2_hw19

def k2_chk20 (v303 : IVec S16 32) : Prop :=
  (∀ a x, ((![v303] : Fin 1 → IVec S16 32) a x).toNat < S32768.size a)
theorem k2_idx20_inb : ∀ (v303 : IVec S16 32) (k2_hw20 : k2_chk20 v303), ∀ a x, ((![v303] : Fin 1 → IVec S16 32) a x).toNat < S32768.size a := fun v303 k2_hw20 => k2_hw20

def k2_chk21 (v307 : IVec S16 32) : Prop :=
  (∀ a x, ((![v307] : Fin 1 → IVec S16 32) a x).toNat < S32768.size a)
theorem k2_idx21_inb : ∀ (v307 : IVec S16 32) (k2_hw21 : k2_chk21 v307), ∀ a x, ((![v307] : Fin 1 → IVec S16 32) a x).toNat < S32768.size a := fun v307 k2_hw21 => k2_hw21

def k2_chk22 (v311 : IVec S16 32) : Prop :=
  (∀ a x, ((![v311] : Fin 1 → IVec S16 32) a x).toNat < S32768.size a)
theorem k2_idx22_inb : ∀ (v311 : IVec S16 32) (k2_hw22 : k2_chk22 v311), ∀ a x, ((![v311] : Fin 1 → IVec S16 32) a x).toNat < S32768.size a := fun v311 k2_hw22 => k2_hw22

def k2_chk23 (v315 : IVec S16 32) : Prop :=
  (∀ a x, ((![v315] : Fin 1 → IVec S16 32) a x).toNat < S32768.size a)
theorem k2_idx23_inb : ∀ (v315 : IVec S16 32) (k2_hw23 : k2_chk23 v315), ∀ a x, ((![v315] : Fin 1 → IVec S16 32) a x).toNat < S32768.size a := fun v315 k2_hw23 => k2_hw23

def k2_chk24 (v319 : IVec S16 32) : Prop :=
  (∀ a x, ((![v319] : Fin 1 → IVec S16 32) a x).toNat < S32768.size a)
theorem k2_idx24_inb : ∀ (v319 : IVec S16 32) (k2_hw24 : k2_chk24 v319), ∀ a x, ((![v319] : Fin 1 → IVec S16 32) a x).toNat < S32768.size a := fun v319 k2_hw24 => k2_hw24

def k2_chk25 (v323 : IVec S16 32) : Prop :=
  (∀ a x, ((![v323] : Fin 1 → IVec S16 32) a x).toNat < S32768.size a)
theorem k2_idx25_inb : ∀ (v323 : IVec S16 32) (k2_hw25 : k2_chk25 v323), ∀ a x, ((![v323] : Fin 1 → IVec S16 32) a x).toNat < S32768.size a := fun v323 k2_hw25 => k2_hw25

def k2_chk26 (v327 : IVec S16 32) : Prop :=
  (∀ a x, ((![v327] : Fin 1 → IVec S16 32) a x).toNat < S32768.size a)
theorem k2_idx26_inb : ∀ (v327 : IVec S16 32) (k2_hw26 : k2_chk26 v327), ∀ a x, ((![v327] : Fin 1 → IVec S16 32) a x).toNat < S32768.size a := fun v327 k2_hw26 => k2_hw26

def k2_chk27 (v331 : IVec S16 32) : Prop :=
  (∀ a x, ((![v331] : Fin 1 → IVec S16 32) a x).toNat < S32768.size a)
theorem k2_idx27_inb : ∀ (v331 : IVec S16 32) (k2_hw27 : k2_chk27 v331), ∀ a x, ((![v331] : Fin 1 → IVec S16 32) a x).toNat < S32768.size a := fun v331 k2_hw27 => k2_hw27

def k2_chk28 (v335 : IVec S16 32) : Prop :=
  (∀ a x, ((![v335] : Fin 1 → IVec S16 32) a x).toNat < S32768.size a)
theorem k2_idx28_inb : ∀ (v335 : IVec S16 32) (k2_hw28 : k2_chk28 v335), ∀ a x, ((![v335] : Fin 1 → IVec S16 32) a x).toNat < S32768.size a := fun v335 k2_hw28 => k2_hw28

def k2_chk29 (v339 : IVec S16 32) : Prop :=
  (∀ a x, ((![v339] : Fin 1 → IVec S16 32) a x).toNat < S32768.size a)
theorem k2_idx29_inb : ∀ (v339 : IVec S16 32) (k2_hw29 : k2_chk29 v339), ∀ a x, ((![v339] : Fin 1 → IVec S16 32) a x).toNat < S32768.size a := fun v339 k2_hw29 => k2_hw29

def k2_chk30 (v343 : IVec S16 32) : Prop :=
  (∀ a x, ((![v343] : Fin 1 → IVec S16 32) a x).toNat < S32768.size a)
theorem k2_idx30_inb : ∀ (v343 : IVec S16 32) (k2_hw30 : k2_chk30 v343), ∀ a x, ((![v343] : Fin 1 → IVec S16 32) a x).toNat < S32768.size a := fun v343 k2_hw30 => k2_hw30

def k2_chk31 (v347 : IVec S16 32) : Prop :=
  (∀ a x, ((![v347] : Fin 1 → IVec S16 32) a x).toNat < S32768.size a)
theorem k2_idx31_inb : ∀ (v347 : IVec S16 32) (k2_hw31 : k2_chk31 v347), ∀ a x, ((![v347] : Fin 1 → IVec S16 32) a x).toNat < S32768.size a := fun v347 k2_hw31 => k2_hw31

def k2_chk32 (v351 : IVec S16 32) : Prop :=
  (∀ a x, ((![v351] : Fin 1 → IVec S16 32) a x).toNat < S32768.size a)
theorem k2_idx32_inb : ∀ (v351 : IVec S16 32) (k2_hw32 : k2_chk32 v351), ∀ a x, ((![v351] : Fin 1 → IVec S16 32) a x).toNat < S32768.size a := fun v351 k2_hw32 => k2_hw32
def k2_off2 (k2_t2 : Fin k2_t2_loop.trips) : Fin 1 → Nat :=
  let c0_i32_154 : BitVec 32 := 0#32
  let c1_i32_156 : BitVec 32 := 1#32
  let arg11 : BitVec 32 := Scf.iv c0_i32_154 c1_i32_156 k2_t2
  let c16_i32_182 : BitVec 32 := 16#32
  let v357 : BitVec 32 := Scalar.muli arg11 c16_i32_182
  let v358 : Index := Scalar.indexCast v357
  ![v358.toNat]
@[reducible] def k2_t3_loop : Scf.Loop 32 :=
  let c0_i32_159 : BitVec 32 := 0#32
  let c32_i32 : BitVec 32 := 32#32
  let v220 : BitVec 32 := Scalar.addi c0_i32_159 c32_i32
  let c1_i32_160 : BitVec 32 := 1#32
  ⟨c0_i32_159, v220, c1_i32_160⟩

def k2_chk33 (v632 : IVec S16 32) : Prop :=
  (∀ a x, ((![v632] : Fin 1 → IVec S16 32) a x).toNat < S32768.size a)
theorem k2_idx33_inb : ∀ (v632 : IVec S16 32) (k2_hw33 : k2_chk33 v632), ∀ a x, ((![v632] : Fin 1 → IVec S16 32) a x).toNat < S32768.size a := fun v632 k2_hw33 => k2_hw33

def k2_chk34 (v641 : IVec S16 32) : Prop :=
  (∀ a x, ((![v641] : Fin 1 → IVec S16 32) a x).toNat < S32768.size a)
theorem k2_idx34_inb : ∀ (v641 : IVec S16 32) (k2_hw34 : k2_chk34 v641), ∀ a x, ((![v641] : Fin 1 → IVec S16 32) a x).toNat < S32768.size a := fun v641 k2_hw34 => k2_hw34

def k2_chk35 (v650 : IVec S16 32) : Prop :=
  (∀ a x, ((![v650] : Fin 1 → IVec S16 32) a x).toNat < S32768.size a)
theorem k2_idx35_inb : ∀ (v650 : IVec S16 32) (k2_hw35 : k2_chk35 v650), ∀ a x, ((![v650] : Fin 1 → IVec S16 32) a x).toNat < S32768.size a := fun v650 k2_hw35 => k2_hw35

def k2_chk36 (v659 : IVec S16 32) : Prop :=
  (∀ a x, ((![v659] : Fin 1 → IVec S16 32) a x).toNat < S32768.size a)
theorem k2_idx36_inb : ∀ (v659 : IVec S16 32) (k2_hw36 : k2_chk36 v659), ∀ a x, ((![v659] : Fin 1 → IVec S16 32) a x).toNat < S32768.size a := fun v659 k2_hw36 => k2_hw36

def k2_chk37 (v668 : IVec S16 32) : Prop :=
  (∀ a x, ((![v668] : Fin 1 → IVec S16 32) a x).toNat < S32768.size a)
theorem k2_idx37_inb : ∀ (v668 : IVec S16 32) (k2_hw37 : k2_chk37 v668), ∀ a x, ((![v668] : Fin 1 → IVec S16 32) a x).toNat < S32768.size a := fun v668 k2_hw37 => k2_hw37

def k2_chk38 (v677 : IVec S16 32) : Prop :=
  (∀ a x, ((![v677] : Fin 1 → IVec S16 32) a x).toNat < S32768.size a)
theorem k2_idx38_inb : ∀ (v677 : IVec S16 32) (k2_hw38 : k2_chk38 v677), ∀ a x, ((![v677] : Fin 1 → IVec S16 32) a x).toNat < S32768.size a := fun v677 k2_hw38 => k2_hw38

def k2_chk39 (v686 : IVec S16 32) : Prop :=
  (∀ a x, ((![v686] : Fin 1 → IVec S16 32) a x).toNat < S32768.size a)
theorem k2_idx39_inb : ∀ (v686 : IVec S16 32) (k2_hw39 : k2_chk39 v686), ∀ a x, ((![v686] : Fin 1 → IVec S16 32) a x).toNat < S32768.size a := fun v686 k2_hw39 => k2_hw39

def k2_chk40 (v695 : IVec S16 32) : Prop :=
  (∀ a x, ((![v695] : Fin 1 → IVec S16 32) a x).toNat < S32768.size a)
theorem k2_idx40_inb : ∀ (v695 : IVec S16 32) (k2_hw40 : k2_chk40 v695), ∀ a x, ((![v695] : Fin 1 → IVec S16 32) a x).toNat < S32768.size a := fun v695 k2_hw40 => k2_hw40

def k2_chk41 (v704 : IVec S16 32) : Prop :=
  (∀ a x, ((![v704] : Fin 1 → IVec S16 32) a x).toNat < S32768.size a)
theorem k2_idx41_inb : ∀ (v704 : IVec S16 32) (k2_hw41 : k2_chk41 v704), ∀ a x, ((![v704] : Fin 1 → IVec S16 32) a x).toNat < S32768.size a := fun v704 k2_hw41 => k2_hw41

def k2_chk42 (v713 : IVec S16 32) : Prop :=
  (∀ a x, ((![v713] : Fin 1 → IVec S16 32) a x).toNat < S32768.size a)
theorem k2_idx42_inb : ∀ (v713 : IVec S16 32) (k2_hw42 : k2_chk42 v713), ∀ a x, ((![v713] : Fin 1 → IVec S16 32) a x).toNat < S32768.size a := fun v713 k2_hw42 => k2_hw42

def k2_chk43 (v722 : IVec S16 32) : Prop :=
  (∀ a x, ((![v722] : Fin 1 → IVec S16 32) a x).toNat < S32768.size a)
theorem k2_idx43_inb : ∀ (v722 : IVec S16 32) (k2_hw43 : k2_chk43 v722), ∀ a x, ((![v722] : Fin 1 → IVec S16 32) a x).toNat < S32768.size a := fun v722 k2_hw43 => k2_hw43

def k2_chk44 (v731 : IVec S16 32) : Prop :=
  (∀ a x, ((![v731] : Fin 1 → IVec S16 32) a x).toNat < S32768.size a)
theorem k2_idx44_inb : ∀ (v731 : IVec S16 32) (k2_hw44 : k2_chk44 v731), ∀ a x, ((![v731] : Fin 1 → IVec S16 32) a x).toNat < S32768.size a := fun v731 k2_hw44 => k2_hw44

def k2_chk45 (v740 : IVec S16 32) : Prop :=
  (∀ a x, ((![v740] : Fin 1 → IVec S16 32) a x).toNat < S32768.size a)
theorem k2_idx45_inb : ∀ (v740 : IVec S16 32) (k2_hw45 : k2_chk45 v740), ∀ a x, ((![v740] : Fin 1 → IVec S16 32) a x).toNat < S32768.size a := fun v740 k2_hw45 => k2_hw45

def k2_chk46 (v749 : IVec S16 32) : Prop :=
  (∀ a x, ((![v749] : Fin 1 → IVec S16 32) a x).toNat < S32768.size a)
theorem k2_idx46_inb : ∀ (v749 : IVec S16 32) (k2_hw46 : k2_chk46 v749), ∀ a x, ((![v749] : Fin 1 → IVec S16 32) a x).toNat < S32768.size a := fun v749 k2_hw46 => k2_hw46

def k2_chk47 (v758 : IVec S16 32) : Prop :=
  (∀ a x, ((![v758] : Fin 1 → IVec S16 32) a x).toNat < S32768.size a)
theorem k2_idx47_inb : ∀ (v758 : IVec S16 32) (k2_hw47 : k2_chk47 v758), ∀ a x, ((![v758] : Fin 1 → IVec S16 32) a x).toNat < S32768.size a := fun v758 k2_hw47 => k2_hw47

def k2_chk48 (v767 : IVec S16 32) : Prop :=
  (∀ a x, ((![v767] : Fin 1 → IVec S16 32) a x).toNat < S32768.size a)
theorem k2_idx48_inb : ∀ (v767 : IVec S16 32) (k2_hw48 : k2_chk48 v767), ∀ a x, ((![v767] : Fin 1 → IVec S16 32) a x).toNat < S32768.size a := fun v767 k2_hw48 => k2_hw48

def k2_chk49 (v776 : IVec S16 32) : Prop :=
  (∀ a x, ((![v776] : Fin 1 → IVec S16 32) a x).toNat < S32768.size a)
theorem k2_idx49_inb : ∀ (v776 : IVec S16 32) (k2_hw49 : k2_chk49 v776), ∀ a x, ((![v776] : Fin 1 → IVec S16 32) a x).toNat < S32768.size a := fun v776 k2_hw49 => k2_hw49

def k2_chk50 (v785 : IVec S16 32) : Prop :=
  (∀ a x, ((![v785] : Fin 1 → IVec S16 32) a x).toNat < S32768.size a)
theorem k2_idx50_inb : ∀ (v785 : IVec S16 32) (k2_hw50 : k2_chk50 v785), ∀ a x, ((![v785] : Fin 1 → IVec S16 32) a x).toNat < S32768.size a := fun v785 k2_hw50 => k2_hw50

def k2_chk51 (v794 : IVec S16 32) : Prop :=
  (∀ a x, ((![v794] : Fin 1 → IVec S16 32) a x).toNat < S32768.size a)
theorem k2_idx51_inb : ∀ (v794 : IVec S16 32) (k2_hw51 : k2_chk51 v794), ∀ a x, ((![v794] : Fin 1 → IVec S16 32) a x).toNat < S32768.size a := fun v794 k2_hw51 => k2_hw51

def k2_chk52 (v803 : IVec S16 32) : Prop :=
  (∀ a x, ((![v803] : Fin 1 → IVec S16 32) a x).toNat < S32768.size a)
theorem k2_idx52_inb : ∀ (v803 : IVec S16 32) (k2_hw52 : k2_chk52 v803), ∀ a x, ((![v803] : Fin 1 → IVec S16 32) a x).toNat < S32768.size a := fun v803 k2_hw52 => k2_hw52

def k2_chk53 (v812 : IVec S16 32) : Prop :=
  (∀ a x, ((![v812] : Fin 1 → IVec S16 32) a x).toNat < S32768.size a)
theorem k2_idx53_inb : ∀ (v812 : IVec S16 32) (k2_hw53 : k2_chk53 v812), ∀ a x, ((![v812] : Fin 1 → IVec S16 32) a x).toNat < S32768.size a := fun v812 k2_hw53 => k2_hw53

def k2_chk54 (v821 : IVec S16 32) : Prop :=
  (∀ a x, ((![v821] : Fin 1 → IVec S16 32) a x).toNat < S32768.size a)
theorem k2_idx54_inb : ∀ (v821 : IVec S16 32) (k2_hw54 : k2_chk54 v821), ∀ a x, ((![v821] : Fin 1 → IVec S16 32) a x).toNat < S32768.size a := fun v821 k2_hw54 => k2_hw54

def k2_chk55 (v830 : IVec S16 32) : Prop :=
  (∀ a x, ((![v830] : Fin 1 → IVec S16 32) a x).toNat < S32768.size a)
theorem k2_idx55_inb : ∀ (v830 : IVec S16 32) (k2_hw55 : k2_chk55 v830), ∀ a x, ((![v830] : Fin 1 → IVec S16 32) a x).toNat < S32768.size a := fun v830 k2_hw55 => k2_hw55

def k2_chk56 (v839 : IVec S16 32) : Prop :=
  (∀ a x, ((![v839] : Fin 1 → IVec S16 32) a x).toNat < S32768.size a)
theorem k2_idx56_inb : ∀ (v839 : IVec S16 32) (k2_hw56 : k2_chk56 v839), ∀ a x, ((![v839] : Fin 1 → IVec S16 32) a x).toNat < S32768.size a := fun v839 k2_hw56 => k2_hw56

def k2_chk57 (v848 : IVec S16 32) : Prop :=
  (∀ a x, ((![v848] : Fin 1 → IVec S16 32) a x).toNat < S32768.size a)
theorem k2_idx57_inb : ∀ (v848 : IVec S16 32) (k2_hw57 : k2_chk57 v848), ∀ a x, ((![v848] : Fin 1 → IVec S16 32) a x).toNat < S32768.size a := fun v848 k2_hw57 => k2_hw57

def k2_chk58 (v857 : IVec S16 32) : Prop :=
  (∀ a x, ((![v857] : Fin 1 → IVec S16 32) a x).toNat < S32768.size a)
theorem k2_idx58_inb : ∀ (v857 : IVec S16 32) (k2_hw58 : k2_chk58 v857), ∀ a x, ((![v857] : Fin 1 → IVec S16 32) a x).toNat < S32768.size a := fun v857 k2_hw58 => k2_hw58

def k2_chk59 (v866 : IVec S16 32) : Prop :=
  (∀ a x, ((![v866] : Fin 1 → IVec S16 32) a x).toNat < S32768.size a)
theorem k2_idx59_inb : ∀ (v866 : IVec S16 32) (k2_hw59 : k2_chk59 v866), ∀ a x, ((![v866] : Fin 1 → IVec S16 32) a x).toNat < S32768.size a := fun v866 k2_hw59 => k2_hw59

def k2_chk60 (v875 : IVec S16 32) : Prop :=
  (∀ a x, ((![v875] : Fin 1 → IVec S16 32) a x).toNat < S32768.size a)
theorem k2_idx60_inb : ∀ (v875 : IVec S16 32) (k2_hw60 : k2_chk60 v875), ∀ a x, ((![v875] : Fin 1 → IVec S16 32) a x).toNat < S32768.size a := fun v875 k2_hw60 => k2_hw60

def k2_chk61 (v884 : IVec S16 32) : Prop :=
  (∀ a x, ((![v884] : Fin 1 → IVec S16 32) a x).toNat < S32768.size a)
theorem k2_idx61_inb : ∀ (v884 : IVec S16 32) (k2_hw61 : k2_chk61 v884), ∀ a x, ((![v884] : Fin 1 → IVec S16 32) a x).toNat < S32768.size a := fun v884 k2_hw61 => k2_hw61

def k2_chk62 (v893 : IVec S16 32) : Prop :=
  (∀ a x, ((![v893] : Fin 1 → IVec S16 32) a x).toNat < S32768.size a)
theorem k2_idx62_inb : ∀ (v893 : IVec S16 32) (k2_hw62 : k2_chk62 v893), ∀ a x, ((![v893] : Fin 1 → IVec S16 32) a x).toNat < S32768.size a := fun v893 k2_hw62 => k2_hw62

def k2_chk63 (v902 : IVec S16 32) : Prop :=
  (∀ a x, ((![v902] : Fin 1 → IVec S16 32) a x).toNat < S32768.size a)
theorem k2_idx63_inb : ∀ (v902 : IVec S16 32) (k2_hw63 : k2_chk63 v902), ∀ a x, ((![v902] : Fin 1 → IVec S16 32) a x).toNat < S32768.size a := fun v902 k2_hw63 => k2_hw63

def k2_chk64 (v911 : IVec S16 32) : Prop :=
  (∀ a x, ((![v911] : Fin 1 → IVec S16 32) a x).toNat < S32768.size a)
theorem k2_idx64_inb : ∀ (v911 : IVec S16 32) (k2_hw64 : k2_chk64 v911), ∀ a x, ((![v911] : Fin 1 → IVec S16 32) a x).toNat < S32768.size a := fun v911 k2_hw64 => k2_hw64

def k2_chk65 (v948 : IVec S16 32) : Prop :=
  (∀ a x, ((![v948] : Fin 1 → IVec S16 32) a x).toNat < S32768.size a)
theorem k2_idx65_inb : ∀ (v948 : IVec S16 32) (k2_hw65 : k2_chk65 v948), ∀ a x, ((![v948] : Fin 1 → IVec S16 32) a x).toNat < S32768.size a := fun v948 k2_hw65 => k2_hw65

def k2_chk66 (v951 : IVec S16 32) : Prop :=
  (∀ a x, ((![v951] : Fin 1 → IVec S16 32) a x).toNat < S1024.size a)
theorem k2_idx66_inb : ∀ (v951 : IVec S16 32) (k2_hw66 : k2_chk66 v951), ∀ a x, ((![v951] : Fin 1 → IVec S16 32) a x).toNat < S1024.size a := fun v951 k2_hw66 => k2_hw66

def k2_chk67 (v956 : IVec S16 32) : Prop :=
  (∀ a x, ((![v956] : Fin 1 → IVec S16 32) a x).toNat < S512.size a)
theorem k2_idx67_inb : ∀ (v956 : IVec S16 32) (k2_hw67 : k2_chk67 v956), ∀ a x, ((![v956] : Fin 1 → IVec S16 32) a x).toNat < S512.size a := fun v956 k2_hw67 => k2_hw67

def k2_chk68 (v959 : IVec S16 32) : Prop :=
  (∀ a x, ((![v959] : Fin 1 → IVec S16 32) a x).toNat < S512.size a)
theorem k2_idx68_inb : ∀ (v959 : IVec S16 32) (k2_hw68 : k2_chk68 v959), ∀ a x, ((![v959] : Fin 1 → IVec S16 32) a x).toNat < S512.size a := fun v959 k2_hw68 => k2_hw68
def k2_off3 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k2_t1
  let c16_i32 : BitVec 32 := 16#32
  let v9 : BitVec 32 := Scalar.muli arg10 c16_i32
  let v10 : BitVec 32 := Scalar.addi v2 v9
  let c32_i32_162 : BitVec 32 := 32#32
  let v221 : BitVec 32 := Scalar.muli v10 c32_i32_162
  ![v221.toNat]
abbrev grid3 : Pipeline.Grid := ⟨2, ![1, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x32 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x2048x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x256x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 1 → Memref sig .tc .vmem S512x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1024x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S512x512 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S1x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S512x512 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x512 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 2 → Memref sig .tc .vmem S1x256x512 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]

abbrev grid4 : Pipeline.Grid := ⟨2, ![2, 16], ![false, false]⟩

@[reducible] def k4_t1_loop : Scf.Loop 32 :=
  let c0_i32_1 : BitVec 32 := 0#32
  let c4_i32 : BitVec 32 := 4#32
  let v8 : BitVec 32 := Scalar.addi c0_i32_1 c4_i32
  let c1_i32 : BitVec 32 := 1#32
  ⟨c0_i32_1, v8, c1_i32⟩
def k4_off1 (i : grid4.Coords) (k4_t1 : Fin k4_t1_loop.trips) (c0_i32_3 : BitVec 32) : Fin 3 → Nat :=
  let c1_i32_4 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k4_t1
  let c16_i32 : BitVec 32 := 16#32
  let v9 : BitVec 32 := Scalar.muli arg10 c16_i32
  let v10 : BitVec 32 := Scalar.addi v2 v9
  let v11 : BitVec 32 := Scalar.addi v10 c0_i32_3
  let c0_i32_6 : BitVec 32 := 0#32
  ![1, v11.toNat, 0]
@[reducible] def k4_t2_loop : Scf.Loop 32 :=
  let c0_i32_154 : BitVec 32 := 0#32
  let c64_i32_155 : BitVec 32 := 64#32
  let v219 : BitVec 32 := Scalar.addi c0_i32_154 c64_i32_155
  let c1_i32_156 : BitVec 32 := 1#32
  ⟨c0_i32_154, v219, c1_i32_156⟩

def k4_chk1 (v227 : IVec S16 32) : Prop :=
  (∀ a x, ((![v227] : Fin 1 → IVec S16 32) a x).toNat < S32768.size a)
theorem k4_idx1_inb : ∀ (v227 : IVec S16 32) (k4_hw1 : k4_chk1 v227), ∀ a x, ((![v227] : Fin 1 → IVec S16 32) a x).toNat < S32768.size a := fun v227 k4_hw1 => k4_hw1

def k4_chk2 (v231 : IVec S16 32) : Prop :=
  (∀ a x, ((![v231] : Fin 1 → IVec S16 32) a x).toNat < S32768.size a)
theorem k4_idx2_inb : ∀ (v231 : IVec S16 32) (k4_hw2 : k4_chk2 v231), ∀ a x, ((![v231] : Fin 1 → IVec S16 32) a x).toNat < S32768.size a := fun v231 k4_hw2 => k4_hw2

def k4_chk3 (v235 : IVec S16 32) : Prop :=
  (∀ a x, ((![v235] : Fin 1 → IVec S16 32) a x).toNat < S32768.size a)
theorem k4_idx3_inb : ∀ (v235 : IVec S16 32) (k4_hw3 : k4_chk3 v235), ∀ a x, ((![v235] : Fin 1 → IVec S16 32) a x).toNat < S32768.size a := fun v235 k4_hw3 => k4_hw3

def k4_chk4 (v239 : IVec S16 32) : Prop :=
  (∀ a x, ((![v239] : Fin 1 → IVec S16 32) a x).toNat < S32768.size a)
theorem k4_idx4_inb : ∀ (v239 : IVec S16 32) (k4_hw4 : k4_chk4 v239), ∀ a x, ((![v239] : Fin 1 → IVec S16 32) a x).toNat < S32768.size a := fun v239 k4_hw4 => k4_hw4

def k4_chk5 (v243 : IVec S16 32) : Prop :=
  (∀ a x, ((![v243] : Fin 1 → IVec S16 32) a x).toNat < S32768.size a)
theorem k4_idx5_inb : ∀ (v243 : IVec S16 32) (k4_hw5 : k4_chk5 v243), ∀ a x, ((![v243] : Fin 1 → IVec S16 32) a x).toNat < S32768.size a := fun v243 k4_hw5 => k4_hw5

def k4_chk6 (v247 : IVec S16 32) : Prop :=
  (∀ a x, ((![v247] : Fin 1 → IVec S16 32) a x).toNat < S32768.size a)
theorem k4_idx6_inb : ∀ (v247 : IVec S16 32) (k4_hw6 : k4_chk6 v247), ∀ a x, ((![v247] : Fin 1 → IVec S16 32) a x).toNat < S32768.size a := fun v247 k4_hw6 => k4_hw6

def k4_chk7 (v251 : IVec S16 32) : Prop :=
  (∀ a x, ((![v251] : Fin 1 → IVec S16 32) a x).toNat < S32768.size a)
theorem k4_idx7_inb : ∀ (v251 : IVec S16 32) (k4_hw7 : k4_chk7 v251), ∀ a x, ((![v251] : Fin 1 → IVec S16 32) a x).toNat < S32768.size a := fun v251 k4_hw7 => k4_hw7

def k4_chk8 (v255 : IVec S16 32) : Prop :=
  (∀ a x, ((![v255] : Fin 1 → IVec S16 32) a x).toNat < S32768.size a)
theorem k4_idx8_inb : ∀ (v255 : IVec S16 32) (k4_hw8 : k4_chk8 v255), ∀ a x, ((![v255] : Fin 1 → IVec S16 32) a x).toNat < S32768.size a := fun v255 k4_hw8 => k4_hw8

def k4_chk9 (v259 : IVec S16 32) : Prop :=
  (∀ a x, ((![v259] : Fin 1 → IVec S16 32) a x).toNat < S32768.size a)
theorem k4_idx9_inb : ∀ (v259 : IVec S16 32) (k4_hw9 : k4_chk9 v259), ∀ a x, ((![v259] : Fin 1 → IVec S16 32) a x).toNat < S32768.size a := fun v259 k4_hw9 => k4_hw9

def k4_chk10 (v263 : IVec S16 32) : Prop :=
  (∀ a x, ((![v263] : Fin 1 → IVec S16 32) a x).toNat < S32768.size a)
theorem k4_idx10_inb : ∀ (v263 : IVec S16 32) (k4_hw10 : k4_chk10 v263), ∀ a x, ((![v263] : Fin 1 → IVec S16 32) a x).toNat < S32768.size a := fun v263 k4_hw10 => k4_hw10

def k4_chk11 (v267 : IVec S16 32) : Prop :=
  (∀ a x, ((![v267] : Fin 1 → IVec S16 32) a x).toNat < S32768.size a)
theorem k4_idx11_inb : ∀ (v267 : IVec S16 32) (k4_hw11 : k4_chk11 v267), ∀ a x, ((![v267] : Fin 1 → IVec S16 32) a x).toNat < S32768.size a := fun v267 k4_hw11 => k4_hw11

def k4_chk12 (v271 : IVec S16 32) : Prop :=
  (∀ a x, ((![v271] : Fin 1 → IVec S16 32) a x).toNat < S32768.size a)
theorem k4_idx12_inb : ∀ (v271 : IVec S16 32) (k4_hw12 : k4_chk12 v271), ∀ a x, ((![v271] : Fin 1 → IVec S16 32) a x).toNat < S32768.size a := fun v271 k4_hw12 => k4_hw12

def k4_chk13 (v275 : IVec S16 32) : Prop :=
  (∀ a x, ((![v275] : Fin 1 → IVec S16 32) a x).toNat < S32768.size a)
theorem k4_idx13_inb : ∀ (v275 : IVec S16 32) (k4_hw13 : k4_chk13 v275), ∀ a x, ((![v275] : Fin 1 → IVec S16 32) a x).toNat < S32768.size a := fun v275 k4_hw13 => k4_hw13

def k4_chk14 (v279 : IVec S16 32) : Prop :=
  (∀ a x, ((![v279] : Fin 1 → IVec S16 32) a x).toNat < S32768.size a)
theorem k4_idx14_inb : ∀ (v279 : IVec S16 32) (k4_hw14 : k4_chk14 v279), ∀ a x, ((![v279] : Fin 1 → IVec S16 32) a x).toNat < S32768.size a := fun v279 k4_hw14 => k4_hw14

def k4_chk15 (v283 : IVec S16 32) : Prop :=
  (∀ a x, ((![v283] : Fin 1 → IVec S16 32) a x).toNat < S32768.size a)
theorem k4_idx15_inb : ∀ (v283 : IVec S16 32) (k4_hw15 : k4_chk15 v283), ∀ a x, ((![v283] : Fin 1 → IVec S16 32) a x).toNat < S32768.size a := fun v283 k4_hw15 => k4_hw15

def k4_chk16 (v287 : IVec S16 32) : Prop :=
  (∀ a x, ((![v287] : Fin 1 → IVec S16 32) a x).toNat < S32768.size a)
theorem k4_idx16_inb : ∀ (v287 : IVec S16 32) (k4_hw16 : k4_chk16 v287), ∀ a x, ((![v287] : Fin 1 → IVec S16 32) a x).toNat < S32768.size a := fun v287 k4_hw16 => k4_hw16

def k4_chk17 (v291 : IVec S16 32) : Prop :=
  (∀ a x, ((![v291] : Fin 1 → IVec S16 32) a x).toNat < S32768.size a)
theorem k4_idx17_inb : ∀ (v291 : IVec S16 32) (k4_hw17 : k4_chk17 v291), ∀ a x, ((![v291] : Fin 1 → IVec S16 32) a x).toNat < S32768.size a := fun v291 k4_hw17 => k4_hw17

def k4_chk18 (v295 : IVec S16 32) : Prop :=
  (∀ a x, ((![v295] : Fin 1 → IVec S16 32) a x).toNat < S32768.size a)
theorem k4_idx18_inb : ∀ (v295 : IVec S16 32) (k4_hw18 : k4_chk18 v295), ∀ a x, ((![v295] : Fin 1 → IVec S16 32) a x).toNat < S32768.size a := fun v295 k4_hw18 => k4_hw18

def k4_chk19 (v299 : IVec S16 32) : Prop :=
  (∀ a x, ((![v299] : Fin 1 → IVec S16 32) a x).toNat < S32768.size a)
theorem k4_idx19_inb : ∀ (v299 : IVec S16 32) (k4_hw19 : k4_chk19 v299), ∀ a x, ((![v299] : Fin 1 → IVec S16 32) a x).toNat < S32768.size a := fun v299 k4_hw19 => k4_hw19

def k4_chk20 (v303 : IVec S16 32) : Prop :=
  (∀ a x, ((![v303] : Fin 1 → IVec S16 32) a x).toNat < S32768.size a)
theorem k4_idx20_inb : ∀ (v303 : IVec S16 32) (k4_hw20 : k4_chk20 v303), ∀ a x, ((![v303] : Fin 1 → IVec S16 32) a x).toNat < S32768.size a := fun v303 k4_hw20 => k4_hw20

def k4_chk21 (v307 : IVec S16 32) : Prop :=
  (∀ a x, ((![v307] : Fin 1 → IVec S16 32) a x).toNat < S32768.size a)
theorem k4_idx21_inb : ∀ (v307 : IVec S16 32) (k4_hw21 : k4_chk21 v307), ∀ a x, ((![v307] : Fin 1 → IVec S16 32) a x).toNat < S32768.size a := fun v307 k4_hw21 => k4_hw21

def k4_chk22 (v311 : IVec S16 32) : Prop :=
  (∀ a x, ((![v311] : Fin 1 → IVec S16 32) a x).toNat < S32768.size a)
theorem k4_idx22_inb : ∀ (v311 : IVec S16 32) (k4_hw22 : k4_chk22 v311), ∀ a x, ((![v311] : Fin 1 → IVec S16 32) a x).toNat < S32768.size a := fun v311 k4_hw22 => k4_hw22

def k4_chk23 (v315 : IVec S16 32) : Prop :=
  (∀ a x, ((![v315] : Fin 1 → IVec S16 32) a x).toNat < S32768.size a)
theorem k4_idx23_inb : ∀ (v315 : IVec S16 32) (k4_hw23 : k4_chk23 v315), ∀ a x, ((![v315] : Fin 1 → IVec S16 32) a x).toNat < S32768.size a := fun v315 k4_hw23 => k4_hw23

def k4_chk24 (v319 : IVec S16 32) : Prop :=
  (∀ a x, ((![v319] : Fin 1 → IVec S16 32) a x).toNat < S32768.size a)
theorem k4_idx24_inb : ∀ (v319 : IVec S16 32) (k4_hw24 : k4_chk24 v319), ∀ a x, ((![v319] : Fin 1 → IVec S16 32) a x).toNat < S32768.size a := fun v319 k4_hw24 => k4_hw24

def k4_chk25 (v323 : IVec S16 32) : Prop :=
  (∀ a x, ((![v323] : Fin 1 → IVec S16 32) a x).toNat < S32768.size a)
theorem k4_idx25_inb : ∀ (v323 : IVec S16 32) (k4_hw25 : k4_chk25 v323), ∀ a x, ((![v323] : Fin 1 → IVec S16 32) a x).toNat < S32768.size a := fun v323 k4_hw25 => k4_hw25

def k4_chk26 (v327 : IVec S16 32) : Prop :=
  (∀ a x, ((![v327] : Fin 1 → IVec S16 32) a x).toNat < S32768.size a)
theorem k4_idx26_inb : ∀ (v327 : IVec S16 32) (k4_hw26 : k4_chk26 v327), ∀ a x, ((![v327] : Fin 1 → IVec S16 32) a x).toNat < S32768.size a := fun v327 k4_hw26 => k4_hw26

def k4_chk27 (v331 : IVec S16 32) : Prop :=
  (∀ a x, ((![v331] : Fin 1 → IVec S16 32) a x).toNat < S32768.size a)
theorem k4_idx27_inb : ∀ (v331 : IVec S16 32) (k4_hw27 : k4_chk27 v331), ∀ a x, ((![v331] : Fin 1 → IVec S16 32) a x).toNat < S32768.size a := fun v331 k4_hw27 => k4_hw27

def k4_chk28 (v335 : IVec S16 32) : Prop :=
  (∀ a x, ((![v335] : Fin 1 → IVec S16 32) a x).toNat < S32768.size a)
theorem k4_idx28_inb : ∀ (v335 : IVec S16 32) (k4_hw28 : k4_chk28 v335), ∀ a x, ((![v335] : Fin 1 → IVec S16 32) a x).toNat < S32768.size a := fun v335 k4_hw28 => k4_hw28

def k4_chk29 (v339 : IVec S16 32) : Prop :=
  (∀ a x, ((![v339] : Fin 1 → IVec S16 32) a x).toNat < S32768.size a)
theorem k4_idx29_inb : ∀ (v339 : IVec S16 32) (k4_hw29 : k4_chk29 v339), ∀ a x, ((![v339] : Fin 1 → IVec S16 32) a x).toNat < S32768.size a := fun v339 k4_hw29 => k4_hw29

def k4_chk30 (v343 : IVec S16 32) : Prop :=
  (∀ a x, ((![v343] : Fin 1 → IVec S16 32) a x).toNat < S32768.size a)
theorem k4_idx30_inb : ∀ (v343 : IVec S16 32) (k4_hw30 : k4_chk30 v343), ∀ a x, ((![v343] : Fin 1 → IVec S16 32) a x).toNat < S32768.size a := fun v343 k4_hw30 => k4_hw30

def k4_chk31 (v347 : IVec S16 32) : Prop :=
  (∀ a x, ((![v347] : Fin 1 → IVec S16 32) a x).toNat < S32768.size a)
theorem k4_idx31_inb : ∀ (v347 : IVec S16 32) (k4_hw31 : k4_chk31 v347), ∀ a x, ((![v347] : Fin 1 → IVec S16 32) a x).toNat < S32768.size a := fun v347 k4_hw31 => k4_hw31

def k4_chk32 (v351 : IVec S16 32) : Prop :=
  (∀ a x, ((![v351] : Fin 1 → IVec S16 32) a x).toNat < S32768.size a)
theorem k4_idx32_inb : ∀ (v351 : IVec S16 32) (k4_hw32 : k4_chk32 v351), ∀ a x, ((![v351] : Fin 1 → IVec S16 32) a x).toNat < S32768.size a := fun v351 k4_hw32 => k4_hw32
def k4_off2 (k4_t2 : Fin k4_t2_loop.trips) : Fin 1 → Nat :=
  let c0_i32_154 : BitVec 32 := 0#32
  let c1_i32_156 : BitVec 32 := 1#32
  let arg11 : BitVec 32 := Scf.iv c0_i32_154 c1_i32_156 k4_t2
  let c16_i32_182 : BitVec 32 := 16#32
  let v357 : BitVec 32 := Scalar.muli arg11 c16_i32_182
  let v358 : Index := Scalar.indexCast v357
  ![v358.toNat]
@[reducible] def k4_t3_loop : Scf.Loop 32 :=
  let c0_i32_159 : BitVec 32 := 0#32
  let c32_i32 : BitVec 32 := 32#32
  let v220 : BitVec 32 := Scalar.addi c0_i32_159 c32_i32
  let c1_i32_160 : BitVec 32 := 1#32
  ⟨c0_i32_159, v220, c1_i32_160⟩

def k4_chk33 (v632 : IVec S16 32) : Prop :=
  (∀ a x, ((![v632] : Fin 1 → IVec S16 32) a x).toNat < S32768.size a)
theorem k4_idx33_inb : ∀ (v632 : IVec S16 32) (k4_hw33 : k4_chk33 v632), ∀ a x, ((![v632] : Fin 1 → IVec S16 32) a x).toNat < S32768.size a := fun v632 k4_hw33 => k4_hw33

def k4_chk34 (v641 : IVec S16 32) : Prop :=
  (∀ a x, ((![v641] : Fin 1 → IVec S16 32) a x).toNat < S32768.size a)
theorem k4_idx34_inb : ∀ (v641 : IVec S16 32) (k4_hw34 : k4_chk34 v641), ∀ a x, ((![v641] : Fin 1 → IVec S16 32) a x).toNat < S32768.size a := fun v641 k4_hw34 => k4_hw34

def k4_chk35 (v650 : IVec S16 32) : Prop :=
  (∀ a x, ((![v650] : Fin 1 → IVec S16 32) a x).toNat < S32768.size a)
theorem k4_idx35_inb : ∀ (v650 : IVec S16 32) (k4_hw35 : k4_chk35 v650), ∀ a x, ((![v650] : Fin 1 → IVec S16 32) a x).toNat < S32768.size a := fun v650 k4_hw35 => k4_hw35

def k4_chk36 (v659 : IVec S16 32) : Prop :=
  (∀ a x, ((![v659] : Fin 1 → IVec S16 32) a x).toNat < S32768.size a)
theorem k4_idx36_inb : ∀ (v659 : IVec S16 32) (k4_hw36 : k4_chk36 v659), ∀ a x, ((![v659] : Fin 1 → IVec S16 32) a x).toNat < S32768.size a := fun v659 k4_hw36 => k4_hw36

def k4_chk37 (v668 : IVec S16 32) : Prop :=
  (∀ a x, ((![v668] : Fin 1 → IVec S16 32) a x).toNat < S32768.size a)
theorem k4_idx37_inb : ∀ (v668 : IVec S16 32) (k4_hw37 : k4_chk37 v668), ∀ a x, ((![v668] : Fin 1 → IVec S16 32) a x).toNat < S32768.size a := fun v668 k4_hw37 => k4_hw37

def k4_chk38 (v677 : IVec S16 32) : Prop :=
  (∀ a x, ((![v677] : Fin 1 → IVec S16 32) a x).toNat < S32768.size a)
theorem k4_idx38_inb : ∀ (v677 : IVec S16 32) (k4_hw38 : k4_chk38 v677), ∀ a x, ((![v677] : Fin 1 → IVec S16 32) a x).toNat < S32768.size a := fun v677 k4_hw38 => k4_hw38

def k4_chk39 (v686 : IVec S16 32) : Prop :=
  (∀ a x, ((![v686] : Fin 1 → IVec S16 32) a x).toNat < S32768.size a)
theorem k4_idx39_inb : ∀ (v686 : IVec S16 32) (k4_hw39 : k4_chk39 v686), ∀ a x, ((![v686] : Fin 1 → IVec S16 32) a x).toNat < S32768.size a := fun v686 k4_hw39 => k4_hw39

def k4_chk40 (v695 : IVec S16 32) : Prop :=
  (∀ a x, ((![v695] : Fin 1 → IVec S16 32) a x).toNat < S32768.size a)
theorem k4_idx40_inb : ∀ (v695 : IVec S16 32) (k4_hw40 : k4_chk40 v695), ∀ a x, ((![v695] : Fin 1 → IVec S16 32) a x).toNat < S32768.size a := fun v695 k4_hw40 => k4_hw40

def k4_chk41 (v704 : IVec S16 32) : Prop :=
  (∀ a x, ((![v704] : Fin 1 → IVec S16 32) a x).toNat < S32768.size a)
theorem k4_idx41_inb : ∀ (v704 : IVec S16 32) (k4_hw41 : k4_chk41 v704), ∀ a x, ((![v704] : Fin 1 → IVec S16 32) a x).toNat < S32768.size a := fun v704 k4_hw41 => k4_hw41

def k4_chk42 (v713 : IVec S16 32) : Prop :=
  (∀ a x, ((![v713] : Fin 1 → IVec S16 32) a x).toNat < S32768.size a)
theorem k4_idx42_inb : ∀ (v713 : IVec S16 32) (k4_hw42 : k4_chk42 v713), ∀ a x, ((![v713] : Fin 1 → IVec S16 32) a x).toNat < S32768.size a := fun v713 k4_hw42 => k4_hw42

def k4_chk43 (v722 : IVec S16 32) : Prop :=
  (∀ a x, ((![v722] : Fin 1 → IVec S16 32) a x).toNat < S32768.size a)
theorem k4_idx43_inb : ∀ (v722 : IVec S16 32) (k4_hw43 : k4_chk43 v722), ∀ a x, ((![v722] : Fin 1 → IVec S16 32) a x).toNat < S32768.size a := fun v722 k4_hw43 => k4_hw43

def k4_chk44 (v731 : IVec S16 32) : Prop :=
  (∀ a x, ((![v731] : Fin 1 → IVec S16 32) a x).toNat < S32768.size a)
theorem k4_idx44_inb : ∀ (v731 : IVec S16 32) (k4_hw44 : k4_chk44 v731), ∀ a x, ((![v731] : Fin 1 → IVec S16 32) a x).toNat < S32768.size a := fun v731 k4_hw44 => k4_hw44

def k4_chk45 (v740 : IVec S16 32) : Prop :=
  (∀ a x, ((![v740] : Fin 1 → IVec S16 32) a x).toNat < S32768.size a)
theorem k4_idx45_inb : ∀ (v740 : IVec S16 32) (k4_hw45 : k4_chk45 v740), ∀ a x, ((![v740] : Fin 1 → IVec S16 32) a x).toNat < S32768.size a := fun v740 k4_hw45 => k4_hw45

def k4_chk46 (v749 : IVec S16 32) : Prop :=
  (∀ a x, ((![v749] : Fin 1 → IVec S16 32) a x).toNat < S32768.size a)
theorem k4_idx46_inb : ∀ (v749 : IVec S16 32) (k4_hw46 : k4_chk46 v749), ∀ a x, ((![v749] : Fin 1 → IVec S16 32) a x).toNat < S32768.size a := fun v749 k4_hw46 => k4_hw46

def k4_chk47 (v758 : IVec S16 32) : Prop :=
  (∀ a x, ((![v758] : Fin 1 → IVec S16 32) a x).toNat < S32768.size a)
theorem k4_idx47_inb : ∀ (v758 : IVec S16 32) (k4_hw47 : k4_chk47 v758), ∀ a x, ((![v758] : Fin 1 → IVec S16 32) a x).toNat < S32768.size a := fun v758 k4_hw47 => k4_hw47

def k4_chk48 (v767 : IVec S16 32) : Prop :=
  (∀ a x, ((![v767] : Fin 1 → IVec S16 32) a x).toNat < S32768.size a)
theorem k4_idx48_inb : ∀ (v767 : IVec S16 32) (k4_hw48 : k4_chk48 v767), ∀ a x, ((![v767] : Fin 1 → IVec S16 32) a x).toNat < S32768.size a := fun v767 k4_hw48 => k4_hw48

def k4_chk49 (v776 : IVec S16 32) : Prop :=
  (∀ a x, ((![v776] : Fin 1 → IVec S16 32) a x).toNat < S32768.size a)
theorem k4_idx49_inb : ∀ (v776 : IVec S16 32) (k4_hw49 : k4_chk49 v776), ∀ a x, ((![v776] : Fin 1 → IVec S16 32) a x).toNat < S32768.size a := fun v776 k4_hw49 => k4_hw49

def k4_chk50 (v785 : IVec S16 32) : Prop :=
  (∀ a x, ((![v785] : Fin 1 → IVec S16 32) a x).toNat < S32768.size a)
theorem k4_idx50_inb : ∀ (v785 : IVec S16 32) (k4_hw50 : k4_chk50 v785), ∀ a x, ((![v785] : Fin 1 → IVec S16 32) a x).toNat < S32768.size a := fun v785 k4_hw50 => k4_hw50

def k4_chk51 (v794 : IVec S16 32) : Prop :=
  (∀ a x, ((![v794] : Fin 1 → IVec S16 32) a x).toNat < S32768.size a)
theorem k4_idx51_inb : ∀ (v794 : IVec S16 32) (k4_hw51 : k4_chk51 v794), ∀ a x, ((![v794] : Fin 1 → IVec S16 32) a x).toNat < S32768.size a := fun v794 k4_hw51 => k4_hw51

def k4_chk52 (v803 : IVec S16 32) : Prop :=
  (∀ a x, ((![v803] : Fin 1 → IVec S16 32) a x).toNat < S32768.size a)
theorem k4_idx52_inb : ∀ (v803 : IVec S16 32) (k4_hw52 : k4_chk52 v803), ∀ a x, ((![v803] : Fin 1 → IVec S16 32) a x).toNat < S32768.size a := fun v803 k4_hw52 => k4_hw52

def k4_chk53 (v812 : IVec S16 32) : Prop :=
  (∀ a x, ((![v812] : Fin 1 → IVec S16 32) a x).toNat < S32768.size a)
theorem k4_idx53_inb : ∀ (v812 : IVec S16 32) (k4_hw53 : k4_chk53 v812), ∀ a x, ((![v812] : Fin 1 → IVec S16 32) a x).toNat < S32768.size a := fun v812 k4_hw53 => k4_hw53

def k4_chk54 (v821 : IVec S16 32) : Prop :=
  (∀ a x, ((![v821] : Fin 1 → IVec S16 32) a x).toNat < S32768.size a)
theorem k4_idx54_inb : ∀ (v821 : IVec S16 32) (k4_hw54 : k4_chk54 v821), ∀ a x, ((![v821] : Fin 1 → IVec S16 32) a x).toNat < S32768.size a := fun v821 k4_hw54 => k4_hw54

def k4_chk55 (v830 : IVec S16 32) : Prop :=
  (∀ a x, ((![v830] : Fin 1 → IVec S16 32) a x).toNat < S32768.size a)
theorem k4_idx55_inb : ∀ (v830 : IVec S16 32) (k4_hw55 : k4_chk55 v830), ∀ a x, ((![v830] : Fin 1 → IVec S16 32) a x).toNat < S32768.size a := fun v830 k4_hw55 => k4_hw55

def k4_chk56 (v839 : IVec S16 32) : Prop :=
  (∀ a x, ((![v839] : Fin 1 → IVec S16 32) a x).toNat < S32768.size a)
theorem k4_idx56_inb : ∀ (v839 : IVec S16 32) (k4_hw56 : k4_chk56 v839), ∀ a x, ((![v839] : Fin 1 → IVec S16 32) a x).toNat < S32768.size a := fun v839 k4_hw56 => k4_hw56

def k4_chk57 (v848 : IVec S16 32) : Prop :=
  (∀ a x, ((![v848] : Fin 1 → IVec S16 32) a x).toNat < S32768.size a)
theorem k4_idx57_inb : ∀ (v848 : IVec S16 32) (k4_hw57 : k4_chk57 v848), ∀ a x, ((![v848] : Fin 1 → IVec S16 32) a x).toNat < S32768.size a := fun v848 k4_hw57 => k4_hw57

def k4_chk58 (v857 : IVec S16 32) : Prop :=
  (∀ a x, ((![v857] : Fin 1 → IVec S16 32) a x).toNat < S32768.size a)
theorem k4_idx58_inb : ∀ (v857 : IVec S16 32) (k4_hw58 : k4_chk58 v857), ∀ a x, ((![v857] : Fin 1 → IVec S16 32) a x).toNat < S32768.size a := fun v857 k4_hw58 => k4_hw58

def k4_chk59 (v866 : IVec S16 32) : Prop :=
  (∀ a x, ((![v866] : Fin 1 → IVec S16 32) a x).toNat < S32768.size a)
theorem k4_idx59_inb : ∀ (v866 : IVec S16 32) (k4_hw59 : k4_chk59 v866), ∀ a x, ((![v866] : Fin 1 → IVec S16 32) a x).toNat < S32768.size a := fun v866 k4_hw59 => k4_hw59

def k4_chk60 (v875 : IVec S16 32) : Prop :=
  (∀ a x, ((![v875] : Fin 1 → IVec S16 32) a x).toNat < S32768.size a)
theorem k4_idx60_inb : ∀ (v875 : IVec S16 32) (k4_hw60 : k4_chk60 v875), ∀ a x, ((![v875] : Fin 1 → IVec S16 32) a x).toNat < S32768.size a := fun v875 k4_hw60 => k4_hw60

def k4_chk61 (v884 : IVec S16 32) : Prop :=
  (∀ a x, ((![v884] : Fin 1 → IVec S16 32) a x).toNat < S32768.size a)
theorem k4_idx61_inb : ∀ (v884 : IVec S16 32) (k4_hw61 : k4_chk61 v884), ∀ a x, ((![v884] : Fin 1 → IVec S16 32) a x).toNat < S32768.size a := fun v884 k4_hw61 => k4_hw61

def k4_chk62 (v893 : IVec S16 32) : Prop :=
  (∀ a x, ((![v893] : Fin 1 → IVec S16 32) a x).toNat < S32768.size a)
theorem k4_idx62_inb : ∀ (v893 : IVec S16 32) (k4_hw62 : k4_chk62 v893), ∀ a x, ((![v893] : Fin 1 → IVec S16 32) a x).toNat < S32768.size a := fun v893 k4_hw62 => k4_hw62

def k4_chk63 (v902 : IVec S16 32) : Prop :=
  (∀ a x, ((![v902] : Fin 1 → IVec S16 32) a x).toNat < S32768.size a)
theorem k4_idx63_inb : ∀ (v902 : IVec S16 32) (k4_hw63 : k4_chk63 v902), ∀ a x, ((![v902] : Fin 1 → IVec S16 32) a x).toNat < S32768.size a := fun v902 k4_hw63 => k4_hw63

def k4_chk64 (v911 : IVec S16 32) : Prop :=
  (∀ a x, ((![v911] : Fin 1 → IVec S16 32) a x).toNat < S32768.size a)
theorem k4_idx64_inb : ∀ (v911 : IVec S16 32) (k4_hw64 : k4_chk64 v911), ∀ a x, ((![v911] : Fin 1 → IVec S16 32) a x).toNat < S32768.size a := fun v911 k4_hw64 => k4_hw64

def k4_chk65 (v948 : IVec S16 32) : Prop :=
  (∀ a x, ((![v948] : Fin 1 → IVec S16 32) a x).toNat < S32768.size a)
theorem k4_idx65_inb : ∀ (v948 : IVec S16 32) (k4_hw65 : k4_chk65 v948), ∀ a x, ((![v948] : Fin 1 → IVec S16 32) a x).toNat < S32768.size a := fun v948 k4_hw65 => k4_hw65

def k4_chk66 (v951 : IVec S16 32) : Prop :=
  (∀ a x, ((![v951] : Fin 1 → IVec S16 32) a x).toNat < S1024.size a)
theorem k4_idx66_inb : ∀ (v951 : IVec S16 32) (k4_hw66 : k4_chk66 v951), ∀ a x, ((![v951] : Fin 1 → IVec S16 32) a x).toNat < S1024.size a := fun v951 k4_hw66 => k4_hw66

def k4_chk67 (v956 : IVec S16 32) : Prop :=
  (∀ a x, ((![v956] : Fin 1 → IVec S16 32) a x).toNat < S512.size a)
theorem k4_idx67_inb : ∀ (v956 : IVec S16 32) (k4_hw67 : k4_chk67 v956), ∀ a x, ((![v956] : Fin 1 → IVec S16 32) a x).toNat < S512.size a := fun v956 k4_hw67 => k4_hw67

def k4_chk68 (v959 : IVec S16 32) : Prop :=
  (∀ a x, ((![v959] : Fin 1 → IVec S16 32) a x).toNat < S512.size a)
theorem k4_idx68_inb : ∀ (v959 : IVec S16 32) (k4_hw68 : k4_chk68 v959), ∀ a x, ((![v959] : Fin 1 → IVec S16 32) a x).toNat < S512.size a := fun v959 k4_hw68 => k4_hw68
def k4_off3 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k4_t1
  let c16_i32 : BitVec 32 := 16#32
  let v9 : BitVec 32 := Scalar.muli arg10 c16_i32
  let v10 : BitVec 32 := Scalar.addi v2 v9
  let c32_i32_162 : BitVec 32 := 32#32
  let v221 : BitVec 32 := Scalar.muli v10 c32_i32_162
  ![v221.toNat]
abbrev grid5 : Pipeline.Grid := ⟨2, ![1, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x256x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x256x32 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S1x2048x512 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1x256x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 1 → Memref sig .tc .vmem S512x1024 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S1024x512 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S1x512 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 1 → Memref sig .tc .vmem S1x512 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false, false]

abbrev stage5_9 : Fin 1 → Memref sig .tc .vmem S1x512 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false, false]

abbrev stage5_10 : Fin 1 → Memref sig .tc .vmem S512x512 .bf16 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false, false]

abbrev stage5_11 : Fin 1 → Memref sig .tc .vmem S1x512 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false, false]

abbrev stage5_12 : Fin 1 → Memref sig .tc .vmem S512x512 .bf16 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false, false]

abbrev stage5_13 : Fin 1 → Memref sig .tc .vmem S1x512 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false, false]

abbrev stage5_14 : Fin 2 → Memref sig .tc .vmem S1x256x512 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true, true]

abbrev grid6 : Pipeline.Grid := ⟨2, ![2, 16], ![false, false]⟩

@[reducible] def k6_t1_loop : Scf.Loop 32 :=
  let c0_i32_1 : BitVec 32 := 0#32
  let c4_i32 : BitVec 32 := 4#32
  let v8 : BitVec 32 := Scalar.addi c0_i32_1 c4_i32
  let c1_i32 : BitVec 32 := 1#32
  ⟨c0_i32_1, v8, c1_i32⟩
def k6_off1 (i : grid6.Coords) (k6_t1 : Fin k6_t1_loop.trips) (c0_i32_3 : BitVec 32) : Fin 3 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k6_t1
  let c16_i32 : BitVec 32 := 16#32
  let v9 : BitVec 32 := Scalar.muli arg10 c16_i32
  let v10 : BitVec 32 := Scalar.addi v2 v9
  let v11 : BitVec 32 := Scalar.addi v10 c0_i32_3
  let c0_i32_6 : BitVec 32 := 0#32
  ![2, v11.toNat, 0]
@[reducible] def k6_t2_loop : Scf.Loop 32 :=
  let c0_i32_154 : BitVec 32 := 0#32
  let c64_i32_155 : BitVec 32 := 64#32
  let v219 : BitVec 32 := Scalar.addi c0_i32_154 c64_i32_155
  let c1_i32_156 : BitVec 32 := 1#32
  ⟨c0_i32_154, v219, c1_i32_156⟩

def k6_chk1 (v227 : IVec S16 32) : Prop :=
  (∀ a x, ((![v227] : Fin 1 → IVec S16 32) a x).toNat < S32768.size a)
theorem k6_idx1_inb : ∀ (v227 : IVec S16 32) (k6_hw1 : k6_chk1 v227), ∀ a x, ((![v227] : Fin 1 → IVec S16 32) a x).toNat < S32768.size a := fun v227 k6_hw1 => k6_hw1

def k6_chk2 (v231 : IVec S16 32) : Prop :=
  (∀ a x, ((![v231] : Fin 1 → IVec S16 32) a x).toNat < S32768.size a)
theorem k6_idx2_inb : ∀ (v231 : IVec S16 32) (k6_hw2 : k6_chk2 v231), ∀ a x, ((![v231] : Fin 1 → IVec S16 32) a x).toNat < S32768.size a := fun v231 k6_hw2 => k6_hw2

def k6_chk3 (v235 : IVec S16 32) : Prop :=
  (∀ a x, ((![v235] : Fin 1 → IVec S16 32) a x).toNat < S32768.size a)
theorem k6_idx3_inb : ∀ (v235 : IVec S16 32) (k6_hw3 : k6_chk3 v235), ∀ a x, ((![v235] : Fin 1 → IVec S16 32) a x).toNat < S32768.size a := fun v235 k6_hw3 => k6_hw3

def k6_chk4 (v239 : IVec S16 32) : Prop :=
  (∀ a x, ((![v239] : Fin 1 → IVec S16 32) a x).toNat < S32768.size a)
theorem k6_idx4_inb : ∀ (v239 : IVec S16 32) (k6_hw4 : k6_chk4 v239), ∀ a x, ((![v239] : Fin 1 → IVec S16 32) a x).toNat < S32768.size a := fun v239 k6_hw4 => k6_hw4

def k6_chk5 (v243 : IVec S16 32) : Prop :=
  (∀ a x, ((![v243] : Fin 1 → IVec S16 32) a x).toNat < S32768.size a)
theorem k6_idx5_inb : ∀ (v243 : IVec S16 32) (k6_hw5 : k6_chk5 v243), ∀ a x, ((![v243] : Fin 1 → IVec S16 32) a x).toNat < S32768.size a := fun v243 k6_hw5 => k6_hw5

def k6_chk6 (v247 : IVec S16 32) : Prop :=
  (∀ a x, ((![v247] : Fin 1 → IVec S16 32) a x).toNat < S32768.size a)
theorem k6_idx6_inb : ∀ (v247 : IVec S16 32) (k6_hw6 : k6_chk6 v247), ∀ a x, ((![v247] : Fin 1 → IVec S16 32) a x).toNat < S32768.size a := fun v247 k6_hw6 => k6_hw6

def k6_chk7 (v251 : IVec S16 32) : Prop :=
  (∀ a x, ((![v251] : Fin 1 → IVec S16 32) a x).toNat < S32768.size a)
theorem k6_idx7_inb : ∀ (v251 : IVec S16 32) (k6_hw7 : k6_chk7 v251), ∀ a x, ((![v251] : Fin 1 → IVec S16 32) a x).toNat < S32768.size a := fun v251 k6_hw7 => k6_hw7

def k6_chk8 (v255 : IVec S16 32) : Prop :=
  (∀ a x, ((![v255] : Fin 1 → IVec S16 32) a x).toNat < S32768.size a)
theorem k6_idx8_inb : ∀ (v255 : IVec S16 32) (k6_hw8 : k6_chk8 v255), ∀ a x, ((![v255] : Fin 1 → IVec S16 32) a x).toNat < S32768.size a := fun v255 k6_hw8 => k6_hw8

def k6_chk9 (v259 : IVec S16 32) : Prop :=
  (∀ a x, ((![v259] : Fin 1 → IVec S16 32) a x).toNat < S32768.size a)
theorem k6_idx9_inb : ∀ (v259 : IVec S16 32) (k6_hw9 : k6_chk9 v259), ∀ a x, ((![v259] : Fin 1 → IVec S16 32) a x).toNat < S32768.size a := fun v259 k6_hw9 => k6_hw9

def k6_chk10 (v263 : IVec S16 32) : Prop :=
  (∀ a x, ((![v263] : Fin 1 → IVec S16 32) a x).toNat < S32768.size a)
theorem k6_idx10_inb : ∀ (v263 : IVec S16 32) (k6_hw10 : k6_chk10 v263), ∀ a x, ((![v263] : Fin 1 → IVec S16 32) a x).toNat < S32768.size a := fun v263 k6_hw10 => k6_hw10

def k6_chk11 (v267 : IVec S16 32) : Prop :=
  (∀ a x, ((![v267] : Fin 1 → IVec S16 32) a x).toNat < S32768.size a)
theorem k6_idx11_inb : ∀ (v267 : IVec S16 32) (k6_hw11 : k6_chk11 v267), ∀ a x, ((![v267] : Fin 1 → IVec S16 32) a x).toNat < S32768.size a := fun v267 k6_hw11 => k6_hw11

def k6_chk12 (v271 : IVec S16 32) : Prop :=
  (∀ a x, ((![v271] : Fin 1 → IVec S16 32) a x).toNat < S32768.size a)
theorem k6_idx12_inb : ∀ (v271 : IVec S16 32) (k6_hw12 : k6_chk12 v271), ∀ a x, ((![v271] : Fin 1 → IVec S16 32) a x).toNat < S32768.size a := fun v271 k6_hw12 => k6_hw12

def k6_chk13 (v275 : IVec S16 32) : Prop :=
  (∀ a x, ((![v275] : Fin 1 → IVec S16 32) a x).toNat < S32768.size a)
theorem k6_idx13_inb : ∀ (v275 : IVec S16 32) (k6_hw13 : k6_chk13 v275), ∀ a x, ((![v275] : Fin 1 → IVec S16 32) a x).toNat < S32768.size a := fun v275 k6_hw13 => k6_hw13

def k6_chk14 (v279 : IVec S16 32) : Prop :=
  (∀ a x, ((![v279] : Fin 1 → IVec S16 32) a x).toNat < S32768.size a)
theorem k6_idx14_inb : ∀ (v279 : IVec S16 32) (k6_hw14 : k6_chk14 v279), ∀ a x, ((![v279] : Fin 1 → IVec S16 32) a x).toNat < S32768.size a := fun v279 k6_hw14 => k6_hw14

def k6_chk15 (v283 : IVec S16 32) : Prop :=
  (∀ a x, ((![v283] : Fin 1 → IVec S16 32) a x).toNat < S32768.size a)
theorem k6_idx15_inb : ∀ (v283 : IVec S16 32) (k6_hw15 : k6_chk15 v283), ∀ a x, ((![v283] : Fin 1 → IVec S16 32) a x).toNat < S32768.size a := fun v283 k6_hw15 => k6_hw15

def k6_chk16 (v287 : IVec S16 32) : Prop :=
  (∀ a x, ((![v287] : Fin 1 → IVec S16 32) a x).toNat < S32768.size a)
theorem k6_idx16_inb : ∀ (v287 : IVec S16 32) (k6_hw16 : k6_chk16 v287), ∀ a x, ((![v287] : Fin 1 → IVec S16 32) a x).toNat < S32768.size a := fun v287 k6_hw16 => k6_hw16

def k6_chk17 (v291 : IVec S16 32) : Prop :=
  (∀ a x, ((![v291] : Fin 1 → IVec S16 32) a x).toNat < S32768.size a)
theorem k6_idx17_inb : ∀ (v291 : IVec S16 32) (k6_hw17 : k6_chk17 v291), ∀ a x, ((![v291] : Fin 1 → IVec S16 32) a x).toNat < S32768.size a := fun v291 k6_hw17 => k6_hw17

def k6_chk18 (v295 : IVec S16 32) : Prop :=
  (∀ a x, ((![v295] : Fin 1 → IVec S16 32) a x).toNat < S32768.size a)
theorem k6_idx18_inb : ∀ (v295 : IVec S16 32) (k6_hw18 : k6_chk18 v295), ∀ a x, ((![v295] : Fin 1 → IVec S16 32) a x).toNat < S32768.size a := fun v295 k6_hw18 => k6_hw18

def k6_chk19 (v299 : IVec S16 32) : Prop :=
  (∀ a x, ((![v299] : Fin 1 → IVec S16 32) a x).toNat < S32768.size a)
theorem k6_idx19_inb : ∀ (v299 : IVec S16 32) (k6_hw19 : k6_chk19 v299), ∀ a x, ((![v299] : Fin 1 → IVec S16 32) a x).toNat < S32768.size a := fun v299 k6_hw19 => k6_hw19

def k6_chk20 (v303 : IVec S16 32) : Prop :=
  (∀ a x, ((![v303] : Fin 1 → IVec S16 32) a x).toNat < S32768.size a)
theorem k6_idx20_inb : ∀ (v303 : IVec S16 32) (k6_hw20 : k6_chk20 v303), ∀ a x, ((![v303] : Fin 1 → IVec S16 32) a x).toNat < S32768.size a := fun v303 k6_hw20 => k6_hw20

def k6_chk21 (v307 : IVec S16 32) : Prop :=
  (∀ a x, ((![v307] : Fin 1 → IVec S16 32) a x).toNat < S32768.size a)
theorem k6_idx21_inb : ∀ (v307 : IVec S16 32) (k6_hw21 : k6_chk21 v307), ∀ a x, ((![v307] : Fin 1 → IVec S16 32) a x).toNat < S32768.size a := fun v307 k6_hw21 => k6_hw21

def k6_chk22 (v311 : IVec S16 32) : Prop :=
  (∀ a x, ((![v311] : Fin 1 → IVec S16 32) a x).toNat < S32768.size a)
theorem k6_idx22_inb : ∀ (v311 : IVec S16 32) (k6_hw22 : k6_chk22 v311), ∀ a x, ((![v311] : Fin 1 → IVec S16 32) a x).toNat < S32768.size a := fun v311 k6_hw22 => k6_hw22

def k6_chk23 (v315 : IVec S16 32) : Prop :=
  (∀ a x, ((![v315] : Fin 1 → IVec S16 32) a x).toNat < S32768.size a)
theorem k6_idx23_inb : ∀ (v315 : IVec S16 32) (k6_hw23 : k6_chk23 v315), ∀ a x, ((![v315] : Fin 1 → IVec S16 32) a x).toNat < S32768.size a := fun v315 k6_hw23 => k6_hw23

def k6_chk24 (v319 : IVec S16 32) : Prop :=
  (∀ a x, ((![v319] : Fin 1 → IVec S16 32) a x).toNat < S32768.size a)
theorem k6_idx24_inb : ∀ (v319 : IVec S16 32) (k6_hw24 : k6_chk24 v319), ∀ a x, ((![v319] : Fin 1 → IVec S16 32) a x).toNat < S32768.size a := fun v319 k6_hw24 => k6_hw24

def k6_chk25 (v323 : IVec S16 32) : Prop :=
  (∀ a x, ((![v323] : Fin 1 → IVec S16 32) a x).toNat < S32768.size a)
theorem k6_idx25_inb : ∀ (v323 : IVec S16 32) (k6_hw25 : k6_chk25 v323), ∀ a x, ((![v323] : Fin 1 → IVec S16 32) a x).toNat < S32768.size a := fun v323 k6_hw25 => k6_hw25

def k6_chk26 (v327 : IVec S16 32) : Prop :=
  (∀ a x, ((![v327] : Fin 1 → IVec S16 32) a x).toNat < S32768.size a)
theorem k6_idx26_inb : ∀ (v327 : IVec S16 32) (k6_hw26 : k6_chk26 v327), ∀ a x, ((![v327] : Fin 1 → IVec S16 32) a x).toNat < S32768.size a := fun v327 k6_hw26 => k6_hw26

def k6_chk27 (v331 : IVec S16 32) : Prop :=
  (∀ a x, ((![v331] : Fin 1 → IVec S16 32) a x).toNat < S32768.size a)
theorem k6_idx27_inb : ∀ (v331 : IVec S16 32) (k6_hw27 : k6_chk27 v331), ∀ a x, ((![v331] : Fin 1 → IVec S16 32) a x).toNat < S32768.size a := fun v331 k6_hw27 => k6_hw27

def k6_chk28 (v335 : IVec S16 32) : Prop :=
  (∀ a x, ((![v335] : Fin 1 → IVec S16 32) a x).toNat < S32768.size a)
theorem k6_idx28_inb : ∀ (v335 : IVec S16 32) (k6_hw28 : k6_chk28 v335), ∀ a x, ((![v335] : Fin 1 → IVec S16 32) a x).toNat < S32768.size a := fun v335 k6_hw28 => k6_hw28

def k6_chk29 (v339 : IVec S16 32) : Prop :=
  (∀ a x, ((![v339] : Fin 1 → IVec S16 32) a x).toNat < S32768.size a)
theorem k6_idx29_inb : ∀ (v339 : IVec S16 32) (k6_hw29 : k6_chk29 v339), ∀ a x, ((![v339] : Fin 1 → IVec S16 32) a x).toNat < S32768.size a := fun v339 k6_hw29 => k6_hw29

def k6_chk30 (v343 : IVec S16 32) : Prop :=
  (∀ a x, ((![v343] : Fin 1 → IVec S16 32) a x).toNat < S32768.size a)
theorem k6_idx30_inb : ∀ (v343 : IVec S16 32) (k6_hw30 : k6_chk30 v343), ∀ a x, ((![v343] : Fin 1 → IVec S16 32) a x).toNat < S32768.size a := fun v343 k6_hw30 => k6_hw30

def k6_chk31 (v347 : IVec S16 32) : Prop :=
  (∀ a x, ((![v347] : Fin 1 → IVec S16 32) a x).toNat < S32768.size a)
theorem k6_idx31_inb : ∀ (v347 : IVec S16 32) (k6_hw31 : k6_chk31 v347), ∀ a x, ((![v347] : Fin 1 → IVec S16 32) a x).toNat < S32768.size a := fun v347 k6_hw31 => k6_hw31

def k6_chk32 (v351 : IVec S16 32) : Prop :=
  (∀ a x, ((![v351] : Fin 1 → IVec S16 32) a x).toNat < S32768.size a)
theorem k6_idx32_inb : ∀ (v351 : IVec S16 32) (k6_hw32 : k6_chk32 v351), ∀ a x, ((![v351] : Fin 1 → IVec S16 32) a x).toNat < S32768.size a := fun v351 k6_hw32 => k6_hw32
def k6_off2 (k6_t2 : Fin k6_t2_loop.trips) : Fin 1 → Nat :=
  let c0_i32_154 : BitVec 32 := 0#32
  let c1_i32_156 : BitVec 32 := 1#32
  let arg11 : BitVec 32 := Scf.iv c0_i32_154 c1_i32_156 k6_t2
  let c16_i32_182 : BitVec 32 := 16#32
  let v357 : BitVec 32 := Scalar.muli arg11 c16_i32_182
  let v358 : Index := Scalar.indexCast v357
  ![v358.toNat]
@[reducible] def k6_t3_loop : Scf.Loop 32 :=
  let c0_i32_159 : BitVec 32 := 0#32
  let c32_i32 : BitVec 32 := 32#32
  let v220 : BitVec 32 := Scalar.addi c0_i32_159 c32_i32
  let c1_i32_160 : BitVec 32 := 1#32
  ⟨c0_i32_159, v220, c1_i32_160⟩

def k6_chk33 (v632 : IVec S16 32) : Prop :=
  (∀ a x, ((![v632] : Fin 1 → IVec S16 32) a x).toNat < S32768.size a)
theorem k6_idx33_inb : ∀ (v632 : IVec S16 32) (k6_hw33 : k6_chk33 v632), ∀ a x, ((![v632] : Fin 1 → IVec S16 32) a x).toNat < S32768.size a := fun v632 k6_hw33 => k6_hw33

def k6_chk34 (v641 : IVec S16 32) : Prop :=
  (∀ a x, ((![v641] : Fin 1 → IVec S16 32) a x).toNat < S32768.size a)
theorem k6_idx34_inb : ∀ (v641 : IVec S16 32) (k6_hw34 : k6_chk34 v641), ∀ a x, ((![v641] : Fin 1 → IVec S16 32) a x).toNat < S32768.size a := fun v641 k6_hw34 => k6_hw34

def k6_chk35 (v650 : IVec S16 32) : Prop :=
  (∀ a x, ((![v650] : Fin 1 → IVec S16 32) a x).toNat < S32768.size a)
theorem k6_idx35_inb : ∀ (v650 : IVec S16 32) (k6_hw35 : k6_chk35 v650), ∀ a x, ((![v650] : Fin 1 → IVec S16 32) a x).toNat < S32768.size a := fun v650 k6_hw35 => k6_hw35

def k6_chk36 (v659 : IVec S16 32) : Prop :=
  (∀ a x, ((![v659] : Fin 1 → IVec S16 32) a x).toNat < S32768.size a)
theorem k6_idx36_inb : ∀ (v659 : IVec S16 32) (k6_hw36 : k6_chk36 v659), ∀ a x, ((![v659] : Fin 1 → IVec S16 32) a x).toNat < S32768.size a := fun v659 k6_hw36 => k6_hw36

def k6_chk37 (v668 : IVec S16 32) : Prop :=
  (∀ a x, ((![v668] : Fin 1 → IVec S16 32) a x).toNat < S32768.size a)
theorem k6_idx37_inb : ∀ (v668 : IVec S16 32) (k6_hw37 : k6_chk37 v668), ∀ a x, ((![v668] : Fin 1 → IVec S16 32) a x).toNat < S32768.size a := fun v668 k6_hw37 => k6_hw37

def k6_chk38 (v677 : IVec S16 32) : Prop :=
  (∀ a x, ((![v677] : Fin 1 → IVec S16 32) a x).toNat < S32768.size a)
theorem k6_idx38_inb : ∀ (v677 : IVec S16 32) (k6_hw38 : k6_chk38 v677), ∀ a x, ((![v677] : Fin 1 → IVec S16 32) a x).toNat < S32768.size a := fun v677 k6_hw38 => k6_hw38

def k6_chk39 (v686 : IVec S16 32) : Prop :=
  (∀ a x, ((![v686] : Fin 1 → IVec S16 32) a x).toNat < S32768.size a)
theorem k6_idx39_inb : ∀ (v686 : IVec S16 32) (k6_hw39 : k6_chk39 v686), ∀ a x, ((![v686] : Fin 1 → IVec S16 32) a x).toNat < S32768.size a := fun v686 k6_hw39 => k6_hw39

def k6_chk40 (v695 : IVec S16 32) : Prop :=
  (∀ a x, ((![v695] : Fin 1 → IVec S16 32) a x).toNat < S32768.size a)
theorem k6_idx40_inb : ∀ (v695 : IVec S16 32) (k6_hw40 : k6_chk40 v695), ∀ a x, ((![v695] : Fin 1 → IVec S16 32) a x).toNat < S32768.size a := fun v695 k6_hw40 => k6_hw40

def k6_chk41 (v704 : IVec S16 32) : Prop :=
  (∀ a x, ((![v704] : Fin 1 → IVec S16 32) a x).toNat < S32768.size a)
theorem k6_idx41_inb : ∀ (v704 : IVec S16 32) (k6_hw41 : k6_chk41 v704), ∀ a x, ((![v704] : Fin 1 → IVec S16 32) a x).toNat < S32768.size a := fun v704 k6_hw41 => k6_hw41

def k6_chk42 (v713 : IVec S16 32) : Prop :=
  (∀ a x, ((![v713] : Fin 1 → IVec S16 32) a x).toNat < S32768.size a)
theorem k6_idx42_inb : ∀ (v713 : IVec S16 32) (k6_hw42 : k6_chk42 v713), ∀ a x, ((![v713] : Fin 1 → IVec S16 32) a x).toNat < S32768.size a := fun v713 k6_hw42 => k6_hw42

def k6_chk43 (v722 : IVec S16 32) : Prop :=
  (∀ a x, ((![v722] : Fin 1 → IVec S16 32) a x).toNat < S32768.size a)
theorem k6_idx43_inb : ∀ (v722 : IVec S16 32) (k6_hw43 : k6_chk43 v722), ∀ a x, ((![v722] : Fin 1 → IVec S16 32) a x).toNat < S32768.size a := fun v722 k6_hw43 => k6_hw43

def k6_chk44 (v731 : IVec S16 32) : Prop :=
  (∀ a x, ((![v731] : Fin 1 → IVec S16 32) a x).toNat < S32768.size a)
theorem k6_idx44_inb : ∀ (v731 : IVec S16 32) (k6_hw44 : k6_chk44 v731), ∀ a x, ((![v731] : Fin 1 → IVec S16 32) a x).toNat < S32768.size a := fun v731 k6_hw44 => k6_hw44

def k6_chk45 (v740 : IVec S16 32) : Prop :=
  (∀ a x, ((![v740] : Fin 1 → IVec S16 32) a x).toNat < S32768.size a)
theorem k6_idx45_inb : ∀ (v740 : IVec S16 32) (k6_hw45 : k6_chk45 v740), ∀ a x, ((![v740] : Fin 1 → IVec S16 32) a x).toNat < S32768.size a := fun v740 k6_hw45 => k6_hw45

def k6_chk46 (v749 : IVec S16 32) : Prop :=
  (∀ a x, ((![v749] : Fin 1 → IVec S16 32) a x).toNat < S32768.size a)
theorem k6_idx46_inb : ∀ (v749 : IVec S16 32) (k6_hw46 : k6_chk46 v749), ∀ a x, ((![v749] : Fin 1 → IVec S16 32) a x).toNat < S32768.size a := fun v749 k6_hw46 => k6_hw46

def k6_chk47 (v758 : IVec S16 32) : Prop :=
  (∀ a x, ((![v758] : Fin 1 → IVec S16 32) a x).toNat < S32768.size a)
theorem k6_idx47_inb : ∀ (v758 : IVec S16 32) (k6_hw47 : k6_chk47 v758), ∀ a x, ((![v758] : Fin 1 → IVec S16 32) a x).toNat < S32768.size a := fun v758 k6_hw47 => k6_hw47

def k6_chk48 (v767 : IVec S16 32) : Prop :=
  (∀ a x, ((![v767] : Fin 1 → IVec S16 32) a x).toNat < S32768.size a)
theorem k6_idx48_inb : ∀ (v767 : IVec S16 32) (k6_hw48 : k6_chk48 v767), ∀ a x, ((![v767] : Fin 1 → IVec S16 32) a x).toNat < S32768.size a := fun v767 k6_hw48 => k6_hw48

def k6_chk49 (v776 : IVec S16 32) : Prop :=
  (∀ a x, ((![v776] : Fin 1 → IVec S16 32) a x).toNat < S32768.size a)
theorem k6_idx49_inb : ∀ (v776 : IVec S16 32) (k6_hw49 : k6_chk49 v776), ∀ a x, ((![v776] : Fin 1 → IVec S16 32) a x).toNat < S32768.size a := fun v776 k6_hw49 => k6_hw49

def k6_chk50 (v785 : IVec S16 32) : Prop :=
  (∀ a x, ((![v785] : Fin 1 → IVec S16 32) a x).toNat < S32768.size a)
theorem k6_idx50_inb : ∀ (v785 : IVec S16 32) (k6_hw50 : k6_chk50 v785), ∀ a x, ((![v785] : Fin 1 → IVec S16 32) a x).toNat < S32768.size a := fun v785 k6_hw50 => k6_hw50

def k6_chk51 (v794 : IVec S16 32) : Prop :=
  (∀ a x, ((![v794] : Fin 1 → IVec S16 32) a x).toNat < S32768.size a)
theorem k6_idx51_inb : ∀ (v794 : IVec S16 32) (k6_hw51 : k6_chk51 v794), ∀ a x, ((![v794] : Fin 1 → IVec S16 32) a x).toNat < S32768.size a := fun v794 k6_hw51 => k6_hw51

def k6_chk52 (v803 : IVec S16 32) : Prop :=
  (∀ a x, ((![v803] : Fin 1 → IVec S16 32) a x).toNat < S32768.size a)
theorem k6_idx52_inb : ∀ (v803 : IVec S16 32) (k6_hw52 : k6_chk52 v803), ∀ a x, ((![v803] : Fin 1 → IVec S16 32) a x).toNat < S32768.size a := fun v803 k6_hw52 => k6_hw52

def k6_chk53 (v812 : IVec S16 32) : Prop :=
  (∀ a x, ((![v812] : Fin 1 → IVec S16 32) a x).toNat < S32768.size a)
theorem k6_idx53_inb : ∀ (v812 : IVec S16 32) (k6_hw53 : k6_chk53 v812), ∀ a x, ((![v812] : Fin 1 → IVec S16 32) a x).toNat < S32768.size a := fun v812 k6_hw53 => k6_hw53

def k6_chk54 (v821 : IVec S16 32) : Prop :=
  (∀ a x, ((![v821] : Fin 1 → IVec S16 32) a x).toNat < S32768.size a)
theorem k6_idx54_inb : ∀ (v821 : IVec S16 32) (k6_hw54 : k6_chk54 v821), ∀ a x, ((![v821] : Fin 1 → IVec S16 32) a x).toNat < S32768.size a := fun v821 k6_hw54 => k6_hw54

def k6_chk55 (v830 : IVec S16 32) : Prop :=
  (∀ a x, ((![v830] : Fin 1 → IVec S16 32) a x).toNat < S32768.size a)
theorem k6_idx55_inb : ∀ (v830 : IVec S16 32) (k6_hw55 : k6_chk55 v830), ∀ a x, ((![v830] : Fin 1 → IVec S16 32) a x).toNat < S32768.size a := fun v830 k6_hw55 => k6_hw55

def k6_chk56 (v839 : IVec S16 32) : Prop :=
  (∀ a x, ((![v839] : Fin 1 → IVec S16 32) a x).toNat < S32768.size a)
theorem k6_idx56_inb : ∀ (v839 : IVec S16 32) (k6_hw56 : k6_chk56 v839), ∀ a x, ((![v839] : Fin 1 → IVec S16 32) a x).toNat < S32768.size a := fun v839 k6_hw56 => k6_hw56

def k6_chk57 (v848 : IVec S16 32) : Prop :=
  (∀ a x, ((![v848] : Fin 1 → IVec S16 32) a x).toNat < S32768.size a)
theorem k6_idx57_inb : ∀ (v848 : IVec S16 32) (k6_hw57 : k6_chk57 v848), ∀ a x, ((![v848] : Fin 1 → IVec S16 32) a x).toNat < S32768.size a := fun v848 k6_hw57 => k6_hw57

def k6_chk58 (v857 : IVec S16 32) : Prop :=
  (∀ a x, ((![v857] : Fin 1 → IVec S16 32) a x).toNat < S32768.size a)
theorem k6_idx58_inb : ∀ (v857 : IVec S16 32) (k6_hw58 : k6_chk58 v857), ∀ a x, ((![v857] : Fin 1 → IVec S16 32) a x).toNat < S32768.size a := fun v857 k6_hw58 => k6_hw58

def k6_chk59 (v866 : IVec S16 32) : Prop :=
  (∀ a x, ((![v866] : Fin 1 → IVec S16 32) a x).toNat < S32768.size a)
theorem k6_idx59_inb : ∀ (v866 : IVec S16 32) (k6_hw59 : k6_chk59 v866), ∀ a x, ((![v866] : Fin 1 → IVec S16 32) a x).toNat < S32768.size a := fun v866 k6_hw59 => k6_hw59

def k6_chk60 (v875 : IVec S16 32) : Prop :=
  (∀ a x, ((![v875] : Fin 1 → IVec S16 32) a x).toNat < S32768.size a)
theorem k6_idx60_inb : ∀ (v875 : IVec S16 32) (k6_hw60 : k6_chk60 v875), ∀ a x, ((![v875] : Fin 1 → IVec S16 32) a x).toNat < S32768.size a := fun v875 k6_hw60 => k6_hw60

def k6_chk61 (v884 : IVec S16 32) : Prop :=
  (∀ a x, ((![v884] : Fin 1 → IVec S16 32) a x).toNat < S32768.size a)
theorem k6_idx61_inb : ∀ (v884 : IVec S16 32) (k6_hw61 : k6_chk61 v884), ∀ a x, ((![v884] : Fin 1 → IVec S16 32) a x).toNat < S32768.size a := fun v884 k6_hw61 => k6_hw61

def k6_chk62 (v893 : IVec S16 32) : Prop :=
  (∀ a x, ((![v893] : Fin 1 → IVec S16 32) a x).toNat < S32768.size a)
theorem k6_idx62_inb : ∀ (v893 : IVec S16 32) (k6_hw62 : k6_chk62 v893), ∀ a x, ((![v893] : Fin 1 → IVec S16 32) a x).toNat < S32768.size a := fun v893 k6_hw62 => k6_hw62

def k6_chk63 (v902 : IVec S16 32) : Prop :=
  (∀ a x, ((![v902] : Fin 1 → IVec S16 32) a x).toNat < S32768.size a)
theorem k6_idx63_inb : ∀ (v902 : IVec S16 32) (k6_hw63 : k6_chk63 v902), ∀ a x, ((![v902] : Fin 1 → IVec S16 32) a x).toNat < S32768.size a := fun v902 k6_hw63 => k6_hw63

def k6_chk64 (v911 : IVec S16 32) : Prop :=
  (∀ a x, ((![v911] : Fin 1 → IVec S16 32) a x).toNat < S32768.size a)
theorem k6_idx64_inb : ∀ (v911 : IVec S16 32) (k6_hw64 : k6_chk64 v911), ∀ a x, ((![v911] : Fin 1 → IVec S16 32) a x).toNat < S32768.size a := fun v911 k6_hw64 => k6_hw64

def k6_chk65 (v948 : IVec S16 32) : Prop :=
  (∀ a x, ((![v948] : Fin 1 → IVec S16 32) a x).toNat < S32768.size a)
theorem k6_idx65_inb : ∀ (v948 : IVec S16 32) (k6_hw65 : k6_chk65 v948), ∀ a x, ((![v948] : Fin 1 → IVec S16 32) a x).toNat < S32768.size a := fun v948 k6_hw65 => k6_hw65

def k6_chk66 (v951 : IVec S16 32) : Prop :=
  (∀ a x, ((![v951] : Fin 1 → IVec S16 32) a x).toNat < S1024.size a)
theorem k6_idx66_inb : ∀ (v951 : IVec S16 32) (k6_hw66 : k6_chk66 v951), ∀ a x, ((![v951] : Fin 1 → IVec S16 32) a x).toNat < S1024.size a := fun v951 k6_hw66 => k6_hw66

def k6_chk67 (v956 : IVec S16 32) : Prop :=
  (∀ a x, ((![v956] : Fin 1 → IVec S16 32) a x).toNat < S512.size a)
theorem k6_idx67_inb : ∀ (v956 : IVec S16 32) (k6_hw67 : k6_chk67 v956), ∀ a x, ((![v956] : Fin 1 → IVec S16 32) a x).toNat < S512.size a := fun v956 k6_hw67 => k6_hw67

def k6_chk68 (v959 : IVec S16 32) : Prop :=
  (∀ a x, ((![v959] : Fin 1 → IVec S16 32) a x).toNat < S512.size a)
theorem k6_idx68_inb : ∀ (v959 : IVec S16 32) (k6_hw68 : k6_chk68 v959), ∀ a x, ((![v959] : Fin 1 → IVec S16 32) a x).toNat < S512.size a := fun v959 k6_hw68 => k6_hw68
def k6_off3 (i : grid6.Coords) (k6_t1 : Fin k6_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k6_t1
  let c16_i32 : BitVec 32 := 16#32
  let v9 : BitVec 32 := Scalar.muli arg10 c16_i32
  let v10 : BitVec 32 := Scalar.addi v2 v9
  let c32_i32_162 : BitVec 32 := 32#32
  let v221 : BitVec 32 := Scalar.muli v10 c32_i32_162
  ![v221.toNat]
abbrev grid7 : Pipeline.Grid := ⟨2, ![1, 8], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_2 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S1x256x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x256x32 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S1x2048x512 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1x256x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 1 → Memref sig .tc .vmem S512x1024 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 1 → Memref sig .tc .vmem S1024x512 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev stage7_7 : Fin 1 → Memref sig .tc .vmem S1x512 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false, false]

abbrev stage7_8 : Fin 1 → Memref sig .tc .vmem S1x512 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false, false]

abbrev stage7_9 : Fin 1 → Memref sig .tc .vmem S1x512 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false, false]

abbrev stage7_10 : Fin 1 → Memref sig .tc .vmem S512x512 .bf16 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false, false]

abbrev stage7_11 : Fin 1 → Memref sig .tc .vmem S1x512 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false, false]

abbrev stage7_12 : Fin 1 → Memref sig .tc .vmem S512x512 .bf16 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false, false]

abbrev stage7_13 : Fin 1 → Memref sig .tc .vmem S1x512 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false, false]

abbrev stage7_14 : Fin 2 → Memref sig .tc .vmem S1x256x512 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true, true]

abbrev grid8 : Pipeline.Grid := ⟨2, ![2, 16], ![false, false]⟩

@[reducible] def k8_t1_loop : Scf.Loop 32 :=
  let c0_i32_1 : BitVec 32 := 0#32
  let c4_i32 : BitVec 32 := 4#32
  let v8 : BitVec 32 := Scalar.addi c0_i32_1 c4_i32
  let c1_i32 : BitVec 32 := 1#32
  ⟨c0_i32_1, v8, c1_i32⟩
def k8_off1 (i : grid8.Coords) (k8_t1 : Fin k8_t1_loop.trips) (c0_i32_3 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k8_t1
  let c16_i32 : BitVec 32 := 16#32
  let v9 : BitVec 32 := Scalar.muli arg10 c16_i32
  let v10 : BitVec 32 := Scalar.addi v2 v9
  let v11 : BitVec 32 := Scalar.addi v10 c0_i32_3
  let c0_i32_5 : BitVec 32 := 0#32
  ![3, v11.toNat, 0]
@[reducible] def k8_t2_loop : Scf.Loop 32 :=
  let c0_i32_154 : BitVec 32 := 0#32
  let c64_i32_155 : BitVec 32 := 64#32
  let v219 : BitVec 32 := Scalar.addi c0_i32_154 c64_i32_155
  let c1_i32_156 : BitVec 32 := 1#32
  ⟨c0_i32_154, v219, c1_i32_156⟩

def k8_chk1 (v227 : IVec S16 32) : Prop :=
  (∀ a x, ((![v227] : Fin 1 → IVec S16 32) a x).toNat < S32768.size a)
theorem k8_idx1_inb : ∀ (v227 : IVec S16 32) (k8_hw1 : k8_chk1 v227), ∀ a x, ((![v227] : Fin 1 → IVec S16 32) a x).toNat < S32768.size a := fun v227 k8_hw1 => k8_hw1

def k8_chk2 (v231 : IVec S16 32) : Prop :=
  (∀ a x, ((![v231] : Fin 1 → IVec S16 32) a x).toNat < S32768.size a)
theorem k8_idx2_inb : ∀ (v231 : IVec S16 32) (k8_hw2 : k8_chk2 v231), ∀ a x, ((![v231] : Fin 1 → IVec S16 32) a x).toNat < S32768.size a := fun v231 k8_hw2 => k8_hw2

def k8_chk3 (v235 : IVec S16 32) : Prop :=
  (∀ a x, ((![v235] : Fin 1 → IVec S16 32) a x).toNat < S32768.size a)
theorem k8_idx3_inb : ∀ (v235 : IVec S16 32) (k8_hw3 : k8_chk3 v235), ∀ a x, ((![v235] : Fin 1 → IVec S16 32) a x).toNat < S32768.size a := fun v235 k8_hw3 => k8_hw3

def k8_chk4 (v239 : IVec S16 32) : Prop :=
  (∀ a x, ((![v239] : Fin 1 → IVec S16 32) a x).toNat < S32768.size a)
theorem k8_idx4_inb : ∀ (v239 : IVec S16 32) (k8_hw4 : k8_chk4 v239), ∀ a x, ((![v239] : Fin 1 → IVec S16 32) a x).toNat < S32768.size a := fun v239 k8_hw4 => k8_hw4

def k8_chk5 (v243 : IVec S16 32) : Prop :=
  (∀ a x, ((![v243] : Fin 1 → IVec S16 32) a x).toNat < S32768.size a)
theorem k8_idx5_inb : ∀ (v243 : IVec S16 32) (k8_hw5 : k8_chk5 v243), ∀ a x, ((![v243] : Fin 1 → IVec S16 32) a x).toNat < S32768.size a := fun v243 k8_hw5 => k8_hw5

def k8_chk6 (v247 : IVec S16 32) : Prop :=
  (∀ a x, ((![v247] : Fin 1 → IVec S16 32) a x).toNat < S32768.size a)
theorem k8_idx6_inb : ∀ (v247 : IVec S16 32) (k8_hw6 : k8_chk6 v247), ∀ a x, ((![v247] : Fin 1 → IVec S16 32) a x).toNat < S32768.size a := fun v247 k8_hw6 => k8_hw6

def k8_chk7 (v251 : IVec S16 32) : Prop :=
  (∀ a x, ((![v251] : Fin 1 → IVec S16 32) a x).toNat < S32768.size a)
theorem k8_idx7_inb : ∀ (v251 : IVec S16 32) (k8_hw7 : k8_chk7 v251), ∀ a x, ((![v251] : Fin 1 → IVec S16 32) a x).toNat < S32768.size a := fun v251 k8_hw7 => k8_hw7

def k8_chk8 (v255 : IVec S16 32) : Prop :=
  (∀ a x, ((![v255] : Fin 1 → IVec S16 32) a x).toNat < S32768.size a)
theorem k8_idx8_inb : ∀ (v255 : IVec S16 32) (k8_hw8 : k8_chk8 v255), ∀ a x, ((![v255] : Fin 1 → IVec S16 32) a x).toNat < S32768.size a := fun v255 k8_hw8 => k8_hw8

def k8_chk9 (v259 : IVec S16 32) : Prop :=
  (∀ a x, ((![v259] : Fin 1 → IVec S16 32) a x).toNat < S32768.size a)
theorem k8_idx9_inb : ∀ (v259 : IVec S16 32) (k8_hw9 : k8_chk9 v259), ∀ a x, ((![v259] : Fin 1 → IVec S16 32) a x).toNat < S32768.size a := fun v259 k8_hw9 => k8_hw9

def k8_chk10 (v263 : IVec S16 32) : Prop :=
  (∀ a x, ((![v263] : Fin 1 → IVec S16 32) a x).toNat < S32768.size a)
theorem k8_idx10_inb : ∀ (v263 : IVec S16 32) (k8_hw10 : k8_chk10 v263), ∀ a x, ((![v263] : Fin 1 → IVec S16 32) a x).toNat < S32768.size a := fun v263 k8_hw10 => k8_hw10

def k8_chk11 (v267 : IVec S16 32) : Prop :=
  (∀ a x, ((![v267] : Fin 1 → IVec S16 32) a x).toNat < S32768.size a)
theorem k8_idx11_inb : ∀ (v267 : IVec S16 32) (k8_hw11 : k8_chk11 v267), ∀ a x, ((![v267] : Fin 1 → IVec S16 32) a x).toNat < S32768.size a := fun v267 k8_hw11 => k8_hw11

def k8_chk12 (v271 : IVec S16 32) : Prop :=
  (∀ a x, ((![v271] : Fin 1 → IVec S16 32) a x).toNat < S32768.size a)
theorem k8_idx12_inb : ∀ (v271 : IVec S16 32) (k8_hw12 : k8_chk12 v271), ∀ a x, ((![v271] : Fin 1 → IVec S16 32) a x).toNat < S32768.size a := fun v271 k8_hw12 => k8_hw12

def k8_chk13 (v275 : IVec S16 32) : Prop :=
  (∀ a x, ((![v275] : Fin 1 → IVec S16 32) a x).toNat < S32768.size a)
theorem k8_idx13_inb : ∀ (v275 : IVec S16 32) (k8_hw13 : k8_chk13 v275), ∀ a x, ((![v275] : Fin 1 → IVec S16 32) a x).toNat < S32768.size a := fun v275 k8_hw13 => k8_hw13

def k8_chk14 (v279 : IVec S16 32) : Prop :=
  (∀ a x, ((![v279] : Fin 1 → IVec S16 32) a x).toNat < S32768.size a)
theorem k8_idx14_inb : ∀ (v279 : IVec S16 32) (k8_hw14 : k8_chk14 v279), ∀ a x, ((![v279] : Fin 1 → IVec S16 32) a x).toNat < S32768.size a := fun v279 k8_hw14 => k8_hw14

def k8_chk15 (v283 : IVec S16 32) : Prop :=
  (∀ a x, ((![v283] : Fin 1 → IVec S16 32) a x).toNat < S32768.size a)
theorem k8_idx15_inb : ∀ (v283 : IVec S16 32) (k8_hw15 : k8_chk15 v283), ∀ a x, ((![v283] : Fin 1 → IVec S16 32) a x).toNat < S32768.size a := fun v283 k8_hw15 => k8_hw15

def k8_chk16 (v287 : IVec S16 32) : Prop :=
  (∀ a x, ((![v287] : Fin 1 → IVec S16 32) a x).toNat < S32768.size a)
theorem k8_idx16_inb : ∀ (v287 : IVec S16 32) (k8_hw16 : k8_chk16 v287), ∀ a x, ((![v287] : Fin 1 → IVec S16 32) a x).toNat < S32768.size a := fun v287 k8_hw16 => k8_hw16

def k8_chk17 (v291 : IVec S16 32) : Prop :=
  (∀ a x, ((![v291] : Fin 1 → IVec S16 32) a x).toNat < S32768.size a)
theorem k8_idx17_inb : ∀ (v291 : IVec S16 32) (k8_hw17 : k8_chk17 v291), ∀ a x, ((![v291] : Fin 1 → IVec S16 32) a x).toNat < S32768.size a := fun v291 k8_hw17 => k8_hw17

def k8_chk18 (v295 : IVec S16 32) : Prop :=
  (∀ a x, ((![v295] : Fin 1 → IVec S16 32) a x).toNat < S32768.size a)
theorem k8_idx18_inb : ∀ (v295 : IVec S16 32) (k8_hw18 : k8_chk18 v295), ∀ a x, ((![v295] : Fin 1 → IVec S16 32) a x).toNat < S32768.size a := fun v295 k8_hw18 => k8_hw18

def k8_chk19 (v299 : IVec S16 32) : Prop :=
  (∀ a x, ((![v299] : Fin 1 → IVec S16 32) a x).toNat < S32768.size a)
theorem k8_idx19_inb : ∀ (v299 : IVec S16 32) (k8_hw19 : k8_chk19 v299), ∀ a x, ((![v299] : Fin 1 → IVec S16 32) a x).toNat < S32768.size a := fun v299 k8_hw19 => k8_hw19

def k8_chk20 (v303 : IVec S16 32) : Prop :=
  (∀ a x, ((![v303] : Fin 1 → IVec S16 32) a x).toNat < S32768.size a)
theorem k8_idx20_inb : ∀ (v303 : IVec S16 32) (k8_hw20 : k8_chk20 v303), ∀ a x, ((![v303] : Fin 1 → IVec S16 32) a x).toNat < S32768.size a := fun v303 k8_hw20 => k8_hw20

def k8_chk21 (v307 : IVec S16 32) : Prop :=
  (∀ a x, ((![v307] : Fin 1 → IVec S16 32) a x).toNat < S32768.size a)
theorem k8_idx21_inb : ∀ (v307 : IVec S16 32) (k8_hw21 : k8_chk21 v307), ∀ a x, ((![v307] : Fin 1 → IVec S16 32) a x).toNat < S32768.size a := fun v307 k8_hw21 => k8_hw21

def k8_chk22 (v311 : IVec S16 32) : Prop :=
  (∀ a x, ((![v311] : Fin 1 → IVec S16 32) a x).toNat < S32768.size a)
theorem k8_idx22_inb : ∀ (v311 : IVec S16 32) (k8_hw22 : k8_chk22 v311), ∀ a x, ((![v311] : Fin 1 → IVec S16 32) a x).toNat < S32768.size a := fun v311 k8_hw22 => k8_hw22

def k8_chk23 (v315 : IVec S16 32) : Prop :=
  (∀ a x, ((![v315] : Fin 1 → IVec S16 32) a x).toNat < S32768.size a)
theorem k8_idx23_inb : ∀ (v315 : IVec S16 32) (k8_hw23 : k8_chk23 v315), ∀ a x, ((![v315] : Fin 1 → IVec S16 32) a x).toNat < S32768.size a := fun v315 k8_hw23 => k8_hw23

def k8_chk24 (v319 : IVec S16 32) : Prop :=
  (∀ a x, ((![v319] : Fin 1 → IVec S16 32) a x).toNat < S32768.size a)
theorem k8_idx24_inb : ∀ (v319 : IVec S16 32) (k8_hw24 : k8_chk24 v319), ∀ a x, ((![v319] : Fin 1 → IVec S16 32) a x).toNat < S32768.size a := fun v319 k8_hw24 => k8_hw24

def k8_chk25 (v323 : IVec S16 32) : Prop :=
  (∀ a x, ((![v323] : Fin 1 → IVec S16 32) a x).toNat < S32768.size a)
theorem k8_idx25_inb : ∀ (v323 : IVec S16 32) (k8_hw25 : k8_chk25 v323), ∀ a x, ((![v323] : Fin 1 → IVec S16 32) a x).toNat < S32768.size a := fun v323 k8_hw25 => k8_hw25

def k8_chk26 (v327 : IVec S16 32) : Prop :=
  (∀ a x, ((![v327] : Fin 1 → IVec S16 32) a x).toNat < S32768.size a)
theorem k8_idx26_inb : ∀ (v327 : IVec S16 32) (k8_hw26 : k8_chk26 v327), ∀ a x, ((![v327] : Fin 1 → IVec S16 32) a x).toNat < S32768.size a := fun v327 k8_hw26 => k8_hw26

def k8_chk27 (v331 : IVec S16 32) : Prop :=
  (∀ a x, ((![v331] : Fin 1 → IVec S16 32) a x).toNat < S32768.size a)
theorem k8_idx27_inb : ∀ (v331 : IVec S16 32) (k8_hw27 : k8_chk27 v331), ∀ a x, ((![v331] : Fin 1 → IVec S16 32) a x).toNat < S32768.size a := fun v331 k8_hw27 => k8_hw27

def k8_chk28 (v335 : IVec S16 32) : Prop :=
  (∀ a x, ((![v335] : Fin 1 → IVec S16 32) a x).toNat < S32768.size a)
theorem k8_idx28_inb : ∀ (v335 : IVec S16 32) (k8_hw28 : k8_chk28 v335), ∀ a x, ((![v335] : Fin 1 → IVec S16 32) a x).toNat < S32768.size a := fun v335 k8_hw28 => k8_hw28

def k8_chk29 (v339 : IVec S16 32) : Prop :=
  (∀ a x, ((![v339] : Fin 1 → IVec S16 32) a x).toNat < S32768.size a)
theorem k8_idx29_inb : ∀ (v339 : IVec S16 32) (k8_hw29 : k8_chk29 v339), ∀ a x, ((![v339] : Fin 1 → IVec S16 32) a x).toNat < S32768.size a := fun v339 k8_hw29 => k8_hw29

def k8_chk30 (v343 : IVec S16 32) : Prop :=
  (∀ a x, ((![v343] : Fin 1 → IVec S16 32) a x).toNat < S32768.size a)
theorem k8_idx30_inb : ∀ (v343 : IVec S16 32) (k8_hw30 : k8_chk30 v343), ∀ a x, ((![v343] : Fin 1 → IVec S16 32) a x).toNat < S32768.size a := fun v343 k8_hw30 => k8_hw30

def k8_chk31 (v347 : IVec S16 32) : Prop :=
  (∀ a x, ((![v347] : Fin 1 → IVec S16 32) a x).toNat < S32768.size a)
theorem k8_idx31_inb : ∀ (v347 : IVec S16 32) (k8_hw31 : k8_chk31 v347), ∀ a x, ((![v347] : Fin 1 → IVec S16 32) a x).toNat < S32768.size a := fun v347 k8_hw31 => k8_hw31

def k8_chk32 (v351 : IVec S16 32) : Prop :=
  (∀ a x, ((![v351] : Fin 1 → IVec S16 32) a x).toNat < S32768.size a)
theorem k8_idx32_inb : ∀ (v351 : IVec S16 32) (k8_hw32 : k8_chk32 v351), ∀ a x, ((![v351] : Fin 1 → IVec S16 32) a x).toNat < S32768.size a := fun v351 k8_hw32 => k8_hw32
def k8_off2 (k8_t2 : Fin k8_t2_loop.trips) : Fin 1 → Nat :=
  let c0_i32_154 : BitVec 32 := 0#32
  let c1_i32_156 : BitVec 32 := 1#32
  let arg11 : BitVec 32 := Scf.iv c0_i32_154 c1_i32_156 k8_t2
  let c16_i32_182 : BitVec 32 := 16#32
  let v357 : BitVec 32 := Scalar.muli arg11 c16_i32_182
  let v358 : Index := Scalar.indexCast v357
  ![v358.toNat]
@[reducible] def k8_t3_loop : Scf.Loop 32 :=
  let c0_i32_159 : BitVec 32 := 0#32
  let c32_i32 : BitVec 32 := 32#32
  let v220 : BitVec 32 := Scalar.addi c0_i32_159 c32_i32
  let c1_i32_160 : BitVec 32 := 1#32
  ⟨c0_i32_159, v220, c1_i32_160⟩

def k8_chk33 (v632 : IVec S16 32) : Prop :=
  (∀ a x, ((![v632] : Fin 1 → IVec S16 32) a x).toNat < S32768.size a)
theorem k8_idx33_inb : ∀ (v632 : IVec S16 32) (k8_hw33 : k8_chk33 v632), ∀ a x, ((![v632] : Fin 1 → IVec S16 32) a x).toNat < S32768.size a := fun v632 k8_hw33 => k8_hw33

def k8_chk34 (v641 : IVec S16 32) : Prop :=
  (∀ a x, ((![v641] : Fin 1 → IVec S16 32) a x).toNat < S32768.size a)
theorem k8_idx34_inb : ∀ (v641 : IVec S16 32) (k8_hw34 : k8_chk34 v641), ∀ a x, ((![v641] : Fin 1 → IVec S16 32) a x).toNat < S32768.size a := fun v641 k8_hw34 => k8_hw34

def k8_chk35 (v650 : IVec S16 32) : Prop :=
  (∀ a x, ((![v650] : Fin 1 → IVec S16 32) a x).toNat < S32768.size a)
theorem k8_idx35_inb : ∀ (v650 : IVec S16 32) (k8_hw35 : k8_chk35 v650), ∀ a x, ((![v650] : Fin 1 → IVec S16 32) a x).toNat < S32768.size a := fun v650 k8_hw35 => k8_hw35

def k8_chk36 (v659 : IVec S16 32) : Prop :=
  (∀ a x, ((![v659] : Fin 1 → IVec S16 32) a x).toNat < S32768.size a)
theorem k8_idx36_inb : ∀ (v659 : IVec S16 32) (k8_hw36 : k8_chk36 v659), ∀ a x, ((![v659] : Fin 1 → IVec S16 32) a x).toNat < S32768.size a := fun v659 k8_hw36 => k8_hw36

def k8_chk37 (v668 : IVec S16 32) : Prop :=
  (∀ a x, ((![v668] : Fin 1 → IVec S16 32) a x).toNat < S32768.size a)
theorem k8_idx37_inb : ∀ (v668 : IVec S16 32) (k8_hw37 : k8_chk37 v668), ∀ a x, ((![v668] : Fin 1 → IVec S16 32) a x).toNat < S32768.size a := fun v668 k8_hw37 => k8_hw37

def k8_chk38 (v677 : IVec S16 32) : Prop :=
  (∀ a x, ((![v677] : Fin 1 → IVec S16 32) a x).toNat < S32768.size a)
theorem k8_idx38_inb : ∀ (v677 : IVec S16 32) (k8_hw38 : k8_chk38 v677), ∀ a x, ((![v677] : Fin 1 → IVec S16 32) a x).toNat < S32768.size a := fun v677 k8_hw38 => k8_hw38

def k8_chk39 (v686 : IVec S16 32) : Prop :=
  (∀ a x, ((![v686] : Fin 1 → IVec S16 32) a x).toNat < S32768.size a)
theorem k8_idx39_inb : ∀ (v686 : IVec S16 32) (k8_hw39 : k8_chk39 v686), ∀ a x, ((![v686] : Fin 1 → IVec S16 32) a x).toNat < S32768.size a := fun v686 k8_hw39 => k8_hw39

def k8_chk40 (v695 : IVec S16 32) : Prop :=
  (∀ a x, ((![v695] : Fin 1 → IVec S16 32) a x).toNat < S32768.size a)
theorem k8_idx40_inb : ∀ (v695 : IVec S16 32) (k8_hw40 : k8_chk40 v695), ∀ a x, ((![v695] : Fin 1 → IVec S16 32) a x).toNat < S32768.size a := fun v695 k8_hw40 => k8_hw40

def k8_chk41 (v704 : IVec S16 32) : Prop :=
  (∀ a x, ((![v704] : Fin 1 → IVec S16 32) a x).toNat < S32768.size a)
theorem k8_idx41_inb : ∀ (v704 : IVec S16 32) (k8_hw41 : k8_chk41 v704), ∀ a x, ((![v704] : Fin 1 → IVec S16 32) a x).toNat < S32768.size a := fun v704 k8_hw41 => k8_hw41

def k8_chk42 (v713 : IVec S16 32) : Prop :=
  (∀ a x, ((![v713] : Fin 1 → IVec S16 32) a x).toNat < S32768.size a)
theorem k8_idx42_inb : ∀ (v713 : IVec S16 32) (k8_hw42 : k8_chk42 v713), ∀ a x, ((![v713] : Fin 1 → IVec S16 32) a x).toNat < S32768.size a := fun v713 k8_hw42 => k8_hw42

def k8_chk43 (v722 : IVec S16 32) : Prop :=
  (∀ a x, ((![v722] : Fin 1 → IVec S16 32) a x).toNat < S32768.size a)
theorem k8_idx43_inb : ∀ (v722 : IVec S16 32) (k8_hw43 : k8_chk43 v722), ∀ a x, ((![v722] : Fin 1 → IVec S16 32) a x).toNat < S32768.size a := fun v722 k8_hw43 => k8_hw43

def k8_chk44 (v731 : IVec S16 32) : Prop :=
  (∀ a x, ((![v731] : Fin 1 → IVec S16 32) a x).toNat < S32768.size a)
theorem k8_idx44_inb : ∀ (v731 : IVec S16 32) (k8_hw44 : k8_chk44 v731), ∀ a x, ((![v731] : Fin 1 → IVec S16 32) a x).toNat < S32768.size a := fun v731 k8_hw44 => k8_hw44

def k8_chk45 (v740 : IVec S16 32) : Prop :=
  (∀ a x, ((![v740] : Fin 1 → IVec S16 32) a x).toNat < S32768.size a)
theorem k8_idx45_inb : ∀ (v740 : IVec S16 32) (k8_hw45 : k8_chk45 v740), ∀ a x, ((![v740] : Fin 1 → IVec S16 32) a x).toNat < S32768.size a := fun v740 k8_hw45 => k8_hw45

def k8_chk46 (v749 : IVec S16 32) : Prop :=
  (∀ a x, ((![v749] : Fin 1 → IVec S16 32) a x).toNat < S32768.size a)
theorem k8_idx46_inb : ∀ (v749 : IVec S16 32) (k8_hw46 : k8_chk46 v749), ∀ a x, ((![v749] : Fin 1 → IVec S16 32) a x).toNat < S32768.size a := fun v749 k8_hw46 => k8_hw46

def k8_chk47 (v758 : IVec S16 32) : Prop :=
  (∀ a x, ((![v758] : Fin 1 → IVec S16 32) a x).toNat < S32768.size a)
theorem k8_idx47_inb : ∀ (v758 : IVec S16 32) (k8_hw47 : k8_chk47 v758), ∀ a x, ((![v758] : Fin 1 → IVec S16 32) a x).toNat < S32768.size a := fun v758 k8_hw47 => k8_hw47

def k8_chk48 (v767 : IVec S16 32) : Prop :=
  (∀ a x, ((![v767] : Fin 1 → IVec S16 32) a x).toNat < S32768.size a)
theorem k8_idx48_inb : ∀ (v767 : IVec S16 32) (k8_hw48 : k8_chk48 v767), ∀ a x, ((![v767] : Fin 1 → IVec S16 32) a x).toNat < S32768.size a := fun v767 k8_hw48 => k8_hw48

def k8_chk49 (v776 : IVec S16 32) : Prop :=
  (∀ a x, ((![v776] : Fin 1 → IVec S16 32) a x).toNat < S32768.size a)
theorem k8_idx49_inb : ∀ (v776 : IVec S16 32) (k8_hw49 : k8_chk49 v776), ∀ a x, ((![v776] : Fin 1 → IVec S16 32) a x).toNat < S32768.size a := fun v776 k8_hw49 => k8_hw49

def k8_chk50 (v785 : IVec S16 32) : Prop :=
  (∀ a x, ((![v785] : Fin 1 → IVec S16 32) a x).toNat < S32768.size a)
theorem k8_idx50_inb : ∀ (v785 : IVec S16 32) (k8_hw50 : k8_chk50 v785), ∀ a x, ((![v785] : Fin 1 → IVec S16 32) a x).toNat < S32768.size a := fun v785 k8_hw50 => k8_hw50

def k8_chk51 (v794 : IVec S16 32) : Prop :=
  (∀ a x, ((![v794] : Fin 1 → IVec S16 32) a x).toNat < S32768.size a)
theorem k8_idx51_inb : ∀ (v794 : IVec S16 32) (k8_hw51 : k8_chk51 v794), ∀ a x, ((![v794] : Fin 1 → IVec S16 32) a x).toNat < S32768.size a := fun v794 k8_hw51 => k8_hw51

def k8_chk52 (v803 : IVec S16 32) : Prop :=
  (∀ a x, ((![v803] : Fin 1 → IVec S16 32) a x).toNat < S32768.size a)
theorem k8_idx52_inb : ∀ (v803 : IVec S16 32) (k8_hw52 : k8_chk52 v803), ∀ a x, ((![v803] : Fin 1 → IVec S16 32) a x).toNat < S32768.size a := fun v803 k8_hw52 => k8_hw52

def k8_chk53 (v812 : IVec S16 32) : Prop :=
  (∀ a x, ((![v812] : Fin 1 → IVec S16 32) a x).toNat < S32768.size a)
theorem k8_idx53_inb : ∀ (v812 : IVec S16 32) (k8_hw53 : k8_chk53 v812), ∀ a x, ((![v812] : Fin 1 → IVec S16 32) a x).toNat < S32768.size a := fun v812 k8_hw53 => k8_hw53

def k8_chk54 (v821 : IVec S16 32) : Prop :=
  (∀ a x, ((![v821] : Fin 1 → IVec S16 32) a x).toNat < S32768.size a)
theorem k8_idx54_inb : ∀ (v821 : IVec S16 32) (k8_hw54 : k8_chk54 v821), ∀ a x, ((![v821] : Fin 1 → IVec S16 32) a x).toNat < S32768.size a := fun v821 k8_hw54 => k8_hw54

def k8_chk55 (v830 : IVec S16 32) : Prop :=
  (∀ a x, ((![v830] : Fin 1 → IVec S16 32) a x).toNat < S32768.size a)
theorem k8_idx55_inb : ∀ (v830 : IVec S16 32) (k8_hw55 : k8_chk55 v830), ∀ a x, ((![v830] : Fin 1 → IVec S16 32) a x).toNat < S32768.size a := fun v830 k8_hw55 => k8_hw55

def k8_chk56 (v839 : IVec S16 32) : Prop :=
  (∀ a x, ((![v839] : Fin 1 → IVec S16 32) a x).toNat < S32768.size a)
theorem k8_idx56_inb : ∀ (v839 : IVec S16 32) (k8_hw56 : k8_chk56 v839), ∀ a x, ((![v839] : Fin 1 → IVec S16 32) a x).toNat < S32768.size a := fun v839 k8_hw56 => k8_hw56

def k8_chk57 (v848 : IVec S16 32) : Prop :=
  (∀ a x, ((![v848] : Fin 1 → IVec S16 32) a x).toNat < S32768.size a)
theorem k8_idx57_inb : ∀ (v848 : IVec S16 32) (k8_hw57 : k8_chk57 v848), ∀ a x, ((![v848] : Fin 1 → IVec S16 32) a x).toNat < S32768.size a := fun v848 k8_hw57 => k8_hw57

def k8_chk58 (v857 : IVec S16 32) : Prop :=
  (∀ a x, ((![v857] : Fin 1 → IVec S16 32) a x).toNat < S32768.size a)
theorem k8_idx58_inb : ∀ (v857 : IVec S16 32) (k8_hw58 : k8_chk58 v857), ∀ a x, ((![v857] : Fin 1 → IVec S16 32) a x).toNat < S32768.size a := fun v857 k8_hw58 => k8_hw58

def k8_chk59 (v866 : IVec S16 32) : Prop :=
  (∀ a x, ((![v866] : Fin 1 → IVec S16 32) a x).toNat < S32768.size a)
theorem k8_idx59_inb : ∀ (v866 : IVec S16 32) (k8_hw59 : k8_chk59 v866), ∀ a x, ((![v866] : Fin 1 → IVec S16 32) a x).toNat < S32768.size a := fun v866 k8_hw59 => k8_hw59

def k8_chk60 (v875 : IVec S16 32) : Prop :=
  (∀ a x, ((![v875] : Fin 1 → IVec S16 32) a x).toNat < S32768.size a)
theorem k8_idx60_inb : ∀ (v875 : IVec S16 32) (k8_hw60 : k8_chk60 v875), ∀ a x, ((![v875] : Fin 1 → IVec S16 32) a x).toNat < S32768.size a := fun v875 k8_hw60 => k8_hw60

def k8_chk61 (v884 : IVec S16 32) : Prop :=
  (∀ a x, ((![v884] : Fin 1 → IVec S16 32) a x).toNat < S32768.size a)
theorem k8_idx61_inb : ∀ (v884 : IVec S16 32) (k8_hw61 : k8_chk61 v884), ∀ a x, ((![v884] : Fin 1 → IVec S16 32) a x).toNat < S32768.size a := fun v884 k8_hw61 => k8_hw61

def k8_chk62 (v893 : IVec S16 32) : Prop :=
  (∀ a x, ((![v893] : Fin 1 → IVec S16 32) a x).toNat < S32768.size a)
theorem k8_idx62_inb : ∀ (v893 : IVec S16 32) (k8_hw62 : k8_chk62 v893), ∀ a x, ((![v893] : Fin 1 → IVec S16 32) a x).toNat < S32768.size a := fun v893 k8_hw62 => k8_hw62

def k8_chk63 (v902 : IVec S16 32) : Prop :=
  (∀ a x, ((![v902] : Fin 1 → IVec S16 32) a x).toNat < S32768.size a)
theorem k8_idx63_inb : ∀ (v902 : IVec S16 32) (k8_hw63 : k8_chk63 v902), ∀ a x, ((![v902] : Fin 1 → IVec S16 32) a x).toNat < S32768.size a := fun v902 k8_hw63 => k8_hw63

def k8_chk64 (v911 : IVec S16 32) : Prop :=
  (∀ a x, ((![v911] : Fin 1 → IVec S16 32) a x).toNat < S32768.size a)
theorem k8_idx64_inb : ∀ (v911 : IVec S16 32) (k8_hw64 : k8_chk64 v911), ∀ a x, ((![v911] : Fin 1 → IVec S16 32) a x).toNat < S32768.size a := fun v911 k8_hw64 => k8_hw64

def k8_chk65 (v948 : IVec S16 32) : Prop :=
  (∀ a x, ((![v948] : Fin 1 → IVec S16 32) a x).toNat < S32768.size a)
theorem k8_idx65_inb : ∀ (v948 : IVec S16 32) (k8_hw65 : k8_chk65 v948), ∀ a x, ((![v948] : Fin 1 → IVec S16 32) a x).toNat < S32768.size a := fun v948 k8_hw65 => k8_hw65

def k8_chk66 (v951 : IVec S16 32) : Prop :=
  (∀ a x, ((![v951] : Fin 1 → IVec S16 32) a x).toNat < S1024.size a)
theorem k8_idx66_inb : ∀ (v951 : IVec S16 32) (k8_hw66 : k8_chk66 v951), ∀ a x, ((![v951] : Fin 1 → IVec S16 32) a x).toNat < S1024.size a := fun v951 k8_hw66 => k8_hw66

def k8_chk67 (v956 : IVec S16 32) : Prop :=
  (∀ a x, ((![v956] : Fin 1 → IVec S16 32) a x).toNat < S512.size a)
theorem k8_idx67_inb : ∀ (v956 : IVec S16 32) (k8_hw67 : k8_chk67 v956), ∀ a x, ((![v956] : Fin 1 → IVec S16 32) a x).toNat < S512.size a := fun v956 k8_hw67 => k8_hw67

def k8_chk68 (v959 : IVec S16 32) : Prop :=
  (∀ a x, ((![v959] : Fin 1 → IVec S16 32) a x).toNat < S512.size a)
theorem k8_idx68_inb : ∀ (v959 : IVec S16 32) (k8_hw68 : k8_chk68 v959), ∀ a x, ((![v959] : Fin 1 → IVec S16 32) a x).toNat < S512.size a := fun v959 k8_hw68 => k8_hw68
def k8_off3 (i : grid8.Coords) (k8_t1 : Fin k8_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k8_t1
  let c16_i32 : BitVec 32 := 16#32
  let v9 : BitVec 32 := Scalar.muli arg10 c16_i32
  let v10 : BitVec 32 := Scalar.addi v2 v9
  let c32_i32_162 : BitVec 32 := 32#32
  let v221 : BitVec 32 := Scalar.muli v10 c32_i32_162
  ![v221.toNat]
abbrev grid9 : Pipeline.Grid := ⟨2, ![1, 8], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_2 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_3 (i : grid9.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_12 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_13 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_14 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage9_0 : Fin 2 → Memref sig .tc .vmem S1x256x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x256x32 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S1x2048x512 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1x256x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true]

abbrev stage9_4 : Fin 1 → Memref sig .tc .vmem S512x1024 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false, false]

abbrev stage9_5 : Fin 1 → Memref sig .tc .vmem S1x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false, false]

abbrev stage9_6 : Fin 1 → Memref sig .tc .vmem S1024x512 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false, false]

abbrev stage9_7 : Fin 1 → Memref sig .tc .vmem S1x512 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false, false]

abbrev stage9_8 : Fin 1 → Memref sig .tc .vmem S1x512 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false, false]

abbrev stage9_9 : Fin 1 → Memref sig .tc .vmem S1x512 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false, false]

abbrev stage9_10 : Fin 1 → Memref sig .tc .vmem S512x512 .bf16 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false, false]

abbrev stage9_11 : Fin 1 → Memref sig .tc .vmem S1x512 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false, false]

abbrev stage9_12 : Fin 1 → Memref sig .tc .vmem S512x512 .bf16 := fun | 0 => Memref.whole cc9_stg12_0 | ⟨_ + 1, h⟩ => absurd h (Nat.not_lt.2 (Nat.le_add_left _ _))
abbrev sem9_12 : Fin 1 → DmaSem sig := fun | 0 => cc9_sem12_0 | ⟨_ + 1, h⟩ => absurd h (Nat.not_lt.2 (Nat.le_add_left _ _))
abbrev reads9_12 : Fin grid9.rank → Bool := ![false, false]

abbrev stage9_13 : Fin 1 → Memref sig .tc .vmem S1x512 .f32 := fun | 0 => Memref.whole cc9_stg13_0 | ⟨_ + 1, h⟩ => absurd h (Nat.not_lt.2 (Nat.le_add_left _ _))
abbrev sem9_13 : Fin 1 → DmaSem sig := fun | 0 => cc9_sem13_0 | ⟨_ + 1, h⟩ => absurd h (Nat.not_lt.2 (Nat.le_add_left _ _))
abbrev reads9_13 : Fin grid9.rank → Bool := ![false, false]

abbrev stage9_14 : Fin 2 → Memref sig .tc .vmem S1x256x512 .f32 := fun | 0 => Memref.whole cc9_stg14_0 | 1 => Memref.whole cc9_stg14_1 | ⟨_ + 2, h⟩ => absurd h (Nat.not_lt.2 (Nat.le_add_left _ _))
abbrev sem9_14 : Fin 2 → DmaSem sig := fun | 0 => cc9_sem14_0 | 1 => cc9_sem14_1 | ⟨_ + 2, h⟩ => absurd h (Nat.not_lt.2 (Nat.le_add_left _ _))
abbrev reads9_14 : Fin grid9.rank → Bool := ![true, true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S4x2048x1024 : Shape := ⟨3, ![4, 2048, 1024]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S512x512 : Shape := ⟨2, ![512, 512]⟩
abbrev S4x2048x512 : Shape := ⟨3, ![4, 2048, 512]⟩
abbrev S1x1x512 : Shape := ⟨3, ![1, 1, 512]⟩
abbrev S_ : Shape := ⟨0, ![]⟩
abbrev S4x2048 : Shape := ⟨2, ![4, 2048]⟩
abbrev S4x2048x1 : Shape := ⟨3, ![4, 2048, 1]⟩
abbrev S4x1024x2048 : Shape := ⟨3, ![4, 1024, 2048]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S1x4x2048x2048 : Shape := ⟨4, ![1, 4, 2048, 2048]⟩
abbrev S4x2048x32 : Shape := ⟨3, ![4, 2048, 32]⟩
abbrev S4x2048x32x1 : Shape := ⟨4, ![4, 2048, 32, 1]⟩
abbrev S1 : Shape := ⟨1, ![1]⟩
abbrev S1x1x1x1 : Shape := ⟨4, ![1, 1, 1, 1]⟩
abbrev S4 : Shape := ⟨1, ![4]⟩
abbrev S4x1x1 : Shape := ⟨3, ![4, 1, 1]⟩
abbrev S4x2048x32x2 : Shape := ⟨4, ![4, 2048, 32, 2]⟩
abbrev S4x2048x32x512 : Shape := ⟨4, ![4, 2048, 32, 512]⟩
abbrev S1x1x1024 : Shape := ⟨3, ![1, 1, 1024]⟩

abbrev nBuf : Space → Nat
  | .hbm => 183
  | .vmem => 0
  | .smem => 0
  | _ => 0

abbrev hbmTy0_0 (i : Nat) : BufTy := match i % 128 with
  | 0 => ⟨S4x2048x1024, .f32⟩
  | 1 => ⟨S1024x512, .f32⟩
  | 2 => ⟨S512, .f32⟩
  | 3 => ⟨S512x1024, .f32⟩
  | 4 => ⟨S1024, .f32⟩
  | 5 => ⟨S1024x512, .f32⟩
  | 6 => ⟨S512, .f32⟩
  | 7 => ⟨S512, .f32⟩
  | 8 => ⟨S512, .f32⟩
  | 9 => ⟨S512x512, .f32⟩
  | 10 => ⟨S512, .f32⟩
  | 11 => ⟨S512x512, .f32⟩
  | 12 => ⟨S512, .f32⟩
  | 13 => ⟨S4x2048x512, .f32⟩
  | 14 => ⟨S1x1x512, .f32⟩
  | 15 => ⟨S4x2048x512, .f32⟩
  | 16 => ⟨S4x2048x512, .f32⟩
  | 17 => ⟨S4x2048x1024, .f32⟩
  | 18 => ⟨S_, .f32⟩
  | 19 => ⟨S4x2048, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1024, .f32⟩
  | 26 => ⟨S4x2048x1024, .f32⟩
  | 27 => ⟨S4x1024x2048, .f32⟩
  | 28 => ⟨S4x2048x2048, .f32⟩
  | 29 => ⟨S_, .f32⟩
  | 30 => ⟨S4x2048x2048, .f32⟩
  | 31 => ⟨S4x2048x2048, .f32⟩
  | 32 => ⟨S2048x2048, .i32⟩
  | 33 => ⟨S2048x2048, .i32⟩
  | 34 => ⟨S_, .i32⟩
  | 35 => ⟨S2048x2048, .i32⟩
  | 36 => ⟨S2048x2048, .i32⟩
  | 37 => ⟨S2048x2048, .i1⟩
  | 38 => ⟨S2048x2048, .f32⟩
  | 39 => ⟨S1x2048x2048, .f32⟩
  | 40 => ⟨S1x4x2048x2048, .f32⟩
  | 41 => ⟨S4x2048x2048, .f32⟩
  | 42 => ⟨S_, .f32⟩
  | 43 => ⟨S4x2048x2048, .f32⟩
  | 44 => ⟨S4x2048x2048, .i1⟩
  | 45 => ⟨S_, .f32⟩
  | 46 => ⟨S_, .f32⟩
  | 47 => ⟨S4x2048x2048, .f32⟩
  | 48 => ⟨S4x2048x2048, .f32⟩
  | 49 => ⟨S4x2048x2048, .i32⟩
  | 50 => ⟨S4x2048x2048, .f32⟩
  | 51 => ⟨S4x2048x2048, .i32⟩
  | 52 => ⟨S4x2048x32, .i32⟩
  | 53 => ⟨S_, .i32⟩
  | 54 => ⟨S4x2048x32, .i32⟩
  | 55 => ⟨S4x2048x32, .i1⟩
  | 56 => ⟨S_, .i32⟩
  | 57 => ⟨S4x2048x32, .i32⟩
  | 58 => ⟨S4x2048x32, .i32⟩
  | 59 => ⟨S4x2048x32, .i32⟩
  | 60 => ⟨S4x2048x32x1, .i32⟩
  | 61 => ⟨S1, .i32⟩
  | 62 => ⟨S_, .i32⟩
  | 63 => ⟨S4x2048x32x1, .i32⟩
  | 64 => ⟨S4x2048x32x1, .i1⟩
  | 65 => ⟨S1x1x1x1, .i32⟩
  | 66 => ⟨S4x2048x32x1, .i32⟩
  | 67 => ⟨S4x2048x32x1, .i1⟩
  | 68 => ⟨S4x2048x32x1, .i1⟩
  | 69 => ⟨S_, .i1⟩
  | 70 => ⟨S4x2048x32, .i1⟩
  | 71 => ⟨S4x2048x32, .f32⟩
  | 72 => ⟨S_, .f32⟩
  | 73 => ⟨S4x2048x32, .f32⟩
  | 74 => ⟨S4x2048x32, .f32⟩
  | 75 => ⟨S4, .i32⟩
  | 76 => ⟨S4x1x1, .i32⟩
  | 77 => ⟨S4x2048x32, .i32⟩
  | 78 => ⟨S_, .i32⟩
  | 79 => ⟨S4x2048x32, .i32⟩
  | 80 => ⟨S4x2048x32, .i1⟩
  | 81 => ⟨S_, .i32⟩
  | 82 => ⟨S4x2048x32, .i32⟩
  | 83 => ⟨S4x2048x32, .i32⟩
  | 84 => ⟨S4x2048x32, .i32⟩
  | 85 => ⟨S_, .i32⟩
  | 86 => ⟨S4x2048x32, .i32⟩
  | 87 => ⟨S4x2048x32, .i1⟩
  | 88 => ⟨S_, .i32⟩
  | 89 => ⟨S4x2048x32, .i32⟩
  | 90 => ⟨S4x2048x32, .i32⟩
  | 91 => ⟨S4x2048x32, .i32⟩
  | 92 => ⟨S4x2048x32x1, .i32⟩
  | 93 => ⟨S4x2048x32x1, .i32⟩
  | 94 => ⟨S4x2048x32x2, .i32⟩
  | 95 => ⟨S4x2048x32x512, .f32⟩
  | 96 => ⟨S4x2048x32, .f32⟩
  | 97 => ⟨S_, .f32⟩
  | 98 => ⟨S4x2048, .f32⟩
  | 99 => ⟨S_, .f32⟩
  | 100 => ⟨S4x2048, .f32⟩
  | 101 => ⟨S4x2048, .f32⟩
  | 102 => ⟨S4x2048x1, .f32⟩
  | 103 => ⟨S4x2048x32, .f32⟩
  | 104 => ⟨S4x2048x32, .f32⟩
  | 105 => ⟨S4x2048x32, .f32⟩
  | 106 => ⟨S_, .f32⟩
  | 107 => ⟨S4x2048, .f32⟩
  | 108 => ⟨S4x2048x1, .f32⟩
  | 109 => ⟨S4x2048x32, .f32⟩
  | 110 => ⟨S4x2048x32, .f32⟩
  | 111 => ⟨S4x2048x32x1, .f32⟩
  | 112 => ⟨S4x2048x32x512, .f32⟩
  | 113 => ⟨S4x2048x32x512, .f32⟩
  | 114 => ⟨S_, .f32⟩
  | 115 => ⟨S4x2048x512, .f32⟩
  | 116 => ⟨S4x2048x512, .f32⟩
  | 117 => ⟨S4x2048x1024, .f32⟩
  | 118 => ⟨S1x1x1024, .f32⟩
  | 119 => ⟨S4x2048x1024, .f32⟩
  | 120 => ⟨S4x2048x1024, .f32⟩
  | 121 => ⟨S_, .f32⟩
  | 122 => ⟨S4x2048x1024, .f32⟩
  | 123 => ⟨S4x2048x1024, .f32⟩
  | 124 => ⟨S4x2048x512, .f32⟩
  | 125 => ⟨S1x1x512, .f32⟩
  | 126 => ⟨S4x2048x512, .f32⟩
  | 127 => ⟨S4x2048x512, .f32⟩
  | _ => ⟨S4x2048x1024, .f32⟩

abbrev hbmTy0_1 (i : Nat) : BufTy := match i % 128 with
  | 0 => ⟨S_, .f32⟩
  | 1 => ⟨S4x2048, .f32⟩
  | 2 => ⟨S4x2048x1, .f32⟩
  | 3 => ⟨S_, .f32⟩
  | 4 => ⟨S4x2048x1, .f32⟩
  | 5 => ⟨S4x2048x1, .f32⟩
  | 6 => ⟨S_, .i32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S4x2048x512, .f32⟩
  | 14 => ⟨S4x2048x512, .f32⟩
  | 15 => ⟨S4x2048x512, .f32⟩
  | 16 => ⟨S_, .f32⟩
  | 17 => ⟨S_, .f32⟩
  | 18 => ⟨S_, .f32⟩
  | 19 => ⟨S_, .f32⟩
  | 20 => ⟨S4x2048, .f32⟩
  | 21 => ⟨S4x2048x1, .f32⟩
  | 22 => ⟨S4x2048x1, .f32⟩
  | 23 => ⟨S4x2048x1, .f32⟩
  | 24 => ⟨S_, .f32⟩
  | 25 => ⟨S_, .i1⟩
  | 26 => ⟨S_, .f32⟩
  | 27 => ⟨S_, .f32⟩
  | 28 => ⟨S4x2048x1, .f32⟩
  | 29 => ⟨S4x2048x1, .f32⟩
  | 30 => ⟨S4x2048x512, .f32⟩
  | 31 => ⟨S4x2048x512, .f32⟩
  | 32 => ⟨S_, .f32⟩
  | 33 => ⟨S4x2048x1, .f32⟩
  | 34 => ⟨S4x2048x1, .f32⟩
  | 35 => ⟨S4x2048x1, .f32⟩
  | 36 => ⟨S4x2048x512, .f32⟩
  | 37 => ⟨S4x2048x512, .f32⟩
  | 38 => ⟨S1x1x512, .f32⟩
  | 39 => ⟨S4x2048x512, .f32⟩
  | 40 => ⟨S4x2048x512, .f32⟩
  | 41 => ⟨S1x1x512, .f32⟩
  | 42 => ⟨S4x2048x512, .f32⟩
  | 43 => ⟨S4x2048x512, .f32⟩
  | 44 => ⟨S4x2048x512, .f32⟩
  | 45 => ⟨S1x1x512, .f32⟩
  | 46 => ⟨S4x2048x512, .f32⟩
  | 47 => ⟨S4x2048x512, .f32⟩
  | 48 => ⟨S_, .f32⟩
  | 49 => ⟨S4x2048x512, .f32⟩
  | 50 => ⟨S4x2048x512, .f32⟩
  | 51 => ⟨S4x2048x512, .f32⟩
  | 52 => ⟨S1x1x512, .f32⟩
  | 53 => ⟨S4x2048x512, .f32⟩
  | 54 => ⟨S4x2048x512, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v24 : Ref sig .tc := ⟨.hbm, 48, rfl⟩
abbrev main_call2_v0 : Ref sig .tc := ⟨.hbm, 49, rfl⟩
abbrev main_call2_v1_0 : Ref sig .tc := ⟨.hbm, 50, rfl⟩
abbrev main_v25 : Ref sig .tc := ⟨.hbm, 51, rfl⟩
abbrev main_v26 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_3 : Ref sig .tc := ⟨.hbm, 78, rfl⟩
abbrev main_v31 : Ref sig .tc := ⟨.hbm, 79, rfl⟩
abbrev main_v32 : Ref sig .tc := ⟨.hbm, 80, rfl⟩
abbrev main_c_4 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c_5 : Ref sig .tc := ⟨.hbm, 85, rfl⟩
abbrev main_v36 : Ref sig .tc := ⟨.hbm, 86, rfl⟩
abbrev main_v37 : Ref sig .tc := ⟨.hbm, 87, rfl⟩
abbrev main_c_6 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_7 : Ref sig .tc := ⟨.hbm, 97, rfl⟩
abbrev main_v46 : Ref sig .tc := ⟨.hbm, 98, rfl⟩
abbrev main_cst_8 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_9 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_10 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_call4_cst : Ref sig .tc := ⟨.hbm, 121, rfl⟩
abbrev main_call4_v0 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_11 : Ref sig .tc := ⟨.hbm, 128, rfl⟩
abbrev main_v71 : Ref sig .tc := ⟨.hbm, 129, rfl⟩
abbrev main_v72 : Ref sig .tc := ⟨.hbm, 130, rfl⟩
abbrev main_cst_12 : Ref sig .tc := ⟨.hbm, 131, rfl⟩
abbrev main_v73 : Ref sig .tc := ⟨.hbm, 132, rfl⟩
abbrev main_v74 : Ref sig .tc := ⟨.hbm, 133, rfl⟩
abbrev main_c_13 : Ref sig .tc := ⟨.hbm, 134, rfl⟩
abbrev main_call5_cst : Ref sig .tc := ⟨.hbm, 135, rfl⟩
abbrev main_call5_v0 : Ref sig .tc := ⟨.hbm, 136, rfl⟩
abbrev main_call5_v1 : Ref sig .tc := ⟨.hbm, 137, rfl⟩
abbrev main_call5_cst_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_v6 : Ref sig .tc := ⟨.hbm, 143, rfl⟩
abbrev main_call5_v7 : Ref sig .tc := ⟨.hbm, 144, rfl⟩
abbrev main_call5_cst_1 : Ref sig .tc := ⟨.hbm, 145, rfl⟩
abbrev main_call5_v8 : Ref sig .tc := ⟨.hbm, 146, rfl⟩
abbrev main_call5_cst_2 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_v12 : Ref sig .tc := ⟨.hbm, 151, rfl⟩
abbrev main_call5_cst_3 : Ref sig .tc := ⟨.hbm, 152, rfl⟩
abbrev main_call5_v13 : Ref sig .tc := ⟨.hbm, 153, rfl⟩
abbrev main_call5_cst_4 : Ref sig .tc := ⟨.hbm, 154, rfl⟩
abbrev main_call5_call0_v0 : Ref sig .tc := ⟨.hbm, 155, rfl⟩
abbrev main_call5_call0_v1 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_cst_14 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_call6_cst : Ref sig .tc := ⟨.hbm, 176, rfl⟩
abbrev main_call6_v0 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩

abbrev nD : Nat := 1
abbrev τ : Topo := Topo.v7x

variable {F : FTy → Type} [FloatOps F]
-- ==== Proof.TopkProg.lean ====
/-
  The selection stage of the SparseCore kernel, written as recursions.

  A tile holds sixteen rows of distances in `arg5` (row `l` at words `2048 l …`) and, in `arg6`, the minima of the
  rows' sixty-four chunks of 32 columns (chunk `c` of row `l` at word `16 c + l`).  The printed text unrolls every
  scan; here each scan is one recursive program with four rotating accumulators, and the printed loop bodies are
  shown to be these programs.
-/
module

public import proofs.«01_k».proof.Proof.Gen.KernelIdeal.Skeleton

@[expose] public section

noncomputable section

namespace Cert.Topk

open Idealize.SL Idealize.SL.Sem Idealize.ShloMosaic Cert.KernelIdeal Cert.KernelIdeal.Gen

variable {F : FTy → Type} [FloatOps F]

/-- Programs of one tile. -/
abbrev TP (F : FTy → Type) (i : grid2.Coords) (α : Type) : Type 1 :=
  Prog (TpuEff nD τ sig (Elt F) Λ₀ (.scVector ((i 0).castLE hcore2) ((i 1).castLE hsub2))) α

variable (i : grid2.Coords) (arg5 : Memref sig .scVector .vmem S32768 .f32) (arg6 : Memref sig .scVector .vmem S1024 .f32)
  (arg7 : Memref sig .scVector .vmem S512 .f32) (arg8 : Memref sig .scVector .vmem S512 .i32)

/-- A word of every row at once: the gather at an index vector, its range assumed. -/
def gld (v : IVec S16 32) : TP F i (Vec F S16 .f32) := do
  have hw : k2_chk1 v := (← Prog.lift (TpuEff.assume (k2_chk1 v) (k2_chk1.dec v))).down
  SparseCore.vectorLoadIdx arg5 ![v] (k2_idx1_inb v hw) (View.loads_vmem h_S32768)

/-- Sixteen neighbouring words of the chunk minima. -/
def cld (n : Nat) (h : n < 64) : TP F i (Vec F S16 .f32) :=
  Prog.lift (.load arg6 (Rect.unit (s := S1024) ![16 * n] S16.size (fun a => by
    obtain rfl : a = 0 := Subsingleton.elim (α := Fin 1) _ _
    show 16 * n + 16 ≤ 1024; omega)).toLoadRect (View.loadsAt_vmem h_S16))

/-- The words `n, n + 1, …, 31` of a chunk, each lowering the accumulator four places back. -/
def minScan (base : IVec S16 32) : Nat → Vec F S16 .f32 → Vec F S16 .f32 → Vec F S16 .f32 → Vec F S16 .f32 → TP F i (Vec F S16 .f32)
  | 0, a, b, c, d => pure (minimumf (minimumf a b) (minimumf c d))
  | k + 1, a, b, c, d => do
    let v ← gld i arg5 (addi base (broadcast S16 (BitVec.ofNat 32 (31 - k))))
    minScan base k b c d (minimumf a v)

/-- One trip of the chunk-minimum loop. -/
def cmBody (t : Fin k2_t2_loop.trips) (_ : Unit) : TP F i Unit := do
  let v ← minScan i arg5 (addi k2_pay1 (broadcast S16 (Scalar.muli (Scf.iv 0#32 1#32 t) 32#32))) 32 (k2_pay3 (F := F)) (k2_pay3 (F := F)) (k2_pay3 (F := F)) (k2_pay3 (F := F))
  let _ ← Prog.lift (.load arg6 (Rect.unit (s := S1024) (k2_off2 t) S16.size (k2_off2_inb t)).toLoadRect (View.loadsAt_vmem h_S16))
  Prog.lift (.store arg6 (Rect.unit (s := S1024) (k2_off2 t) S16.size (k2_off2_inb t)) v Finset.univ (View.stores_vmem_bits_univ h_S16 rfl) (.inl rfl))

set_option maxHeartbeats 8000000 in
set_option maxRecDepth 65536 in
theorem cmBody_eq (arg2 : Memref sig .scVector .hbm S4x2048x2048 .f32) (h2 : arg2.IsWhole) (arg3 : Memref sig .scVector .hbm S65536 .f32) (h3 : arg3.IsWhole)
    (arg4 : Memref sig .scVector .hbm S65536 .i32) (h4 : arg4.IsWhole) (h5 : arg5.IsWhole) (h6 : arg6.IsWhole) (h7 : arg7.IsWhole) (h8 : arg8.IsWhole)
    (arg9 s0 s1 : DmaSems sig S_) :
    k2_t2_body (F := F) i arg2 h2 arg3 h3 arg4 h4 arg5 h5 arg6 h6 arg7 h7 arg8 h8 arg9 s0 s1 = cmBody i arg5 arg6 := by
  funext t u
  simp only [k2_t2_body, cmBody, k2_part1, k2_part2, k2_part3, minScan, gld, bind_assoc, pure_bind, k2_pay4, k2_pay5, k2_pay6, k2_pay7]
  rfl

/-- The lesser of two candidates (a value and its number), of equal ones the one of the lower number. -/
def cmerge (x y : Vec F S16 .f32 × IVec S16 32) : Vec F S16 .f32 × IVec S16 32 :=
  (select (ori (cmpf .olt y.1 x.1) (andi (cmpf .oeq y.1 x.1) (cmpi .slt y.2 x.2))) y.1 x.1,
    select (ori (cmpf .olt y.1 x.1) (andi (cmpf .oeq y.1 x.1) (cmpi .slt y.2 x.2))) y.2 x.2)

/-- A candidate against number `n`'s value `v`. -/
def cstep (a : Vec F S16 .f32 × IVec S16 32) (n : Nat) (v : Vec F S16 .f32) : Vec F S16 .f32 × IVec S16 32 :=
  (select (cmpf .olt v a.1) v a.1, select (cmpf .olt v a.1) (addi (broadcast S16 (BitVec.ofNat 32 n)) k2_pay2) a.2)

/-- The chunk minima `64 - k, …, 63`: four rotating accumulators of the least minimum met and its chunk; at the end the
    four are merged. -/
def colScan : (k : Nat) → k ≤ 64 → (Vec F S16 .f32 × IVec S16 32) → (Vec F S16 .f32 × IVec S16 32) → (Vec F S16 .f32 × IVec S16 32) →
    (Vec F S16 .f32 × IVec S16 32) → TP F i (IVec S16 32)
  | 0, _, a, b, c, d => pure (cmerge (cmerge (cmerge a b) c) d).2
  | k + 1, h, a, b, c, d => do
    let v ← cld i arg6 (63 - k) (by omega)
    colScan k (by omega) b c d (cstep a (63 - k) v)

/-- What a scan of a chunk keeps: the least word, its column, the second least. -/
structure Best (F : FTy → Type) where
  best : Vec F S16 .f32
  col : IVec S16 32
  second : Vec F S16 .f32

/-- Whether the second of two goes before the first: it is less, or equal at a lower column. -/
def before (x y : Best F) : IVec S16 1 :=
  ori (cmpf .olt y.best x.best) (andi (cmpf .oeq y.best x.best) (cmpi .slt y.col x.col))

/-- Two scans of disjoint columns as one. -/
def gmerge (x y : Best F) : Best F where
  best := select (before x y) y.best x.best
  col := select (before x y) y.col x.col
  second := select (before x y) (minimumf y.second x.best) (minimumf x.second y.best)

/-- A scan that meets word `v` at column `cv`. -/
def gstep (a : Best F) (cv : IVec S16 32) (v : Vec F S16 .f32) : Best F where
  best := select (cmpf .olt v a.best) v a.best
  col := select (cmpf .olt v a.best) cv a.col
  second := select (cmpf .olt v a.best) a.best (minimumf a.second v)

/-- The columns `cb + 32 - k, …, cb + 31`, by four rotating accumulators, merged at the end. -/
def gScan (cb : IVec S16 32) : Nat → Best F → Best F → Best F → Best F → TP F i (Best F)
  | 0, a, b, c, d => pure (gmerge (gmerge (gmerge a b) c) d)
  | k + 1, a, b, c, d => do
    let v ← gld i arg5 (addi k2_pay1 (addi cb (broadcast S16 (BitVec.ofNat 32 (31 - k)))))
    gScan cb k b c d (gstep a (addi cb (broadcast S16 (BitVec.ofNat 32 (31 - k)))) v)

/-- The scans' start. -/
def c0 : Vec F S16 .f32 × IVec S16 32 := (k2_pay3, k2_pay2)
def g0 : Best F := ⟨k2_pay3, k2_pay2, k2_pay3⟩

/-- The stores that end a trip of the selection loop. -/
def selStores (w : BitVec 32) (cidx : IVec S16 32) (s : Best F) : TP F i Unit := do
  have hw65 : k2_chk65 (addi k2_pay1 s.col) := (← Prog.lift (TpuEff.assume _ (k2_chk65.dec (addi k2_pay1 s.col)))).down
  SparseCore.vectorStoreIdx arg5 ![addi k2_pay1 s.col] (k2_pay3 (F := F)) (fun _ => 1#1) false (k2_idx65_inb _ hw65) (View.stores_vmem_bits_univ h_S32768 rfl)
  have hw66 : k2_chk66 (k2_pay15 cidx) := (← Prog.lift (TpuEff.assume _ (k2_chk66.dec (k2_pay15 cidx)))).down
  SparseCore.vectorStoreIdx arg6 ![k2_pay15 cidx] s.second (fun _ => 1#1) false (k2_idx66_inb _ hw66) (View.stores_vmem_bits_univ h_S1024 rfl)
  have hw67 : k2_chk67 (k2_pay17 w) := (← Prog.lift (TpuEff.assume _ (k2_chk67.dec (k2_pay17 w)))).down
  SparseCore.vectorStoreIdx arg7 ![k2_pay17 w] s.best (fun _ => 1#1) false (k2_idx67_inb _ hw67) (View.stores_vmem_bits_univ h_S512 rfl)
  have hw68 : k2_chk68 (k2_pay18 w) := (← Prog.lift (TpuEff.assume _ (k2_chk68.dec (k2_pay18 w)))).down
  SparseCore.vectorStoreIdx arg8 ![k2_pay18 w] s.col (fun _ => 1#1) false (k2_idx68_inb _ hw68) (View.stores_vmem_bits_univ h_S512 rfl)
  pure ⟨⟩

/-- One trip of the selection loop: the chunk of the least minimum, the least word in it, that word struck out, the
    chunk's minimum replaced by the second least, word and column appended to the results. -/
def selBody (t : Fin k2_t3_loop.trips) (_ : Unit) : TP F i Unit := do
  let cidx ← colScan i arg6 64 le_rfl c0 c0 c0 c0
  let s ← gScan i arg5 (muli cidx (broadcast S16 32#32)) 32 g0 g0 g0 g0
  selStores i arg5 arg6 arg7 arg8 (Scf.iv 0#32 1#32 t) cidx s

set_option maxHeartbeats 40000000 in
set_option maxRecDepth 65536 in
/-- The printed parts that scan the chunk minima are `colScan`. -/
theorem colPart_eq (arg2 : Memref sig .scVector .hbm S4x2048x2048 .f32) (h2 : arg2.IsWhole) (arg3 : Memref sig .scVector .hbm S65536 .f32) (h3 : arg3.IsWhole)
    (arg4 : Memref sig .scVector .hbm S65536 .i32) (h4 : arg4.IsWhole) (h5 : arg5.IsWhole) (h6 : arg6.IsWhole) (h7 : arg7.IsWhole) (h8 : arg8.IsWhole)
    (arg9 s0 s1 : DmaSems sig S_) (t : Fin k2_t3_loop.trips) {β : Type} (K : BitVec 32 → IVec S16 32 → IVec S16 32 → IVec S16 32 → TP F i β) :
    (do
      let ⟨a11, x1, x2, x3, x4, x5, x6, x7, x8, x9, x10⟩ ← k2_part4 i arg2 h2 arg3 h3 arg4 h4 arg5 h5 arg6 h6 arg7 h7 arg8 h8 arg9 s0 s1 k2_pay2 (k2_pay3 (F := F)) 0#32 1#32 t
      let ⟨x1, x2, x3, x4, x5, x6, x7, x8, x9, x10⟩ ← k2_part5 i arg2 h2 arg3 h3 arg4 h4 arg5 h5 arg6 h6 arg7 h7 arg8 h8 arg9 s0 s1 k2_pay2 x1 x2 x3 x4 x5 x6 x7 x8 x9 x10
      let ⟨x1, x2, x3, x4, x5, x6, x7, x8, x9, x10⟩ ← k2_part6 i arg2 h2 arg3 h3 arg4 h4 arg5 h5 arg6 h6 arg7 h7 arg8 h8 arg9 s0 s1 k2_pay2 x1 x2 x3 x4 x5 x6 x7 x8 x9 x10
      let ⟨x1, x2, x3, x4, x5, x6, x7, x8, x9, x10⟩ ← k2_part7 i arg2 h2 arg3 h3 arg4 h4 arg5 h5 arg6 h6 arg7 h7 arg8 h8 arg9 s0 s1 k2_pay2 x1 x2 x3 x4 x5 x6 x7 x8 x9 x10
      let ⟨x1, x2, x3, x4, x5, x6, x7, x8, x9, x10⟩ ← k2_part8 i arg2 h2 arg3 h3 arg4 h4 arg5 h5 arg6 h6 arg7 h7 arg8 h8 arg9 s0 s1 k2_pay2 x1 x2 x3 x4 x5 x6 x7 x8 x9 x10
      let ⟨x1, x2, x3, x4, x5, x6, x7, x8, x9, x10⟩ ← k2_part9 i arg2 h2 arg3 h3 arg4 h4 arg5 h5 arg6 h6 arg7 h7 arg8 h8 arg9 s0 s1 k2_pay2 x1 x2 x3 x4 x5 x6 x7 x8 x9 x10
      let ⟨x1, x2, x3, x4, x5, x6, x7, x8, x9, x10⟩ ← k2_part10 i arg2 h2 arg3 h3 arg4 h4 arg5 h5 arg6 h6 arg7 h7 arg8 h8 arg9 s0 s1 k2_pay2 x1 x2 x3 x4 x5 x6 x7 x8 x9 x10
      let ⟨x1, x2, x3, x4, x5, x6, x7, x8, x9, x10⟩ ← k2_part11 i arg2 h2 arg3 h3 arg4 h4 arg5 h5 arg6 h6 arg7 h7 arg8 h8 arg9 s0 s1 k2_pay2 x1 x2 x3 x4 x5 x6 x7 x8 x9 x10
      let ⟨v627, v629, v631⟩ ← k2_part12 i arg2 h2 arg3 h3 arg4 h4 arg5 h5 arg6 h6 arg7 h7 arg8 h8 arg9 s0 s1 k2_pay2 x1 x2 x3 x4 x5 x6 x7 x8 x9 x10
      K a11 v627 v629 v631)
    = (do
      let c ← colScan i arg6 64 le_rfl c0 c0 c0 c0
      K (Scf.iv 0#32 1#32 t) c (muli c (broadcast S16 32#32)) (addi (muli c (broadcast S16 32#32)) (broadcast S16 0#32))) := by
  rfl

set_option maxHeartbeats 40000000 in
set_option maxRecDepth 65536 in
/-- The printed parts that scan one chunk are `gScan`. -/
theorem gPart_eq (arg2 : Memref sig .scVector .hbm S4x2048x2048 .f32) (h2 : arg2.IsWhole) (arg3 : Memref sig .scVector .hbm S65536 .f32) (h3 : arg3.IsWhole)
    (arg4 : Memref sig .scVector .hbm S65536 .i32) (h4 : arg4.IsWhole) (h5 : arg5.IsWhole) (h6 : arg6.IsWhole) (h7 : arg7.IsWhole) (h8 : arg8.IsWhole)
    (arg9 s0 s1 : DmaSems sig S_) (cb : IVec S16 32) {β : Type} (K : Best F → TP F i β) :
    (do
    let ⟨v646, v647, v654, v655, v656, v663, v664, v665, v672, v673, v674, v676, v678, v679, v680⟩ ← k2_part13 i arg2 h2 arg3 h3 arg4 h4 arg5 h5 arg6 h6 arg7 h7 arg8 h8 arg9 s0 s1 k2_pay1 k2_pay2 (k2_pay3 (F := F)) cb (addi cb (broadcast S16 0#32))
    let ⟨v699, v700, v701, v708, v709, v710, v717, v718, v719, v726, v727, v728, v729⟩ ← k2_part14 i arg2 h2 arg3 h3 arg4 h4 arg5 h5 arg6 h6 arg7 h7 arg8 h8 arg9 s0 s1 k2_pay1 cb v646 v647 v654 v655 v656 v663 v664 v665 v672 v673 v674 v676 v678 v679 v680
    let ⟨v744, v745, v746, v753, v754, v755, v762, v763, v764, v771, v772, v773, v775, v777, v778⟩ ← k2_part15 i arg2 h2 arg3 h3 arg4 h4 arg5 h5 arg6 h6 arg7 h7 arg8 h8 arg9 s0 s1 k2_pay1 cb v699 v700 v701 v708 v709 v710 v717 v718 v719 v726 v727 v728 v729
    let ⟨v798, v799, v800, v807, v808, v809, v816, v817, v818, v825, v826, v827, c22⟩ ← k2_part16 i arg2 h2 arg3 h3 arg4 h4 arg5 h5 arg6 h6 arg7 h7 arg8 h8 arg9 s0 s1 k2_pay1 cb v744 v745 v746 v753 v754 v755 v762 v763 v764 v771 v772 v773 v775 v777 v778
    let ⟨v843, v844, v845, v852, v853, v854, v861, v862, v863, v870, v871, v872, v874, v876⟩ ← k2_part17 i arg2 h2 arg3 h3 arg4 h4 arg5 h5 arg6 h6 arg7 h7 arg8 h8 arg9 s0 s1 k2_pay1 cb v798 v799 v800 v807 v808 v809 v816 v817 v818 v825 v826 v827 c22
    let ⟨v906, v907, v908, v915, v916, v917, v925, v926, v927, v928⟩ ← k2_part18 i arg2 h2 arg3 h3 arg4 h4 arg5 h5 arg6 h6 arg7 h7 arg8 h8 arg9 s0 s1 k2_pay1 cb v843 v844 v845 v852 v853 v854 v861 v862 v863 v870 v871 v872 v874 v876
    K ⟨k2_pay13 v907 v908 v916 v917 v926 v927 v928, k2_pay14 v907 v908 v916 v917 v926 v927 v928, k2_pay12 v906 v907 v908 v915 v916 v917 v925 v926 v927 v928⟩)
    = (do
      let s ← gScan i arg5 cb 32 g0 g0 g0 g0
      K s) := by
  rfl

set_option maxHeartbeats 1000000 in
set_option maxRecDepth 65536 in
theorem selBody_eq (arg2 : Memref sig .scVector .hbm S4x2048x2048 .f32) (h2 : arg2.IsWhole) (arg3 : Memref sig .scVector .hbm S65536 .f32) (h3 : arg3.IsWhole)
    (arg4 : Memref sig .scVector .hbm S65536 .i32) (h4 : arg4.IsWhole) (h5 : arg5.IsWhole) (h6 : arg6.IsWhole) (h7 : arg7.IsWhole) (h8 : arg8.IsWhole)
    (arg9 s0 s1 : DmaSems sig S_) :
    k2_t3_body (F := F) i arg2 h2 arg3 h3 arg4 h4 arg5 h5 arg6 h6 arg7 h7 arg8 h8 arg9 s0 s1 = selBody i arg5 arg6 arg7 arg8 := by
  funext t u
  have hB := funext fun c : IVec S16 32 =>
    gPart_eq (F := F) i arg5 arg6 arg7 arg8 arg2 h2 arg3 h3 arg4 h4 h5 h6 h7 h8 arg9 s0 s1 (muli c (broadcast S16 32#32)) (fun s => selStores i arg5 arg6 arg7 arg8 (Scf.iv 0#32 1#32 t) c s)
  refine Eq.trans ?_ ((congrArg (fun K => colScan i arg6 64 le_rfl c0 c0 c0 c0 >>= K) hB))
  exact colPart_eq (F := F) i arg5 arg6 arg7 arg8 arg2 h2 arg3 h3 arg4 h4 h5 h6 h7 h8 arg9 s0 s1 t (fun a11 c cb x => do
    let ⟨v646, v647, v654, v655, v656, v663, v664, v665, v672, v673, v674, v676, v678, v679, v680⟩ ← k2_part13 i arg2 h2 arg3 h3 arg4 h4 arg5 h5 arg6 h6 arg7 h7 arg8 h8 arg9 s0 s1 k2_pay1 k2_pay2 (k2_pay3 (F := F)) cb x
    let ⟨v699, v700, v701, v708, v709, v710, v717, v718, v719, v726, v727, v728, v729⟩ ← k2_part14 i arg2 h2 arg3 h3 arg4 h4 arg5 h5 arg6 h6 arg7 h7 arg8 h8 arg9 s0 s1 k2_pay1 cb v646 v647 v654 v655 v656 v663 v664 v665 v672 v673 v674 v676 v678 v679 v680
    let ⟨v744, v745, v746, v753, v754, v755, v762, v763, v764, v771, v772, v773, v775, v777, v778⟩ ← k2_part15 i arg2 h2 arg3 h3 arg4 h4 arg5 h5 arg6 h6 arg7 h7 arg8 h8 arg9 s0 s1 k2_pay1 cb v699 v700 v701 v708 v709 v710 v717 v718 v719 v726 v727 v728 v729
    let ⟨v798, v799, v800, v807, v808, v809, v816, v817, v818, v825, v826, v827, c22⟩ ← k2_part16 i arg2 h2 arg3 h3 arg4 h4 arg5 h5 arg6 h6 arg7 h7 arg8 h8 arg9 s0 s1 k2_pay1 cb v744 v745 v746 v753 v754 v755 v762 v763 v764 v771 v772 v773 v775 v777 v778
    let ⟨v843, v844, v845, v852, v853, v854, v861, v862, v863, v870, v871, v872, v874, v876⟩ ← k2_part17 i arg2 h2 arg3 h3 arg4 h4 arg5 h5 arg6 h6 arg7 h7 arg8 h8 arg9 s0 s1 k2_pay1 cb v798 v799 v800 v807 v808 v809 v816 v817 v818 v825 v826 v827 c22
    let ⟨v906, v907, v908, v915, v916, v917, v925, v926, v927, v928⟩ ← k2_part18 i arg2 h2 arg3 h3 arg4 h4 arg5 h5 arg6 h6 arg7 h7 arg8 h8 arg9 s0 s1 k2_pay1 cb v843 v844 v845 v852 v853 v854 v861 v862 v863 v870 v871 v872 v874 v876
    selStores i arg5 arg6 arg7 arg8 a11 c ⟨k2_pay13 v907 v908 v916 v917 v926 v927 v928, k2_pay14 v907 v908 v916 v917 v926 v927 v928, k2_pay12 v906 v907 v908 v915 v916 v917 v925 v926 v927 v928⟩)

end Cert.Topk

end
-- ==== Proof.Mem.lean ====
/-
  Gathers, scatters, loads and stores on a buffer of a tile, stated over the buffer's contents.
-/
module

public import Idealize.ShloMosaic.Lib.SparseCore.Ops
public import Idealize.ShloMosaic.Lib.Memref
public import Idealize.ShloMosaic.Lib.Tactic

@[expose] public section

noncomputable section

namespace Cert.Mem

open Idealize.SL Idealize.ShloMosaic
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s t : Shape} {e : EltTy} {α : Type} {Q : α → sProp (MT nD τ sig Ix (Elt F) Name U Lvl)}

local notation "𝕄" => MT nD τ sig Ix (Elt F) Name U Lvl

omit [FloatOps F] in
/-- The whole rectangle's view reads what the memref's does. -/
theorem read_access_whole {κ : Kind} {sp : Space} (m : Memref sig κ sp s e) (f : m.view.ty.Contents (Elt F)) :
    (m.access (.whole s)).read (Elt F) f = m.view.read (Elt F) f := by
  funext x
  show m.view.read (Elt F) f ((Rect.whole s).emb x) = _
  congr 1
  funext a
  apply Fin.ext
  simp [Rect.whole, Rect.emb]

omit [FloatOps F] in
theorem set_access_whole_subset {κ : Kind} {sp : Space} (m : Memref sig κ sp s e) (r : Rect s) :
    (m.access r).set ⊆ m.view.set := by
  rw [View.set_slice]; exact View.setOn_subset_set _ _

omit [FloatOps F] in
/-- A gather at the head of a program. -/
theorem wp_gather {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {X : s.Idx → Elt F e} :
    (owns c base q X : sProp 𝕄)
      ⊢ iprop((owns c base q X -∗ wp frame (wpE defs 𝒱 c bd) E (k (loadIdx X idxs h)) Q)
        -∗ wp frame (wpE defs 𝒱 c bd) E (SparseCore.vectorLoadIdx base idxs h hl >>= k) Q) := by
  unfold owns
  iintro ⟨%f, %hf, H⟩ Hk
  iapply (SparseCore.wp_vectorLoadIdx (defs := defs) 𝒱 c bd E (Q := Q) (base := base) (S := base.view.set) (f := f) (set_access_whole_subset base _)) $$ H
  iintro H
  rw [read_access_whole, hf]
  iapply Hk
  iexists f
  isplitr
  · ipureintro; exact hf
  · iexact H

omit [FloatOps F] in
/-- A load of a rectangle. -/
theorem wp_loadR {base : Memref sig c.2.kind .vmem s e} {r : Rect s} {hl : base.view.LoadsAt r}
    {k : (r.shape.Idx → Elt F e) → Prog (TpuEff nD τ sig (Elt F) Λ c.2) α}
    {q : PosShare TreeShare} {X : s.Idx → Elt F e} :
    (owns c base q X : sProp 𝕄)
      ⊢ iprop((owns c base q X -∗ wp frame (wpE defs 𝒱 c bd) E (k (fun x => X (r.emb x))) Q)
        -∗ wp frame (wpE defs 𝒱 c bd) E (.op (.load base r hl) k) Q) := by
  unfold owns
  iintro ⟨%f, %hf, H⟩ Hk
  iapply (wp_load_rect (defs := defs) 𝒱 c bd E (Q := Q) (m := base) (r := r) (S := base.view.set) (f := f) (set_access_whole_subset base _)) $$ H
  iintro H
  rw [show (base.access r).read (Elt F) f = fun x => X (r.emb x) by subst hf; rfl]
  iapply Hk
  iexists f
  isplitr
  · ipureintro; exact hf
  · iexact H

omit [FloatOps F] in
/-- A store of a rectangle: the contents change on the rectangle. -/
theorem wp_storeR {base : Memref sig c.2.kind .vmem s e} {r : Rect s} {w : r.shape.Idx → Elt F e}
    {hx : (base.access r).Stores Finset.univ} {hm : (Finset.univ : Finset r.shape.Idx) = Finset.univ ∨ ∀ a, r.stride a = 1}
    {k : PUnit → Prog (TpuEff nD τ sig (Elt F) Λ c.2) α} {X Y : s.Idx → Elt F e}
    (hY : ∀ x, Y (r.emb x) = w x) (hN : ∀ j, j ∉ r.set → Y j = X j) :
    (owns c base fullShare X : sProp 𝕄)
      ⊢ iprop((owns c base fullShare Y -∗ wp frame (wpE defs 𝒱 c bd) E (k ⟨⟩) Q)
        -∗ wp frame (wpE defs 𝒱 c bd) E (.op (.store base r w Finset.univ hx hm) k) Q) := by
  unfold owns
  iintro ⟨%f, %hf, H⟩ Hk
  iapply (wp_store (defs := defs) 𝒱 c bd E (Q := Q) (m := base) (r := r) (Mk := Finset.univ) (hx := hx) (hm := hm) (S := base.view.set) (f := f)
    ((View.setOn_subset_set _ _).trans (set_access_whole_subset base r))) $$ H
  iintro H
  iapply Hk
  iexists ((base.access r).write (Elt F) f w Finset.univ)
  isplitr
  · ipureintro
    funext j
    by_cases hj : j ∈ r.set
    · obtain ⟨x, -, rfl⟩ := Finset.mem_map.mp (by rw [Rect.map_emb_univ]; exact hj)
      rw [hY]
      exact View.read_slice_write_emb _ _ _ (Finset.mem_univ x)
    · rw [hN j hj, ← hf]
      exact View.read_slice_write_of_not_mem _ _ _ _ (by rw [Rect.map_emb_univ]; exact hj)
  · iexact H

/-- A scatter's contents: at each lane's index that lane's value (lanes that share an index agreeing), elsewhere as before. -/
theorem storeIdx_eq {d : Fin 1 → Nat} {X Y : s.Idx → Elt F e} {idxs : Fin s.rank → IVec ⟨1, d⟩ 32} {v : Vec F ⟨1, d⟩ e}
    {h : ∀ a x, (idxs a x).toNat < s.size a} (hY : ∀ x, Y (idxAt idxs h x) = v x)
    (hN : ∀ j, (∀ x, j ≠ idxAt idxs h x) → Y j = X j) : storeIdx X idxs v (fun _ => 1#1) false h = Y := by
  have key : ∀ (L : List (Fin (d 0))) (g : s.Idx → Elt F e) (j : s.Idx), (g j = Y j ∨ (g j = X j ∧ ∀ k, k ∉ L → j ≠ idxAt idxs h (Shape.ofLane k))) →
      L.foldl (fun g k =>
        let x := Shape.ofLane k
        if (fun _ => 1#1 : IVec ⟨1, d⟩ 1) x = 1 then
          let i := idxAt idxs h x
          let y := if false = true then Elt.idxAdd e (g i) (v x) else v x
          fun j => if (∀ a, (j a).val = (i a).val) then y else g j
        else g) g j = Y j := by
    intro L
    induction L with
    | nil =>
      intro g j hg
      rcases hg with hg | ⟨hg, hn⟩
      · exact hg
      · refine hg.trans (hN j fun x => ?_).symm
        have hx : x = Shape.ofLane (x 0) := by funext a; obtain rfl : a = 0 := Subsingleton.elim (α := Fin 1) _ _; rfl
        rw [hx]; exact hn _ (List.not_mem_nil)
    | cons k L ih =>
      intro g j hg
      refine ih _ j ?_
      by_cases hm : j = idxAt idxs h (Shape.ofLane k)
      · left
        subst hm
        simp [hY]
      · have hm' : ¬ ∀ a, (j a).val = (idxAt idxs h (Shape.ofLane k) a).val := fun hh => hm (funext fun a => Fin.ext (hh a))
        simp only [Bool.false_eq_true, if_false]
        have hgj : (if (fun _ => 1#1 : IVec ⟨1, d⟩ 1) (Shape.ofLane k) = 1 then fun j => if (∀ a, (j a).val = (idxAt idxs h (Shape.ofLane k) a).val) then v (Shape.ofLane k) else g j else g) j = g j := by
          simp [hm']
        rw [hgj]
        rcases hg with hg | ⟨hg, hn⟩
        · exact .inl hg
        · refine .inr ⟨hg, fun k' hk' => ?_⟩
          by_cases hkk : k' = k
          · subst hkk; exact hm
          · exact hn k' (by simp [hkk, hk'])
  funext j
  unfold storeIdx
  convert key (List.finRange (d 0)) X j (.inr ⟨rfl, fun k hk => absurd (List.mem_finRange k) hk⟩) using 3
  simp only [if_true]
  congr!

/-- A scatter at the head of a program. -/
theorem wp_scatter {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {X Y : s.Idx → Elt F e} (hY : storeIdx X idxs v mask add h = Y) :
    (owns c base fullShare X : sProp 𝕄)
      ⊢ iprop((owns c base fullShare Y -∗ wp frame (wpE defs 𝒱 c bd) E (k ⟨⟩) Q)
        -∗ wp frame (wpE defs 𝒱 c bd) E (SparseCore.vectorStoreIdx base idxs v mask add h hs >>= k) Q) := by
  rw [SparseCore.vectorStoreIdx_bind]
  subst hY
  have he : ∀ x, (Rect.whole s).emb x = x := fun x => by
    funext a; apply Fin.ext; simp [Rect.whole, Rect.emb]
  iintro H Hk
  iapply (wp_loadR (defs := defs) 𝒱 c bd E (Q := Q) (r := Rect.whole s) (X := X)) $$ H
  iintro H
  rw [show (fun x => X ((Rect.whole s).emb x)) = X from funext fun x => congrArg X (he x)]
  iapply (wp_storeR (defs := defs) 𝒱 c bd E (Q := Q) (r := Rect.whole s) (X := X) (Y := storeIdx X idxs v mask add h)
    (fun x => congrArg _ (he x)) (fun j hj => absurd (by rw [Rect.set_whole]; exact Finset.mem_univ _) hj)) $$ H
  iexact Hk

end Cert.Mem

end
-- ==== Proof.TopkWp.lean ====
/-
  What the scans of the selection stage compute, and that they do.
-/
module

public import proofs.«01_k».proof.Proof.TopkProg
public import proofs.«01_k».proof.Proof.Mem

@[expose] public section

noncomputable section

namespace Cert.Topk

open Idealize.SL Idealize.ShloMosaic Cert.KernelIdeal Cert.KernelIdeal.Gen
open Idealize.SL.BI (sProp)
open scoped Idealize.SL.BI
open Idealize.SL.BI.BIBase Idealize.SL.BI.Laws Idealize.SL.Sem Idealize.SL.ProofMode
open Idealize.SL.RA

variable {F : FTy → Type} [FloatOps F]

/-! ## Values -/

/-- The words `32 - k, …, 31` of a chunk into four rotating minima, and their minimum. -/
def mnVal (f : Nat → Vec F S16 .f32) : Nat → Vec F S16 .f32 → Vec F S16 .f32 → Vec F S16 .f32 → Vec F S16 .f32 → Vec F S16 .f32
  | 0, a, b, c, d => minimumf (minimumf a b) (minimumf c d)
  | k + 1, a, b, c, d => mnVal f k b c d (minimumf a (f (31 - k)))

/-- The chunk the scan of the chunk minima `f` finds. -/
def colVal (f : Nat → Vec F S16 .f32) : Nat → (Vec F S16 .f32 × IVec S16 32) → (Vec F S16 .f32 × IVec S16 32) → (Vec F S16 .f32 × IVec S16 32) →
    (Vec F S16 .f32 × IVec S16 32) → IVec S16 32
  | 0, a, b, c, d => (cmerge (cmerge (cmerge a b) c) d).2
  | k + 1, a, b, c, d => colVal f k b c d (cstep a (63 - k) (f (63 - k)))

/-- What the scan of the columns `cb + 32 - k, …, cb + 31` finds. -/
def gVal (f : IVec S16 32 → Vec F S16 .f32) (cb : IVec S16 32) : Nat → Best F → Best F → Best F → Best F → Best F
  | 0, a, b, c, d => gmerge (gmerge (gmerge a b) c) d
  | k + 1, a, b, c, d => gVal f cb k b c d
      (gstep a (addi cb (broadcast S16 (BitVec.ofNat 32 (31 - k)))) (f (addi cb (broadcast S16 (BitVec.ofNat 32 (31 - k))))))

/-- A lane's number. -/
def lane (l : Nat) : S16.Idx := fun a => ⟨l % 16, by obtain rfl : a = 0 := Subsingleton.elim (α := Fin 1) _ _; exact Nat.mod_lt l (by decide)⟩

/-- Rows of 2048 words, laid flat. -/
def fl5 (B : Nat → Nat → F .f32) : S32768.Idx → Elt F .f32 := fun j => B ((j 0).val / 2048) ((j 0).val % 2048)
/-- Chunk minima (by row, chunk), laid flat chunk by chunk. -/
def fl6 (M : Nat → Nat → F .f32) : S1024.Idx → Elt F .f32 := fun j => M ((j 0).val % 16) ((j 0).val / 16)
/-- Results (by row, trip), laid flat row by row. -/
def fl7 (N : Nat → Nat → F .f32) : S512.Idx → Elt F .f32 := fun j => N ((j 0).val / 32) ((j 0).val % 32)
def fl8 (N : Nat → Nat → BitVec 32) : S512.Idx → Elt F .i32 := fun j => N ((j 0).val / 32) ((j 0).val % 32)

/-- The words at a column of each row. -/
def atCol (B : Nat → Nat → F .f32) (w : IVec S16 32) : Vec F S16 .f32 := fun x => B (x 0).val (w x).toNat

/-- The minimum of a chunk of each row. -/
def chunkMin (B : Nat → Nat → F .f32) (c : Nat) : Vec F S16 .f32 :=
  mnVal (fun n x => B (x 0).val (32 * c + n)) 32 k2_pay3 k2_pay3 k2_pay3 k2_pay3

/-- The four buffers' contents in the selection loop. -/
structure Sel (F : FTy → Type) where
  B : Nat → Nat → F .f32
  M : Nat → Nat → F .f32
  N : Nat → Nat → F .f32
  I : Nat → Nat → BitVec 32

/-- The chunk a trip takes, and what its scan finds. -/
def Sel.chunk (S : Sel F) : IVec S16 32 := colVal (fun n x => S.M (x 0).val n) 64 c0 c0 c0 c0
def Sel.found (S : Sel F) : Best F := gVal (atCol S.B) (muli S.chunk (broadcast S16 32#32)) 32 g0 g0 g0 g0

/-- A trip. -/
def Sel.step (S : Sel F) (t : Nat) : Sel F where
  B l c := if c = (S.found.col (lane l)).toNat then k2_pay3 (lane l) else S.B l c
  M l c := if c = (S.chunk (lane l)).toNat then S.found.second (lane l) else S.M l c
  N l u := if u = t then S.found.best (lane l) else S.N l u
  I l u := if u = t then S.found.col (lane l) else S.I l u

/-! ## Bounds -/

theorem select_lt {N : Nat} (c : IVec S16 1) (a b : IVec S16 32) (x : S16.Idx) (ha : (a x).toNat < N) (hb : (b x).toNat < N) :
    (select c a b x).toNat < N := by
  unfold select Scalar.select; split <;> assumption

theorem colVal_lt (f : Nat → Vec F S16 .f32) (x : S16.Idx) : ∀ (k : Nat) (_ : k ≤ 64) (a b c d : Vec F S16 .f32 × IVec S16 32),
    (a.2 x).toNat < 64 → (b.2 x).toNat < 64 → (c.2 x).toNat < 64 → (d.2 x).toNat < 64 → (colVal f k a b c d x).toNat < 64 := by
  intro k
  induction k with
  | zero =>
    intro _ a b c d ha hb hc hd
    exact select_lt _ _ _ _ hd (select_lt _ _ _ _ hc (select_lt _ _ _ _ hb ha))
  | succ k ih =>
    intro hk a b c d ha hb hc hd
    refine ih (by omega) _ _ _ _ hb hc hd (select_lt _ _ _ _ ?_ ha)
    show (BitVec.ofNat 32 (63 - k) + 0#32).toNat < 64
    simp; omega

theorem chunk_lt (S : Sel F) (x : S16.Idx) : (S.chunk x).toNat < 64 :=
  colVal_lt _ x 64 le_rfl _ _ _ _ (by show (0#32).toNat < 64; decide) (by show (0#32).toNat < 64; decide) (by show (0#32).toNat < 64; decide) (by show (0#32).toNat < 64; decide)

theorem gVal_lt (f : IVec S16 32 → Vec F S16 .f32) (cb : IVec S16 32) (x : S16.Idx) (hcb : (cb x).toNat + 32 ≤ 2048) :
    ∀ (k : Nat) (_ : k ≤ 32) (a b c d : Best F),
    (a.col x).toNat < 2048 → (b.col x).toNat < 2048 → (c.col x).toNat < 2048 → (d.col x).toNat < 2048 → ((gVal f cb k a b c d).col x).toNat < 2048 := by
  intro k
  induction k with
  | zero =>
    intro _ a b c d ha hb hc hd
    exact select_lt _ _ _ _ hd (select_lt _ _ _ _ hc (select_lt _ _ _ _ hb ha))
  | succ k ih =>
    intro hk a b c d ha hb hc hd
    refine ih (by omega) _ _ _ _ hb hc hd (select_lt _ _ _ _ ?_ ha)
    show (cb x + BitVec.ofNat 32 (31 - k)).toNat < 2048
    rw [BitVec.toNat_add, BitVec.toNat_ofNat]; omega

theorem cb_toNat (S : Sel F) (x : S16.Idx) : ((muli S.chunk (broadcast S16 32#32)) x).toNat = (S.chunk x).toNat * 32 := by
  show (S.chunk x * 32#32).toNat = _
  have := chunk_lt S x
  rw [BitVec.toNat_mul]; simp; omega

theorem found_lt (S : Sel F) (x : S16.Idx) : (S.found.col x).toNat < 2048 := by
  have := chunk_lt S x
  exact gVal_lt _ _ x (by rw [cb_toNat]; omega) 32 le_rfl _ _ _ _ (by show (0#32).toNat < 2048; decide) (by show (0#32).toNat < 2048; decide) (by show (0#32).toNat < 2048; decide) (by show (0#32).toNat < 2048; decide)

/-! ## The scans -/

theorem pay1_toNat (w : IVec S16 32) (x : S16.Idx) (h : (w x).toNat < 2048) : ((addi k2_pay1 w) x).toNat = 2048 * (x 0).val + (w x).toNat := by
  have hx : (x 0).val < 16 := (x 0).isLt
  show (BitVec.ofNat 32 (0 * 16 + (x 0).val) * 2048#32 + w x).toNat = _
  rw [BitVec.toNat_add, BitVec.toNat_mul, BitVec.toNat_ofNat]; simp; omega

variable {d : Fin nD} {Ix : Type} [DecidableEq Ix] {Name : Type} [DecidableEq Name]
variable {U : Type} [URA U] {Lvl : Type} [Preorder Lvl]
variable (i : grid2.Coords) (arg5 : Memref sig .scVector .vmem S32768 .f32) (arg6 : Memref sig .scVector .vmem S1024 .f32)
  (arg7 : Memref sig .scVector .vmem S512 .f32) (arg8 : Memref sig .scVector .vmem S512 .i32)

/-- The tile at grid coordinates. -/
abbrev thr (d : Fin nD) (i : grid2.Coords) : Thread nD τ := ⟨d, .scVector ((i 0).castLE hcore2) ((i 1).castLE hsub2)⟩

variable {defs : Defs nD τ sig (Elt F) Λ₀} (𝒱 : Variants) (bd : Option 𝒱.V) (E : Set Name)

local notation "𝕄" => MT nD τ sig Ix (Elt F) Name U Lvl

theorem fl5_idx (B : Nat → Nat → F .f32) (w : IVec S16 32) (x : S16.Idx) (h : ∀ a x, ((![addi k2_pay1 w] : Fin 1 → IVec S16 32) a x).toNat < S32768.size a)
    (hw : (w x).toNat < 2048) : fl5 B (idxAt (s := S32768) ![addi k2_pay1 w] h x) = B (x 0).val (w x).toNat := by
  have hx : (x 0).val < 16 := (x 0).isLt
  show B (((addi k2_pay1 w) x).toNat / 2048) (((addi k2_pay1 w) x).toNat % 2048) = _
  rw [pay1_toNat w x hw]
  congr 1 <;> omega

/-- A word of every row. -/
theorem wp_gld (B : Nat → Nat → F .f32) (w : IVec S16 32) (hw : ∀ x, (w x).toNat < 2048) {α : Type} (k : Vec F S16 .f32 → TP F i α)
    (Q : α → sProp 𝕄) :
    (owns (thr d i) arg5 fullShare (fl5 B) : sProp 𝕄)
      ⊢ iprop((owns (thr d i) arg5 fullShare (fl5 B) -∗ wp frame (wpE defs 𝒱 (thr d i) bd) E (k (atCol B w)) Q)
        -∗ wp frame (wpE defs 𝒱 (thr d i) bd) E (gld i arg5 (addi k2_pay1 w) >>= k) Q) := by
  have hchk : k2_chk1 (addi k2_pay1 w) := by
    intro a x
    obtain rfl : a = 0 := Subsingleton.elim (α := Fin 1) _ _
    have hx : (x 0).val < 16 := (x 0).isLt
    have := hw x
    show ((addi k2_pay1 w) x).toNat < 32768
    rw [pay1_toNat w x (hw x)]; omega
  show _ ⊢ iprop(_ -∗ wp frame (wpE defs 𝒱 (thr d i) bd) E (.op (TpuEff.assume (k2_chk1 (addi k2_pay1 w)) (k2_chk1.dec (addi k2_pay1 w))) fun hw =>
    SparseCore.vectorLoadIdx arg5 ![addi k2_pay1 w] (k2_idx1_inb (addi k2_pay1 w) hw.down) (View.loads_vmem h_S32768) >>= k) Q)
  have := Mem.wp_gather (defs := defs) 𝒱 (thr d i) bd E (Q := Q) (base := arg5) (idxs := ![addi k2_pay1 w]) (h := k2_idx1_inb (addi k2_pay1 w) hchk)
    (hl := View.loads_vmem h_S32768) (k := k) (q := fullShare) (X := fl5 B)
  rw [show loadIdx (fl5 B) ![addi k2_pay1 w] (k2_idx1_inb (addi k2_pay1 w) hchk) = atCol B w from funext fun x => fl5_idx B w x _ (hw x)] at this
  iintro H Hk
  iapply (wp_assume (defs := defs) 𝒱 (thr d i) bd E hchk)
  iapply this $$ H
  iexact Hk

theorem wp_minScan (B : Nat → Nat → F .f32) (c : Nat) (hc : c < 64) {α : Type} (K : Vec F S16 .f32 → TP F i α) (Q : α → sProp 𝕄) :
    ∀ (k : Nat) (_ : k ≤ 32) (a b e f : Vec F S16 .f32),
    (owns (thr d i) arg5 fullShare (fl5 B) : sProp 𝕄)
      ⊢ iprop((owns (thr d i) arg5 fullShare (fl5 B) -∗ wp frame (wpE defs 𝒱 (thr d i) bd) E (K (mnVal (fun n x => B (x 0).val (32 * c + n)) k a b e f)) Q)
        -∗ wp frame (wpE defs 𝒱 (thr d i) bd) E (minScan i arg5 (addi k2_pay1 (broadcast S16 (BitVec.ofNat 32 (32 * c)))) k a b e f >>= K) Q) := by
  intro k
  induction k with
  | zero =>
    intro _ a b e f
    show _ ⊢ iprop(_ -∗ wp frame (wpE defs 𝒱 (thr d i) bd) E (K (minimumf (minimumf a b) (minimumf e f))) Q)
    iintro H Hk
    iapply Hk; iexact H
  | succ k ih =>
    intro hk a b e f
    have hadd : addi (addi k2_pay1 (broadcast S16 (BitVec.ofNat 32 (32 * c)))) (broadcast S16 (BitVec.ofNat 32 (31 - k)))
        = addi k2_pay1 (broadcast S16 (BitVec.ofNat 32 (32 * c + (31 - k)))) := by
      funext x
      show k2_pay1 x + BitVec.ofNat 32 (32 * c) + BitVec.ofNat 32 (31 - k) = k2_pay1 x + BitVec.ofNat 32 (32 * c + (31 - k))
      rw [BitVec.add_assoc, ← BitVec.ofNat_add]
    have hn : (BitVec.ofNat 32 (32 * c + (31 - k))).toNat = 32 * c + (31 - k) := by rw [BitVec.toNat_ofNat]; omega
    show _ ⊢ iprop(_ -∗ wp frame (wpE defs 𝒱 (thr d i) bd) E ((gld i arg5 (addi (addi k2_pay1 (broadcast S16 (BitVec.ofNat 32 (32 * c)))) (broadcast S16 (BitVec.ofNat 32 (31 - k)))) >>= fun v =>
      minScan i arg5 _ k b e f (minimumf a v)) >>= K) Q)
    rw [bind_assoc, hadd]
    iintro H Hk
    iapply (wp_gld (defs := defs) i arg5 𝒱 bd E B (broadcast S16 (BitVec.ofNat 32 (32 * c + (31 - k)))) (fun x => by show (BitVec.ofNat 32 _).toNat < _; omega) _ Q) $$ H
    iintro H
    rw [show atCol B (broadcast S16 (BitVec.ofNat 32 (32 * c + (31 - k)))) = fun x => B (x 0).val (32 * c + (31 - k)) from
      funext fun x => congrArg (B (x 0).val) hn]
    iapply (ih (by omega) b e f _) $$ H
    iintro H
    iapply Hk $$ [H]
    iexact H

theorem fl6_row (M : Nat → Nat → F .f32) (n : Nat) (h : ∀ a, (![16 * n] : Fin 1 → Nat) a + S16.size a ≤ S1024.size a) :
    (fun x => fl6 M ((Rect.unit (s := S1024) ![16 * n] S16.size h).emb x)) = fun x : S16.Idx => M (x 0).val n := by
  funext x
  have hx : (x 0).val < 16 := (x 0).isLt
  show M ((16 * n + 1 * (x 0).val) % 16) ((16 * n + 1 * (x 0).val) / 16) = _
  congr 1 <;> omega

theorem wp_colScan (M : Nat → Nat → F .f32) {α : Type} (K : IVec S16 32 → TP F i α) (Q : α → sProp 𝕄) :
    ∀ (k : Nat) (hk : k ≤ 64) (a b e f : Vec F S16 .f32 × IVec S16 32),
    (owns (thr d i) arg6 fullShare (fl6 M) : sProp 𝕄)
      ⊢ iprop((owns (thr d i) arg6 fullShare (fl6 M) -∗ wp frame (wpE defs 𝒱 (thr d i) bd) E (K (colVal (fun n x => M (x 0).val n) k a b e f)) Q)
        -∗ wp frame (wpE defs 𝒱 (thr d i) bd) E (colScan i arg6 k hk a b e f >>= K) Q) := by
  intro k
  induction k with
  | zero =>
    intro _ a b e f
    show _ ⊢ iprop(_ -∗ wp frame (wpE defs 𝒱 (thr d i) bd) E (K (cmerge (cmerge (cmerge a b) e) f).2) Q)
    iintro H Hk
    iapply Hk; iexact H
  | succ k ih =>
    intro hk a b e f
    show _ ⊢ iprop(_ -∗ wp frame (wpE defs 𝒱 (thr d i) bd) E (.op (.load arg6 (Rect.unit (s := S1024) ![16 * (63 - k)] S16.size _).toLoadRect (View.loadsAt_vmem h_S16)) fun v =>
      (colScan i arg6 k _ b e f (cstep a (63 - k) v)) >>= K) Q)
    iintro H Hk
    iapply (Mem.wp_loadR (defs := defs) 𝒱 (thr d i) bd E (Q := Q) (base := arg6) (X := fl6 M)) $$ H
    iintro H
    rw [fl6_row M (63 - k)]
    iapply (ih _ b e f _) $$ H
    iintro H
    iapply Hk $$ [H]
    iexact H

theorem wp_gScan (B : Nat → Nat → F .f32) (cb : IVec S16 32) (hcb : ∀ x, (cb x).toNat + 32 ≤ 2048) {α : Type} (K : Best F → TP F i α) (Q : α → sProp 𝕄) :
    ∀ (k : Nat) (_ : k ≤ 32) (a b e f : Best F),
    (owns (thr d i) arg5 fullShare (fl5 B) : sProp 𝕄)
      ⊢ iprop((owns (thr d i) arg5 fullShare (fl5 B) -∗ wp frame (wpE defs 𝒱 (thr d i) bd) E (K (gVal (atCol B) cb k a b e f)) Q)
        -∗ wp frame (wpE defs 𝒱 (thr d i) bd) E (gScan i arg5 cb k a b e f >>= K) Q) := by
  intro k
  induction k with
  | zero =>
    intro _ a b e f
    show _ ⊢ iprop(_ -∗ wp frame (wpE defs 𝒱 (thr d i) bd) E (K (gmerge (gmerge (gmerge a b) e) f)) Q)
    iintro H Hk
    iapply Hk; iexact H
  | succ k ih =>
    intro hk a b e f
    show _ ⊢ iprop(_ -∗ wp frame (wpE defs 𝒱 (thr d i) bd) E ((gld i arg5 (addi k2_pay1 (addi cb (broadcast S16 (BitVec.ofNat 32 (31 - k))))) >>= fun v =>
      gScan i arg5 cb k b e f (gstep a (addi cb (broadcast S16 (BitVec.ofNat 32 (31 - k)))) v)) >>= K) Q)
    rw [bind_assoc]
    iintro H Hk
    iapply (wp_gld (defs := defs) i arg5 𝒱 bd E B (addi cb (broadcast S16 (BitVec.ofNat 32 (31 - k)))) (fun x => by
      have := hcb x
      show (cb x + BitVec.ofNat 32 (31 - k)).toNat < _
      rw [BitVec.toNat_add, BitVec.toNat_ofNat]; omega) _ Q) $$ H
    iintro H
    iapply (ih (by omega) b e f _) $$ H
    iintro H
    iapply Hk $$ [H]
    iexact H

end Cert.Topk

end
-- ==== Proof.TopkLoop.lean ====
/-
  The two loops over one group of rows: the chunk minima, and the 32 selections.
-/
module

public import proofs.«01_k».proof.Proof.TopkWp

@[expose] public section

noncomputable section

namespace Cert.Topk

open Idealize.SL Idealize.ShloMosaic Cert.KernelIdeal Cert.KernelIdeal.Gen
open Idealize.SL.BI (sProp)
open scoped Idealize.SL.BI
open Idealize.SL.BI.BIBase Idealize.SL.BI.Laws Idealize.SL.Sem Idealize.SL.ProofMode
open Idealize.SL.RA

variable {F : FTy → Type} [FloatOps F]
variable {d : Fin nD} {Ix : Type} [DecidableEq Ix] {Name : Type} [DecidableEq Name]
variable {U : Type} [URA U] {Lvl : Type} [Preorder Lvl]
variable (i : grid2.Coords) (arg5 : Memref sig .scVector .vmem S32768 .f32) (arg6 : Memref sig .scVector .vmem S1024 .f32)
  (arg7 : Memref sig .scVector .vmem S512 .f32) (arg8 : Memref sig .scVector .vmem S512 .i32)
variable {defs : Defs nD τ sig (Elt F) Λ₀} (𝒱 : Variants) (bd : Option 𝒱.V) (E : Set Name)

local notation "𝕄" => MT nD τ sig Ix (Elt F) Name U Lvl

/-- The chunk minima of rows `B`. -/
def minima (B : Nat → Nat → F .f32) : Nat → Nat → F .f32 := fun l c => chunkMin B c (lane l)

theorem lane_val (x : S16.Idx) : lane (x 0).val = x := by
  funext a; obtain rfl : a = 0 := Subsingleton.elim (α := Fin 1) _ _
  apply Fin.ext
  have hx : (x 0).val < 16 := (x 0).isLt
  show (x 0).val % 16 = (x 0).val; omega

theorem off2_eq (t : Fin k2_t2_loop.trips) : k2_off2 t = ![16 * t.val] := by
  have ht : t.val < 64 := t.isLt
  funext a; obtain rfl : a = 0 := Subsingleton.elim (α := Fin 1) _ _
  show ((0#32 + BitVec.ofNat 32 t.val * 1#32) * 16#32).toNat = 16 * t.val
  simp; omega

theorem wp_ret_intro {α : Type} (a : α) (Q : α → sProp 𝕄) : Q a ⊢ wp frame (wpE defs 𝒱 (thr d i) bd) E (.ret a) Q := by
  rw [wp_ret]; iintro H; imodintro; iexact H

/-- One trip of the chunk-minimum loop writes one chunk's minima. -/
theorem wp_cmBody (B : Nat → Nat → F .f32) (t : Fin k2_t2_loop.trips) (X : S1024.Idx → Elt F .f32)
    (hX : ∀ j, (j 0).val < 16 * t.val → X j = fl6 (minima B) j) (Q : Unit → sProp 𝕄) :
    iprop(owns (thr d i) arg5 fullShare (fl5 B) ∗ owns (thr d i) arg6 fullShare X
      ∗ (∀ Y, ⌜∀ j : S1024.Idx, (j 0).val < 16 * (t.val + 1) → Y j = fl6 (minima B) j⌝ -∗ owns (thr d i) arg5 fullShare (fl5 B) -∗ owns (thr d i) arg6 fullShare Y -∗ Q ⟨⟩))
      ⊢ wp frame (wpE defs 𝒱 (thr d i) bd) E (cmBody i arg5 arg6 t ⟨⟩) Q := by
  have ht : t.val < 64 := t.isLt
  have hbase : (Scalar.muli (Scf.iv 0#32 1#32 t.val) 32#32) = BitVec.ofNat 32 (32 * t.val) := by
    apply BitVec.eq_of_toNat_eq
    show ((0#32 + BitVec.ofNat 32 t.val * 1#32) * 32#32).toNat = _
    simp; omega
  unfold cmBody
  rw [hbase]
  iintro ⟨H5, H6, HQ⟩
  iapply (wp_minScan (defs := defs) i arg5 𝒱 bd E B t.val ht _ Q 32 le_rfl _ _ _ _) $$ H5
  iintro H5
  iapply (Mem.wp_loadR (defs := defs) 𝒱 (thr d i) bd E (Q := Q) (base := arg6) (X := X)) $$ H6
  iintro H6
  have hoff := off2_eq t
  have hmem : ∀ j : S1024.Idx, j ∉ (Rect.unit (s := S1024) (k2_off2 t) S16.size (k2_off2_inb t)).set → ¬ (16 * t.val ≤ (j 0).val ∧ (j 0).val < 16 * t.val + 16) := by
    intro j hj hh
    apply hj
    rw [← Rect.map_emb_univ, Finset.mem_map]
    refine ⟨lane ((j 0).val - 16 * t.val), Finset.mem_univ _, ?_⟩
    funext a; obtain rfl : a = 0 := Subsingleton.elim (α := Fin 1) _ _
    apply Fin.ext
    show k2_off2 t 0 + 1 * (((j 0).val - 16 * t.val) % 16) = (j 0).val
    rw [hoff]
    show 16 * t.val + 1 * (((j 0).val - 16 * t.val) % 16) = (j 0).val
    omega
  have hYY : ∀ j : S1024.Idx, (j 0).val < 16 * (t.val + 1) → (fun j : S1024.Idx => if 16 * t.val ≤ (j 0).val ∧ (j 0).val < 16 * t.val + 16 then fl6 (minima B) j else X j) j = fl6 (minima B) j := by
    intro j hj
    by_cases hb : 16 * t.val ≤ (j 0).val ∧ (j 0).val < 16 * t.val + 16
    · exact if_pos hb
    · exact (if_neg hb).trans (hX j (by omega))
  iapply (Mem.wp_storeR (defs := defs) 𝒱 (thr d i) bd E (Q := Q) (base := arg6) (X := X)
    (Y := fun j => if 16 * t.val ≤ (j 0).val ∧ (j 0).val < 16 * t.val + 16 then fl6 (minima B) j else X j) ?_ ?_) $$ H6
  · intro x
    have hx : (x 0).val < 16 := (x 0).isLt
    have hv : (((Rect.unit (s := S1024) (k2_off2 t) S16.size (k2_off2_inb t)).emb x) 0).val = 16 * t.val + (x 0).val := by
      show k2_off2 t 0 + 1 * (x 0).val = _
      have h0 := congrFun hoff 0
      have h1 : k2_off2 t 0 = 16 * t.val := h0
      omega
    rw [if_pos (by rw [hv]; omega)]
    unfold fl6 minima
    rw [hv, show (16 * t.val + (x 0).val) % 16 = (x 0).val by omega, show (16 * t.val + (x 0).val) / 16 = t.val by omega]
    exact congrArg (chunkMin B t.val) (lane_val x)
  · intro j hj
    rw [if_neg (hmem j hj)]
  iintro H6
  iapply wp_ret_intro
  iapply HQ $$ %_ %hYY [H5] [H6]
  · iexact H5
  · iexact H6

/-- The chunk-minimum loop. -/
theorem wp_cmLoop (hok : k2_t2_loop.OK) (B : Nat → Nat → F .f32) (X : S1024.Idx → Elt F .f32) {α : Type} (K : Unit → TP F i α) (Q : α → sProp 𝕄) :
    iprop(owns (thr d i) arg5 fullShare (fl5 B) ∗ owns (thr d i) arg6 fullShare X)
      ⊢ iprop((owns (thr d i) arg5 fullShare (fl5 B) -∗ owns (thr d i) arg6 fullShare (fl6 (minima B)) -∗ wp frame (wpE defs 𝒱 (thr d i) bd) E (K ⟨⟩) Q)
        -∗ wp frame (wpE defs 𝒱 (thr d i) bd) E (Scf.Loop.for k2_t2_loop hok ⟨⟩ (cmBody i arg5 arg6) >>= K) Q) := by
  iintro ⟨H5, H6⟩ HK
  iapply (Scf.wp_for_bind frame (wpE defs 𝒱 (thr d i) bd) E _ _ _ hok () (cmBody i arg5 arg6)
    (fun n _ => iprop(∃ X, ⌜∀ j : S1024.Idx, (j 0).val < 16 * n → X j = fl6 (minima B) j⌝ ∗ owns (thr d i) arg5 fullShare (fl5 B) ∗ owns (thr d i) arg6 fullShare X)) ?_) $$ [H5 H6]
  · intro t _
    iintro ⟨%X, %hX, H5, H6⟩
    iapply (wp_cmBody (defs := defs) i arg5 arg6 𝒱 bd E B t X hX _)
    iframe H5 H6
    iintro %Y %hY H5 H6
    iexists Y
    iframe H5 H6
    ipureintro; exact hY
  · iexists X
    iframe H5 H6
    ipureintro; intro j hj; omega
  · iintro %_ ⟨%Y, %hY, H5, H6⟩
    have hYe : Y = fl6 (minima B) := funext fun j => hY j (by
      have := (j 0).isLt
      show (j 0).val < 1024
      exact this)
    subst hYe
    iapply HK $$ [H5] [H6]
    · iexact H5
    · iexact H6

/-! ## The selection loop -/

theorem pay15_toNat (c : IVec S16 32) (x : S16.Idx) (h : (c x).toNat < 64) : (k2_pay15 c x).toNat = (c x).toNat * 16 + (x 0).val := by
  have hx : (x 0).val < 16 := (x 0).isLt
  show (c x * 16#32 + BitVec.ofNat 32 (0 * 16 + (x 0).val)).toNat = _
  rw [BitVec.toNat_add, BitVec.toNat_mul, BitVec.toNat_ofNat]; simp; omega

theorem pay17_toNat (t : Nat) (ht : t < 32) (x : S16.Idx) : (k2_pay17 (Scf.iv 0#32 1#32 t) x).toNat = (x 0).val * 32 + t := by
  have hx : (x 0).val < 16 := (x 0).isLt
  show (BitVec.ofNat 32 (0 * 16 + (x 0).val) * 32#32 + ((0#32 + BitVec.ofNat 32 t * 1#32) + 0#32)).toNat = _
  simp; omega

theorem pay18_toNat (t : Nat) (ht : t < 32) (x : S16.Idx) : (k2_pay18 (Scf.iv 0#32 1#32 t) x).toNat = (x 0).val * 32 + t := pay17_toNat t ht x

/-- A trip's stores. -/
theorem wp_selStores (S : Sel F) (t : Nat) (ht : t < 32) (Q : Unit → sProp 𝕄) :
    iprop(owns (thr d i) arg5 fullShare (fl5 S.B) ∗ owns (thr d i) arg6 fullShare (fl6 S.M) ∗ owns (thr d i) arg7 fullShare (fl7 S.N) ∗ owns (thr d i) arg8 fullShare (fl8 (F := F) S.I)
      ∗ (owns (thr d i) arg5 fullShare (fl5 (S.step t).B) -∗ owns (thr d i) arg6 fullShare (fl6 (S.step t).M) -∗ owns (thr d i) arg7 fullShare (fl7 (S.step t).N)
        -∗ owns (thr d i) arg8 fullShare (fl8 (F := F) (S.step t).I) -∗ Q ⟨⟩))
      ⊢ wp frame (wpE defs 𝒱 (thr d i) bd) E (selStores i arg5 arg6 arg7 arg8 (Scf.iv 0#32 1#32 t) S.chunk S.found) Q := by
  have e5 : ∀ x, ((addi k2_pay1 S.found.col) x).toNat = 2048 * (x 0).val + (S.found.col x).toNat := fun x => pay1_toNat _ x (found_lt S x)
  have e6 : ∀ x, (k2_pay15 S.chunk x).toNat = (S.chunk x).toNat * 16 + (x 0).val := fun x => pay15_toNat _ x (chunk_lt S x)
  have e7 : ∀ x, (k2_pay17 (Scf.iv 0#32 1#32 t) x).toNat = (x 0).val * 32 + t := pay17_toNat t ht
  have e8 : ∀ x, (k2_pay18 (Scf.iv 0#32 1#32 t) x).toNat = (x 0).val * 32 + t := pay18_toNat t ht
  have c5 : k2_chk65 (addi k2_pay1 S.found.col) := by
    intro a x; obtain rfl : a = 0 := Subsingleton.elim (α := Fin 1) _ _
    have hx : (x 0).val < 16 := (x 0).isLt
    have := found_lt S x
    show ((addi k2_pay1 S.found.col) x).toNat < 32768
    rw [e5]; omega
  have c6 : k2_chk66 (k2_pay15 S.chunk) := by
    intro a x; obtain rfl : a = 0 := Subsingleton.elim (α := Fin 1) _ _
    have hx : (x 0).val < 16 := (x 0).isLt
    have := chunk_lt S x
    show (k2_pay15 S.chunk x).toNat < 1024
    rw [e6]; omega
  have c7 : k2_chk67 (k2_pay17 (Scf.iv 0#32 1#32 t)) := by
    intro a x; obtain rfl : a = 0 := Subsingleton.elim (α := Fin 1) _ _
    have hx : (x 0).val < 16 := (x 0).isLt
    show (k2_pay17 (Scf.iv 0#32 1#32 t) x).toNat < 512
    rw [e7]; omega
  have c8 : k2_chk68 (k2_pay18 (Scf.iv 0#32 1#32 t)) := by
    intro a x; obtain rfl : a = 0 := Subsingleton.elim (α := Fin 1) _ _
    have hx : (x 0).val < 16 := (x 0).isLt
    show (k2_pay18 (Scf.iv 0#32 1#32 t) x).toNat < 512
    rw [e8]; omega
  iintro ⟨H5, H6, H7, H8, HQ⟩
  iapply (wp_assume (defs := defs) 𝒱 (thr d i) bd E c5)
  iapply (Mem.wp_scatter (defs := defs) 𝒱 (thr d i) bd E (Q := Q) (base := arg5) (X := fl5 S.B) (Y := fl5 (S.step t).B) (Mem.storeIdx_eq ?_ ?_)) $$ H5
  · intro x
    have hx : (x 0).val < 16 := (x 0).isLt
    have hf := found_lt S x
    show (S.step t).B (((addi k2_pay1 S.found.col) x).toNat / 2048) (((addi k2_pay1 S.found.col) x).toNat % 2048) = _
    rw [e5, show (2048 * (x 0).val + (S.found.col x).toNat) / 2048 = (x 0).val by omega, show (2048 * (x 0).val + (S.found.col x).toNat) % 2048 = (S.found.col x).toNat by omega]
    show (if (S.found.col x).toNat = (S.found.col (lane (x 0).val)).toNat then k2_pay3 (lane (x 0).val) else _) = _
    rw [lane_val, if_pos rfl]
  · intro j hj
    have hjl : (j 0).val < 32768 := (j 0).isLt
    show (if (j 0).val % 2048 = (S.found.col (lane ((j 0).val / 2048))).toNat then k2_pay3 (lane ((j 0).val / 2048)) else S.B ((j 0).val / 2048) ((j 0).val % 2048)) = _
    rw [if_neg]
    · rfl
    · intro hh
      refine hj (lane ((j 0).val / 2048)) ?_
      funext a; obtain rfl : a = 0 := Subsingleton.elim (α := Fin 1) _ _
      apply Fin.ext
      show (j 0).val = ((addi k2_pay1 S.found.col) (lane ((j 0).val / 2048))).toNat
      rw [e5, ← hh]
      show (j 0).val = 2048 * ((j 0).val / 2048 % 16) + _
      omega
  iintro H5
  iapply (wp_assume (defs := defs) 𝒱 (thr d i) bd E c6)
  iapply (Mem.wp_scatter (defs := defs) 𝒱 (thr d i) bd E (Q := Q) (base := arg6) (X := fl6 S.M) (Y := fl6 (S.step t).M) (Mem.storeIdx_eq ?_ ?_)) $$ H6
  · intro x
    have hx : (x 0).val < 16 := (x 0).isLt
    show (S.step t).M ((k2_pay15 S.chunk x).toNat % 16) ((k2_pay15 S.chunk x).toNat / 16) = _
    rw [e6, show ((S.chunk x).toNat * 16 + (x 0).val) % 16 = (x 0).val by omega, show ((S.chunk x).toNat * 16 + (x 0).val) / 16 = (S.chunk x).toNat by omega]
    show (if (S.chunk x).toNat = (S.chunk (lane (x 0).val)).toNat then S.found.second (lane (x 0).val) else _) = _
    rw [lane_val, if_pos rfl]
  · intro j hj
    have hjl : (j 0).val < 1024 := (j 0).isLt
    show (if (j 0).val / 16 = (S.chunk (lane ((j 0).val % 16))).toNat then S.found.second (lane ((j 0).val % 16)) else S.M ((j 0).val % 16) ((j 0).val / 16)) = _
    rw [if_neg]
    · rfl
    · intro hh
      refine hj (lane ((j 0).val % 16)) ?_
      funext a; obtain rfl : a = 0 := Subsingleton.elim (α := Fin 1) _ _
      apply Fin.ext
      show (j 0).val = (k2_pay15 S.chunk (lane ((j 0).val % 16))).toNat
      rw [e6, ← hh]
      show (j 0).val = _ + ((j 0).val % 16 % 16)
      omega
  iintro H6
  iapply (wp_assume (defs := defs) 𝒱 (thr d i) bd E c7)
  iapply (Mem.wp_scatter (defs := defs) 𝒱 (thr d i) bd E (Q := Q) (base := arg7) (X := fl7 S.N) (Y := fl7 (S.step t).N) (Mem.storeIdx_eq ?_ ?_)) $$ H7
  · intro x
    have hx : (x 0).val < 16 := (x 0).isLt
    show (S.step t).N ((k2_pay17 (Scf.iv 0#32 1#32 t) x).toNat / 32) ((k2_pay17 (Scf.iv 0#32 1#32 t) x).toNat % 32) = _
    rw [e7, show ((x 0).val * 32 + t) / 32 = (x 0).val by omega, show ((x 0).val * 32 + t) % 32 = t by omega]
    show (if t = t then S.found.best (lane (x 0).val) else _) = _
    rw [lane_val, if_pos rfl]
  · intro j hj
    have hjl : (j 0).val < 512 := (j 0).isLt
    show (if (j 0).val % 32 = t then S.found.best (lane ((j 0).val / 32)) else S.N ((j 0).val / 32) ((j 0).val % 32)) = _
    rw [if_neg]
    · rfl
    · intro hh
      refine hj (lane ((j 0).val / 32)) ?_
      funext a; obtain rfl : a = 0 := Subsingleton.elim (α := Fin 1) _ _
      apply Fin.ext
      show (j 0).val = (k2_pay17 (Scf.iv 0#32 1#32 t) (lane ((j 0).val / 32))).toNat
      rw [e7]
      show (j 0).val = ((j 0).val / 32 % 16) * 32 + t
      omega
  iintro H7
  iapply (wp_assume (defs := defs) 𝒱 (thr d i) bd E c8)
  iapply (Mem.wp_scatter (F := F) (defs := defs) 𝒱 (thr d i) bd E (Q := Q) (base := arg8) (X := fl8 (F := F) S.I) (Y := fl8 (F := F) (S.step t).I) (Mem.storeIdx_eq ?_ ?_)) $$ H8
  · intro x
    have hx : (x 0).val < 16 := (x 0).isLt
    show (S.step t).I ((k2_pay18 (Scf.iv 0#32 1#32 t) x).toNat / 32) ((k2_pay18 (Scf.iv 0#32 1#32 t) x).toNat % 32) = _
    rw [e8, show ((x 0).val * 32 + t) / 32 = (x 0).val by omega, show ((x 0).val * 32 + t) % 32 = t by omega]
    show (if t = t then S.found.col (lane (x 0).val) else _) = _
    rw [lane_val, if_pos rfl]
  · intro j hj
    have hjl : (j 0).val < 512 := (j 0).isLt
    show (if (j 0).val % 32 = t then S.found.col (lane ((j 0).val / 32)) else S.I ((j 0).val / 32) ((j 0).val % 32)) = _
    rw [if_neg]
    · rfl
    · intro hh
      refine hj (lane ((j 0).val / 32)) ?_
      funext a; obtain rfl : a = 0 := Subsingleton.elim (α := Fin 1) _ _
      apply Fin.ext
      show (j 0).val = (k2_pay18 (Scf.iv 0#32 1#32 t) (lane ((j 0).val / 32))).toNat
      rw [e8]
      show (j 0).val = ((j 0).val / 32 % 16) * 32 + t
      omega
  iintro H8
  iapply wp_ret_intro
  iapply HQ $$ [H5] [H6] [H7] [H8]
  · iexact H5
  · iexact H6
  · iexact H7
  · iexact H8

/-- Trips from the first. -/
def Sel.iter (S : Sel F) : Nat → Sel F
  | 0 => S
  | n + 1 => (S.iter n).step n

/-- The four buffers. -/
def selOwn (d : Fin nD) (S : Sel F) : sProp 𝕄 :=
  iprop(owns (thr d i) arg5 fullShare (fl5 S.B) ∗ owns (thr d i) arg6 fullShare (fl6 S.M) ∗ owns (thr d i) arg7 fullShare (fl7 S.N) ∗ owns (thr d i) arg8 fullShare (fl8 (F := F) S.I))

/-- The selection loop. -/
theorem wp_selLoop (hok : k2_t3_loop.OK) (S : Sel F) {α : Type} (K : Unit → TP F i α) (Q : α → sProp 𝕄) :
    (selOwn i arg5 arg6 arg7 arg8 d S : sProp 𝕄)
      ⊢ iprop((selOwn i arg5 arg6 arg7 arg8 d (S.iter 32) -∗ wp frame (wpE defs 𝒱 (thr d i) bd) E (K ⟨⟩) Q)
        -∗ wp frame (wpE defs 𝒱 (thr d i) bd) E (Scf.Loop.for k2_t3_loop hok ⟨⟩ (selBody i arg5 arg6 arg7 arg8) >>= K) Q) := by
  iintro H HK
  iapply (Scf.wp_for_bind frame (wpE defs 𝒱 (thr d i) bd) E _ _ _ hok () (selBody i arg5 arg6 arg7 arg8)
    (fun n _ => selOwn i arg5 arg6 arg7 arg8 d (S.iter n)) ?_) $$ [H]
  · intro t _
    unfold selBody selOwn
    iintro ⟨H5, H6, H7, H8⟩
    iapply (wp_colScan (defs := defs) i arg6 𝒱 bd E (S.iter t.val).M _ _ 64 le_rfl _ _ _ _) $$ H6
    iintro H6
    iapply (wp_gScan (defs := defs) i arg5 𝒱 bd E (S.iter t.val).B _ ?_ _ _ 32 le_rfl _ _ _ _) $$ H5
    · intro x
      have h1 := chunk_lt (S.iter t.val) x
      have h2 := cb_toNat (S.iter t.val) x
      show ((muli (S.iter t.val).chunk (broadcast S16 32#32)) x).toNat + 32 ≤ 2048
      omega
    iintro H5
    iapply (wp_selStores (defs := defs) i arg5 arg6 arg7 arg8 𝒱 bd E (S.iter t.val) t.val t.isLt _)
    iframe H5 H6 H7 H8
    iintro H5 H6 H7 H8
    isplitl [H5]
    · iexact H5
    isplitl [H6]
    · iexact H6
    isplitl [H7]
    · iexact H7
    · iexact H8
  · iexact H
  · iintro %_ H
    iapply HK
    iexact H

end Cert.Topk

end
-- ==== Proof.GroupProg.lean ====
/-
  One trip of a tile's outer loop, as a program over its sixteen source rows and its two output pieces: the row
  copies in, the two selection loops, the two copies out.  The four calls differ in the rows and in nothing else.
-/
module

public import proofs.«01_k».proof.Proof.TopkProg

@[expose] public section

noncomputable section

namespace Cert.Topk

open Idealize.SL Idealize.SL.Sem Idealize.ShloMosaic Cert.KernelIdeal Cert.KernelIdeal.Gen

variable {F : FTy → Type} [FloatOps F]
variable (i : grid2.Coords) (arg5 : Memref sig .scVector .vmem S32768 .f32) (arg6 : Memref sig .scVector .vmem S1024 .f32)
  (arg7 : Memref sig .scVector .vmem S512 .f32) (arg8 : Memref sig .scVector .vmem S512 .i32) (arg9 s0 s1 : DmaSems sig S_)

theorem dst_inb (l : Nat) (h : l < 16) : ∀ a, (![2048 * l] : Fin 1 → Nat) a + S2048.size a ≤ S32768.size a := by
  intro a; obtain rfl : a = 0 := Subsingleton.elim (α := Fin 1) _ _
  show 2048 * l + 2048 ≤ 32768; omega

/-- The `l`-th row of the tile's own buffer. -/
def rowDst (l : Nat) (h : l < 16) : Memref sig .scVector .vmem S2048 .f32 :=
  arg5.slice (Rect.unit (s := S32768) ![2048 * l] S2048.size (dst_inb l h)) (fun _ => rfl)

/-- The `l`-th row of sixteen in the distance array, at the offsets `off`. -/
def rowSrc (arg2 : Memref sig .scVector .hbm S4x2048x2048 .f32) (off : Fin 16 → Fin 3 → Nat) (hoff : ∀ l a, off l a + S1x1x2048.size a ≤ S4x2048x2048.size a)
    (l : Fin 16) : Memref sig .scVector .hbm S2048 .f32 :=
  (arg2.slice (Rect.unit (s := S4x2048x2048) (off l) S1x1x2048.size (hoff l)) (fun _ => rfl)).squeeze S2048 squeezes_S1x1x2048_S2048

/-- A run of 512 words of an output array. -/
def outPiece {e : EltTy} (arg3 : Memref sig .scVector .hbm S65536 e) (off : Fin 1 → Nat) (hoff : ∀ a, off a + S512.size a ≤ S65536.size a) :
    Memref sig .scVector .hbm S512 e :=
  arg3.slice (Rect.unit (s := S65536) off S512.size hoff) (fun _ => rfl)

variable (src : Fin 16 → Memref sig .scVector .hbm S2048 .f32) (hsrc : ∀ l, (src l).view.WordExact)

/-- The copies of the last `k` of the sixteen rows issued, then `rest`. -/
def enqs (rest : TP F i Unit) : (k : Nat) → k ≤ 16 → TP F i Unit
  | 0, _ => rest
  | k + 1, h => do
    Prog.lift (.enqueueDma (src ⟨16 - (k + 1), by omega⟩) (.here (rowDst arg5 (16 - (k + 1)) (by omega))) (.dma arg9.sem) (hsrc _)
      (View.wordExact_bits rfl) ⟨Or.inl rfl, trivial⟩)
    enqs rest k (by omega)

/-- The waits for them, then `rest`. -/
def wts (rest : TP F i Unit) : (k : Nat) → k ≤ 16 → TP F i Unit
  | 0, _ => rest
  | k + 1, h => do
    Prog.lift (.waitDma2 arg9.sem (src ⟨16 - (k + 1), by omega⟩) (rowDst arg5 (16 - (k + 1)) (by omega)) (hsrc _) (View.wordExact_bits rfl))
    wts rest k (by omega)

/-- One trip of the outer loop, the two inner loops' bodies given. -/
def groupWith (b2 : Fin k2_t2_loop.trips → Unit → TP F i Unit) (b3 : Fin k2_t3_loop.trips → Unit → TP F i Unit)
    (o3 : Memref sig .scVector .hbm S512 .f32) (h3 : o3.view.WordExact) (o4 : Memref sig .scVector .hbm S512 .i32) (h4 : o4.view.WordExact)
    (h7 : arg7.IsWhole) (h8 : arg8.IsWhole) : TP F i Unit :=
  enqs i arg5 arg9 src hsrc (wts i arg5 arg9 src hsrc (do
    Scf.Loop.for k2_t2_loop k2_t2_ok ⟨⟩ b2
    Scf.Loop.for k2_t3_loop k2_t3_ok ⟨⟩ b3
    Prog.lift (.enqueueDma arg7 (.here o3) (.dma s0.sem) h7.wordExact h3 ⟨Or.inl rfl, trivial⟩)
    Prog.lift (.waitDma2 s0.sem arg7 o3 h7.wordExact h3)
    Prog.lift (.enqueueDma arg8 (.here o4) (.dma s1.sem) h8.wordExact h4 ⟨Or.inl rfl, trivial⟩)
    Prog.lift (.waitDma2 s1.sem arg8 o4 h8.wordExact h4)
    pure ()) 16 le_rfl) 16 le_rfl

/-- One trip of the outer loop. -/
def groupBody (o3 : Memref sig .scVector .hbm S512 .f32) (h3 : o3.view.WordExact) (o4 : Memref sig .scVector .hbm S512 .i32) (h4 : o4.view.WordExact)
    (h7 : arg7.IsWhole) (h8 : arg8.IsWhole) : TP F i Unit :=
  groupWith i arg5 arg7 arg8 arg9 s0 s1 src hsrc (cmBody i arg5 arg6) (selBody i arg5 arg6 arg7 arg8) o3 h3 o4 h4 h7 h8

section Printed
variable (arg2 : Memref sig .scVector .hbm S4x2048x2048 .f32) (h2 : arg2.IsWhole) (arg3 : Memref sig .scVector .hbm S65536 .f32) (h3 : arg3.IsWhole)
  (arg4 : Memref sig .scVector .hbm S65536 .i32) (h4 : arg4.IsWhole) (h5 : arg5.IsWhole) (h6 : arg6.IsWhole) (h7 : arg7.IsWhole) (h8 : arg8.IsWhole)

set_option maxHeartbeats 4000000 in
set_option maxRecDepth 65536 in
theorem k2_group_eq (v2 : BitVec 32) (t : Fin k2_t1_loop.trips) :
    k2_t1_body (F := F) i arg2 h2 arg3 h3 arg4 h4 arg5 h5 arg6 h6 arg7 h7 arg8 h8 arg9 s0 s1 v2 t ⟨⟩
      = groupBody i arg5 arg6 arg7 arg8 arg9 s0 s1
          (rowSrc arg2 (fun l => k2_off1 i t (BitVec.ofNat 32 l.val)) (fun l => k2_off1_inb i t l)) (fun _ => (View.wordExact_bits rfl).reshape _ _)
          (outPiece arg3 (k2_off3 i t) (k2_off3_inb i t)) (View.wordExact_bits rfl) (outPiece arg4 (k2_off3 i t) (k2_off3_inb i t)) (View.wordExact_bits rfl) h7 h8 := by
  unfold groupBody
  rw [← cmBody_eq i arg5 arg6 arg7 arg8 arg2 h2 arg3 h3 arg4 h4 h5 h6 h7 h8 arg9 s0 s1,
    ← selBody_eq i arg5 arg6 arg7 arg8 arg2 h2 arg3 h3 arg4 h4 h5 h6 h7 h8 arg9 s0 s1]
  unfold k2_t1_body
  rw [k2_part19_eq_skeleton, k2_part20_eq_skeleton, k2_part21_eq_skeleton, k2_part22_eq_skeleton, k2_part23_eq_skeleton, k2_part24_eq_skeleton,
    k2_part25_eq_skeleton]
  rfl

set_option maxHeartbeats 4000000 in
set_option maxRecDepth 65536 in
theorem k4_group_eq (v2 : BitVec 32) (t : Fin k2_t1_loop.trips) :
    k4_t1_body (F := F) i arg2 h2 arg3 h3 arg4 h4 arg5 h5 arg6 h6 arg7 h7 arg8 h8 arg9 s0 s1 v2 t ⟨⟩
      = groupBody i arg5 arg6 arg7 arg8 arg9 s0 s1
          (rowSrc arg2 (fun l => k4_off1 i t (BitVec.ofNat 32 l.val)) (fun l => k4_off1_inb i t l)) (fun _ => (View.wordExact_bits rfl).reshape _ _)
          (outPiece arg3 (k2_off3 i t) (k2_off3_inb i t)) (View.wordExact_bits rfl) (outPiece arg4 (k2_off3 i t) (k2_off3_inb i t)) (View.wordExact_bits rfl) h7 h8 := by
  unfold groupBody
  rw [← cmBody_eq i arg5 arg6 arg7 arg8 arg2 h2 arg3 h3 arg4 h4 h5 h6 h7 h8 arg9 s0 s1,
    ← selBody_eq i arg5 arg6 arg7 arg8 arg2 h2 arg3 h3 arg4 h4 h5 h6 h7 h8 arg9 s0 s1]
  rw [← show k4_t2_body (F := F) i arg2 h2 arg3 h3 arg4 h4 arg5 h5 arg6 h6 arg7 h7 arg8 h8 arg9 s0 s1 = k2_t2_body i arg2 h2 arg3 h3 arg4 h4 arg5 h5 arg6 h6 arg7 h7 arg8 h8 arg9 s0 s1 from rfl,
    ← show k4_t3_body (F := F) i arg2 h2 arg3 h3 arg4 h4 arg5 h5 arg6 h6 arg7 h7 arg8 h8 arg9 s0 s1 = k2_t3_body i arg2 h2 arg3 h3 arg4 h4 arg5 h5 arg6 h6 arg7 h7 arg8 h8 arg9 s0 s1 from rfl]
  unfold k4_t1_body
  rw [k4_part19_eq_skeleton, k4_part20_eq_skeleton, k4_part21_eq_skeleton, k4_part22_eq_skeleton, k4_part23_eq_skeleton, k4_part24_eq_skeleton,
    k4_part25_eq_skeleton]
  rfl

set_option maxHeartbeats 4000000 in
set_option maxRecDepth 65536 in
theorem k6_group_eq (v2 : BitVec 32) (t : Fin k2_t1_loop.trips) :
    k6_t1_body (F := F) i arg2 h2 arg3 h3 arg4 h4 arg5 h5 arg6 h6 arg7 h7 arg8 h8 arg9 s0 s1 v2 t ⟨⟩
      = groupBody i arg5 arg6 arg7 arg8 arg9 s0 s1
          (rowSrc arg2 (fun l => k6_off1 i t (BitVec.ofNat 32 l.val)) (fun l => k6_off1_inb i t l)) (fun _ => (View.wordExact_bits rfl).reshape _ _)
          (outPiece arg3 (k2_off3 i t) (k2_off3_inb i t)) (View.wordExact_bits rfl) (outPiece arg4 (k2_off3 i t) (k2_off3_inb i t)) (View.wordExact_bits rfl) h7 h8 := by
  unfold groupBody
  rw [← cmBody_eq i arg5 arg6 arg7 arg8 arg2 h2 arg3 h3 arg4 h4 h5 h6 h7 h8 arg9 s0 s1,
    ← selBody_eq i arg5 arg6 arg7 arg8 arg2 h2 arg3 h3 arg4 h4 h5 h6 h7 h8 arg9 s0 s1]
  rw [← show k6_t2_body (F := F) i arg2 h2 arg3 h3 arg4 h4 arg5 h5 arg6 h6 arg7 h7 arg8 h8 arg9 s0 s1 = k2_t2_body i arg2 h2 arg3 h3 arg4 h4 arg5 h5 arg6 h6 arg7 h7 arg8 h8 arg9 s0 s1 from rfl,
    ← show k6_t3_body (F := F) i arg2 h2 arg3 h3 arg4 h4 arg5 h5 arg6 h6 arg7 h7 arg8 h8 arg9 s0 s1 = k2_t3_body i arg2 h2 arg3 h3 arg4 h4 arg5 h5 arg6 h6 arg7 h7 arg8 h8 arg9 s0 s1 from rfl]
  unfold k6_t1_body
  rw [k6_part19_eq_skeleton, k6_part20_eq_skeleton, k6_part21_eq_skeleton, k6_part22_eq_skeleton, k6_part23_eq_skeleton, k6_part24_eq_skeleton,
    k6_part25_eq_skeleton]
  rfl

set_option maxHeartbeats 4000000 in
set_option maxRecDepth 65536 in
theorem k8_group_eq (v2 : BitVec 32) (t : Fin k2_t1_loop.trips) :
    k8_t1_body (F := F) i arg2 h2 arg3 h3 arg4 h4 arg5 h5 arg6 h6 arg7 h7 arg8 h8 arg9 s0 s1 v2 t ⟨⟩
      = groupBody i arg5 arg6 arg7 arg8 arg9 s0 s1
          (rowSrc arg2 (fun l => k8_off1 i t (BitVec.ofNat 32 l.val)) (fun l => k8_off1_inb i t l)) (fun _ => (View.wordExact_bits rfl).reshape _ _)
          (outPiece arg3 (k2_off3 i t) (k2_off3_inb i t)) (View.wordExact_bits rfl) (outPiece arg4 (k2_off3 i t) (k2_off3_inb i t)) (View.wordExact_bits rfl) h7 h8 := by
  unfold groupBody
  rw [← cmBody_eq i arg5 arg6 arg7 arg8 arg2 h2 arg3 h3 arg4 h4 h5 h6 h7 h8 arg9 s0 s1,
    ← selBody_eq i arg5 arg6 arg7 arg8 arg2 h2 arg3 h3 arg4 h4 h5 h6 h7 h8 arg9 s0 s1]
  rw [← show k8_t2_body (F := F) i arg2 h2 arg3 h3 arg4 h4 arg5 h5 arg6 h6 arg7 h7 arg8 h8 arg9 s0 s1 = k2_t2_body i arg2 h2 arg3 h3 arg4 h4 arg5 h5 arg6 h6 arg7 h7 arg8 h8 arg9 s0 s1 from rfl,
    ← show k8_t3_body (F := F) i arg2 h2 arg3 h3 arg4 h4 arg5 h5 arg6 h6 arg7 h7 arg8 h8 arg9 s0 s1 = k2_t3_body i arg2 h2 arg3 h3 arg4 h4 arg5 h5 arg6 h6 arg7 h7 arg8 h8 arg9 s0 s1 from rfl]
  unfold k8_t1_body
  rw [k8_part19_eq_skeleton, k8_part20_eq_skeleton, k8_part21_eq_skeleton, k8_part22_eq_skeleton, k8_part23_eq_skeleton, k8_part24_eq_skeleton,
    k8_part25_eq_skeleton]
  rfl

end Printed
end Cert.Topk
-- ==== Proof.GroupWp.lean ====
/-
  One trip of a tile's outer loop, run: sixteen rows copied in, the 32 smallest of each selected, the two result
  pieces copied out.
-/
module

public import proofs.«01_k».proof.Proof.TopkLoop
public import proofs.«01_k».proof.Proof.GroupProg
public import Idealize.ShloMosaic.Lib.Batch
public import Idealize.ShloMosaic.Lib.Memref

@[expose] public section

noncomputable section

namespace Cert.Topk

open Idealize.SL Idealize.ShloMosaic Cert.KernelIdeal Cert.KernelIdeal.Gen
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers

variable {F : FTy → Type} [FloatOps F]
variable {d : Fin nD} {Ix : Type} [DecidableEq Ix] {Name : Type} [DecidableEq Name] [Infinite Name]
variable {U : Type} [URA U] {Lvl : Type} [Preorder Lvl]
variable (i : grid2.Coords) (arg5 : Memref sig .scVector .vmem S32768 .f32) (arg6 : Memref sig .scVector .vmem S1024 .f32)
  (arg7 : Memref sig .scVector .vmem S512 .f32) (arg8 : Memref sig .scVector .vmem S512 .i32) (arg9 s0 s1 : DmaSems sig S_)
variable {defs : Defs nD τ sig (Elt F) Λ₀} (𝒱 : Variants) (bd : Option 𝒱.V)

local notation "𝕄" => MT nD τ sig Ix (Elt F) Name U Lvl

variable (EC : UEmb Counters (MT nD τ sig Ix (Elt F) Name U Lvl)) [EC.LandsIn (upEmb : UEmb _ (MT nD τ sig Ix (Elt F) Name U Lvl))]
variable (ι : Ix) (O : CellTallies nD τ sig Ix)

theorem bigSep_both {I : Type} [DecidableEq I] (s : Finset I) (A B : I → sProp 𝕄) :
    bigSep s (fun t => iprop(A t ∗ B t)) = (iprop(bigSep s A ∗ bigSep s B) : sProp 𝕄) := bigSep_sep s A B

theorem owns_any (c : Thread nD τ) {sp : Space} {sh : Shape} {e : EltTy} (m : Memref sig c.2.kind sp sh e) (X : sh.Idx → Elt F e) :
    (owns c m fullShare X : sProp 𝕄) ⊢ iprop(∃ Y, owns c m fullShare Y) := by
  iintro H; iexists X; iexact H

/-- A memref written whole reads what was written. -/
theorem owns_written (c : Thread nD τ) {sp : Space} {sh : Shape} {e : EltTy} (m : Memref sig c.2.kind sp sh e) (f : Buf (Elt F) (m.view.loc c)) (X Y : sh.Idx → Elt F e) (h : Y = X) :
    (m.view.loc c ↦[m.view.set]{fullShare} (m.view.write (Elt F) f Y Finset.univ) : sProp 𝕄) ⊢ owns c m fullShare X := by
  subst h
  unfold owns
  iintro H
  iexists _
  isplitr
  swap
  · iexact H
  · ipureintro
    funext x
    exact View.read_write_of_mem _ _ (Finset.mem_univ x)

section Rows
variable (src : Fin 16 → Memref sig .scVector .hbm S2048 .f32) (hsrc : ∀ l, (src l).view.WordExact) (V : Fin 16 → S2048.Idx → Elt F .f32)

/-- What a row's copy delivers: the row in the tile's buffer, and its source back. -/
def rowD (l : Fin 16) : sProp 𝕄 := iprop(owns (thr d i) (rowDst arg5 l.val l.isLt) fullShare (V l) ∗ owns (thr d i) (src l) fullShare (V l))

instance rowD_storable (l : Fin 16) : BI.Storable (upEmb : UEmb _ 𝕄) (rowD (d := d) i arg5 src V l) := by unfold rowD; infer_instance

/-- A row's copy not yet issued: the destination at anything, and the source. -/
def rowP (l : Fin 16) : sProp 𝕄 := iprop((∃ X, owns (thr d i) (rowDst arg5 l.val l.isLt) fullShare X) ∗ owns (thr d i) (src l) fullShare (V l))

/-- The units a row's copy gives its semaphore. -/
abbrev rowN : Nat := (rowDst arg5 0 (by decide)).view.dmaCredit

theorem wp_enqs (rest : TP F i Unit) (Q : Unit → sProp 𝕄) : ∀ (k : Nat) (h : k ≤ 16),
    iprop(bigSep (pending (n := 16) (16 - k)) (rowP (d := d) i arg5 src V) ∗ Batch EC (thr d i) (.dma arg9.sem) ι (rowN arg5) (rowD (d := d) i arg5 src V) (16 - k) 0)
      ⊢ iprop((Batch EC (thr d i) (.dma arg9.sem) ι (rowN arg5) (rowD (d := d) i arg5 src V) 16 0 -∗ wp frame (wpE defs 𝒱 (thr d i) bd) Set.univ rest Q)
          -∗ wp frame (wpE defs 𝒱 (thr d i) bd) Set.univ (enqs i arg5 arg9 src hsrc rest k h) Q) := by
  intro k
  induction k with
  | zero =>
    intro h
    iintro ⟨-, HB⟩ HK
    unfold enqs
    iapply HK
    iexact HB
  | succ k ih =>
    intro h
    have hj : 16 - (k + 1) < 16 := by omega
    have hj1 : 16 - (k + 1) + 1 = 16 - k := by omega
    unfold enqs
    iintro ⟨HP, HB⟩ HK
    ihave HP' := (show bigSep (pending (n := 16) (16 - (k + 1))) (rowP (d := d) i arg5 src V)
        ⊢ (iprop(rowP (d := d) i arg5 src V ⟨16 - (k + 1), hj⟩ ∗ bigSep (pending (n := 16) (16 - k)) (rowP (d := d) i arg5 src V)) : sProp 𝕄)
      from Entails.of_eq (by rw [pending_succ hj, bigSep_insert (not_mem_pending_succ hj), hj1]; rfl)) $$ HP
    icases HP' with ⟨HR, HP⟩
    unfold rowP owns
    icases HR with ⟨⟨%X, %fd, %hfd, Hd⟩, ⟨%fs, %hfs, Hs⟩⟩
    iapply (wp_dmaBatch (defs := defs) EC 𝒱 (thr d i) bd ι (rowN arg5) (src := src ⟨16 - (k + 1), hj⟩) (dst := rowDst arg5 (16 - (k + 1)) hj)
      (sm := .dma arg9.sem) (D := rowD (d := d) i arg5 src V) (fs := fs) (fd := fd) (q := fullShare) rfl (Finset.Subset.refl _) hj (Nat.zero_le _) ?_) $$ [Hd Hs HB]
    · unfold rowD
      iintro ⟨Hd, Hs⟩
      isplitl [Hd]
      · iapply (owns_written (thr d i) _ _ _ _ ?_) $$ Hd
        simp only [ReadAs.apply_same]; exact hfs
      · unfold owns; iexists fs; isplitr
        · ipureintro; exact hfs
        · iexact Hs
    · isplitl [Hs]
      · iexact Hs
      isplitl [Hd]
      · iexact Hd
      · iexact HB
    iintro HB
    rw [hj1]
    iapply (ih (by omega)) $$ [HP HB] HK
    isplitl [HP]
    · iexact HP
    · iexact HB

theorem wp_wts (rest : TP F i Unit) (Q : Unit → sProp 𝕄) (W : Waits sig Ix) : ∀ (k : Nat) (h : k + 1 ≤ 16) (W' : Waits sig Ix) (_ : ∀ p ∈ W', p ∈ W ∨ p.2 = ι),
    iprop(Batch EC (thr d i) (.dma arg9.sem) ι (rowN arg5) (rowD (d := d) i arg5 src V) 16 ((16 - (k + 1)) * rowN arg5) ∗ owes (thr d i) O W' ∗ MayWaits (thr d i) ι O)
      ⊢ iprop((∀ W', ⌜∀ p ∈ W', p ∈ W ∨ p.2 = ι⌝ -∗ bigSep Finset.univ (rowD (d := d) i arg5 src V) -∗ semVal (thr d i, .dma arg9.sem) 0 -∗ owes (thr d i) O W'
            -∗ wp frame (wpE defs 𝒱 (thr d i) bd) Set.univ rest Q)
          -∗ wp frame (wpE defs 𝒱 (thr d i) bd) Set.univ (wts i arg5 arg9 src hsrc rest (k + 1) h) Q) := by
  have hN0 : 0 < rowN arg5 := View.dmaCredit_pos _ (show 0 < S2048.numel by decide)
  intro k
  induction k with
  | zero =>
    intro h W' hW'
    unfold wts
    iintro ⟨HB, HO, Hmw⟩ HK
    ihave Hm := (MayWaits.elim (SemLoc.dma arg9.sem)) $$ Hmw
    iapply (wp_waitBatchLastO (defs := defs) (srcw := src ⟨16 - (0 + 1), by omega⟩) (dstw := rowDst arg5 (16 - (0 + 1)) (by omega)) (hsrc := hsrc _) (hdst := View.wordExact_bits rfl) EC 𝒱 (thr d i) bd ι (N := rowN arg5) rfl hN0 (D := rowD (d := d) i arg5 src V) (u := (16 - (0 + 1)) * rowN arg5) (by omega)) $$ [HB HO Hm]
    · isplitl [HB]
      · iexact HB
      isplitl [HO]
      · iexact HO
      · iexact Hm
    iintro ⟨HD, HS, HO⟩
    unfold wts
    iapply HK $$ %_ [] HD HS HO
    ipureintro
    intro p hp
    rcases Finset.mem_insert.mp hp with hp | hp
    · exact .inr (hp ▸ rfl)
    · exact hW' p hp
  | succ k ih =>
    intro h W' hW'
    unfold wts
    iintro ⟨HB, HO, #Hmw⟩ HK
    ihave Hm := (MayWaits.elim (SemLoc.dma arg9.sem)) $$ Hmw
    have hu : (16 - (k + 1 + 1)) * rowN arg5 + rowN arg5 = (16 - (k + 1)) * rowN arg5 := by
      rw [← Nat.succ_mul]; congr 1; omega
    iapply (wp_waitBatchO (defs := defs) (srcw := src ⟨16 - (k + 1 + 1), by omega⟩) (dstw := rowDst arg5 (16 - (k + 1 + 1)) (by omega)) (hsrc := hsrc _) (hdst := View.wordExact_bits rfl) EC 𝒱 (thr d i) bd ι (N := rowN arg5) rfl (D := rowD (d := d) i arg5 src V) (u := (16 - (k + 1 + 1)) * rowN arg5) (by
        rw [hu, Nat.mul_comm]; exact Nat.mul_lt_mul_of_pos_left (by omega) hN0)) $$ [HB HO Hm]
    · isplitl [HB]
      · iexact HB
      isplitl [HO]
      · iexact HO
      · iexact Hm
    rw [hu]
    iintro ⟨HB, HO⟩
    iapply (ih (by omega) (insert (SemLoc.dma arg9.sem, ι) W') ?_) $$ [HB HO] HK
    · intro p hp
      rcases Finset.mem_insert.mp hp with hp | hp
      · exact .inr (hp ▸ rfl)
      · exact hW' p hp
    · isplitl [HB]
      · iexact HB
      isplitl [HO]
      · iexact HO
      · iexact Hmw

/-- The tile's buffer, cut into its sixteen rows. -/
abbrev dstRect (l : Fin 16) : Rect S32768 := Rect.unit (s := S32768) ![2048 * l.val] S2048.size (dst_inb l.val l.isLt)

end Rows

include EC in
/-- A copy out of the tile, issued and waited for. -/
theorem wp_copyOut {e : EltTy} (a : Memref sig .scVector .vmem S512 e) (o : Memref sig .scVector .hbm S512 e) (ha : a.view.WordExact) (ho : o.view.WordExact) (sm : DmaSems sig S_)
    (X Y : S512.Idx → Elt F e) (W : Waits sig Ix) {α : Type} (K : Unit → TP F i α) (Q : α → sProp 𝕄) :
    iprop(owns (thr d i) a fullShare X ∗ owns (thr d i) o fullShare Y ∗ semVal (thr d i, .dma sm.sem) 0 ∗ owes (thr d i) O W ∗ MayWaits (thr d i) ι O)
      ⊢ iprop((owns (thr d i) a fullShare X -∗ owns (thr d i) o fullShare X -∗ semVal (thr d i, .dma sm.sem) 0 -∗ owes (thr d i) O (insert (SemLoc.dma sm.sem, ι) W)
            -∗ wp frame (wpE defs 𝒱 (thr d i) bd) Set.univ (K ⟨⟩) Q)
          -∗ wp frame (wpE defs 𝒱 (thr d i) bd) Set.univ (Prog.lift (.enqueueDma a (.here o) (.dma sm.sem) ha ho ⟨Or.inl rfl, trivial⟩) >>= fun _ =>
              Prog.lift (.waitDma2 sm.sem a o ha ho) >>= K) Q) := by
  have hN0 : 0 < o.view.dmaCredit := View.dmaCredit_pos _ (show 0 < S512.numel by decide)
  iintro ⟨Ha, Ho, HS, HO, Hmw⟩ HK
  unfold owns
  icases Ha with ⟨%fa, %hfa, Ha⟩
  icases Ho with ⟨%fo, %hfo, Ho⟩
  iapply (wp_dmaLocal (defs := defs) EC 𝒱 (thr d i) bd ι o.view.dmaCredit (src := a) (dst := o) (sm := .dma sm.sem) (fs := fa) (fd := fo) (q := fullShare) rfl hN0 (Finset.Subset.refl _)) $$ [Ha Ho HS]
  · isplitl [Ha]
    · iexact Ha
    isplitl [Ho]
    · iexact Ho
    · iexact HS
  iintro HF
  ihave Hm := (MayWaits.elim (SemLoc.dma sm.sem)) $$ Hmw
  iapply (wp_waitLocalO (defs := defs) (srcw := a) (dstw := o) (hsrc := ha) (hdst := ho) EC 𝒱 (thr d i) bd ι (N := o.view.dmaCredit) rfl) $$ [HF HO Hm]
  · isplitl [HF]
    · iexact HF
    isplitl [HO]
    · iexact HO
    · iexact Hm
  iintro ⟨⟨Ho, Ha⟩, HS, HO⟩
  iapply HK $$ [Ha] [Ho] HS HO
  · iexists fa; isplitr
    · ipureintro; exact hfa
    · iexact Ha
  · ihave Ho' := (owns_written (thr d i) o fo X (ReadAs.same.apply (a.view.read (Elt F) fa)) hfa) $$ Ho
    unfold owns
    iexact Ho'

/-- A column number as an index of a row. -/
def colIdx (n : Nat) : S2048.Idx := fun a => ⟨n % 2048, by obtain rfl : a = 0 := Subsingleton.elim (α := Fin 1) _ _; exact Nat.mod_lt n (by decide)⟩

/-- Sixteen rows as one table: column `c` of row `l`. -/
def table (V : Fin 16 → S2048.Idx → F .f32) : Nat → Nat → F .f32 := fun l c =>
  V ⟨l % 16, Nat.mod_lt _ (by decide)⟩ (colIdx c)

/-- The selection's state before its first step, over rows `V`; what the result buffers hold then does not matter. -/
def sel0 (V : Fin 16 → S2048.Idx → F .f32) (N : Nat → Nat → F .f32) (I : Nat → Nat → BitVec 32) : Sel F := ⟨table V, minima (table V), N, I⟩

theorem dst_disj (l l' : Fin 16) (h : l ≠ l') : Disjoint (dstRect l).set (dstRect l').set := by
  rw [Finset.disjoint_left]
  intro x hx hx'
  rw [Rect.mem_set_unit] at hx hx'
  have h1 := hx 0; have h2 := hx' 0
  simp only [Matrix.cons_val_zero] at h1 h2
  have : S2048.size 0 = 2048 := rfl
  apply h; apply Fin.ext; omega

theorem dst_cov : Finset.univ.biUnion (fun l => (dstRect l).set) = Finset.univ := by
  ext x
  simp only [Finset.mem_biUnion, Finset.mem_univ, true_and, iff_true]
  have hx : (x 0).val < 32768 := (x 0).isLt
  refine ⟨⟨(x 0).val / 2048, by omega⟩, ?_⟩
  rw [Rect.mem_set_unit]
  intro a
  obtain rfl : a = 0 := Subsingleton.elim (α := Fin 1) _ _
  have : S2048.size 0 = 2048 := rfl
  simp only [Matrix.cons_val_zero]
  omega

theorem table_dst (V : Fin 16 → S2048.Idx → Elt F .f32) (l : Fin 16) : (fun j => fl5 (table V) ((dstRect l).emb j)) = V l := by
  funext j
  have hj : (j 0).val < 2048 := (j 0).isLt
  have he : (((dstRect l).emb j) 0).val = 2048 * l.val + (j 0).val := by
    show 2048 * l.val + 1 * (j 0).val = _
    omega
  unfold fl5 table
  rw [he]
  have hl := l.isLt
  congr 1
  · apply Fin.ext; show (2048 * l.val + (j 0).val) / 2048 % 16 = l.val; omega
  · funext a; obtain rfl : a = 0 := Subsingleton.elim (α := Fin 1) _ _
    apply Fin.ext; show (2048 * l.val + (j 0).val) % 2048 % 2048 = (j 0).val; omega

/-- Two selections over the same rows agree on all they have written. -/
theorem iter_agree (S S' : Sel F) (hB : S.B = S'.B) (hM : S.M = S'.M) : ∀ n, (S.iter n).B = (S'.iter n).B ∧ (S.iter n).M = (S'.iter n).M
    ∧ (∀ l u, u < n → (S.iter n).N l u = (S'.iter n).N l u) ∧ (∀ l u, u < n → (S.iter n).I l u = (S'.iter n).I l u)
  | 0 => ⟨hB, hM, fun _ _ h => absurd h (Nat.not_lt_zero _), fun _ _ h => absurd h (Nat.not_lt_zero _)⟩
  | n + 1 => by
    obtain ⟨h1, h2, h3, h4⟩ := iter_agree S S' hB hM n
    have hc : (S.iter n).chunk = (S'.iter n).chunk := by unfold Sel.chunk; rw [h2]
    have hf : (S.iter n).found = (S'.iter n).found := by unfold Sel.found; rw [h1, hc]
    refine ⟨?_, ?_, fun l u hu => ?_, fun l u hu => ?_⟩
    · show ((S.iter n).step n).B = ((S'.iter n).step n).B
      unfold Sel.step; simp only [h1, hf]
    · show ((S.iter n).step n).M = ((S'.iter n).step n).M
      unfold Sel.step; simp only [h2, hf, hc]
    · show ((S.iter n).step n).N l u = ((S'.iter n).step n).N l u
      unfold Sel.step; simp only [hf]
      split
      · rfl
      · exact h3 l u (by omega)
    · show ((S.iter n).step n).I l u = ((S'.iter n).step n).I l u
      unfold Sel.step; simp only [hf]
      split
      · rfl
      · exact h4 l u (by omega)

/-- The 32 nearest columns of sixteen rows. -/
def nearest (V : Fin 16 → S2048.Idx → F .f32) : Sel F := (sel0 V (fun _ _ => k2_pay3 (lane 0)) (fun _ _ => 0#32)).iter 32

theorem nearest_N (V : Fin 16 → S2048.Idx → F .f32) (N : Nat → Nat → F .f32) (I : Nat → Nat → BitVec 32) :
    fl7 ((sel0 V N I).iter 32).N = fl7 (nearest V).N := by
  funext j
  exact (iter_agree (sel0 V N I) (sel0 V (fun _ _ => k2_pay3 (lane 0)) (fun _ _ => 0#32)) rfl rfl 32).2.2.1 _ _ (Nat.mod_lt _ (by decide))

theorem nearest_I (V : Fin 16 → S2048.Idx → F .f32) (N : Nat → Nat → F .f32) (I : Nat → Nat → BitVec 32) :
    fl8 (F := F) ((sel0 V N I).iter 32).I = fl8 (F := F) (nearest V).I := by
  funext j
  exact (iter_agree (sel0 V N I) (sel0 V (fun _ _ => k2_pay3 (lane 0)) (fun _ _ => 0#32)) rfl rfl 32).2.2.2 _ _ (Nat.mod_lt _ (by decide))

/-- A word number as an index of a result buffer. -/
def wordIdx (n : Nat) : S512.Idx := fun a => ⟨n % 512, by obtain rfl : a = 0 := Subsingleton.elim (α := Fin 1) _ _; exact Nat.mod_lt n (by decide)⟩

theorem wordIdx_split (j : S512.Idx) : wordIdx (32 * ((j 0).val / 32) + (j 0).val % 32) = j := by
  have hj : (j 0).val < 512 := (j 0).isLt
  funext a; obtain rfl : a = 0 := Subsingleton.elim (α := Fin 1) _ _
  apply Fin.ext; show (32 * ((j 0).val / 32) + (j 0).val % 32) % 512 = (j 0).val; omega

theorem fl7_any (X : S512.Idx → Elt F .f32) : X = fl7 (fun l u => X (wordIdx (32 * l + u))) := by
  funext j; unfold fl7; simp only [wordIdx_split]
theorem fl8_any (X : S512.Idx → Elt F .i32) : X = fl8 (F := F) (fun l u => X (wordIdx (32 * l + u))) := by
  funext j; unfold fl8; simp only [wordIdx_split]

/-- What a tile holds between its trips: its buffers at anything, its semaphores at zero, and what it owes. -/
def tileSt (d : Fin nD) (W : Waits sig Ix) : sProp 𝕄 :=
  iprop((∃ X, owns (thr d i) arg5 fullShare X) ∗ (∃ X, owns (thr d i) arg6 fullShare X) ∗ (∃ X, owns (thr d i) arg7 fullShare X) ∗ (∃ X, owns (thr d i) arg8 fullShare X)
    ∗ semVal (thr d i, .dma arg9.sem) 0 ∗ semVal (thr d i, .dma s0.sem) 0 ∗ semVal (thr d i, .dma s1.sem) 0
    ∗ MayWaits (thr d i) ι O ∗ ∃ W', ⌜∀ p ∈ W', p ∈ W ∨ p.2 = ι⌝ ∗ owes (thr d i) O W')

theorem more_waits {W W' : Waits sig Ix} {ι : Ix} {s : SemLoc sig} (h : ∀ p ∈ W', p ∈ W ∨ p.2 = ι) : ∀ p ∈ insert (s, ι) W', p ∈ W ∨ p.2 = ι := by
  intro p hp
  rcases Finset.mem_insert.mp hp with hp | hp
  · exact .inr (hp ▸ rfl)
  · exact h p hp

include EC in
/-- One trip. -/
theorem wp_group (src : Fin 16 → Memref sig .scVector .hbm S2048 .f32) (hsrc : ∀ l, (src l).view.WordExact) (V : Fin 16 → S2048.Idx → F .f32)
    (o3 : Memref sig .scVector .hbm S512 .f32) (h3 : o3.view.WordExact) (o4 : Memref sig .scVector .hbm S512 .i32) (h4 : o4.view.WordExact)
    (h7 : arg7.IsWhole) (h8 : arg8.IsWhole) (W : Waits sig Ix) (Q : Unit → sProp 𝕄) :
    iprop(tileSt i arg5 arg6 arg7 arg8 arg9 s0 s1 ι O d W ∗ bigSep Finset.univ (fun l => owns (thr d i) (src l) fullShare (V l))
        ∗ (∃ Y, owns (thr d i) o3 fullShare Y) ∗ (∃ Y, owns (thr d i) o4 fullShare Y))
      ⊢ iprop((tileSt i arg5 arg6 arg7 arg8 arg9 s0 s1 ι O d W -∗ bigSep Finset.univ (fun l => owns (thr d i) (src l) fullShare (V l))
            -∗ owns (thr d i) o3 fullShare (fl7 (nearest V).N) -∗ owns (thr d i) o4 fullShare (fl8 (F := F) (nearest V).I) -∗ Q ⟨⟩)
          -∗ wp frame (wpE defs 𝒱 (thr d i) bd) Set.univ (groupBody i arg5 arg6 arg7 arg8 arg9 s0 s1 src hsrc o3 h3 o4 h4 h7 h8) Q) := by
  unfold tileSt groupBody groupWith
  iintro ⟨⟨⟨%X5, H5⟩, ⟨%X6, H6⟩, ⟨%X7, H7⟩, ⟨%X8, H8⟩, Hs9, Hs0, Hs1, #Hmw, %W1, %hW1, HO⟩, Hsrc, ⟨%Y3, H3⟩, ⟨%Y4, H4⟩⟩ HK
  ihave H5' := (owns_rects (thr d i) arg5 fullShare dstRect (fun _ _ => rfl) dst_disj dst_cov X5) $$ H5
  imod (batch_alloc' (c := thr d i) EC ι (rowN arg5) (rowD (d := d) i arg5 src V) (sm := .dma arg9.sem) (E := Set.univ)) $$ Hs9 with HB
  iapply (wp_enqs (defs := defs) i arg5 arg9 𝒱 bd EC ι src hsrc V _ _ 16 le_rfl) $$ [H5' Hsrc HB]
  · isplitl [H5' Hsrc]
    · rw [show pending (n := 16) (16 - 16) = Finset.univ from pending_zero]
      unfold rowP
      iapply (Entails.of_eq (bigSep_both Finset.univ _ _).symm)
      isplitl [H5']
      · iapply (show bigSep Finset.univ (fun l => owns (thr d i) (arg5.slice (dstRect l) (fun _ => rfl)) fullShare (fun j => X5 ((dstRect l).emb j)))
            ⊢ (bigSep Finset.univ (fun l : Fin 16 => iprop(∃ X, owns (thr d i) (rowDst arg5 l.val l.isLt) fullShare X)) : sProp 𝕄) from
          bigSep_mono fun l _ => owns_any _ _ _) $$ H5'
      · iexact Hsrc
    · iexact HB
  iintro HB
  iapply (wp_wts (defs := defs) i arg5 arg9 𝒱 bd EC ι O src hsrc V _ _ W 15 le_rfl W1 hW1) $$ [HB HO]
  · isplitl [HB]
    · rw [show (16 - (15 + 1)) * rowN arg5 = 0 from by simp]
      iexact HB
    isplitl [HO]
    · iexact HO
    · iexact Hmw
  iintro %W2 %hW2 HD Hs9 HO
  ihave HD' := (show bigSep Finset.univ (rowD (d := d) i arg5 src V) ⊢ (iprop(bigSep Finset.univ (fun l => owns (thr d i) (arg5.slice (dstRect l) (fun _ => rfl)) fullShare (fun j => fl5 (table V) ((dstRect l).emb j)))
      ∗ bigSep Finset.univ (fun l => owns (thr d i) (src l) fullShare (V l))) : sProp 𝕄) from by
    simp only [table_dst]
    unfold rowD
    exact Entails.of_eq (bigSep_both Finset.univ _ _)) $$ HD
  icases HD' with ⟨H5, Hsrc⟩
  ihave H5 := (owns_of_rects (thr d i) arg5 fullShare dstRect (fun _ _ => rfl) dst_disj dst_cov (fl5 (table V))) $$ H5
  iapply (wp_cmLoop (defs := defs) i arg5 arg6 𝒱 bd Set.univ k2_t2_ok (table V) X6 _ _) $$ [H5 H6]
  · isplitl [H5]
    · iexact H5
    · iexact H6
  iintro H5 H6
  iapply (wp_selLoop (defs := defs) i arg5 arg6 arg7 arg8 𝒱 bd Set.univ k2_t3_ok (sel0 V (fun l u => X7 (wordIdx (32 * l + u))) (fun l u => X8 (wordIdx (32 * l + u)))) _ _) $$ [H5 H6 H7 H8]
  · unfold selOwn sel0
    simp only [← fl7_any X7, ← fl8_any X8]
    isplitl [H5]
    · iexact H5
    isplitl [H6]
    · iexact H6
    isplitl [H7]
    · iexact H7
    · iexact H8
  iintro HS
  unfold selOwn
  rw [nearest_N, nearest_I]
  icases HS with ⟨H5, H6, H7, H8⟩
  iapply (wp_copyOut (defs := defs) i 𝒱 bd EC ι O arg7 o3 h7.wordExact h3 s0 _ Y3 W2 _ _) $$ [H7 H3 Hs0 HO]
  · isplitl [H7]
    · iexact H7
    isplitl [H3]
    · iexact H3
    isplitl [Hs0]
    · iexact Hs0
    isplitl [HO]
    · iexact HO
    · iexact Hmw
  iintro H7 H3 Hs0 HO
  iapply (wp_copyOut (defs := defs) i 𝒱 bd EC ι O arg8 o4 h8.wordExact h4 s1 _ Y4 _ _ _) $$ [H8 H4 Hs1 HO]
  · isplitl [H8]
    · iexact H8
    isplitl [H4]
    · iexact H4
    isplitl [Hs1]
    · iexact Hs1
    isplitl [HO]
    · iexact HO
    · iexact Hmw
  iintro H8 H4 Hs1 HO
  iapply (wp_ret_intro (defs := defs) i 𝒱 bd Set.univ () Q)
  iapply HK $$ [H5 H6 H7 H8 Hs9 Hs0 Hs1 HO] Hsrc H3 H4
  isplitl [H5]
  · iexists _; iexact H5
  isplitl [H6]
  · iexists _; iexact H6
  isplitl [H7]
  · iexists _; iexact H7
  isplitl [H8]
  · iexists _; iexact H8
  isplitl [Hs9]
  · iexact Hs9
  isplitl [Hs0]
  · iexact Hs0
  isplitl [Hs1]
  · iexact Hs1
  isplitr
  · iexact Hmw
  iexists _
  isplitr
  swap
  · iexact HO
  · ipureintro
    exact more_waits (more_waits hW2)

end Cert.Topk
-- ==== Proof.TileWp.lean ====
/-
  A tile's whole body: four trips, each over sixteen rows of one batch.  The four calls of the kernel take the four
  batches; their bodies are one program at four offsets.
-/
module

public import proofs.«01_k».proof.Proof.GroupWp
public import Idealize.ShloMosaic.Lib.ValueLayout
public import Idealize.ShloMosaic.Lib.SparseCore.Cells

@[expose] public section

noncomputable section

namespace Cert.Topk

open Idealize.SL Idealize.ShloMosaic Cert.KernelIdeal Cert.KernelIdeal.Gen
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.ValueIdx

variable {F : FTy → Type} [FloatOps F]

/-- The number of a group of sixteen rows: trip `t` of tile `i`. -/
def gno (i : grid2.Coords) (t : Nat) : Nat := ((i 1).val * 2 + (i 0).val) * 4 + t

theorem gno_lt (i : grid2.Coords) (t : Fin k2_t1_loop.trips) : gno i t.val < 128 := by
  have h0 : (i 0).val < 2 := (i 0).isLt
  have h1 : (i 1).val < 16 := (i 1).isLt
  have ht : t.val < 4 := t.isLt
  unfold gno; omega

def rowOff (b : Fin 4) (i : grid2.Coords) (t : Nat) (l : Fin 16) : Fin 3 → Nat := ![b.val, 16 * gno i t + l.val, 0]
def outOff (i : grid2.Coords) (t : Nat) : Fin 1 → Nat := ![512 * gno i t]

theorem rowOff_inb (b : Fin 4) (i : grid2.Coords) (t : Fin k2_t1_loop.trips) (l : Fin 16) : ∀ a, rowOff b i t.val l a + S1x1x2048.size a ≤ S4x2048x2048.size a := by
  have hg := gno_lt i t
  have hl := l.isLt
  have hb := b.isLt
  intro a
  match a with
  | ⟨0, _⟩ => show b.val + 1 ≤ 4; omega
  | ⟨1, _⟩ => show 16 * gno i t.val + l.val + 1 ≤ 2048; omega
  | ⟨2, _⟩ => show 0 + 2048 ≤ 2048; omega

theorem outOff_inb (i : grid2.Coords) (t : Fin k2_t1_loop.trips) : ∀ a, outOff i t.val a + S512.size a ≤ S65536.size a := by
  have hg := gno_lt i t
  intro a; obtain rfl : a = 0 := Subsingleton.elim (α := Fin 1) _ _
  show 512 * gno i t.val + 512 ≤ 65536; omega

theorem row_toNat (i : grid2.Coords) (t : Fin k2_t1_loop.trips) (l : Fin 16) :
    ((BitVec.ofNat 32 (i 1).val * 2#32 + BitVec.ofNat 32 (i 0).val) * 64#32 + (0#32 + BitVec.ofNat 32 t.val * 1#32) * 16#32 + BitVec.ofNat 32 l.val).toNat
      = 16 * gno i t.val + l.val := by
  have h0 : (i 0).val < 2 := (i 0).isLt
  have h1 : (i 1).val < 16 := (i 1).isLt
  have ht : t.val < 4 := t.isLt
  have hl := l.isLt
  unfold gno
  simp
  omega

theorem k2_off1_eq (i : grid2.Coords) (t : Fin k2_t1_loop.trips) (l : Fin 16) : k2_off1 i t (BitVec.ofNat 32 l.val) = rowOff 0 i t.val l := by
  funext a
  match a with
  | ⟨0, _⟩ => rfl
  | ⟨1, _⟩ => exact row_toNat i t l
  | ⟨2, _⟩ => rfl
theorem k4_off1_eq (i : grid2.Coords) (t : Fin k2_t1_loop.trips) (l : Fin 16) : k4_off1 i t (BitVec.ofNat 32 l.val) = rowOff 1 i t.val l := by
  funext a
  match a with
  | ⟨0, _⟩ => rfl
  | ⟨1, _⟩ => exact row_toNat i t l
  | ⟨2, _⟩ => rfl
theorem k6_off1_eq (i : grid2.Coords) (t : Fin k2_t1_loop.trips) (l : Fin 16) : k6_off1 i t (BitVec.ofNat 32 l.val) = rowOff 2 i t.val l := by
  funext a
  match a with
  | ⟨0, _⟩ => rfl
  | ⟨1, _⟩ => exact row_toNat i t l
  | ⟨2, _⟩ => rfl
theorem k8_off1_eq (i : grid2.Coords) (t : Fin k2_t1_loop.trips) (l : Fin 16) : k8_off1 i t (BitVec.ofNat 32 l.val) = rowOff 3 i t.val l := by
  funext a
  match a with
  | ⟨0, _⟩ => rfl
  | ⟨1, _⟩ => exact row_toNat i t l
  | ⟨2, _⟩ => rfl

theorem k2_off3_eq (i : grid2.Coords) (t : Fin k2_t1_loop.trips) : k2_off3 i t = outOff i t.val := by
  have h0 : (i 0).val < 2 := (i 0).isLt
  have h1 : (i 1).val < 16 := (i 1).isLt
  have ht : t.val < 4 := t.isLt
  funext a; obtain rfl : a = 0 := Subsingleton.elim (α := Fin 1) _ _
  show (((BitVec.ofNat 32 (i 1).val * 2#32 + BitVec.ofNat 32 (i 0).val) * 64#32 + (0#32 + BitVec.ofNat 32 t.val * 1#32) * 16#32) * 32#32).toNat = 512 * gno i t.val
  unfold gno
  simp
  omega

theorem rowSrc_congr (arg2 : Memref sig .scVector .hbm S4x2048x2048 .f32) (off off' : Fin 16 → Fin 3 → Nat) (h : off = off') (ho ho') :
    rowSrc arg2 off ho = rowSrc arg2 off' ho' := by subst h; rfl
theorem outPiece_congr {e : EltTy} (arg3 : Memref sig .scVector .hbm S65536 e) (off off' : Fin 1 → Nat) (h : off = off') (ho ho') :
    outPiece arg3 off ho = outPiece arg3 off' ho' := by subst h; rfl

section Tile
variable (i : grid2.Coords) (arg2 : Memref sig .scVector .hbm S4x2048x2048 .f32) (arg3 : Memref sig .scVector .hbm S65536 .f32)
  (arg4 : Memref sig .scVector .hbm S65536 .i32) (arg5 : Memref sig .scVector .vmem S32768 .f32) (arg6 : Memref sig .scVector .vmem S1024 .f32)
  (arg7 : Memref sig .scVector .vmem S512 .f32) (arg8 : Memref sig .scVector .vmem S512 .i32) (arg9 s0 s1 : DmaSems sig S_)

abbrev srcAt (b : Fin 4) (t : Fin k2_t1_loop.trips) : Fin 16 → Memref sig .scVector .hbm S2048 .f32 :=
  rowSrc arg2 (fun l => rowOff b i t.val l) (fun l => rowOff_inb b i t l)
abbrev out3 (t : Fin k2_t1_loop.trips) : Memref sig .scVector .hbm S512 .f32 := outPiece arg3 (outOff i t.val) (outOff_inb i t)
abbrev out4 (t : Fin k2_t1_loop.trips) : Memref sig .scVector .hbm S512 .i32 := outPiece arg4 (outOff i t.val) (outOff_inb i t)

/-- A tile's body on batch `b`. -/
def tileBody (b : Fin 4) (h7 : arg7.IsWhole) (h8 : arg8.IsWhole) : TP F i Unit := do
  Scf.Loop.for k2_t1_loop k2_t1_ok ⟨⟩ (fun t _ =>
    groupBody i arg5 arg6 arg7 arg8 arg9 s0 s1 (srcAt i arg2 b t) (fun _ => (View.wordExact_bits rfl).reshape _ _)
      (out3 i arg3 t) (View.wordExact_bits rfl) (out4 i arg4 t) (View.wordExact_bits rfl) h7 h8)
  pure ⟨⟩

theorem groupBody_congr (src src' : Fin 16 → Memref sig .scVector .hbm S2048 .f32) (hs : src = src') (o3 o3' : Memref sig .scVector .hbm S512 .f32) (h3 : o3 = o3')
    (o4 o4' : Memref sig .scVector .hbm S512 .i32) (h4 : o4 = o4') (a a' b b' c c' d e) :
    groupBody (F := F) i arg5 arg6 arg7 arg8 arg9 s0 s1 src a o3 b o4 c d e = groupBody i arg5 arg6 arg7 arg8 arg9 s0 s1 src' a' o3' b' o4' c' d e := by
  subst hs; subst h3; subst h4; rfl

variable (h2 : arg2.IsWhole) (h3 : arg3.IsWhole) (h4 : arg4.IsWhole) (h5 : arg5.IsWhole) (h6 : arg6.IsWhole) (h7 : arg7.IsWhole) (h8 : arg8.IsWhole)

theorem cc2_eq : cc2__sc_topk_body (F := F) i arg2 h2 arg3 h3 arg4 h4 arg5 h5 arg6 h6 arg7 h7 arg8 h8 arg9 s0 s1 = tileBody i arg2 arg3 arg4 arg5 arg6 arg7 arg8 arg9 s0 s1 0 h7 h8 := by
  rw [cc2__sc_topk_body_eq_skeleton]; unfold cc2__sc_topk_body_skel tileBody
  refine congrArg (fun body => ((Scf.Loop.for k2_t1_loop k2_t1_ok () body >>= fun _ => pure ()) : TP F i Unit)) ?_
  funext t _
  rw [k2_group_eq]
  exact groupBody_congr _ _ _ _ _ _ _ _ _ _ (rowSrc_congr _ _ _ (funext fun l => k2_off1_eq i t l) _ _) _ _ (outPiece_congr _ _ _ (k2_off3_eq i t) _ _) _ _
    (outPiece_congr _ _ _ (k2_off3_eq i t) _ _) _ _ _ _ _ _ _ _
theorem cc4_eq : cc4__sc_topk_body (F := F) i arg2 h2 arg3 h3 arg4 h4 arg5 h5 arg6 h6 arg7 h7 arg8 h8 arg9 s0 s1 = tileBody i arg2 arg3 arg4 arg5 arg6 arg7 arg8 arg9 s0 s1 1 h7 h8 := by
  rw [cc4__sc_topk_body_eq_skeleton]; unfold cc4__sc_topk_body_skel tileBody
  refine congrArg (fun body => ((Scf.Loop.for k2_t1_loop k2_t1_ok () body >>= fun _ => pure ()) : TP F i Unit)) ?_
  funext t _
  rw [k4_group_eq]
  exact groupBody_congr _ _ _ _ _ _ _ _ _ _ (rowSrc_congr _ _ _ (funext fun l => k4_off1_eq i t l) _ _) _ _ (outPiece_congr _ _ _ (k2_off3_eq i t) _ _) _ _
    (outPiece_congr _ _ _ (k2_off3_eq i t) _ _) _ _ _ _ _ _ _ _
theorem cc6_eq : cc6__sc_topk_body (F := F) i arg2 h2 arg3 h3 arg4 h4 arg5 h5 arg6 h6 arg7 h7 arg8 h8 arg9 s0 s1 = tileBody i arg2 arg3 arg4 arg5 arg6 arg7 arg8 arg9 s0 s1 2 h7 h8 := by
  rw [cc6__sc_topk_body_eq_skeleton]; unfold cc6__sc_topk_body_skel tileBody
  refine congrArg (fun body => ((Scf.Loop.for k2_t1_loop k2_t1_ok () body >>= fun _ => pure ()) : TP F i Unit)) ?_
  funext t _
  rw [k6_group_eq]
  exact groupBody_congr _ _ _ _ _ _ _ _ _ _ (rowSrc_congr _ _ _ (funext fun l => k6_off1_eq i t l) _ _) _ _ (outPiece_congr _ _ _ (k2_off3_eq i t) _ _) _ _
    (outPiece_congr _ _ _ (k2_off3_eq i t) _ _) _ _ _ _ _ _ _ _
theorem cc8_eq : cc8__sc_topk_body (F := F) i arg2 h2 arg3 h3 arg4 h4 arg5 h5 arg6 h6 arg7 h7 arg8 h8 arg9 s0 s1 = tileBody i arg2 arg3 arg4 arg5 arg6 arg7 arg8 arg9 s0 s1 3 h7 h8 := by
  rw [cc8__sc_topk_body_eq_skeleton]; unfold cc8__sc_topk_body_skel tileBody
  refine congrArg (fun body => ((Scf.Loop.for k2_t1_loop k2_t1_ok () body >>= fun _ => pure ()) : TP F i Unit)) ?_
  funext t _
  rw [k8_group_eq]
  exact groupBody_congr _ _ _ _ _ _ _ _ _ _ (rowSrc_congr _ _ _ (funext fun l => k8_off1_eq i t l) _ _) _ _ (outPiece_congr _ _ _ (k2_off3_eq i t) _ _) _ _
    (outPiece_congr _ _ _ (k2_off3_eq i t) _ _) _ _ _ _ _ _ _ _

end Tile

/-! ## The values -/

/-- Row `r` of batch `b` of a distance array. -/
def rowV (X : S4x2048x2048.Idx → F .f32) (b : Fin 4) (r : Nat) : S2048.Idx → F .f32 :=
  fun j => X (ix3 b (⟨r % 2048, Nat.mod_lt _ (by decide)⟩ : Fin 2048) (j 0))

/-- The selection of the `g`-th group of sixteen rows. -/
def grp (X : S4x2048x2048.Idx → F .f32) (b : Fin 4) (g : Nat) : Sel F := nearest (fun l => rowV X b (16 * g + l.val))

/-- The call's two results. -/
def ndAll (X : S4x2048x2048.Idx → F .f32) (b : Fin 4) : S65536.Idx → Elt F .f32 := fun n => fl7 (grp X b ((n 0).val / 512)).N (wordIdx (n 0).val)
def niAll (X : S4x2048x2048.Idx → F .f32) (b : Fin 4) : S65536.Idx → Elt F .i32 := fun n => fl8 (F := F) (grp X b ((n 0).val / 512)).I (wordIdx (n 0).val)

section Run
variable {d : Fin nD} {Ix : Type} [DecidableEq Ix] {Name : Type} [DecidableEq Name] [Infinite Name]
variable {U : Type} [URA U] {Lvl : Type} [Preorder Lvl]
local notation "𝕄" => MT nD τ sig Ix (Elt F) Name U Lvl

variable (i : grid2.Coords) (arg2 : Memref sig .scVector .hbm S4x2048x2048 .f32) (arg3 : Memref sig .scVector .hbm S65536 .f32)
  (arg4 : Memref sig .scVector .hbm S65536 .i32) (arg5 : Memref sig .scVector .vmem S32768 .f32) (arg6 : Memref sig .scVector .vmem S1024 .f32)
  (arg7 : Memref sig .scVector .vmem S512 .f32) (arg8 : Memref sig .scVector .vmem S512 .i32) (arg9 s0 s1 : DmaSems sig S_)
variable {defs : Defs nD τ sig (Elt F) Λ₀} (𝒱 : Variants) (bd : Option 𝒱.V)
variable (EC : UEmb Counters (MT nD τ sig Ix (Elt F) Name U Lvl)) [EC.LandsIn (upEmb : UEmb _ (MT nD τ sig Ix (Elt F) Name U Lvl))]
variable (ι : Ix) (O : CellTallies nD τ sig Ix)
variable (X : S4x2048x2048.Idx → F .f32) (b : Fin 4)

/-- The rows a trip reads. -/
def rowsIn (d : Fin nD) (t : Fin k2_t1_loop.trips) : sProp 𝕄 :=
  bigSep Finset.univ (fun l => owns (thr d i) (srcAt i arg2 b t l) fullShare (rowV X b (16 * gno i t.val + l.val)))

/-- A trip's two output pieces, before and after. -/
def todo (d : Fin nD) (t : Fin k2_t1_loop.trips) : sProp 𝕄 :=
  iprop((∃ Y, owns (thr d i) (out3 i arg3 t) fullShare Y) ∗ (∃ Y, owns (thr d i) (out4 i arg4 t) fullShare Y))
def done (d : Fin nD) (t : Fin k2_t1_loop.trips) : sProp 𝕄 :=
  iprop(owns (thr d i) (out3 i arg3 t) fullShare (fl7 (grp X b (gno i t.val)).N) ∗ owns (thr d i) (out4 i arg4 t) fullShare (fl8 (F := F) (grp X b (gno i t.val)).I))

/-- What a tile is handed, and what it hands back. -/
def tileGo (d : Fin nD) : sProp 𝕄 := bigSep Finset.univ fun t => iprop(rowsIn i arg2 X b d t ∗ todo i arg3 arg4 d t)
def tileTd (d : Fin nD) : sProp 𝕄 := bigSep Finset.univ fun t => iprop(rowsIn i arg2 X b d t ∗ done i arg3 arg4 X b d t)

/-- Between trips: the first `k` pieces are written. -/
def upTo (d : Fin nD) (k : Nat) (t : Fin k2_t1_loop.trips) : sProp 𝕄 :=
  iprop(rowsIn i arg2 X b d t ∗ if t.val < k then done i arg3 arg4 X b d t else todo i arg3 arg4 d t)

include EC in
theorem wp_tile (h7 : arg7.IsWhole) (h8 : arg8.IsWhole) (W : Waits sig Ix) (Q : Unit → sProp 𝕄) :
    iprop(tileSt i arg5 arg6 arg7 arg8 arg9 s0 s1 ι O d W ∗ tileGo i arg2 arg3 arg4 X b d)
      ⊢ iprop((tileSt i arg5 arg6 arg7 arg8 arg9 s0 s1 ι O d W -∗ tileTd i arg2 arg3 arg4 X b d -∗ Q ⟨⟩)
          -∗ wp frame (wpE defs 𝒱 (thr d i) bd) Set.univ (tileBody i arg2 arg3 arg4 arg5 arg6 arg7 arg8 arg9 s0 s1 b h7 h8) Q) := by
  iintro ⟨HS, HG⟩ HK
  unfold tileBody
  iapply (Scf.wp_for_bind frame (wpE defs 𝒱 (thr d i) bd) Set.univ _ _ _ k2_t1_ok ()
    (fun t _ => groupBody i arg5 arg6 arg7 arg8 arg9 s0 s1 (srcAt i arg2 b t) (fun _ => (View.wordExact_bits rfl).reshape _ _)
      (out3 i arg3 t) (View.wordExact_bits rfl) (out4 i arg4 t) (View.wordExact_bits rfl) h7 h8)
    (fun n _ => iprop(tileSt i arg5 arg6 arg7 arg8 arg9 s0 s1 ι O d W ∗ bigSep Finset.univ (upTo i arg2 arg3 arg4 X b d n))) ?_) $$ [HS HG]
  · intro t _
    rw [SparseCore.bigSep_erase' (Finset.mem_univ t), SparseCore.bigSep_erase' (Finset.mem_univ t) (Φ := upTo i arg2 arg3 arg4 X b d (t.val + 1))]
    have herase : bigSep (Finset.univ.erase t) (upTo (Ix := Ix) (Name := Name) (U := U) (Lvl := Lvl) i arg2 arg3 arg4 X b d (t.val + 1)) = bigSep (Finset.univ.erase t) (upTo i arg2 arg3 arg4 X b d t.val) :=
      bigSep_congr fun u hu => by
        have hne : u.val ≠ t.val := fun h => (Finset.ne_of_mem_erase hu) (Fin.ext h)
        unfold upTo
        by_cases hu : u.val < t.val
        · rw [if_pos hu, if_pos (by omega)]
        · rw [if_neg hu, if_neg (by omega)]
    rw [herase]
    have h0 : upTo (Ix := Ix) (Name := Name) (U := U) (Lvl := Lvl) i arg2 arg3 arg4 X b d t.val t = iprop(rowsIn i arg2 X b d t ∗ todo i arg3 arg4 d t) := by
      unfold upTo; rw [if_neg (Nat.lt_irrefl _)]
    have h1 : upTo (Ix := Ix) (Name := Name) (U := U) (Lvl := Lvl) i arg2 arg3 arg4 X b d (t.val + 1) t = iprop(rowsIn i arg2 X b d t ∗ done i arg3 arg4 X b d t) := by
      unfold upTo; rw [if_pos (Nat.lt_succ_self _)]
    rw [h0, h1]
    iintro ⟨HS, ⟨HR, HT⟩, HE⟩
    unfold rowsIn todo done
    icases HT with ⟨H3, H4⟩
    iapply (wp_group (defs := defs) i arg5 arg6 arg7 arg8 arg9 s0 s1 𝒱 bd EC ι O (srcAt i arg2 b t) _ (fun l => rowV X b (16 * gno i t.val + l.val)) (out3 i arg3 t) _ (out4 i arg4 t) _ h7 h8 W _) $$ [HS HR H3 H4]
    · isplitl [HS]
      · iexact HS
      isplitl [HR]
      · iexact HR
      isplitl [H3]
      · iexact H3
      · iexact H4
    iintro HS HR H3 H4
    isplitl [HS]
    · iexact HS
    isplitr [HE]
    · isplitl [HR]
      · iexact HR
      isplitl [H3]
      · iexact H3
      · iexact H4
    · iexact HE
  · isplitl [HS]
    · iexact HS
    · unfold tileGo
      iapply (Entails.of_eq (bigSep_congr fun t _ => ?_)) $$ HG
      unfold upTo; rw [if_neg (Nat.not_lt_zero _)]
  iintro %_ ⟨HS, HG⟩
  iapply (wp_ret_intro (defs := defs) i 𝒱 bd Set.univ () Q)
  iapply HK $$ HS
  unfold tileTd
  iapply (Entails.of_eq (bigSep_congr fun t _ => ?_)) $$ HG
  unfold upTo; rw [if_pos]
  exact t.isLt

end Run
end Cert.Topk
-- ==== Proof.Base.lean ====
/-
  The program as the launch theorem sees it, and what its handshakes carry.

  The resource algebra holds the handshakes' rounds, the TensorCore pipelines' rounds, and the transfer counters the
  tiles' copies go through.  A selection call hands tile `i` its rows of the distance array and its pieces of the two
  results, and gets them back written; a SparseCore's share of the call is its sixteen tiles'.
-/
module

public import proofs.«01_k».proof.Proof.TileWp
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay ownBufs ownSems0 ownCells ownRefs mem_ownCells mem_ownRefs)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds

variable {F : FTy → Type}

/-! ## The program -/

abbrev ΛP : Labels := Pipeline.Sig Λ₀ (Fin 6) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The machine's algebra, of this launch. -/
abbrev MM (F : FTy → Type) : Type := MT nD τ sig (HIx 4) (Elt F) ℕ UU ℕ

local notation "𝕄" => MM F

abbrev uE : UEmb UU 𝕄 := uEmb (nD := nD) (sig := sig) (Ix := HIx 4) (Val := Elt F) (Name := ℕ) (U := UU) (Lvl := ℕ)

def EH : Emb UH (MM F) := (Emb.inl : Emb UH UU).trans (uE (F := F)).toEmb
def EP : Emb UP (MM F) := ((Emb.inl : Emb UP (UP × Counters)).trans (Emb.inr : Emb (UP × Counters) UU)).trans (uE (F := F)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

abbrev EC : UEmb Counters (MM F) := countersEmb

/-! ## What the handshakes carry -/

/-- Tile `s` of SparseCore `c`. -/
def coordsV (c : Fin 2) (s : Fin 16) : grid2.Coords :=
  fun | 0 => c | 1 => s | ⟨_ + 2, h⟩ => absurd h (Nat.not_lt.2 (Nat.le_add_left _ _))

variable [FloatOps F]

/-- The two results of call `q`, as a tile names them. -/
def outN : Fin 4 → Memref sig .scVector .hbm S65536 .f32
  | 0 => Memref.whole main_v20_0_scv | 1 => Memref.whole main_v24_0_scv | 2 => Memref.whole main_v28_0_scv | 3 => Memref.whole main_v32_0_scv
def outI : Fin 4 → Memref sig .scVector .hbm S65536 .i32
  | 0 => Memref.whole main_v20_1_scv | 1 => Memref.whole main_v24_1_scv | 2 => Memref.whole main_v28_1_scv | 3 => Memref.whole main_v32_1_scv

theorem outN_whole (q : Fin 4) : (outN q).IsWhole := by fin_cases q <;> exact Memref.isWhole_whole _
theorem outI_whole (q : Fin 4) : (outI q).IsWhole := by fin_cases q <;> exact Memref.isWhole_whole _

/-- The distance array, as a tile names it. -/
abbrev distV : Memref sig .scVector .hbm S4x2048x2048 .f32 := Memref.whole main_v9_scv

variable (X : Dev nD → S4x2048x2048.Idx → F .f32)

/-- What tile `(c, s)` of call `q` is handed, and what it hands back. -/
def goOf (q : Fin 4) (d : Dev nD) (c : Fin 2) (s : Fin 16) : sProp 𝕄 := tileGo (coordsV c s) distV (outN q) (outI q) (X d) q d
def tdOf (q : Fin 4) (d : Dev nD) (c : Fin 2) (s : Fin 16) : sProp 𝕄 := tileTd (coordsV c s) distV (outN q) (outI q) (X d) q d

instance owns_st {c : Thread nD τ} {sp : Space} {sh : Shape} {e : EltTy} (m : Memref sig c.2.kind sp sh e) (q : PosShare TreeShare) (Y : sh.Idx → Elt F e) :
    BI.Storable (upEmb : UEmb _ 𝕄) (owns c m q Y) := by
  unfold owns; infer_instance

instance goOf_storable (q : Fin 4) (d : Dev nD) (c : Fin 2) (s : Fin 16) : BI.Storable (upEmb : UEmb _ 𝕄) (goOf X q d c s) := by
  unfold goOf tileGo rowsIn todo; infer_instance
instance tdOf_storable (q : Fin 4) (d : Dev nD) (c : Fin 2) (s : Fin 16) : BI.Storable (upEmb : UEmb _ 𝕄) (tdOf X q d c s) := by
  unfold tdOf tileTd rowsIn done; infer_instance

theorem nCore_eq (q : Fin 4) : (K (F := F)).nCore q = 2 := by fin_cases q <;> rfl
theorem nSub_eq (q : Fin 4) : (K (F := F)).nSub q = 16 := by fin_cases q <;> rfl

/-- The payloads. -/
def P : (K (F := F)).Pay (nD := nD) (Val := Elt F) (Name := ℕ) (U := UU) where
  st q d c := bigSep Finset.univ fun s : Fin 16 => goOf X q d (c.cast (nCore_eq q)) s
  dn q d c := bigSep Finset.univ fun s : Fin 16 => tdOf X q d (c.cast (nCore_eq q)) s
  go q d c s := goOf X q d (c.cast (nCore_eq q)) (s.cast (nSub_eq q))
  td q d c s := tdOf X q d (c.cast (nCore_eq q)) (s.cast (nSub_eq q))
  x _ _ := iprop(emp)

instance P_storable : (P X).IsStorable := by
  refine ⟨fun q d c => ?_, fun q d c => ?_, fun q d c s => ?_, fun q d c s => ?_⟩ <;> (unfold P; infer_instance)

theorem bigSep_tiles (q : Fin 4) (Φ : Fin 16 → sProp 𝕄) :
    (bigSep Finset.univ fun s : Fin ((K (F := F)).nSub q) => Φ (s.cast (nSub_eq q))) = bigSep Finset.univ Φ := by
  fin_cases q <;> exact bigSep_congr fun _ _ => congrArg Φ (Fin.ext rfl)

theorem vecSplit (q : Fin 4) : (K (F := F)).VecSplit' (P X) q := by
  intro d c
  show (bigSep Finset.univ fun s : Fin 16 => goOf X q d (c.cast (nCore_eq q)) s : sProp 𝕄) ⊢ |={Set.univ}=> iprop(
      (bigSep Finset.univ fun s : Fin ((K (F := F)).nSub q) => goOf X q d (c.cast (nCore_eq q)) (s.cast (nSub_eq q)))
      ∗ ((bigSep Finset.univ fun s : Fin ((K (F := F)).nSub q) => tdOf X q d (c.cast (nCore_eq q)) (s.cast (nSub_eq q)))
        -∗ bigSep Finset.univ fun s : Fin 16 => tdOf X q d (c.cast (nCore_eq q)) s))
  rw [bigSep_tiles q (fun s => goOf X q d (c.cast (nCore_eq q)) s), bigSep_tiles q (fun s => tdOf X q d (c.cast (nCore_eq q)) s)]
  iintro H; imodintro
  isplitl [H]; · iexact H
  iintro H; iexact H

end Cert.Topk
-- ==== Proof.Tiles.lean ====
/-
  The four calls' tiles: a tile's scratch buffers and semaphores are among its processor's own, so its body, run on
  them, is the obligation the launch theorem asks for.
-/
module

public import proofs.«01_k».proof.Proof.Base

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay ownBufs ownSems0 ownCells ownRefs mem_ownCells mem_ownRefs)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds

variable {F : FTy → Type}
local notation "𝕄" => MM F

/-- Three different scoped semaphores are among a tile's own. -/
theorem sems_three (t : Thread nD τ) (a b c : DmaSem sig) (hab : b ≠ a) (hac : c ≠ a) (hbc : c ≠ b) (ha : (SemLoc.dma a : SemLoc sig).isScoped t.2.kind = true)
    (hb : (SemLoc.dma b : SemLoc sig).isScoped t.2.kind = true) (hc : (SemLoc.dma c : SemLoc sig).isScoped t.2.kind = true) :
    (ownSems0 t : sProp 𝕄) = iprop(semVal (t, .dma a) 0 ∗ semVal (t, .dma b) 0 ∗ semVal (t, .dma c) 0
      ∗ bigSep ((((ownCells t).erase (t, .dma a)).erase (t, .dma b)).erase (t, .dma c)) fun g => semVal g 0) := by
  have hne : ∀ x y : DmaSem sig, x ≠ y → ((t, .dma x) : GSem nD τ sig) ≠ (t, .dma y) := fun x y h e => h (SemLoc.dma.inj (Prod.mk.inj e).2)
  unfold SparseCore.Cfg.ownSems0
  rw [SparseCore.bigSep_erase' ((mem_ownCells (g := ((t, .dma a) : GSem nD τ sig))).mpr ⟨rfl, ha⟩),
    SparseCore.bigSep_erase' (Finset.mem_erase.mpr ⟨hne b a hab, (mem_ownCells (g := ((t, .dma b) : GSem nD τ sig))).mpr ⟨rfl, hb⟩⟩),
    SparseCore.bigSep_erase' (Finset.mem_erase.mpr ⟨hne c b hbc, Finset.mem_erase.mpr ⟨hne c a hac, (mem_ownCells (g := ((t, .dma c) : GSem nD τ sig))).mpr ⟨rfl, hc⟩⟩⟩)]

/-- Four different buffers of a tile are among its own. -/
theorem bufs_four (t : Thread nD τ) (a b c e : Ref sig t.2.kind) (hab : b ≠ a) (hac : c ≠ a) (hae : e ≠ a) (hbc : c ≠ b) (hbe : e ≠ b) (hce : e ≠ c)
    (ha : (t.2.devRef a).owner = .proc t.2) (hb : (t.2.devRef b).owner = .proc t.2) (hc : (t.2.devRef c).owner = .proc t.2) (he : (t.2.devRef e).owner = .proc t.2) :
    (ownBufs t : sProp 𝕄) = iprop((∃ X, owns t (Memref.whole a) fullShare X) ∗ (∃ X, owns t (Memref.whole b) fullShare X) ∗ (∃ X, owns t (Memref.whole c) fullShare X)
      ∗ (∃ X, owns t (Memref.whole e) fullShare X)
      ∗ bigSep (((((ownRefs t.2).erase (t.2.devRef a)).erase (t.2.devRef b)).erase (t.2.devRef c)).erase (t.2.devRef e)) fun b => iprop(∃ f, ((t.1, b) : Loc nD τ sig) ↦{fullShare} f)) := by
  have hne : ∀ x y : Ref sig t.2.kind, x ≠ y → t.2.devRef x ≠ t.2.devRef y := fun x y h e => h (Proc.devRef_injective _ e)
  have hw : ∀ x : Ref sig t.2.kind, (iprop(∃ X, owns t (Memref.whole x) fullShare X) : sProp 𝕄) = iprop(∃ f, t.loc x ↦{fullShare} f) := fun x =>
    congrArg _ (funext fun f => owns_whole t x fullShare f)
  rw [hw, hw, hw, hw]
  unfold SparseCore.Cfg.ownBufs
  refine (SparseCore.bigSep_erase' (SparseCore.Cfg.mem_ownRefs_of_owner ha)).trans ?_
  rw [SparseCore.bigSep_erase' (Finset.mem_erase.mpr ⟨hne b a hab, SparseCore.Cfg.mem_ownRefs_of_owner hb⟩),
    SparseCore.bigSep_erase' (Finset.mem_erase.mpr ⟨hne c b hbc, Finset.mem_erase.mpr ⟨hne c a hac, SparseCore.Cfg.mem_ownRefs_of_owner hc⟩⟩),
    SparseCore.bigSep_erase' (Finset.mem_erase.mpr ⟨hne e c hce, Finset.mem_erase.mpr ⟨hne e b hbe, Finset.mem_erase.mpr ⟨hne e a hae, SparseCore.Cfg.mem_ownRefs_of_owner he⟩⟩⟩)]

theorem obl_post {t : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F] (X : Dev nD → S4x2048x2048.Idx → F .f32)

theorem P_go (q : Fin 4) (d : Dev nD) (c : Fin ((K (F := F)).nCore q)) (s : Fin ((K (F := F)).nSub q)) (c' : Fin 2) (s' : Fin 16) (hc : c'.val = c.val) (hs : s'.val = s.val) :
    (P X).go q d c s = goOf X q d c' s' :=
  congrArg₂ (goOf X q d) (Fin.ext hc.symm) (Fin.ext hs.symm)
theorem P_td (q : Fin 4) (d : Dev nD) (c : Fin ((K (F := F)).nCore q)) (s : Fin ((K (F := F)).nSub q)) (c' : Fin 2) (s' : Fin 16) (hc : c'.val = c.val) (hs : s'.val = s.val) :
    (P X).td q d c s = tdOf X q d c' s' :=
  congrArg₂ (tdOf X q d) (Fin.ext hc.symm) (Fin.ext hs.symm)

/-- A tile's body from its processor's own storage. -/
theorem tile_run (d : Dev nD) (i : grid2.Coords) (arg3 : Memref sig .scVector .hbm S65536 .f32) (arg4 : Memref sig .scVector .hbm S65536 .i32)
    (arg5 : Memref sig .scVector .vmem S32768 .f32) (arg6 : Memref sig .scVector .vmem S1024 .f32)
    (arg7 : Memref sig .scVector .vmem S512 .f32) (arg8 : Memref sig .scVector .vmem S512 .i32) (arg9 s0 s1 : DmaSems sig S_) (b : Fin 4) (h7 : arg7.IsWhole) (h8 : arg8.IsWhole)
    {RB RS : sProp 𝕄}
    (hb : (ownBufs (thr d i) : sProp 𝕄) = iprop((∃ X, owns (thr d i) arg5 fullShare X) ∗ (∃ X, owns (thr d i) arg6 fullShare X) ∗ (∃ X, owns (thr d i) arg7 fullShare X)
      ∗ (∃ X, owns (thr d i) arg8 fullShare X) ∗ RB))
    (hs : (ownSems0 (thr d i) : sProp 𝕄) = iprop(semVal (thr d i, .dma arg9.sem) 0 ∗ semVal (thr d i, .dma s0.sem) 0 ∗ semVal (thr d i, .dma s1.sem) 0 ∗ RS))
    (O : CellTallies nD τ sig (HIx 4)) (W : Waits sig (HIx 4)) (hO : ∀ g, O g none = 0) :
    (iprop(levAts (K (F := F)).L (K (F := F)).lev ∗ emp ∗ tileGo i distV arg3 arg4 (X d) b d ∗ ownBufs (thr d i) ∗ ownSems0 (thr d i) ∗ owes (thr d i) O W) : sProp 𝕄)
      ⊢ wp frame (wpE (defs₀ (F := F)) 𝒱₀ (thr d i) none) Set.univ (tileBody i distV arg3 arg4 arg5 arg6 arg7 arg8 arg9 s0 s1 b h7 h8) fun _ =>
        iprop(tileTd i distV arg3 arg4 (X d) b d ∗ ownBufs (thr d i) ∗ ownSems0 (thr d i) ∗ ∃ W', ⌜∀ p ∈ W', p ∈ W ∨ p.2 = none⌝ ∗ owes (thr d i) O W') := by
  rw [hb, hs]
  iintro ⟨Hlev, -, Hgo, ⟨H5, H6, H7, H8, HRB⟩, ⟨S9, S0, S1, HRS⟩, HO⟩
  ihave HM := ((K (F := F)).mayWaits_none (thr := thr d i) hO) $$ Hlev
  iapply (wp_tile (defs := defs₀ (F := F)) i distV arg3 arg4 arg5 arg6 arg7 arg8 arg9 s0 s1 𝒱₀ none EC none O (X d) b h7 h8 W _) $$ [Hgo H5 H6 H7 H8 S9 S0 S1 HM HO]
  · isplitr [Hgo]
    · unfold tileSt
      isplitl [H5]; · iexact H5
      isplitl [H6]; · iexact H6
      isplitl [H7]; · iexact H7
      isplitl [H8]; · iexact H8
      isplitl [S9]; · iexact S9
      isplitl [S0]; · iexact S0
      isplitl [S1]; · iexact S1
      isplitl [HM]; · iexact HM
      iexists W; isplitr
      · ipureintro; exact fun p hp => .inl hp
      · iexact HO
    · iexact Hgo
  unfold tileSt
  iintro ⟨H5, H6, H7, H8, S9, S0, S1, HM, HO⟩ Htd
  isplitl [Htd]; · iexact Htd
  isplitl [H5 H6 H7 H8 HRB]
  · isplitl [H5]; · iexact H5
    isplitl [H6]; · iexact H6
    isplitl [H7]; · iexact H7
    isplitl [H8]; · iexact H8
    iexact HRB
  isplitl [S9 S0 S1 HRS]
  · isplitl [S9]; · iexact S9
    isplitl [S0]; · iexact S0
    isplitl [S1]; · iexact S1
    iexact HRS
  iexact HO

/-- Call 0's tile, run from its processor's own storage. -/
theorem tileRun0 (d : Dev nD) (c : Fin 2) (s : Fin 16) (O : CellTallies nD τ sig (HIx 4)) (W : Waits sig (HIx 4)) (hO : ∀ g, O g none = 0) :
    (iprop(levAts (K (F := F)).L (K (F := F)).lev ∗ emp ∗ goOf X 0 d c s ∗ ownBufs (thr d (coordsV c s)) ∗ ownSems0 (thr d (coordsV c s)) ∗ owes (thr d (coordsV c s)) O W) : sProp 𝕄)
      ⊢ wp frame (wpE (defs₀ (F := F)) 𝒱₀ (thr d (coordsV c s)) none) Set.univ (cc2__sc_topk_body (F := F) (coordsV c s) distV (Memref.isWhole_whole _) (outN 0) (outN_whole 0) (outI 0) (outI_whole 0) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scratch4 cc2_scoped0 cc2_scoped1) fun _ =>
        iprop(tdOf X 0 d c s ∗ ownBufs (thr d (coordsV c s)) ∗ ownSems0 (thr d (coordsV c s)) ∗ ∃ W', ⌜∀ p ∈ W', p ∈ W ∨ p.2 = none ∨ p.2 = some 0⌝ ∗ owes (thr d (coordsV c s)) O W') := by
  rw [cc2_eq]
  exact (tile_run X d (coordsV c s) (outN 0) (outI 0) (Memref.whole cc2_scratch0) (Memref.whole cc2_scratch1) (Memref.whole cc2_scratch2) (Memref.whole cc2_scratch3)
    cc2_scratch4 cc2_scoped0 cc2_scoped1 0 (Memref.isWhole_whole _) (Memref.isWhole_whole _)
    (bufs_four (thr d (coordsV c s)) cc2_scratch0 cc2_scratch1 cc2_scratch2 cc2_scratch3 (show (cc2_scratch1 : Ref sig .scVector) ≠ cc2_scratch0 by decide) (show (cc2_scratch2 : Ref sig .scVector) ≠ cc2_scratch0 by decide) (show (cc2_scratch3 : Ref sig .scVector) ≠ cc2_scratch0 by decide) (show (cc2_scratch2 : Ref sig .scVector) ≠ cc2_scratch1 by decide) (show (cc2_scratch3 : Ref sig .scVector) ≠ cc2_scratch1 by decide) (show (cc2_scratch3 : Ref sig .scVector) ≠ cc2_scratch2 by decide) rfl rfl rfl rfl)
    (sems_three (thr d (coordsV c s)) cc2_scratch4.sem cc2_scoped0.sem cc2_scoped1.sem (by decide) (by decide) (by decide)
      (by show (SemLoc.dma cc2_scratch4.sem : SemLoc sig).isScoped .scVector = true; decide) (by show (SemLoc.dma cc2_scoped0.sem : SemLoc sig).isScoped .scVector = true; decide)
      (by show (SemLoc.dma cc2_scoped1.sem : SemLoc sig).isScoped .scVector = true; decide))
    O W hO).trans (wp_mono frame _ _ fun _ => obl_post (q := 0))

/-- The obligation of call 0's tiles. -/
theorem tileObl0 : (K (F := F)).TileObl (D (F := F)) 𝒱 (P X) v₀ 0 := by
  intro d c s O W hO _ _
  rw [(K (F := F)).scopedBufs_V facts, SparseCore.Cfg.scopedSems0_V (Val := Elt F)]
  simp only [show (P X).ox = fun _ _ => 0 from rfl, add_zero]
  change _ ⊢ wp _ _ _ (Pipeline.liftProg (defs₀ (F := F) (.scVector ((K (F := F)).core 0 c) ((K (F := F)).sub 0 s)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 s).val < grid2.bound 1 := ⟨c.isLt, s.isLt⟩
  rw [show defs₀ (F := F) (.scVector ((K (F := F)).core 0 c) ((K (F := F)).sub 0 s)) 2 ()
      = SparseCore.onTile hcore2 hsub2 (fun c s => cc2__sc_topk_body (F := F) (coordsV c s) distV (Memref.isWhole_whole _) (outN 0) (outN_whole 0) (outI 0) (outI_whole 0) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scratch4 cc2_scoped0 cc2_scoped1) ⟨⟩ ((K (F := F)).core 0 c) ((K (F := F)).sub 0 s) from rfl]
  rw [P_go X 0 d c s (⟨((K (F := F)).core 0 c).val, hc.1⟩ : Fin 2) (⟨((K (F := F)).sub 0 s).val, hc.2⟩ : Fin 16) rfl rfl, P_td X 0 d c s (⟨((K (F := F)).core 0 c).val, hc.1⟩ : Fin 2) (⟨((K (F := F)).sub 0 s).val, hc.2⟩ : Fin 16) rfl rfl]
  simp only [SparseCore.onTile, hc, and_self, ↓reduceDIte]
  exact tileRun0 X d (⟨((K (F := F)).core 0 c).val, hc.1⟩ : Fin 2) (⟨((K (F := F)).sub 0 s).val, hc.2⟩ : Fin 16) O W hO

/-- Call 1's tile, run from its processor's own storage. -/
theorem tileRun1 (d : Dev nD) (c : Fin 2) (s : Fin 16) (O : CellTallies nD τ sig (HIx 4)) (W : Waits sig (HIx 4)) (hO : ∀ g, O g none = 0) :
    (iprop(levAts (K (F := F)).L (K (F := F)).lev ∗ emp ∗ goOf X 1 d c s ∗ ownBufs (thr d (coordsV c s)) ∗ ownSems0 (thr d (coordsV c s)) ∗ owes (thr d (coordsV c s)) O W) : sProp 𝕄)
      ⊢ wp frame (wpE (defs₀ (F := F)) 𝒱₀ (thr d (coordsV c s)) none) Set.univ (cc4__sc_topk_body (F := F) (coordsV c s) distV (Memref.isWhole_whole _) (outN 1) (outN_whole 1) (outI 1) (outI_whole 1) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scoped0 cc4_scoped1) fun _ =>
        iprop(tdOf X 1 d c s ∗ ownBufs (thr d (coordsV c s)) ∗ ownSems0 (thr d (coordsV c s)) ∗ ∃ W', ⌜∀ p ∈ W', p ∈ W ∨ p.2 = none ∨ p.2 = some 1⌝ ∗ owes (thr d (coordsV c s)) O W') := by
  rw [cc4_eq]
  exact (tile_run X d (coordsV c s) (outN 1) (outI 1) (Memref.whole cc4_scratch0) (Memref.whole cc4_scratch1) (Memref.whole cc4_scratch2) (Memref.whole cc4_scratch3)
    cc4_scratch4 cc4_scoped0 cc4_scoped1 1 (Memref.isWhole_whole _) (Memref.isWhole_whole _)
    (bufs_four (thr d (coordsV c s)) cc4_scratch0 cc4_scratch1 cc4_scratch2 cc4_scratch3 (show (cc4_scratch1 : Ref sig .scVector) ≠ cc4_scratch0 by decide) (show (cc4_scratch2 : Ref sig .scVector) ≠ cc4_scratch0 by decide) (show (cc4_scratch3 : Ref sig .scVector) ≠ cc4_scratch0 by decide) (show (cc4_scratch2 : Ref sig .scVector) ≠ cc4_scratch1 by decide) (show (cc4_scratch3 : Ref sig .scVector) ≠ cc4_scratch1 by decide) (show (cc4_scratch3 : Ref sig .scVector) ≠ cc4_scratch2 by decide) rfl rfl rfl rfl)
    (sems_three (thr d (coordsV c s)) cc4_scratch4.sem cc4_scoped0.sem cc4_scoped1.sem (by decide) (by decide) (by decide)
      (by show (SemLoc.dma cc4_scratch4.sem : SemLoc sig).isScoped .scVector = true; decide) (by show (SemLoc.dma cc4_scoped0.sem : SemLoc sig).isScoped .scVector = true; decide)
      (by show (SemLoc.dma cc4_scoped1.sem : SemLoc sig).isScoped .scVector = true; decide))
    O W hO).trans (wp_mono frame _ _ fun _ => obl_post (q := 1))

/-- The obligation of call 1's tiles. -/
theorem tileObl1 : (K (F := F)).TileObl (D (F := F)) 𝒱 (P X) v₀ 1 := by
  intro d c s O W hO _ _
  rw [(K (F := F)).scopedBufs_V facts, SparseCore.Cfg.scopedSems0_V (Val := Elt F)]
  simp only [show (P X).ox = fun _ _ => 0 from rfl, add_zero]
  change _ ⊢ wp _ _ _ (Pipeline.liftProg (defs₀ (F := F) (.scVector ((K (F := F)).core 1 c) ((K (F := F)).sub 1 s)) 4 ())) _
  refine BI.Entails.trans ?_ (Pipeline.wp_liftProg (D (F := F)) (Pipeline.defs_kernel pcfgs defs₀) 𝒱₀ _ Set.univ none _ _)
  have hc : ((K (F := F)).core 1 c).val < grid4.bound 0 ∧ ((K (F := F)).sub 1 s).val < grid4.bound 1 := ⟨c.isLt, s.isLt⟩
  rw [show defs₀ (F := F) (.scVector ((K (F := F)).core 1 c) ((K (F := F)).sub 1 s)) 4 ()
      = SparseCore.onTile hcore4 hsub4 (fun c s => cc4__sc_topk_body (F := F) (coordsV c s) distV (Memref.isWhole_whole _) (outN 1) (outN_whole 1) (outI 1) (outI_whole 1) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scoped0 cc4_scoped1) ⟨⟩ ((K (F := F)).core 1 c) ((K (F := F)).sub 1 s) from rfl]
  rw [P_go X 1 d c s (⟨((K (F := F)).core 1 c).val, hc.1⟩ : Fin 2) (⟨((K (F := F)).sub 1 s).val, hc.2⟩ : Fin 16) rfl rfl, P_td X 1 d c s (⟨((K (F := F)).core 1 c).val, hc.1⟩ : Fin 2) (⟨((K (F := F)).sub 1 s).val, hc.2⟩ : Fin 16) rfl rfl]
  simp only [SparseCore.onTile, hc, and_self, ↓reduceDIte]
  exact tileRun1 X d (⟨((K (F := F)).core 1 c).val, hc.1⟩ : Fin 2) (⟨((K (F := F)).sub 1 s).val, hc.2⟩ : Fin 16) O W hO

/-- Call 2's tile, run from its processor's own storage. -/
theorem tileRun2 (d : Dev nD) (c : Fin 2) (s : Fin 16) (O : CellTallies nD τ sig (HIx 4)) (W : Waits sig (HIx 4)) (hO : ∀ g, O g none = 0) :
    (iprop(levAts (K (F := F)).L (K (F := F)).lev ∗ emp ∗ goOf X 2 d c s ∗ ownBufs (thr d (coordsV c s)) ∗ ownSems0 (thr d (coordsV c s)) ∗ owes (thr d (coordsV c s)) O W) : sProp 𝕄)
      ⊢ wp frame (wpE (defs₀ (F := F)) 𝒱₀ (thr d (coordsV c s)) none) Set.univ (cc6__sc_topk_body (F := F) (coordsV c s) distV (Memref.isWhole_whole _) (outN 2) (outN_whole 2) (outI 2) (outI_whole 2) (Memref.whole cc6_scratch0) (Memref.isWhole_whole _) (Memref.whole cc6_scratch1) (Memref.isWhole_whole _) (Memref.whole cc6_scratch2) (Memref.isWhole_whole _) (Memref.whole cc6_scratch3) (Memref.isWhole_whole _) cc6_scratch4 cc6_scoped0 cc6_scoped1) fun _ =>
        iprop(tdOf X 2 d c s ∗ ownBufs (thr d (coordsV c s)) ∗ ownSems0 (thr d (coordsV c s)) ∗ ∃ W', ⌜∀ p ∈ W', p ∈ W ∨ p.2 = none ∨ p.2 = some 2⌝ ∗ owes (thr d (coordsV c s)) O W') := by
  rw [cc6_eq]
  exact (tile_run X d (coordsV c s) (outN 2) (outI 2) (Memref.whole cc6_scratch0) (Memref.whole cc6_scratch1) (Memref.whole cc6_scratch2) (Memref.whole cc6_scratch3)
    cc6_scratch4 cc6_scoped0 cc6_scoped1 2 (Memref.isWhole_whole _) (Memref.isWhole_whole _)
    (bufs_four (thr d (coordsV c s)) cc6_scratch0 cc6_scratch1 cc6_scratch2 cc6_scratch3 (show (cc6_scratch1 : Ref sig .scVector) ≠ cc6_scratch0 by decide) (show (cc6_scratch2 : Ref sig .scVector) ≠ cc6_scratch0 by decide) (show (cc6_scratch3 : Ref sig .scVector) ≠ cc6_scratch0 by decide) (show (cc6_scratch2 : Ref sig .scVector) ≠ cc6_scratch1 by decide) (show (cc6_scratch3 : Ref sig .scVector) ≠ cc6_scratch1 by decide) (show (cc6_scratch3 : Ref sig .scVector) ≠ cc6_scratch2 by decide) rfl rfl rfl rfl)
    (sems_three (thr d (coordsV c s)) cc6_scratch4.sem cc6_scoped0.sem cc6_scoped1.sem (by decide) (by decide) (by decide)
      (by show (SemLoc.dma cc6_scratch4.sem : SemLoc sig).isScoped .scVector = true; decide) (by show (SemLoc.dma cc6_scoped0.sem : SemLoc sig).isScoped .scVector = true; decide)
      (by show (SemLoc.dma cc6_scoped1.sem : SemLoc sig).isScoped .scVector = true; decide))
    O W hO).trans (wp_mono frame _ _ fun _ => obl_post (q := 2))

/-- The obligation of call 2's tiles. -/
theorem tileObl2 : (K (F := F)).TileObl (D (F := F)) 𝒱 (P X) v₀ 2 := by
  intro d c s O W hO _ _
  rw [(K (F := F)).scopedBufs_V facts, SparseCore.Cfg.scopedSems0_V (Val := Elt F)]
  simp only [show (P X).ox = fun _ _ => 0 from rfl, add_zero]
  change _ ⊢ wp _ _ _ (Pipeline.liftProg (defs₀ (F := F) (.scVector ((K (F := F)).core 2 c) ((K (F := F)).sub 2 s)) 6 ())) _
  refine BI.Entails.trans ?_ (Pipeline.wp_liftProg (D (F := F)) (Pipeline.defs_kernel pcfgs defs₀) 𝒱₀ _ Set.univ none _ _)
  have hc : ((K (F := F)).core 2 c).val < grid6.bound 0 ∧ ((K (F := F)).sub 2 s).val < grid6.bound 1 := ⟨c.isLt, s.isLt⟩
  rw [show defs₀ (F := F) (.scVector ((K (F := F)).core 2 c) ((K (F := F)).sub 2 s)) 6 ()
      = SparseCore.onTile hcore6 hsub6 (fun c s => cc6__sc_topk_body (F := F) (coordsV c s) distV (Memref.isWhole_whole _) (outN 2) (outN_whole 2) (outI 2) (outI_whole 2) (Memref.whole cc6_scratch0) (Memref.isWhole_whole _) (Memref.whole cc6_scratch1) (Memref.isWhole_whole _) (Memref.whole cc6_scratch2) (Memref.isWhole_whole _) (Memref.whole cc6_scratch3) (Memref.isWhole_whole _) cc6_scratch4 cc6_scoped0 cc6_scoped1) ⟨⟩ ((K (F := F)).core 2 c) ((K (F := F)).sub 2 s) from rfl]
  rw [P_go X 2 d c s (⟨((K (F := F)).core 2 c).val, hc.1⟩ : Fin 2) (⟨((K (F := F)).sub 2 s).val, hc.2⟩ : Fin 16) rfl rfl, P_td X 2 d c s (⟨((K (F := F)).core 2 c).val, hc.1⟩ : Fin 2) (⟨((K (F := F)).sub 2 s).val, hc.2⟩ : Fin 16) rfl rfl]
  simp only [SparseCore.onTile, hc, and_self, ↓reduceDIte]
  exact tileRun2 X d (⟨((K (F := F)).core 2 c).val, hc.1⟩ : Fin 2) (⟨((K (F := F)).sub 2 s).val, hc.2⟩ : Fin 16) O W hO

/-- Call 3's tile, run from its processor's own storage. -/
theorem tileRun3 (d : Dev nD) (c : Fin 2) (s : Fin 16) (O : CellTallies nD τ sig (HIx 4)) (W : Waits sig (HIx 4)) (hO : ∀ g, O g none = 0) :
    (iprop(levAts (K (F := F)).L (K (F := F)).lev ∗ emp ∗ goOf X 3 d c s ∗ ownBufs (thr d (coordsV c s)) ∗ ownSems0 (thr d (coordsV c s)) ∗ owes (thr d (coordsV c s)) O W) : sProp 𝕄)
      ⊢ wp frame (wpE (defs₀ (F := F)) 𝒱₀ (thr d (coordsV c s)) none) Set.univ (cc8__sc_topk_body (F := F) (coordsV c s) distV (Memref.isWhole_whole _) (outN 3) (outN_whole 3) (outI 3) (outI_whole 3) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4 cc8_scoped0 cc8_scoped1) fun _ =>
        iprop(tdOf X 3 d c s ∗ ownBufs (thr d (coordsV c s)) ∗ ownSems0 (thr d (coordsV c s)) ∗ ∃ W', ⌜∀ p ∈ W', p ∈ W ∨ p.2 = none ∨ p.2 = some 3⌝ ∗ owes (thr d (coordsV c s)) O W') := by
  rw [cc8_eq]
  exact (tile_run X d (coordsV c s) (outN 3) (outI 3) (Memref.whole cc8_scratch0) (Memref.whole cc8_scratch1) (Memref.whole cc8_scratch2) (Memref.whole cc8_scratch3)
    cc8_scratch4 cc8_scoped0 cc8_scoped1 3 (Memref.isWhole_whole _) (Memref.isWhole_whole _)
    (bufs_four (thr d (coordsV c s)) cc8_scratch0 cc8_scratch1 cc8_scratch2 cc8_scratch3 (show (cc8_scratch1 : Ref sig .scVector) ≠ cc8_scratch0 by decide) (show (cc8_scratch2 : Ref sig .scVector) ≠ cc8_scratch0 by decide) (show (cc8_scratch3 : Ref sig .scVector) ≠ cc8_scratch0 by decide) (show (cc8_scratch2 : Ref sig .scVector) ≠ cc8_scratch1 by decide) (show (cc8_scratch3 : Ref sig .scVector) ≠ cc8_scratch1 by decide) (show (cc8_scratch3 : Ref sig .scVector) ≠ cc8_scratch2 by decide) rfl rfl rfl rfl)
    (sems_three (thr d (coordsV c s)) cc8_scratch4.sem cc8_scoped0.sem cc8_scoped1.sem (by decide) (by decide) (by decide)
      (by show (SemLoc.dma cc8_scratch4.sem : SemLoc sig).isScoped .scVector = true; decide) (by show (SemLoc.dma cc8_scoped0.sem : SemLoc sig).isScoped .scVector = true; decide)
      (by show (SemLoc.dma cc8_scoped1.sem : SemLoc sig).isScoped .scVector = true; decide))
    O W hO).trans (wp_mono frame _ _ fun _ => obl_post (q := 3))

/-- The obligation of call 3's tiles. -/
theorem tileObl3 : (K (F := F)).TileObl (D (F := F)) 𝒱 (P X) v₀ 3 := by
  intro d c s O W hO _ _
  rw [(K (F := F)).scopedBufs_V facts, SparseCore.Cfg.scopedSems0_V (Val := Elt F)]
  simp only [show (P X).ox = fun _ _ => 0 from rfl, add_zero]
  change _ ⊢ wp _ _ _ (Pipeline.liftProg (defs₀ (F := F) (.scVector ((K (F := F)).core 3 c) ((K (F := F)).sub 3 s)) 8 ())) _
  refine BI.Entails.trans ?_ (Pipeline.wp_liftProg (D (F := F)) (Pipeline.defs_kernel pcfgs defs₀) 𝒱₀ _ Set.univ none _ _)
  have hc : ((K (F := F)).core 3 c).val < grid8.bound 0 ∧ ((K (F := F)).sub 3 s).val < grid8.bound 1 := ⟨c.isLt, s.isLt⟩
  rw [show defs₀ (F := F) (.scVector ((K (F := F)).core 3 c) ((K (F := F)).sub 3 s)) 8 ()
      = SparseCore.onTile hcore8 hsub8 (fun c s => cc8__sc_topk_body (F := F) (coordsV c s) distV (Memref.isWhole_whole _) (outN 3) (outN_whole 3) (outI 3) (outI_whole 3) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4 cc8_scoped0 cc8_scoped1) ⟨⟩ ((K (F := F)).core 3 c) ((K (F := F)).sub 3 s) from rfl]
  rw [P_go X 3 d c s (⟨((K (F := F)).core 3 c).val, hc.1⟩ : Fin 2) (⟨((K (F := F)).sub 3 s).val, hc.2⟩ : Fin 16) rfl rfl, P_td X 3 d c s (⟨((K (F := F)).core 3 c).val, hc.1⟩ : Fin 2) (⟨((K (F := F)).sub 3 s).val, hc.2⟩ : Fin 16) rfl rfl]
  simp only [SparseCore.onTile, hc, and_self, ↓reduceDIte]
  exact tileRun3 X d (⟨((K (F := F)).core 3 c).val, hc.1⟩ : Fin 2) (⟨((K (F := F)).sub 3 s).val, hc.2⟩ : Fin 16) O W hO

end Cert.Topk
-- ==== Proof.Split.lean ====
/-
  How the TensorCore's arrays are the tiles' pieces of them: the rows of one batch of the distance array, and the
  runs of 512 words of a selection call's two results.
-/
module

public import proofs.«01_k».proof.Proof.Base

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay)
open Idealize.SL.BI (sProp)
open scoped Idealize.SL.BI
open Idealize.SL.BI Idealize.SL.BI.BIBase Idealize.SL.BI.Laws Idealize.SL.Sem Idealize.SL.ProofMode
open Idealize.SL.RA Idealize.ShloMosaic.ValueIdx

variable {F : FTy → Type}
local notation "𝕄" => MM F

/-- A part of a buffer is its elements by label. -/
theorem pts_parts {n : Nat} {ℓ : Loc nD τ sig} (f : Buf (Elt F) ℓ) (A : Finset (Idx ℓ)) (B : Fin n → Finset (Idx ℓ)) (lab : Idx ℓ → Nat)
    (hB : ∀ k j, j ∈ B k ↔ j ∈ A ∧ lab j = k.val) (hlt : ∀ j ∈ A, lab j < n) :
    (ℓ ↦[A]{fullShare} f : sProp 𝕄) = bigSep Finset.univ fun k => ℓ ↦[B k]{fullShare} f := by
  rw [← pointsTo_biUnion Finset.univ B]
  · congr 1
    ext j
    simp only [Finset.mem_biUnion, Finset.mem_univ, _root_.true_and]
    exact ⟨fun h => ⟨⟨lab j, hlt j h⟩, (hB _ j).mpr ⟨h, rfl⟩⟩, fun ⟨k, hk⟩ => ((hB k j).mp hk).1⟩
  · intro k _ k' _ hne
    rw [Finset.disjoint_left]
    intro j h h'
    exact hne (Fin.ext (((hB k j).mp h).2.symm.trans ((hB k' j).mp h').2))

/-- A memref owned at what it reads of `g` is its elements at `g`. -/
theorem owns_read_eq (c : Thread nD τ) {sp : Space} {sh : Shape} {e : EltTy} (m : Memref sig c.2.kind sp sh e) (g : m.view.ty.Contents (Elt F)) (X : sh.Idx → Elt F e)
    (hX : m.view.read (Elt F) g = X) : (owns c m fullShare X : sProp 𝕄) = m.view.loc c ↦[m.view.set]{fullShare} g := by
  subst hX
  refine BI.equiv_iff.mp ⟨?_, owns_intro c m fullShare g⟩
  show iprop(∃ f, ⌜m.view.read (Elt F) f = m.view.read (Elt F) g⌝ ∗ (m.view.loc c ↦[m.view.set]{fullShare} f)) ⊢ (m.view.loc c ↦[m.view.set]{fullShare} g : sProp 𝕄)
  iintro ⟨%g', %hg', H⟩
  have e : (m.view.loc c ↦[m.view.set]{fullShare} g' : sProp 𝕄) = m.view.loc c ↦[m.view.set]{fullShare} g :=
    pointsTo_congr fun i hi => by
      rw [View.set, Finset.mem_map] at hi
      obtain ⟨x, -, rfl⟩ := hi
      have := congrFun hg' x
      simp only [View.read] at this
      exact (cast_inj _).mp this
  rw [← e]
  iexact H

/-! ## The distance array's rows -/

def batchS (b : Fin 4) : Finset S4x2048x2048.Idx := Finset.univ.filter fun j => (j 0).val = b.val
def coreS (b : Fin 4) (c : Fin 2) : Finset S4x2048x2048.Idx := Finset.univ.filter fun j => (j 0).val = b.val ∧ (j 1).val / 64 % 2 = c.val
def tileS (b : Fin 4) (c : Fin 2) (s : Fin 16) : Finset S4x2048x2048.Idx := Finset.univ.filter fun j => (j 0).val = b.val ∧ (j 1).val / 64 = s.val * 2 + c.val
def tripS (b : Fin 4) (c : Fin 2) (s : Fin 16) (t : Fin 4) : Finset S4x2048x2048.Idx := Finset.univ.filter fun j => (j 0).val = b.val ∧ (j 1).val / 16 = (s.val * 2 + c.val) * 4 + t.val
def rowS (b : Fin 4) (c : Fin 2) (s : Fin 16) (t : Fin 4) (l : Fin 16) : Finset S4x2048x2048.Idx :=
  Finset.univ.filter fun j => (j 0).val = b.val ∧ (j 1).val = 16 * ((s.val * 2 + c.val) * 4 + t.val) + l.val

abbrev dLoc (d : Dev nD) : Loc nD τ sig := (SparseCore.T d).loc main_v9

theorem dist_rows (d : Dev nD) (b : Fin 4) (f : Buf (Elt F) (dLoc d)) :
    (dLoc d ↦[batchS b]{fullShare} f : sProp 𝕄)
      = bigSep Finset.univ fun c : Fin 2 => bigSep Finset.univ fun s : Fin 16 => bigSep Finset.univ fun t : Fin 4 => bigSep Finset.univ fun l : Fin 16 => dLoc d ↦[rowS b c s t l]{fullShare} f := by
  rw [pts_parts f (batchS b) (coreS b) (fun j => (j 1).val / 64 % 2) (fun k j => by simp [batchS, coreS]) (fun j _ => Nat.mod_lt _ (by decide))]
  refine bigSep_congr fun c _ => ?_
  rw [pts_parts f (coreS b c) (tileS b c) (fun j => (j 1).val / 128) (fun k j => by
      simp only [coreS, tileS, Finset.mem_filter, Finset.mem_univ, _root_.true_and]; have := c.isLt; constructor <;> (rintro ⟨h1, h2⟩; refine ⟨?_, ?_⟩) <;> omega)
    (fun j _ => by have : (j 1).val < 2048 := (j 1).isLt; omega)]
  refine bigSep_congr fun s _ => ?_
  rw [pts_parts f (tileS b c s) (tripS b c s) (fun j => (j 1).val / 16 % 4) (fun k j => by
      simp only [tripS, tileS, Finset.mem_filter, Finset.mem_univ, _root_.true_and]; have := k.isLt; constructor <;> (rintro ⟨h1, h2⟩; refine ⟨?_, ?_⟩) <;> omega)
    (fun j _ => Nat.mod_lt _ (by decide))]
  refine bigSep_congr fun t _ => ?_
  exact pts_parts f (tripS b c s t) (rowS b c s t) (fun j => (j 1).val % 16) (fun k j => by
      simp only [tripS, rowS, Finset.mem_filter, Finset.mem_univ, _root_.true_and]; have := k.isLt; constructor <;> (rintro ⟨h1, h2⟩; refine ⟨?_, ?_⟩) <;> omega)
    (fun j _ => Nat.mod_lt _ (by decide))

variable [FloatOps F]

theorem row_set (b : Fin 4) (c : Fin 2) (s : Fin 16) (t : Fin k2_t1_loop.trips) (l : Fin 16) :
    (srcAt (coordsV c s) distV b t l).view.set = rowS b c s t l := by
  show (((View.whole (main_v9_scv : Ref sig .scVector)).slice (Rect.unit (s := S4x2048x2048) (rowOff b (coordsV c s) t.val l) S1x1x2048.size (rowOff_inb b (coordsV c s) t l))).reshape S2048 _).set = _
  rw [View.set_reshape, View.set_slice]
  refine Finset.map_refl.trans ?_
  ext j
  rw [Rect.mem_set_unit]
  simp only [rowS, Finset.mem_filter, Finset.mem_univ, _root_.true_and]
  have hj : (j 2).val < 2048 := (j 2).isLt
  have hg : gno (coordsV c s) t.val = (s.val * 2 + c.val) * 4 + t.val := rfl
  constructor
  · intro h
    have h0 := h 0; have h1 := h 1
    simp only [rowOff, Matrix.cons_val_zero, Matrix.cons_val_one, hg] at h0 h1
    have e0 : S1x1x2048.size 0 = 1 := rfl
    have e1 : S1x1x2048.size 1 = 1 := rfl
    omega
  · rintro ⟨h0, h1⟩ a
    have e0 : S1x1x2048.size 0 = 1 := rfl
    have e1 : S1x1x2048.size 1 = 1 := rfl
    have e2 : S1x1x2048.size 2 = 2048 := rfl
    fin_cases a
    · show rowOff b (coordsV c s) t.val l 0 ≤ (j 0).val ∧ (j 0).val < rowOff b (coordsV c s) t.val l 0 + S1x1x2048.size 0
      simp only [rowOff, Matrix.cons_val_zero]; omega
    · show rowOff b (coordsV c s) t.val l 1 ≤ (j 1).val ∧ (j 1).val < rowOff b (coordsV c s) t.val l 1 + S1x1x2048.size 1
      simp only [rowOff, Matrix.cons_val_one, hg]; simp only [Matrix.cons_val_zero]; omega
    · show 0 ≤ (j 2).val ∧ (j 2).val < 0 + S1x1x2048.size 2
      omega

theorem row_read (Y : S4x2048x2048.Idx → F .f32) (b : Fin 4) (c : Fin 2) (s : Fin 16) (t : Fin k2_t1_loop.trips) (l : Fin 16) :
    (srcAt (coordsV c s) distV b t l).view.read (Elt F) Y = rowV Y b (16 * gno (coordsV c s) t.val + l.val) := by
  funext j
  have hg := gno_lt (coordsV c s) t
  have hj : (j 0).val < 2048 := (j 0).isLt
  show Y ((Rect.unit (s := S4x2048x2048) (rowOff b (coordsV c s) t.val l) S1x1x2048.size (rowOff_inb b (coordsV c s) t l)).emb (Shape.reshapeEquiv (s := S1x1x2048) (s' := S2048) squeezes_S1x1x2048_S2048.numel_eq j)) = _
  unfold rowV
  congr 1
  have hr : ∀ h, Shape.reshapeEquiv (s := S1x1x2048) (s' := S2048) h j = ix3 (0 : Fin 1) (0 : Fin 1) (j 0) := by
    intro h
    apply Shape.reshapeEquiv_eq_of_rowMajor
    refine (Shape.rowMajor_val_three (d := ![1, 1, 2048]) _).trans (Eq.trans ?_ (Shape.rowMajor_val_one (d := ![2048]) j).symm)
    show (0 * 1 + 0) * 2048 + (j 0).val = (j 0).val
    omega
  erw [hr]
  funext a
  apply Fin.ext
  fin_cases a
  · show b.val + 1 * 0 = b.val; omega
  · show 16 * gno (coordsV c s) t.val + l.val + 1 * 0 = (16 * gno (coordsV c s) t.val + l.val) % 2048
    have := l.isLt; omega
  · show 0 + 1 * (j 0).val = (j 0).val; omega

/-- A batch of the distance array is its tiles' rows. -/
theorem dist_tiles (d : Dev nD) (b : Fin 4) (Y : S4x2048x2048.Idx → F .f32) :
    (dLoc d ↦[batchS b]{fullShare} Y : sProp 𝕄)
      = bigSep Finset.univ fun c : Fin 2 => bigSep Finset.univ fun s : Fin 16 => bigSep Finset.univ fun t : Fin k2_t1_loop.trips => rowsIn (coordsV c s) distV Y b d t := by
  rw [dist_rows]
  refine bigSep_congr fun c _ => bigSep_congr fun s _ => bigSep_congr fun t _ => ?_
  unfold rowsIn
  refine bigSep_congr fun l _ => ?_
  rw [owns_read_eq (thr d (coordsV c s)) (srcAt (coordsV c s) distV b t l) Y _ (row_read Y b c s t l)]
  exact congrArg (fun I => (dLoc d ↦[I]{fullShare} Y : sProp 𝕄)) (row_set b c s t l).symm

/-! ## The results' pieces -/

def coreO (c : Fin 2) : Finset S65536.Idx := Finset.univ.filter fun j => (j 0).val / 2048 % 2 = c.val
def tileO (c : Fin 2) (s : Fin 16) : Finset S65536.Idx := Finset.univ.filter fun j => (j 0).val / 2048 = s.val * 2 + c.val
def tripO (c : Fin 2) (s : Fin 16) (t : Fin 4) : Finset S65536.Idx := Finset.univ.filter fun j => (j 0).val / 512 = (s.val * 2 + c.val) * 4 + t.val

/-- A buffer of 65536 words, by pieces. -/
theorem out_parts {ℓ : Loc nD τ sig} (f : Buf (Elt F) ℓ) (φ : Idx ℓ → S65536.Idx) (A : Finset (Idx ℓ)) (hA : A = Finset.univ)
    (B : Fin 2 → Fin 16 → Fin 4 → Finset (Idx ℓ)) (hB : ∀ c s t j, j ∈ B c s t ↔ φ j ∈ tripO c s t) :
    (ℓ ↦[A]{fullShare} f : sProp 𝕄)
      = bigSep Finset.univ fun c : Fin 2 => bigSep Finset.univ fun s : Fin 16 => bigSep Finset.univ fun t : Fin 4 => ℓ ↦[B c s t]{fullShare} f := by
  subst hA
  have hlt : ∀ j, (φ j 0).val < 65536 := fun j => (φ j 0).isLt
  rw [pts_parts f Finset.univ (fun c => Finset.univ.filter fun j => φ j ∈ coreO c) (fun j => (φ j 0).val / 2048 % 2) (fun k j => by simp only [coreO, Finset.mem_filter, Finset.mem_univ, _root_.true_and]) (fun j _ => Nat.mod_lt _ (by decide))]
  refine bigSep_congr fun c _ => ?_
  rw [pts_parts f _ (fun s => Finset.univ.filter fun j => φ j ∈ tileO c s) (fun j => (φ j 0).val / 4096) (fun k j => by
      simp only [coreO, tileO, Finset.mem_filter, Finset.mem_univ, _root_.true_and]; have := c.isLt; constructor
      · intro h; refine ⟨?_, ?_⟩ <;> omega
      · rintro ⟨h1, h2⟩; omega)
    (fun j _ => by have := hlt j; omega)]
  refine bigSep_congr fun s _ => ?_
  exact pts_parts f _ (fun t => B c s t) (fun j => (φ j 0).val / 512 % 4) (fun k j => by
      rw [hB]; simp only [tripO, tileO, Finset.mem_filter, Finset.mem_univ, _root_.true_and]; have := k.isLt; constructor
      · intro h; refine ⟨?_, ?_⟩ <;> omega
      · rintro ⟨h1, h2⟩; omega)
    (fun j _ => Nat.mod_lt _ (by decide))

theorem piece_mem (c : Fin 2) (s : Fin 16) (t : Fin k2_t1_loop.trips) (j : S65536.Idx) :
    j ∈ (Rect.unit (s := S65536) (outOff (coordsV c s) t.val) S512.size (outOff_inb (coordsV c s) t)).set ↔ j ∈ tripO c s t := by
  rw [Rect.mem_set_unit]
  simp only [tripO, Finset.mem_filter, Finset.mem_univ, _root_.true_and]
  have hg : gno (coordsV c s) t.val = (s.val * 2 + c.val) * 4 + t.val := rfl
  have e0 : S512.size 0 = 512 := rfl
  constructor
  · intro h
    have h0 := h 0
    simp only [outOff, Matrix.cons_val_zero, hg] at h0
    omega
  · intro h a
    obtain rfl : a = 0 := Subsingleton.elim (α := Fin 1) _ _
    simp only [outOff, Matrix.cons_val_zero, hg]
    omega

theorem piece_val (c : Fin 2) (s : Fin 16) (t : Fin k2_t1_loop.trips) (j : S512.Idx) :
    (((Rect.unit (s := S65536) (outOff (coordsV c s) t.val) S512.size (outOff_inb (coordsV c s) t)).emb j) 0).val = 512 * gno (coordsV c s) t.val + (j 0).val := by
  show 512 * gno (coordsV c s) t.val + 1 * (j 0).val = _
  omega

theorem wordIdx_piece (g : Nat) (j : S512.Idx) : wordIdx (512 * g + (j 0).val) = j := by
  have hj : (j 0).val < 512 := (j 0).isLt
  funext a; obtain rfl : a = 0 := Subsingleton.elim (α := Fin 1) _ _
  apply Fin.ext; show (512 * g + (j 0).val) % 512 = (j 0).val; omega

theorem nd_piece (Y : S4x2048x2048.Idx → F .f32) (b : Fin 4) (c : Fin 2) (s : Fin 16) (t : Fin k2_t1_loop.trips) (j : S512.Idx) :
    ndAll Y b ((Rect.unit (s := S65536) (outOff (coordsV c s) t.val) S512.size (outOff_inb (coordsV c s) t)).emb j) = fl7 (grp Y b (gno (coordsV c s) t.val)).N j := by
  have hj : (j 0).val < 512 := (j 0).isLt
  unfold ndAll
  rw [piece_val, wordIdx_piece, show (512 * gno (coordsV c s) t.val + (j 0).val) / 512 = gno (coordsV c s) t.val by omega]

theorem ni_piece (Y : S4x2048x2048.Idx → F .f32) (b : Fin 4) (c : Fin 2) (s : Fin 16) (t : Fin k2_t1_loop.trips) (j : S512.Idx) :
    niAll Y b ((Rect.unit (s := S65536) (outOff (coordsV c s) t.val) S512.size (outOff_inb (coordsV c s) t)).emb j) = fl8 (F := F) (grp Y b (gno (coordsV c s) t.val)).I j := by
  have hj : (j 0).val < 512 := (j 0).isLt
  unfold niAll
  rw [piece_val, wordIdx_piece, show (512 * gno (coordsV c s) t.val + (j 0).val) / 512 = gno (coordsV c s) t.val by omega]

end Cert.Topk
-- ==== Proof.Calls.lean ====
/-
  What a selection call takes from the TensorCore and what it gives back, in whole arrays.
-/
module

public import proofs.«01_k».proof.Proof.Split

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay)
open Idealize.SL.BI (sProp)
open scoped Idealize.SL.BI
open Idealize.SL.BI Idealize.SL.BI.BIBase Idealize.SL.BI.Laws Idealize.SL.Sem Idealize.SL.ProofMode
open Idealize.SL.RA Idealize.ShloMosaic.ValueIdx

variable {F : FTy → Type}
local notation "𝕄" => MM F

/-- The two results of call `q`, as the TensorCore names them. -/
abbrev refN : Fin 4 → Ref sig .tc
  | 0 => main_v20_0 | 1 => main_v24_0 | 2 => main_v28_0 | 3 => main_v32_0
abbrev refI : Fin 4 → Ref sig .tc
  | 0 => main_v20_1 | 1 => main_v24_1 | 2 => main_v28_1 | 3 => main_v32_1

variable [FloatOps F]

/-- A result array, by pieces. -/
theorem piecesN (q : Fin 4) (d : Dev nD) (f : Buf (Elt F) ((SparseCore.T d).loc (refN q))) (f' : S65536.Idx → Elt F .f32) (hf : HEq f f') :
    ((SparseCore.T d).loc (refN q) ↦{fullShare} f : sProp 𝕄)
      = bigSep Finset.univ fun c : Fin 2 => bigSep Finset.univ fun s : Fin 16 => bigSep Finset.univ fun t : Fin k2_t1_loop.trips =>
          owns (thr d (coordsV c s)) (out3 (coordsV c s) (outN q) t) fullShare
            (fun j => f' ((Rect.unit (s := S65536) (outOff (coordsV c s) t.val) S512.size (outOff_inb (coordsV c s) t)).emb j)) := by
  match q with
  | 0 =>
    obtain rfl := eq_of_heq hf
    rw [out_parts (ℓ := (SparseCore.T d).loc main_v20_0) f id Finset.univ rfl (fun c s t => (out3 (coordsV c s) (outN 0) t).view.set) (fun c s t j => by
      show j ∈ ((View.whole (main_v20_0_scv : Ref sig .scVector)).slice (Rect.unit (s := S65536) (outOff (coordsV c s) t.val) S512.size (outOff_inb (coordsV c s) t))).set ↔ _
      rw [View.set_slice]
      refine Iff.trans (Eq.to_iff (congrArg (j ∈ ·) Finset.map_refl)) ?_
      exact piece_mem c s t j)]
    refine bigSep_congr fun c _ => bigSep_congr fun s _ => bigSep_congr fun t _ => ?_
    exact (owns_read_eq (thr d (coordsV c s)) (out3 (coordsV c s) (outN 0) t) f _ rfl).symm
  | 1 =>
    obtain rfl := eq_of_heq hf
    rw [out_parts (ℓ := (SparseCore.T d).loc main_v24_0) f id Finset.univ rfl (fun c s t => (out3 (coordsV c s) (outN 1) t).view.set) (fun c s t j => by
      show j ∈ ((View.whole (main_v24_0_scv : Ref sig .scVector)).slice (Rect.unit (s := S65536) (outOff (coordsV c s) t.val) S512.size (outOff_inb (coordsV c s) t))).set ↔ _
      rw [View.set_slice]
      refine Iff.trans (Eq.to_iff (congrArg (j ∈ ·) Finset.map_refl)) ?_
      exact piece_mem c s t j)]
    refine bigSep_congr fun c _ => bigSep_congr fun s _ => bigSep_congr fun t _ => ?_
    exact (owns_read_eq (thr d (coordsV c s)) (out3 (coordsV c s) (outN 1) t) f _ rfl).symm
  | 2 =>
    obtain rfl := eq_of_heq hf
    rw [out_parts (ℓ := (SparseCore.T d).loc main_v28_0) f id Finset.univ rfl (fun c s t => (out3 (coordsV c s) (outN 2) t).view.set) (fun c s t j => by
      show j ∈ ((View.whole (main_v28_0_scv : Ref sig .scVector)).slice (Rect.unit (s := S65536) (outOff (coordsV c s) t.val) S512.size (outOff_inb (coordsV c s) t))).set ↔ _
      rw [View.set_slice]
      refine Iff.trans (Eq.to_iff (congrArg (j ∈ ·) Finset.map_refl)) ?_
      exact piece_mem c s t j)]
    refine bigSep_congr fun c _ => bigSep_congr fun s _ => bigSep_congr fun t _ => ?_
    exact (owns_read_eq (thr d (coordsV c s)) (out3 (coordsV c s) (outN 2) t) f _ rfl).symm
  | 3 =>
    obtain rfl := eq_of_heq hf
    rw [out_parts (ℓ := (SparseCore.T d).loc main_v32_0) f id Finset.univ rfl (fun c s t => (out3 (coordsV c s) (outN 3) t).view.set) (fun c s t j => by
      show j ∈ ((View.whole (main_v32_0_scv : Ref sig .scVector)).slice (Rect.unit (s := S65536) (outOff (coordsV c s) t.val) S512.size (outOff_inb (coordsV c s) t))).set ↔ _
      rw [View.set_slice]
      refine Iff.trans (Eq.to_iff (congrArg (j ∈ ·) Finset.map_refl)) ?_
      exact piece_mem c s t j)]
    refine bigSep_congr fun c _ => bigSep_congr fun s _ => bigSep_congr fun t _ => ?_
    exact (owns_read_eq (thr d (coordsV c s)) (out3 (coordsV c s) (outN 3) t) f _ rfl).symm

theorem piecesI (q : Fin 4) (d : Dev nD) (f : Buf (Elt F) ((SparseCore.T d).loc (refI q))) (f' : S65536.Idx → Elt F .i32) (hf : HEq f f') :
    ((SparseCore.T d).loc (refI q) ↦{fullShare} f : sProp 𝕄)
      = bigSep Finset.univ fun c : Fin 2 => bigSep Finset.univ fun s : Fin 16 => bigSep Finset.univ fun t : Fin k2_t1_loop.trips =>
          owns (thr d (coordsV c s)) (out4 (coordsV c s) (outI q) t) fullShare
            (fun j => f' ((Rect.unit (s := S65536) (outOff (coordsV c s) t.val) S512.size (outOff_inb (coordsV c s) t)).emb j)) := by
  match q with
  | 0 =>
    obtain rfl := eq_of_heq hf
    rw [out_parts (ℓ := (SparseCore.T d).loc main_v20_1) f id Finset.univ rfl (fun c s t => (out4 (coordsV c s) (outI 0) t).view.set) (fun c s t j => by
      show j ∈ ((View.whole (main_v20_1_scv : Ref sig .scVector)).slice (Rect.unit (s := S65536) (outOff (coordsV c s) t.val) S512.size (outOff_inb (coordsV c s) t))).set ↔ _
      rw [View.set_slice]
      refine Iff.trans (Eq.to_iff (congrArg (j ∈ ·) Finset.map_refl)) ?_
      exact piece_mem c s t j)]
    refine bigSep_congr fun c _ => bigSep_congr fun s _ => bigSep_congr fun t _ => ?_
    exact (owns_read_eq (thr d (coordsV c s)) (out4 (coordsV c s) (outI 0) t) f _ rfl).symm
  | 1 =>
    obtain rfl := eq_of_heq hf
    rw [out_parts (ℓ := (SparseCore.T d).loc main_v24_1) f id Finset.univ rfl (fun c s t => (out4 (coordsV c s) (outI 1) t).view.set) (fun c s t j => by
      show j ∈ ((View.whole (main_v24_1_scv : Ref sig .scVector)).slice (Rect.unit (s := S65536) (outOff (coordsV c s) t.val) S512.size (outOff_inb (coordsV c s) t))).set ↔ _
      rw [View.set_slice]
      refine Iff.trans (Eq.to_iff (congrArg (j ∈ ·) Finset.map_refl)) ?_
      exact piece_mem c s t j)]
    refine bigSep_congr fun c _ => bigSep_congr fun s _ => bigSep_congr fun t _ => ?_
    exact (owns_read_eq (thr d (coordsV c s)) (out4 (coordsV c s) (outI 1) t) f _ rfl).symm
  | 2 =>
    obtain rfl := eq_of_heq hf
    rw [out_parts (ℓ := (SparseCore.T d).loc main_v28_1) f id Finset.univ rfl (fun c s t => (out4 (coordsV c s) (outI 2) t).view.set) (fun c s t j => by
      show j ∈ ((View.whole (main_v28_1_scv : Ref sig .scVector)).slice (Rect.unit (s := S65536) (outOff (coordsV c s) t.val) S512.size (outOff_inb (coordsV c s) t))).set ↔ _
      rw [View.set_slice]
      refine Iff.trans (Eq.to_iff (congrArg (j ∈ ·) Finset.map_refl)) ?_
      exact piece_mem c s t j)]
    refine bigSep_congr fun c _ => bigSep_congr fun s _ => bigSep_congr fun t _ => ?_
    exact (owns_read_eq (thr d (coordsV c s)) (out4 (coordsV c s) (outI 2) t) f _ rfl).symm
  | 3 =>
    obtain rfl := eq_of_heq hf
    rw [out_parts (ℓ := (SparseCore.T d).loc main_v32_1) f id Finset.univ rfl (fun c s t => (out4 (coordsV c s) (outI 3) t).view.set) (fun c s t j => by
      show j ∈ ((View.whole (main_v32_1_scv : Ref sig .scVector)).slice (Rect.unit (s := S65536) (outOff (coordsV c s) t.val) S512.size (outOff_inb (coordsV c s) t))).set ↔ _
      rw [View.set_slice]
      refine Iff.trans (Eq.to_iff (congrArg (j ∈ ·) Finset.map_refl)) ?_
      exact piece_mem c s t j)]
    refine bigSep_congr fun c _ => bigSep_congr fun s _ => bigSep_congr fun t _ => ?_
    exact (owns_read_eq (thr d (coordsV c s)) (out4 (coordsV c s) (outI 3) t) f _ rfl).symm

/-- The results of call `q` on the distance array `Y`, as contents of its arrays. -/
def ndBuf (Y : S4x2048x2048.Idx → F .f32) : (q : Fin 4) → (refN q).ty.Contents (Elt F)
  | 0 => ndAll Y 0 | 1 => ndAll Y 1 | 2 => ndAll Y 2 | 3 => ndAll Y 3
def niBuf (Y : S4x2048x2048.Idx → F .f32) : (q : Fin 4) → (refI q).ty.Contents (Elt F)
  | 0 => niAll Y 0 | 1 => niAll Y 1 | 2 => niAll Y 2 | 3 => niAll Y 3

variable (X : Dev nD → S4x2048x2048.Idx → F .f32)

theorem bigSep_cores (q : Fin 4) (Φ : Fin 2 → sProp 𝕄) :
    (bigSep Finset.univ fun c : Fin ((K (F := F)).nCore q) => Φ (c.cast (nCore_eq q))) = bigSep Finset.univ Φ := by
  fin_cases q <;> exact bigSep_congr fun _ _ => congrArg Φ (Fin.ext rfl)

theorem deal_st (q : Fin 4) (d : Dev nD) (f : (refN q).ty.Contents (Elt F)) (g : (refI q).ty.Contents (Elt F)) (f' : S65536.Idx → Elt F .f32) (g' : S65536.Idx → Elt F .i32)
    (hf : HEq f f') (hg : HEq g g') :
    (iprop((dLoc d ↦[batchS q]{fullShare} X d) ∗ ((SparseCore.T d).loc (refN q) ↦{fullShare} f) ∗ ((SparseCore.T d).loc (refI q) ↦{fullShare} g)) : sProp 𝕄)
      ⊢ bigSep Finset.univ fun c : Fin ((K (F := F)).nCore q) => (P X).st q d c := by
  show _ ⊢ bigSep Finset.univ fun c : Fin ((K (F := F)).nCore q) => bigSep Finset.univ fun s : Fin 16 => goOf X q d (c.cast (nCore_eq q)) s
  rw [bigSep_cores q (fun c => bigSep Finset.univ fun s : Fin 16 => goOf X q d c s), dist_tiles, piecesN q d f f' hf, piecesI q d g g' hg,
    ← bigSep_both, ← bigSep_both]
  refine bigSep_mono fun c _ => ?_
  rw [← bigSep_both, ← bigSep_both]
  refine bigSep_mono fun s _ => ?_
  rw [← bigSep_both, ← bigSep_both]
  unfold goOf tileGo
  refine bigSep_mono fun t _ => ?_
  unfold todo
  refine BI.sep_mono (Idealize.SL.BI.Entails.refl _) (BI.sep_mono ?_ ?_)
  · show (_ : sProp 𝕄) ⊢ iprop(∃ Y, owns (thr d (coordsV c s)) (out3 (coordsV c s) (outN q) t) fullShare Y)
    iintro H; iexists _; iexact H
  · show (_ : sProp 𝕄) ⊢ iprop(∃ Y, owns (thr d (coordsV c s)) (out4 (coordsV c s) (outI q) t) fullShare Y)
    iintro H; iexists _; iexact H

theorem gather_dn (q : Fin 4) (d : Dev nD) :
    (bigSep Finset.univ fun c : Fin ((K (F := F)).nCore q) => (P X).dn q d c)
      ⊢ (iprop((dLoc d ↦[batchS q]{fullShare} X d) ∗ ((SparseCore.T d).loc (refN q) ↦{fullShare} ndBuf (X d) q) ∗ ((SparseCore.T d).loc (refI q) ↦{fullShare} niBuf (X d) q)) : sProp 𝕄) := by
  show (bigSep Finset.univ fun c : Fin ((K (F := F)).nCore q) => bigSep Finset.univ fun s : Fin 16 => tdOf X q d (c.cast (nCore_eq q)) s) ⊢ _
  rw [bigSep_cores q (fun c => bigSep Finset.univ fun s : Fin 16 => tdOf X q d c s), dist_tiles,
    piecesN q d (ndBuf (X d) q) (ndAll (X d) q) (by fin_cases q <;> exact HEq.rfl), piecesI q d (niBuf (X d) q) (niAll (X d) q) (by fin_cases q <;> exact HEq.rfl),
    ← bigSep_both, ← bigSep_both]
  refine bigSep_mono fun c _ => ?_
  rw [← bigSep_both, ← bigSep_both]
  refine bigSep_mono fun s _ => ?_
  rw [← bigSep_both, ← bigSep_both]
  unfold tdOf tileTd
  refine bigSep_mono fun t _ => ?_
  unfold done
  exact BI.sep_mono (Idealize.SL.BI.Entails.refl _) (BI.sep_mono
    (Entails.of_eq (congrArg (owns (thr d (coordsV c s)) (out3 (coordsV c s) (outN q) t) fullShare) (funext fun j => (nd_piece (X d) q c s t j).symm)))
    (Entails.of_eq (congrArg (owns (thr d (coordsV c s)) (out4 (coordsV c s) (outI q) t) fullShare) (funext fun j => (ni_piece (X d) q c s t j).symm))))

end Cert.Topk
-- ==== Proof.Region.lean ====
/-
  One TensorCore call of the program, entered between selection calls.

  The TensorCore holds its unscoped buffers at a valuation and still owes the selection calls that are to come.  A pipeline
  whose body meets its obligation takes the valuation to any other that has the pipeline's arrays at their final contents
  and agrees off them; what is owed, and the bound on the waits made so far, is kept.
-/
module

public import proofs.«01_k».proof.Proof.Base
public import Idealize.ShloMosaic.Lib.Pipeline.RegionsLoop
public import Idealize.ShloMosaic.Lib.Pipeline.RegionArraysS
public import Idealize.ShloMosaic.Lib.Pipeline.Frame

@[expose] public section

noncomputable section

namespace Cert.Topk

open Idealize.SL Idealize.ShloMosaic Cert.KernelIdeal Cert.KernelIdeal.Gen
open Idealize.ShloMosaic.SparseCore.Cfg (HIx)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds
open Idealize.ShloMosaic.TcCoe
open Idealize.ShloMosaic.Pipeline (Dat BodyObligation RegionSeg)

variable {F : FTy → Type} [FloatOps F]

local notation "𝕄" => MM F

abbrev adm : (p : Fin 6) → (pcfgs (F := F) p).Adm := fun q => (cfgs q).toPCfg_adm

abbrev Dats (F : FTy → Type) [FloatOps F] : Type :=
  (p : Fin 6) → (c : Dev nD) → Dat τ (Elt F) (HIx 4) ℕ UU ℕ (Pipeline.pin (pcfgs (F := F)) adm p) c

/-- Proof data of a pipeline that a region does not run. -/
def junkDat {cfg : Pipeline.Cfg sig Λ₀} (c : Dev nD) : Dat τ (Elt F) (HIx 4) ℕ UU ℕ cfg c where
  A _ := fun _ => Classical.arbitrary _
  after _ _ := fun _ => Classical.arbitrary _
  Φ _ := BI.emp
  q _ := fullShare
  owed _ := 0

/-- The level before selection call `n`. -/
abbrev fst4 (n : ℕ) : ℕ := SparseCore.Cfg.Blocks.fst (Q := 4) (N := 4) n

/-- The waits that a TensorCore before selection call `n` may have made. -/
def madeBy (d : Dev nD) (n : ℕ) : Set (SemLoc sig × HIx 4) := {x | (K (F := F)).lev (SparseCore.T d, x.1) x.2 ≤ 8 * fst4 n}

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this
  omega

/-- The record of the region. -/
def seg (p : Fin 6) (kit : Pipeline.LaunchFacts₀ (nD := nD) (τ := τ) cfgs p) (pd : Dats F) (n : ℕ)
    (W W' : Dev nD → Valuation τ sig (Elt F))
    (hbody : ∀ c, BodyObligation (pd p c) (defs₀ (F := F)) 𝒱₀ none Set.univ)
    (howed : ∀ c t, (pd p c).owed t = (K (F := F)).Otc c n)
    (hrec : ∀ c t, (pd p c).recorded t = madeBy (F := F) c n)
    (hq : ∀ c w, ((Pipeline.pin (pcfgs (F := F)) adm p).spec w).isOut = false → (pd p c).q w = Pipeline.shareOf (Pipeline.pin (pcfgs (F := F)) adm p).spec w)
    (hΦ : ∀ c t, (pd p c).Φ t = Pipeline.scopedRest (Pipeline.pin (pcfgs (F := F)) adm p).spec c)
    (hA : ∀ c w, (pd p c).A w = W c (Proc.devRef .tc (Pipeline.arrRef (Pipeline.pin (pcfgs (F := F)) adm p).spec w)))
    (hF : ∀ c w, (pd p c).arrAt w (Pipeline.pin (pcfgs (F := F)) adm p).N = W' c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      W' c (Proc.devRef .tc b) = W c (Proc.devRef .tc b)) :
    RegionSeg (pcfgs (F := F)) adm pd none (defs₀ (F := F)) 𝒱₀ (K (F := F)).L (K (F := F)).lev p where
  win := kit.win
  block_pos := kit.block_pos
  stage_whole := kit.stage_whole
  K := PEmpty
  osem k := k.elim
  ho := Pipeline.OwnSemFacts.none _
  hbody c := (hbody c).loose
  hwaits c := Pipeline.cellsWaits_intro _ pd none p c fun w s t => by
    rw [howed c t]
    exact (K (F := F)).mayWait_none _ fun g => Otc_none c n g
  pre c := iprop(StableHlo.held (c.tc : Thread nD τ) (Pipeline.ucRefs τ sig) (W c)
    ∗ ∃ Wd, ⌜(K (F := F)).WBelow (SparseCore.T c) Wd (8 * fst4 n)⌝ ∗ owes (c : Thread nD τ) ((K (F := F)).Otc c n) Wd)
  post c := iprop(StableHlo.held (c.tc : Thread nD τ) (Pipeline.ucRefs τ sig) (W' c)
    ∗ ∃ Wd, ⌜(K (F := F)).WBelow (SparseCore.T c) Wd (8 * fst4 n)⌝ ∗ owes (c : Thread nD τ) ((K (F := F)).Otc c n) Wd)
  X _ := iprop(emp)
  Y _ := iprop(emp)
  Z c := Pipeline.unscopedRest (Pipeline.pin (pcfgs (F := F)) adm p).spec c (fun b => W c (Proc.devRef .tc b))
  hentry c := by
    rw [Pipeline.ownSems0_none, Pipeline.prefHeld_of_none _ (show (pcfgs (F := F) p).pre.K = 0 from rfl), ← Pipeline.unscopedBufs_held]
    iintro ⟨⟨Hb, ⟨%Wd, %hWd, HO⟩⟩, -, -⟩
    imodintro
    ihave H := (Pipeline.arrays_of_unscopedBufs_shared (pcfgs (F := F)) adm pd kit.win kit.sharedIn kit.arr_whole c (hq c) _ (hA c)) $$ Hb
    icases H with ⟨Ha, Hr⟩
    isplitl [Ha]; · iexact Ha
    isplitr; · iempintro
    isplitl [HO]
    · unfold Dat.owesAt Pipeline.owesWithin Dat.bound
      rw [howed c 0, hrec c 0]
      iexists Wd
      isplitr
      · ipureintro; exact fun x hx => Or.inl (hWd x hx)
      iexact HO
    isplitr; · iempintro
    iexact Hr
  hin c := by
    rw [hΦ]
    iintro ⟨-, -, Hr⟩
    iexact Hr
  hout c := by
    rw [hΦ, Pipeline.ownSems0_none]
    iintro Hr
    isplitr; · iempintro
    isplitr; · iempintro
    iexact Hr
  hexit c := by
    rw [← Pipeline.unscopedBufs_held]
    iintro ⟨Ha, HO, -, Hr⟩
    imodintro
    isplitl [Ha Hr]
    · iapply (Pipeline.unscopedBufs_of_arrays_shared (pcfgs (F := F)) adm kit.win kit.sharedIn kit.arr_whole c pd (hq c)
        (fun b => W c (Proc.devRef .tc b)) (fun b => W' c (Proc.devRef .tc b)) ((pd p c).arrAt · (Pipeline.pin (pcfgs (F := F)) adm p).N) (hF c) (hrest c))
      isplitl [Ha]; · iexact Ha
      iexact Hr
    · unfold Dat.owesAt Pipeline.owesWithin Dat.bound
      rw [howed, hrec]
      icases HO with ⟨%Wd, %hWd, HO⟩
      iexists Wd
      isplitr
      · ipureintro
        intro x hx
        rcases hWd hx with h | ⟨w, s, rfl⟩
        · exact h
        · rw [SparseCore.Cfg.lev_none]; exact Nat.zero_le _
      iexact HO

/-- The call, run between selection calls. -/
theorem region_step (p : Fin 6) (kit : Pipeline.LaunchFacts₀ (nD := nD) (τ := τ) cfgs p) (pd : Dats F) (n : ℕ)
    (W W' : Dev nD → Valuation τ sig (Elt F))
    (hbody : ∀ c, BodyObligation (pd p c) (defs₀ (F := F)) 𝒱₀ none Set.univ)
    (howed : ∀ c t, (pd p c).owed t = (K (F := F)).Otc c n)
    (hrec : ∀ c t, (pd p c).recorded t = madeBy (F := F) c n)
    (hq : ∀ c w, ((Pipeline.pin (pcfgs (F := F)) adm p).spec w).isOut = false → (pd p c).q w = Pipeline.shareOf (Pipeline.pin (pcfgs (F := F)) adm p).spec w)
    (hΦ : ∀ c t, (pd p c).Φ t = Pipeline.scopedRest (Pipeline.pin (pcfgs (F := F)) adm p).spec c)
    (hA : ∀ c w, (pd p c).A w = W c (Proc.devRef .tc (Pipeline.arrRef (Pipeline.pin (pcfgs (F := F)) adm p).spec w)))
    (hF : ∀ c w, (pd p c).arrAt w (Pipeline.pin (pcfgs (F := F)) adm p).N = W' c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      W' c (Proc.devRef .tc b) = W c (Proc.devRef .tc b)) (d : Dev nD)
    (Q : PUnit → sProp 𝕄) :
    iprop(levAts (K (F := F)).L (K (F := F)).lev ∗ boundary (d.tc : Thread nD τ) ∗ StableHlo.held (d.tc : Thread nD τ) (Pipeline.ucRefs τ sig) (W d)
        ∗ (K (F := F)).tcSt EH d n
        ∗ Pipeline.cellsGhost (Pipeline.pin (pcfgs (F := F)) adm) EP p d ∗ Pipeline.toksInit (Pipeline.pin (pcfgs (F := F)) adm) EP p d
        ∗ ((boundary (d.tc : Thread nD τ) ∗ StableHlo.held (d.tc : Thread nD τ) (Pipeline.ucRefs τ sig) (W' d) ∗ (K (F := F)).tcSt EH d n) -∗ Q ⟨⟩))
      ⊢ wp frame (wpE ((K (F := F)).defs D) 𝒱 (d.tc : Thread nD τ) none) Set.univ
          (Prog.lift (.customCall (SparseCore.inner (Pipeline.entry p)) ())) Q := by
  refine BI.Entails.trans ?_ ((K (F := F)).wp_liftProg D 𝒱 (d.tc : Thread nD τ) Set.univ none
    (.op (.customCall (Pipeline.entry p) ()) .ret) Q)
  refine BI.Entails.trans ?_ (RegionSeg.wp (pcfgs (F := F)) adm pd none kit.cellOf_inj EP (defs₀ (F := F)) 𝒱₀ _ _
    (seg p kit pd n W W' hbody howed hrec hq hΦ hA hF hrest) d none (fun u hu => absurd hu (Option.not_mem_none u)) (fun x => .ret x) Q)
  unfold SparseCore.Cfg.tcSt
  show (_ : sProp 𝕄) ⊢ iprop((iprop(boundary (d.tc : Thread nD τ) ∗ StableHlo.held (d.tc : Thread nD τ) (Pipeline.ucRefs τ sig) (W' d)
        ∗ ∃ Wd, ⌜(K (F := F)).WBelow (SparseCore.T d) Wd (8 * fst4 n)⌝ ∗ owes (d : Thread nD τ) ((K (F := F)).Otc d n) Wd)
      -∗ iprop(|={Set.univ}=> Q ⟨⟩))
    ∗ boundary (d.tc : Thread nD τ)
    ∗ iprop(StableHlo.held (d.tc : Thread nD τ) (Pipeline.ucRefs τ sig) (W d)
        ∗ ∃ Wd, ⌜(K (F := F)).WBelow (SparseCore.T d) Wd (8 * fst4 n)⌝ ∗ owes (d : Thread nD τ) ((K (F := F)).Otc d n) Wd)
    ∗ levAts (K (F := F)).L (K (F := F)).lev
    ∗ Pipeline.cellsGhost (Pipeline.pin (pcfgs (F := F)) adm) EP p d ∗ Pipeline.toksInit (Pipeline.pin (pcfgs (F := F)) adm) EP p d)
  iintro ⟨Hl, Hb, Hh, ⟨HO, Ht⟩, Hg, Hk, HQ⟩
  isplitl [HQ Ht]
  · iintro ⟨Hb, ⟨Hh, HO⟩⟩
    imodintro
    iapply HQ
    isplitl [Hb]; · iexact Hb
    isplitl [Hh]; · iexact Hh
    isplitl [HO]; · iexact HO
    iexact Ht
  isplitl [Hb]; · iexact Hb
  isplitl [Hh HO]
  · isplitl [Hh]; · iexact Hh
    iexact HO
  isplitl [Hl]; · iexact Hl
  isplitl [Hg]; · iexact Hg
  iexact Hk

end Cert.Topk
-- ==== Proof.ScStep.lean ====
/-
  A selection call on the TensorCore's side: its two results, of the batch of the distances it reads, written over what
  the TensorCore holds.
-/
module

public import proofs.«01_k».proof.Proof.Calls
public import proofs.«01_k».proof.Proof.Region

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay)
open Idealize.SL.BI (sProp)
open scoped Idealize.SL.BI
open Idealize.SL.BI Idealize.SL.BI.BIBase Idealize.SL.BI.Laws Idealize.SL.Sem Idealize.SL.ProofMode
open Idealize.SL.RA Idealize.ShloMosaic.ValueIdx

variable {F : FTy → Type} [FloatOps F]
local notation "𝕄" => MM F

variable (X : Dev nD → S4x2048x2048.Idx → F .f32)

/-- The three buffers a selection call touches. -/
def touched (q : Fin 4) : Finset (DevRef τ sig) :=
  {(Proc.devRef .tc main_v9 : DevRef τ sig), Proc.devRef .tc (refN q), Proc.devRef .tc (refI q)}

theorem refN_ne_dist (q : Fin 4) : (Proc.devRef .tc (refN q) : DevRef τ sig) ≠ Proc.devRef .tc main_v9 := by
  fin_cases q <;> decide
theorem refI_ne_dist (q : Fin 4) : (Proc.devRef .tc (refI q) : DevRef τ sig) ≠ Proc.devRef .tc main_v9 := by
  fin_cases q <;> decide
theorem refI_ne_refN (q : Fin 4) : (Proc.devRef .tc (refI q) : DevRef τ sig) ≠ Proc.devRef .tc (refN q) := by
  fin_cases q <;> decide

theorem touched_sub (q : Fin 4) : touched q ⊆ Pipeline.ucRefs τ sig := by
  intro b hb
  unfold touched at hb
  simp only [Finset.mem_insert, Finset.mem_singleton] at hb
  unfold Pipeline.ucRefs StableHlo.tcRefs
  rcases hb with rfl | rfl | rfl
  · exact Finset.mem_filter.mpr ⟨Finset.mem_map.mpr ⟨_, Finset.mem_univ _, rfl⟩, by decide⟩
  · exact Finset.mem_filter.mpr ⟨Finset.mem_map.mpr ⟨_, Finset.mem_univ _, rfl⟩, by fin_cases q <;> decide⟩
  · exact Finset.mem_filter.mpr ⟨Finset.mem_map.mpr ⟨_, Finset.mem_univ _, rfl⟩, by fin_cases q <;> decide⟩

/-- What the TensorCore holds after selection call `q` over distances `Y`. -/
def scVal (q : Fin 4) (Y : S4x2048x2048.Idx → F .f32) (V : Valuation τ sig (Elt F)) : Valuation τ sig (Elt F) :=
  Function.update (Function.update V (Proc.devRef .tc (refN q) : DevRef τ sig) (ndBuf Y q)) (Proc.devRef .tc (refI q) : DevRef τ sig) (niBuf Y q)

theorem scVal_off (q : Fin 4) (Y : S4x2048x2048.Idx → F .f32) (V : Valuation τ sig (Elt F)) (b : DevRef τ sig)
    (h0 : b ≠ Proc.devRef .tc (refN q)) (h1 : b ≠ Proc.devRef .tc (refI q)) : scVal q Y V b = V b := by
  unfold scVal
  rw [Function.update_of_ne h1, Function.update_of_ne h0]

theorem scVal_N (q : Fin 4) (Y : S4x2048x2048.Idx → F .f32) (V : Valuation τ sig (Elt F)) :
    scVal q Y V (Proc.devRef .tc (refN q)) = ndBuf Y q := by
  unfold scVal
  rw [Function.update_of_ne (refI_ne_refN q).symm, Function.update_self]

theorem scVal_I (q : Fin 4) (Y : S4x2048x2048.Idx → F .f32) (V : Valuation τ sig (Elt F)) :
    scVal q Y V (Proc.devRef .tc (refI q)) = niBuf Y q := by
  unfold scVal
  rw [Function.update_self]

theorem held_touched (q : Fin 4) (d : Dev nD) (V : Valuation τ sig (Elt F)) :
    (StableHlo.held (d.tc : Thread nD τ) (touched q) V : sProp 𝕄)
      = iprop((dLoc d ↦{fullShare} V (Proc.devRef .tc main_v9)) ∗ ((SparseCore.T d).loc (refN q) ↦{fullShare} V (Proc.devRef .tc (refN q)))
          ∗ ((SparseCore.T d).loc (refI q) ↦{fullShare} V (Proc.devRef .tc (refI q)))) := by
  unfold StableHlo.held touched
  rw [SparseCore.bigSep_insert' (by
      simp only [Finset.mem_insert, Finset.mem_singleton, not_or]
      exact ⟨(refN_ne_dist q).symm, (refI_ne_dist q).symm⟩),
    SparseCore.bigSep_insert' (by
      simp only [Finset.mem_singleton]
      exact (refI_ne_refN q).symm), bigSep_singleton]

theorem exN (q : Fin 4) (f : (refN q).ty.Contents (Elt F)) : ∃ f' : S65536.Idx → Elt F .f32, HEq f f' :=
  match q, f with
  | 0, f => ⟨f, HEq.rfl⟩ | 1, f => ⟨f, HEq.rfl⟩ | 2, f => ⟨f, HEq.rfl⟩ | 3, f => ⟨f, HEq.rfl⟩
theorem exI (q : Fin 4) (f : (refI q).ty.Contents (Elt F)) : ∃ f' : S65536.Idx → Elt F .i32, HEq f f' :=
  match q, f with
  | 0, f => ⟨f, HEq.rfl⟩ | 1, f => ⟨f, HEq.rfl⟩ | 2, f => ⟨f, HEq.rfl⟩ | 3, f => ⟨f, HEq.rfl⟩

/-- Before the call: the batch the call reads and its results, and the way back. -/
theorem take (q : Fin 4) (d : Dev nD) (V : Valuation τ sig (Elt F)) (hX : V (Proc.devRef .tc main_v9) = X d) :
    (StableHlo.held (d.tc : Thread nD τ) (Pipeline.ucRefs τ sig) V : sProp 𝕄)
      ⊢ iprop((bigSep Finset.univ fun c : Fin ((K (F := F)).nCore q) => (P X).st q d c)
          ∗ ((bigSep Finset.univ fun c : Fin ((K (F := F)).nCore q) => (P X).dn q d c)
            -∗ StableHlo.held (d.tc : Thread nD τ) (Pipeline.ucRefs τ sig) (scVal q (X d) V))) := by
  have hh : (StableHlo.held (d.tc : Thread nD τ) (Pipeline.ucRefs τ sig \ touched q) (scVal q (X d) V) : sProp 𝕄)
      = StableHlo.held (d.tc : Thread nD τ) (Pipeline.ucRefs τ sig \ touched q) V := by
    refine StableHlo.held_congr _ fun b hb => ?_
    have hb' := (Finset.mem_sdiff.mp hb).2
    unfold touched at hb'
    simp only [Finset.mem_insert, Finset.mem_singleton, not_or] at hb'
    exact scVal_off q _ _ b hb'.2.1 hb'.2.2
  have e1 := StableHlo.held_sub_split (Ix := HIx 4) (Name := ℕ) (U := UU) (Lvl := ℕ) (d.tc : Thread nD τ) (touched_sub q) V
  have e2 := StableHlo.held_sub_split (Ix := HIx 4) (Name := ℕ) (U := UU) (Lvl := ℕ) (d.tc : Thread nD τ) (touched_sub q) (scVal q (X d) V)
  rw [hh, held_touched, scVal_N, scVal_I, scVal_off q _ _ _ (refN_ne_dist q).symm (refI_ne_dist q).symm, hX] at e2
  rw [held_touched, hX] at e1
  rw [e2, e1]
  obtain ⟨f', hf⟩ := exN q (V (Proc.devRef .tc (refN q)))
  obtain ⟨g', hg⟩ := exI q (V (Proc.devRef .tc (refI q)))
  have hd := deal_st X q d _ _ f' g' hf hg
  have hga := gather_dn X q d
  have hs := pointsTo_split_subset (Finset.subset_univ (batchS q)) (Ix := HIx 4) (Val := Elt F) (Name := ℕ) (U := UU) (Lvl := ℕ) (q := fullShare) (f := X d) (ℓ := dLoc d)
  iintro ⟨⟨HD, HN, HI⟩, HR⟩
  ihave HD := hs.1 $$ HD
  icases HD with ⟨HB, HD⟩
  isplitl [HB HN HI]
  · iapply hd
    isplitl [HB]; · iexact HB
    isplitl [HN]; · iexact HN
    iexact HI
  iintro Hdn
  ihave H := hga $$ Hdn
  icases H with ⟨HB, HN, HI⟩
  isplitr [HR]
  · isplitl [HB HD]
    · iapply hs.2
      isplitl [HB]; · iexact HB
      iexact HD
    isplitl [HN]; · iexact HN
    iexact HI
  iexact HR

/-- Selection call `q`. -/
theorem scStep (κ : GSem nD τ sig → ℕ) (q : Fin 4) (d : Dev nD) (V : Valuation τ sig (Elt F)) (hX : V (Proc.devRef .tc main_v9) = X d)
    (Q : PUnit → sProp 𝕄) :
    iprop((K (F := F)).ctx EH (P X) κ ∗ boundary (d.tc : Thread nD τ) ∗ StableHlo.held (d.tc : Thread nD τ) (Pipeline.ucRefs τ sig) V
        ∗ (K (F := F)).tcSt EH d q.val
        ∗ ((boundary (d.tc : Thread nD τ) ∗ StableHlo.held (d.tc : Thread nD τ) (Pipeline.ucRefs τ sig) (scVal q (X d) V)
            ∗ (K (F := F)).tcSt EH d (q.val + 1)) -∗ Q ⟨⟩))
      ⊢ wp frame (wpE ((K (F := F)).defs D) 𝒱 (d.tc : Thread nD τ) none) Set.univ ((K (F := F)).run d q) Q := by
  refine BI.Entails.trans ?_ ((K (F := F)).wp_run (D (F := F)) 𝒱 (EH := EH) (P := P X) κ d q)
  show (_ : sProp 𝕄) ⊢ iprop((K (F := F)).ctx EH (P X) κ ∗ (K (F := F)).tcSt EH d q.val ∗ (bigSep Finset.univ fun c : Fin ((K (F := F)).nCore q) => (P X).st q d c)
        ∗ (((K (F := F)).tcSt EH d (q.val + 1) ∗ bigSep Finset.univ fun c : Fin ((K (F := F)).nCore q) => (P X).dn q d c) -∗ Q ⟨⟩))
  iintro ⟨#Hctx, Hb, Hh, Ht, HQ⟩
  ihave H := (take X q d V hX) $$ Hh
  icases H with ⟨Hst, Hback⟩
  isplitr; · iexact Hctx
  isplitl [Ht]; · iexact Ht
  isplitl [Hst]; · iexact Hst
  iintro ⟨Ht, Hdn⟩
  ihave Hh := Hback $$ Hdn
  iapply HQ
  isplitl [Hb]; · iexact Hb
  isplitl [Hh]; · iexact Hh
  iexact Ht

end Cert.Topk
-- ==== Proof.Whole.lean ====
/-
  Loads and stores of a buffer's whole shape.
-/
module

public import proofs.«01_k».proof.Proof.Mem

@[expose] public section

noncomputable section

namespace Cert.Mem

open Idealize.SL Idealize.ShloMosaic
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s t : Shape} {e : EltTy} {α : Type} {Q : α → sProp (MT nD τ sig Ix (Elt F) Name U Lvl)}

local notation "𝕄" => MT nD τ sig Ix (Elt F) Name U Lvl

/-- A rectangle of the buffer's own size starts at its origin. -/
theorem emb_full {off : Fin s.rank → ℕ} (inb : ∀ a, off a + s.size a ≤ s.size a) (x : s.Idx) :
    (Rect.unit (s := s) off s.size inb).emb x = x := by
  funext a
  apply Fin.ext
  have := inb a
  show off a + 1 * (x a).val = (x a).val
  omega

/-- A load of a buffer's whole shape. -/
theorem wp_loadW {base : Memref sig c.2.kind .vmem s e} {off : Fin s.rank → ℕ} {inb : ∀ a, off a + s.size a ≤ s.size a}
    {hl : base.view.LoadsAt (Rect.unit (s := s) off s.size inb).toLoadRect}
    {k : (s.Idx → Elt F e) → Prog (TpuEff nD τ sig (Elt F) Λ c.2) α}
    {q : PosShare TreeShare} {X : s.Idx → Elt F e} :
    (owns c base q X : sProp 𝕄)
      ⊢ iprop((owns c base q X -∗ wp frame (wpE defs 𝒱 c bd) E (k X) Q)
        -∗ wp frame (wpE defs 𝒱 c bd) E (.op (.load base (Rect.unit (s := s) off s.size inb).toLoadRect hl) k) Q) := by
  have h : (fun x : s.Idx => X ((Rect.unit (s := s) off s.size inb).emb x)) = X := funext fun x => congrArg X (emb_full inb x)
  have := wp_loadR (defs := defs) 𝒱 c bd E (Q := Q) (base := base) (r := Rect.unit (s := s) off s.size inb) (hl := hl) (k := k) (q := q) (X := X)
  rw [show (fun x => X ((Rect.unit (s := s) off s.size inb).emb x)) = X from h] at this
  exact this

/-- A store of a buffer's whole shape. -/
theorem wp_storeW {base : Memref sig c.2.kind .vmem s e} {off : Fin s.rank → ℕ} {inb : ∀ a, off a + s.size a ≤ s.size a}
    {w : s.Idx → Elt F e}
    {hx : (base.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ c.2) α} {X : s.Idx → Elt F e} :
    (owns c base fullShare X : sProp 𝕄)
      ⊢ iprop((owns c base fullShare w -∗ wp frame (wpE defs 𝒱 c bd) E (k ⟨⟩) Q)
        -∗ wp frame (wpE defs 𝒱 c bd) E (.op (.store base (Rect.unit (s := s) off s.size inb) w Finset.univ hx hm) k) Q) :=
  wp_storeR (defs := defs) 𝒱 c bd E (Q := Q) (base := base) (r := Rect.unit (s := s) off s.size inb) (X := X) (Y := w)
    (fun x => congrArg w (emb_full inb x))
    (fun j hj => absurd (by rw [← emb_full inb j, ← Rect.map_emb_univ]; exact Finset.mem_map_of_mem _ (Finset.mem_univ (α := s.Idx) j)) hj)

end Cert.Mem
-- ==== Proof.RegDat.lean ====
/-
  Proof data of a TensorCore call: its arrays at a valuation, each input left in place by the body.
-/
module

public import proofs.«01_k».proof.Proof.Region
public import proofs.«01_k».proof.Proof.Whole
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value

@[expose] public section

noncomputable section

namespace Cert.Topk

open Idealize.SL Idealize.ShloMosaic Cert.KernelIdeal Cert.KernelIdeal.Gen
open Idealize.ShloMosaic.SparseCore.Cfg (HIx)
open Idealize.ShloMosaic.TcCoe
open Idealize.ShloMosaic.Pipeline (Dat BodyObligation)

variable {F : FTy → Type} [FloatOps F]

/-- What window `w` of pipeline `p` reads at point `t`, off its array at `V`. -/
def iblk (p : Fin 6) (V : Valuation τ sig (Elt F)) (w : Fin (cfgs p).W) (t : Fin (cfgs p).N) :
    (((cfgs p).win w).xblock ((cfgs p).grid.coords t)).Idx → Elt F ((cfgs p).win w).elt :=
  (((cfgs p).win w).blk t).view.read (Elt F) (V (Proc.devRef .tc (Pipeline.arrRef (cfgs p).spec w)))

def mkDat (p : Fin 6) (n : ℕ) (c : Dev nD) (V : Valuation τ sig (Elt F))
    (after : (w : Fin (cfgs p).W) → (t : Fin (cfgs p).N) → ((cfgs p).win w).block.Idx → Elt F ((cfgs p).win w).elt) :
    Dat τ (Elt F) (HIx 4) ℕ UU ℕ (cfgs p) c where
  A w := V (Proc.devRef .tc (Pipeline.arrRef (cfgs p).spec w))
  after := after
  Φ _ := Pipeline.scopedRest (cfgs p).spec c
  q w := Pipeline.shareOf (cfgs p).spec w
  owed _ := (K (F := F)).Otc c n
  recorded _ := madeBy (F := F) c n

end Cert.Topk
-- ==== Proof.Prep.lean ====
/-
  The first TensorCore call: the projection of the embeddings, in two formats.
-/
module

public import proofs.«01_k».proof.Proof.RegDat

@[expose] public section

noncomputable section

namespace Cert.Topk

open Idealize.SL Idealize.ShloMosaic Cert.KernelIdeal Cert.KernelIdeal.Gen
open Idealize.ShloMosaic.SparseCore.Cfg (HIx)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds
open Idealize.ShloMosaic.TcCoe
open Idealize.ShloMosaic.Pipeline (Dat BodyObligation)

variable {F : FTy → Type} [FloatOps F]

local notation "𝕄" => MM F

/-- The body's run. -/
theorem run0 (c : Dev nD) (i : grid0.Coords) (M1 : Memref sig .tc .vmem S1x2048x1024 .f32) (h1 : M1.IsWhole) (M2 : Memref sig .tc .vmem S1024x512 .bf16) (h2 : M2.IsWhole) (M3 : Memref sig .tc .vmem S1x512 .f32) (h3 : M3.IsWhole) (M4 : Memref sig .tc .vmem S1x2048x512 .f32) (h4 : M4.IsWhole) (M5 : Memref sig .tc .vmem S1x2048x512 .bf16) (h5 : M5.IsWhole)
    (X1 : S1x2048x1024.Idx → Elt F .f32) (X2 : S1024x512.Idx → Elt F .bf16) (X3 : S1x512.Idx → Elt F .f32) (X4 : S1x2048x512.Idx → Elt F .f32) (X5 : S1x2048x512.Idx → Elt F .bf16) (Q : PUnit → sProp 𝕄) :
    (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5
        ∗ ((owns (c : Thread nD τ) M1 fullShare X1 ∗ owns (c : Thread nD τ) M2 fullShare X2 ∗ owns (c : Thread nD τ) M3 fullShare X3 ∗ owns (c : Thread nD τ) M4 fullShare (k0_pay2 X1 X2 X3) ∗ owns (c : Thread nD τ) M5 fullShare (k0_pay3 X1 X2 X3)) -∗ Q ⟨⟩)) : sProp 𝕄)
      ⊢ wp frame (wpE (defs₀ (F := F)) 𝒱₀ (c : Thread nD τ) none) Set.univ (cc0__prep_kernel i M1 h1 M2 h2 M3 h3 M4 h4 M5 h5) Q := by
  rw [cc0__prep_kernel_eq_skeleton]
  unfold cc0__prep_kernel_skel
  simp only [Prog.bind_lift, Prog.bind_op, Prog.bind_ret, Prog.pure_eq_ret]
  iintro ⟨H1, H2, H3, H4, H5, Hk⟩
  iapply (Mem.wp_loadW (defs := defs₀ (F := F)) 𝒱₀ (c : Thread nD τ) none Set.univ (Q := Q) (base := M1) (X := X1)) $$ H1
  iintro H1
  iapply (Mem.wp_loadW (defs := defs₀ (F := F)) 𝒱₀ (c : Thread nD τ) none Set.univ (Q := Q) (base := M2) (X := X2)) $$ H2
  iintro H2
  iapply (Mem.wp_loadW (defs := defs₀ (F := F)) 𝒱₀ (c : Thread nD τ) none Set.univ (Q := Q) (base := M3) (X := X3)) $$ H3
  iintro H3
  iapply (Mem.wp_loadW (defs := defs₀ (F := F)) 𝒱₀ (c : Thread nD τ) none Set.univ (Q := Q) (base := M4) (X := X4)) $$ H4
  iintro H4
  iapply (Mem.wp_storeW (defs := defs₀ (F := F)) 𝒱₀ (c : Thread nD τ) none Set.univ (Q := Q) (base := M4) (X := X4)) $$ H4
  iintro H4
  iapply (Mem.wp_loadW (defs := defs₀ (F := F)) 𝒱₀ (c : Thread nD τ) none Set.univ (Q := Q) (base := M5) (X := X5)) $$ H5
  iintro H5
  iapply (Mem.wp_storeW (defs := defs₀ (F := F)) 𝒱₀ (c : Thread nD τ) none Set.univ (Q := Q) (base := M5) (X := X5)) $$ H5
  iintro H5
  rw [wp_ret]
  imodintro
  iapply Hk
  isplitl [H1]; · iexact H1
  isplitl [H2]; · iexact H2
  isplitl [H3]; · iexact H3
  isplitl [H4]; · iexact H4
  iexact H5

/-- The proof data of the call, entered at `V`. -/
def dat0 (n : ℕ) (V : Valuation τ sig (Elt F)) (c : Dev nD) : Dat τ (Elt F) (HIx 4) ℕ UU ℕ cfg0 c :=
  mkDat 0 n c V fun w t => match w with
    | ⟨0, _⟩ => iblk 0 V 0 t
    | ⟨1, _⟩ => iblk 0 V 1 t
    | ⟨2, _⟩ => iblk 0 V 2 t
    | ⟨3, _⟩ => k0_pay2 (iblk 0 V 0 t) (iblk 0 V 1 t) (iblk 0 V 2 t)
    | ⟨4, _⟩ => k0_pay3 (iblk 0 V 0 t) (iblk 0 V 1 t) (iblk 0 V 2 t)

theorem before0_0 (n : ℕ) (V : Valuation τ sig (Elt F)) (c : Dev nD) (t) (d) : (dat0 n V c).before 0 t d = iblk 0 V 0 t :=
  ((dat0 n V c).before_in_eq_fetched 0 rfl (fun _ => rfl) (fun _ _ _ => rfl) (fun _ => rfl) t d).trans rfl
theorem before0_1 (n : ℕ) (V : Valuation τ sig (Elt F)) (c : Dev nD) (t) (d) : (dat0 n V c).before 1 t d = iblk 0 V 1 t :=
  ((dat0 n V c).before_in_eq_fetched 1 rfl (fun _ => rfl) (fun _ _ _ => rfl) (fun _ => rfl) t d).trans rfl
theorem before0_2 (n : ℕ) (V : Valuation τ sig (Elt F)) (c : Dev nD) (t) (d) : (dat0 n V c).before 2 t d = iblk 0 V 2 t :=
  ((dat0 n V c).before_in_eq_fetched 2 rfl (fun _ => rfl) (fun _ _ _ => rfl) (fun _ => rfl) t d).trans rfl

set_option maxHeartbeats 4000000 in
theorem body0 (n : ℕ) (V : Valuation τ sig (Elt F)) (c : Dev nD) :
    BodyObligation (dat0 n V c) (defs₀ (F := F)) 𝒱₀ none Set.univ := fun t => by
  rw [bigSep_W0, bigSep_W0]
  show (iprop((dat0 n V c).Φ t.castSucc ∗ (dat0 n V c).owesAt none t.castSucc
      ∗ (∃ d, owns (c : Thread nD τ) (st0_0 t) fullShare ((dat0 n V c).before 0 t d)) ∗ (∃ d, owns (c : Thread nD τ) (st0_1 t) fullShare ((dat0 n V c).before 1 t d)) ∗ (∃ d, owns (c : Thread nD τ) (st0_2 t) fullShare ((dat0 n V c).before 2 t d)) ∗ (∃ d, owns (c : Thread nD τ) (st0_3 t) fullShare ((dat0 n V c).before 3 t d)) ∗ (∃ d, owns (c : Thread nD τ) (st0_4 t) fullShare ((dat0 n V c).before 4 t d))) : sProp 𝕄)
    ⊢ wp frame (wpE (defs₀ (F := F)) 𝒱₀ (c : Thread nD τ) none) Set.univ (bodyAt0 t) fun _ =>
        iprop((dat0 n V c).Φ t.castSucc ∗ (dat0 n V c).owesAt none t.castSucc
          ∗ owns (c : Thread nD τ) (st0_0 t) fullShare (iblk 0 V 0 t) ∗ owns (c : Thread nD τ) (st0_1 t) fullShare (iblk 0 V 1 t) ∗ owns (c : Thread nD τ) (st0_2 t) fullShare (iblk 0 V 2 t) ∗ owns (c : Thread nD τ) (st0_3 t) fullShare (k0_pay2 (iblk 0 V 0 t) (iblk 0 V 1 t) (iblk 0 V 2 t)) ∗ owns (c : Thread nD τ) (st0_4 t) fullShare (k0_pay3 (iblk 0 V 0 t) (iblk 0 V 1 t) (iblk 0 V 2 t)))
  iintro ⟨HΦ, HO, ⟨%d1, H1⟩, ⟨%d2, H2⟩, ⟨%d3, H3⟩, ⟨%d4, H4⟩, ⟨%d5, H5⟩⟩
  rw [before0_0, before0_1, before0_2]
  iapply (run0 c)
  isplitl [H1]; · iexact H1
  isplitl [H2]; · iexact H2
  isplitl [H3]; · iexact H3
  isplitl [H4]; · iexact H4
  isplitl [H5]; · iexact H5
  iintro H
  isplitl [HΦ]; · iexact HΦ
  isplitl [HO]; · iexact HO
  iexact H

/-- The buffers after the call. -/
def val0 (n : ℕ) (V : Valuation τ sig (Elt F)) (c : Dev nD) : Valuation τ sig (Elt F) :=
  Function.update (Function.update V (Proc.devRef .tc main_v8_0 : DevRef τ sig) ((dat0 n V c).arrAt 3 cfg0.N)) (Proc.devRef .tc main_v8_1 : DevRef τ sig) ((dat0 n V c).arrAt 4 cfg0.N)

theorem val0_off (n : ℕ) (V : Valuation τ sig (Elt F)) (c : Dev nD) (b : Ref sig .tc) (h0 : b ≠ main_v8_0) (h1 : b ≠ main_v8_1) :
    val0 n V c (Proc.devRef .tc b) = V (Proc.devRef .tc b) := by
  unfold val0
  rw [Function.update_of_ne (fun e => h1 (Proc.devRef_injective _ e))]
  rw [Function.update_of_ne (fun e => h0 (Proc.devRef_injective _ e))]

theorem val0_at0 (n : ℕ) (V : Valuation τ sig (Elt F)) (c : Dev nD) :
    val0 n V c (Proc.devRef .tc main_v8_0) = (dat0 n V c).arrAt 3 cfg0.N := by
  unfold val0
  rw [Function.update_of_ne (fun e => absurd (Proc.devRef_injective _ e) (by decide))]
  rw [Function.update_self]

theorem val0_at1 (n : ℕ) (V : Valuation τ sig (Elt F)) (c : Dev nD) :
    val0 n V c (Proc.devRef .tc main_v8_1) = (dat0 n V c).arrAt 4 cfg0.N := by
  unfold val0
  rw [Function.update_self]

def pd0 (n : ℕ) (V : Dev nD → Valuation τ sig (Elt F)) : Dats F := fun p => match p with
  | ⟨0, _⟩ => fun c => dat0 n (V c) c
  | ⟨1, _⟩ => fun c => junkDat c
  | ⟨2, _⟩ => fun c => junkDat c
  | ⟨3, _⟩ => fun c => junkDat c
  | ⟨4, _⟩ => fun c => junkDat c
  | ⟨5, _⟩ => fun c => junkDat c

set_option maxHeartbeats 1000000 in
theorem fin0 (n : ℕ) (V : Valuation τ sig (Elt F)) (c : Dev nD) : ∀ w : Fin cfg0.W,
    (dat0 n V c).arrAt w cfg0.N = val0 n V c (Proc.devRef .tc (Pipeline.arrRef cfg0.spec w))
  | ⟨0, _⟩ => ((dat0 n V c).arrAt_in 0 rfl _).trans (val0_off n V c main_arg0 (by decide) (by decide)).symm
  | ⟨1, _⟩ => ((dat0 n V c).arrAt_in 1 rfl _).trans (val0_off n V c main_v6 (by decide) (by decide)).symm
  | ⟨2, _⟩ => ((dat0 n V c).arrAt_in 2 rfl _).trans (val0_off n V c main_v7 (by decide) (by decide)).symm
  | ⟨3, _⟩ => (val0_at0 n V c).symm
  | ⟨4, _⟩ => (val0_at1 n V c).symm

set_option maxHeartbeats 1000000 in
/-- The call, run before selection call `n`. -/
theorem step0 (n : ℕ) (V : Dev nD → Valuation τ sig (Elt F)) (d : Dev nD) (Q : PUnit → sProp 𝕄) :
    iprop(levAts (K (F := F)).L (K (F := F)).lev ∗ boundary (d.tc : Thread nD τ) ∗ StableHlo.held (d.tc : Thread nD τ) (Pipeline.ucRefs τ sig) (V d)
        ∗ (K (F := F)).tcSt EH d n
        ∗ Pipeline.cellsGhost (Pipeline.pin (pcfgs (F := F)) adm) EP 0 d ∗ Pipeline.toksInit (Pipeline.pin (pcfgs (F := F)) adm) EP 0 d
        ∗ ((boundary (d.tc : Thread nD τ) ∗ StableHlo.held (d.tc : Thread nD τ) (Pipeline.ucRefs τ sig) (val0 n (V d) d) ∗ (K (F := F)).tcSt EH d n) -∗ Q ⟨⟩))
      ⊢ wp frame (wpE ((K (F := F)).defs D) 𝒱 (d.tc : Thread nD τ) none) Set.univ
          (Prog.lift (.customCall (SparseCore.inner (Pipeline.entry 0)) ())) Q := by
  refine region_step 0 launch0.to₀ (pd0 n V) n V (fun c => val0 n (V c) c) (fun c => body0 n (V c) c) (fun _ _ => rfl) (fun _ _ => rfl)
    (fun _ _ _ => rfl) ?_ (fun _ _ => rfl) (fun c w => fin0 n (V c) c w)
    (fun c b hb => val0_off n (V c) c b (fun e => hb (Finset.mem_image.mpr ⟨3, Finset.mem_univ _, e.symm⟩)) (fun e => hb (Finset.mem_image.mpr ⟨4, Finset.mem_univ _, e.symm⟩))) d Q
  intro c t
  have h : (dat0 n (V c) c).Φ t = Pipeline.scopedRest (cfgs 0).spec c := rfl
  exact h

end Cert.Topk
-- ==== Proof.Dist.lean ====
/-
  The second TensorCore call: the distances between the rows of each batch.
-/
module

public import proofs.«01_k».proof.Proof.RegDat

@[expose] public section

noncomputable section

namespace Cert.Topk

open Idealize.SL Idealize.ShloMosaic Cert.KernelIdeal Cert.KernelIdeal.Gen
open Idealize.ShloMosaic.SparseCore.Cfg (HIx)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds
open Idealize.ShloMosaic.TcCoe
open Idealize.ShloMosaic.Pipeline (Dat BodyObligation)

variable {F : FTy → Type} [FloatOps F]

local notation "𝕄" => MM F

/-- The body's run. -/
theorem run1 (c : Dev nD) (i : grid1.Coords) (M2 : Memref sig .tc .vmem S1x2048x1024 .bf16) (h2 : M2.IsWhole) (M3 : Memref sig .tc .vmem S1x512x1024 .bf16) (h3 : M3.IsWhole) (M4 : Memref sig .tc .vmem S1x512x2048 .f32) (h4 : M4.IsWhole)
    (X2 : S1x2048x1024.Idx → Elt F .bf16) (X3 : S1x512x1024.Idx → Elt F .bf16) (X4 : S1x512x2048.Idx → Elt F .f32) (Q : PUnit → sProp 𝕄) :
    (iprop(owns (c : Thread nD τ) M2 fullShare X2 ∗ owns (c : Thread nD τ) M3 fullShare X3 ∗ owns (c : Thread nD τ) M4 fullShare X4
        ∗ ((owns (c : Thread nD τ) M2 fullShare X2 ∗ owns (c : Thread nD τ) M3 fullShare X3 ∗ owns (c : Thread nD τ) M4 fullShare (k1_pay1 i X3 X2)) -∗ Q ⟨⟩)) : sProp 𝕄)
      ⊢ wp frame (wpE (defs₀ (F := F)) 𝒱₀ (c : Thread nD τ) none) Set.univ (cc1__dist_kernel i M2 h2 M3 h3 M4 h4) Q := by
  rw [cc1__dist_kernel_eq_skeleton]
  unfold cc1__dist_kernel_skel
  simp only [Prog.bind_lift, Prog.bind_op, Prog.bind_ret, Prog.pure_eq_ret]
  iintro ⟨H2, H3, H4, Hk⟩
  iapply (Mem.wp_loadW (defs := defs₀ (F := F)) 𝒱₀ (c : Thread nD τ) none Set.univ (Q := Q) (base := M3) (X := X3)) $$ H3
  iintro H3
  iapply (Mem.wp_loadW (defs := defs₀ (F := F)) 𝒱₀ (c : Thread nD τ) none Set.univ (Q := Q) (base := M2) (X := X2)) $$ H2
  iintro H2
  iapply (Mem.wp_loadW (defs := defs₀ (F := F)) 𝒱₀ (c : Thread nD τ) none Set.univ (Q := Q) (base := M4) (X := X4)) $$ H4
  iintro H4
  iapply (Mem.wp_storeW (defs := defs₀ (F := F)) 𝒱₀ (c : Thread nD τ) none Set.univ (Q := Q) (base := M4) (X := X4)) $$ H4
  iintro H4
  rw [wp_ret]
  imodintro
  iapply Hk
  isplitl [H2]; · iexact H2
  isplitl [H3]; · iexact H3
  iexact H4

/-- The proof data of the call, entered at `V`. -/
def dat1 (n : ℕ) (V : Valuation τ sig (Elt F)) (c : Dev nD) : Dat τ (Elt F) (HIx 4) ℕ UU ℕ cfg1 c :=
  mkDat 1 n c V fun w t => match w with
    | ⟨0, _⟩ => iblk 1 V 0 t
    | ⟨1, _⟩ => iblk 1 V 1 t
    | ⟨2, _⟩ => k1_pay1 (grid1.coords t) (iblk 1 V 1 t) (iblk 1 V 0 t)

theorem before1_0 (n : ℕ) (V : Valuation τ sig (Elt F)) (c : Dev nD) (t) (d) : (dat1 n V c).before 0 t d = iblk 1 V 0 t :=
  ((dat1 n V c).before_in_eq_fetched 0 rfl (fun _ => rfl) (fun _ _ _ => rfl) (fun _ => rfl) t d).trans rfl
theorem before1_1 (n : ℕ) (V : Valuation τ sig (Elt F)) (c : Dev nD) (t) (d) : (dat1 n V c).before 1 t d = iblk 1 V 1 t :=
  ((dat1 n V c).before_in_eq_fetched 1 rfl (fun _ => rfl) (fun _ _ _ => rfl) (fun _ => rfl) t d).trans rfl

set_option maxHeartbeats 4000000 in
theorem body1 (n : ℕ) (V : Valuation τ sig (Elt F)) (c : Dev nD) :
    BodyObligation (dat1 n V c) (defs₀ (F := F)) 𝒱₀ none Set.univ := fun t => by
  rw [bigSep_W1, bigSep_W1]
  show (iprop((dat1 n V c).Φ t.castSucc ∗ (dat1 n V c).owesAt none t.castSucc
      ∗ (∃ d, owns (c : Thread nD τ) (st1_0 t) fullShare ((dat1 n V c).before 0 t d)) ∗ (∃ d, owns (c : Thread nD τ) (st1_1 t) fullShare ((dat1 n V c).before 1 t d)) ∗ (∃ d, owns (c : Thread nD τ) (st1_2 t) fullShare ((dat1 n V c).before 2 t d))) : sProp 𝕄)
    ⊢ wp frame (wpE (defs₀ (F := F)) 𝒱₀ (c : Thread nD τ) none) Set.univ (bodyAt1 t) fun _ =>
        iprop((dat1 n V c).Φ t.castSucc ∗ (dat1 n V c).owesAt none t.castSucc
          ∗ owns (c : Thread nD τ) (st1_0 t) fullShare (iblk 1 V 0 t) ∗ owns (c : Thread nD τ) (st1_1 t) fullShare (iblk 1 V 1 t) ∗ owns (c : Thread nD τ) (st1_2 t) fullShare (k1_pay1 (grid1.coords t) (iblk 1 V 1 t) (iblk 1 V 0 t)))
  iintro ⟨HΦ, HO, ⟨%d2, H2⟩, ⟨%d3, H3⟩, ⟨%d4, H4⟩⟩
  rw [before1_0, before1_1]
  iapply (run1 c)
  isplitl [H2]; · iexact H2
  isplitl [H3]; · iexact H3
  isplitl [H4]; · iexact H4
  iintro H
  isplitl [HΦ]; · iexact HΦ
  isplitl [HO]; · iexact HO
  iexact H

/-- The buffers after the call. -/
def val1 (n : ℕ) (V : Valuation τ sig (Elt F)) (c : Dev nD) : Valuation τ sig (Elt F) :=
  Function.update V (Proc.devRef .tc main_v9 : DevRef τ sig) ((dat1 n V c).arrAt 2 cfg1.N)

theorem val1_off (n : ℕ) (V : Valuation τ sig (Elt F)) (c : Dev nD) (b : Ref sig .tc) (h0 : b ≠ main_v9) :
    val1 n V c (Proc.devRef .tc b) = V (Proc.devRef .tc b) := by
  unfold val1
  rw [Function.update_of_ne (fun e => h0 (Proc.devRef_injective _ e))]

theorem val1_at0 (n : ℕ) (V : Valuation τ sig (Elt F)) (c : Dev nD) :
    val1 n V c (Proc.devRef .tc main_v9) = (dat1 n V c).arrAt 2 cfg1.N := by
  unfold val1
  rw [Function.update_self]

def pd1 (n : ℕ) (V : Dev nD → Valuation τ sig (Elt F)) : Dats F := fun p => match p with
  | ⟨0, _⟩ => fun c => junkDat c
  | ⟨1, _⟩ => fun c => dat1 n (V c) c
  | ⟨2, _⟩ => fun c => junkDat c
  | ⟨3, _⟩ => fun c => junkDat c
  | ⟨4, _⟩ => fun c => junkDat c
  | ⟨5, _⟩ => fun c => junkDat c

set_option maxHeartbeats 1000000 in
theorem fin1 (n : ℕ) (V : Valuation τ sig (Elt F)) (c : Dev nD) : ∀ w : Fin cfg1.W,
    (dat1 n V c).arrAt w cfg1.N = val1 n V c (Proc.devRef .tc (Pipeline.arrRef cfg1.spec w))
  | ⟨0, _⟩ => ((dat1 n V c).arrAt_in 0 rfl _).trans (val1_off n V c main_v5 (by decide)).symm
  | ⟨1, _⟩ => ((dat1 n V c).arrAt_in 1 rfl _).trans (val1_off n V c main_v5 (by decide)).symm
  | ⟨2, _⟩ => (val1_at0 n V c).symm

set_option maxHeartbeats 1000000 in
/-- The call, run before selection call `n`. -/
theorem step1 (n : ℕ) (V : Dev nD → Valuation τ sig (Elt F)) (d : Dev nD) (Q : PUnit → sProp 𝕄) :
    iprop(levAts (K (F := F)).L (K (F := F)).lev ∗ boundary (d.tc : Thread nD τ) ∗ StableHlo.held (d.tc : Thread nD τ) (Pipeline.ucRefs τ sig) (V d)
        ∗ (K (F := F)).tcSt EH d n
        ∗ Pipeline.cellsGhost (Pipeline.pin (pcfgs (F := F)) adm) EP 1 d ∗ Pipeline.toksInit (Pipeline.pin (pcfgs (F := F)) adm) EP 1 d
        ∗ ((boundary (d.tc : Thread nD τ) ∗ StableHlo.held (d.tc : Thread nD τ) (Pipeline.ucRefs τ sig) (val1 n (V d) d) ∗ (K (F := F)).tcSt EH d n) -∗ Q ⟨⟩))
      ⊢ wp frame (wpE ((K (F := F)).defs D) 𝒱 (d.tc : Thread nD τ) none) Set.univ
          (Prog.lift (.customCall (SparseCore.inner (Pipeline.entry 1)) ())) Q := by
  refine region_step 1 launch₀1 (pd1 n V) n V (fun c => val1 n (V c) c) (fun c => body1 n (V c) c) (fun _ _ => rfl) (fun _ _ => rfl)
    (fun _ _ _ => rfl) ?_ (fun _ _ => rfl) (fun c w => fin1 n (V c) c w)
    (fun c b hb => val1_off n (V c) c b (fun e => hb (Finset.mem_image.mpr ⟨2, Finset.mem_univ _, e.symm⟩))) d Q
  intro c t
  have h : (dat1 n (V c) c).Φ t = Pipeline.scopedRest (cfgs 1).spec c := rfl
  exact h

end Cert.Topk
-- ==== Proof.Tail3.lean ====
/-
  The TensorCore call that finishes batch 0.
-/
module

public import proofs.«01_k».proof.Proof.RegDat

@[expose] public section

noncomputable section

namespace Cert.Topk

open Idealize.SL Idealize.ShloMosaic Cert.KernelIdeal Cert.KernelIdeal.Gen
open Idealize.ShloMosaic.SparseCore.Cfg (HIx)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds
open Idealize.ShloMosaic.TcCoe
open Idealize.ShloMosaic.Pipeline (Dat BodyObligation)

variable {F : FTy → Type} [FloatOps F]

local notation "𝕄" => MM F

/-- The matrix of weights after the first part of the columns. -/
def acc3 (X2 : S1x256x32.Idx → Elt F .f32) (X3 : S1x256x32.Idx → Elt F .i32) : FVec F S256x2048 .f32 :=
  k3_pay10 (k3_pay1 X3) (iota .tc S256x2048 32 [1] iota_S256x2048_d1_w32) (k3_pay2 X2) (k3_pay8 (k3_pay1 X3) (iota .tc S256x2048 32 [1] iota_S256x2048_d1_w32) (k3_pay2 X2) (k3_pay5 (k3_pay1 X3) (iota .tc S256x2048 32 [1] iota_S256x2048_d1_w32) (k3_pay2 X2) (k3_pay3 X2 X3) (k3_pay4 X3)) (k3_pay6 (k3_pay1 X3) (iota .tc S256x2048 32 [1] iota_S256x2048_d1_w32)) (k3_pay7 (k3_pay2 X2))) (k3_pay9 (k3_pay1 X3))

/-- What the body stores, from what it loads. -/
def tail3 (X2 : S1x256x32.Idx → Elt F .f32) (X3 : S1x256x32.Idx → Elt F .i32) (X4 : S1x2048x512.Idx → Elt F .bf16) (X5 : S1x256x512.Idx → Elt F .f32) (X6 : S512x1024.Idx → Elt F .bf16) (X7 : S1x1024.Idx → Elt F .f32) (X8 : S1024x512.Idx → Elt F .bf16) (X9 : S1x512.Idx → Elt F .f32) (X10 : S1x512.Idx → Elt F .f32) (X11 : S1x512.Idx → Elt F .f32) (X12 : S512x512.Idx → Elt F .bf16) (X13 : S1x512.Idx → Elt F .f32) (X14 : S512x512.Idx → Elt F .bf16) (X15 : S1x512.Idx → Elt F .f32) : S1x256x512.Idx → Elt F .f32 :=
  k3_pay15
    (k3_pay13 (k3_pay1 X3) (iota .tc S256x2048 32 [1] iota_S256x2048_d1_w32) (k3_pay2 X2) (acc3 X2 X3) (k3_pay11 (k3_pay1 X3) (iota .tc S256x2048 32 [1] iota_S256x2048_d1_w32)) (k3_pay12 (k3_pay2 X2)) X4 X5 X6 X7 X8 X9)
    (k3_pay14 (k3_pay1 X3) (iota .tc S256x2048 32 [1] iota_S256x2048_d1_w32) (k3_pay2 X2) (acc3 X2 X3) (k3_pay11 (k3_pay1 X3) (iota .tc S256x2048 32 [1] iota_S256x2048_d1_w32)) (k3_pay12 (k3_pay2 X2)) X4 X5 X6 X7 X8 X9)
    X10 X11 X12 X13 X14 X15

/-- The body's run. -/
theorem run3 (c : Dev nD) (i : grid3.Coords) (M2 : Memref sig .tc .vmem S1x256x32 .f32) (h2 : M2.IsWhole) (M3 : Memref sig .tc .vmem S1x256x32 .i32) (h3 : M3.IsWhole) (M4 : Memref sig .tc .vmem S1x2048x512 .bf16) (h4 : M4.IsWhole) (M5 : Memref sig .tc .vmem S1x256x512 .f32) (h5 : M5.IsWhole) (M6 : Memref sig .tc .vmem S512x1024 .bf16) (h6 : M6.IsWhole) (M7 : Memref sig .tc .vmem S1x1024 .f32) (h7 : M7.IsWhole) (M8 : Memref sig .tc .vmem S1024x512 .bf16) (h8 : M8.IsWhole) (M9 : Memref sig .tc .vmem S1x512 .f32) (h9 : M9.IsWhole) (M10 : Memref sig .tc .vmem S1x512 .f32) (h10 : M10.IsWhole) (M11 : Memref sig .tc .vmem S1x512 .f32) (h11 : M11.IsWhole) (M12 : Memref sig .tc .vmem S512x512 .bf16) (h12 : M12.IsWhole) (M13 : Memref sig .tc .vmem S1x512 .f32) (h13 : M13.IsWhole) (M14 : Memref sig .tc .vmem S512x512 .bf16) (h14 : M14.IsWhole) (M15 : Memref sig .tc .vmem S1x512 .f32) (h15 : M15.IsWhole) (M16 : Memref sig .tc .vmem S1x256x512 .f32) (h16 : M16.IsWhole)
    (X2 : S1x256x32.Idx → Elt F .f32) (X3 : S1x256x32.Idx → Elt F .i32) (X4 : S1x2048x512.Idx → Elt F .bf16) (X5 : S1x256x512.Idx → Elt F .f32) (X6 : S512x1024.Idx → Elt F .bf16) (X7 : S1x1024.Idx → Elt F .f32) (X8 : S1024x512.Idx → Elt F .bf16) (X9 : S1x512.Idx → Elt F .f32) (X10 : S1x512.Idx → Elt F .f32) (X11 : S1x512.Idx → Elt F .f32) (X12 : S512x512.Idx → Elt F .bf16) (X13 : S1x512.Idx → Elt F .f32) (X14 : S512x512.Idx → Elt F .bf16) (X15 : S1x512.Idx → Elt F .f32) (X16 : S1x256x512.Idx → Elt F .f32) (Q : PUnit → sProp 𝕄) :
    (iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16
        ∗ ((owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare (tail3 X2 X3 X4 X5 X6 X7 X8 X9 X10 X11 X12 X13 X14 X15)) -∗ Q ⟨⟩)) : sProp 𝕄)
      ⊢ wp frame (wpE (defs₀ (F := F)) 𝒱₀ (c : Thread nD τ) none) Set.univ (cc3__tail_kernel i M2 h2 M3 h3 M4 h4 M5 h5 M6 h6 M7 h7 M8 h8 M9 h9 M10 h10 M11 h11 M12 h12 M13 h13 M14 h14 M15 h15 M16 h16) Q := by
  unfold tail3 acc3
  rw [cc3__tail_kernel_eq_skeleton]
  unfold cc3__tail_kernel_skel
  rw [k3_part1_eq_skeleton, k3_part2_eq_skeleton, k3_part3_eq_skeleton, k3_part4_eq_skeleton, k3_part5_eq_skeleton, k3_part6_eq_skeleton]
  unfold k3_part1_skel k3_part2_skel k3_part3_skel k3_part4_skel k3_part5_skel k3_part6_skel
  simp only [Prog.bind_lift, Prog.bind_op, Prog.bind_ret, Prog.pure_eq_ret]
  iintro ⟨H2, H3, H4, H5, H6, H7, H8, H9, H10, H11, H12, H13, H14, H15, H16, Hk⟩
  iapply (Mem.wp_loadW (defs := defs₀ (F := F)) 𝒱₀ (c : Thread nD τ) none Set.univ (Q := Q) (base := M2) (X := X2)) $$ H2
  iintro H2
  iapply (Mem.wp_loadW (defs := defs₀ (F := F)) 𝒱₀ (c : Thread nD τ) none Set.univ (Q := Q) (base := M3) (X := X3)) $$ H3
  iintro H3
  iapply (Mem.wp_loadW (defs := defs₀ (F := F)) 𝒱₀ (c : Thread nD τ) none Set.univ (Q := Q) (base := M4) (X := X4)) $$ H4
  iintro H4
  iapply (Mem.wp_loadW (defs := defs₀ (F := F)) 𝒱₀ (c : Thread nD τ) none Set.univ (Q := Q) (base := M5) (X := X5)) $$ H5
  iintro H5
  iapply (Mem.wp_loadW (defs := defs₀ (F := F)) 𝒱₀ (c : Thread nD τ) none Set.univ (Q := Q) (base := M6) (X := X6)) $$ H6
  iintro H6
  iapply (Mem.wp_loadW (defs := defs₀ (F := F)) 𝒱₀ (c : Thread nD τ) none Set.univ (Q := Q) (base := M7) (X := X7)) $$ H7
  iintro H7
  iapply (Mem.wp_loadW (defs := defs₀ (F := F)) 𝒱₀ (c : Thread nD τ) none Set.univ (Q := Q) (base := M8) (X := X8)) $$ H8
  iintro H8
  iapply (Mem.wp_loadW (defs := defs₀ (F := F)) 𝒱₀ (c : Thread nD τ) none Set.univ (Q := Q) (base := M9) (X := X9)) $$ H9
  iintro H9
  iapply (Mem.wp_loadW (defs := defs₀ (F := F)) 𝒱₀ (c : Thread nD τ) none Set.univ (Q := Q) (base := M10) (X := X10)) $$ H10
  iintro H10
  iapply (Mem.wp_loadW (defs := defs₀ (F := F)) 𝒱₀ (c : Thread nD τ) none Set.univ (Q := Q) (base := M11) (X := X11)) $$ H11
  iintro H11
  iapply (Mem.wp_loadW (defs := defs₀ (F := F)) 𝒱₀ (c : Thread nD τ) none Set.univ (Q := Q) (base := M12) (X := X12)) $$ H12
  iintro H12
  iapply (Mem.wp_loadW (defs := defs₀ (F := F)) 𝒱₀ (c : Thread nD τ) none Set.univ (Q := Q) (base := M13) (X := X13)) $$ H13
  iintro H13
  iapply (Mem.wp_loadW (defs := defs₀ (F := F)) 𝒱₀ (c : Thread nD τ) none Set.univ (Q := Q) (base := M14) (X := X14)) $$ H14
  iintro H14
  iapply (Mem.wp_loadW (defs := defs₀ (F := F)) 𝒱₀ (c : Thread nD τ) none Set.univ (Q := Q) (base := M15) (X := X15)) $$ H15
  iintro H15
  iapply (Mem.wp_loadW (defs := defs₀ (F := F)) 𝒱₀ (c : Thread nD τ) none Set.univ (Q := Q) (base := M16) (X := X16)) $$ H16
  iintro H16
  iapply (Mem.wp_storeW (defs := defs₀ (F := F)) 𝒱₀ (c : Thread nD τ) none Set.univ (Q := Q) (base := M16) (X := X16)) $$ H16
  iintro H16
  rw [wp_ret]
  imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The proof data of the call, entered at `V`. -/
def dat3 (n : ℕ) (V : Valuation τ sig (Elt F)) (c : Dev nD) : Dat τ (Elt F) (HIx 4) ℕ UU ℕ cfg3 c :=
  mkDat 2 n c V fun w t => match w with
    | ⟨0, _⟩ => iblk 2 V 0 t
    | ⟨1, _⟩ => iblk 2 V 1 t
    | ⟨2, _⟩ => iblk 2 V 2 t
    | ⟨3, _⟩ => iblk 2 V 3 t
    | ⟨4, _⟩ => iblk 2 V 4 t
    | ⟨5, _⟩ => iblk 2 V 5 t
    | ⟨6, _⟩ => iblk 2 V 6 t
    | ⟨7, _⟩ => iblk 2 V 7 t
    | ⟨8, _⟩ => iblk 2 V 8 t
    | ⟨9, _⟩ => iblk 2 V 9 t
    | ⟨10, _⟩ => iblk 2 V 10 t
    | ⟨11, _⟩ => iblk 2 V 11 t
    | ⟨12, _⟩ => iblk 2 V 12 t
    | ⟨13, _⟩ => iblk 2 V 13 t
    | ⟨14, _⟩ => tail3 (iblk 2 V 0 t) (iblk 2 V 1 t) (iblk 2 V 2 t) (iblk 2 V 3 t) (iblk 2 V 4 t) (iblk 2 V 5 t) (iblk 2 V 6 t) (iblk 2 V 7 t) (iblk 2 V 8 t) (iblk 2 V 9 t) (iblk 2 V 10 t) (iblk 2 V 11 t) (iblk 2 V 12 t) (iblk 2 V 13 t)

theorem before3_0 (n : ℕ) (V : Valuation τ sig (Elt F)) (c : Dev nD) (t) (d) : (dat3 n V c).before 0 t d = iblk 2 V 0 t :=
  ((dat3 n V c).before_in_eq_fetched 0 rfl (fun _ => rfl) (fun _ _ _ => rfl) (fun _ => rfl) t d).trans rfl
theorem before3_1 (n : ℕ) (V : Valuation τ sig (Elt F)) (c : Dev nD) (t) (d) : (dat3 n V c).before 1 t d = iblk 2 V 1 t :=
  ((dat3 n V c).before_in_eq_fetched 1 rfl (fun _ => rfl) (fun _ _ _ => rfl) (fun _ => rfl) t d).trans rfl
theorem before3_2 (n : ℕ) (V : Valuation τ sig (Elt F)) (c : Dev nD) (t) (d) : (dat3 n V c).before 2 t d = iblk 2 V 2 t :=
  ((dat3 n V c).before_in_eq_fetched 2 rfl (fun _ => rfl) (fun _ _ _ => rfl) (fun _ => rfl) t d).trans rfl
theorem before3_3 (n : ℕ) (V : Valuation τ sig (Elt F)) (c : Dev nD) (t) (d) : (dat3 n V c).before 3 t d = iblk 2 V 3 t :=
  ((dat3 n V c).before_in_eq_fetched 3 rfl (fun _ => rfl) (fun _ _ _ => rfl) (fun _ => rfl) t d).trans rfl
theorem before3_4 (n : ℕ) (V : Valuation τ sig (Elt F)) (c : Dev nD) (t) (d) : (dat3 n V c).before 4 t d = iblk 2 V 4 t :=
  ((dat3 n V c).before_in_eq_fetched 4 rfl (fun _ => rfl) (fun _ _ _ => rfl) (fun _ => rfl) t d).trans rfl
theorem before3_5 (n : ℕ) (V : Valuation τ sig (Elt F)) (c : Dev nD) (t) (d) : (dat3 n V c).before 5 t d = iblk 2 V 5 t :=
  ((dat3 n V c).before_in_eq_fetched 5 rfl (fun _ => rfl) (fun _ _ _ => rfl) (fun _ => rfl) t d).trans rfl
theorem before3_6 (n : ℕ) (V : Valuation τ sig (Elt F)) (c : Dev nD) (t) (d) : (dat3 n V c).before 6 t d = iblk 2 V 6 t :=
  ((dat3 n V c).before_in_eq_fetched 6 rfl (fun _ => rfl) (fun _ _ _ => rfl) (fun _ => rfl) t d).trans rfl
theorem before3_7 (n : ℕ) (V : Valuation τ sig (Elt F)) (c : Dev nD) (t) (d) : (dat3 n V c).before 7 t d = iblk 2 V 7 t :=
  ((dat3 n V c).before_in_eq_fetched 7 rfl (fun _ => rfl) (fun _ _ _ => rfl) (fun _ => rfl) t d).trans rfl
theorem before3_8 (n : ℕ) (V : Valuation τ sig (Elt F)) (c : Dev nD) (t) (d) : (dat3 n V c).before 8 t d = iblk 2 V 8 t :=
  ((dat3 n V c).before_in_eq_fetched 8 rfl (fun _ => rfl) (fun _ _ _ => rfl) (fun _ => rfl) t d).trans rfl
theorem before3_9 (n : ℕ) (V : Valuation τ sig (Elt F)) (c : Dev nD) (t) (d) : (dat3 n V c).before 9 t d = iblk 2 V 9 t :=
  ((dat3 n V c).before_in_eq_fetched 9 rfl (fun _ => rfl) (fun _ _ _ => rfl) (fun _ => rfl) t d).trans rfl
theorem before3_10 (n : ℕ) (V : Valuation τ sig (Elt F)) (c : Dev nD) (t) (d) : (dat3 n V c).before 10 t d = iblk 2 V 10 t :=
  ((dat3 n V c).before_in_eq_fetched 10 rfl (fun _ => rfl) (fun _ _ _ => rfl) (fun _ => rfl) t d).trans rfl
theorem before3_11 (n : ℕ) (V : Valuation τ sig (Elt F)) (c : Dev nD) (t) (d) : (dat3 n V c).before 11 t d = iblk 2 V 11 t :=
  ((dat3 n V c).before_in_eq_fetched 11 rfl (fun _ => rfl) (fun _ _ _ => rfl) (fun _ => rfl) t d).trans rfl
theorem before3_12 (n : ℕ) (V : Valuation τ sig (Elt F)) (c : Dev nD) (t) (d) : (dat3 n V c).before 12 t d = iblk 2 V 12 t :=
  ((dat3 n V c).before_in_eq_fetched 12 rfl (fun _ => rfl) (fun _ _ _ => rfl) (fun _ => rfl) t d).trans rfl
theorem before3_13 (n : ℕ) (V : Valuation τ sig (Elt F)) (c : Dev nD) (t) (d) : (dat3 n V c).before 13 t d = iblk 2 V 13 t :=
  ((dat3 n V c).before_in_eq_fetched 13 rfl (fun _ => rfl) (fun _ _ _ => rfl) (fun _ => rfl) t d).trans rfl

set_option maxHeartbeats 4000000 in
theorem body3 (n : ℕ) (V : Valuation τ sig (Elt F)) (c : Dev nD) :
    BodyObligation (dat3 n V c) (defs₀ (F := F)) 𝒱₀ none Set.univ := fun t => by
  rw [bigSep_W3, bigSep_W3]
  show (iprop((dat3 n V c).Φ t.castSucc ∗ (dat3 n V c).owesAt none t.castSucc
      ∗ (∃ d, owns (c : Thread nD τ) (st3_0 t) fullShare ((dat3 n V c).before 0 t d)) ∗ (∃ d, owns (c : Thread nD τ) (st3_1 t) fullShare ((dat3 n V c).before 1 t d)) ∗ (∃ d, owns (c : Thread nD τ) (st3_2 t) fullShare ((dat3 n V c).before 2 t d)) ∗ (∃ d, owns (c : Thread nD τ) (st3_3 t) fullShare ((dat3 n V c).before 3 t d)) ∗ (∃ d, owns (c : Thread nD τ) (st3_4 t) fullShare ((dat3 n V c).before 4 t d)) ∗ (∃ d, owns (c : Thread nD τ) (st3_5 t) fullShare ((dat3 n V c).before 5 t d)) ∗ (∃ d, owns (c : Thread nD τ) (st3_6 t) fullShare ((dat3 n V c).before 6 t d)) ∗ (∃ d, owns (c : Thread nD τ) (st3_7 t) fullShare ((dat3 n V c).before 7 t d)) ∗ (∃ d, owns (c : Thread nD τ) (st3_8 t) fullShare ((dat3 n V c).before 8 t d)) ∗ (∃ d, owns (c : Thread nD τ) (st3_9 t) fullShare ((dat3 n V c).before 9 t d)) ∗ (∃ d, owns (c : Thread nD τ) (st3_10 t) fullShare ((dat3 n V c).before 10 t d)) ∗ (∃ d, owns (c : Thread nD τ) (st3_11 t) fullShare ((dat3 n V c).before 11 t d)) ∗ (∃ d, owns (c : Thread nD τ) (st3_12 t) fullShare ((dat3 n V c).before 12 t d)) ∗ (∃ d, owns (c : Thread nD τ) (st3_13 t) fullShare ((dat3 n V c).before 13 t d)) ∗ (∃ d, owns (c : Thread nD τ) (st3_14 t) fullShare ((dat3 n V c).before 14 t d))) : sProp 𝕄)
    ⊢ wp frame (wpE (defs₀ (F := F)) 𝒱₀ (c : Thread nD τ) none) Set.univ (bodyAt3 t) fun _ =>
        iprop((dat3 n V c).Φ t.castSucc ∗ (dat3 n V c).owesAt none t.castSucc
          ∗ owns (c : Thread nD τ) (st3_0 t) fullShare (iblk 2 V 0 t) ∗ owns (c : Thread nD τ) (st3_1 t) fullShare (iblk 2 V 1 t) ∗ owns (c : Thread nD τ) (st3_2 t) fullShare (iblk 2 V 2 t) ∗ owns (c : Thread nD τ) (st3_3 t) fullShare (iblk 2 V 3 t) ∗ owns (c : Thread nD τ) (st3_4 t) fullShare (iblk 2 V 4 t) ∗ owns (c : Thread nD τ) (st3_5 t) fullShare (iblk 2 V 5 t) ∗ owns (c : Thread nD τ) (st3_6 t) fullShare (iblk 2 V 6 t) ∗ owns (c : Thread nD τ) (st3_7 t) fullShare (iblk 2 V 7 t) ∗ owns (c : Thread nD τ) (st3_8 t) fullShare (iblk 2 V 8 t) ∗ owns (c : Thread nD τ) (st3_9 t) fullShare (iblk 2 V 9 t) ∗ owns (c : Thread nD τ) (st3_10 t) fullShare (iblk 2 V 10 t) ∗ owns (c : Thread nD τ) (st3_11 t) fullShare (iblk 2 V 11 t) ∗ owns (c : Thread nD τ) (st3_12 t) fullShare (iblk 2 V 12 t) ∗ owns (c : Thread nD τ) (st3_13 t) fullShare (iblk 2 V 13 t) ∗ owns (c : Thread nD τ) (st3_14 t) fullShare (tail3 (iblk 2 V 0 t) (iblk 2 V 1 t) (iblk 2 V 2 t) (iblk 2 V 3 t) (iblk 2 V 4 t) (iblk 2 V 5 t) (iblk 2 V 6 t) (iblk 2 V 7 t) (iblk 2 V 8 t) (iblk 2 V 9 t) (iblk 2 V 10 t) (iblk 2 V 11 t) (iblk 2 V 12 t) (iblk 2 V 13 t)))
  iintro ⟨HΦ, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [before3_0, before3_1, before3_2, before3_3, before3_4, before3_5, before3_6, before3_7, before3_8, before3_9, before3_10, before3_11, before3_12, before3_13]
  iapply (run3 c)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro H
  isplitl [HΦ]; · iexact HΦ
  isplitl [HO]; · iexact HO
  iexact H

/-- The buffers after the call. -/
def val3 (n : ℕ) (V : Valuation τ sig (Elt F)) (c : Dev nD) : Valuation τ sig (Elt F) :=
  Function.update V (Proc.devRef .tc main_v23 : DevRef τ sig) ((dat3 n V c).arrAt 14 cfg3.N)

theorem val3_off (n : ℕ) (V : Valuation τ sig (Elt F)) (c : Dev nD) (b : Ref sig .tc) (h0 : b ≠ main_v23) :
    val3 n V c (Proc.devRef .tc b) = V (Proc.devRef .tc b) := by
  unfold val3
  rw [Function.update_of_ne (fun e => h0 (Proc.devRef_injective _ e))]

theorem val3_at0 (n : ℕ) (V : Valuation τ sig (Elt F)) (c : Dev nD) :
    val3 n V c (Proc.devRef .tc main_v23) = (dat3 n V c).arrAt 14 cfg3.N := by
  unfold val3
  rw [Function.update_self]

def pd3 (n : ℕ) (V : Dev nD → Valuation τ sig (Elt F)) : Dats F := fun p => match p with
  | ⟨0, _⟩ => fun c => junkDat c
  | ⟨1, _⟩ => fun c => junkDat c
  | ⟨2, _⟩ => fun c => dat3 n (V c) c
  | ⟨3, _⟩ => fun c => junkDat c
  | ⟨4, _⟩ => fun c => junkDat c
  | ⟨5, _⟩ => fun c => junkDat c

set_option maxHeartbeats 1000000 in
theorem fin3 (n : ℕ) (V : Valuation τ sig (Elt F)) (c : Dev nD) : ∀ w : Fin cfg3.W,
    (dat3 n V c).arrAt w cfg3.N = val3 n V c (Proc.devRef .tc (Pipeline.arrRef cfg3.spec w))
  | ⟨0, _⟩ => ((dat3 n V c).arrAt_in 0 rfl _).trans (val3_off n V c main_v21 (by decide)).symm
  | ⟨1, _⟩ => ((dat3 n V c).arrAt_in 1 rfl _).trans (val3_off n V c main_v22 (by decide)).symm
  | ⟨2, _⟩ => ((dat3 n V c).arrAt_in 2 rfl _).trans (val3_off n V c main_v8_1 (by decide)).symm
  | ⟨3, _⟩ => ((dat3 n V c).arrAt_in 3 rfl _).trans (val3_off n V c main_v8_0 (by decide)).symm
  | ⟨4, _⟩ => ((dat3 n V c).arrAt_in 4 rfl _).trans (val3_off n V c main_v10 (by decide)).symm
  | ⟨5, _⟩ => ((dat3 n V c).arrAt_in 5 rfl _).trans (val3_off n V c main_v11 (by decide)).symm
  | ⟨6, _⟩ => ((dat3 n V c).arrAt_in 6 rfl _).trans (val3_off n V c main_v12 (by decide)).symm
  | ⟨7, _⟩ => ((dat3 n V c).arrAt_in 7 rfl _).trans (val3_off n V c main_v13 (by decide)).symm
  | ⟨8, _⟩ => ((dat3 n V c).arrAt_in 8 rfl _).trans (val3_off n V c main_v14 (by decide)).symm
  | ⟨9, _⟩ => ((dat3 n V c).arrAt_in 9 rfl _).trans (val3_off n V c main_v15 (by decide)).symm
  | ⟨10, _⟩ => ((dat3 n V c).arrAt_in 10 rfl _).trans (val3_off n V c main_v16 (by decide)).symm
  | ⟨11, _⟩ => ((dat3 n V c).arrAt_in 11 rfl _).trans (val3_off n V c main_v17 (by decide)).symm
  | ⟨12, _⟩ => ((dat3 n V c).arrAt_in 12 rfl _).trans (val3_off n V c main_v18 (by decide)).symm
  | ⟨13, _⟩ => ((dat3 n V c).arrAt_in 13 rfl _).trans (val3_off n V c main_v19 (by decide)).symm
  | ⟨14, _⟩ => (val3_at0 n V c).symm

set_option maxHeartbeats 1000000 in
/-- The call, run before selection call `n`. -/
theorem step3 (n : ℕ) (V : Dev nD → Valuation τ sig (Elt F)) (d : Dev nD) (Q : PUnit → sProp 𝕄) :
    iprop(levAts (K (F := F)).L (K (F := F)).lev ∗ boundary (d.tc : Thread nD τ) ∗ StableHlo.held (d.tc : Thread nD τ) (Pipeline.ucRefs τ sig) (V d)
        ∗ (K (F := F)).tcSt EH d n
        ∗ Pipeline.cellsGhost (Pipeline.pin (pcfgs (F := F)) adm) EP 2 d ∗ Pipeline.toksInit (Pipeline.pin (pcfgs (F := F)) adm) EP 2 d
        ∗ ((boundary (d.tc : Thread nD τ) ∗ StableHlo.held (d.tc : Thread nD τ) (Pipeline.ucRefs τ sig) (val3 n (V d) d) ∗ (K (F := F)).tcSt EH d n) -∗ Q ⟨⟩))
      ⊢ wp frame (wpE ((K (F := F)).defs D) 𝒱 (d.tc : Thread nD τ) none) Set.univ
          (Prog.lift (.customCall (SparseCore.inner (Pipeline.entry 2)) ())) Q := by
  refine region_step 2 launch3.to₀ (pd3 n V) n V (fun c => val3 n (V c) c) (fun c => body3 n (V c) c) (fun _ _ => rfl) (fun _ _ => rfl)
    (fun _ _ _ => rfl) ?_ (fun _ _ => rfl) (fun c w => fin3 n (V c) c w)
    (fun c b hb => val3_off n (V c) c b (fun e => hb (Finset.mem_image.mpr ⟨14, Finset.mem_univ _, e.symm⟩))) d Q
  intro c t
  have h : (dat3 n (V c) c).Φ t = Pipeline.scopedRest (cfgs 2).spec c := rfl
  exact h

end Cert.Topk
-- ==== Proof.Tail5.lean ====
/-
  The TensorCore call that finishes batch 1.
-/
module

public import proofs.«01_k».proof.Proof.RegDat

@[expose] public section

noncomputable section

namespace Cert.Topk

open Idealize.SL Idealize.ShloMosaic Cert.KernelIdeal Cert.KernelIdeal.Gen
open Idealize.ShloMosaic.SparseCore.Cfg (HIx)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds
open Idealize.ShloMosaic.TcCoe
open Idealize.ShloMosaic.Pipeline (Dat BodyObligation)

variable {F : FTy → Type} [FloatOps F]

local notation "𝕄" => MM F

/-- The matrix of weights after the first part of the columns. -/
def acc5 (X2 : S1x256x32.Idx → Elt F .f32) (X3 : S1x256x32.Idx → Elt F .i32) : FVec F S256x2048 .f32 :=
  k5_pay10 (k5_pay1 X3) (iota .tc S256x2048 32 [1] iota_S256x2048_d1_w32) (k5_pay2 X2) (k5_pay8 (k5_pay1 X3) (iota .tc S256x2048 32 [1] iota_S256x2048_d1_w32) (k5_pay2 X2) (k5_pay5 (k5_pay1 X3) (iota .tc S256x2048 32 [1] iota_S256x2048_d1_w32) (k5_pay2 X2) (k5_pay3 X2 X3) (k5_pay4 X3)) (k5_pay6 (k5_pay1 X3) (iota .tc S256x2048 32 [1] iota_S256x2048_d1_w32)) (k5_pay7 (k5_pay2 X2))) (k5_pay9 (k5_pay1 X3))

/-- What the body stores, from what it loads. -/
def tail5 (X2 : S1x256x32.Idx → Elt F .f32) (X3 : S1x256x32.Idx → Elt F .i32) (X4 : S1x2048x512.Idx → Elt F .bf16) (X5 : S1x256x512.Idx → Elt F .f32) (X6 : S512x1024.Idx → Elt F .bf16) (X7 : S1x1024.Idx → Elt F .f32) (X8 : S1024x512.Idx → Elt F .bf16) (X9 : S1x512.Idx → Elt F .f32) (X10 : S1x512.Idx → Elt F .f32) (X11 : S1x512.Idx → Elt F .f32) (X12 : S512x512.Idx → Elt F .bf16) (X13 : S1x512.Idx → Elt F .f32) (X14 : S512x512.Idx → Elt F .bf16) (X15 : S1x512.Idx → Elt F .f32) : S1x256x512.Idx → Elt F .f32 :=
  k5_pay15
    (k5_pay13 (k5_pay1 X3) (iota .tc S256x2048 32 [1] iota_S256x2048_d1_w32) (k5_pay2 X2) (acc5 X2 X3) (k5_pay11 (k5_pay1 X3) (iota .tc S256x2048 32 [1] iota_S256x2048_d1_w32)) (k5_pay12 (k5_pay2 X2)) X4 X5 X6 X7 X8 X9)
    (k5_pay14 (k5_pay1 X3) (iota .tc S256x2048 32 [1] iota_S256x2048_d1_w32) (k5_pay2 X2) (acc5 X2 X3) (k5_pay11 (k5_pay1 X3) (iota .tc S256x2048 32 [1] iota_S256x2048_d1_w32)) (k5_pay12 (k5_pay2 X2)) X4 X5 X6 X7 X8 X9)
    X10 X11 X12 X13 X14 X15

/-- The body's run. -/
theorem run5 (c : Dev nD) (i : grid5.Coords) (M2 : Memref sig .tc .vmem S1x256x32 .f32) (h2 : M2.IsWhole) (M3 : Memref sig .tc .vmem S1x256x32 .i32) (h3 : M3.IsWhole) (M4 : Memref sig .tc .vmem S1x2048x512 .bf16) (h4 : M4.IsWhole) (M5 : Memref sig .tc .vmem S1x256x512 .f32) (h5 : M5.IsWhole) (M6 : Memref sig .tc .vmem S512x1024 .bf16) (h6 : M6.IsWhole) (M7 : Memref sig .tc .vmem S1x1024 .f32) (h7 : M7.IsWhole) (M8 : Memref sig .tc .vmem S1024x512 .bf16) (h8 : M8.IsWhole) (M9 : Memref sig .tc .vmem S1x512 .f32) (h9 : M9.IsWhole) (M10 : Memref sig .tc .vmem S1x512 .f32) (h10 : M10.IsWhole) (M11 : Memref sig .tc .vmem S1x512 .f32) (h11 : M11.IsWhole) (M12 : Memref sig .tc .vmem S512x512 .bf16) (h12 : M12.IsWhole) (M13 : Memref sig .tc .vmem S1x512 .f32) (h13 : M13.IsWhole) (M14 : Memref sig .tc .vmem S512x512 .bf16) (h14 : M14.IsWhole) (M15 : Memref sig .tc .vmem S1x512 .f32) (h15 : M15.IsWhole) (M16 : Memref sig .tc .vmem S1x256x512 .f32) (h16 : M16.IsWhole)
    (X2 : S1x256x32.Idx → Elt F .f32) (X3 : S1x256x32.Idx → Elt F .i32) (X4 : S1x2048x512.Idx → Elt F .bf16) (X5 : S1x256x512.Idx → Elt F .f32) (X6 : S512x1024.Idx → Elt F .bf16) (X7 : S1x1024.Idx → Elt F .f32) (X8 : S1024x512.Idx → Elt F .bf16) (X9 : S1x512.Idx → Elt F .f32) (X10 : S1x512.Idx → Elt F .f32) (X11 : S1x512.Idx → Elt F .f32) (X12 : S512x512.Idx → Elt F .bf16) (X13 : S1x512.Idx → Elt F .f32) (X14 : S512x512.Idx → Elt F .bf16) (X15 : S1x512.Idx → Elt F .f32) (X16 : S1x256x512.Idx → Elt F .f32) (Q : PUnit → sProp 𝕄) :
    (iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16
        ∗ ((owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare (tail5 X2 X3 X4 X5 X6 X7 X8 X9 X10 X11 X12 X13 X14 X15)) -∗ Q ⟨⟩)) : sProp 𝕄)
      ⊢ wp frame (wpE (defs₀ (F := F)) 𝒱₀ (c : Thread nD τ) none) Set.univ (cc5__tail_kernel i M2 h2 M3 h3 M4 h4 M5 h5 M6 h6 M7 h7 M8 h8 M9 h9 M10 h10 M11 h11 M12 h12 M13 h13 M14 h14 M15 h15 M16 h16) Q := by
  unfold tail5 acc5
  rw [cc5__tail_kernel_eq_skeleton]
  unfold cc5__tail_kernel_skel
  rw [k5_part1_eq_skeleton, k5_part2_eq_skeleton, k5_part3_eq_skeleton, k5_part4_eq_skeleton, k5_part5_eq_skeleton, k5_part6_eq_skeleton]
  unfold k5_part1_skel k5_part2_skel k5_part3_skel k5_part4_skel k5_part5_skel k5_part6_skel
  simp only [Prog.bind_lift, Prog.bind_op, Prog.bind_ret, Prog.pure_eq_ret]
  iintro ⟨H2, H3, H4, H5, H6, H7, H8, H9, H10, H11, H12, H13, H14, H15, H16, Hk⟩
  iapply (Mem.wp_loadW (defs := defs₀ (F := F)) 𝒱₀ (c : Thread nD τ) none Set.univ (Q := Q) (base := M2) (X := X2)) $$ H2
  iintro H2
  iapply (Mem.wp_loadW (defs := defs₀ (F := F)) 𝒱₀ (c : Thread nD τ) none Set.univ (Q := Q) (base := M3) (X := X3)) $$ H3
  iintro H3
  iapply (Mem.wp_loadW (defs := defs₀ (F := F)) 𝒱₀ (c : Thread nD τ) none Set.univ (Q := Q) (base := M4) (X := X4)) $$ H4
  iintro H4
  iapply (Mem.wp_loadW (defs := defs₀ (F := F)) 𝒱₀ (c : Thread nD τ) none Set.univ (Q := Q) (base := M5) (X := X5)) $$ H5
  iintro H5
  iapply (Mem.wp_loadW (defs := defs₀ (F := F)) 𝒱₀ (c : Thread nD τ) none Set.univ (Q := Q) (base := M6) (X := X6)) $$ H6
  iintro H6
  iapply (Mem.wp_loadW (defs := defs₀ (F := F)) 𝒱₀ (c : Thread nD τ) none Set.univ (Q := Q) (base := M7) (X := X7)) $$ H7
  iintro H7
  iapply (Mem.wp_loadW (defs := defs₀ (F := F)) 𝒱₀ (c : Thread nD τ) none Set.univ (Q := Q) (base := M8) (X := X8)) $$ H8
  iintro H8
  iapply (Mem.wp_loadW (defs := defs₀ (F := F)) 𝒱₀ (c : Thread nD τ) none Set.univ (Q := Q) (base := M9) (X := X9)) $$ H9
  iintro H9
  iapply (Mem.wp_loadW (defs := defs₀ (F := F)) 𝒱₀ (c : Thread nD τ) none Set.univ (Q := Q) (base := M10) (X := X10)) $$ H10
  iintro H10
  iapply (Mem.wp_loadW (defs := defs₀ (F := F)) 𝒱₀ (c : Thread nD τ) none Set.univ (Q := Q) (base := M11) (X := X11)) $$ H11
  iintro H11
  iapply (Mem.wp_loadW (defs := defs₀ (F := F)) 𝒱₀ (c : Thread nD τ) none Set.univ (Q := Q) (base := M12) (X := X12)) $$ H12
  iintro H12
  iapply (Mem.wp_loadW (defs := defs₀ (F := F)) 𝒱₀ (c : Thread nD τ) none Set.univ (Q := Q) (base := M13) (X := X13)) $$ H13
  iintro H13
  iapply (Mem.wp_loadW (defs := defs₀ (F := F)) 𝒱₀ (c : Thread nD τ) none Set.univ (Q := Q) (base := M14) (X := X14)) $$ H14
  iintro H14
  iapply (Mem.wp_loadW (defs := defs₀ (F := F)) 𝒱₀ (c : Thread nD τ) none Set.univ (Q := Q) (base := M15) (X := X15)) $$ H15
  iintro H15
  iapply (Mem.wp_loadW (defs := defs₀ (F := F)) 𝒱₀ (c : Thread nD τ) none Set.univ (Q := Q) (base := M16) (X := X16)) $$ H16
  iintro H16
  iapply (Mem.wp_storeW (defs := defs₀ (F := F)) 𝒱₀ (c : Thread nD τ) none Set.univ (Q := Q) (base := M16) (X := X16)) $$ H16
  iintro H16
  rw [wp_ret]
  imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The proof data of the call, entered at `V`. -/
def dat5 (n : ℕ) (V : Valuation τ sig (Elt F)) (c : Dev nD) : Dat τ (Elt F) (HIx 4) ℕ UU ℕ cfg5 c :=
  mkDat 3 n c V fun w t => match w with
    | ⟨0, _⟩ => iblk 3 V 0 t
    | ⟨1, _⟩ => iblk 3 V 1 t
    | ⟨2, _⟩ => iblk 3 V 2 t
    | ⟨3, _⟩ => iblk 3 V 3 t
    | ⟨4, _⟩ => iblk 3 V 4 t
    | ⟨5, _⟩ => iblk 3 V 5 t
    | ⟨6, _⟩ => iblk 3 V 6 t
    | ⟨7, _⟩ => iblk 3 V 7 t
    | ⟨8, _⟩ => iblk 3 V 8 t
    | ⟨9, _⟩ => iblk 3 V 9 t
    | ⟨10, _⟩ => iblk 3 V 10 t
    | ⟨11, _⟩ => iblk 3 V 11 t
    | ⟨12, _⟩ => iblk 3 V 12 t
    | ⟨13, _⟩ => iblk 3 V 13 t
    | ⟨14, _⟩ => tail5 (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t) (iblk 3 V 10 t) (iblk 3 V 11 t) (iblk 3 V 12 t) (iblk 3 V 13 t)

theorem before5_0 (n : ℕ) (V : Valuation τ sig (Elt F)) (c : Dev nD) (t) (d) : (dat5 n V c).before 0 t d = iblk 3 V 0 t :=
  ((dat5 n V c).before_in_eq_fetched 0 rfl (fun _ => rfl) (fun _ _ _ => rfl) (fun _ => rfl) t d).trans rfl
theorem before5_1 (n : ℕ) (V : Valuation τ sig (Elt F)) (c : Dev nD) (t) (d) : (dat5 n V c).before 1 t d = iblk 3 V 1 t :=
  ((dat5 n V c).before_in_eq_fetched 1 rfl (fun _ => rfl) (fun _ _ _ => rfl) (fun _ => rfl) t d).trans rfl
theorem before5_2 (n : ℕ) (V : Valuation τ sig (Elt F)) (c : Dev nD) (t) (d) : (dat5 n V c).before 2 t d = iblk 3 V 2 t :=
  ((dat5 n V c).before_in_eq_fetched 2 rfl (fun _ => rfl) (fun _ _ _ => rfl) (fun _ => rfl) t d).trans rfl
theorem before5_3 (n : ℕ) (V : Valuation τ sig (Elt F)) (c : Dev nD) (t) (d) : (dat5 n V c).before 3 t d = iblk 3 V 3 t :=
  ((dat5 n V c).before_in_eq_fetched 3 rfl (fun _ => rfl) (fun _ _ _ => rfl) (fun _ => rfl) t d).trans rfl
theorem before5_4 (n : ℕ) (V : Valuation τ sig (Elt F)) (c : Dev nD) (t) (d) : (dat5 n V c).before 4 t d = iblk 3 V 4 t :=
  ((dat5 n V c).before_in_eq_fetched 4 rfl (fun _ => rfl) (fun _ _ _ => rfl) (fun _ => rfl) t d).trans rfl
theorem before5_5 (n : ℕ) (V : Valuation τ sig (Elt F)) (c : Dev nD) (t) (d) : (dat5 n V c).before 5 t d = iblk 3 V 5 t :=
  ((dat5 n V c).before_in_eq_fetched 5 rfl (fun _ => rfl) (fun _ _ _ => rfl) (fun _ => rfl) t d).trans rfl
theorem before5_6 (n : ℕ) (V : Valuation τ sig (Elt F)) (c : Dev nD) (t) (d) : (dat5 n V c).before 6 t d = iblk 3 V 6 t :=
  ((dat5 n V c).before_in_eq_fetched 6 rfl (fun _ => rfl) (fun _ _ _ => rfl) (fun _ => rfl) t d).trans rfl
theorem before5_7 (n : ℕ) (V : Valuation τ sig (Elt F)) (c : Dev nD) (t) (d) : (dat5 n V c).before 7 t d = iblk 3 V 7 t :=
  ((dat5 n V c).before_in_eq_fetched 7 rfl (fun _ => rfl) (fun _ _ _ => rfl) (fun _ => rfl) t d).trans rfl
theorem before5_8 (n : ℕ) (V : Valuation τ sig (Elt F)) (c : Dev nD) (t) (d) : (dat5 n V c).before 8 t d = iblk 3 V 8 t :=
  ((dat5 n V c).before_in_eq_fetched 8 rfl (fun _ => rfl) (fun _ _ _ => rfl) (fun _ => rfl) t d).trans rfl
theorem before5_9 (n : ℕ) (V : Valuation τ sig (Elt F)) (c : Dev nD) (t) (d) : (dat5 n V c).before 9 t d = iblk 3 V 9 t :=
  ((dat5 n V c).before_in_eq_fetched 9 rfl (fun _ => rfl) (fun _ _ _ => rfl) (fun _ => rfl) t d).trans rfl
theorem before5_10 (n : ℕ) (V : Valuation τ sig (Elt F)) (c : Dev nD) (t) (d) : (dat5 n V c).before 10 t d = iblk 3 V 10 t :=
  ((dat5 n V c).before_in_eq_fetched 10 rfl (fun _ => rfl) (fun _ _ _ => rfl) (fun _ => rfl) t d).trans rfl
theorem before5_11 (n : ℕ) (V : Valuation τ sig (Elt F)) (c : Dev nD) (t) (d) : (dat5 n V c).before 11 t d = iblk 3 V 11 t :=
  ((dat5 n V c).before_in_eq_fetched 11 rfl (fun _ => rfl) (fun _ _ _ => rfl) (fun _ => rfl) t d).trans rfl
theorem before5_12 (n : ℕ) (V : Valuation τ sig (Elt F)) (c : Dev nD) (t) (d) : (dat5 n V c).before 12 t d = iblk 3 V 12 t :=
  ((dat5 n V c).before_in_eq_fetched 12 rfl (fun _ => rfl) (fun _ _ _ => rfl) (fun _ => rfl) t d).trans rfl
theorem before5_13 (n : ℕ) (V : Valuation τ sig (Elt F)) (c : Dev nD) (t) (d) : (dat5 n V c).before 13 t d = iblk 3 V 13 t :=
  ((dat5 n V c).before_in_eq_fetched 13 rfl (fun _ => rfl) (fun _ _ _ => rfl) (fun _ => rfl) t d).trans rfl

set_option maxHeartbeats 4000000 in
theorem body5 (n : ℕ) (V : Valuation τ sig (Elt F)) (c : Dev nD) :
    BodyObligation (dat5 n V c) (defs₀ (F := F)) 𝒱₀ none Set.univ := fun t => by
  rw [bigSep_W5, bigSep_W5]
  show (iprop((dat5 n V c).Φ t.castSucc ∗ (dat5 n V c).owesAt none t.castSucc
      ∗ (∃ d, owns (c : Thread nD τ) (st5_0 t) fullShare ((dat5 n V c).before 0 t d)) ∗ (∃ d, owns (c : Thread nD τ) (st5_1 t) fullShare ((dat5 n V c).before 1 t d)) ∗ (∃ d, owns (c : Thread nD τ) (st5_2 t) fullShare ((dat5 n V c).before 2 t d)) ∗ (∃ d, owns (c : Thread nD τ) (st5_3 t) fullShare ((dat5 n V c).before 3 t d)) ∗ (∃ d, owns (c : Thread nD τ) (st5_4 t) fullShare ((dat5 n V c).before 4 t d)) ∗ (∃ d, owns (c : Thread nD τ) (st5_5 t) fullShare ((dat5 n V c).before 5 t d)) ∗ (∃ d, owns (c : Thread nD τ) (st5_6 t) fullShare ((dat5 n V c).before 6 t d)) ∗ (∃ d, owns (c : Thread nD τ) (st5_7 t) fullShare ((dat5 n V c).before 7 t d)) ∗ (∃ d, owns (c : Thread nD τ) (st5_8 t) fullShare ((dat5 n V c).before 8 t d)) ∗ (∃ d, owns (c : Thread nD τ) (st5_9 t) fullShare ((dat5 n V c).before 9 t d)) ∗ (∃ d, owns (c : Thread nD τ) (st5_10 t) fullShare ((dat5 n V c).before 10 t d)) ∗ (∃ d, owns (c : Thread nD τ) (st5_11 t) fullShare ((dat5 n V c).before 11 t d)) ∗ (∃ d, owns (c : Thread nD τ) (st5_12 t) fullShare ((dat5 n V c).before 12 t d)) ∗ (∃ d, owns (c : Thread nD τ) (st5_13 t) fullShare ((dat5 n V c).before 13 t d)) ∗ (∃ d, owns (c : Thread nD τ) (st5_14 t) fullShare ((dat5 n V c).before 14 t d))) : sProp 𝕄)
    ⊢ wp frame (wpE (defs₀ (F := F)) 𝒱₀ (c : Thread nD τ) none) Set.univ (bodyAt5 t) fun _ =>
        iprop((dat5 n V c).Φ t.castSucc ∗ (dat5 n V c).owesAt none t.castSucc
          ∗ owns (c : Thread nD τ) (st5_0 t) fullShare (iblk 3 V 0 t) ∗ owns (c : Thread nD τ) (st5_1 t) fullShare (iblk 3 V 1 t) ∗ owns (c : Thread nD τ) (st5_2 t) fullShare (iblk 3 V 2 t) ∗ owns (c : Thread nD τ) (st5_3 t) fullShare (iblk 3 V 3 t) ∗ owns (c : Thread nD τ) (st5_4 t) fullShare (iblk 3 V 4 t) ∗ owns (c : Thread nD τ) (st5_5 t) fullShare (iblk 3 V 5 t) ∗ owns (c : Thread nD τ) (st5_6 t) fullShare (iblk 3 V 6 t) ∗ owns (c : Thread nD τ) (st5_7 t) fullShare (iblk 3 V 7 t) ∗ owns (c : Thread nD τ) (st5_8 t) fullShare (iblk 3 V 8 t) ∗ owns (c : Thread nD τ) (st5_9 t) fullShare (iblk 3 V 9 t) ∗ owns (c : Thread nD τ) (st5_10 t) fullShare (iblk 3 V 10 t) ∗ owns (c : Thread nD τ) (st5_11 t) fullShare (iblk 3 V 11 t) ∗ owns (c : Thread nD τ) (st5_12 t) fullShare (iblk 3 V 12 t) ∗ owns (c : Thread nD τ) (st5_13 t) fullShare (iblk 3 V 13 t) ∗ owns (c : Thread nD τ) (st5_14 t) fullShare (tail5 (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t) (iblk 3 V 10 t) (iblk 3 V 11 t) (iblk 3 V 12 t) (iblk 3 V 13 t)))
  iintro ⟨HΦ, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [before5_0, before5_1, before5_2, before5_3, before5_4, before5_5, before5_6, before5_7, before5_8, before5_9, before5_10, before5_11, before5_12, before5_13]
  iapply (run5 c)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro H
  isplitl [HΦ]; · iexact HΦ
  isplitl [HO]; · iexact HO
  iexact H

/-- The buffers after the call. -/
def val5 (n : ℕ) (V : Valuation τ sig (Elt F)) (c : Dev nD) : Valuation τ sig (Elt F) :=
  Function.update V (Proc.devRef .tc main_v27 : DevRef τ sig) ((dat5 n V c).arrAt 14 cfg5.N)

theorem val5_off (n : ℕ) (V : Valuation τ sig (Elt F)) (c : Dev nD) (b : Ref sig .tc) (h0 : b ≠ main_v27) :
    val5 n V c (Proc.devRef .tc b) = V (Proc.devRef .tc b) := by
  unfold val5
  rw [Function.update_of_ne (fun e => h0 (Proc.devRef_injective _ e))]

theorem val5_at0 (n : ℕ) (V : Valuation τ sig (Elt F)) (c : Dev nD) :
    val5 n V c (Proc.devRef .tc main_v27) = (dat5 n V c).arrAt 14 cfg5.N := by
  unfold val5
  rw [Function.update_self]

def pd5 (n : ℕ) (V : Dev nD → Valuation τ sig (Elt F)) : Dats F := fun p => match p with
  | ⟨0, _⟩ => fun c => junkDat c
  | ⟨1, _⟩ => fun c => junkDat c
  | ⟨2, _⟩ => fun c => junkDat c
  | ⟨3, _⟩ => fun c => dat5 n (V c) c
  | ⟨4, _⟩ => fun c => junkDat c
  | ⟨5, _⟩ => fun c => junkDat c

set_option maxHeartbeats 1000000 in
theorem fin5 (n : ℕ) (V : Valuation τ sig (Elt F)) (c : Dev nD) : ∀ w : Fin cfg5.W,
    (dat5 n V c).arrAt w cfg5.N = val5 n V c (Proc.devRef .tc (Pipeline.arrRef cfg5.spec w))
  | ⟨0, _⟩ => ((dat5 n V c).arrAt_in 0 rfl _).trans (val5_off n V c main_v25 (by decide)).symm
  | ⟨1, _⟩ => ((dat5 n V c).arrAt_in 1 rfl _).trans (val5_off n V c main_v26 (by decide)).symm
  | ⟨2, _⟩ => ((dat5 n V c).arrAt_in 2 rfl _).trans (val5_off n V c main_v8_1 (by decide)).symm
  | ⟨3, _⟩ => ((dat5 n V c).arrAt_in 3 rfl _).trans (val5_off n V c main_v8_0 (by decide)).symm
  | ⟨4, _⟩ => ((dat5 n V c).arrAt_in 4 rfl _).trans (val5_off n V c main_v10 (by decide)).symm
  | ⟨5, _⟩ => ((dat5 n V c).arrAt_in 5 rfl _).trans (val5_off n V c main_v11 (by decide)).symm
  | ⟨6, _⟩ => ((dat5 n V c).arrAt_in 6 rfl _).trans (val5_off n V c main_v12 (by decide)).symm
  | ⟨7, _⟩ => ((dat5 n V c).arrAt_in 7 rfl _).trans (val5_off n V c main_v13 (by decide)).symm
  | ⟨8, _⟩ => ((dat5 n V c).arrAt_in 8 rfl _).trans (val5_off n V c main_v14 (by decide)).symm
  | ⟨9, _⟩ => ((dat5 n V c).arrAt_in 9 rfl _).trans (val5_off n V c main_v15 (by decide)).symm
  | ⟨10, _⟩ => ((dat5 n V c).arrAt_in 10 rfl _).trans (val5_off n V c main_v16 (by decide)).symm
  | ⟨11, _⟩ => ((dat5 n V c).arrAt_in 11 rfl _).trans (val5_off n V c main_v17 (by decide)).symm
  | ⟨12, _⟩ => ((dat5 n V c).arrAt_in 12 rfl _).trans (val5_off n V c main_v18 (by decide)).symm
  | ⟨13, _⟩ => ((dat5 n V c).arrAt_in 13 rfl _).trans (val5_off n V c main_v19 (by decide)).symm
  | ⟨14, _⟩ => (val5_at0 n V c).symm

set_option maxHeartbeats 1000000 in
/-- The call, run before selection call `n`. -/
theorem step5 (n : ℕ) (V : Dev nD → Valuation τ sig (Elt F)) (d : Dev nD) (Q : PUnit → sProp 𝕄) :
    iprop(levAts (K (F := F)).L (K (F := F)).lev ∗ boundary (d.tc : Thread nD τ) ∗ StableHlo.held (d.tc : Thread nD τ) (Pipeline.ucRefs τ sig) (V d)
        ∗ (K (F := F)).tcSt EH d n
        ∗ Pipeline.cellsGhost (Pipeline.pin (pcfgs (F := F)) adm) EP 3 d ∗ Pipeline.toksInit (Pipeline.pin (pcfgs (F := F)) adm) EP 3 d
        ∗ ((boundary (d.tc : Thread nD τ) ∗ StableHlo.held (d.tc : Thread nD τ) (Pipeline.ucRefs τ sig) (val5 n (V d) d) ∗ (K (F := F)).tcSt EH d n) -∗ Q ⟨⟩))
      ⊢ wp frame (wpE ((K (F := F)).defs D) 𝒱 (d.tc : Thread nD τ) none) Set.univ
          (Prog.lift (.customCall (SparseCore.inner (Pipeline.entry 3)) ())) Q := by
  refine region_step 3 launch5.to₀ (pd5 n V) n V (fun c => val5 n (V c) c) (fun c => body5 n (V c) c) (fun _ _ => rfl) (fun _ _ => rfl)
    (fun _ _ _ => rfl) ?_ (fun _ _ => rfl) (fun c w => fin5 n (V c) c w)
    (fun c b hb => val5_off n (V c) c b (fun e => hb (Finset.mem_image.mpr ⟨14, Finset.mem_univ _, e.symm⟩))) d Q
  intro c t
  have h : (dat5 n (V c) c).Φ t = Pipeline.scopedRest (cfgs 3).spec c := rfl
  exact h

end Cert.Topk
-- ==== Proof.Tail7.lean ====
/-
  The TensorCore call that finishes batch 2.
-/
module

public import proofs.«01_k».proof.Proof.RegDat

@[expose] public section

noncomputable section

namespace Cert.Topk

open Idealize.SL Idealize.ShloMosaic Cert.KernelIdeal Cert.KernelIdeal.Gen
open Idealize.ShloMosaic.SparseCore.Cfg (HIx)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds
open Idealize.ShloMosaic.TcCoe
open Idealize.ShloMosaic.Pipeline (Dat BodyObligation)

variable {F : FTy → Type} [FloatOps F]

local notation "𝕄" => MM F

/-- The matrix of weights after the first part of the columns. -/
def acc7 (X2 : S1x256x32.Idx → Elt F .f32) (X3 : S1x256x32.Idx → Elt F .i32) : FVec F S256x2048 .f32 :=
  k7_pay10 (k7_pay1 X3) (iota .tc S256x2048 32 [1] iota_S256x2048_d1_w32) (k7_pay2 X2) (k7_pay8 (k7_pay1 X3) (iota .tc S256x2048 32 [1] iota_S256x2048_d1_w32) (k7_pay2 X2) (k7_pay5 (k7_pay1 X3) (iota .tc S256x2048 32 [1] iota_S256x2048_d1_w32) (k7_pay2 X2) (k7_pay3 X2 X3) (k7_pay4 X3)) (k7_pay6 (k7_pay1 X3) (iota .tc S256x2048 32 [1] iota_S256x2048_d1_w32)) (k7_pay7 (k7_pay2 X2))) (k7_pay9 (k7_pay1 X3))

/-- What the body stores, from what it loads. -/
def tail7 (X2 : S1x256x32.Idx → Elt F .f32) (X3 : S1x256x32.Idx → Elt F .i32) (X4 : S1x2048x512.Idx → Elt F .bf16) (X5 : S1x256x512.Idx → Elt F .f32) (X6 : S512x1024.Idx → Elt F .bf16) (X7 : S1x1024.Idx → Elt F .f32) (X8 : S1024x512.Idx → Elt F .bf16) (X9 : S1x512.Idx → Elt F .f32) (X10 : S1x512.Idx → Elt F .f32) (X11 : S1x512.Idx → Elt F .f32) (X12 : S512x512.Idx → Elt F .bf16) (X13 : S1x512.Idx → Elt F .f32) (X14 : S512x512.Idx → Elt F .bf16) (X15 : S1x512.Idx → Elt F .f32) : S1x256x512.Idx → Elt F .f32 :=
  k7_pay15
    (k7_pay13 (k7_pay1 X3) (iota .tc S256x2048 32 [1] iota_S256x2048_d1_w32) (k7_pay2 X2) (acc7 X2 X3) (k7_pay11 (k7_pay1 X3) (iota .tc S256x2048 32 [1] iota_S256x2048_d1_w32)) (k7_pay12 (k7_pay2 X2)) X4 X5 X6 X7 X8 X9)
    (k7_pay14 (k7_pay1 X3) (iota .tc S256x2048 32 [1] iota_S256x2048_d1_w32) (k7_pay2 X2) (acc7 X2 X3) (k7_pay11 (k7_pay1 X3) (iota .tc S256x2048 32 [1] iota_S256x2048_d1_w32)) (k7_pay12 (k7_pay2 X2)) X4 X5 X6 X7 X8 X9)
    X10 X11 X12 X13 X14 X15

/-- The body's run. -/
theorem run7 (c : Dev nD) (i : grid7.Coords) (M2 : Memref sig .tc .vmem S1x256x32 .f32) (h2 : M2.IsWhole) (M3 : Memref sig .tc .vmem S1x256x32 .i32) (h3 : M3.IsWhole) (M4 : Memref sig .tc .vmem S1x2048x512 .bf16) (h4 : M4.IsWhole) (M5 : Memref sig .tc .vmem S1x256x512 .f32) (h5 : M5.IsWhole) (M6 : Memref sig .tc .vmem S512x1024 .bf16) (h6 : M6.IsWhole) (M7 : Memref sig .tc .vmem S1x1024 .f32) (h7 : M7.IsWhole) (M8 : Memref sig .tc .vmem S1024x512 .bf16) (h8 : M8.IsWhole) (M9 : Memref sig .tc .vmem S1x512 .f32) (h9 : M9.IsWhole) (M10 : Memref sig .tc .vmem S1x512 .f32) (h10 : M10.IsWhole) (M11 : Memref sig .tc .vmem S1x512 .f32) (h11 : M11.IsWhole) (M12 : Memref sig .tc .vmem S512x512 .bf16) (h12 : M12.IsWhole) (M13 : Memref sig .tc .vmem S1x512 .f32) (h13 : M13.IsWhole) (M14 : Memref sig .tc .vmem S512x512 .bf16) (h14 : M14.IsWhole) (M15 : Memref sig .tc .vmem S1x512 .f32) (h15 : M15.IsWhole) (M16 : Memref sig .tc .vmem S1x256x512 .f32) (h16 : M16.IsWhole)
    (X2 : S1x256x32.Idx → Elt F .f32) (X3 : S1x256x32.Idx → Elt F .i32) (X4 : S1x2048x512.Idx → Elt F .bf16) (X5 : S1x256x512.Idx → Elt F .f32) (X6 : S512x1024.Idx → Elt F .bf16) (X7 : S1x1024.Idx → Elt F .f32) (X8 : S1024x512.Idx → Elt F .bf16) (X9 : S1x512.Idx → Elt F .f32) (X10 : S1x512.Idx → Elt F .f32) (X11 : S1x512.Idx → Elt F .f32) (X12 : S512x512.Idx → Elt F .bf16) (X13 : S1x512.Idx → Elt F .f32) (X14 : S512x512.Idx → Elt F .bf16) (X15 : S1x512.Idx → Elt F .f32) (X16 : S1x256x512.Idx → Elt F .f32) (Q : PUnit → sProp 𝕄) :
    (iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16
        ∗ ((owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare (tail7 X2 X3 X4 X5 X6 X7 X8 X9 X10 X11 X12 X13 X14 X15)) -∗ Q ⟨⟩)) : sProp 𝕄)
      ⊢ wp frame (wpE (defs₀ (F := F)) 𝒱₀ (c : Thread nD τ) none) Set.univ (cc7__tail_kernel i M2 h2 M3 h3 M4 h4 M5 h5 M6 h6 M7 h7 M8 h8 M9 h9 M10 h10 M11 h11 M12 h12 M13 h13 M14 h14 M15 h15 M16 h16) Q := by
  unfold tail7 acc7
  rw [cc7__tail_kernel_eq_skeleton]
  unfold cc7__tail_kernel_skel
  rw [k7_part1_eq_skeleton, k7_part2_eq_skeleton, k7_part3_eq_skeleton, k7_part4_eq_skeleton, k7_part5_eq_skeleton, k7_part6_eq_skeleton]
  unfold k7_part1_skel k7_part2_skel k7_part3_skel k7_part4_skel k7_part5_skel k7_part6_skel
  simp only [Prog.bind_lift, Prog.bind_op, Prog.bind_ret, Prog.pure_eq_ret]
  iintro ⟨H2, H3, H4, H5, H6, H7, H8, H9, H10, H11, H12, H13, H14, H15, H16, Hk⟩
  iapply (Mem.wp_loadW (defs := defs₀ (F := F)) 𝒱₀ (c : Thread nD τ) none Set.univ (Q := Q) (base := M2) (X := X2)) $$ H2
  iintro H2
  iapply (Mem.wp_loadW (defs := defs₀ (F := F)) 𝒱₀ (c : Thread nD τ) none Set.univ (Q := Q) (base := M3) (X := X3)) $$ H3
  iintro H3
  iapply (Mem.wp_loadW (defs := defs₀ (F := F)) 𝒱₀ (c : Thread nD τ) none Set.univ (Q := Q) (base := M4) (X := X4)) $$ H4
  iintro H4
  iapply (Mem.wp_loadW (defs := defs₀ (F := F)) 𝒱₀ (c : Thread nD τ) none Set.univ (Q := Q) (base := M5) (X := X5)) $$ H5
  iintro H5
  iapply (Mem.wp_loadW (defs := defs₀ (F := F)) 𝒱₀ (c : Thread nD τ) none Set.univ (Q := Q) (base := M6) (X := X6)) $$ H6
  iintro H6
  iapply (Mem.wp_loadW (defs := defs₀ (F := F)) 𝒱₀ (c : Thread nD τ) none Set.univ (Q := Q) (base := M7) (X := X7)) $$ H7
  iintro H7
  iapply (Mem.wp_loadW (defs := defs₀ (F := F)) 𝒱₀ (c : Thread nD τ) none Set.univ (Q := Q) (base := M8) (X := X8)) $$ H8
  iintro H8
  iapply (Mem.wp_loadW (defs := defs₀ (F := F)) 𝒱₀ (c : Thread nD τ) none Set.univ (Q := Q) (base := M9) (X := X9)) $$ H9
  iintro H9
  iapply (Mem.wp_loadW (defs := defs₀ (F := F)) 𝒱₀ (c : Thread nD τ) none Set.univ (Q := Q) (base := M10) (X := X10)) $$ H10
  iintro H10
  iapply (Mem.wp_loadW (defs := defs₀ (F := F)) 𝒱₀ (c : Thread nD τ) none Set.univ (Q := Q) (base := M11) (X := X11)) $$ H11
  iintro H11
  iapply (Mem.wp_loadW (defs := defs₀ (F := F)) 𝒱₀ (c : Thread nD τ) none Set.univ (Q := Q) (base := M12) (X := X12)) $$ H12
  iintro H12
  iapply (Mem.wp_loadW (defs := defs₀ (F := F)) 𝒱₀ (c : Thread nD τ) none Set.univ (Q := Q) (base := M13) (X := X13)) $$ H13
  iintro H13
  iapply (Mem.wp_loadW (defs := defs₀ (F := F)) 𝒱₀ (c : Thread nD τ) none Set.univ (Q := Q) (base := M14) (X := X14)) $$ H14
  iintro H14
  iapply (Mem.wp_loadW (defs := defs₀ (F := F)) 𝒱₀ (c : Thread nD τ) none Set.univ (Q := Q) (base := M15) (X := X15)) $$ H15
  iintro H15
  iapply (Mem.wp_loadW (defs := defs₀ (F := F)) 𝒱₀ (c : Thread nD τ) none Set.univ (Q := Q) (base := M16) (X := X16)) $$ H16
  iintro H16
  iapply (Mem.wp_storeW (defs := defs₀ (F := F)) 𝒱₀ (c : Thread nD τ) none Set.univ (Q := Q) (base := M16) (X := X16)) $$ H16
  iintro H16
  rw [wp_ret]
  imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The proof data of the call, entered at `V`. -/
def dat7 (n : ℕ) (V : Valuation τ sig (Elt F)) (c : Dev nD) : Dat τ (Elt F) (HIx 4) ℕ UU ℕ cfg7 c :=
  mkDat 4 n c V fun w t => match w with
    | ⟨0, _⟩ => iblk 4 V 0 t
    | ⟨1, _⟩ => iblk 4 V 1 t
    | ⟨2, _⟩ => iblk 4 V 2 t
    | ⟨3, _⟩ => iblk 4 V 3 t
    | ⟨4, _⟩ => iblk 4 V 4 t
    | ⟨5, _⟩ => iblk 4 V 5 t
    | ⟨6, _⟩ => iblk 4 V 6 t
    | ⟨7, _⟩ => iblk 4 V 7 t
    | ⟨8, _⟩ => iblk 4 V 8 t
    | ⟨9, _⟩ => iblk 4 V 9 t
    | ⟨10, _⟩ => iblk 4 V 10 t
    | ⟨11, _⟩ => iblk 4 V 11 t
    | ⟨12, _⟩ => iblk 4 V 12 t
    | ⟨13, _⟩ => iblk 4 V 13 t
    | ⟨14, _⟩ => tail7 (iblk 4 V 0 t) (iblk 4 V 1 t) (iblk 4 V 2 t) (iblk 4 V 3 t) (iblk 4 V 4 t) (iblk 4 V 5 t) (iblk 4 V 6 t) (iblk 4 V 7 t) (iblk 4 V 8 t) (iblk 4 V 9 t) (iblk 4 V 10 t) (iblk 4 V 11 t) (iblk 4 V 12 t) (iblk 4 V 13 t)

theorem before7_0 (n : ℕ) (V : Valuation τ sig (Elt F)) (c : Dev nD) (t) (d) : (dat7 n V c).before 0 t d = iblk 4 V 0 t :=
  ((dat7 n V c).before_in_eq_fetched 0 rfl (fun _ => rfl) (fun _ _ _ => rfl) (fun _ => rfl) t d).trans rfl
theorem before7_1 (n : ℕ) (V : Valuation τ sig (Elt F)) (c : Dev nD) (t) (d) : (dat7 n V c).before 1 t d = iblk 4 V 1 t :=
  ((dat7 n V c).before_in_eq_fetched 1 rfl (fun _ => rfl) (fun _ _ _ => rfl) (fun _ => rfl) t d).trans rfl
theorem before7_2 (n : ℕ) (V : Valuation τ sig (Elt F)) (c : Dev nD) (t) (d) : (dat7 n V c).before 2 t d = iblk 4 V 2 t :=
  ((dat7 n V c).before_in_eq_fetched 2 rfl (fun _ => rfl) (fun _ _ _ => rfl) (fun _ => rfl) t d).trans rfl
theorem before7_3 (n : ℕ) (V : Valuation τ sig (Elt F)) (c : Dev nD) (t) (d) : (dat7 n V c).before 3 t d = iblk 4 V 3 t :=
  ((dat7 n V c).before_in_eq_fetched 3 rfl (fun _ => rfl) (fun _ _ _ => rfl) (fun _ => rfl) t d).trans rfl
theorem before7_4 (n : ℕ) (V : Valuation τ sig (Elt F)) (c : Dev nD) (t) (d) : (dat7 n V c).before 4 t d = iblk 4 V 4 t :=
  ((dat7 n V c).before_in_eq_fetched 4 rfl (fun _ => rfl) (fun _ _ _ => rfl) (fun _ => rfl) t d).trans rfl
theorem before7_5 (n : ℕ) (V : Valuation τ sig (Elt F)) (c : Dev nD) (t) (d) : (dat7 n V c).before 5 t d = iblk 4 V 5 t :=
  ((dat7 n V c).before_in_eq_fetched 5 rfl (fun _ => rfl) (fun _ _ _ => rfl) (fun _ => rfl) t d).trans rfl
theorem before7_6 (n : ℕ) (V : Valuation τ sig (Elt F)) (c : Dev nD) (t) (d) : (dat7 n V c).before 6 t d = iblk 4 V 6 t :=
  ((dat7 n V c).before_in_eq_fetched 6 rfl (fun _ => rfl) (fun _ _ _ => rfl) (fun _ => rfl) t d).trans rfl
theorem before7_7 (n : ℕ) (V : Valuation τ sig (Elt F)) (c : Dev nD) (t) (d) : (dat7 n V c).before 7 t d = iblk 4 V 7 t :=
  ((dat7 n V c).before_in_eq_fetched 7 rfl (fun _ => rfl) (fun _ _ _ => rfl) (fun _ => rfl) t d).trans rfl
theorem before7_8 (n : ℕ) (V : Valuation τ sig (Elt F)) (c : Dev nD) (t) (d) : (dat7 n V c).before 8 t d = iblk 4 V 8 t :=
  ((dat7 n V c).before_in_eq_fetched 8 rfl (fun _ => rfl) (fun _ _ _ => rfl) (fun _ => rfl) t d).trans rfl
theorem before7_9 (n : ℕ) (V : Valuation τ sig (Elt F)) (c : Dev nD) (t) (d) : (dat7 n V c).before 9 t d = iblk 4 V 9 t :=
  ((dat7 n V c).before_in_eq_fetched 9 rfl (fun _ => rfl) (fun _ _ _ => rfl) (fun _ => rfl) t d).trans rfl
theorem before7_10 (n : ℕ) (V : Valuation τ sig (Elt F)) (c : Dev nD) (t) (d) : (dat7 n V c).before 10 t d = iblk 4 V 10 t :=
  ((dat7 n V c).before_in_eq_fetched 10 rfl (fun _ => rfl) (fun _ _ _ => rfl) (fun _ => rfl) t d).trans rfl
theorem before7_11 (n : ℕ) (V : Valuation τ sig (Elt F)) (c : Dev nD) (t) (d) : (dat7 n V c).before 11 t d = iblk 4 V 11 t :=
  ((dat7 n V c).before_in_eq_fetched 11 rfl (fun _ => rfl) (fun _ _ _ => rfl) (fun _ => rfl) t d).trans rfl
theorem before7_12 (n : ℕ) (V : Valuation τ sig (Elt F)) (c : Dev nD) (t) (d) : (dat7 n V c).before 12 t d = iblk 4 V 12 t :=
  ((dat7 n V c).before_in_eq_fetched 12 rfl (fun _ => rfl) (fun _ _ _ => rfl) (fun _ => rfl) t d).trans rfl
theorem before7_13 (n : ℕ) (V : Valuation τ sig (Elt F)) (c : Dev nD) (t) (d) : (dat7 n V c).before 13 t d = iblk 4 V 13 t :=
  ((dat7 n V c).before_in_eq_fetched 13 rfl (fun _ => rfl) (fun _ _ _ => rfl) (fun _ => rfl) t d).trans rfl

set_option maxHeartbeats 4000000 in
theorem body7 (n : ℕ) (V : Valuation τ sig (Elt F)) (c : Dev nD) :
    BodyObligation (dat7 n V c) (defs₀ (F := F)) 𝒱₀ none Set.univ := fun t => by
  rw [bigSep_W7, bigSep_W7]
  show (iprop((dat7 n V c).Φ t.castSucc ∗ (dat7 n V c).owesAt none t.castSucc
      ∗ (∃ d, owns (c : Thread nD τ) (st7_0 t) fullShare ((dat7 n V c).before 0 t d)) ∗ (∃ d, owns (c : Thread nD τ) (st7_1 t) fullShare ((dat7 n V c).before 1 t d)) ∗ (∃ d, owns (c : Thread nD τ) (st7_2 t) fullShare ((dat7 n V c).before 2 t d)) ∗ (∃ d, owns (c : Thread nD τ) (st7_3 t) fullShare ((dat7 n V c).before 3 t d)) ∗ (∃ d, owns (c : Thread nD τ) (st7_4 t) fullShare ((dat7 n V c).before 4 t d)) ∗ (∃ d, owns (c : Thread nD τ) (st7_5 t) fullShare ((dat7 n V c).before 5 t d)) ∗ (∃ d, owns (c : Thread nD τ) (st7_6 t) fullShare ((dat7 n V c).before 6 t d)) ∗ (∃ d, owns (c : Thread nD τ) (st7_7 t) fullShare ((dat7 n V c).before 7 t d)) ∗ (∃ d, owns (c : Thread nD τ) (st7_8 t) fullShare ((dat7 n V c).before 8 t d)) ∗ (∃ d, owns (c : Thread nD τ) (st7_9 t) fullShare ((dat7 n V c).before 9 t d)) ∗ (∃ d, owns (c : Thread nD τ) (st7_10 t) fullShare ((dat7 n V c).before 10 t d)) ∗ (∃ d, owns (c : Thread nD τ) (st7_11 t) fullShare ((dat7 n V c).before 11 t d)) ∗ (∃ d, owns (c : Thread nD τ) (st7_12 t) fullShare ((dat7 n V c).before 12 t d)) ∗ (∃ d, owns (c : Thread nD τ) (st7_13 t) fullShare ((dat7 n V c).before 13 t d)) ∗ (∃ d, owns (c : Thread nD τ) (st7_14 t) fullShare ((dat7 n V c).before 14 t d))) : sProp 𝕄)
    ⊢ wp frame (wpE (defs₀ (F := F)) 𝒱₀ (c : Thread nD τ) none) Set.univ (bodyAt7 t) fun _ =>
        iprop((dat7 n V c).Φ t.castSucc ∗ (dat7 n V c).owesAt none t.castSucc
          ∗ owns (c : Thread nD τ) (st7_0 t) fullShare (iblk 4 V 0 t) ∗ owns (c : Thread nD τ) (st7_1 t) fullShare (iblk 4 V 1 t) ∗ owns (c : Thread nD τ) (st7_2 t) fullShare (iblk 4 V 2 t) ∗ owns (c : Thread nD τ) (st7_3 t) fullShare (iblk 4 V 3 t) ∗ owns (c : Thread nD τ) (st7_4 t) fullShare (iblk 4 V 4 t) ∗ owns (c : Thread nD τ) (st7_5 t) fullShare (iblk 4 V 5 t) ∗ owns (c : Thread nD τ) (st7_6 t) fullShare (iblk 4 V 6 t) ∗ owns (c : Thread nD τ) (st7_7 t) fullShare (iblk 4 V 7 t) ∗ owns (c : Thread nD τ) (st7_8 t) fullShare (iblk 4 V 8 t) ∗ owns (c : Thread nD τ) (st7_9 t) fullShare (iblk 4 V 9 t) ∗ owns (c : Thread nD τ) (st7_10 t) fullShare (iblk 4 V 10 t) ∗ owns (c : Thread nD τ) (st7_11 t) fullShare (iblk 4 V 11 t) ∗ owns (c : Thread nD τ) (st7_12 t) fullShare (iblk 4 V 12 t) ∗ owns (c : Thread nD τ) (st7_13 t) fullShare (iblk 4 V 13 t) ∗ owns (c : Thread nD τ) (st7_14 t) fullShare (tail7 (iblk 4 V 0 t) (iblk 4 V 1 t) (iblk 4 V 2 t) (iblk 4 V 3 t) (iblk 4 V 4 t) (iblk 4 V 5 t) (iblk 4 V 6 t) (iblk 4 V 7 t) (iblk 4 V 8 t) (iblk 4 V 9 t) (iblk 4 V 10 t) (iblk 4 V 11 t) (iblk 4 V 12 t) (iblk 4 V 13 t)))
  iintro ⟨HΦ, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [before7_0, before7_1, before7_2, before7_3, before7_4, before7_5, before7_6, before7_7, before7_8, before7_9, before7_10, before7_11, before7_12, before7_13]
  iapply (run7 c)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro H
  isplitl [HΦ]; · iexact HΦ
  isplitl [HO]; · iexact HO
  iexact H

/-- The buffers after the call. -/
def val7 (n : ℕ) (V : Valuation τ sig (Elt F)) (c : Dev nD) : Valuation τ sig (Elt F) :=
  Function.update V (Proc.devRef .tc main_v31 : DevRef τ sig) ((dat7 n V c).arrAt 14 cfg7.N)

theorem val7_off (n : ℕ) (V : Valuation τ sig (Elt F)) (c : Dev nD) (b : Ref sig .tc) (h0 : b ≠ main_v31) :
    val7 n V c (Proc.devRef .tc b) = V (Proc.devRef .tc b) := by
  unfold val7
  rw [Function.update_of_ne (fun e => h0 (Proc.devRef_injective _ e))]

theorem val7_at0 (n : ℕ) (V : Valuation τ sig (Elt F)) (c : Dev nD) :
    val7 n V c (Proc.devRef .tc main_v31) = (dat7 n V c).arrAt 14 cfg7.N := by
  unfold val7
  rw [Function.update_self]

def pd7 (n : ℕ) (V : Dev nD → Valuation τ sig (Elt F)) : Dats F := fun p => match p with
  | ⟨0, _⟩ => fun c => junkDat c
  | ⟨1, _⟩ => fun c => junkDat c
  | ⟨2, _⟩ => fun c => junkDat c
  | ⟨3, _⟩ => fun c => junkDat c
  | ⟨4, _⟩ => fun c => dat7 n (V c) c
  | ⟨5, _⟩ => fun c => junkDat c

set_option maxHeartbeats 1000000 in
theorem fin7 (n : ℕ) (V : Valuation τ sig (Elt F)) (c : Dev nD) : ∀ w : Fin cfg7.W,
    (dat7 n V c).arrAt w cfg7.N = val7 n V c (Proc.devRef .tc (Pipeline.arrRef cfg7.spec w))
  | ⟨0, _⟩ => ((dat7 n V c).arrAt_in 0 rfl _).trans (val7_off n V c main_v29 (by decide)).symm
  | ⟨1, _⟩ => ((dat7 n V c).arrAt_in 1 rfl _).trans (val7_off n V c main_v30 (by decide)).symm
  | ⟨2, _⟩ => ((dat7 n V c).arrAt_in 2 rfl _).trans (val7_off n V c main_v8_1 (by decide)).symm
  | ⟨3, _⟩ => ((dat7 n V c).arrAt_in 3 rfl _).trans (val7_off n V c main_v8_0 (by decide)).symm
  | ⟨4, _⟩ => ((dat7 n V c).arrAt_in 4 rfl _).trans (val7_off n V c main_v10 (by decide)).symm
  | ⟨5, _⟩ => ((dat7 n V c).arrAt_in 5 rfl _).trans (val7_off n V c main_v11 (by decide)).symm
  | ⟨6, _⟩ => ((dat7 n V c).arrAt_in 6 rfl _).trans (val7_off n V c main_v12 (by decide)).symm
  | ⟨7, _⟩ => ((dat7 n V c).arrAt_in 7 rfl _).trans (val7_off n V c main_v13 (by decide)).symm
  | ⟨8, _⟩ => ((dat7 n V c).arrAt_in 8 rfl _).trans (val7_off n V c main_v14 (by decide)).symm
  | ⟨9, _⟩ => ((dat7 n V c).arrAt_in 9 rfl _).trans (val7_off n V c main_v15 (by decide)).symm
  | ⟨10, _⟩ => ((dat7 n V c).arrAt_in 10 rfl _).trans (val7_off n V c main_v16 (by decide)).symm
  | ⟨11, _⟩ => ((dat7 n V c).arrAt_in 11 rfl _).trans (val7_off n V c main_v17 (by decide)).symm
  | ⟨12, _⟩ => ((dat7 n V c).arrAt_in 12 rfl _).trans (val7_off n V c main_v18 (by decide)).symm
  | ⟨13, _⟩ => ((dat7 n V c).arrAt_in 13 rfl _).trans (val7_off n V c main_v19 (by decide)).symm
  | ⟨14, _⟩ => (val7_at0 n V c).symm

set_option maxHeartbeats 1000000 in
/-- The call, run before selection call `n`. -/
theorem step7 (n : ℕ) (V : Dev nD → Valuation τ sig (Elt F)) (d : Dev nD) (Q : PUnit → sProp 𝕄) :
    iprop(levAts (K (F := F)).L (K (F := F)).lev ∗ boundary (d.tc : Thread nD τ) ∗ StableHlo.held (d.tc : Thread nD τ) (Pipeline.ucRefs τ sig) (V d)
        ∗ (K (F := F)).tcSt EH d n
        ∗ Pipeline.cellsGhost (Pipeline.pin (pcfgs (F := F)) adm) EP 4 d ∗ Pipeline.toksInit (Pipeline.pin (pcfgs (F := F)) adm) EP 4 d
        ∗ ((boundary (d.tc : Thread nD τ) ∗ StableHlo.held (d.tc : Thread nD τ) (Pipeline.ucRefs τ sig) (val7 n (V d) d) ∗ (K (F := F)).tcSt EH d n) -∗ Q ⟨⟩))
      ⊢ wp frame (wpE ((K (F := F)).defs D) 𝒱 (d.tc : Thread nD τ) none) Set.univ
          (Prog.lift (.customCall (SparseCore.inner (Pipeline.entry 4)) ())) Q := by
  refine region_step 4 launch7.to₀ (pd7 n V) n V (fun c => val7 n (V c) c) (fun c => body7 n (V c) c) (fun _ _ => rfl) (fun _ _ => rfl)
    (fun _ _ _ => rfl) ?_ (fun _ _ => rfl) (fun c w => fin7 n (V c) c w)
    (fun c b hb => val7_off n (V c) c b (fun e => hb (Finset.mem_image.mpr ⟨14, Finset.mem_univ _, e.symm⟩))) d Q
  intro c t
  have h : (dat7 n (V c) c).Φ t = Pipeline.scopedRest (cfgs 4).spec c := rfl
  exact h

end Cert.Topk
-- ==== Proof.Tail9.lean ====
/-
  The TensorCore call that finishes batch 3.
-/
module

public import proofs.«01_k».proof.Proof.RegDat

@[expose] public section

noncomputable section

namespace Cert.Topk

open Idealize.SL Idealize.ShloMosaic Cert.KernelIdeal Cert.KernelIdeal.Gen
open Idealize.ShloMosaic.SparseCore.Cfg (HIx)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds
open Idealize.ShloMosaic.TcCoe
open Idealize.ShloMosaic.Pipeline (Dat BodyObligation)

variable {F : FTy → Type} [FloatOps F]

local notation "𝕄" => MM F

/-- The matrix of weights after the first part of the columns. -/
def acc9 (X2 : S1x256x32.Idx → Elt F .f32) (X3 : S1x256x32.Idx → Elt F .i32) : FVec F S256x2048 .f32 :=
  k9_pay10 (k9_pay1 X3) (iota .tc S256x2048 32 [1] iota_S256x2048_d1_w32) (k9_pay2 X2) (k9_pay8 (k9_pay1 X3) (iota .tc S256x2048 32 [1] iota_S256x2048_d1_w32) (k9_pay2 X2) (k9_pay5 (k9_pay1 X3) (iota .tc S256x2048 32 [1] iota_S256x2048_d1_w32) (k9_pay2 X2) (k9_pay3 X2 X3) (k9_pay4 X3)) (k9_pay6 (k9_pay1 X3) (iota .tc S256x2048 32 [1] iota_S256x2048_d1_w32)) (k9_pay7 (k9_pay2 X2))) (k9_pay9 (k9_pay1 X3))

/-- What the body stores, from what it loads. -/
def tail9 (X2 : S1x256x32.Idx → Elt F .f32) (X3 : S1x256x32.Idx → Elt F .i32) (X4 : S1x2048x512.Idx → Elt F .bf16) (X5 : S1x256x512.Idx → Elt F .f32) (X6 : S512x1024.Idx → Elt F .bf16) (X7 : S1x1024.Idx → Elt F .f32) (X8 : S1024x512.Idx → Elt F .bf16) (X9 : S1x512.Idx → Elt F .f32) (X10 : S1x512.Idx → Elt F .f32) (X11 : S1x512.Idx → Elt F .f32) (X12 : S512x512.Idx → Elt F .bf16) (X13 : S1x512.Idx → Elt F .f32) (X14 : S512x512.Idx → Elt F .bf16) (X15 : S1x512.Idx → Elt F .f32) : S1x256x512.Idx → Elt F .f32 :=
  k9_pay15
    (k9_pay13 (k9_pay1 X3) (iota .tc S256x2048 32 [1] iota_S256x2048_d1_w32) (k9_pay2 X2) (acc9 X2 X3) (k9_pay11 (k9_pay1 X3) (iota .tc S256x2048 32 [1] iota_S256x2048_d1_w32)) (k9_pay12 (k9_pay2 X2)) X4 X5 X6 X7 X8 X9)
    (k9_pay14 (k9_pay1 X3) (iota .tc S256x2048 32 [1] iota_S256x2048_d1_w32) (k9_pay2 X2) (acc9 X2 X3) (k9_pay11 (k9_pay1 X3) (iota .tc S256x2048 32 [1] iota_S256x2048_d1_w32)) (k9_pay12 (k9_pay2 X2)) X4 X5 X6 X7 X8 X9)
    X10 X11 X12 X13 X14 X15

/-- The body's run. -/
theorem run9 (c : Dev nD) (i : grid9.Coords) (M2 : Memref sig .tc .vmem S1x256x32 .f32) (h2 : M2.IsWhole) (M3 : Memref sig .tc .vmem S1x256x32 .i32) (h3 : M3.IsWhole) (M4 : Memref sig .tc .vmem S1x2048x512 .bf16) (h4 : M4.IsWhole) (M5 : Memref sig .tc .vmem S1x256x512 .f32) (h5 : M5.IsWhole) (M6 : Memref sig .tc .vmem S512x1024 .bf16) (h6 : M6.IsWhole) (M7 : Memref sig .tc .vmem S1x1024 .f32) (h7 : M7.IsWhole) (M8 : Memref sig .tc .vmem S1024x512 .bf16) (h8 : M8.IsWhole) (M9 : Memref sig .tc .vmem S1x512 .f32) (h9 : M9.IsWhole) (M10 : Memref sig .tc .vmem S1x512 .f32) (h10 : M10.IsWhole) (M11 : Memref sig .tc .vmem S1x512 .f32) (h11 : M11.IsWhole) (M12 : Memref sig .tc .vmem S512x512 .bf16) (h12 : M12.IsWhole) (M13 : Memref sig .tc .vmem S1x512 .f32) (h13 : M13.IsWhole) (M14 : Memref sig .tc .vmem S512x512 .bf16) (h14 : M14.IsWhole) (M15 : Memref sig .tc .vmem S1x512 .f32) (h15 : M15.IsWhole) (M16 : Memref sig .tc .vmem S1x256x512 .f32) (h16 : M16.IsWhole)
    (X2 : S1x256x32.Idx → Elt F .f32) (X3 : S1x256x32.Idx → Elt F .i32) (X4 : S1x2048x512.Idx → Elt F .bf16) (X5 : S1x256x512.Idx → Elt F .f32) (X6 : S512x1024.Idx → Elt F .bf16) (X7 : S1x1024.Idx → Elt F .f32) (X8 : S1024x512.Idx → Elt F .bf16) (X9 : S1x512.Idx → Elt F .f32) (X10 : S1x512.Idx → Elt F .f32) (X11 : S1x512.Idx → Elt F .f32) (X12 : S512x512.Idx → Elt F .bf16) (X13 : S1x512.Idx → Elt F .f32) (X14 : S512x512.Idx → Elt F .bf16) (X15 : S1x512.Idx → Elt F .f32) (X16 : S1x256x512.Idx → Elt F .f32) (Q : PUnit → sProp 𝕄) :
    (iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16
        ∗ ((owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare (tail9 X2 X3 X4 X5 X6 X7 X8 X9 X10 X11 X12 X13 X14 X15)) -∗ Q ⟨⟩)) : sProp 𝕄)
      ⊢ wp frame (wpE (defs₀ (F := F)) 𝒱₀ (c : Thread nD τ) none) Set.univ (cc9__tail_kernel i M2 h2 M3 h3 M4 h4 M5 h5 M6 h6 M7 h7 M8 h8 M9 h9 M10 h10 M11 h11 M12 h12 M13 h13 M14 h14 M15 h15 M16 h16) Q := by
  unfold tail9 acc9
  rw [cc9__tail_kernel_eq_skeleton]
  unfold cc9__tail_kernel_skel
  rw [k9_part1_eq_skeleton, k9_part2_eq_skeleton, k9_part3_eq_skeleton, k9_part4_eq_skeleton, k9_part5_eq_skeleton, k9_part6_eq_skeleton]
  unfold k9_part1_skel k9_part2_skel k9_part3_skel k9_part4_skel k9_part5_skel k9_part6_skel
  simp only [Prog.bind_lift, Prog.bind_op, Prog.bind_ret, Prog.pure_eq_ret]
  iintro ⟨H2, H3, H4, H5, H6, H7, H8, H9, H10, H11, H12, H13, H14, H15, H16, Hk⟩
  iapply (Mem.wp_loadW (defs := defs₀ (F := F)) 𝒱₀ (c : Thread nD τ) none Set.univ (Q := Q) (base := M2) (X := X2)) $$ H2
  iintro H2
  iapply (Mem.wp_loadW (defs := defs₀ (F := F)) 𝒱₀ (c : Thread nD τ) none Set.univ (Q := Q) (base := M3) (X := X3)) $$ H3
  iintro H3
  iapply (Mem.wp_loadW (defs := defs₀ (F := F)) 𝒱₀ (c : Thread nD τ) none Set.univ (Q := Q) (base := M4) (X := X4)) $$ H4
  iintro H4
  iapply (Mem.wp_loadW (defs := defs₀ (F := F)) 𝒱₀ (c : Thread nD τ) none Set.univ (Q := Q) (base := M5) (X := X5)) $$ H5
  iintro H5
  iapply (Mem.wp_loadW (defs := defs₀ (F := F)) 𝒱₀ (c : Thread nD τ) none Set.univ (Q := Q) (base := M6) (X := X6)) $$ H6
  iintro H6
  iapply (Mem.wp_loadW (defs := defs₀ (F := F)) 𝒱₀ (c : Thread nD τ) none Set.univ (Q := Q) (base := M7) (X := X7)) $$ H7
  iintro H7
  iapply (Mem.wp_loadW (defs := defs₀ (F := F)) 𝒱₀ (c : Thread nD τ) none Set.univ (Q := Q) (base := M8) (X := X8)) $$ H8
  iintro H8
  iapply (Mem.wp_loadW (defs := defs₀ (F := F)) 𝒱₀ (c : Thread nD τ) none Set.univ (Q := Q) (base := M9) (X := X9)) $$ H9
  iintro H9
  iapply (Mem.wp_loadW (defs := defs₀ (F := F)) 𝒱₀ (c : Thread nD τ) none Set.univ (Q := Q) (base := M10) (X := X10)) $$ H10
  iintro H10
  iapply (Mem.wp_loadW (defs := defs₀ (F := F)) 𝒱₀ (c : Thread nD τ) none Set.univ (Q := Q) (base := M11) (X := X11)) $$ H11
  iintro H11
  iapply (Mem.wp_loadW (defs := defs₀ (F := F)) 𝒱₀ (c : Thread nD τ) none Set.univ (Q := Q) (base := M12) (X := X12)) $$ H12
  iintro H12
  iapply (Mem.wp_loadW (defs := defs₀ (F := F)) 𝒱₀ (c : Thread nD τ) none Set.univ (Q := Q) (base := M13) (X := X13)) $$ H13
  iintro H13
  iapply (Mem.wp_loadW (defs := defs₀ (F := F)) 𝒱₀ (c : Thread nD τ) none Set.univ (Q := Q) (base := M14) (X := X14)) $$ H14
  iintro H14
  iapply (Mem.wp_loadW (defs := defs₀ (F := F)) 𝒱₀ (c : Thread nD τ) none Set.univ (Q := Q) (base := M15) (X := X15)) $$ H15
  iintro H15
  iapply (Mem.wp_loadW (defs := defs₀ (F := F)) 𝒱₀ (c : Thread nD τ) none Set.univ (Q := Q) (base := M16) (X := X16)) $$ H16
  iintro H16
  iapply (Mem.wp_storeW (defs := defs₀ (F := F)) 𝒱₀ (c : Thread nD τ) none Set.univ (Q := Q) (base := M16) (X := X16)) $$ H16
  iintro H16
  rw [wp_ret]
  imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The proof data of the call, entered at `V`. -/
def dat9 (n : ℕ) (V : Valuation τ sig (Elt F)) (c : Dev nD) : Dat τ (Elt F) (HIx 4) ℕ UU ℕ cfg9 c :=
  mkDat 5 n c V fun w t => match w with
    | ⟨0, _⟩ => iblk 5 V 0 t
    | ⟨1, _⟩ => iblk 5 V 1 t
    | ⟨2, _⟩ => iblk 5 V 2 t
    | ⟨3, _⟩ => iblk 5 V 3 t
    | ⟨4, _⟩ => iblk 5 V 4 t
    | ⟨5, _⟩ => iblk 5 V 5 t
    | ⟨6, _⟩ => iblk 5 V 6 t
    | ⟨7, _⟩ => iblk 5 V 7 t
    | ⟨8, _⟩ => iblk 5 V 8 t
    | ⟨9, _⟩ => iblk 5 V 9 t
    | ⟨10, _⟩ => iblk 5 V 10 t
    | ⟨11, _⟩ => iblk 5 V 11 t
    | ⟨12, _⟩ => iblk 5 V 12 t
    | ⟨13, _⟩ => iblk 5 V 13 t
    | ⟨14, _⟩ => tail9 (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t) (iblk 5 V 10 t) (iblk 5 V 11 t) (iblk 5 V 12 t) (iblk 5 V 13 t)

theorem before9_0 (n : ℕ) (V : Valuation τ sig (Elt F)) (c : Dev nD) (t) (d) : (dat9 n V c).before 0 t d = iblk 5 V 0 t :=
  ((dat9 n V c).before_in_eq_fetched 0 rfl (fun _ => rfl) (fun _ _ _ => rfl) (fun _ => rfl) t d).trans rfl
theorem before9_1 (n : ℕ) (V : Valuation τ sig (Elt F)) (c : Dev nD) (t) (d) : (dat9 n V c).before 1 t d = iblk 5 V 1 t :=
  ((dat9 n V c).before_in_eq_fetched 1 rfl (fun _ => rfl) (fun _ _ _ => rfl) (fun _ => rfl) t d).trans rfl
theorem before9_2 (n : ℕ) (V : Valuation τ sig (Elt F)) (c : Dev nD) (t) (d) : (dat9 n V c).before 2 t d = iblk 5 V 2 t :=
  ((dat9 n V c).before_in_eq_fetched 2 rfl (fun _ => rfl) (fun _ _ _ => rfl) (fun _ => rfl) t d).trans rfl
theorem before9_3 (n : ℕ) (V : Valuation τ sig (Elt F)) (c : Dev nD) (t) (d) : (dat9 n V c).before 3 t d = iblk 5 V 3 t :=
  ((dat9 n V c).before_in_eq_fetched 3 rfl (fun _ => rfl) (fun _ _ _ => rfl) (fun _ => rfl) t d).trans rfl
theorem before9_4 (n : ℕ) (V : Valuation τ sig (Elt F)) (c : Dev nD) (t) (d) : (dat9 n V c).before 4 t d = iblk 5 V 4 t :=
  ((dat9 n V c).before_in_eq_fetched 4 rfl (fun _ => rfl) (fun _ _ _ => rfl) (fun _ => rfl) t d).trans rfl
theorem before9_5 (n : ℕ) (V : Valuation τ sig (Elt F)) (c : Dev nD) (t) (d) : (dat9 n V c).before 5 t d = iblk 5 V 5 t :=
  ((dat9 n V c).before_in_eq_fetched 5 rfl (fun _ => rfl) (fun _ _ _ => rfl) (fun _ => rfl) t d).trans rfl
theorem before9_6 (n : ℕ) (V : Valuation τ sig (Elt F)) (c : Dev nD) (t) (d) : (dat9 n V c).before 6 t d = iblk 5 V 6 t :=
  ((dat9 n V c).before_in_eq_fetched 6 rfl (fun _ => rfl) (fun _ _ _ => rfl) (fun _ => rfl) t d).trans rfl
theorem before9_7 (n : ℕ) (V : Valuation τ sig (Elt F)) (c : Dev nD) (t) (d) : (dat9 n V c).before 7 t d = iblk 5 V 7 t :=
  ((dat9 n V c).before_in_eq_fetched 7 rfl (fun _ => rfl) (fun _ _ _ => rfl) (fun _ => rfl) t d).trans rfl
theorem before9_8 (n : ℕ) (V : Valuation τ sig (Elt F)) (c : Dev nD) (t) (d) : (dat9 n V c).before 8 t d = iblk 5 V 8 t :=
  ((dat9 n V c).before_in_eq_fetched 8 rfl (fun _ => rfl) (fun _ _ _ => rfl) (fun _ => rfl) t d).trans rfl
theorem before9_9 (n : ℕ) (V : Valuation τ sig (Elt F)) (c : Dev nD) (t) (d) : (dat9 n V c).before 9 t d = iblk 5 V 9 t :=
  ((dat9 n V c).before_in_eq_fetched 9 rfl (fun _ => rfl) (fun _ _ _ => rfl) (fun _ => rfl) t d).trans rfl
theorem before9_10 (n : ℕ) (V : Valuation τ sig (Elt F)) (c : Dev nD) (t) (d) : (dat9 n V c).before 10 t d = iblk 5 V 10 t :=
  ((dat9 n V c).before_in_eq_fetched 10 rfl (fun _ => rfl) (fun _ _ _ => rfl) (fun _ => rfl) t d).trans rfl
theorem before9_11 (n : ℕ) (V : Valuation τ sig (Elt F)) (c : Dev nD) (t) (d) : (dat9 n V c).before 11 t d = iblk 5 V 11 t :=
  ((dat9 n V c).before_in_eq_fetched 11 rfl (fun _ => rfl) (fun _ _ _ => rfl) (fun _ => rfl) t d).trans rfl
theorem before9_12 (n : ℕ) (V : Valuation τ sig (Elt F)) (c : Dev nD) (t) (d) : (dat9 n V c).before 12 t d = iblk 5 V 12 t :=
  ((dat9 n V c).before_in_eq_fetched 12 rfl (fun _ => rfl) (fun _ _ _ => rfl) (fun _ => rfl) t d).trans rfl
theorem before9_13 (n : ℕ) (V : Valuation τ sig (Elt F)) (c : Dev nD) (t) (d) : (dat9 n V c).before 13 t d = iblk 5 V 13 t :=
  ((dat9 n V c).before_in_eq_fetched 13 rfl (fun _ => rfl) (fun _ _ _ => rfl) (fun _ => rfl) t d).trans rfl

set_option maxHeartbeats 4000000 in
theorem body9 (n : ℕ) (V : Valuation τ sig (Elt F)) (c : Dev nD) :
    BodyObligation (dat9 n V c) (defs₀ (F := F)) 𝒱₀ none Set.univ := fun t => by
  rw [bigSep_W9, bigSep_W9]
  show (iprop((dat9 n V c).Φ t.castSucc ∗ (dat9 n V c).owesAt none t.castSucc
      ∗ (∃ d, owns (c : Thread nD τ) (st9_0 t) fullShare ((dat9 n V c).before 0 t d)) ∗ (∃ d, owns (c : Thread nD τ) (st9_1 t) fullShare ((dat9 n V c).before 1 t d)) ∗ (∃ d, owns (c : Thread nD τ) (st9_2 t) fullShare ((dat9 n V c).before 2 t d)) ∗ (∃ d, owns (c : Thread nD τ) (st9_3 t) fullShare ((dat9 n V c).before 3 t d)) ∗ (∃ d, owns (c : Thread nD τ) (st9_4 t) fullShare ((dat9 n V c).before 4 t d)) ∗ (∃ d, owns (c : Thread nD τ) (st9_5 t) fullShare ((dat9 n V c).before 5 t d)) ∗ (∃ d, owns (c : Thread nD τ) (st9_6 t) fullShare ((dat9 n V c).before 6 t d)) ∗ (∃ d, owns (c : Thread nD τ) (st9_7 t) fullShare ((dat9 n V c).before 7 t d)) ∗ (∃ d, owns (c : Thread nD τ) (st9_8 t) fullShare ((dat9 n V c).before 8 t d)) ∗ (∃ d, owns (c : Thread nD τ) (st9_9 t) fullShare ((dat9 n V c).before 9 t d)) ∗ (∃ d, owns (c : Thread nD τ) (st9_10 t) fullShare ((dat9 n V c).before 10 t d)) ∗ (∃ d, owns (c : Thread nD τ) (st9_11 t) fullShare ((dat9 n V c).before 11 t d)) ∗ (∃ d, owns (c : Thread nD τ) (st9_12 t) fullShare ((dat9 n V c).before 12 t d)) ∗ (∃ d, owns (c : Thread nD τ) (st9_13 t) fullShare ((dat9 n V c).before 13 t d)) ∗ (∃ d, owns (c : Thread nD τ) (st9_14 t) fullShare ((dat9 n V c).before 14 t d))) : sProp 𝕄)
    ⊢ wp frame (wpE (defs₀ (F := F)) 𝒱₀ (c : Thread nD τ) none) Set.univ (bodyAt9 t) fun _ =>
        iprop((dat9 n V c).Φ t.castSucc ∗ (dat9 n V c).owesAt none t.castSucc
          ∗ owns (c : Thread nD τ) (st9_0 t) fullShare (iblk 5 V 0 t) ∗ owns (c : Thread nD τ) (st9_1 t) fullShare (iblk 5 V 1 t) ∗ owns (c : Thread nD τ) (st9_2 t) fullShare (iblk 5 V 2 t) ∗ owns (c : Thread nD τ) (st9_3 t) fullShare (iblk 5 V 3 t) ∗ owns (c : Thread nD τ) (st9_4 t) fullShare (iblk 5 V 4 t) ∗ owns (c : Thread nD τ) (st9_5 t) fullShare (iblk 5 V 5 t) ∗ owns (c : Thread nD τ) (st9_6 t) fullShare (iblk 5 V 6 t) ∗ owns (c : Thread nD τ) (st9_7 t) fullShare (iblk 5 V 7 t) ∗ owns (c : Thread nD τ) (st9_8 t) fullShare (iblk 5 V 8 t) ∗ owns (c : Thread nD τ) (st9_9 t) fullShare (iblk 5 V 9 t) ∗ owns (c : Thread nD τ) (st9_10 t) fullShare (iblk 5 V 10 t) ∗ owns (c : Thread nD τ) (st9_11 t) fullShare (iblk 5 V 11 t) ∗ owns (c : Thread nD τ) (st9_12 t) fullShare (iblk 5 V 12 t) ∗ owns (c : Thread nD τ) (st9_13 t) fullShare (iblk 5 V 13 t) ∗ owns (c : Thread nD τ) (st9_14 t) fullShare (tail9 (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t) (iblk 5 V 10 t) (iblk 5 V 11 t) (iblk 5 V 12 t) (iblk 5 V 13 t)))
  iintro ⟨HΦ, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [before9_0, before9_1, before9_2, before9_3, before9_4, before9_5, before9_6, before9_7, before9_8, before9_9, before9_10, before9_11, before9_12, before9_13]
  iapply (run9 c)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro H
  isplitl [HΦ]; · iexact HΦ
  isplitl [HO]; · iexact HO
  iexact H

/-- The buffers after the call. -/
def val9 (n : ℕ) (V : Valuation τ sig (Elt F)) (c : Dev nD) : Valuation τ sig (Elt F) :=
  Function.update V (Proc.devRef .tc main_v35 : DevRef τ sig) ((dat9 n V c).arrAt 14 cfg9.N)

theorem val9_off (n : ℕ) (V : Valuation τ sig (Elt F)) (c : Dev nD) (b : Ref sig .tc) (h0 : b ≠ main_v35) :
    val9 n V c (Proc.devRef .tc b) = V (Proc.devRef .tc b) := by
  unfold val9
  rw [Function.update_of_ne (fun e => h0 (Proc.devRef_injective _ e))]

theorem val9_at0 (n : ℕ) (V : Valuation τ sig (Elt F)) (c : Dev nD) :
    val9 n V c (Proc.devRef .tc main_v35) = (dat9 n V c).arrAt 14 cfg9.N := by
  unfold val9
  rw [Function.update_self]

def pd9 (n : ℕ) (V : Dev nD → Valuation τ sig (Elt F)) : Dats F := fun p => match p with
  | ⟨0, _⟩ => fun c => junkDat c
  | ⟨1, _⟩ => fun c => junkDat c
  | ⟨2, _⟩ => fun c => junkDat c
  | ⟨3, _⟩ => fun c => junkDat c
  | ⟨4, _⟩ => fun c => junkDat c
  | ⟨5, _⟩ => fun c => dat9 n (V c) c

set_option maxHeartbeats 1000000 in
theorem fin9 (n : ℕ) (V : Valuation τ sig (Elt F)) (c : Dev nD) : ∀ w : Fin cfg9.W,
    (dat9 n V c).arrAt w cfg9.N = val9 n V c (Proc.devRef .tc (Pipeline.arrRef cfg9.spec w))
  | ⟨0, _⟩ => ((dat9 n V c).arrAt_in 0 rfl _).trans (val9_off n V c main_v33 (by decide)).symm
  | ⟨1, _⟩ => ((dat9 n V c).arrAt_in 1 rfl _).trans (val9_off n V c main_v34 (by decide)).symm
  | ⟨2, _⟩ => ((dat9 n V c).arrAt_in 2 rfl _).trans (val9_off n V c main_v8_1 (by decide)).symm
  | ⟨3, _⟩ => ((dat9 n V c).arrAt_in 3 rfl _).trans (val9_off n V c main_v8_0 (by decide)).symm
  | ⟨4, _⟩ => ((dat9 n V c).arrAt_in 4 rfl _).trans (val9_off n V c main_v10 (by decide)).symm
  | ⟨5, _⟩ => ((dat9 n V c).arrAt_in 5 rfl _).trans (val9_off n V c main_v11 (by decide)).symm
  | ⟨6, _⟩ => ((dat9 n V c).arrAt_in 6 rfl _).trans (val9_off n V c main_v12 (by decide)).symm
  | ⟨7, _⟩ => ((dat9 n V c).arrAt_in 7 rfl _).trans (val9_off n V c main_v13 (by decide)).symm
  | ⟨8, _⟩ => ((dat9 n V c).arrAt_in 8 rfl _).trans (val9_off n V c main_v14 (by decide)).symm
  | ⟨9, _⟩ => ((dat9 n V c).arrAt_in 9 rfl _).trans (val9_off n V c main_v15 (by decide)).symm
  | ⟨10, _⟩ => ((dat9 n V c).arrAt_in 10 rfl _).trans (val9_off n V c main_v16 (by decide)).symm
  | ⟨11, _⟩ => ((dat9 n V c).arrAt_in 11 rfl _).trans (val9_off n V c main_v17 (by decide)).symm
  | ⟨12, _⟩ => ((dat9 n V c).arrAt_in 12 rfl _).trans (val9_off n V c main_v18 (by decide)).symm
  | ⟨13, _⟩ => ((dat9 n V c).arrAt_in 13 rfl _).trans (val9_off n V c main_v19 (by decide)).symm
  | ⟨14, _⟩ => (val9_at0 n V c).symm

set_option maxHeartbeats 1000000 in
/-- The call, run before selection call `n`. -/
theorem step9 (n : ℕ) (V : Dev nD → Valuation τ sig (Elt F)) (d : Dev nD) (Q : PUnit → sProp 𝕄) :
    iprop(levAts (K (F := F)).L (K (F := F)).lev ∗ boundary (d.tc : Thread nD τ) ∗ StableHlo.held (d.tc : Thread nD τ) (Pipeline.ucRefs τ sig) (V d)
        ∗ (K (F := F)).tcSt EH d n
        ∗ Pipeline.cellsGhost (Pipeline.pin (pcfgs (F := F)) adm) EP 5 d ∗ Pipeline.toksInit (Pipeline.pin (pcfgs (F := F)) adm) EP 5 d
        ∗ ((boundary (d.tc : Thread nD τ) ∗ StableHlo.held (d.tc : Thread nD τ) (Pipeline.ucRefs τ sig) (val9 n (V d) d) ∗ (K (F := F)).tcSt EH d n) -∗ Q ⟨⟩))
      ⊢ wp frame (wpE ((K (F := F)).defs D) 𝒱 (d.tc : Thread nD τ) none) Set.univ
          (Prog.lift (.customCall (SparseCore.inner (Pipeline.entry 5)) ())) Q := by
  refine region_step 5 launch9.to₀ (pd9 n V) n V (fun c => val9 n (V c) c) (fun c => body9 n (V c) c) (fun _ _ => rfl) (fun _ _ => rfl)
    (fun _ _ _ => rfl) ?_ (fun _ _ => rfl) (fun c w => fin9 n (V c) c w)
    (fun c b hb => val9_off n (V c) c b (fun e => hb (Finset.mem_image.mpr ⟨14, Finset.mem_univ _, e.symm⟩))) d Q
  intro c t
  have h : (dat9 n (V c) c).Φ t = Pipeline.scopedRest (cfgs 5).spec c := rfl
  exact h

end Cert.Topk
-- ==== Proof.Host.lean ====
/-
  @main, in stretches of host operations and calls, and what its buffers hold after each.
-/
module

public import proofs.«01_k».proof.Proof.ScStep
public import proofs.«01_k».proof.Proof.Prep
public import proofs.«01_k».proof.Proof.Dist
public import proofs.«01_k».proof.Proof.Tail3
public import proofs.«01_k».proof.Proof.Tail5
public import proofs.«01_k».proof.Proof.Tail7
public import proofs.«01_k».proof.Proof.Tail9

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay)
open Idealize.SL.BI (sProp)
open scoped Idealize.SL.BI
open Idealize.SL.BI Idealize.SL.BI.BIBase Idealize.SL.BI.Laws Idealize.SL.Sem Idealize.SL.ProofMode
open Idealize.SL.RA Idealize.ShloMosaic.ValueIdx

variable {F : FTy → Type} [FloatOps F]
local notation "𝕄" => MM F

theorem sub_uc (op : HloOp τ sig (Elt F)) (h : op.bufs ⊆ StableHlo.tcRefs τ sig) : op.bufs ⊆ Pipeline.ucRefs τ sig := fun _ hb =>
  Finset.mem_filter.mpr ⟨h hb, by rw [op.no_scoped _ hb]; exact Bool.false_ne_true⟩

/-- Before the first call: the row norms, the normalised embeddings, the projection's operands. -/
def ops0 : List (HloOp τ sig (Elt F)) :=
  [ StableHlo.binary main_arg0 main_arg0 main_call0_v0 (mulf : (⟨S4x2048x1024, .f32⟩ : BufTy).Contents (Elt F) → (⟨S4x2048x1024, .f32⟩ : BufTy).Contents (Elt F) → (⟨S4x2048x1024, .f32⟩ : BufTy).Contents (Elt F)),
    StableHlo.nullary main_call0_cst (constant S_ .f32 0x00000000#32),
    StableHlo.binary main_call0_v0 main_call0_cst main_call0_v1 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    StableHlo.unary main_call0_v1 main_call0_v2 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_call0_v2 main_v0 (Host.sqrt : (⟨S4x2048x1, .f32⟩ : BufTy).Contents (Elt F) → (⟨S4x2048x1, .f32⟩ : BufTy).Contents (Elt F)),
    StableHlo.nullary main_cst (constant S_ .f32 0x322BCC77#32),
    StableHlo.unary main_cst main_v1 (broadcastInDim S4x2048x1 ![] bcast_S_S4x2048x1 : (⟨S_, .f32⟩ : BufTy).Contents (Elt F) → (⟨S4x2048x1, .f32⟩ : BufTy).Contents (Elt F)),
    StableHlo.binary main_v0 main_v1 main_v2 (addf : (⟨S4x2048x1, .f32⟩ : BufTy).Contents (Elt F) → (⟨S4x2048x1, .f32⟩ : BufTy).Contents (Elt F) → (⟨S4x2048x1, .f32⟩ : BufTy).Contents (Elt F)),
    StableHlo.unary main_v2 main_v3 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    StableHlo.binary main_arg0 main_v3 main_v4 (Host.divf : (⟨S4x2048x1024, .f32⟩ : BufTy).Contents (Elt F) → (⟨S4x2048x1024, .f32⟩ : BufTy).Contents (Elt F) → (⟨S4x2048x1024, .f32⟩ : BufTy).Contents (Elt F)),
    StableHlo.unary main_v4 main_v5 ((truncf .bf16 · bitsLt_bf16_f32) : (⟨S4x2048x1024, .f32⟩ : BufTy).Contents (Elt F) → (⟨S4x2048x1024, .bf16⟩ : BufTy).Contents (Elt F)),
    StableHlo.unary main_arg1 main_v6 ((truncf .bf16 · bitsLt_bf16_f32) : (⟨S1024x512, .f32⟩ : BufTy).Contents (Elt F) → (⟨S1024x512, .bf16⟩ : BufTy).Contents (Elt F)),
    StableHlo.reshape main_arg2 main_v7 (rfl : (.f32 : EltTy) = .f32) shapeCasts_S512_S1x512 ]

abbrev ops0W : List (Ref sig .tc) := [main_call0_v0, main_call0_cst, main_call0_v1, main_call0_v2, main_v0, main_cst, main_v1, main_v2, main_v3, main_v4, main_v5, main_v6, main_v7]

theorem ops0_sub : ∀ op ∈ (ops0 (F := F)), op.bufs ⊆ Pipeline.ucRefs τ sig := by
  intro op h; unfold ops0 at h; fin_cases h <;> exact sub_uc _ (by simp)

theorem ops0_fresh : ∀ op ∈ (ops0 (F := F)), op.fresh = ∅ := by
  intro op h; unfold ops0 at h; fin_cases h <;> rfl

theorem ops0_off (V : Valuation τ sig (Elt F)) (b : Ref sig .tc) (hb : b ∉ ops0W) :
    StableHlo.after ops0 V (Proc.devRef .tc b) = V (Proc.devRef .tc b) := by
  refine StableHlo.after_of_writes_sub ops0 V ?_ hb
  unfold ops0
  simp only [List.Forall]
  refine ⟨?_, ?_, ?_, ?_, ?_, ?_, ?_, ?_, ?_, ?_, ?_, ?_, ?_⟩ <;> exact Finset.singleton_subset_iff.mpr (by simp [List.mem_toFinset])

/-- The last call's parameters. -/
def ops1 : List (HloOp τ sig (Elt F)) :=
  [ StableHlo.unary main_arg3 main_v10 ((truncf .bf16 · bitsLt_bf16_f32) : (⟨S512x1024, .f32⟩ : BufTy).Contents (Elt F) → (⟨S512x1024, .bf16⟩ : BufTy).Contents (Elt F)),
    StableHlo.reshape main_arg4 main_v11 (rfl : (.f32 : EltTy) = .f32) shapeCasts_S1024_S1x1024,
    StableHlo.unary main_arg5 main_v12 ((truncf .bf16 · bitsLt_bf16_f32) : (⟨S1024x512, .f32⟩ : BufTy).Contents (Elt F) → (⟨S1024x512, .bf16⟩ : BufTy).Contents (Elt F)),
    StableHlo.reshape main_arg6 main_v13 (rfl : (.f32 : EltTy) = .f32) shapeCasts_S512_S1x512,
    StableHlo.reshape main_arg7 main_v14 (rfl : (.f32 : EltTy) = .f32) shapeCasts_S512_S1x512,
    StableHlo.reshape main_arg8 main_v15 (rfl : (.f32 : EltTy) = .f32) shapeCasts_S512_S1x512,
    StableHlo.unary main_arg9 main_v16 ((truncf .bf16 · bitsLt_bf16_f32) : (⟨S512x512, .f32⟩ : BufTy).Contents (Elt F) → (⟨S512x512, .bf16⟩ : BufTy).Contents (Elt F)),
    StableHlo.reshape main_arg10 main_v17 (rfl : (.f32 : EltTy) = .f32) shapeCasts_S512_S1x512,
    StableHlo.unary main_arg11 main_v18 ((truncf .bf16 · bitsLt_bf16_f32) : (⟨S512x512, .f32⟩ : BufTy).Contents (Elt F) → (⟨S512x512, .bf16⟩ : BufTy).Contents (Elt F)),
    StableHlo.reshape main_arg12 main_v19 (rfl : (.f32 : EltTy) = .f32) shapeCasts_S512_S1x512 ]

abbrev ops1W : List (Ref sig .tc) := [main_v10, main_v11, main_v12, main_v13, main_v14, main_v15, main_v16, main_v17, main_v18, main_v19]

theorem ops1_sub : ∀ op ∈ (ops1 (F := F)), op.bufs ⊆ Pipeline.ucRefs τ sig := by
  intro op h; unfold ops1 at h; fin_cases h <;> exact sub_uc _ (by simp)

theorem ops1_fresh : ∀ op ∈ (ops1 (F := F)), op.fresh = ∅ := by
  intro op h; unfold ops1 at h; fin_cases h <;> rfl

theorem ops1_off (V : Valuation τ sig (Elt F)) (b : Ref sig .tc) (hb : b ∉ ops1W) :
    StableHlo.after ops1 V (Proc.devRef .tc b) = V (Proc.devRef .tc b) := by
  refine StableHlo.after_of_writes_sub ops1 V ?_ hb
  unfold ops1
  simp only [List.Forall]
  refine ⟨?_, ?_, ?_, ?_, ?_, ?_, ?_, ?_, ?_, ?_⟩ <;> exact Finset.singleton_subset_iff.mpr (by simp [List.mem_toFinset])

/-- A selection call's results, reshaped. -/
def opsR0 : List (HloOp τ sig (Elt F)) :=
  [ StableHlo.reshape main_v20_0 main_v21 (rfl : (.f32 : EltTy) = .f32) shapeCasts_S65536_S1x2048x32,
    StableHlo.reshape main_v20_1 main_v22 (rfl : (.i32 : EltTy) = .i32) shapeCasts_S65536_S1x2048x32 ]

abbrev opsR0W : List (Ref sig .tc) := [main_v21, main_v22]

theorem opsR0_sub : ∀ op ∈ (opsR0 (F := F)), op.bufs ⊆ Pipeline.ucRefs τ sig := by
  intro op h; unfold opsR0 at h; fin_cases h <;> exact sub_uc _ (by simp)

theorem opsR0_fresh : ∀ op ∈ (opsR0 (F := F)), op.fresh = ∅ := by
  intro op h; unfold opsR0 at h; fin_cases h <;> rfl

theorem opsR0_off (V : Valuation τ sig (Elt F)) (b : Ref sig .tc) (hb : b ∉ opsR0W) :
    StableHlo.after opsR0 V (Proc.devRef .tc b) = V (Proc.devRef .tc b) := by
  refine StableHlo.after_of_writes_sub opsR0 V ?_ hb
  unfold opsR0
  simp only [List.Forall]
  refine ⟨?_, ?_⟩ <;> exact Finset.singleton_subset_iff.mpr (by simp [List.mem_toFinset])

/-- A selection call's results, reshaped. -/
def opsR1 : List (HloOp τ sig (Elt F)) :=
  [ StableHlo.reshape main_v24_0 main_v25 (rfl : (.f32 : EltTy) = .f32) shapeCasts_S65536_S1x2048x32,
    StableHlo.reshape main_v24_1 main_v26 (rfl : (.i32 : EltTy) = .i32) shapeCasts_S65536_S1x2048x32 ]

abbrev opsR1W : List (Ref sig .tc) := [main_v25, main_v26]

theorem opsR1_sub : ∀ op ∈ (opsR1 (F := F)), op.bufs ⊆ Pipeline.ucRefs τ sig := by
  intro op h; unfold opsR1 at h; fin_cases h <;> exact sub_uc _ (by simp)

theorem opsR1_fresh : ∀ op ∈ (opsR1 (F := F)), op.fresh = ∅ := by
  intro op h; unfold opsR1 at h; fin_cases h <;> rfl

theorem opsR1_off (V : Valuation τ sig (Elt F)) (b : Ref sig .tc) (hb : b ∉ opsR1W) :
    StableHlo.after opsR1 V (Proc.devRef .tc b) = V (Proc.devRef .tc b) := by
  refine StableHlo.after_of_writes_sub opsR1 V ?_ hb
  unfold opsR1
  simp only [List.Forall]
  refine ⟨?_, ?_⟩ <;> exact Finset.singleton_subset_iff.mpr (by simp [List.mem_toFinset])

/-- A selection call's results, reshaped. -/
def opsR2 : List (HloOp τ sig (Elt F)) :=
  [ StableHlo.reshape main_v28_0 main_v29 (rfl : (.f32 : EltTy) = .f32) shapeCasts_S65536_S1x2048x32,
    StableHlo.reshape main_v28_1 main_v30 (rfl : (.i32 : EltTy) = .i32) shapeCasts_S65536_S1x2048x32 ]

abbrev opsR2W : List (Ref sig .tc) := [main_v29, main_v30]

theorem opsR2_sub : ∀ op ∈ (opsR2 (F := F)), op.bufs ⊆ Pipeline.ucRefs τ sig := by
  intro op h; unfold opsR2 at h; fin_cases h <;> exact sub_uc _ (by simp)

theorem opsR2_fresh : ∀ op ∈ (opsR2 (F := F)), op.fresh = ∅ := by
  intro op h; unfold opsR2 at h; fin_cases h <;> rfl

theorem opsR2_off (V : Valuation τ sig (Elt F)) (b : Ref sig .tc) (hb : b ∉ opsR2W) :
    StableHlo.after opsR2 V (Proc.devRef .tc b) = V (Proc.devRef .tc b) := by
  refine StableHlo.after_of_writes_sub opsR2 V ?_ hb
  unfold opsR2
  simp only [List.Forall]
  refine ⟨?_, ?_⟩ <;> exact Finset.singleton_subset_iff.mpr (by simp [List.mem_toFinset])

/-- A selection call's results, reshaped. -/
def opsR3 : List (HloOp τ sig (Elt F)) :=
  [ StableHlo.reshape main_v32_0 main_v33 (rfl : (.f32 : EltTy) = .f32) shapeCasts_S65536_S1x2048x32,
    StableHlo.reshape main_v32_1 main_v34 (rfl : (.i32 : EltTy) = .i32) shapeCasts_S65536_S1x2048x32 ]

abbrev opsR3W : List (Ref sig .tc) := [main_v33, main_v34]

theorem opsR3_sub : ∀ op ∈ (opsR3 (F := F)), op.bufs ⊆ Pipeline.ucRefs τ sig := by
  intro op h; unfold opsR3 at h; fin_cases h <;> exact sub_uc _ (by simp)

theorem opsR3_fresh : ∀ op ∈ (opsR3 (F := F)), op.fresh = ∅ := by
  intro op h; unfold opsR3 at h; fin_cases h <;> rfl

theorem opsR3_off (V : Valuation τ sig (Elt F)) (b : Ref sig .tc) (hb : b ∉ opsR3W) :
    StableHlo.after opsR3 V (Proc.devRef .tc b) = V (Proc.devRef .tc b) := by
  refine StableHlo.after_of_writes_sub opsR3 V ?_ hb
  unfold opsR3
  simp only [List.Forall]
  refine ⟨?_, ?_⟩ <;> exact Finset.singleton_subset_iff.mpr (by simp [List.mem_toFinset])

/-- The three results, put together from the four batches. -/
def opsC : List (HloOp τ sig (Elt F)) :=
  [ StableHlo.nary ![main_v21, main_v25, main_v29, main_v33] main_v36 (fun u => (concatenate S4x2048x32 0 [⟨S1x2048x32, (u 0 : (⟨S1x2048x32, .f32⟩ : BufTy).Contents (Elt F))⟩, ⟨S1x2048x32, (u 1 : (⟨S1x2048x32, .f32⟩ : BufTy).Contents (Elt F))⟩, ⟨S1x2048x32, (u 2 : (⟨S1x2048x32, .f32⟩ : BufTy).Contents (Elt F))⟩, ⟨S1x2048x32, (u 3 : (⟨S1x2048x32, .f32⟩ : BufTy).Contents (Elt F))⟩] concatenates_S1x2048x32_S1x2048x32_S1x2048x32_S1x2048x32_S4x2048x32_d0 : (⟨S4x2048x32, .f32⟩ : BufTy).Contents (Elt F))),
    StableHlo.nary ![main_v22, main_v26, main_v30, main_v34] main_v37 (fun u => (concatenate S4x2048x32 0 [⟨S1x2048x32, (u 0 : (⟨S1x2048x32, .i32⟩ : BufTy).Contents (Elt F))⟩, ⟨S1x2048x32, (u 1 : (⟨S1x2048x32, .i32⟩ : BufTy).Contents (Elt F))⟩, ⟨S1x2048x32, (u 2 : (⟨S1x2048x32, .i32⟩ : BufTy).Contents (Elt F))⟩, ⟨S1x2048x32, (u 3 : (⟨S1x2048x32, .i32⟩ : BufTy).Contents (Elt F))⟩] concatenates_S1x2048x32_S1x2048x32_S1x2048x32_S1x2048x32_S4x2048x32_d0 : (⟨S4x2048x32, .i32⟩ : BufTy).Contents (Elt F))),
    StableHlo.nary ![main_v23, main_v27, main_v31, main_v35] main_v38 (fun u => (concatenate S4x2048x512 0 [⟨S1x2048x512, (u 0 : (⟨S1x2048x512, .f32⟩ : BufTy).Contents (Elt F))⟩, ⟨S1x2048x512, (u 1 : (⟨S1x2048x512, .f32⟩ : BufTy).Contents (Elt F))⟩, ⟨S1x2048x512, (u 2 : (⟨S1x2048x512, .f32⟩ : BufTy).Contents (Elt F))⟩, ⟨S1x2048x512, (u 3 : (⟨S1x2048x512, .f32⟩ : BufTy).Contents (Elt F))⟩] concatenates_S1x2048x512_S1x2048x512_S1x2048x512_S1x2048x512_S4x2048x512_d0 : (⟨S4x2048x512, .f32⟩ : BufTy).Contents (Elt F))) ]

abbrev opsCW : List (Ref sig .tc) := [main_v36, main_v37, main_v38]

theorem opsC_sub : ∀ op ∈ (opsC (F := F)), op.bufs ⊆ Pipeline.ucRefs τ sig := by
  intro op h; unfold opsC at h; fin_cases h <;> exact sub_uc _ (by simp)

theorem opsC_fresh : ∀ op ∈ (opsC (F := F)), op.fresh = ∅ := by
  intro op h; unfold opsC at h; fin_cases h <;> rfl

theorem opsC_off (V : Valuation τ sig (Elt F)) (b : Ref sig .tc) (hb : b ∉ opsCW) :
    StableHlo.after opsC V (Proc.devRef .tc b) = V (Proc.devRef .tc b) := by
  refine StableHlo.after_of_writes_sub opsC V ?_ hb
  unfold opsC
  simp only [List.Forall]
  refine ⟨?_, ?_, ?_⟩ <;> exact Finset.singleton_subset_iff.mpr (by simp [List.mem_toFinset])

/-! ## What the buffers hold, call after call -/

variable (V : Valuation τ sig (Elt F)) (c : Dev nD)

def vA : Valuation τ sig (Elt F) := StableHlo.after ops0 V
def vB : Valuation τ sig (Elt F) := val0 0 (vA V) c
def vC : Valuation τ sig (Elt F) := val1 0 (vB V c) c
/-- The distances, as the second call leaves them. -/
def distOf : S4x2048x2048.Idx → F .f32 := vC V c (Proc.devRef .tc main_v9)
def vD : Valuation τ sig (Elt F) := StableHlo.after ops1 (vC V c)
def vS0 : Valuation τ sig (Elt F) := scVal 0 (distOf V c) (vD V c)
def vR0 : Valuation τ sig (Elt F) := StableHlo.after opsR0 (vS0 V c)
def vT0 : Valuation τ sig (Elt F) := val3 1 (vR0 V c) c
def vS1 : Valuation τ sig (Elt F) := scVal 1 (distOf V c) (vT0 V c)
def vR1 : Valuation τ sig (Elt F) := StableHlo.after opsR1 (vS1 V c)
def vT1 : Valuation τ sig (Elt F) := val5 2 (vR1 V c) c
def vS2 : Valuation τ sig (Elt F) := scVal 2 (distOf V c) (vT1 V c)
def vR2 : Valuation τ sig (Elt F) := StableHlo.after opsR2 (vS2 V c)
def vT2 : Valuation τ sig (Elt F) := val7 3 (vR2 V c) c
def vS3 : Valuation τ sig (Elt F) := scVal 3 (distOf V c) (vT2 V c)
def vR3 : Valuation τ sig (Elt F) := StableHlo.after opsR3 (vS3 V c)
def vT3 : Valuation τ sig (Elt F) := val9 4 (vR3 V c) c
/-- At the end. -/
def vZ : Valuation τ sig (Elt F) := StableHlo.after opsC (vT3 V c)

end Cert.Topk
-- ==== Proof.MainRun.lean ====
/-
  The TensorCore's run of @main: its stretches and calls one after another, from the launch memory to the results.
-/
module

public import proofs.«01_k».proof.Proof.Host

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay)
open Idealize.SL.BI (sProp)
open scoped Idealize.SL.BI
open Idealize.SL.BI Idealize.SL.BI.BIBase Idealize.SL.BI.Laws Idealize.SL.Sem Idealize.SL.ProofMode
open Idealize.SL.RA Idealize.ShloMosaic.ValueIdx

variable {F : FTy → Type} [FloatOps F]
local notation "𝕄" => MM F

/-- The TensorCore between two stretches: `n` selection calls made, its buffers at `V`. -/
def St (n : ℕ) (d : Dev nD) (V : Valuation τ sig (Elt F)) : sProp 𝕄 :=
  iprop(boundary (d.tc : Thread nD τ) ∗ StableHlo.held (d.tc : Thread nD τ) (Pipeline.ucRefs τ sig) V ∗ (K (F := F)).tcSt EH d n)

/-- What pipeline `p` starts from. -/
def ghost (p : Fin 6) (d : Dev nD) : sProp 𝕄 :=
  iprop(Pipeline.cellsGhost (Pipeline.pin (pcfgs (F := F)) adm) EP p d ∗ Pipeline.toksInit (Pipeline.pin (pcfgs (F := F)) adm) EP p d)

set_option backward.isDefEq.respectTransparency.types false in
/-- A stretch of host operations. -/
theorem host_step (n : ℕ) (d : Dev nD) (V : Valuation τ sig (Elt F)) (ops : List (HloOp τ sig (Elt F)))
    (hS : ∀ op ∈ ops, op.bufs ⊆ Pipeline.ucRefs τ sig) (hf : ∀ op ∈ ops, op.fresh = ∅) (Q : PUnit → sProp 𝕄) :
    iprop(St n d V ∗ (St n d (StableHlo.after ops V) -∗ Q ⟨⟩))
      ⊢ wp frame (wpE ((K (F := F)).defs D) 𝒱 (d.tc : Thread nD τ) none) Set.univ (StableHlo.seq ops) Q := by
  have h := StableHlo.wp_seq (Ix := HIx 4) (Name := ℕ) (U := UU) (Lvl := ℕ) (defs := (K (F := F)).defs D) 𝒱 none Set.univ d (Pipeline.ucRefs τ sig) (fun x => (.ret x)) (K := Q) ops hS hf V
  rw [show (StableHlo.seq ops >>= fun x => (Prog.ret x) : Prog _ _) = StableHlo.seq ops from bind_pure _] at h
  unfold St
  iintro ⟨⟨Hb, Hh, Ht⟩, HQ⟩
  iapply h $$ [Hb Hh]
  · isplitl [Hb]; · iexact Hb
    iexact Hh
  iintro ⟨Hb, Hh⟩
  rw [wp_ret]
  imodintro
  iapply HQ
  isplitl [Hb]; · iexact Hb
  isplitl [Hh]; · iexact Hh
  iexact Ht

theorem tc_step0 (d : Dev nD) (V : Valuation τ sig (Elt F)) (Q : PUnit → sProp 𝕄) :
    iprop(levAts (K (F := F)).L (K (F := F)).lev ∗ St 0 d V ∗ ghost 0 d ∗ (St 0 d (val0 0 V d) -∗ Q ⟨⟩))
      ⊢ wp frame (wpE ((K (F := F)).defs D) 𝒱 (d.tc : Thread nD τ) none) Set.univ
          (Prog.lift (.customCall (SparseCore.inner (Pipeline.entry 0)) ())) Q := by
  have h := step0 0 (fun _ => V) d Q
  unfold St ghost
  iintro ⟨HL, ⟨Hb, Hh, Ht⟩, ⟨Hg, Hk⟩, HQ⟩
  iapply h
  isplitl [HL]; · iexact HL
  isplitl [Hb]; · iexact Hb
  isplitl [Hh]; · iexact Hh
  isplitl [Ht]; · iexact Ht
  isplitl [Hg]; · iexact Hg
  isplitl [Hk]; · iexact Hk
  iexact HQ

theorem tc_step1 (d : Dev nD) (V : Valuation τ sig (Elt F)) (Q : PUnit → sProp 𝕄) :
    iprop(levAts (K (F := F)).L (K (F := F)).lev ∗ St 0 d V ∗ ghost 1 d ∗ (St 0 d (val1 0 V d) -∗ Q ⟨⟩))
      ⊢ wp frame (wpE ((K (F := F)).defs D) 𝒱 (d.tc : Thread nD τ) none) Set.univ
          (Prog.lift (.customCall (SparseCore.inner (Pipeline.entry 1)) ())) Q := by
  have h := step1 0 (fun _ => V) d Q
  unfold St ghost
  iintro ⟨HL, ⟨Hb, Hh, Ht⟩, ⟨Hg, Hk⟩, HQ⟩
  iapply h
  isplitl [HL]; · iexact HL
  isplitl [Hb]; · iexact Hb
  isplitl [Hh]; · iexact Hh
  isplitl [Ht]; · iexact Ht
  isplitl [Hg]; · iexact Hg
  isplitl [Hk]; · iexact Hk
  iexact HQ

theorem tc_step3 (d : Dev nD) (V : Valuation τ sig (Elt F)) (Q : PUnit → sProp 𝕄) :
    iprop(levAts (K (F := F)).L (K (F := F)).lev ∗ St 1 d V ∗ ghost 2 d ∗ (St 1 d (val3 1 V d) -∗ Q ⟨⟩))
      ⊢ wp frame (wpE ((K (F := F)).defs D) 𝒱 (d.tc : Thread nD τ) none) Set.univ
          (Prog.lift (.customCall (SparseCore.inner (Pipeline.entry 2)) ())) Q := by
  have h := step3 1 (fun _ => V) d Q
  unfold St ghost
  iintro ⟨HL, ⟨Hb, Hh, Ht⟩, ⟨Hg, Hk⟩, HQ⟩
  iapply h
  isplitl [HL]; · iexact HL
  isplitl [Hb]; · iexact Hb
  isplitl [Hh]; · iexact Hh
  isplitl [Ht]; · iexact Ht
  isplitl [Hg]; · iexact Hg
  isplitl [Hk]; · iexact Hk
  iexact HQ

theorem tc_step5 (d : Dev nD) (V : Valuation τ sig (Elt F)) (Q : PUnit → sProp 𝕄) :
    iprop(levAts (K (F := F)).L (K (F := F)).lev ∗ St 2 d V ∗ ghost 3 d ∗ (St 2 d (val5 2 V d) -∗ Q ⟨⟩))
      ⊢ wp frame (wpE ((K (F := F)).defs D) 𝒱 (d.tc : Thread nD τ) none) Set.univ
          (Prog.lift (.customCall (SparseCore.inner (Pipeline.entry 3)) ())) Q := by
  have h := step5 2 (fun _ => V) d Q
  unfold St ghost
  iintro ⟨HL, ⟨Hb, Hh, Ht⟩, ⟨Hg, Hk⟩, HQ⟩
  iapply h
  isplitl [HL]; · iexact HL
  isplitl [Hb]; · iexact Hb
  isplitl [Hh]; · iexact Hh
  isplitl [Ht]; · iexact Ht
  isplitl [Hg]; · iexact Hg
  isplitl [Hk]; · iexact Hk
  iexact HQ

theorem tc_step7 (d : Dev nD) (V : Valuation τ sig (Elt F)) (Q : PUnit → sProp 𝕄) :
    iprop(levAts (K (F := F)).L (K (F := F)).lev ∗ St 3 d V ∗ ghost 4 d ∗ (St 3 d (val7 3 V d) -∗ Q ⟨⟩))
      ⊢ wp frame (wpE ((K (F := F)).defs D) 𝒱 (d.tc : Thread nD τ) none) Set.univ
          (Prog.lift (.customCall (SparseCore.inner (Pipeline.entry 4)) ())) Q := by
  have h := step7 3 (fun _ => V) d Q
  unfold St ghost
  iintro ⟨HL, ⟨Hb, Hh, Ht⟩, ⟨Hg, Hk⟩, HQ⟩
  iapply h
  isplitl [HL]; · iexact HL
  isplitl [Hb]; · iexact Hb
  isplitl [Hh]; · iexact Hh
  isplitl [Ht]; · iexact Ht
  isplitl [Hg]; · iexact Hg
  isplitl [Hk]; · iexact Hk
  iexact HQ

theorem tc_step9 (d : Dev nD) (V : Valuation τ sig (Elt F)) (Q : PUnit → sProp 𝕄) :
    iprop(levAts (K (F := F)).L (K (F := F)).lev ∗ St 4 d V ∗ ghost 5 d ∗ (St 4 d (val9 4 V d) -∗ Q ⟨⟩))
      ⊢ wp frame (wpE ((K (F := F)).defs D) 𝒱 (d.tc : Thread nD τ) none) Set.univ
          (Prog.lift (.customCall (SparseCore.inner (Pipeline.entry 5)) ())) Q := by
  have h := step9 4 (fun _ => V) d Q
  unfold St ghost
  iintro ⟨HL, ⟨Hb, Hh, Ht⟩, ⟨Hg, Hk⟩, HQ⟩
  iapply h
  isplitl [HL]; · iexact HL
  isplitl [Hb]; · iexact Hb
  isplitl [Hh]; · iexact Hh
  isplitl [Ht]; · iexact Ht
  isplitl [Hg]; · iexact Hg
  isplitl [Hk]; · iexact Hk
  iexact HQ

theorem sc_step (X : Dev nD → S4x2048x2048.Idx → F .f32) (κ : GSem nD τ sig → ℕ) (q : Fin 4) (n n' : ℕ) (hn : q.val = n) (hn' : q.val + 1 = n') (d : Dev nD) (V : Valuation τ sig (Elt F))
    (hX : V (Proc.devRef .tc main_v9) = X d) (Q : PUnit → sProp 𝕄) :
    iprop((K (F := F)).ctx EH (P X) κ ∗ St n d V ∗ (St n' d (scVal q (X d) V) -∗ Q ⟨⟩))
      ⊢ wp frame (wpE ((K (F := F)).defs D) 𝒱 (d.tc : Thread nD τ) none) Set.univ ((K (F := F)).run d q) Q := by
  subst hn hn'
  have h := scStep X κ q d V hX Q
  unfold St
  iintro ⟨HC, ⟨Hb, Hh, Ht⟩, HQ⟩
  iapply h
  isplitl [HC]; · iexact HC
  isplitl [Hb]; · iexact Hb
  isplitl [Hh]; · iexact Hh
  isplitl [Ht]; · iexact Ht
  iexact HQ

/-! ## @main, in stretches -/

/-- @main's text, stretch by stretch. -/
def segProg (d : Dev nD) : Prog (TpuEff nD τ sig (Elt F) (SparseCore.Sig (Pipeline.Sig Λ₀ (Fin 6) fun p => (pcfgs (F := F) p).Adm) 4) .tc) PUnit := do
  StableHlo.seq ops0
  Prog.lift (.customCall (SparseCore.inner (Pipeline.entry 0)) ())
  Prog.lift (.customCall (SparseCore.inner (Pipeline.entry 1)) ())
  StableHlo.seq ops1
  (K (F := F)).run d 0
  StableHlo.seq opsR0
  Prog.lift (.customCall (SparseCore.inner (Pipeline.entry 2)) ())
  (K (F := F)).run d 1
  StableHlo.seq opsR1
  Prog.lift (.customCall (SparseCore.inner (Pipeline.entry 3)) ())
  (K (F := F)).run d 2
  StableHlo.seq opsR2
  Prog.lift (.customCall (SparseCore.inner (Pipeline.entry 4)) ())
  (K (F := F)).run d 3
  StableHlo.seq opsR3
  Prog.lift (.customCall (SparseCore.inner (Pipeline.entry 5)) ())
  StableHlo.seq opsC

set_option maxHeartbeats 1000000 in
theorem main_eq (d : Dev nD) : main (F := F) d = segProg d := by
  unfold main segProg fn_norm.body ops0 ops1 opsR0 opsR1 opsR2 opsR3 opsC
  simp only [StableHlo.seq, bind_assoc, pure_bind]
  rfl

/-! ## The distances stay as they are -/

variable (V : Valuation τ sig (Elt F)) (c : Dev nD)

theorem dist_D : vD V c (Proc.devRef .tc main_v9) = distOf V c := ops1_off _ main_v9 (by decide)
theorem dist_T0 : vT0 V c (Proc.devRef .tc main_v9) = distOf V c :=
  (val3_off _ _ _ main_v9 (by decide)).trans <| (opsR0_off _ main_v9 (by decide)).trans <|
    (scVal_off 0 _ _ _ (refN_ne_dist 0).symm (refI_ne_dist 0).symm).trans (dist_D V c)
theorem dist_T1 : vT1 V c (Proc.devRef .tc main_v9) = distOf V c :=
  (val5_off _ _ _ main_v9 (by decide)).trans <| (opsR1_off _ main_v9 (by decide)).trans <|
    (scVal_off 1 _ _ _ (refN_ne_dist 1).symm (refI_ne_dist 1).symm).trans (dist_T0 V c)
theorem dist_T2 : vT2 V c (Proc.devRef .tc main_v9) = distOf V c :=
  (val7_off _ _ _ main_v9 (by decide)).trans <| (opsR2_off _ main_v9 (by decide)).trans <|
    (scVal_off 2 _ _ _ (refN_ne_dist 2).symm (refI_ne_dist 2).symm).trans (dist_T1 V c)
theorem dist_T3 : vT3 V c (Proc.devRef .tc main_v9) = distOf V c :=
  (val9_off _ _ _ main_v9 (by decide)).trans <| (opsR3_off _ main_v9 (by decide)).trans <|
    (scVal_off 3 _ _ _ (refN_ne_dist 3).symm (refI_ne_dist 3).symm).trans (dist_T2 V c)

/-! ## The run -/

variable (X : Dev nD → S4x2048x2048.Idx → F .f32)

/-- @main on one TensorCore. -/
theorem run_segs (κ : GSem nD τ sig → ℕ) (d : Dev nD) (hX : X d = distOf V d) (Q : PUnit → sProp 𝕄) :
    iprop((K (F := F)).ctx EH (P X) κ ∗ St 0 d V ∗ (ghost 0 d ∗ ghost 1 d ∗ ghost 2 d ∗ ghost 3 d ∗ ghost 4 d ∗ ghost 5 d) ∗ (St 4 d (vZ V d) -∗ Q ⟨⟩))
      ⊢ wp frame (wpE ((K (F := F)).defs D) 𝒱 (d.tc : Thread nD τ) none) Set.univ (segProg d) Q := by
  unfold segProg
  simp only [wp_bind]
  iintro ⟨#HC, HS, ⟨G0, G1, G2, G3, G4, G5⟩, HQ⟩
  ihave HL := (SparseCore.Cfg.ctx_levAts (K := K (F := F)) (P := P X) κ) $$ HC
  icases HL with #HL
  iapply (host_step 0 d V ops0 ops0_sub ops0_fresh _)
  isplitl [HS]; · iexact HS
  iintro HS
  iapply (tc_step0 d (vA V) _)
  isplitr; · iexact HL
  isplitl [HS]; · iexact HS
  isplitl [G0]; · iexact G0
  iintro HS
  iapply (tc_step1 d (vB V d) _)
  isplitr; · iexact HL
  isplitl [HS]; · iexact HS
  isplitl [G1]; · iexact G1
  iintro HS
  iapply (host_step 0 d (vC V d) ops1 ops1_sub ops1_fresh _)
  isplitl [HS]; · iexact HS
  iintro HS
  iapply (sc_step X κ 0 0 1 rfl rfl d (vD V d) ((dist_D V d).trans hX.symm) _)
  isplitr; · iexact HC
  isplitl [HS]; · iexact HS
  rw [hX]
  iintro HS
  iapply (host_step 1 d (vS0 V d) opsR0 opsR0_sub opsR0_fresh _)
  isplitl [HS]; · iexact HS
  iintro HS
  iapply (tc_step3 d (vR0 V d) _)
  isplitr; · iexact HL
  isplitl [HS]; · iexact HS
  isplitl [G2]; · iexact G2
  iintro HS
  iapply (sc_step X κ 1 1 2 rfl rfl d (vT0 V d) ((dist_T0 V d).trans hX.symm) _)
  isplitr; · iexact HC
  isplitl [HS]; · iexact HS
  rw [hX]
  iintro HS
  iapply (host_step 2 d (vS1 V d) opsR1 opsR1_sub opsR1_fresh _)
  isplitl [HS]; · iexact HS
  iintro HS
  iapply (tc_step5 d (vR1 V d) _)
  isplitr; · iexact HL
  isplitl [HS]; · iexact HS
  isplitl [G3]; · iexact G3
  iintro HS
  iapply (sc_step X κ 2 2 3 rfl rfl d (vT1 V d) ((dist_T1 V d).trans hX.symm) _)
  isplitr; · iexact HC
  isplitl [HS]; · iexact HS
  rw [hX]
  iintro HS
  iapply (host_step 3 d (vS2 V d) opsR2 opsR2_sub opsR2_fresh _)
  isplitl [HS]; · iexact HS
  iintro HS
  iapply (tc_step7 d (vR2 V d) _)
  isplitr; · iexact HL
  isplitl [HS]; · iexact HS
  isplitl [G4]; · iexact G4
  iintro HS
  iapply (sc_step X κ 3 3 4 rfl rfl d (vT2 V d) ((dist_T2 V d).trans hX.symm) _)
  isplitr; · iexact HC
  isplitl [HS]; · iexact HS
  rw [hX]
  iintro HS
  iapply (host_step 4 d (vS3 V d) opsR3 opsR3_sub opsR3_fresh _)
  isplitl [HS]; · iexact HS
  iintro HS
  iapply (tc_step9 d (vR3 V d) _)
  isplitr; · iexact HL
  isplitl [HS]; · iexact HS
  isplitl [G5]; · iexact G5
  iintro HS
  iapply (host_step 4 d (vT3 V d) opsC opsC_sub opsC_fresh _)
  isplitl [HS]; · iexact HS
  iexact HQ

end Cert.Topk
-- ==== Proof.Launch.lean ====
/-
  The whole launch: every thread's run, the buffers at its end, and the frame of both programs.
-/
module

public import proofs.«01_k».proof.Proof.Tiles
public import proofs.«01_k».proof.Proof.MainRun

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds

variable {F : FTy → Type} [FloatOps F]
local notation "𝕄" => MM F

/-! ## What the launch hands out -/

theorem fin6 (Φ : Fin 6 → sProp 𝕄) :
    (bigSep Finset.univ Φ : sProp 𝕄) = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-- The six pipelines' start, on one device. -/
def G (d : Dev nD) : sProp 𝕄 := bigSep Finset.univ fun p : Fin 6 => ghost (F := F) p d

abbrev inj6 := (launch0.to₀ (nD := nD) (τ := τ)).cellOf_inj

def uP : UP := initOf (Pipeline.cells (nD := nD) (τ := τ) (Pipeline.pin (pcfgs (F := F)) adm) inj6)
  (Pipeline.launchToks (nD := nD) (τ := τ) (Pipeline.pin (pcfgs (F := F)) adm) inj6)

def u₀ : UU := (initOf (K (F := F)).hsCells (K (F := F)).hsToks, (uP (F := F), 1))

theorem own_two (a : UH) (b : UP) : (ownU ((a, (b, 1)) : UU) : sProp 𝕄) ⊢ iprop(BI.own (EH a) ∗ BI.own (EP b)) :=
  BI.own_op_elim ((uE (F := F)).toEmb.op_of_mem (Prod.mk_mem_op (URA.mem_op_one a) (URA.mem_one_op (b, (1 : Counters)))))

theorem ghosts : (BI.own (EP (uP (F := F))) : sProp 𝕄) ⊢ iprop(|==> bigSep Finset.univ fun d : Dev nD => G (F := F) d) := by
  have h := Pipeline.fund_ghost (Ix := HIx 4) (Val := Elt F) (Name := ℕ) (U := UU) (Lvl := ℕ) (nD := nD) (τ := τ) (Pipeline.pin (pcfgs (F := F)) adm) EP inj6
  refine BI.Entails.trans h (BI.bupd_mono ?_)
  unfold G ghost
  rw [← bigSep_sep']
  refine bigSep_mono fun d _ => ?_
  rw [bigSep_sep']
  exact BI.Entails.refl _

variable (m : (ℓ : Loc nD τ sig) → Buf (Elt F) ℓ) (ρ : Dev nD → PrngReg)

/-- A device's buffers at launch. -/
def V0 (d : Dev nD) : Valuation τ sig (Elt F) := fun b => m (d, b)

/-- The distances the selection calls find. -/
def XX (d : Dev nD) : S4x2048x2048.Idx → F .f32 := distOf (V0 m d) d

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P (XX m)).x q thr) := by
  have hx : (bigSep Finset.univ fun thr : Thread nD τ => bigSep Finset.univ fun q : Fin 4 => (P (XX m)).x q thr) = (iprop(emp) : sProp 𝕄) := by
    have h : ∀ thr : Thread nD τ, (bigSep Finset.univ fun q : Fin 4 => (P (XX m)).x q thr) = (iprop(emp) : sProp 𝕄) := fun thr => bigSep_emp_const _
    rw [bigSep_congr fun thr _ => h thr]
    exact bigSep_emp_const _
  rw [hx]
  unfold u₀
  iintro Hu
  ihave H := (own_two _ _) $$ Hu
  icases H with ⟨HH, HP⟩
  imod (ghosts (F := F)) $$ HP with HG
  imodintro
  isplitl [HH]; · iexact HH
  isplitl [HG]; · iexact HG
  iempintro

/-! ## @main under the launch -/

abbrev FIN (d : Dev nD) : sProp 𝕄 := StableHlo.held (d.tc : Thread nD τ) (Pipeline.ucRefs τ sig) (vZ (V0 m d) d)

theorem hmain (κ : GSem nD τ sig → ℕ) (d : Dev nD) :
    iprop((K (F := F)).ctx EH (P (XX m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d ∗ (K (F := F)).tcEnd d) := by
  have hb : (unscopedBufs d (fun b => m ((SparseCore.T d).loc b)) : sProp 𝕄) = StableHlo.held (d.tc : Thread nD τ) (Pipeline.ucRefs τ sig) (V0 m d) :=
    Pipeline.unscopedBufs_held (Ix := HIx 4) (Name := ℕ) (U := UU) (Lvl := ℕ) d (V0 m d)
  have hg : (G d : sProp 𝕄) = iprop(ghost 0 d ∗ ghost 1 d ∗ ghost 2 d ∗ ghost 3 d ∗ ghost 4 d ∗ ghost 5 d) := fin6 _
  rw [main_eq, hg]
  unfold SparseCore.Cfg.tcRes SparseCore.Cfg.tcEnd
  rw [hb]
  have h := run_segs (V0 m d) (XX m) κ d rfl (fun _ => iprop((K (F := F)).tcSt EH d 4 ∗ FIN m d ∗ boundary (SparseCore.T d) ∗ (K (F := F)).tcSems0 d))
  unfold St at h
  iintro ⟨HC, Ht, ⟨Hb, Hh, Hs, -⟩, HG⟩
  iapply h
  isplitl [HC]; · iexact HC
  isplitl [Hb Hh Ht]
  · isplitl [Hb]; · iexact Hb
    isplitl [Hh]; · iexact Hh
    iexact Ht
  isplitl [HG]; · iexact HG
  iintro ⟨Hb, Hh, Ht⟩
  isplitl [Ht]; · iexact Ht
  isplitl [Hh]; · iexact Hh
  isplitl [Hb]; · iexact Hb
  iexact Hs

/-- A final state's buffers are what the run says. -/
def fq (d : Dev nD) (s' : Phys nD τ sig (Elt F)) : Prop := ∀ b ∈ Pipeline.ucRefs τ sig, s'.mem.mem (d, b) = vZ (V0 m d) d b

theorem hfin (d : Dev nD) (s' : Phys nD τ sig (Elt F)) : iprop(FIN m d ∗ SI s') ⊢ (⌜fq m d s'⌝ : sProp 𝕄) := by
  have one : ∀ b ∈ Pipeline.ucRefs τ sig, iprop(FIN m d ∗ SI s') ⊢ (⌜s'.mem.mem (d, b) = vZ (V0 m d) d b⌝ : sProp 𝕄) := by
    intro b hb
    have e : (FIN m d : sProp 𝕄) ⊢ ((d, b) : Loc nD τ sig) ↦{fullShare} vZ (V0 m d) d b :=
      bigSep_elim (Φ := fun b : DevRef τ sig => iprop(((d, b) : Loc nD τ sig) ↦{fullShare} vZ (V0 m d) d b)) hb
    iintro ⟨HF, HSI⟩
    ihave HF := e $$ HF
    ihave H := (SI_pointsTo_agree (st := s') (ℓ := (d, b)) (I := Finset.univ) (q := fullShare) (f := vZ (V0 m d) d b)) $$ [HSI HF]
    · isplitl [HSI] <;> iassumption
    icases H with %h
    ipureintro; exact funext fun i => h i (Finset.mem_univ i)
  refine ((Laws.forall_intro fun b : DevRef τ sig => (Laws.forall_intro fun hb : b ∈ Pipeline.ucRefs τ sig => one b hb).trans Laws.pure_forall.2).trans Laws.pure_forall.2).trans ?_
  exact BI.Entails.refl _

/-! ## The program's run -/

/-- What a run ends in: every buffer as the stretches leave it, every counter zero. -/
def QC : PUnit × MemSt nD τ sig (Elt F) → Prop := fun r =>
  (∀ d : Dev nD, ∀ b ∈ Pipeline.ucRefs τ sig, r.2.mem (d, b) = vZ (V0 m d) d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XX m)) (A := ∅) facts v₀
    (fun q hq => match q with | 0 => nomatch hq | 1 => nomatch hq | 2 => nomatch hq | 3 => nomatch hq)
    (fun q _ => match q with | 0 => tileObl0 (XX m) | 1 => tileObl1 (XX m) | 2 => tileObl2 (XX m) | 3 => tileObl3 (XX m))
    (fun q _ => SparseCore.Cfg.VecSplit.of_plain (vecSplit (XX m) q))
    m ρ main (G (F := F)) (FIN m) (u₀ (F := F)) (sep_elim_left.trans (hu₀ m)) (hmain m ρ) (fq m) (hfin m) (QC m) (fun _ h hz => ⟨h, hz⟩)

end Cert.Topk
-- ==== Proof.Frames.lean ====
/-
  The arguments at the end of the run are those at its start: both programs' frames.
-/
module

public import proofs.«01_k».proof.Proof.Launch
public import proofs.«01_k».proof.Defs
public import proofs.«01_k».proof.Proof.Gen.Kernel

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds

variable {F : FTy → Type} [FloatOps F]
local notation "𝕄" => MM F

/-- A buffer that @main writes nothing to. -/
def kept (b : Ref sig .tc) : Prop :=
  b ∉ ops0W ∧ b ∉ ops1W ∧ b ∉ opsR0W ∧ b ∉ opsR1W ∧ b ∉ opsR2W ∧ b ∉ opsR3W ∧ b ∉ opsCW
    ∧ b ∉ [main_v8_0, main_v8_1, main_v9, main_v23, main_v27, main_v31, main_v35]
    ∧ (∀ q, b ≠ refN q) ∧ (∀ q, b ≠ refI q)

instance (b : Ref sig .tc) : Decidable (kept b) := by unfold kept; infer_instance

theorem vZ_kept (V : Valuation τ sig (Elt F)) (c : Dev nD) (b : Ref sig .tc) (h : kept b) :
    vZ V c (Proc.devRef .tc b) = V (Proc.devRef .tc b) := by
  obtain ⟨h0, h1, r0, r1, r2, r3, hC, ho, hN, hI⟩ := h
  simp only [List.mem_cons, List.not_mem_nil, or_false, not_or] at ho
  obtain ⟨o0, o1, o2, o3, o4, o5, o6⟩ := ho
  have ne : ∀ {x y : Ref sig .tc}, x ≠ y → (Proc.devRef .tc x : DevRef τ sig) ≠ Proc.devRef .tc y := fun h e => h (Proc.devRef_injective _ e)
  exact (opsC_off _ b hC).trans <| (val9_off _ _ _ b o6).trans <| (opsR3_off _ b r3).trans <| (scVal_off 3 _ _ _ (ne (hN 3)) (ne (hI 3))).trans <|
    (val7_off _ _ _ b o5).trans <| (opsR2_off _ b r2).trans <| (scVal_off 2 _ _ _ (ne (hN 2)) (ne (hI 2))).trans <|
    (val5_off _ _ _ b o4).trans <| (opsR1_off _ b r1).trans <| (scVal_off 1 _ _ _ (ne (hN 1)) (ne (hI 1))).trans <|
    (val3_off _ _ _ b o3).trans <| (opsR0_off _ b r0).trans <| (scVal_off 0 _ _ _ (ne (hN 0)) (ne (hI 0))).trans <|
    (ops1_off _ b h1).trans <| (val1_off _ _ _ b o2).trans <| (val0_off _ _ _ b o0 o1).trans (ops0_off _ b h0)

theorem mem_uc (b : Ref sig .tc) (h : b.isScoped = false) : (Proc.devRef .tc b : DevRef τ sig) ∈ Pipeline.ucRefs τ sig := by
  unfold Pipeline.ucRefs StableHlo.tcRefs
  exact Finset.mem_filter.mpr ⟨Finset.mem_map.mpr ⟨_, Finset.mem_univ _, rfl⟩, fun e => Bool.false_ne_true (h.symm.trans e)⟩

variable (m : (ℓ : Loc nD τ sig) → Buf (Elt F) ℓ)

theorem same {r : PUnit × MemSt nD τ sig (Elt F)} (h : QC m r) (c : Dev nD) (b : Ref sig .tc) (hs : b.isScoped = false) (hk : kept b) :
    r.2.mem ((c.tc : Thread nD τ).loc b) = m ((c.tc : Thread nD τ).loc b) :=
  (h.1 c _ (mem_uc b hs)).trans (vZ_kept (V0 m c) c b hk)

/-- The thirteen arguments are kept. -/
theorem args_same {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨same m h c main_arg0 rfl (by decide), same m h c main_arg1 rfl (by decide), same m h c main_arg2 rfl (by decide), same m h c main_arg3 rfl (by decide), same m h c main_arg4 rfl (by decide), same m h c main_arg5 rfl (by decide), same m h c main_arg6 rfl (by decide), same m h c main_arg7 rfl (by decide), same m h c main_arg8 rfl (by decide), same m h c main_arg9 rfl (by decide), same m h c main_arg10 rfl (by decide), same m h c main_arg11 rfl (by decide), same m h c main_arg12 rfl (by decide)⟩

/-- The kernel's frame over the extended reals. -/
theorem frame_ideal : Cert.quiescent_KernelIdeal := fun m ρ _ =>
  (θ_run Cert.KernelIdeal.defs _ _).mono (fun _ h => ⟨fun c => args_same m h c, h.2⟩) (run_main (F := Ideal) m ρ)

end Cert.Topk
-- ==== Proof.FrameK.lean ====
/-
  The kernel's frame over the machine's floats: the program's text is that of the kernel over any float values.
-/
module

public import proofs.«01_k».proof.Proof.Frames
public import proofs.«01_k».proof.Defs
public import proofs.«01_k».proof.Proof.Gen.Kernel

@[expose] public section

noncomputable section

namespace Cert.Topk

open Idealize.SL Idealize.ShloMosaic Cert.KernelIdeal Cert.KernelIdeal.Gen
open Idealize.ShloMosaic.SparseCore (S V T)
open Idealize.ShloMosaic.SparseCore.Cfg (HIx Pay)
open Idealize.SL.BI (sProp)
open scoped Idealize.SL.BI
open Idealize.SL.BI Idealize.SL.BI.BIBase Idealize.SL.BI.Laws Idealize.SL.Sem Idealize.SL.ProofMode
open Idealize.SL.RA Idealize.ShloMosaic.Transfers Idealize.ShloMosaic.Rounds

variable {F : FTy → Type} [FloatOps F]

/-- The kernel's frame, stated over the machine's floats of the program whose run is known. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

theorem frame_bits : FrameBits := fun m ρ _ =>
  (θ_run Cert.KernelIdeal.defs _ _).mono (fun _ h => ⟨fun c => args_same m h c, h.2⟩) (run_main (F := Bits) m ρ)

/-- The two programs have one text. -/
theorem frame_text : Cert.quiescent_Kernel = FrameBits := by sl_kernel_rfl

/-- The kernel's frame over the machine's floats. -/
theorem frame_kernel : Cert.quiescent_Kernel := frame_text.mpr frame_bits

end Cert.Topk
-- ==== Proof.Pick.lean ====
/-
  A scan for the least entry, over the extended reals: what an accumulator holds that has met the entries of a set, for
  one entry more and for two sets merged.
-/
module

public import proofs.«01_k».proof.Proof.GroupWp
public import Idealize.ShloMosaic.PureOps.Ideal.Laws

@[expose] public section

noncomputable section

namespace Cert.Topk

open Idealize.ShloMosaic Cert.KernelIdeal Cert.KernelIdeal.Gen

/-- What stands for a removed entry, and starts every scan. -/
def big : EReal := Ideal.ofBits .f32 0x7F61B1E6#32

variable (f : ℕ → EReal)

/-- `v` at place `i` is the least entry of `S`, of equal ones the one of the lowest place, where it is less than `big`. -/
structure Acc (S : ℕ → Prop) (v : EReal) (i : ℕ) : Prop where
  le : ∀ j, S j → v ≤ f j
  lb : v ≤ big
  hit : v < big → S i ∧ f i = v ∧ ∀ j, S j → j < i → v < f j

/-- `s` is the least of the other entries. -/
structure Sec (S : ℕ → Prop) (v : EReal) (i : ℕ) (s : EReal) : Prop where
  le : ∀ j, S j → j ≠ i → s ≤ f j
  lb : s ≤ big
  att : s = big ∨ ∃ j, S j ∧ j ≠ i ∧ f j = s
  none : v = big → s = big

variable {f}

theorem Acc.mono {S T : ℕ → Prop} {v : EReal} {i : ℕ} (h : Acc f S v i) (e : ∀ j, S j ↔ T j) : Acc f T v i := by
  obtain rfl : S = T := funext fun j => propext (e j)
  exact h

theorem Sec.mono {S T : ℕ → Prop} {v s : EReal} {i : ℕ} (h : Sec f S v i s) (e : ∀ j, S j ↔ T j) : Sec f T v i s := by
  obtain rfl : S = T := funext fun j => propext (e j)
  exact h

theorem Acc.nil (i : ℕ) : Acc f (fun _ => False) big i := ⟨fun _ h => h.elim, le_rfl, fun h => (lt_irrefl _ h).elim⟩
theorem Sec.nil (i : ℕ) : Sec f (fun _ => False) big i big := ⟨fun _ h => h.elim, le_rfl, .inl rfl, fun _ => rfl⟩

theorem Acc.step {S : ℕ → Prop} {v : EReal} {i : ℕ} (h : Acc f S v i) (n : ℕ) (hS : ∀ j, S j → j < n) :
    Acc f (fun j => S j ∨ j = n) (if f n < v then f n else v) (if f n < v then n else i) := by
  by_cases c : f n < v
  · simp only [if_pos c]
    refine ⟨?_, c.le.trans h.lb, fun _ => ⟨.inr rfl, rfl, ?_⟩⟩
    · rintro j (hj | rfl)
      · exact c.le.trans (h.le j hj)
      · exact le_rfl
    · rintro j (hj | rfl) hlt
      · exact c.trans_le (h.le j hj)
      · exact (lt_irrefl _ hlt).elim
  · simp only [if_neg c]
    refine ⟨?_, h.lb, fun hb => ?_⟩
    · rintro j (hj | rfl)
      · exact h.le j hj
      · exact not_lt.mp c
    · obtain ⟨h1, h2, h3⟩ := h.hit hb
      refine ⟨.inl h1, h2, ?_⟩
      rintro j (hj | rfl) hlt
      · exact h3 j hj hlt
      · exact absurd (hS i h1) (by omega)

theorem Sec.step {S : ℕ → Prop} {v s : EReal} {i : ℕ} (h : Acc f S v i) (g : Sec f S v i s) (n : ℕ) (hS : ∀ j, S j → j < n) :
    Sec f (fun j => S j ∨ j = n) (if f n < v then f n else v) (if f n < v then n else i) (if f n < v then v else min s (f n)) := by
  by_cases c : f n < v
  · simp only [if_pos c]
    refine ⟨?_, h.lb, ?_, fun hb => absurd (hb ▸ c) (not_lt.mpr h.lb)⟩
    · rintro j (hj | rfl) hne
      · exact h.le j hj
      · exact (hne rfl).elim
    · rcases h.lb.eq_or_lt with e | hb
      · exact .inl e
      · obtain ⟨h1, h2, _⟩ := h.hit hb
        exact .inr ⟨i, .inl h1, (hS i h1).ne, h2⟩
  · simp only [if_neg c]
    have c' := not_lt.mp c
    refine ⟨?_, (min_le_left _ _).trans g.lb, ?_, fun hb => ?_⟩
    · rintro j (hj | rfl) hne
      · exact (min_le_left _ _).trans (g.le j hj hne)
      · exact min_le_right _ _
    · rcases le_or_gt s (f n) with hs | hs
      · rw [min_eq_left hs]
        rcases g.att with e | ⟨j, hj, hne, e⟩
        · exact .inl e
        · exact .inr ⟨j, .inl hj, hne, e⟩
      · rw [min_eq_right hs.le]
        refine .inr ⟨n, .inr rfl, ?_, rfl⟩
        rcases h.lb.eq_or_lt with e | hb
        · exact absurd (hs.trans_le g.lb) (not_lt.mpr (e ▸ c'))
        · exact ((hS i (h.hit hb).1).ne).symm
    · rw [g.none hb]; exact min_eq_left (hb ▸ c')

theorem Acc.merge {S T : ℕ → Prop} {v w : EReal} {i k : ℕ} (h : Acc f S v i) (g : Acc f T w k) :
    Acc f (fun j => S j ∨ T j) (if w < v ∨ (w = v ∧ k < i) then w else v) (if w < v ∨ (w = v ∧ k < i) then k else i) := by
  by_cases c : w < v ∨ (w = v ∧ k < i)
  · simp only [if_pos c]
    have cl : w ≤ v := by rcases c with c | c; exacts [c.le, c.1.le]
    refine ⟨?_, g.lb, fun hb => ?_⟩
    · rintro j (hj | hj)
      · exact cl.trans (h.le j hj)
      · exact g.le j hj
    · obtain ⟨h1, h2, h3⟩ := g.hit hb
      refine ⟨.inr h1, h2, ?_⟩
      rintro j (hj | hj) hlt
      · rcases c with c | ⟨c, ck⟩
        · exact c.trans_le (h.le j hj)
        · rw [c]; exact (h.hit (c ▸ hb)).2.2 j hj (hlt.trans ck)
      · exact h3 j hj hlt
  · simp only [if_neg c]
    rw [not_or, not_lt, not_and, not_lt] at c
    obtain ⟨c1, c2⟩ := c
    refine ⟨?_, h.lb, fun hb => ?_⟩
    · rintro j (hj | hj)
      · exact h.le j hj
      · exact c1.trans (g.le j hj)
    · obtain ⟨h1, h2, h3⟩ := h.hit hb
      refine ⟨.inl h1, h2, ?_⟩
      rintro j (hj | hj) hlt
      · exact h3 j hj hlt
      · rcases c1.eq_or_lt with e | e
        · rw [e]; exact (g.hit (e ▸ hb)).2.2 j hj (hlt.trans_le (c2 e.symm))
        · exact e.trans_le (g.le j hj)

theorem Sec.merge {S T : ℕ → Prop} {v w s u : EReal} {i k : ℕ} (h : Acc f S v i) (hs : Sec f S v i s) (g : Acc f T w k) (gs : Sec f T w k u)
    (hd : ∀ j, S j → ¬ T j) :
    Sec f (fun j => S j ∨ T j) (if w < v ∨ (w = v ∧ k < i) then w else v) (if w < v ∨ (w = v ∧ k < i) then k else i)
      (if w < v ∨ (w = v ∧ k < i) then min u v else min s w) := by
  by_cases c : w < v ∨ (w = v ∧ k < i)
  · simp only [if_pos c]
    have cl : w ≤ v := by rcases c with c | c; exacts [c.le, c.1.le]
    refine ⟨?_, (min_le_left _ _).trans gs.lb, ?_, fun hb => ?_⟩
    · rintro j (hj | hj) hne
      · exact (min_le_right _ _).trans (h.le j hj)
      · exact (min_le_left _ _).trans (gs.le j hj hne)
    · rcases min_choice u v with e | e <;> rw [e]
      · rcases gs.att with e | ⟨j, hj, hne, e⟩
        · exact .inl e
        · exact .inr ⟨j, .inr hj, hne, e⟩
      · rcases h.lb.eq_or_lt with e | hb
        · exact .inl e
        · obtain ⟨h1, h2, _⟩ := h.hit hb
          refine .inr ⟨i, .inl h1, ?_, h2⟩
          rintro rfl
          exact hd i h1 (g.hit (cl.trans_lt hb)).1
    · have : v = big := le_antisymm h.lb (hb ▸ cl)
      rw [gs.none hb, this, min_self]
  · simp only [if_neg c]
    rw [not_or, not_lt, not_and, not_lt] at c
    obtain ⟨c1, c2⟩ := c
    refine ⟨?_, (min_le_left _ _).trans hs.lb, ?_, fun hb => ?_⟩
    · rintro j (hj | hj) hne
      · exact (min_le_left _ _).trans (hs.le j hj hne)
      · exact (min_le_right _ _).trans (g.le j hj)
    · rcases min_choice s w with e | e <;> rw [e]
      · rcases hs.att with e | ⟨j, hj, hne, e⟩
        · exact .inl e
        · exact .inr ⟨j, .inl hj, hne, e⟩
      · rcases g.lb.eq_or_lt with e | hb
        · exact .inl e
        · obtain ⟨h1, h2, _⟩ := g.hit hb
          refine .inr ⟨k, .inr h1, ?_, h2⟩
          rintro rfl
          exact hd k (h.hit (c1.trans_lt hb)).1 h1
    · have : w = big := le_antisymm g.lb (hb ▸ c1)
      rw [hs.none hb, this, min_self]

end Cert.Topk
-- ==== Proof.Near.lean ====
/-
  What the selection finds over the extended reals: each step draws, of the columns not drawn yet, the one of the least
  entry, of equal ones the lowest.
-/
module

public import proofs.«01_k».proof.Proof.Pick
public import proofs.«01_k».proof.Proof.TileWp

@[expose] public section

noncomputable section

namespace Cert.Topk

open Idealize.ShloMosaic Cert.KernelIdeal Cert.KernelIdeal.Gen

/-! ## Comparisons at a lane -/

theorem sel_lt {α : Type} (a b : EReal) (p q : α) :
    Scalar.select (FloatOps.cmpf (F := Ideal) (φ := .f32) .olt a b) p q = if a < b then p else q := by
  show (if BitVec.ofBool (decide (a < b)) = 1 then p else q) = _
  by_cases h : a < b <;> simp [h]

theorem sel_before {α : Type} (v w : EReal) (i k : BitVec 32) (hi : i.toNat < 4096) (hk : k.toNat < 4096) (p q : α) :
    Scalar.select (FloatOps.cmpf (F := Ideal) (φ := .f32) .olt w v ||| (FloatOps.cmpf (F := Ideal) (φ := .f32) .oeq w v &&& IntOp.cmpi .slt k i)) p q
      = if w < v ∨ (w = v ∧ k.toNat < i.toNat) then p else q := by
  have e : k.slt i = decide (k.toNat < i.toNat) := by
    rw [BitVec.slt, BitVec.toInt_eq_toNat_cond, BitVec.toInt_eq_toNat_cond]
    rw [if_pos (by omega), if_pos (by omega)]
    simp
  show (if (BitVec.ofBool (decide (w < v)) ||| (BitVec.ofBool (decide (w = v)) &&& BitVec.ofBool (k.slt i))) = 1 then p else q) = _
  rw [e]
  by_cases h1 : w < v <;> by_cases h2 : w = v <;> by_cases h3 : k.toNat < i.toNat <;> simp [h1, h2, h3]

/-- A candidate at a lane. -/
def OkP (f : ℕ → EReal) (S : ℕ → Prop) (a : Vec Ideal S16 .f32 × IVec S16 32) (x : S16.Idx) : Prop :=
  (a.2 x).toNat < 4096 ∧ Acc f S (a.1 x) (a.2 x).toNat

/-- A scan's holdings at a lane. -/
def OkB (f : ℕ → EReal) (S : ℕ → Prop) (b : Best Ideal) (x : S16.Idx) : Prop :=
  (b.col x).toNat < 4096 ∧ Acc f S (b.best x) (b.col x).toNat ∧ Sec f S (b.best x) (b.col x).toNat (b.second x)

theorem OkP.mono {f : ℕ → EReal} {S T : ℕ → Prop} {a : Vec Ideal S16 .f32 × IVec S16 32} {x : S16.Idx} (h : OkP f S a x) (e : ∀ j, S j ↔ T j) : OkP f T a x :=
  ⟨h.1, h.2.mono e⟩
theorem OkB.mono {f : ℕ → EReal} {S T : ℕ → Prop} {a : Best Ideal} {x : S16.Idx} (h : OkB f S a x) (e : ∀ j, S j ↔ T j) : OkB f T a x :=
  ⟨h.1, h.2.1.mono e, h.2.2.mono e⟩

theorem okP_step {f : ℕ → EReal} {S : ℕ → Prop} {a : Vec Ideal S16 .f32 × IVec S16 32} {x : S16.Idx} (h : OkP f S a x) (n : ℕ) (hn : n < 64)
    (v : Vec Ideal S16 .f32) (hv : v x = f n) (hS : ∀ j, S j → j < n) : OkP f (fun j => S j ∨ j = n) (cstep a n v) x := by
  have e1 : (cstep a n v).1 x = if f n < a.1 x then f n else a.1 x := by
    rw [← hv]; exact sel_lt (v x) (a.1 x) (v x) (a.1 x)
  have hc : (addi (broadcast S16 (BitVec.ofNat 32 n)) k2_pay2) x = BitVec.ofNat 32 n := by
    show BitVec.ofNat 32 n + 0#32 = _; simp
  have e2 : (cstep a n v).2 x = if f n < a.1 x then BitVec.ofNat 32 n else a.2 x := by
    rw [← hv, ← hc]; exact sel_lt (v x) (a.1 x) _ (a.2 x)
  have e3 : ((cstep a n v).2 x).toNat = if f n < a.1 x then n else (a.2 x).toNat := by
    rw [e2]; split
    · rw [BitVec.toNat_ofNat]; omega
    · rfl
  refine ⟨?_, ?_⟩
  · rw [e3]; split
    · omega
    · exact h.1
  · rw [e1, e3]; exact h.2.step n hS

theorem okP_merge {f : ℕ → EReal} {S T : ℕ → Prop} {a b : Vec Ideal S16 .f32 × IVec S16 32} {x : S16.Idx} (h : OkP f S a x) (g : OkP f T b x) :
    OkP f (fun j => S j ∨ T j) (cmerge a b) x := by
  have e1 : (cmerge a b).1 x = _ := sel_before (a.1 x) (b.1 x) (a.2 x) (b.2 x) h.1 g.1 (b.1 x) (a.1 x)
  have e2 : (cmerge a b).2 x = _ := sel_before (a.1 x) (b.1 x) (a.2 x) (b.2 x) h.1 g.1 (b.2 x) (a.2 x)
  refine ⟨?_, ?_⟩
  · rw [e2]; split
    · exact g.1
    · exact h.1
  · rw [e1, e2, apply_ite BitVec.toNat]
    exact h.2.merge g.2

theorem okB_step {f : ℕ → EReal} {S : ℕ → Prop} {a : Best Ideal} {x : S16.Idx} (h : OkB f S a x) (n : ℕ) (hn : n < 4096)
    (cv : IVec S16 32) (hcv : (cv x).toNat = n) (v : Vec Ideal S16 .f32) (hv : v x = f n) (hS : ∀ j, S j → j < n) :
    OkB f (fun j => S j ∨ j = n) (gstep a cv v) x := by
  have e1 : (gstep a cv v).best x = if f n < a.best x then f n else a.best x := by
    rw [← hv]; exact sel_lt (v x) (a.best x) (v x) (a.best x)
  have e2 : (gstep a cv v).col x = if f n < a.best x then cv x else a.col x := by
    rw [← hv]; exact sel_lt (v x) (a.best x) (cv x) (a.col x)
  have e3 : ((gstep a cv v).col x).toNat = if f n < a.best x then n else (a.col x).toNat := by
    rw [e2]; split
    · exact hcv
    · rfl
  have e4 : (gstep a cv v).second x = if f n < a.best x then a.best x else min (a.second x) (f n) := by
    rw [← hv]; exact sel_lt (v x) (a.best x) (a.best x) (min (a.second x) (v x))
  refine ⟨?_, ?_, ?_⟩
  · rw [e3]; split
    · exact hn
    · exact h.1
  · rw [e1, e3]; exact h.2.1.step n hS
  · rw [e1, e3, e4]; exact h.2.2.step h.2.1 n hS

theorem okB_merge {f : ℕ → EReal} {S T : ℕ → Prop} {a b : Best Ideal} {x : S16.Idx} (h : OkB f S a x) (g : OkB f T b x) (hd : ∀ j, S j → ¬ T j) :
    OkB f (fun j => S j ∨ T j) (gmerge a b) x := by
  have e1 : (gmerge a b).best x = _ := sel_before (a.best x) (b.best x) (a.col x) (b.col x) h.1 g.1 (b.best x) (a.best x)
  have e2 : (gmerge a b).col x = _ := sel_before (a.best x) (b.best x) (a.col x) (b.col x) h.1 g.1 (b.col x) (a.col x)
  have e3 : (gmerge a b).second x = _ := sel_before (a.best x) (b.best x) (a.col x) (b.col x) h.1 g.1 (min (b.second x) (a.best x)) (min (a.second x) (b.best x))
  refine ⟨?_, ?_, ?_⟩
  · rw [e2]; split
    · exact g.1
    · exact h.1
  · rw [e1, e2, apply_ite BitVec.toNat]
    exact h.2.1.merge g.2.1
  · rw [e1, e2, e3, apply_ite BitVec.toNat]
    exact h.2.2.merge h.2.1 g.2.1 g.2.2 hd

/-! ## The scans -/

/-- What an accumulator has met after `n` entries from `base`: every fourth. -/
def Met (base r n : ℕ) (j : ℕ) : Prop := base ≤ j ∧ j < base + n ∧ (j - base) % 4 = (n + r) % 4

theorem met_step (base n : ℕ) (j : ℕ) : (Met base 0 n j ∨ j = base + n) ↔ Met base 3 (n + 1) j := by unfold Met; omega
theorem met_turn (base r n : ℕ) (hr : r = 0 ∨ r = 1 ∨ r = 2) (j : ℕ) : Met base (r + 1) n j ↔ Met base r (n + 1) j := by unfold Met; omega
theorem met_zero (base r : ℕ) (j : ℕ) : False ↔ Met base r 0 j := ⟨False.elim, fun h => by unfold Met at h; omega⟩
theorem met_all (base n : ℕ) (j : ℕ) : (((Met base 0 n j ∨ Met base 1 n j) ∨ Met base 2 n j) ∨ Met base 3 n j) ↔ (base ≤ j ∧ j < base + n) := by
  unfold Met; omega

theorem colVal_ok (f : Nat → Vec Ideal S16 .f32) (x : S16.Idx) : ∀ (k : Nat) (_ : k ≤ 64) (a b c d : Vec Ideal S16 .f32 × IVec S16 32),
    OkP (fun n => f n x) (Met 0 0 (64 - k)) a x → OkP (fun n => f n x) (Met 0 1 (64 - k)) b x → OkP (fun n => f n x) (Met 0 2 (64 - k)) c x →
    OkP (fun n => f n x) (Met 0 3 (64 - k)) d x → ∃ v, Acc (fun n => f n x) (fun j => j < 64) v (colVal f k a b c d x).toNat := by
  intro k
  induction k with
  | zero =>
    intro _ a b c d ha hb hc hd
    exact ⟨_, (((okP_merge (okP_merge (okP_merge ha hb) hc) hd).mono (met_all 0 64)).2).mono fun j => by omega⟩
  | succ k ih =>
    intro hk a b c d ha hb hc hd
    have e : 64 - k = (64 - (k + 1)) + 1 := by omega
    have en : 63 - k = 0 + (64 - (k + 1)) := by omega
    refine ih (by omega) _ _ _ _ ?_ ?_ ?_ ?_
    · rw [e]; exact hb.mono (met_turn 0 0 _ (.inl rfl))
    · rw [e]; exact hc.mono (met_turn 0 1 _ (.inr (.inl rfl)))
    · rw [e]; exact hd.mono (met_turn 0 2 _ (.inr (.inr rfl)))
    · rw [e]
      refine OkP.mono (okP_step ha (63 - k) (by omega) _ rfl fun j hj => ?_) fun j => ?_
      · unfold Met at hj; omega
      · rw [en]; exact met_step 0 _ j

theorem chunk_ok (S : Sel Ideal) (x : S16.Idx) : ∃ v, Acc (fun n => S.M (x 0).val n) (fun j => j < 64) v (S.chunk x).toNat := by
  have h0 : ∀ r, OkP (fun n => S.M (x 0).val n) (Met 0 r (64 - 64)) c0 x := fun r =>
    OkP.mono (S := fun _ => False) ⟨by show (0#32).toNat < 4096; decide, Acc.nil _⟩ (met_zero 0 r)
  exact colVal_ok (fun n x => S.M (x 0).val n) x 64 le_rfl c0 c0 c0 c0 (h0 0) (h0 1) (h0 2) (h0 3)

theorem gVal_ok (B : Nat → Nat → EReal) (cb : IVec S16 32) (x : S16.Idx) (base : ℕ) (hb : (cb x).toNat = base) (hcb : base + 32 ≤ 2048) :
    ∀ (k : Nat) (_ : k ≤ 32) (a b c d : Best Ideal),
    OkB (B (x 0).val) (Met base 0 (32 - k)) a x → OkB (B (x 0).val) (Met base 1 (32 - k)) b x → OkB (B (x 0).val) (Met base 2 (32 - k)) c x →
    OkB (B (x 0).val) (Met base 3 (32 - k)) d x →
    OkB (B (x 0).val) (fun j => base ≤ j ∧ j < base + 32) (gVal (F := Ideal) (atCol (F := Ideal) B) cb k a b c d) x := by
  intro k
  induction k with
  | zero =>
    intro _ a b c d ha hb hc hd
    refine (okB_merge (okB_merge (okB_merge ha hb ?_) hc ?_) hd ?_).mono (met_all base 32)
    · intro j h1 h2; unfold Met at h1 h2; omega
    · intro j h1 h2; unfold Met at h1 h2; omega
    · intro j h1 h2; unfold Met at h1 h2; omega
  | succ k ih =>
    intro hk a b c d ha hb' hc hd
    have e : 32 - k = (32 - (k + 1)) + 1 := by omega
    have en : base + (31 - k) = base + (32 - (k + 1)) := by omega
    have hcol : ((addi cb (broadcast S16 (BitVec.ofNat 32 (31 - k)))) x).toNat = base + (31 - k) := by
      show (cb x + BitVec.ofNat 32 (31 - k)).toNat = _
      rw [BitVec.toNat_add, BitVec.toNat_ofNat]; omega
    refine ih (by omega) _ _ _ _ ?_ ?_ ?_ ?_
    · rw [e]; exact hb'.mono (met_turn base 0 _ (.inl rfl))
    · rw [e]; exact hc.mono (met_turn base 1 _ (.inr (.inl rfl)))
    · rw [e]; exact hd.mono (met_turn base 2 _ (.inr (.inr rfl)))
    · rw [e]
      refine OkB.mono (okB_step ha (base + (31 - k)) (by omega) _ hcol _ ?_ fun j hj => ?_) fun j => ?_
      · show B (x 0).val ((addi cb (broadcast S16 (BitVec.ofNat 32 (31 - k)))) x).toNat = _
        rw [hcol]
      · unfold Met at hj; omega
      · rw [en]; exact met_step base _ j

theorem found_ok (S : Sel Ideal) (x : S16.Idx) :
    OkB (S.B (x 0).val) (fun j => (S.chunk x).toNat * 32 ≤ j ∧ j < (S.chunk x).toNat * 32 + 32) S.found x := by
  have hc := chunk_lt S x
  have h0 : ∀ r, OkB (S.B (x 0).val) (Met ((S.chunk x).toNat * 32) r (32 - 32)) g0 x := fun r =>
    OkB.mono (S := fun _ => False) ⟨by show (0#32).toNat < 4096; decide, Acc.nil _, Sec.nil _⟩ (met_zero _ r)
  exact gVal_ok S.B _ x _ (cb_toNat S x) (by omega) 32 le_rfl g0 g0 g0 g0 (h0 0) (h0 1) (h0 2) (h0 3)

/-! ## The chunk minima -/

/-- `m` is the minimum of chunk `k`, `big` where nothing is less. -/
structure Mn (g : ℕ → EReal) (k : ℕ) (m : EReal) : Prop where
  le : ∀ c, 32 * k ≤ c → c < 32 * k + 32 → m ≤ g c
  lb : m ≤ big
  att : m = big ∨ ∃ c, 32 * k ≤ c ∧ c < 32 * k + 32 ∧ g c = m

theorem mnVal_ok (f : Nat → Vec Ideal S16 .f32) (x : S16.Idx) : ∀ (k : Nat) (_ : k ≤ 32) (a b c d : Vec Ideal S16 .f32),
    (mnVal f k a b c d x ≤ a x ∧ mnVal f k a b c d x ≤ b x ∧ mnVal f k a b c d x ≤ c x ∧ mnVal f k a b c d x ≤ d x)
    ∧ (∀ n, 32 - k ≤ n → n < 32 → mnVal f k a b c d x ≤ f n x)
    ∧ (mnVal f k a b c d x = a x ∨ mnVal f k a b c d x = b x ∨ mnVal f k a b c d x = c x ∨ mnVal f k a b c d x = d x ∨ ∃ n, n < 32 ∧ f n x = mnVal f k a b c d x) := by
  intro k
  induction k with
  | zero =>
    intro _ a b c d
    have e : mnVal f 0 a b c d x = min (min (a x) (b x)) (min (c x) (d x)) := rfl
    rw [e]
    refine ⟨⟨?_, ?_, ?_, ?_⟩, fun n h1 h2 => by omega, ?_⟩
    · exact (min_le_left _ _).trans (min_le_left _ _)
    · exact (min_le_left _ _).trans (min_le_right _ _)
    · exact (min_le_right _ _).trans (min_le_left _ _)
    · exact (min_le_right _ _).trans (min_le_right _ _)
    · rcases min_choice (min (a x) (b x)) (min (c x) (d x)) with h | h <;> rw [h]
      · rcases min_choice (a x) (b x) with h | h <;> rw [h] <;> simp
      · rcases min_choice (c x) (d x) with h | h <;> rw [h] <;> simp
  | succ k ih =>
    intro hk a b c d
    obtain ⟨⟨h1, h2, h3, h4⟩, h5, h6⟩ := ih (by omega) b c d (minimumf (F := Ideal) (φ := .f32) a (f (31 - k)))
    have e : mnVal f (k + 1) a b c d = mnVal f k b c d (minimumf (F := Ideal) (φ := .f32) a (f (31 - k))) := rfl
    have e' : (minimumf (F := Ideal) (φ := .f32) a (f (31 - k))) x = min (a x) (f (31 - k) x) := rfl
    rw [e' ] at h4 h6
    rw [e]
    refine ⟨⟨h4.trans (min_le_left _ _), h1, h2, h3⟩, fun n hn hn' => ?_, ?_⟩
    · rcases Nat.lt_or_ge n (32 - k) with h | h
      · obtain rfl : n = 31 - k := by omega
        exact h4.trans (min_le_right _ _)
      · exact h5 n h hn'
    · rcases h6 with h | h | h | h | h
      · exact .inr (.inl h)
      · exact .inr (.inr (.inl h))
      · exact .inr (.inr (.inr (.inl h)))
      · rcases min_choice (a x) (f (31 - k) x) with h' | h' <;> rw [h'] at h
        · exact .inl h
        · exact .inr (.inr (.inr (.inr ⟨31 - k, by omega, h.symm⟩)))
      · exact .inr (.inr (.inr (.inr h)))

theorem minima_ok (B : Nat → Nat → EReal) (l : ℕ) (hl : l < 16) (k : ℕ) : Mn (B l) k (minima (F := Ideal) B l k) := by
  have hx : ((lane l) 0).val = l := Nat.mod_eq_of_lt hl
  obtain ⟨⟨h1, _, _, _⟩, h5, h6⟩ := mnVal_ok (fun n x => B (x 0).val (32 * k + n)) (lane l) 32 le_rfl (k2_pay3 (F := Ideal)) (k2_pay3 (F := Ideal)) (k2_pay3 (F := Ideal)) (k2_pay3 (F := Ideal))
  simp only [hx] at h5 h6
  refine ⟨fun c hc hc' => ?_, h1, ?_⟩
  · have := h5 (c - 32 * k) (by omega) (by omega)
    rwa [show 32 * k + (c - 32 * k) = c by omega] at this
  · rcases h6 with h | h | h | h | ⟨n, hn, h⟩
    · exact .inl h
    · exact .inl h
    · exact .inl h
    · exact .inl h
    · exact .inr ⟨32 * k + n, by omega, by omega, h⟩

end Cert.Topk
-- ==== Proof.SortLex.lean ====
/-
  A stable sort by keys alone is the sort by keys and then positions.
-/
module

public import Idealize.ShloMosaic.Lib.SortPrefix

@[expose] public section

namespace Cert.Topk

open Idealize.ShloMosaic

/-- Sorting an ascending list by keys never compares positions. -/
theorem stableSort_lex {n : Nat} {κ : Type} [LinearOrder κ] (key : Fin n → κ) (l : List (Fin n)) (hl : l.Pairwise (· < ·)) :
    stableSort (fun k k' => decide (key k < key k')) l
      = stableSort (fun k k' => decide (key k < key k') || (decide (key k = key k') && decide (k < k'))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (hl.1 b hb').le
    simp [this]

theorem sortedFrom_lex {n : Nat} {κ : Type} [LinearOrder κ] (key : Fin n → κ) :
    sortedFrom (fun k k' : Fin n => decide (key k < key k'))
      = sortedFrom (fun k k' : Fin n => decide (key k < key k') || (decide (key k = key k') && decide (k < k'))) := by
  have e : sortPositions n (fun k k' : Fin n => decide (key k < key k'))
      = sortPositions n (fun k k' : Fin n => decide (key k < key k') || (decide (key k = key k') && decide (k < k'))) :=
    stableSort_lex key (List.finRange n) (List.pairwise_lt_finRange n)
  funext k
  unfold sortedFrom
  rw [List.get_of_eq e]
  rfl

/-- The first positions of the sort, drawn one after the other: each is not drawn before, and no entry not drawn before it is
    less, nor equal to it at a lower position. -/
theorem sortedFrom_drawn {n k : Nat} {κ : Type} [LinearOrder κ] (key : Fin n → κ) (hk : k ≤ n) (σ : Fin k → Fin n)
    (hnew : ∀ i j : Fin k, i < j → σ i ≠ σ j)
    (hmin : ∀ (i : Fin k) (p : Fin n), (∀ j : Fin k, j < i → σ j ≠ p) → key (σ i) < key p ∨ (key (σ i) = key p ∧ σ i ≤ p)) (i : Fin k) :
    sortedFrom (fun k k' : Fin n => decide (key k < key k')) (i.castLE hk) = σ i := by
  rw [sortedFrom_lex]
  have hB : StrictTotalBefore (fun k k' : Fin n => decide (key k < key k') || (decide (key k = key k') && decide (k < k'))) :=
    StrictTotalBefore.of_key_then_position (fun a b : κ => decide (a < b)) key (by simp) (by simp; intro a b c; exact lt_trans)
      (by intro a b; simp; exact lt_trichotomy a b)
  have not : ∀ (i : Fin k) (p : Fin n), (∀ j : Fin k, j < i → σ j ≠ p) →
      (decide (key p < key (σ i)) || (decide (key p = key (σ i)) && decide (p < σ i))) = false := by
    intro i p h
    rcases hmin i p h with h | ⟨h, h'⟩
    · simp [h.not_gt, h.ne']
    · simp [h, h']
  refine hB.sortedFrom_eq_of_prefix hk σ ?_ (fun i j hij => not i (σ j) fun v hv => hnew v j (hv.trans hij)) (fun i p h => not i p fun j _ => h j) i
  intro i j e
  rcases lt_trichotomy i j with h | h | h
  · exact (hnew i j h e).elim
  · exact h
  · exact (hnew j i h e.symm).elim

end Cert.Topk
-- ==== Proof.Drawn.lean ====
/-
  The selection's thirty-two steps, over the extended reals: the columns it draws from a row are the first of the row's
  stable sort.
-/
module

public import proofs.«01_k».proof.Proof.Near
public import proofs.«01_k».proof.Proof.SortLex

@[expose] public section

noncomputable section

namespace Cert.Topk

open Idealize.ShloMosaic Cert.KernelIdeal Cert.KernelIdeal.Gen Idealize.ShloMosaic.ValueIdx

/-- What the selection keeps about row `f` of lane `l`, the columns `R` drawn. -/
structure Inv (f : ℕ → EReal) (R : Finset ℕ) (S : Sel Ideal) (l : ℕ) : Prop where
  B : ∀ c, c < 2048 → S.B l c = if c ∈ R then big else f c
  M : ∀ k, k < 64 → Mn (S.B l) k (S.M l k)

variable {f : ℕ → EReal} {R : Finset ℕ} {S : Sel Ideal} {l : ℕ}

theorem lane_zero (hl : l < 16) : ((lane l) 0).val = l := Nat.mod_eq_of_lt hl

/-- A step draws the least entry not drawn, of equal ones the lowest. -/
theorem Inv.found (h : Inv f R S l) (hl : l < 16) (hf : ∀ c, c < 2048 → f c < big) (hR : R.card < 2048) :
    (S.found.col (lane l)).toNat ∉ R ∧ S.found.best (lane l) = f (S.found.col (lane l)).toNat
    ∧ ∀ p, p < 2048 → p ∉ R → f (S.found.col (lane l)).toNat < f p ∨ (f (S.found.col (lane l)).toNat = f p ∧ (S.found.col (lane l)).toNat ≤ p) := by
  have hx := lane_zero hl
  obtain ⟨v, hv⟩ := chunk_ok S (lane l)
  obtain ⟨_, ha, _⟩ := found_ok S (lane l)
  rw [hx] at hv ha
  have hK := chunk_lt S (lane l)
  have hC := found_lt S (lane l)
  generalize hKe : (S.chunk (lane l)).toNat = K at *
  generalize hCe : (S.found.col (lane l)).toNat = C at *
  generalize hwe : S.found.best (lane l) = w at *
  -- a column not drawn
  have hBle : ∀ c, c < 2048 → S.B l c ≤ big := fun c hc => by
    rw [h.B c hc]; split
    · exact le_rfl
    · exact (hf c hc).le
  obtain ⟨p, hp, hpR⟩ : ∃ p, p < 2048 ∧ p ∉ R := by
    by_contra hcon
    push Not at hcon
    have : (Finset.range 2048) ⊆ R := fun c hc => hcon c (Finset.mem_range.mp hc)
    have := Finset.card_le_card this
    rw [Finset.card_range] at this; omega
  have hvB : ∀ c, c < 2048 → v ≤ S.B l c := fun c hc =>
    (hv.le (c / 32) (by omega)).trans ((h.M (c / 32) (by omega)).le c (by omega) (by omega))
  have hvb : v < big := (hvB p hp).trans_lt (by rw [h.B p hp, if_neg hpR]; exact hf p hp)
  obtain ⟨_, hMv, hlow⟩ := hv.hit hvb
  -- the chunk's entries
  have hwv : w = v := by
    apply le_antisymm
    · rcases (h.M K hK).att with e | ⟨c, h1, h2, e⟩
      · rw [e] at hMv; rw [hMv] at hvb; exact absurd hvb (lt_irrefl _)
      · rw [← hMv, ← e]; exact ha.le c ⟨by omega, by omega⟩
    · by_cases hw : w < big
      · obtain ⟨hS, e, _⟩ := ha.hit hw
        rw [← e]; exact hvB C hC
      · exact hvb.le.trans (not_lt.mp hw)
  have hw : w < big := hwv ▸ hvb
  obtain ⟨hS, e, hfirst⟩ := ha.hit hw
  have hCR : C ∉ R := fun hc => by
    rw [h.B C hC, if_pos hc] at e; rw [← e] at hw; exact absurd hw (lt_irrefl _)
  have hfC : f C = w := by rw [← e, h.B C hC, if_neg hCR]
  refine ⟨hCR, hfC.symm, fun q hq hqR => ?_⟩
  have hfq : S.B l q = f q := by rw [h.B q hq, if_neg hqR]
  have hle : f C ≤ f q := by rw [hfC, hwv, ← hfq]; exact hvB q hq
  rcases hle.lt_or_eq with hlt | heq
  · exact .inl hlt
  · refine .inr ⟨heq, ?_⟩
    by_contra hlt
    have hlt : q < C := not_le.mp hlt
    rcases Nat.lt_or_ge q (K * 32) with hq' | hq'
    · -- an earlier chunk
      have h1 := hlow (q / 32) (by omega) (by omega)
      have h2 := (h.M (q / 32) (by omega)).le q (by omega) (by omega)
      rw [hfq, ← heq, hfC, hwv] at h2
      exact absurd (h1.trans_le h2) (lt_irrefl _)
    · have h1 := hfirst q ⟨hq', by omega⟩ hlt
      rw [hfq, ← heq, hfC] at h1
      exact absurd h1 (lt_irrefl _)

theorem Inv.step (h : Inv f R S l) (hl : l < 16) (hf : ∀ c, c < 2048 → f c < big) (hR : R.card < 2048) (t : ℕ) :
    Inv f (insert (S.found.col (lane l)).toNat R) (S.step t) l := by
  obtain ⟨hCR, hbest, _⟩ := h.found hl hf hR
  have hx := lane_zero hl
  have hok := found_ok S (lane l)
  have hC := found_lt S (lane l)
  have hw : S.found.best (lane l) < big := by rw [hbest]; exact hf _ hC
  obtain ⟨hS, e, _⟩ := hok.2.1.hit hw
  have hBle : ∀ c, c < 2048 → S.B l c ≤ big := fun c hc => by
    rw [h.B c hc]; split
    · exact le_rfl
    · exact (hf c hc).le
  have eB : ∀ c, (S.step t).B l c = if c = (S.found.col (lane l)).toNat then big else S.B l c := fun c => rfl
  have eM : ∀ k, (S.step t).M l k = if k = (S.chunk (lane l)).toNat then S.found.second (lane l) else S.M l k := fun k => rfl
  rw [hx] at hok
  have hK := chunk_lt S (lane l)
  constructor
  · intro c hc
    rw [eB, h.B c hc]
    simp only [Finset.mem_insert]
    by_cases h1 : c = (S.found.col (lane l)).toNat <;> simp [h1]
  · intro k hk
    rw [eM]
    by_cases hkK : k = (S.chunk (lane l)).toNat
    · rw [if_pos hkK]
      have hs := hok.2.2
      subst hkK
      refine ⟨fun c h1 h2 => ?_, hs.lb, ?_⟩
      · rw [eB]; split
        · exact hs.lb
        · next hc => exact hs.le c ⟨by omega, by omega⟩ hc
      · rcases hs.att with hb | ⟨j, hj, hne, hv⟩
        · exact .inl hb
        · refine .inr ⟨j, by omega, by omega, ?_⟩
          rw [eB, if_neg hne, hv]
    · rw [if_neg hkK]
      have hm := h.M k hk
      have hne : ∀ c, 32 * k ≤ c → c < 32 * k + 32 → c ≠ (S.found.col (lane l)).toNat := fun c h1 h2 hc => by omega
      refine ⟨fun c h1 h2 => ?_, hm.lb, ?_⟩
      · rw [eB, if_neg (hne c h1 h2)]; exact hm.le c h1 h2
      · rcases hm.att with hb | ⟨c, h1, h2, hv⟩
        · exact .inl hb
        · exact .inr ⟨c, h1, h2, by rw [eB, if_neg (hne c h1 h2)]; exact hv⟩

/-- The column drawn at step `t`. -/
def drawn (S : Sel Ideal) (l t : ℕ) : ℕ := ((S.iter t).found.col (lane l)).toNat

theorem drawn_inv (h : Inv f ∅ S l) (hl : l < 16) (hf : ∀ c, c < 2048 → f c < big) : ∀ t, t < 2048 → Inv f ((Finset.range t).image (drawn S l)) (S.iter t) l
  | 0, _ => h
  | t + 1, ht => by
    have ih := drawn_inv h hl hf t (by omega)
    have hc : ((Finset.range t).image (drawn S l)).card < 2048 := Finset.card_image_le.trans_lt (by rw [Finset.card_range]; omega)
    have := ih.step hl hf hc t
    rw [Finset.range_add_one, Finset.image_insert]
    exact this

theorem drawn_N (S : Sel Ideal) (l t : ℕ) : ∀ n, t < n → (S.iter n).N l t = (S.iter t).found.best (lane l) ∧ (S.iter n).I l t = (S.iter t).found.col (lane l) := by
  intro n
  induction n with
  | zero => intro h; omega
  | succ n ih =>
    intro h
    rcases Nat.lt_or_ge t n with ht | ht
    · have e1 : (S.iter (n + 1)).N l t = if t = n then (S.iter n).found.best (lane l) else (S.iter n).N l t := rfl
      have e2 : (S.iter (n + 1)).I l t = if t = n then (S.iter n).found.col (lane l) else (S.iter n).I l t := rfl
      rw [e1, e2, if_neg (by omega), if_neg (by omega)]
      exact ih ht
    · obtain rfl : t = n := by omega
      have e1 : (S.iter (t + 1)).N l t = if t = t then (S.iter t).found.best (lane l) else (S.iter t).N l t := rfl
      have e2 : (S.iter (t + 1)).I l t = if t = t then (S.iter t).found.col (lane l) else (S.iter t).I l t := rfl
      rw [e1, e2, if_pos rfl, if_pos rfl]
      exact ⟨rfl, rfl⟩

/-- The `u`-th position of the row's stable sort. -/
def nth (key : Fin 2048 → EReal) (u : Fin 32) : Fin 2048 := sortedFrom (fun k k' : Fin 2048 => decide (key k < key k')) (u.castLE (by decide))

/-- What a row's selection returns. -/
theorem nearest_row (V : Fin 16 → S2048.Idx → EReal) (key : Fin 2048 → EReal) (l : Fin 16) (hk : ∀ j : S2048.Idx, V l j = key (j 0))
    (hf : ∀ c, key c < big) (u : Fin 32) :
    (nearest (F := Ideal) V).N l.val u.val = key (nth key u) ∧ (nearest (F := Ideal) V).I l.val u.val = BitVec.ofNat 32 (nth key u).val := by
  have hl : l.val < 16 := l.isLt
  let S : Sel Ideal := sel0 V (fun _ _ => k2_pay3 (lane 0)) (fun _ _ => 0#32)
  let f : ℕ → EReal := table (F := Ideal) V l.val
  have hkey : ∀ c (hc : c < 2048), f c = key ⟨c, hc⟩ := fun c hc => by
    have e1 : (⟨l.val % 16, Nat.mod_lt _ (by decide)⟩ : Fin 16) = l := Fin.ext (Nat.mod_eq_of_lt hl)
    have e2 : ((colIdx c) 0 : Fin 2048) = ⟨c, hc⟩ := Fin.ext (Nat.mod_eq_of_lt hc)
    show V ⟨l.val % 16, _⟩ (colIdx c) = _
    rw [e1, hk]
    exact congrArg key e2
  have hff : ∀ c, c < 2048 → f c < big := fun c hc => by rw [hkey c hc]; exact hf _
  have h0 : Inv f ∅ S l.val := ⟨fun c _ => by simp; rfl, fun k _ => minima_ok (table (F := Ideal) V) l.val hl k⟩
  have hlt : ∀ t, drawn S l.val t < 2048 := fun t => found_lt (S.iter t) (lane l.val)
  have hcard : ∀ t, t < 2048 → ((Finset.range t).image (drawn S l.val)).card < 2048 := fun t ht =>
    Finset.card_image_le.trans_lt (by rw [Finset.card_range]; omega)
  have hfound := fun t (ht : t < 2048) => (drawn_inv h0 hl hff t ht).found hl hff (hcard t ht)
  let σ : Fin 32 → Fin 2048 := fun t => ⟨drawn S l.val t.val, hlt t.val⟩
  have hσ : nth key u = σ u := by
    refine sortedFrom_drawn key (by decide) σ ?_ ?_ u
    · intro i j hij e
      refine (hfound j.val (by omega)).1 (Finset.mem_image.mpr ⟨i.val, Finset.mem_range.mpr hij, ?_⟩)
      exact congrArg (fun x : Fin 2048 => x.val) e
    · intro i p hp
      have := (hfound i.val (by omega)).2.2 p.val p.isLt (fun hm => by
        obtain ⟨j, hj, e⟩ := Finset.mem_image.mp hm
        have hj := Finset.mem_range.mp hj
        exact hp ⟨j, by omega⟩ hj (Fin.ext e))
      rw [hkey _ (found_lt _ _), hkey _ p.isLt] at this
      exact this
  obtain ⟨e1, e2⟩ := drawn_N S l.val u.val 32 u.isLt
  rw [hσ]
  refine ⟨?_, ?_⟩
  · refine e1.trans ?_
    rw [(hfound u.val (by omega)).2.1, hkey _ (found_lt _ _)]
    rfl
  · refine e2.trans ?_
    apply BitVec.eq_of_toNat_eq
    rw [BitVec.toNat_ofNat]
    have := found_lt (S.iter u.val) (lane l.val)
    show ((S.iter u.val).found.col (lane l.val)).toNat = ((S.iter u.val).found.col (lane l.val)).toNat % 2 ^ 32
    omega

end Cert.Topk
-- ==== Proof.Spec.lean ====
/-
  The function both programs compute, over the extended reals, entry by entry, and what its proof needs of it: the
  distances are real numbers, less than the selection's fill value.
-/
module

public import proofs.«01_k».proof.Proof.Drawn
public import Idealize.ShloMosaic.Lib.SortFacts
public import Idealize.ShloMosaic.Lib.IdealHost

@[expose] public section

noncomputable section

namespace Cert.Topk

open Idealize.ShloMosaic

/-- A row's norm, the small constant added. -/
def nrm (E : Fin 2048 → Fin 1024 → EReal) (i : Fin 2048) : EReal := Ideal.sqrt (∑ x, E i x * E i x) + Ideal.ofBits .f32 0x322BCC77#32

/-- A normalised row. -/
def unitRow (E : Fin 2048 → Fin 1024 → EReal) (i : Fin 2048) (k : Fin 1024) : EReal := Ideal.div (E i k) (nrm E i)

/-- The distance of two rows, of a row to itself the large constant. -/
def dist (E : Fin 2048 → Fin 1024 → EReal) (i j : Fin 2048) : EReal :=
  if i = j then Ideal.ofBits .f32 0x4E6E6B28#32 else 1 - ∑ x, unitRow E i x * unitRow E j x

theorem eps_val : ∃ r : ℝ, 0 < r ∧ Ideal.ofBits .f32 0x322BCC77#32 = (r : EReal) := by
  refine ⟨11258999 * 2 ^ (-50 : ℤ), by positivity, ?_⟩
  simp [Ideal.ofBits, Ideal.ieee, -EReal.coe_mul]
theorem far_val : Ideal.ofBits .f32 0x4E6E6B28#32 = ((1000000000 : ℝ) : EReal) := by
  simp [Ideal.ofBits, Ideal.ieee, -EReal.coe_mul]
  norm_num
theorem big_val : big = ((14791142 * 2 ^ 104 : ℝ) : EReal) := by
  unfold big
  simp [Ideal.ofBits, Ideal.ieee, -EReal.coe_mul]

theorem sq_nonneg' (x : EReal) : 0 ≤ x * x := by
  induction x with
  | bot => simp
  | top => simp
  | coe r => rw [← EReal.coe_mul]; exact EReal.coe_nonneg.mpr (mul_self_nonneg r)

theorem sum_coe {ι : Type} (s : Finset ι) (g : ι → ℝ) : ∑ x ∈ s, ((g x : ℝ) : EReal) = ((∑ x ∈ s, g x : ℝ) : EReal) :=
  (map_sum (⟨⟨fun r : ℝ => (r : EReal), rfl⟩, fun a b => EReal.coe_add a b⟩ : ℝ →+ EReal) g s).symm

/-- A normalised entry is a real number of absolute value at most one. -/
theorem unit_real (E : Fin 2048 → Fin 1024 → EReal) (i : Fin 2048) (k : Fin 1024) : ∃ r : ℝ, unitRow E i k = (r : EReal) ∧ |r| ≤ 1 := by
  obtain ⟨ε, hε, eε⟩ := eps_val
  unfold unitRow nrm
  rw [eε]
  by_cases hs : ∑ x, E i x * E i x = ⊤
  · refine ⟨0, ?_, by simp⟩
    rw [hs]
    show Ideal.div (E i k) (⊤ + (ε : EReal)) = _
    rw [EReal.top_add_coe]
    simp [Ideal.div]
  · have hx : ∀ x, ∃ r : ℝ, E i x = (r : EReal) := fun x => by
      have hle : E i x * E i x ≤ ∑ x, E i x * E i x := Finset.single_le_sum (f := fun x => E i x * E i x) (fun _ _ => sq_nonneg' _) (Finset.mem_univ x)
      generalize hy : E i x = y at hle
      induction y with
      | bot => rw [EReal.bot_mul_bot] at hle; exact absurd (top_le_iff.mp hle) hs
      | top => rw [EReal.top_mul_top] at hle; exact absurd (top_le_iff.mp hle) hs
      | coe r => exact ⟨r, rfl⟩
    choose e he using hx
    have hsum : ∑ x, E i x * E i x = ((∑ x, e x * e x : ℝ) : EReal) := by
      rw [← sum_coe]; exact Finset.sum_congr rfl fun x _ => by rw [he x, EReal.coe_mul]
    have h0 : 0 ≤ ∑ x, e x * e x := Finset.sum_nonneg fun x _ => mul_self_nonneg _
    have hroot : Ideal.sqrt ((∑ x, e x * e x : ℝ) : EReal) = (Real.sqrt (∑ x, e x * e x) : EReal) := by
      show (if (∑ x, e x * e x) < 0 then ⊥ else (Real.sqrt (∑ x, e x * e x) : EReal)) = _
      rw [if_neg (not_lt.mpr h0)]
    have hpos : 0 < Real.sqrt (∑ x, e x * e x) + ε := add_pos_of_nonneg_of_pos (Real.sqrt_nonneg _) hε
    rw [hsum, hroot, he k, ← EReal.coe_add]
    refine ⟨e k * (Real.sqrt (∑ x, e x * e x) + ε)⁻¹, ?_, ?_⟩
    · unfold Ideal.div
      rw [if_neg (fun h => hpos.ne' (EReal.coe_eq_zero.mp h)), ← EReal.coe_inv, ← EReal.coe_mul]
    · rw [abs_mul, abs_inv, abs_of_pos hpos, ← div_eq_mul_inv, div_le_one hpos]
      have h1 : |e k| ≤ Real.sqrt (∑ x, e x * e x) := Real.abs_le_sqrt (by
        rw [sq]; exact Finset.single_le_sum (f := fun x => e x * e x) (fun _ _ => mul_self_nonneg _) (Finset.mem_univ k))
      linarith

/-- A distance is a real number, at most the large constant. -/
theorem dist_real (E : Fin 2048 → Fin 1024 → EReal) (i j : Fin 2048) : ∃ r : ℝ, dist E i j = (r : EReal) ∧ r ≤ 1000000000 := by
  unfold dist
  split
  · exact ⟨_, far_val, le_rfl⟩
  · choose r hr hb using unit_real E
    refine ⟨1 - ∑ x, r i x * r j x, ?_, ?_⟩
    · have e : ∑ x, unitRow E i x * unitRow E j x = ((∑ x, r i x * r j x : ℝ) : EReal) := by
        rw [← sum_coe]; exact Finset.sum_congr rfl fun x _ => by rw [hr, hr, EReal.coe_mul]
      rw [e, EReal.coe_sub, EReal.coe_one]
    · have : |∑ x, r i x * r j x| ≤ ∑ _x : Fin 1024, (1 : ℝ) := (Finset.abs_sum_le_sum_abs _ _).trans (Finset.sum_le_sum fun x _ => by
        rw [abs_mul]; exact mul_le_one₀ (hb i x) (abs_nonneg _) (hb j x))
      simp at this
      have := (abs_le.mp this).1
      linarith

theorem dist_lt (E : Fin 2048 → Fin 1024 → EReal) (i j : Fin 2048) : dist E i j < big := by
  obtain ⟨r, e, h⟩ := dist_real E i j
  rw [e, big_val, EReal.coe_lt_coe_iff]
  exact h.trans_lt (by norm_num)

/-! ## The neighbours -/

/-- The `u`-th nearest row. -/
def near (E : Fin 2048 → Fin 1024 → EReal) (i : Fin 2048) (u : Fin 32) : Fin 2048 := nth (dist E i) u

theorem nth_injective (key : Fin 2048 → EReal) : Function.Injective (nth key) := fun a b h => by
  have := sortedFrom_injective _ h
  exact Fin.ext (congrArg (fun x : Fin 2048 => x.val) this)

theorem nth_zero_le (key : Fin 2048 → EReal) (u : Fin 32) : key (nth key 0) ≤ key (nth key u) := by
  rcases eq_or_ne u 0 with rfl | hu
  · exact le_rfl
  · have := sortedFrom_noInversion (fun k k' : Fin 2048 => decide (key k < key k')) (fun k k' => decide (key k < key k'))
      (fun a b h => by simp at h ⊢; exact h.le) (fun a b h => h) (fun a b c h g => by simp at h g ⊢; exact g.trans h)
      ((0 : Fin 32).castLE (by decide)) (u.castLE (by decide)) (by
        have : (0 : Fin 32) < u := Fin.pos_iff_ne_zero.mpr hu
        exact this)
    simpa [nth] using this

/-! ## The weights -/

/-- The distances of the neighbours, nearest first. -/
def nearDist (E : Fin 2048 → Fin 1024 → EReal) (i : Fin 2048) (u : Fin 32) : EReal := dist E i (near E i u)

def ex (E : Fin 2048 → Fin 1024 → EReal) (i : Fin 2048) (u : Fin 32) : EReal := Ideal.exp (nearDist E i 0 - nearDist E i u)

/-- The neighbours' weights. -/
def wgt (E : Fin 2048 → Fin 1024 → EReal) (i : Fin 2048) (u : Fin 32) : EReal := Ideal.div (ex E i u) (∑ v, ex E i v)

theorem nearest_le (E : Fin 2048 → Fin 1024 → EReal) (i : Fin 2048) (u : Fin 32) : nearDist E i 0 ≤ nearDist E i u := by
  unfold nearDist near; exact nth_zero_le (dist E i) u

/-- The softmax's shift is the nearest's distance, negated. -/
theorem neg_max (E : Fin 2048 → Fin 1024 → EReal) (i : Fin 2048) :
    max ⊥ (Finset.univ.fold max ⊥ fun u : Fin 32 => -nearDist E i u) = -nearDist E i 0 := by
  apply le_antisymm
  · refine max_le bot_le ((Finset.fold_max_le _).mpr ⟨bot_le, fun u _ => ?_⟩)
    rw [EReal.neg_le_neg_iff]; exact nearest_le E i u
  · exact le_max_of_le_right ((Finset.le_fold_max _).mpr (.inr ⟨0, Finset.mem_univ _, le_rfl⟩))

theorem shift (E : Fin 2048 → Fin 1024 → EReal) (i : Fin 2048) (u : Fin 32) :
    -nearDist E i u - -nearDist E i 0 = nearDist E i 0 - nearDist E i u := by
  obtain ⟨a, ha, _⟩ := dist_real E i (near E i 0)
  obtain ⟨b, hb, _⟩ := dist_real E i (near E i u)
  unfold nearDist
  rw [ha, hb, ← EReal.coe_neg, ← EReal.coe_neg, ← EReal.coe_sub, ← EReal.coe_sub]
  rw [show -b - -a = a - b by ring]

/-! ## The rows picked by a chain of selections -/

/-- Of the first `m` columns `s u`, the value at the last that is `c`. -/
def pick (s : ℕ → ℕ) (w : ℕ → EReal) (c : ℕ) : ℕ → EReal
  | 0 => 0
  | m + 1 => if c = s m then w m else pick s w c m

theorem pick_none (s : ℕ → ℕ) (w : ℕ → EReal) (c : ℕ) : ∀ m, (∀ u, u < m → c ≠ s u) → pick s w c m = 0
  | 0, _ => rfl
  | m + 1, h => by
    show (if c = s m then w m else pick s w c m) = 0
    rw [if_neg (h m (by omega)), pick_none s w c m fun u hu => h u (by omega)]

theorem pick_mul (s : ℕ → ℕ) (w : ℕ → EReal) (c : ℕ) (y : EReal) : ∀ m, (∀ u v, u < m → v < m → s u = s v → u = v) →
    pick s w c m * y = ∑ u ∈ Finset.range m, if c = s u then w u * y else 0
  | 0, _ => by simp [pick]
  | m + 1, h => by
    show (if c = s m then w m else pick s w c m) * y = _
    rw [Finset.sum_range_succ, ← pick_mul s w c y m fun u v hu hv => h u v (by omega) (by omega)]
    by_cases hc : c = s m
    · rw [if_pos hc, if_pos hc, pick_none s w c m fun u hu e => by
        have := h u m (by omega) (by omega) (e.symm.trans hc); omega]
      simp
    · rw [if_neg hc, if_neg hc, add_zero]

/-- A column's comparison with a selected one's number. -/
theorem sel_eq (j n : Fin 2048) (x y : EReal) :
    Scalar.select (IntOp.cmpi .eq (BitVec.ofNat 32 j.val) (BitVec.ofNat 32 n.val)) x y = if j.val = n.val then x else y := by
  have e : (BitVec.ofNat 32 j.val = BitVec.ofNat 32 n.val) ↔ j.val = n.val := by
    constructor
    · intro h
      have := congrArg BitVec.toNat h
      rw [BitVec.toNat_ofNat, BitVec.toNat_ofNat, Nat.mod_eq_of_lt (by omega), Nat.mod_eq_of_lt (by omega)] at this
      exact this
    · intro h; rw [h]
  show (if BitVec.ofBool (decide (BitVec.ofNat 32 j.val = BitVec.ofNat 32 n.val)) = 1#1 then x else y) = _
  by_cases h : j.val = n.val
  · rw [decide_eq_true (e.mpr h), if_pos h]; rfl
  · rw [decide_eq_false (fun c => h (e.mp c)), if_neg h]; rfl

/-- The product with the rows is the weighted sum of the picked ones. -/
theorem pick_sum (σ : Fin 32 → Fin 2048) (hσ : Function.Injective σ) (w : Fin 32 → EReal) (s : ℕ → ℕ) (w' : ℕ → EReal)
    (hs : ∀ u : Fin 32, s u.val = (σ u).val) (hw : ∀ u : Fin 32, w' u.val = w u) (T : Fin 2048 → EReal) :
    ∑ c : Fin 2048, pick s w' c.val 32 * T c = ∑ u, T (σ u) * w u := by
  have hinj : ∀ u v, u < 32 → v < 32 → s u = s v → u = v := fun u v hu hv e => by
    have h1 := hs ⟨u, hu⟩; have h2 := hs ⟨v, hv⟩
    have := hσ (Fin.ext (h1.symm.trans (e.trans h2)))
    exact congrArg Fin.val this
  simp only [fun c : Fin 2048 => pick_mul s w' c.val (T c) 32 hinj]
  rw [Finset.sum_comm, ← Fin.sum_univ_eq_sum_range (fun u => ∑ c : Fin 2048, if c.val = s u then w' u * T c else 0)]
  refine Finset.sum_congr rfl fun u _ => ?_
  rw [hs, hw, Finset.sum_eq_single (σ u)]
  · rw [if_pos rfl, mul_comm]
  · intro c _ hc; rw [if_neg fun e => hc (Fin.ext e)]
  · intro h; exact absurd (Finset.mem_univ _) h

end Cert.Topk
-- ==== Proof.Row.lean ====
/-
  What one row of the result is, in the embeddings, the projection and the parameters of the two small networks:
  the row's projection plus its neighbours' weighted ones, a network of two layers, a normalisation over the
  row, a second network of two layers.
-/
module

public import proofs.«01_k».proof.Proof.Spec

@[expose] public section

noncomputable section

namespace Cert.Topk

open Idealize.ShloMosaic

/-- The projection of a row. -/
def topo (E : Fin 2048 → Fin 1024 → EReal) (W : Fin 1024 → Fin 512 → EReal) (B : Fin 512 → EReal) (i : Fin 2048) (o : Fin 512) : EReal :=
  ∑ x, E i x * W x o + B o

/-- The projection of a row with the weighted ones of its neighbours. -/
def comb (E : Fin 2048 → Fin 1024 → EReal) (W : Fin 1024 → Fin 512 → EReal) (B : Fin 512 → EReal) (i : Fin 2048) (o : Fin 512) : EReal :=
  topo E W B i o + ∑ u : Fin 32, topo E W B (near E i u) o * wgt E i u

/-- Two layers, the first through the positive part. -/
def layers {a b c : ℕ} (C : Fin a → EReal) (W : Fin a → Fin b → EReal) (B : Fin b → EReal) (W' : Fin b → Fin c → EReal) (B' : Fin c → EReal)
    (o : Fin c) : EReal :=
  ∑ x, max (∑ y, C y * W y x + B x) 0 * W' x o + B' o

/-- A row less its mean. -/
def centred (P : Fin 512 → EReal) (o : Fin 512) : EReal := P o - Ideal.div (∑ x, P x) (Ideal.ofBits .f32 0x44000000#32)

/-- The mean of a centred row's squares. -/
def variance (P : Fin 512 → EReal) : EReal := Ideal.div (∑ x, centred P x * centred P x) (Ideal.ofBits .f32 0x44000000#32)

/-- The normalisation over a row. -/
def normed (P G H : Fin 512 → EReal) (o : Fin 512) : EReal :=
  Ideal.div (centred P o) (Ideal.sqrt (variance P + Ideal.ofBits .f32 0x358637BD#32)) * G o + H o

/-- The networks' parameters. -/
structure Params where
  W : Fin 1024 → Fin 512 → EReal
  B : Fin 512 → EReal
  W1 : Fin 512 → Fin 1024 → EReal
  B1 : Fin 1024 → EReal
  W2 : Fin 1024 → Fin 512 → EReal
  B2 : Fin 512 → EReal
  G : Fin 512 → EReal
  H : Fin 512 → EReal
  W3 : Fin 512 → Fin 512 → EReal
  B3 : Fin 512 → EReal
  W4 : Fin 512 → Fin 512 → EReal
  B4 : Fin 512 → EReal

/-- The networks of a combined row. -/
def after1 (p : Params) (C : Fin 512 → EReal) (o : Fin 512) : EReal := layers C p.W1 p.B1 p.W2 p.B2 o

def after2 (p : Params) (C : Fin 512 → EReal) (o : Fin 512) : EReal :=
  layers (normed (after1 p C) p.G p.H) p.W3 p.B3 p.W4 p.B4 o

/-- One entry of the first result. -/
def rowOut (E : Fin 2048 → Fin 1024 → EReal) (p : Params) (i : Fin 2048) (o : Fin 512) : EReal := after2 p (comb E p.W p.B i) o

end Cert.Topk
-- ==== Proof.ParV.lean ====
/-
  The network parameters, as the arrays hold them.
-/
module

public import proofs.«01_k».proof.Proof.Row
public import proofs.«01_k».proof.Proof.RegDat
public import Idealize.ShloMosaic.Lib.Pointwise

@[expose] public section

noncomputable section

namespace Cert.Topk

open Idealize.ShloMosaic Cert.KernelIdeal Cert.KernelIdeal.Gen

/-- The buffers the network calls read hold the parameters. -/
structure HoldsPar (V : Valuation τ sig (Elt Ideal)) (p : Params) : Prop where
  hW1 : ∀ (x : Fin 512) (y : Fin 1024), (V (Proc.devRef .tc main_v10) (ix2 x y) : Ideal .bf16) = p.W1 x y
  hB1 : ∀ x : Fin 1024, (V (Proc.devRef .tc main_v11) (ix2 0 x) : Ideal .f32) = p.B1 x
  hW2 : ∀ (x : Fin 1024) (y : Fin 512), (V (Proc.devRef .tc main_v12) (ix2 x y) : Ideal .bf16) = p.W2 x y
  hB2 : ∀ x : Fin 512, (V (Proc.devRef .tc main_v13) (ix2 0 x) : Ideal .f32) = p.B2 x
  hG : ∀ x : Fin 512, (V (Proc.devRef .tc main_v14) (ix2 0 x) : Ideal .f32) = p.G x
  hH : ∀ x : Fin 512, (V (Proc.devRef .tc main_v15) (ix2 0 x) : Ideal .f32) = p.H x
  hW3 : ∀ (x : Fin 512) (y : Fin 512), (V (Proc.devRef .tc main_v16) (ix2 x y) : Ideal .bf16) = p.W3 x y
  hB3 : ∀ x : Fin 512, (V (Proc.devRef .tc main_v17) (ix2 0 x) : Ideal .f32) = p.B3 x
  hW4 : ∀ (x : Fin 512) (y : Fin 512), (V (Proc.devRef .tc main_v18) (ix2 x y) : Ideal .bf16) = p.W4 x y
  hB4 : ∀ x : Fin 512, (V (Proc.devRef .tc main_v19) (ix2 0 x) : Ideal .f32) = p.B4 x

end Cert.Topk
-- ==== Proof.SelV.lean ====
/-
  The selection's two results, at a row: the smallest distances in order, and their columns.
-/
module

public import proofs.«01_k».proof.Proof.Spec
public import proofs.«01_k».proof.Proof.TileWp
public import Idealize.ShloMosaic.Lib.Pointwise

@[expose] public section

noncomputable section

namespace Cert.Topk

open Idealize.ShloMosaic Cert.KernelIdeal Cert.KernelIdeal.Gen

/-- A place of the results' buffer. -/
def flat (i : Fin 2048) (u : Fin 32) : S65536.Idx := ix1 ⟨32 * i.val + u.val, by omega⟩

theorem sel_row (X : S4x2048x2048.Idx → Ideal .f32) (b : Fin 4) (E : Fin 2048 → Fin 1024 → EReal) (i : Fin 2048)
    (hX : ∀ c : Fin 2048, (X (ix3 b i c) : EReal) = dist E i c) (u : Fin 32) :
    (ndAll (F := Ideal) X b (flat i u) : EReal) = nearDist E i u
      ∧ (niAll (F := Ideal) X b (flat i u) : BitVec 32) = BitVec.ofNat 32 (near E i u).val := by
  have hi := i.isLt
  have hu := u.isLt
  have hk : ∀ j : S2048.Idx, rowV X b (16 * (i.val / 16) + i.val % 16) j = dist E i (j 0) := fun j => by
    unfold rowV
    have e : (⟨(16 * (i.val / 16) + i.val % 16) % 2048, Nat.mod_lt _ (by decide)⟩ : Fin 2048) = i := Fin.ext (by
      show (16 * (i.val / 16) + i.val % 16) % 2048 = i.val
      omega)
    rw [e]
    exact hX (j 0)
  have h := nearest_row (fun l : Fin 16 => rowV X b (16 * (i.val / 16) + l.val)) (dist E i) ⟨i.val % 16, Nat.mod_lt _ (by decide)⟩ hk (dist_lt E i) u
  have e0 : (32 * i.val + u.val) / 512 = i.val / 16 := by omega
  have e1 : (32 * i.val + u.val) % 512 / 32 = i.val % 16 := by omega
  have e2 : (32 * i.val + u.val) % 512 % 32 = u.val := by omega
  constructor
  · show (grp X b ((32 * i.val + u.val) / 512)).N ((32 * i.val + u.val) % 512 / 32) ((32 * i.val + u.val) % 512 % 32) = _
    rw [e0, e1, e2]
    exact h.1
  · show (grp X b ((32 * i.val + u.val) / 512)).I ((32 * i.val + u.val) % 512 / 32) ((32 * i.val + u.val) % 512 % 32) = _
    rw [e0, e1, e2]
    exact h.2

end Cert.Topk
-- ==== Proof.HostV.lean ====
/-
  What @main's host operations leave, at an index: the normalised rows, the projection's operands, the network
  parameters, the selections in rows and columns, the results put together.
-/
module

public import proofs.«01_k».proof.Proof.Host
public import proofs.«01_k».proof.Proof.ParV
public import proofs.«01_k».proof.Proof.SelV
public import Idealize.ShloMosaic.Lib.StableHlo.ReadAt

@[expose] public section

noncomputable section

namespace Cert.Topk

open Idealize.ShloMosaic Cert.KernelIdeal Cert.KernelIdeal.Gen

set_option maxHeartbeats 2000000

variable (V : Valuation τ sig (Elt Ideal))

/-- A batch's embeddings. -/
def kemb (b : Fin 4) (i : Fin 2048) (k : Fin 1024) : EReal := (V (Proc.devRef .tc main_arg0) (ix3 b i k) : Ideal .f32)

/-- The parameters the kernel is given. -/
def kpar : Params where
  W x o := (V (Proc.devRef .tc main_arg1) (ix2 x o) : Ideal .f32)
  B o := (V (Proc.devRef .tc main_arg2) (ix1 o) : Ideal .f32)
  W1 x o := (V (Proc.devRef .tc main_arg3) (ix2 x o) : Ideal .f32)
  B1 o := (V (Proc.devRef .tc main_arg4) (ix1 o) : Ideal .f32)
  W2 x o := (V (Proc.devRef .tc main_arg5) (ix2 x o) : Ideal .f32)
  B2 o := (V (Proc.devRef .tc main_arg6) (ix1 o) : Ideal .f32)
  G o := (V (Proc.devRef .tc main_arg7) (ix1 o) : Ideal .f32)
  H o := (V (Proc.devRef .tc main_arg8) (ix1 o) : Ideal .f32)
  W3 x o := (V (Proc.devRef .tc main_arg9) (ix2 x o) : Ideal .f32)
  B3 o := (V (Proc.devRef .tc main_arg10) (ix1 o) : Ideal .f32)
  W4 x o := (V (Proc.devRef .tc main_arg11) (ix2 x o) : Ideal .f32)
  B4 o := (V (Proc.devRef .tc main_arg12) (ix1 o) : Ideal .f32)

theorem unit_at (b : Fin 4) (i : Fin 2048) (x : Fin 1024) :
    (StableHlo.after ops0 V (Proc.devRef .tc main_v5) (ix3 b i x) : Ideal .bf16) = unitRow (kemb V b) i x := by
  unfold ops0
  after_reads_at
  rfl

theorem weight_at (x : Fin 1024) (o : Fin 512) :
    (StableHlo.after ops0 V (Proc.devRef .tc main_v6) (ix2 x o) : Ideal .bf16) = (kpar V).W x o := by
  unfold ops0
  after_reads_at
  rfl

theorem bias_at (o : Fin 512) :
    (StableHlo.after ops0 V (Proc.devRef .tc main_v7) (ix2 0 o) : Ideal .f32) = (kpar V).B o := by
  unfold ops0
  after_reads_at
  rfl

theorem ops1_par : HoldsPar (StableHlo.after ops1 V) (kpar V) := by
  constructor
  all_goals
    intros
    unfold ops1
    after_reads_at
    rfl

theorem resh0_N (i : Fin 2048) (u : Fin 32) (X : S65536.Idx → EReal) (h : V (Proc.devRef .tc main_v20_0) = X) :
    (StableHlo.after opsR0 V (Proc.devRef .tc main_v21) (ix3 0 i u) : Ideal .f32) = X (flat i u) := by
  subst h
  unfold opsR0
  after_reads_at
  unfold flat
  congr 2
  exact Fin.ext (by show i.val * 32 + u.val = 32 * i.val + u.val; omega)

theorem resh0_I (i : Fin 2048) (u : Fin 32) (X : S65536.Idx → BitVec 32) (h : V (Proc.devRef .tc main_v20_1) = X) :
    (StableHlo.after opsR0 V (Proc.devRef .tc main_v22) (ix3 0 i u) : BitVec 32) = X (flat i u) := by
  subst h
  unfold opsR0
  after_reads_at
  unfold flat
  congr 2
  exact Fin.ext (by show i.val * 32 + u.val = 32 * i.val + u.val; omega)

theorem resh1_N (i : Fin 2048) (u : Fin 32) (X : S65536.Idx → EReal) (h : V (Proc.devRef .tc main_v24_0) = X) :
    (StableHlo.after opsR1 V (Proc.devRef .tc main_v25) (ix3 0 i u) : Ideal .f32) = X (flat i u) := by
  subst h
  unfold opsR1
  after_reads_at
  unfold flat
  congr 2
  exact Fin.ext (by show i.val * 32 + u.val = 32 * i.val + u.val; omega)

theorem resh1_I (i : Fin 2048) (u : Fin 32) (X : S65536.Idx → BitVec 32) (h : V (Proc.devRef .tc main_v24_1) = X) :
    (StableHlo.after opsR1 V (Proc.devRef .tc main_v26) (ix3 0 i u) : BitVec 32) = X (flat i u) := by
  subst h
  unfold opsR1
  after_reads_at
  unfold flat
  congr 2
  exact Fin.ext (by show i.val * 32 + u.val = 32 * i.val + u.val; omega)

theorem resh2_N (i : Fin 2048) (u : Fin 32) (X : S65536.Idx → EReal) (h : V (Proc.devRef .tc main_v28_0) = X) :
    (StableHlo.after opsR2 V (Proc.devRef .tc main_v29) (ix3 0 i u) : Ideal .f32) = X (flat i u) := by
  subst h
  unfold opsR2
  after_reads_at
  unfold flat
  congr 2
  exact Fin.ext (by show i.val * 32 + u.val = 32 * i.val + u.val; omega)

theorem resh2_I (i : Fin 2048) (u : Fin 32) (X : S65536.Idx → BitVec 32) (h : V (Proc.devRef .tc main_v28_1) = X) :
    (StableHlo.after opsR2 V (Proc.devRef .tc main_v30) (ix3 0 i u) : BitVec 32) = X (flat i u) := by
  subst h
  unfold opsR2
  after_reads_at
  unfold flat
  congr 2
  exact Fin.ext (by show i.val * 32 + u.val = 32 * i.val + u.val; omega)

theorem resh3_N (i : Fin 2048) (u : Fin 32) (X : S65536.Idx → EReal) (h : V (Proc.devRef .tc main_v32_0) = X) :
    (StableHlo.after opsR3 V (Proc.devRef .tc main_v33) (ix3 0 i u) : Ideal .f32) = X (flat i u) := by
  subst h
  unfold opsR3
  after_reads_at
  unfold flat
  congr 2
  exact Fin.ext (by show i.val * 32 + u.val = 32 * i.val + u.val; omega)

theorem resh3_I (i : Fin 2048) (u : Fin 32) (X : S65536.Idx → BitVec 32) (h : V (Proc.devRef .tc main_v32_1) = X) :
    (StableHlo.after opsR3 V (Proc.devRef .tc main_v34) (ix3 0 i u) : BitVec 32) = X (flat i u) := by
  subst h
  unfold opsR3
  after_reads_at
  unfold flat
  congr 2
  exact Fin.ext (by show i.val * 32 + u.val = 32 * i.val + u.val; omega)

theorem cat_nd (b : Fin 4) (i : Fin 2048) (o : Fin 32) (Y : Fin 4 → Fin 2048 → Fin 32 → EReal)
    (h0 : ∀ i o, (V (Proc.devRef .tc main_v21) (ix3 0 i o) : Ideal .f32) = Y 0 i o)
    (h1 : ∀ i o, (V (Proc.devRef .tc main_v25) (ix3 0 i o) : Ideal .f32) = Y 1 i o)
    (h2 : ∀ i o, (V (Proc.devRef .tc main_v29) (ix3 0 i o) : Ideal .f32) = Y 2 i o)
    (h3 : ∀ i o, (V (Proc.devRef .tc main_v33) (ix3 0 i o) : Ideal .f32) = Y 3 i o) :
    (StableHlo.after opsC V (Proc.devRef .tc main_v36) (ix3 b i o) : Ideal .f32) = Y b i o := by
  unfold opsC
  after_reads_at
  match b with
  | ⟨0, _⟩ => exact h0 i o
  | ⟨1, _⟩ => exact h1 i o
  | ⟨2, _⟩ => exact h2 i o
  | ⟨3, _⟩ => exact h3 i o

theorem cat_ni (b : Fin 4) (i : Fin 2048) (o : Fin 32) (Y : Fin 4 → Fin 2048 → Fin 32 → BitVec 32)
    (h0 : ∀ i o, (V (Proc.devRef .tc main_v22) (ix3 0 i o) : BitVec 32) = Y 0 i o)
    (h1 : ∀ i o, (V (Proc.devRef .tc main_v26) (ix3 0 i o) : BitVec 32) = Y 1 i o)
    (h2 : ∀ i o, (V (Proc.devRef .tc main_v30) (ix3 0 i o) : BitVec 32) = Y 2 i o)
    (h3 : ∀ i o, (V (Proc.devRef .tc main_v34) (ix3 0 i o) : BitVec 32) = Y 3 i o) :
    (StableHlo.after opsC V (Proc.devRef .tc main_v37) (ix3 b i o) : BitVec 32) = Y b i o := by
  unfold opsC
  after_reads_at
  match b with
  | ⟨0, _⟩ => exact h0 i o
  | ⟨1, _⟩ => exact h1 i o
  | ⟨2, _⟩ => exact h2 i o
  | ⟨3, _⟩ => exact h3 i o

theorem cat_pf (b : Fin 4) (i : Fin 2048) (o : Fin 512) (Y : Fin 4 → Fin 2048 → Fin 512 → EReal)
    (h0 : ∀ i o, (V (Proc.devRef .tc main_v23) (ix3 0 i o) : Ideal .f32) = Y 0 i o)
    (h1 : ∀ i o, (V (Proc.devRef .tc main_v27) (ix3 0 i o) : Ideal .f32) = Y 1 i o)
    (h2 : ∀ i o, (V (Proc.devRef .tc main_v31) (ix3 0 i o) : Ideal .f32) = Y 2 i o)
    (h3 : ∀ i o, (V (Proc.devRef .tc main_v35) (ix3 0 i o) : Ideal .f32) = Y 3 i o) :
    (StableHlo.after opsC V (Proc.devRef .tc main_v38) (ix3 b i o) : Ideal .f32) = Y b i o := by
  unfold opsC
  after_reads_at
  match b with
  | ⟨0, _⟩ => exact h0 i o
  | ⟨1, _⟩ => exact h1 i o
  | ⟨2, _⟩ => exact h2 i o
  | ⟨3, _⟩ => exact h3 i o

end Cert.Topk
-- ==== Proof.PrepV.lean ====
/-
  The projections the first TensorCore call leaves, over the arrays it reads.
-/
module

public import proofs.«01_k».proof.Proof.Prep
public import Idealize.ShloMosaic.Lib.Pointwise
public import Idealize.ShloMosaic.Lib.Pipeline.ValueKit.Geometry

@[expose] public section

noncomputable section

namespace Cert.Topk

open Idealize.ShloMosaic Cert.KernelIdeal Cert.KernelIdeal.Gen

set_option maxHeartbeats 2000000

/-- The projection, off the arrays. -/
def projOf (A : S4x2048x1024.Idx → EReal) (W : S1024x512.Idx → EReal) (B : S1x512.Idx → EReal) : S4x2048x512.Idx → EReal := fun j =>
  ∑ x : Fin 1024, A (ix3 (j 0) (j 1) x) * W (ix2 x (j 2)) + B (ix2 0 (j 2))

theorem pay2_0 (X : S1x2048x1024.Idx → EReal) (Y : S1024x512.Idx → EReal) (Z : S1x512.Idx → EReal) (i : Fin 2048) (j : Fin 512) :
    (k0_pay2 (F := Ideal) X Y Z (ix3 0 i j) : EReal) = ∑ x, X (ix3 0 i x) * Y (ix2 x j) + Z (ix2 0 j) := by
  pointwise [k0_pay2, k0_pay1]

theorem pay3_0 (X : S1x2048x1024.Idx → EReal) (Y : S1024x512.Idx → EReal) (Z : S1x512.Idx → EReal) (i : Fin 2048) (j : Fin 512) :
    (k0_pay3 (F := Ideal) X Y Z (ix3 0 i j) : EReal) = ∑ x, X (ix3 0 i x) * Y (ix2 x j) + Z (ix2 0 j) := by
  pointwise [k0_pay3, k0_pay1]

variable (V : Valuation τ sig (Elt Ideal)) (c : Dev nD)

theorem index0_0 : ∀ t : Fin grid0.N, win0_0.index t 0 = t.val ∧ win0_0.index t 1 = 0 ∧ win0_0.index t 2 = 0 := by decide +kernel
theorem index0_1 : ∀ t : Fin grid0.N, win0_1.index t 0 = 0 ∧ win0_1.index t 1 = 0 := by decide +kernel
theorem index0_2 : ∀ t : Fin grid0.N, win0_2.index t 0 = 0 ∧ win0_2.index t 1 = 0 := by decide +kernel
theorem index0_3 : ∀ t : Fin grid0.N, win0_3.index t 0 = t.val ∧ win0_3.index t 1 = 0 ∧ win0_3.index t 2 = 0 := by decide +kernel
theorem index0_4 : ∀ t : Fin grid0.N, win0_4.index t 0 = t.val ∧ win0_4.index t 1 = 0 ∧ win0_4.index t 2 = 0 := by decide +kernel

theorem blk0_0 (t : Fin grid0.N) (i : Fin 2048) (x : Fin 1024) (h : t.val < 4) :
    (iblk 0 V 0 t (ix3 0 i x) : Ideal .f32) = (V (Proc.devRef .tc main_arg0) (ix3 ⟨t.val, h⟩ i x) : Ideal .f32) := by
  have e0 : ((cfgs 0).win 0).index t 0 = t.val := (index0_0 t).1
  have e1 : ((cfgs 0).win 0).index t 1 = 0 := (index0_0 t).2.1
  have e2 : ((cfgs 0).win 0).index t 2 = 0 := (index0_0 t).2.2
  blk_ext [iblk, e0, e1, e2]

theorem blk0_1 (t : Fin grid0.N) (i : Fin 1024) (x : Fin 512) :
    (iblk 0 V 1 t (ix2 i x) : Ideal .bf16) = (V (Proc.devRef .tc main_v6) (ix2 i x) : Ideal .bf16) := by
  have e0 : ((cfgs 0).win 1).index t 0 = 0 := (index0_1 t).1
  have e1 : ((cfgs 0).win 1).index t 1 = 0 := (index0_1 t).2
  blk_ext [iblk, e0, e1]

theorem blk0_2 (t : Fin grid0.N) (x : Fin 512) :
    (iblk 0 V 2 t (ix2 0 x) : Ideal .f32) = (V (Proc.devRef .tc main_v7) (ix2 0 x) : Ideal .f32) := by
  have e0 : ((cfgs 0).win 2).index t 0 = 0 := (index0_2 t).1
  have e1 : ((cfgs 0).win 2).index t 1 = 0 := (index0_2 t).2
  blk_ext [iblk, e0, e1]

theorem proj_blk (t : Fin grid0.N) (h : t.val < 4) (j : S4x2048x512.Idx) (i : Fin 2048) (o : Fin 512) (h0 : (j 0).val = t.val) (h1 : (j 1).val = i.val) (h2 : (j 2).val = o.val)
    (X : S1x2048x1024.Idx → EReal) (Y : S1024x512.Idx → EReal) (Z : S1x512.Idx → EReal) (hX : X = iblk 0 V 0 t) (hY : Y = iblk 0 V 1 t) (hZ : Z = iblk 0 V 2 t) :
    ∑ x, X (ix3 0 i x) * Y (ix2 x o) + Z (ix2 0 o)
      = projOf (V (Proc.devRef .tc main_arg0)) (V (Proc.devRef .tc main_v6)) (V (Proc.devRef .tc main_v7)) j := by
  have e : j = ix3 ⟨t.val, h⟩ i o := by
    funext a
    match a with
    | ⟨0, _⟩ => exact Fin.ext h0
    | ⟨1, _⟩ => exact Fin.ext h1
    | ⟨2, _⟩ => exact Fin.ext h2
  subst e hX hY hZ
  unfold projOf
  have s0 := fun x => blk0_0 V t i x h
  have s1 := fun x => blk0_1 V t x o
  have s2 := blk0_2 V t o
  simp only [s0, s1, s2]
  rfl

theorem shape0 (y : S1x2048x512.Idx) : y = ix3 0 (y 1) (y 2) := by
  funext a
  match a with
  | ⟨0, _⟩ => exact Fin.ext (by have := (y 0).isLt; simp at this; simpa using this)
  | ⟨1, _⟩ => rfl
  | ⟨2, _⟩ => rfl

/-- The first projection's array. -/
theorem arr0_3 (n : ℕ) : (dat0 n V c).arrAt 3 cfg0.N = projOf (V (Proc.devRef .tc main_arg0)) (V (Proc.devRef .tc main_v6)) (V (Proc.devRef .tc main_v7)) := by
  refine (dat0 n V c).arrAt_eq_of_covers 3 _ (by decide +kernel) fun t hf y => ?_
  blk_simp
  have e0 := index0_3 t
  refine Eq.trans ?_ (proj_blk V t t.isLt _ (y 1) (y 2) ?_ ?_ ?_ _ _ _ rfl rfl rfl)
  · show k0_pay2 (iblk 0 V 0 t) (iblk 0 V 1 t) (iblk 0 V 2 t) y = _
    refine (congrArg _ (shape0 y)).trans ?_
    exact pay2_0 _ _ _ _ _
  · blk_simp; rw [e0.1] <;> first | omega | exact Nat.zero_add _
  · blk_simp; rw [e0.2.1] <;> first | omega | exact Nat.zero_add _
  · blk_simp; rw [e0.2.2] <;> first | omega | exact Nat.zero_add _

/-- The second projection's array. -/
theorem arr0_4 (n : ℕ) : (dat0 n V c).arrAt 4 cfg0.N = projOf (V (Proc.devRef .tc main_arg0)) (V (Proc.devRef .tc main_v6)) (V (Proc.devRef .tc main_v7)) := by
  refine (dat0 n V c).arrAt_eq_of_covers 4 _ (by decide +kernel) fun t hf y => ?_
  blk_simp
  have e0 := index0_4 t
  refine Eq.trans ?_ (proj_blk V t t.isLt _ (y 1) (y 2) ?_ ?_ ?_ _ _ _ rfl rfl rfl)
  · show k0_pay3 (iblk 0 V 0 t) (iblk 0 V 1 t) (iblk 0 V 2 t) y = _
    refine (congrArg _ (shape0 y)).trans ?_
    exact pay3_0 _ _ _ _ _
  · blk_simp; rw [e0.1] <;> first | omega | exact Nat.zero_add _
  · blk_simp; rw [e0.2.1] <;> first | omega | exact Nat.zero_add _
  · blk_simp; rw [e0.2.2] <;> first | omega | exact Nat.zero_add _

end Cert.Topk
-- ==== Proof.DistV.lean ====
/-
  The distances the second TensorCore call leaves, over the normalised rows it reads.
-/
module

public import proofs.«01_k».proof.Proof.Dist
public import proofs.«01_k».proof.Proof.Spec
public import Idealize.ShloMosaic.Lib.Pointwise
public import Idealize.ShloMosaic.Lib.Pipeline.ValueKit.Geometry

@[expose] public section

noncomputable section

namespace Cert.Topk

open Idealize.ShloMosaic Cert.KernelIdeal Cert.KernelIdeal.Gen

set_option maxHeartbeats 2000000

/-- The distances, off the array of rows. -/
def gapOf (A : S4x2048x1024.Idx → EReal) : S4x2048x2048.Idx → EReal := fun j =>
  if (j 1).val = (j 2).val then Ideal.ofBits .f32 0x4E6E6B28#32 else 1 - ∑ x : Fin 1024, A (ix3 (j 0) (j 1) x) * A (ix3 (j 0) (j 2) x)

theorem coord1 : ∀ t : Fin grid1.N, (grid1.coords t 1).val = t.val % 4 := by decide +kernel

theorem row_word (g i : ℕ) (hg : g < 4) (hi : i < 512) :
    IntOp.addi (Scalar.muli (BitVec.ofNat 32 g) 512#32) (BitVec.ofNat 32 i) = BitVec.ofNat 32 (g * 512 + i) := by
  show BitVec.ofNat 32 g * 512#32 + BitVec.ofNat 32 i = _
  apply BitVec.eq_of_toNat_eq
  simp

theorem pay1_1 (t : Fin grid1.N) (X : S1x512x1024.Idx → EReal) (Y : S1x2048x1024.Idx → EReal) (i : Fin 512) (j : Fin 2048) :
    (k1_pay1 (F := Ideal) (grid1.coords t) X Y (ix3 0 i j) : EReal)
      = if t.val % 4 * 512 + i.val = j.val then Ideal.ofBits .f32 0x4E6E6B28#32 else 1 - ∑ x, X (ix3 0 i x) * Y (ix3 0 j x) := by
  have hi := i.isLt
  pointwise [k1_pay1]
  rw [coord1 t, row_word _ _ (Nat.mod_lt _ (by omega)) hi]
  refine (sel_eq j ⟨t.val % 4 * 512 + i.val, by omega⟩ _ _).trans ?_
  by_cases h : t.val % 4 * 512 + i.val = j.val
  · rw [if_pos h, if_pos h.symm]
  · rw [if_neg h, if_neg fun e => h e.symm]

theorem index1_0 : ∀ t : Fin grid1.N, win1_0.index t 0 = t.val / 4 ∧ win1_0.index t 1 = 0 ∧ win1_0.index t 2 = 0 := by decide +kernel
theorem index1_1 : ∀ t : Fin grid1.N, win1_1.index t 0 = t.val / 4 ∧ win1_1.index t 1 = t.val % 4 ∧ win1_1.index t 2 = 0 := by decide +kernel
theorem index1_2 : ∀ t : Fin grid1.N, win1_2.index t 0 = t.val / 4 ∧ win1_2.index t 1 = t.val % 4 ∧ win1_2.index t 2 = 0 := by decide +kernel

variable (V : Valuation τ sig (Elt Ideal)) (c : Dev nD)

theorem blk1_0 (t : Fin grid1.N) (i : Fin 2048) (x : Fin 1024) (b : Fin 4) (h : b.val = t.val / 4) :
    (iblk 1 V 0 t (ix3 0 i x) : Ideal .bf16) = (V (Proc.devRef .tc main_v5) (ix3 b i x) : Ideal .bf16) := by
  have e0 : ((cfgs 1).win 0).index t 0 = b.val := (index1_0 t).1.trans h.symm
  have e1 : ((cfgs 1).win 0).index t 1 = 0 := (index1_0 t).2.1
  have e2 : ((cfgs 1).win 0).index t 2 = 0 := (index1_0 t).2.2
  blk_ext [iblk, e0, e1, e2]

theorem blk1_1 (t : Fin grid1.N) (i : Fin 512) (r : Fin 2048) (x : Fin 1024) (b : Fin 4) (h : b.val = t.val / 4) (hr : t.val % 4 * 512 + i.val = r.val) :
    (iblk 1 V 1 t (ix3 0 i x) : Ideal .bf16) = (V (Proc.devRef .tc main_v5) (ix3 b r x) : Ideal .bf16) := by
  have e0 : ((cfgs 1).win 1).index t 0 = b.val := (index1_1 t).1.trans h.symm
  have e1 : ((cfgs 1).win 1).index t 1 = t.val % 4 := (index1_1 t).2.1
  have e2 : ((cfgs 1).win 1).index t 2 = 0 := (index1_1 t).2.2
  blk_ext [iblk, e0, e1, e2]

theorem gap_blk (t : Fin grid1.N) (h : t.val < 16) (j : S4x2048x2048.Idx) (i : Fin 512) (o : Fin 2048) (h0 : (j 0).val = t.val / 4)
    (h1 : (j 1).val = t.val % 4 * 512 + i.val) (h2 : (j 2).val = o.val)
    (X : S1x512x1024.Idx → EReal) (Y : S1x2048x1024.Idx → EReal) (hX : X = iblk 1 V 1 t) (hY : Y = iblk 1 V 0 t) :
    (if t.val % 4 * 512 + i.val = o.val then Ideal.ofBits .f32 0x4E6E6B28#32 else 1 - ∑ x, X (ix3 0 i x) * Y (ix3 0 o x))
      = gapOf (V (Proc.devRef .tc main_v5)) j := by
  obtain ⟨b, hb⟩ : ∃ b : Fin 4, b = j 0 := ⟨_, rfl⟩
  obtain ⟨r, hr⟩ : ∃ r : Fin 2048, r = j 1 := ⟨_, rfl⟩
  have e : j = ix3 b r o := by
    funext a
    match a with
    | ⟨0, _⟩ => exact hb.symm
    | ⟨1, _⟩ => exact hr.symm
    | ⟨2, _⟩ => exact Fin.ext h2
  rw [← hb] at h0
  rw [← hr] at h1
  subst e hX hY
  unfold gapOf
  have s0 := fun x => blk1_0 V t o x b h0
  have s1 := fun x => blk1_1 V t i r x b h0 h1.symm
  simp only [s0, s1, h1.symm]
  rfl

theorem shape1 (y : S1x512x2048.Idx) : y = ix3 0 (y 1) (y 2) := by
  funext a
  match a with
  | ⟨0, _⟩ => exact Fin.ext (by have := (y 0).isLt; simp at this; simpa using this)
  | ⟨1, _⟩ => rfl
  | ⟨2, _⟩ => rfl

/-- The distances' array. -/
theorem arr1_2 (n : ℕ) : (dat1 n V c).arrAt 2 cfg1.N = gapOf (V (Proc.devRef .tc main_v5)) := by
  refine (dat1 n V c).arrAt_eq_of_covers 2 _ (by decide +kernel) fun t hf y => ?_
  blk_simp
  have e0 := index1_2 t
  refine Eq.trans ?_ (gap_blk V t t.isLt _ (y 1) (y 2) ?_ ?_ ?_ _ _ rfl rfl)
  · show k1_pay1 (grid1.coords t) (iblk 1 V 1 t) (iblk 1 V 0 t) y = _
    refine (congrArg _ (shape1 y)).trans ?_
    exact pay1_1 t _ _ _ _
  · blk_simp; rw [e0.1] <;> first | omega | exact Nat.zero_add _
  · blk_simp; rw [e0.2.1] <;> first | omega | exact Nat.zero_add _
  · blk_simp; rw [e0.2.2] <;> first | omega | exact Nat.zero_add _

end Cert.Topk
-- ==== Proof.TailV3.lean ====
/-
  The value the network kernel stores, at a row: the networks of the row's combined projection.
-/
module

public import proofs.«01_k».proof.Proof.Row
public import proofs.«01_k».proof.Proof.Tail3
public import Idealize.ShloMosaic.Lib.Pointwise

@[expose] public section

noncomputable section

namespace Cert.Topk

open Idealize.ShloMosaic Cert.KernelIdeal Cert.KernelIdeal.Gen

set_option maxHeartbeats 2000000

variable (X2 : S1x256x32.Idx → Elt Ideal .f32) (X3 : S1x256x32.Idx → Elt Ideal .i32)

/-- The weights over all rows: the selected ones' at their columns. -/
theorem acc3_at (i : Fin 256) (σ : Fin 32 → Fin 2048) (hσ : ∀ u, (X3 (ix3 0 i u) : BitVec 32) = BitVec.ofNat 32 (σ u).val) (j : Fin 2048) :
    (acc3 X2 X3 (ix2 i j) : EReal) = pick (fun t => (σ (Fin.ofNat 32 t)).val) (fun t => (k3_pay2 X2 (ix2 i (Fin.ofNat 32 t)) : EReal)) j.val 30 := by
  pointwise [acc3, k3_pay1, k3_pay3, k3_pay4, k3_pay5, k3_pay6, k3_pay7, k3_pay8, k3_pay9, k3_pay10]
  simp only [hσ, sel_eq]
  rfl

variable (X4 : S1x2048x512.Idx → Elt Ideal .bf16) (X5 : S1x256x512.Idx → Elt Ideal .f32) (X6 : S512x1024.Idx → Elt Ideal .bf16)
  (X7 : S1x1024.Idx → Elt Ideal .f32) (X8 : S1024x512.Idx → Elt Ideal .bf16) (X9 : S1x512.Idx → Elt Ideal .f32)
  (X10 X11 : S1x512.Idx → Elt Ideal .f32) (X12 : S512x512.Idx → Elt Ideal .bf16) (X13 : S1x512.Idx → Elt Ideal .f32)
  (X14 : S512x512.Idx → Elt Ideal .bf16) (X15 : S1x512.Idx → Elt Ideal .f32)

/-- The centred row of the first network. -/
abbrev cen3 : FVec Ideal S256x512 .f32 :=
  k3_pay13 (k3_pay1 X3) (iota .tc S256x2048 32 [1] iota_S256x2048_d1_w32) (k3_pay2 X2) (acc3 X2 X3) (k3_pay11 (k3_pay1 X3) (iota .tc S256x2048 32 [1] iota_S256x2048_d1_w32)) (k3_pay12 (k3_pay2 X2)) X4 X5 X6 X7 X8 X9

theorem cen3_at (p : Params) (i : Fin 256) (σ : Fin 32 → Fin 2048) (hi : Function.Injective σ) (w : Fin 32 → EReal) (C : Fin 512 → EReal) (T : Fin 2048 → Fin 512 → EReal)
    (hσ : ∀ u, (X3 (ix3 0 i u) : BitVec 32) = BitVec.ofNat 32 (σ u).val) (hw : ∀ u, (k3_pay2 X2 (ix2 i u) : EReal) = w u)
    (h4 : ∀ x o, (X4 (ix3 0 x o) : EReal) = T x o) (h5 : ∀ o, (X5 (ix3 0 i o) : EReal) + ∑ u, T (σ u) o * w u = C o)
    (h6 : ∀ x y, (X6 (ix2 x y) : EReal) = p.W1 x y) (h7 : ∀ x, (X7 (ix2 0 x) : EReal) = p.B1 x)
    (h8 : ∀ x y, (X8 (ix2 x y) : EReal) = p.W2 x y) (h9 : ∀ x, (X9 (ix2 0 x) : EReal) = p.B2 x) (o : Fin 512) :
    (cen3 X2 X3 X4 X5 X6 X7 X8 X9 (ix2 i o) : EReal) = centred (after1 p C) o := by
  have hp : ∀ x : Fin 2048, Scalar.select (IntOp.cmpi .eq (BitVec.ofNat 32 x.val) (X3 (ix3 0 i 31))) (k3_pay2 X2 (ix2 i 31) : EReal)
      (Scalar.select (IntOp.cmpi .eq (BitVec.ofNat 32 x.val) (X3 (ix3 0 i 30))) (k3_pay2 X2 (ix2 i 30) : EReal) (acc3 X2 X3 (ix2 i x) : EReal))
        = pick (fun t => (σ (Fin.ofNat 32 t)).val) (fun t => (k3_pay2 X2 (ix2 i (Fin.ofNat 32 t)) : EReal)) x.val 32 := fun x => by
    rw [acc3_at X2 X3 i σ hσ, hσ, hσ, sel_eq, sel_eq]; rfl
  have hs : ∀ o, ∑ x : Fin 2048, pick (fun t => (σ (Fin.ofNat 32 t)).val) (fun t => (k3_pay2 X2 (ix2 i (Fin.ofNat 32 t)) : EReal)) x.val 32 * T x o
      = ∑ u, T (σ u) o * w u := fun o =>
    pick_sum σ hi w _ _ (fun u => by simp) (fun u => by simp [hw]) fun x => T x o
  unfold cen3
  pointwise [k3_pay13, k3_pay11, k3_pay12, k3_pay1]
  simp only [hp, h4, hs, h5, h6, h7, h8, h9]
  rfl

theorem tail3_at (E : Fin 2048 → Fin 1024 → EReal) (p : Params) (r : Fin 2048) (i : Fin 256)
    (h2 : ∀ u, (X2 (ix3 0 i u) : EReal) = nearDist E r u)
    (h3 : ∀ u, (X3 (ix3 0 i u) : BitVec 32) = BitVec.ofNat 32 (near E r u).val)
    (h4 : ∀ x o, (X4 (ix3 0 x o) : EReal) = topo E p.W p.B x o) (h5 : ∀ o, (X5 (ix3 0 i o) : EReal) = topo E p.W p.B r o)
    (h6 : ∀ x y, (X6 (ix2 x y) : EReal) = p.W1 x y) (h7 : ∀ x, (X7 (ix2 0 x) : EReal) = p.B1 x)
    (h8 : ∀ x y, (X8 (ix2 x y) : EReal) = p.W2 x y) (h9 : ∀ x, (X9 (ix2 0 x) : EReal) = p.B2 x)
    (h10 : ∀ x, (X10 (ix2 0 x) : EReal) = p.G x) (h11 : ∀ x, (X11 (ix2 0 x) : EReal) = p.H x)
    (h12 : ∀ x y, (X12 (ix2 x y) : EReal) = p.W3 x y) (h13 : ∀ x, (X13 (ix2 0 x) : EReal) = p.B3 x)
    (h14 : ∀ x y, (X14 (ix2 x y) : EReal) = p.W4 x y) (h15 : ∀ x, (X15 (ix2 0 x) : EReal) = p.B4 x) (o : Fin 512) :
    (tail3 X2 X3 X4 X5 X6 X7 X8 X9 X10 X11 X12 X13 X14 X15 (ix3 0 i o) : EReal) = rowOut E p r o := by
  have hw : ∀ u, (k3_pay2 X2 (ix2 i u) : EReal) = wgt E r u := fun u => by
    pointwise [k3_pay2]
    simp only [h2]
    rfl
  have hc : ∀ o, (cen3 X2 X3 X4 X5 X6 X7 X8 X9 (ix2 i o) : EReal) = centred (after1 p (comb E p.W p.B r)) o :=
    cen3_at X2 X3 X4 X5 X6 X7 X8 X9 p i (near E r) (nth_injective _) (wgt E r) _ _ h3 hw h4 (fun o => by rw [h5]; rfl) h6 h7 h8 h9
  have hq : ∀ o, (k3_pay14 (k3_pay1 X3) (iota .tc S256x2048 32 [1] iota_S256x2048_d1_w32) (k3_pay2 X2) (acc3 X2 X3) (k3_pay11 (k3_pay1 X3) (iota .tc S256x2048 32 [1] iota_S256x2048_d1_w32)) (k3_pay12 (k3_pay2 X2)) X4 X5 X6 X7 X8 X9 (ix2 i o) : EReal)
      = centred (after1 p (comb E p.W p.B r)) o * centred (after1 p (comb E p.W p.B r)) o := fun o => by
    rw [← hc]; rfl
  unfold tail3
  generalize k3_pay14 (k3_pay1 X3) (iota .tc S256x2048 32 [1] iota_S256x2048_d1_w32) (k3_pay2 X2) (acc3 X2 X3) (k3_pay11 (k3_pay1 X3) (iota .tc S256x2048 32 [1] iota_S256x2048_d1_w32)) (k3_pay12 (k3_pay2 X2)) X4 X5 X6 X7 X8 X9 = Q at hq ⊢
  unfold cen3 at hc
  generalize k3_pay13 (k3_pay1 X3) (iota .tc S256x2048 32 [1] iota_S256x2048_d1_w32) (k3_pay2 X2) (acc3 X2 X3) (k3_pay11 (k3_pay1 X3) (iota .tc S256x2048 32 [1] iota_S256x2048_d1_w32)) (k3_pay12 (k3_pay2 X2)) X4 X5 X6 X7 X8 X9 = P at hc ⊢
  pointwise [k3_pay15]
  simp only [hc, hq, h10, h11, h12, h13, h14, h15]
  rfl

end Cert.Topk
-- ==== Proof.TailA3.lean ====
/-
  The first result's rows of one batch, over the arrays the network call reads.
-/
module

public import proofs.«01_k».proof.Proof.TailV3
public import proofs.«01_k».proof.Proof.ParV
public import Idealize.ShloMosaic.Lib.Pipeline.ValueKit.Geometry

@[expose] public section

noncomputable section

namespace Cert.Topk

open Idealize.ShloMosaic Cert.KernelIdeal Cert.KernelIdeal.Gen

set_option maxHeartbeats 2000000

theorem index3_0 : ∀ t : Fin grid3.N, win3_0.index t 0 = 0 ∧ win3_0.index t 1 = t.val ∧ win3_0.index t 2 = 0 := by decide +kernel
theorem index3_1 : ∀ t : Fin grid3.N, win3_1.index t 0 = 0 ∧ win3_1.index t 1 = t.val ∧ win3_1.index t 2 = 0 := by decide +kernel
theorem index3_2 : ∀ t : Fin grid3.N, win3_2.index t 0 = 0 ∧ win3_2.index t 1 = 0 ∧ win3_2.index t 2 = 0 := by decide +kernel
theorem index3_3 : ∀ t : Fin grid3.N, win3_3.index t 0 = 0 ∧ win3_3.index t 1 = t.val ∧ win3_3.index t 2 = 0 := by decide +kernel
theorem index3_4 : ∀ t : Fin grid3.N, win3_4.index t 0 = 0 ∧ win3_4.index t 1 = 0 := by decide +kernel
theorem index3_5 : ∀ t : Fin grid3.N, win3_5.index t 0 = 0 ∧ win3_5.index t 1 = 0 := by decide +kernel
theorem index3_6 : ∀ t : Fin grid3.N, win3_6.index t 0 = 0 ∧ win3_6.index t 1 = 0 := by decide +kernel
theorem index3_7 : ∀ t : Fin grid3.N, win3_7.index t 0 = 0 ∧ win3_7.index t 1 = 0 := by decide +kernel
theorem index3_8 : ∀ t : Fin grid3.N, win3_8.index t 0 = 0 ∧ win3_8.index t 1 = 0 := by decide +kernel
theorem index3_9 : ∀ t : Fin grid3.N, win3_9.index t 0 = 0 ∧ win3_9.index t 1 = 0 := by decide +kernel
theorem index3_10 : ∀ t : Fin grid3.N, win3_10.index t 0 = 0 ∧ win3_10.index t 1 = 0 := by decide +kernel
theorem index3_11 : ∀ t : Fin grid3.N, win3_11.index t 0 = 0 ∧ win3_11.index t 1 = 0 := by decide +kernel
theorem index3_12 : ∀ t : Fin grid3.N, win3_12.index t 0 = 0 ∧ win3_12.index t 1 = 0 := by decide +kernel
theorem index3_13 : ∀ t : Fin grid3.N, win3_13.index t 0 = 0 ∧ win3_13.index t 1 = 0 := by decide +kernel
theorem index3_14 : ∀ t : Fin grid3.N, win3_14.index t 0 = 0 ∧ win3_14.index t 1 = t.val ∧ win3_14.index t 2 = 0 := by decide +kernel

variable (V : Valuation τ sig (Elt Ideal)) (c : Dev nD)

theorem blk3_0 (t : Fin grid3.N) (i : Fin 256) (r : Fin 2048) (u : Fin 32) (h : t.val * 256 + i.val = r.val) :
    (iblk 2 V 0 t (ix3 0 i u) : Ideal .f32) = (V (Proc.devRef .tc main_v21) (ix3 0 r u) : Ideal .f32) := by
  have e0 : ((cfgs 2).win 0).index t 0 = 0 := (index3_0 t).1
  have e1 : ((cfgs 2).win 0).index t 1 = t.val := (index3_0 t).2.1
  have e2 : ((cfgs 2).win 0).index t 2 = 0 := (index3_0 t).2.2
  blk_ext [iblk, e0, e1, e2]

theorem blk3_1 (t : Fin grid3.N) (i : Fin 256) (r : Fin 2048) (u : Fin 32) (h : t.val * 256 + i.val = r.val) :
    (iblk 2 V 1 t (ix3 0 i u) : BitVec 32) = (V (Proc.devRef .tc main_v22) (ix3 0 r u) : BitVec 32) := by
  have e0 : ((cfgs 2).win 1).index t 0 = 0 := (index3_1 t).1
  have e1 : ((cfgs 2).win 1).index t 1 = t.val := (index3_1 t).2.1
  have e2 : ((cfgs 2).win 1).index t 2 = 0 := (index3_1 t).2.2
  blk_ext [iblk, e0, e1, e2]

theorem blk3_2 (t : Fin grid3.N) (i : Fin 2048) (u : Fin 512) :
    (iblk 2 V 2 t (ix3 0 i u) : Ideal .bf16) = (V (Proc.devRef .tc main_v8_1) (ix3 0 i u) : Ideal .bf16) := by
  have e0 : ((cfgs 2).win 2).index t 0 = 0 := (index3_2 t).1
  have e1 : ((cfgs 2).win 2).index t 1 = 0 := (index3_2 t).2.1
  have e2 : ((cfgs 2).win 2).index t 2 = 0 := (index3_2 t).2.2
  blk_ext [iblk, e0, e1, e2]

theorem blk3_3 (t : Fin grid3.N) (i : Fin 256) (r : Fin 2048) (u : Fin 512) (h : t.val * 256 + i.val = r.val) :
    (iblk 2 V 3 t (ix3 0 i u) : Ideal .f32) = (V (Proc.devRef .tc main_v8_0) (ix3 0 r u) : Ideal .f32) := by
  have e0 : ((cfgs 2).win 3).index t 0 = 0 := (index3_3 t).1
  have e1 : ((cfgs 2).win 3).index t 1 = t.val := (index3_3 t).2.1
  have e2 : ((cfgs 2).win 3).index t 2 = 0 := (index3_3 t).2.2
  blk_ext [iblk, e0, e1, e2]

theorem blk3_4 (t : Fin grid3.N) (i : Fin 512) (x : Fin 1024) :
    (iblk 2 V 4 t (ix2 i x) : Ideal .bf16) = (V (Proc.devRef .tc main_v10) (ix2 i x) : Ideal .bf16) := by
  have e0 : ((cfgs 2).win 4).index t 0 = 0 := (index3_4 t).1
  have e1 : ((cfgs 2).win 4).index t 1 = 0 := (index3_4 t).2
  blk_ext [iblk, e0, e1]

theorem blk3_5 (t : Fin grid3.N) (x : Fin 1024) :
    (iblk 2 V 5 t (ix2 0 x) : Ideal .f32) = (V (Proc.devRef .tc main_v11) (ix2 0 x) : Ideal .f32) := by
  have e0 : ((cfgs 2).win 5).index t 0 = 0 := (index3_5 t).1
  have e1 : ((cfgs 2).win 5).index t 1 = 0 := (index3_5 t).2
  blk_ext [iblk, e0, e1]

theorem blk3_6 (t : Fin grid3.N) (i : Fin 1024) (x : Fin 512) :
    (iblk 2 V 6 t (ix2 i x) : Ideal .bf16) = (V (Proc.devRef .tc main_v12) (ix2 i x) : Ideal .bf16) := by
  have e0 : ((cfgs 2).win 6).index t 0 = 0 := (index3_6 t).1
  have e1 : ((cfgs 2).win 6).index t 1 = 0 := (index3_6 t).2
  blk_ext [iblk, e0, e1]

theorem blk3_7 (t : Fin grid3.N) (x : Fin 512) :
    (iblk 2 V 7 t (ix2 0 x) : Ideal .f32) = (V (Proc.devRef .tc main_v13) (ix2 0 x) : Ideal .f32) := by
  have e0 : ((cfgs 2).win 7).index t 0 = 0 := (index3_7 t).1
  have e1 : ((cfgs 2).win 7).index t 1 = 0 := (index3_7 t).2
  blk_ext [iblk, e0, e1]

theorem blk3_8 (t : Fin grid3.N) (x : Fin 512) :
    (iblk 2 V 8 t (ix2 0 x) : Ideal .f32) = (V (Proc.devRef .tc main_v14) (ix2 0 x) : Ideal .f32) := by
  have e0 : ((cfgs 2).win 8).index t 0 = 0 := (index3_8 t).1
  have e1 : ((cfgs 2).win 8).index t 1 = 0 := (index3_8 t).2
  blk_ext [iblk, e0, e1]

theorem blk3_9 (t : Fin grid3.N) (x : Fin 512) :
    (iblk 2 V 9 t (ix2 0 x) : Ideal .f32) = (V (Proc.devRef .tc main_v15) (ix2 0 x) : Ideal .f32) := by
  have e0 : ((cfgs 2).win 9).index t 0 = 0 := (index3_9 t).1
  have e1 : ((cfgs 2).win 9).index t 1 = 0 := (index3_9 t).2
  blk_ext [iblk, e0, e1]

theorem blk3_10 (t : Fin grid3.N) (i : Fin 512) (x : Fin 512) :
    (iblk 2 V 10 t (ix2 i x) : Ideal .bf16) = (V (Proc.devRef .tc main_v16) (ix2 i x) : Ideal .bf16) := by
  have e0 : ((cfgs 2).win 10).index t 0 = 0 := (index3_10 t).1
  have e1 : ((cfgs 2).win 10).index t 1 = 0 := (index3_10 t).2
  blk_ext [iblk, e0, e1]

theorem blk3_11 (t : Fin grid3.N) (x : Fin 512) :
    (iblk 2 V 11 t (ix2 0 x) : Ideal .f32) = (V (Proc.devRef .tc main_v17) (ix2 0 x) : Ideal .f32) := by
  have e0 : ((cfgs 2).win 11).index t 0 = 0 := (index3_11 t).1
  have e1 : ((cfgs 2).win 11).index t 1 = 0 := (index3_11 t).2
  blk_ext [iblk, e0, e1]

theorem blk3_12 (t : Fin grid3.N) (i : Fin 512) (x : Fin 512) :
    (iblk 2 V 12 t (ix2 i x) : Ideal .bf16) = (V (Proc.devRef .tc main_v18) (ix2 i x) : Ideal .bf16) := by
  have e0 : ((cfgs 2).win 12).index t 0 = 0 := (index3_12 t).1
  have e1 : ((cfgs 2).win 12).index t 1 = 0 := (index3_12 t).2
  blk_ext [iblk, e0, e1]

theorem blk3_13 (t : Fin grid3.N) (x : Fin 512) :
    (iblk 2 V 13 t (ix2 0 x) : Ideal .f32) = (V (Proc.devRef .tc main_v19) (ix2 0 x) : Ideal .f32) := by
  have e0 : ((cfgs 2).win 13).index t 0 = 0 := (index3_13 t).1
  have e1 : ((cfgs 2).win 13).index t 1 = 0 := (index3_13 t).2
  blk_ext [iblk, e0, e1]

theorem shape3 (y : S1x256x512.Idx) : y = ix3 0 (y 1) (y 2) := by
  funext a
  match a with
  | ⟨0, _⟩ => exact Fin.ext (by have := (y 0).isLt; simp at this; simpa using this)
  | ⟨1, _⟩ => rfl
  | ⟨2, _⟩ => rfl

theorem arr3_14 (n : ℕ) (E : Fin 2048 → Fin 1024 → EReal) (p : Params)
    (hn : ∀ r u, (V (Proc.devRef .tc main_v21) (ix3 0 r u) : Ideal .f32) = nearDist E r u)
    (hi : ∀ r u, (V (Proc.devRef .tc main_v22) (ix3 0 r u) : BitVec 32) = BitVec.ofNat 32 (near E r u).val)
    (ha : ∀ r o, (V (Proc.devRef .tc main_v8_1) (ix3 0 r o) : Ideal .bf16) = topo E p.W p.B r o)
    (hb : ∀ r o, (V (Proc.devRef .tc main_v8_0) (ix3 0 r o) : Ideal .f32) = topo E p.W p.B r o)
    (hp : HoldsPar V p) :
    (dat3 n V c).arrAt 14 cfg3.N = fun j : S1x2048x512.Idx => rowOut E p (j 1) (j 2) := by
  refine (dat3 n V c).arrAt_eq_of_covers 14 _ (by decide +kernel) fun t hf y => ?_
  blk_simp
  have e0 := index3_14 t
  have ht : t.val < 8 := t.isLt
  have hy1 : (y 1).val < 256 := (y 1).isLt
  show tail3 (iblk 2 V 0 t) (iblk 2 V 1 t) (iblk 2 V 2 t) (iblk 2 V 3 t) (iblk 2 V 4 t) (iblk 2 V 5 t) (iblk 2 V 6 t) (iblk 2 V 7 t) (iblk 2 V 8 t) (iblk 2 V 9 t) (iblk 2 V 10 t) (iblk 2 V 11 t) (iblk 2 V 12 t) (iblk 2 V 13 t) y = _
  obtain ⟨r, hr⟩ : ∃ r : Fin 2048, t.val * 256 + (y 1).val = r.val := ⟨⟨t.val * 256 + (y 1).val, by omega⟩, rfl⟩
  refine (congrArg _ (shape3 y)).trans ?_
  refine (tail3_at _ _ _ _ _ _ _ _ _ _ _ _ _ _ E p r (y 1) (fun u => (blk3_0 V t (y 1) r u hr).trans (hn r u)) (fun u => (blk3_1 V t (y 1) r u hr).trans (hi r u))
    (fun x o => (blk3_2 V t x o).trans (ha x o)) (fun o => (blk3_3 V t (y 1) r o hr).trans (hb r o))
    (fun x y => (blk3_4 V t x y).trans (hp.hW1 x y))
    (fun x => (blk3_5 V t x).trans (hp.hB1 x))
    (fun x y => (blk3_6 V t x y).trans (hp.hW2 x y))
    (fun x => (blk3_7 V t x).trans (hp.hB2 x))
    (fun x => (blk3_8 V t x).trans (hp.hG x))
    (fun x => (blk3_9 V t x).trans (hp.hH x))
    (fun x y => (blk3_10 V t x y).trans (hp.hW3 x y))
    (fun x => (blk3_11 V t x).trans (hp.hB3 x))
    (fun x y => (blk3_12 V t x y).trans (hp.hW4 x y))
    (fun x => (blk3_13 V t x).trans (hp.hB4 x))
    (y 2)).trans ?_
  refine congrArg₂ (rowOut E p) (Fin.ext ?_) (Fin.ext ?_)
  · blk_simp; rw [e0.2.1] <;> omega
  · blk_simp; rw [e0.2.2] <;> omega

end Cert.Topk
-- ==== Proof.TailV5.lean ====
/-
  The value the network kernel stores, at a row: the networks of the row's combined projection.
-/
module

public import proofs.«01_k».proof.Proof.Row
public import proofs.«01_k».proof.Proof.Tail5
public import Idealize.ShloMosaic.Lib.Pointwise

@[expose] public section

noncomputable section

namespace Cert.Topk

open Idealize.ShloMosaic Cert.KernelIdeal Cert.KernelIdeal.Gen

set_option maxHeartbeats 2000000

variable (X2 : S1x256x32.Idx → Elt Ideal .f32) (X3 : S1x256x32.Idx → Elt Ideal .i32)

/-- The weights over all rows: the selected ones' at their columns. -/
theorem acc5_at (i : Fin 256) (σ : Fin 32 → Fin 2048) (hσ : ∀ u, (X3 (ix3 0 i u) : BitVec 32) = BitVec.ofNat 32 (σ u).val) (j : Fin 2048) :
    (acc5 X2 X3 (ix2 i j) : EReal) = pick (fun t => (σ (Fin.ofNat 32 t)).val) (fun t => (k5_pay2 X2 (ix2 i (Fin.ofNat 32 t)) : EReal)) j.val 30 := by
  pointwise [acc5, k5_pay1, k5_pay3, k5_pay4, k5_pay5, k5_pay6, k5_pay7, k5_pay8, k5_pay9, k5_pay10]
  simp only [hσ, sel_eq]
  rfl

variable (X4 : S1x2048x512.Idx → Elt Ideal .bf16) (X5 : S1x256x512.Idx → Elt Ideal .f32) (X6 : S512x1024.Idx → Elt Ideal .bf16)
  (X7 : S1x1024.Idx → Elt Ideal .f32) (X8 : S1024x512.Idx → Elt Ideal .bf16) (X9 : S1x512.Idx → Elt Ideal .f32)
  (X10 X11 : S1x512.Idx → Elt Ideal .f32) (X12 : S512x512.Idx → Elt Ideal .bf16) (X13 : S1x512.Idx → Elt Ideal .f32)
  (X14 : S512x512.Idx → Elt Ideal .bf16) (X15 : S1x512.Idx → Elt Ideal .f32)

/-- The centred row of the first network. -/
abbrev cen5 : FVec Ideal S256x512 .f32 :=
  k5_pay13 (k5_pay1 X3) (iota .tc S256x2048 32 [1] iota_S256x2048_d1_w32) (k5_pay2 X2) (acc5 X2 X3) (k5_pay11 (k5_pay1 X3) (iota .tc S256x2048 32 [1] iota_S256x2048_d1_w32)) (k5_pay12 (k5_pay2 X2)) X4 X5 X6 X7 X8 X9

theorem cen5_at (p : Params) (i : Fin 256) (σ : Fin 32 → Fin 2048) (hi : Function.Injective σ) (w : Fin 32 → EReal) (C : Fin 512 → EReal) (T : Fin 2048 → Fin 512 → EReal)
    (hσ : ∀ u, (X3 (ix3 0 i u) : BitVec 32) = BitVec.ofNat 32 (σ u).val) (hw : ∀ u, (k5_pay2 X2 (ix2 i u) : EReal) = w u)
    (h4 : ∀ x o, (X4 (ix3 0 x o) : EReal) = T x o) (h5 : ∀ o, (X5 (ix3 0 i o) : EReal) + ∑ u, T (σ u) o * w u = C o)
    (h6 : ∀ x y, (X6 (ix2 x y) : EReal) = p.W1 x y) (h7 : ∀ x, (X7 (ix2 0 x) : EReal) = p.B1 x)
    (h8 : ∀ x y, (X8 (ix2 x y) : EReal) = p.W2 x y) (h9 : ∀ x, (X9 (ix2 0 x) : EReal) = p.B2 x) (o : Fin 512) :
    (cen5 X2 X3 X4 X5 X6 X7 X8 X9 (ix2 i o) : EReal) = centred (after1 p C) o := by
  have hp : ∀ x : Fin 2048, Scalar.select (IntOp.cmpi .eq (BitVec.ofNat 32 x.val) (X3 (ix3 0 i 31))) (k5_pay2 X2 (ix2 i 31) : EReal)
      (Scalar.select (IntOp.cmpi .eq (BitVec.ofNat 32 x.val) (X3 (ix3 0 i 30))) (k5_pay2 X2 (ix2 i 30) : EReal) (acc5 X2 X3 (ix2 i x) : EReal))
        = pick (fun t => (σ (Fin.ofNat 32 t)).val) (fun t => (k5_pay2 X2 (ix2 i (Fin.ofNat 32 t)) : EReal)) x.val 32 := fun x => by
    rw [acc5_at X2 X3 i σ hσ, hσ, hσ, sel_eq, sel_eq]; rfl
  have hs : ∀ o, ∑ x : Fin 2048, pick (fun t => (σ (Fin.ofNat 32 t)).val) (fun t => (k5_pay2 X2 (ix2 i (Fin.ofNat 32 t)) : EReal)) x.val 32 * T x o
      = ∑ u, T (σ u) o * w u := fun o =>
    pick_sum σ hi w _ _ (fun u => by simp) (fun u => by simp [hw]) fun x => T x o
  unfold cen5
  pointwise [k5_pay13, k5_pay11, k5_pay12, k5_pay1]
  simp only [hp, h4, hs, h5, h6, h7, h8, h9]
  rfl

theorem tail5_at (E : Fin 2048 → Fin 1024 → EReal) (p : Params) (r : Fin 2048) (i : Fin 256)
    (h2 : ∀ u, (X2 (ix3 0 i u) : EReal) = nearDist E r u)
    (h3 : ∀ u, (X3 (ix3 0 i u) : BitVec 32) = BitVec.ofNat 32 (near E r u).val)
    (h4 : ∀ x o, (X4 (ix3 0 x o) : EReal) = topo E p.W p.B x o) (h5 : ∀ o, (X5 (ix3 0 i o) : EReal) = topo E p.W p.B r o)
    (h6 : ∀ x y, (X6 (ix2 x y) : EReal) = p.W1 x y) (h7 : ∀ x, (X7 (ix2 0 x) : EReal) = p.B1 x)
    (h8 : ∀ x y, (X8 (ix2 x y) : EReal) = p.W2 x y) (h9 : ∀ x, (X9 (ix2 0 x) : EReal) = p.B2 x)
    (h10 : ∀ x, (X10 (ix2 0 x) : EReal) = p.G x) (h11 : ∀ x, (X11 (ix2 0 x) : EReal) = p.H x)
    (h12 : ∀ x y, (X12 (ix2 x y) : EReal) = p.W3 x y) (h13 : ∀ x, (X13 (ix2 0 x) : EReal) = p.B3 x)
    (h14 : ∀ x y, (X14 (ix2 x y) : EReal) = p.W4 x y) (h15 : ∀ x, (X15 (ix2 0 x) : EReal) = p.B4 x) (o : Fin 512) :
    (tail5 X2 X3 X4 X5 X6 X7 X8 X9 X10 X11 X12 X13 X14 X15 (ix3 0 i o) : EReal) = rowOut E p r o := by
  have hw : ∀ u, (k5_pay2 X2 (ix2 i u) : EReal) = wgt E r u := fun u => by
    pointwise [k5_pay2]
    simp only [h2]
    rfl
  have hc : ∀ o, (cen5 X2 X3 X4 X5 X6 X7 X8 X9 (ix2 i o) : EReal) = centred (after1 p (comb E p.W p.B r)) o :=
    cen5_at X2 X3 X4 X5 X6 X7 X8 X9 p i (near E r) (nth_injective _) (wgt E r) _ _ h3 hw h4 (fun o => by rw [h5]; rfl) h6 h7 h8 h9
  have hq : ∀ o, (k5_pay14 (k5_pay1 X3) (iota .tc S256x2048 32 [1] iota_S256x2048_d1_w32) (k5_pay2 X2) (acc5 X2 X3) (k5_pay11 (k5_pay1 X3) (iota .tc S256x2048 32 [1] iota_S256x2048_d1_w32)) (k5_pay12 (k5_pay2 X2)) X4 X5 X6 X7 X8 X9 (ix2 i o) : EReal)
      = centred (after1 p (comb E p.W p.B r)) o * centred (after1 p (comb E p.W p.B r)) o := fun o => by
    rw [← hc]; rfl
  unfold tail5
  generalize k5_pay14 (k5_pay1 X3) (iota .tc S256x2048 32 [1] iota_S256x2048_d1_w32) (k5_pay2 X2) (acc5 X2 X3) (k5_pay11 (k5_pay1 X3) (iota .tc S256x2048 32 [1] iota_S256x2048_d1_w32)) (k5_pay12 (k5_pay2 X2)) X4 X5 X6 X7 X8 X9 = Q at hq ⊢
  unfold cen5 at hc
  generalize k5_pay13 (k5_pay1 X3) (iota .tc S256x2048 32 [1] iota_S256x2048_d1_w32) (k5_pay2 X2) (acc5 X2 X3) (k5_pay11 (k5_pay1 X3) (iota .tc S256x2048 32 [1] iota_S256x2048_d1_w32)) (k5_pay12 (k5_pay2 X2)) X4 X5 X6 X7 X8 X9 = P at hc ⊢
  pointwise [k5_pay15]
  simp only [hc, hq, h10, h11, h12, h13, h14, h15]
  rfl

end Cert.Topk
-- ==== Proof.TailA5.lean ====
/-
  The first result's rows of one batch, over the arrays the network call reads.
-/
module

public import proofs.«01_k».proof.Proof.TailV5
public import proofs.«01_k».proof.Proof.ParV
public import Idealize.ShloMosaic.Lib.Pipeline.ValueKit.Geometry

@[expose] public section

noncomputable section

namespace Cert.Topk

open Idealize.ShloMosaic Cert.KernelIdeal Cert.KernelIdeal.Gen

set_option maxHeartbeats 2000000

theorem index5_0 : ∀ t : Fin grid5.N, win5_0.index t 0 = 0 ∧ win5_0.index t 1 = t.val ∧ win5_0.index t 2 = 0 := by decide +kernel
theorem index5_1 : ∀ t : Fin grid5.N, win5_1.index t 0 = 0 ∧ win5_1.index t 1 = t.val ∧ win5_1.index t 2 = 0 := by decide +kernel
theorem index5_2 : ∀ t : Fin grid5.N, win5_2.index t 0 = 1 ∧ win5_2.index t 1 = 0 ∧ win5_2.index t 2 = 0 := by decide +kernel
theorem index5_3 : ∀ t : Fin grid5.N, win5_3.index t 0 = 1 ∧ win5_3.index t 1 = t.val ∧ win5_3.index t 2 = 0 := by decide +kernel
theorem index5_4 : ∀ t : Fin grid5.N, win5_4.index t 0 = 0 ∧ win5_4.index t 1 = 0 := by decide +kernel
theorem index5_5 : ∀ t : Fin grid5.N, win5_5.index t 0 = 0 ∧ win5_5.index t 1 = 0 := by decide +kernel
theorem index5_6 : ∀ t : Fin grid5.N, win5_6.index t 0 = 0 ∧ win5_6.index t 1 = 0 := by decide +kernel
theorem index5_7 : ∀ t : Fin grid5.N, win5_7.index t 0 = 0 ∧ win5_7.index t 1 = 0 := by decide +kernel
theorem index5_8 : ∀ t : Fin grid5.N, win5_8.index t 0 = 0 ∧ win5_8.index t 1 = 0 := by decide +kernel
theorem index5_9 : ∀ t : Fin grid5.N, win5_9.index t 0 = 0 ∧ win5_9.index t 1 = 0 := by decide +kernel
theorem index5_10 : ∀ t : Fin grid5.N, win5_10.index t 0 = 0 ∧ win5_10.index t 1 = 0 := by decide +kernel
theorem index5_11 : ∀ t : Fin grid5.N, win5_11.index t 0 = 0 ∧ win5_11.index t 1 = 0 := by decide +kernel
theorem index5_12 : ∀ t : Fin grid5.N, win5_12.index t 0 = 0 ∧ win5_12.index t 1 = 0 := by decide +kernel
theorem index5_13 : ∀ t : Fin grid5.N, win5_13.index t 0 = 0 ∧ win5_13.index t 1 = 0 := by decide +kernel
theorem index5_14 : ∀ t : Fin grid5.N, win5_14.index t 0 = 0 ∧ win5_14.index t 1 = t.val ∧ win5_14.index t 2 = 0 := by decide +kernel

variable (V : Valuation τ sig (Elt Ideal)) (c : Dev nD)

theorem blk5_0 (t : Fin grid5.N) (i : Fin 256) (r : Fin 2048) (u : Fin 32) (h : t.val * 256 + i.val = r.val) :
    (iblk 3 V 0 t (ix3 0 i u) : Ideal .f32) = (V (Proc.devRef .tc main_v25) (ix3 0 r u) : Ideal .f32) := by
  have e0 : ((cfgs 3).win 0).index t 0 = 0 := (index5_0 t).1
  have e1 : ((cfgs 3).win 0).index t 1 = t.val := (index5_0 t).2.1
  have e2 : ((cfgs 3).win 0).index t 2 = 0 := (index5_0 t).2.2
  blk_ext [iblk, e0, e1, e2]

theorem blk5_1 (t : Fin grid5.N) (i : Fin 256) (r : Fin 2048) (u : Fin 32) (h : t.val * 256 + i.val = r.val) :
    (iblk 3 V 1 t (ix3 0 i u) : BitVec 32) = (V (Proc.devRef .tc main_v26) (ix3 0 r u) : BitVec 32) := by
  have e0 : ((cfgs 3).win 1).index t 0 = 0 := (index5_1 t).1
  have e1 : ((cfgs 3).win 1).index t 1 = t.val := (index5_1 t).2.1
  have e2 : ((cfgs 3).win 1).index t 2 = 0 := (index5_1 t).2.2
  blk_ext [iblk, e0, e1, e2]

theorem blk5_2 (t : Fin grid5.N) (i : Fin 2048) (u : Fin 512) :
    (iblk 3 V 2 t (ix3 0 i u) : Ideal .bf16) = (V (Proc.devRef .tc main_v8_1) (ix3 1 i u) : Ideal .bf16) := by
  have e0 : ((cfgs 3).win 2).index t 0 = 1 := (index5_2 t).1
  have e1 : ((cfgs 3).win 2).index t 1 = 0 := (index5_2 t).2.1
  have e2 : ((cfgs 3).win 2).index t 2 = 0 := (index5_2 t).2.2
  blk_ext [iblk, e0, e1, e2]

theorem blk5_3 (t : Fin grid5.N) (i : Fin 256) (r : Fin 2048) (u : Fin 512) (h : t.val * 256 + i.val = r.val) :
    (iblk 3 V 3 t (ix3 0 i u) : Ideal .f32) = (V (Proc.devRef .tc main_v8_0) (ix3 1 r u) : Ideal .f32) := by
  have e0 : ((cfgs 3).win 3).index t 0 = 1 := (index5_3 t).1
  have e1 : ((cfgs 3).win 3).index t 1 = t.val := (index5_3 t).2.1
  have e2 : ((cfgs 3).win 3).index t 2 = 0 := (index5_3 t).2.2
  blk_ext [iblk, e0, e1, e2]

theorem blk5_4 (t : Fin grid5.N) (i : Fin 512) (x : Fin 1024) :
    (iblk 3 V 4 t (ix2 i x) : Ideal .bf16) = (V (Proc.devRef .tc main_v10) (ix2 i x) : Ideal .bf16) := by
  have e0 : ((cfgs 3).win 4).index t 0 = 0 := (index5_4 t).1
  have e1 : ((cfgs 3).win 4).index t 1 = 0 := (index5_4 t).2
  blk_ext [iblk, e0, e1]

theorem blk5_5 (t : Fin grid5.N) (x : Fin 1024) :
    (iblk 3 V 5 t (ix2 0 x) : Ideal .f32) = (V (Proc.devRef .tc main_v11) (ix2 0 x) : Ideal .f32) := by
  have e0 : ((cfgs 3).win 5).index t 0 = 0 := (index5_5 t).1
  have e1 : ((cfgs 3).win 5).index t 1 = 0 := (index5_5 t).2
  blk_ext [iblk, e0, e1]

theorem blk5_6 (t : Fin grid5.N) (i : Fin 1024) (x : Fin 512) :
    (iblk 3 V 6 t (ix2 i x) : Ideal .bf16) = (V (Proc.devRef .tc main_v12) (ix2 i x) : Ideal .bf16) := by
  have e0 : ((cfgs 3).win 6).index t 0 = 0 := (index5_6 t).1
  have e1 : ((cfgs 3).win 6).index t 1 = 0 := (index5_6 t).2
  blk_ext [iblk, e0, e1]

theorem blk5_7 (t : Fin grid5.N) (x : Fin 512) :
    (iblk 3 V 7 t (ix2 0 x) : Ideal .f32) = (V (Proc.devRef .tc main_v13) (ix2 0 x) : Ideal .f32) := by
  have e0 : ((cfgs 3).win 7).index t 0 = 0 := (index5_7 t).1
  have e1 : ((cfgs 3).win 7).index t 1 = 0 := (index5_7 t).2
  blk_ext [iblk, e0, e1]

theorem blk5_8 (t : Fin grid5.N) (x : Fin 512) :
    (iblk 3 V 8 t (ix2 0 x) : Ideal .f32) = (V (Proc.devRef .tc main_v14) (ix2 0 x) : Ideal .f32) := by
  have e0 : ((cfgs 3).win 8).index t 0 = 0 := (index5_8 t).1
  have e1 : ((cfgs 3).win 8).index t 1 = 0 := (index5_8 t).2
  blk_ext [iblk, e0, e1]

theorem blk5_9 (t : Fin grid5.N) (x : Fin 512) :
    (iblk 3 V 9 t (ix2 0 x) : Ideal .f32) = (V (Proc.devRef .tc main_v15) (ix2 0 x) : Ideal .f32) := by
  have e0 : ((cfgs 3).win 9).index t 0 = 0 := (index5_9 t).1
  have e1 : ((cfgs 3).win 9).index t 1 = 0 := (index5_9 t).2
  blk_ext [iblk, e0, e1]

theorem blk5_10 (t : Fin grid5.N) (i : Fin 512) (x : Fin 512) :
    (iblk 3 V 10 t (ix2 i x) : Ideal .bf16) = (V (Proc.devRef .tc main_v16) (ix2 i x) : Ideal .bf16) := by
  have e0 : ((cfgs 3).win 10).index t 0 = 0 := (index5_10 t).1
  have e1 : ((cfgs 3).win 10).index t 1 = 0 := (index5_10 t).2
  blk_ext [iblk, e0, e1]

theorem blk5_11 (t : Fin grid5.N) (x : Fin 512) :
    (iblk 3 V 11 t (ix2 0 x) : Ideal .f32) = (V (Proc.devRef .tc main_v17) (ix2 0 x) : Ideal .f32) := by
  have e0 : ((cfgs 3).win 11).index t 0 = 0 := (index5_11 t).1
  have e1 : ((cfgs 3).win 11).index t 1 = 0 := (index5_11 t).2
  blk_ext [iblk, e0, e1]

theorem blk5_12 (t : Fin grid5.N) (i : Fin 512) (x : Fin 512) :
    (iblk 3 V 12 t (ix2 i x) : Ideal .bf16) = (V (Proc.devRef .tc main_v18) (ix2 i x) : Ideal .bf16) := by
  have e0 : ((cfgs 3).win 12).index t 0 = 0 := (index5_12 t).1
  have e1 : ((cfgs 3).win 12).index t 1 = 0 := (index5_12 t).2
  blk_ext [iblk, e0, e1]

theorem blk5_13 (t : Fin grid5.N) (x : Fin 512) :
    (iblk 3 V 13 t (ix2 0 x) : Ideal .f32) = (V (Proc.devRef .tc main_v19) (ix2 0 x) : Ideal .f32) := by
  have e0 : ((cfgs 3).win 13).index t 0 = 0 := (index5_13 t).1
  have e1 : ((cfgs 3).win 13).index t 1 = 0 := (index5_13 t).2
  blk_ext [iblk, e0, e1]

theorem shape5 (y : S1x256x512.Idx) : y = ix3 0 (y 1) (y 2) := by
  funext a
  match a with
  | ⟨0, _⟩ => exact Fin.ext (by have := (y 0).isLt; simp at this; simpa using this)
  | ⟨1, _⟩ => rfl
  | ⟨2, _⟩ => rfl

theorem arr5_14 (n : ℕ) (E : Fin 2048 → Fin 1024 → EReal) (p : Params)
    (hn : ∀ r u, (V (Proc.devRef .tc main_v25) (ix3 0 r u) : Ideal .f32) = nearDist E r u)
    (hi : ∀ r u, (V (Proc.devRef .tc main_v26) (ix3 0 r u) : BitVec 32) = BitVec.ofNat 32 (near E r u).val)
    (ha : ∀ r o, (V (Proc.devRef .tc main_v8_1) (ix3 1 r o) : Ideal .bf16) = topo E p.W p.B r o)
    (hb : ∀ r o, (V (Proc.devRef .tc main_v8_0) (ix3 1 r o) : Ideal .f32) = topo E p.W p.B r o)
    (hp : HoldsPar V p) :
    (dat5 n V c).arrAt 14 cfg5.N = fun j : S1x2048x512.Idx => rowOut E p (j 1) (j 2) := by
  refine (dat5 n V c).arrAt_eq_of_covers 14 _ (by decide +kernel) fun t hf y => ?_
  blk_simp
  have e0 := index5_14 t
  have ht : t.val < 8 := t.isLt
  have hy1 : (y 1).val < 256 := (y 1).isLt
  show tail5 (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t) (iblk 3 V 10 t) (iblk 3 V 11 t) (iblk 3 V 12 t) (iblk 3 V 13 t) y = _
  obtain ⟨r, hr⟩ : ∃ r : Fin 2048, t.val * 256 + (y 1).val = r.val := ⟨⟨t.val * 256 + (y 1).val, by omega⟩, rfl⟩
  refine (congrArg _ (shape5 y)).trans ?_
  refine (tail5_at _ _ _ _ _ _ _ _ _ _ _ _ _ _ E p r (y 1) (fun u => (blk5_0 V t (y 1) r u hr).trans (hn r u)) (fun u => (blk5_1 V t (y 1) r u hr).trans (hi r u))
    (fun x o => (blk5_2 V t x o).trans (ha x o)) (fun o => (blk5_3 V t (y 1) r o hr).trans (hb r o))
    (fun x y => (blk5_4 V t x y).trans (hp.hW1 x y))
    (fun x => (blk5_5 V t x).trans (hp.hB1 x))
    (fun x y => (blk5_6 V t x y).trans (hp.hW2 x y))
    (fun x => (blk5_7 V t x).trans (hp.hB2 x))
    (fun x => (blk5_8 V t x).trans (hp.hG x))
    (fun x => (blk5_9 V t x).trans (hp.hH x))
    (fun x y => (blk5_10 V t x y).trans (hp.hW3 x y))
    (fun x => (blk5_11 V t x).trans (hp.hB3 x))
    (fun x y => (blk5_12 V t x y).trans (hp.hW4 x y))
    (fun x => (blk5_13 V t x).trans (hp.hB4 x))
    (y 2)).trans ?_
  refine congrArg₂ (rowOut E p) (Fin.ext ?_) (Fin.ext ?_)
  · blk_simp; rw [e0.2.1] <;> omega
  · blk_simp; rw [e0.2.2] <;> omega

end Cert.Topk
-- ==== Proof.TailV7.lean ====
/-
  The value the network kernel stores, at a row: the networks of the row's combined projection.
-/
module

public import proofs.«01_k».proof.Proof.Row
public import proofs.«01_k».proof.Proof.Tail7
public import Idealize.ShloMosaic.Lib.Pointwise

@[expose] public section

noncomputable section

namespace Cert.Topk

open Idealize.ShloMosaic Cert.KernelIdeal Cert.KernelIdeal.Gen

set_option maxHeartbeats 2000000

variable (X2 : S1x256x32.Idx → Elt Ideal .f32) (X3 : S1x256x32.Idx → Elt Ideal .i32)

/-- The weights over all rows: the selected ones' at their columns. -/
theorem acc7_at (i : Fin 256) (σ : Fin 32 → Fin 2048) (hσ : ∀ u, (X3 (ix3 0 i u) : BitVec 32) = BitVec.ofNat 32 (σ u).val) (j : Fin 2048) :
    (acc7 X2 X3 (ix2 i j) : EReal) = pick (fun t => (σ (Fin.ofNat 32 t)).val) (fun t => (k7_pay2 X2 (ix2 i (Fin.ofNat 32 t)) : EReal)) j.val 30 := by
  pointwise [acc7, k7_pay1, k7_pay3, k7_pay4, k7_pay5, k7_pay6, k7_pay7, k7_pay8, k7_pay9, k7_pay10]
  simp only [hσ, sel_eq]
  rfl

variable (X4 : S1x2048x512.Idx → Elt Ideal .bf16) (X5 : S1x256x512.Idx → Elt Ideal .f32) (X6 : S512x1024.Idx → Elt Ideal .bf16)
  (X7 : S1x1024.Idx → Elt Ideal .f32) (X8 : S1024x512.Idx → Elt Ideal .bf16) (X9 : S1x512.Idx → Elt Ideal .f32)
  (X10 X11 : S1x512.Idx → Elt Ideal .f32) (X12 : S512x512.Idx → Elt Ideal .bf16) (X13 : S1x512.Idx → Elt Ideal .f32)
  (X14 : S512x512.Idx → Elt Ideal .bf16) (X15 : S1x512.Idx → Elt Ideal .f32)

/-- The centred row of the first network. -/
abbrev cen7 : FVec Ideal S256x512 .f32 :=
  k7_pay13 (k7_pay1 X3) (iota .tc S256x2048 32 [1] iota_S256x2048_d1_w32) (k7_pay2 X2) (acc7 X2 X3) (k7_pay11 (k7_pay1 X3) (iota .tc S256x2048 32 [1] iota_S256x2048_d1_w32)) (k7_pay12 (k7_pay2 X2)) X4 X5 X6 X7 X8 X9

theorem cen7_at (p : Params) (i : Fin 256) (σ : Fin 32 → Fin 2048) (hi : Function.Injective σ) (w : Fin 32 → EReal) (C : Fin 512 → EReal) (T : Fin 2048 → Fin 512 → EReal)
    (hσ : ∀ u, (X3 (ix3 0 i u) : BitVec 32) = BitVec.ofNat 32 (σ u).val) (hw : ∀ u, (k7_pay2 X2 (ix2 i u) : EReal) = w u)
    (h4 : ∀ x o, (X4 (ix3 0 x o) : EReal) = T x o) (h5 : ∀ o, (X5 (ix3 0 i o) : EReal) + ∑ u, T (σ u) o * w u = C o)
    (h6 : ∀ x y, (X6 (ix2 x y) : EReal) = p.W1 x y) (h7 : ∀ x, (X7 (ix2 0 x) : EReal) = p.B1 x)
    (h8 : ∀ x y, (X8 (ix2 x y) : EReal) = p.W2 x y) (h9 : ∀ x, (X9 (ix2 0 x) : EReal) = p.B2 x) (o : Fin 512) :
    (cen7 X2 X3 X4 X5 X6 X7 X8 X9 (ix2 i o) : EReal) = centred (after1 p C) o := by
  have hp : ∀ x : Fin 2048, Scalar.select (IntOp.cmpi .eq (BitVec.ofNat 32 x.val) (X3 (ix3 0 i 31))) (k7_pay2 X2 (ix2 i 31) : EReal)
      (Scalar.select (IntOp.cmpi .eq (BitVec.ofNat 32 x.val) (X3 (ix3 0 i 30))) (k7_pay2 X2 (ix2 i 30) : EReal) (acc7 X2 X3 (ix2 i x) : EReal))
        = pick (fun t => (σ (Fin.ofNat 32 t)).val) (fun t => (k7_pay2 X2 (ix2 i (Fin.ofNat 32 t)) : EReal)) x.val 32 := fun x => by
    rw [acc7_at X2 X3 i σ hσ, hσ, hσ, sel_eq, sel_eq]; rfl
  have hs : ∀ o, ∑ x : Fin 2048, pick (fun t => (σ (Fin.ofNat 32 t)).val) (fun t => (k7_pay2 X2 (ix2 i (Fin.ofNat 32 t)) : EReal)) x.val 32 * T x o
      = ∑ u, T (σ u) o * w u := fun o =>
    pick_sum σ hi w _ _ (fun u => by simp) (fun u => by simp [hw]) fun x => T x o
  unfold cen7
  pointwise [k7_pay13, k7_pay11, k7_pay12, k7_pay1]
  simp only [hp, h4, hs, h5, h6, h7, h8, h9]
  rfl

theorem tail7_at (E : Fin 2048 → Fin 1024 → EReal) (p : Params) (r : Fin 2048) (i : Fin 256)
    (h2 : ∀ u, (X2 (ix3 0 i u) : EReal) = nearDist E r u)
    (h3 : ∀ u, (X3 (ix3 0 i u) : BitVec 32) = BitVec.ofNat 32 (near E r u).val)
    (h4 : ∀ x o, (X4 (ix3 0 x o) : EReal) = topo E p.W p.B x o) (h5 : ∀ o, (X5 (ix3 0 i o) : EReal) = topo E p.W p.B r o)
    (h6 : ∀ x y, (X6 (ix2 x y) : EReal) = p.W1 x y) (h7 : ∀ x, (X7 (ix2 0 x) : EReal) = p.B1 x)
    (h8 : ∀ x y, (X8 (ix2 x y) : EReal) = p.W2 x y) (h9 : ∀ x, (X9 (ix2 0 x) : EReal) = p.B2 x)
    (h10 : ∀ x, (X10 (ix2 0 x) : EReal) = p.G x) (h11 : ∀ x, (X11 (ix2 0 x) : EReal) = p.H x)
    (h12 : ∀ x y, (X12 (ix2 x y) : EReal) = p.W3 x y) (h13 : ∀ x, (X13 (ix2 0 x) : EReal) = p.B3 x)
    (h14 : ∀ x y, (X14 (ix2 x y) : EReal) = p.W4 x y) (h15 : ∀ x, (X15 (ix2 0 x) : EReal) = p.B4 x) (o : Fin 512) :
    (tail7 X2 X3 X4 X5 X6 X7 X8 X9 X10 X11 X12 X13 X14 X15 (ix3 0 i o) : EReal) = rowOut E p r o := by
  have hw : ∀ u, (k7_pay2 X2 (ix2 i u) : EReal) = wgt E r u := fun u => by
    pointwise [k7_pay2]
    simp only [h2]
    rfl
  have hc : ∀ o, (cen7 X2 X3 X4 X5 X6 X7 X8 X9 (ix2 i o) : EReal) = centred (after1 p (comb E p.W p.B r)) o :=
    cen7_at X2 X3 X4 X5 X6 X7 X8 X9 p i (near E r) (nth_injective _) (wgt E r) _ _ h3 hw h4 (fun o => by rw [h5]; rfl) h6 h7 h8 h9
  have hq : ∀ o, (k7_pay14 (k7_pay1 X3) (iota .tc S256x2048 32 [1] iota_S256x2048_d1_w32) (k7_pay2 X2) (acc7 X2 X3) (k7_pay11 (k7_pay1 X3) (iota .tc S256x2048 32 [1] iota_S256x2048_d1_w32)) (k7_pay12 (k7_pay2 X2)) X4 X5 X6 X7 X8 X9 (ix2 i o) : EReal)
      = centred (after1 p (comb E p.W p.B r)) o * centred (after1 p (comb E p.W p.B r)) o := fun o => by
    rw [← hc]; rfl
  unfold tail7
  generalize k7_pay14 (k7_pay1 X3) (iota .tc S256x2048 32 [1] iota_S256x2048_d1_w32) (k7_pay2 X2) (acc7 X2 X3) (k7_pay11 (k7_pay1 X3) (iota .tc S256x2048 32 [1] iota_S256x2048_d1_w32)) (k7_pay12 (k7_pay2 X2)) X4 X5 X6 X7 X8 X9 = Q at hq ⊢
  unfold cen7 at hc
  generalize k7_pay13 (k7_pay1 X3) (iota .tc S256x2048 32 [1] iota_S256x2048_d1_w32) (k7_pay2 X2) (acc7 X2 X3) (k7_pay11 (k7_pay1 X3) (iota .tc S256x2048 32 [1] iota_S256x2048_d1_w32)) (k7_pay12 (k7_pay2 X2)) X4 X5 X6 X7 X8 X9 = P at hc ⊢
  pointwise [k7_pay15]
  simp only [hc, hq, h10, h11, h12, h13, h14, h15]
  rfl

end Cert.Topk
-- ==== Proof.TailA7.lean ====
/-
  The first result's rows of one batch, over the arrays the network call reads.
-/
module

public import proofs.«01_k».proof.Proof.TailV7
public import proofs.«01_k».proof.Proof.ParV
public import Idealize.ShloMosaic.Lib.Pipeline.ValueKit.Geometry

@[expose] public section

noncomputable section

namespace Cert.Topk

open Idealize.ShloMosaic Cert.KernelIdeal Cert.KernelIdeal.Gen

set_option maxHeartbeats 2000000

theorem index7_0 : ∀ t : Fin grid7.N, win7_0.index t 0 = 0 ∧ win7_0.index t 1 = t.val ∧ win7_0.index t 2 = 0 := by decide +kernel
theorem index7_1 : ∀ t : Fin grid7.N, win7_1.index t 0 = 0 ∧ win7_1.index t 1 = t.val ∧ win7_1.index t 2 = 0 := by decide +kernel
theorem index7_2 : ∀ t : Fin grid7.N, win7_2.index t 0 = 2 ∧ win7_2.index t 1 = 0 ∧ win7_2.index t 2 = 0 := by decide +kernel
theorem index7_3 : ∀ t : Fin grid7.N, win7_3.index t 0 = 2 ∧ win7_3.index t 1 = t.val ∧ win7_3.index t 2 = 0 := by decide +kernel
theorem index7_4 : ∀ t : Fin grid7.N, win7_4.index t 0 = 0 ∧ win7_4.index t 1 = 0 := by decide +kernel
theorem index7_5 : ∀ t : Fin grid7.N, win7_5.index t 0 = 0 ∧ win7_5.index t 1 = 0 := by decide +kernel
theorem index7_6 : ∀ t : Fin grid7.N, win7_6.index t 0 = 0 ∧ win7_6.index t 1 = 0 := by decide +kernel
theorem index7_7 : ∀ t : Fin grid7.N, win7_7.index t 0 = 0 ∧ win7_7.index t 1 = 0 := by decide +kernel
theorem index7_8 : ∀ t : Fin grid7.N, win7_8.index t 0 = 0 ∧ win7_8.index t 1 = 0 := by decide +kernel
theorem index7_9 : ∀ t : Fin grid7.N, win7_9.index t 0 = 0 ∧ win7_9.index t 1 = 0 := by decide +kernel
theorem index7_10 : ∀ t : Fin grid7.N, win7_10.index t 0 = 0 ∧ win7_10.index t 1 = 0 := by decide +kernel
theorem index7_11 : ∀ t : Fin grid7.N, win7_11.index t 0 = 0 ∧ win7_11.index t 1 = 0 := by decide +kernel
theorem index7_12 : ∀ t : Fin grid7.N, win7_12.index t 0 = 0 ∧ win7_12.index t 1 = 0 := by decide +kernel
theorem index7_13 : ∀ t : Fin grid7.N, win7_13.index t 0 = 0 ∧ win7_13.index t 1 = 0 := by decide +kernel
theorem index7_14 : ∀ t : Fin grid7.N, win7_14.index t 0 = 0 ∧ win7_14.index t 1 = t.val ∧ win7_14.index t 2 = 0 := by decide +kernel

variable (V : Valuation τ sig (Elt Ideal)) (c : Dev nD)

theorem blk7_0 (t : Fin grid7.N) (i : Fin 256) (r : Fin 2048) (u : Fin 32) (h : t.val * 256 + i.val = r.val) :
    (iblk 4 V 0 t (ix3 0 i u) : Ideal .f32) = (V (Proc.devRef .tc main_v29) (ix3 0 r u) : Ideal .f32) := by
  have e0 : ((cfgs 4).win 0).index t 0 = 0 := (index7_0 t).1
  have e1 : ((cfgs 4).win 0).index t 1 = t.val := (index7_0 t).2.1
  have e2 : ((cfgs 4).win 0).index t 2 = 0 := (index7_0 t).2.2
  blk_ext [iblk, e0, e1, e2]

theorem blk7_1 (t : Fin grid7.N) (i : Fin 256) (r : Fin 2048) (u : Fin 32) (h : t.val * 256 + i.val = r.val) :
    (iblk 4 V 1 t (ix3 0 i u) : BitVec 32) = (V (Proc.devRef .tc main_v30) (ix3 0 r u) : BitVec 32) := by
  have e0 : ((cfgs 4).win 1).index t 0 = 0 := (index7_1 t).1
  have e1 : ((cfgs 4).win 1).index t 1 = t.val := (index7_1 t).2.1
  have e2 : ((cfgs 4).win 1).index t 2 = 0 := (index7_1 t).2.2
  blk_ext [iblk, e0, e1, e2]

theorem blk7_2 (t : Fin grid7.N) (i : Fin 2048) (u : Fin 512) :
    (iblk 4 V 2 t (ix3 0 i u) : Ideal .bf16) = (V (Proc.devRef .tc main_v8_1) (ix3 2 i u) : Ideal .bf16) := by
  have e0 : ((cfgs 4).win 2).index t 0 = 2 := (index7_2 t).1
  have e1 : ((cfgs 4).win 2).index t 1 = 0 := (index7_2 t).2.1
  have e2 : ((cfgs 4).win 2).index t 2 = 0 := (index7_2 t).2.2
  blk_ext [iblk, e0, e1, e2]

theorem blk7_3 (t : Fin grid7.N) (i : Fin 256) (r : Fin 2048) (u : Fin 512) (h : t.val * 256 + i.val = r.val) :
    (iblk 4 V 3 t (ix3 0 i u) : Ideal .f32) = (V (Proc.devRef .tc main_v8_0) (ix3 2 r u) : Ideal .f32) := by
  have e0 : ((cfgs 4).win 3).index t 0 = 2 := (index7_3 t).1
  have e1 : ((cfgs 4).win 3).index t 1 = t.val := (index7_3 t).2.1
  have e2 : ((cfgs 4).win 3).index t 2 = 0 := (index7_3 t).2.2
  blk_ext [iblk, e0, e1, e2]

theorem blk7_4 (t : Fin grid7.N) (i : Fin 512) (x : Fin 1024) :
    (iblk 4 V 4 t (ix2 i x) : Ideal .bf16) = (V (Proc.devRef .tc main_v10) (ix2 i x) : Ideal .bf16) := by
  have e0 : ((cfgs 4).win 4).index t 0 = 0 := (index7_4 t).1
  have e1 : ((cfgs 4).win 4).index t 1 = 0 := (index7_4 t).2
  blk_ext [iblk, e0, e1]

theorem blk7_5 (t : Fin grid7.N) (x : Fin 1024) :
    (iblk 4 V 5 t (ix2 0 x) : Ideal .f32) = (V (Proc.devRef .tc main_v11) (ix2 0 x) : Ideal .f32) := by
  have e0 : ((cfgs 4).win 5).index t 0 = 0 := (index7_5 t).1
  have e1 : ((cfgs 4).win 5).index t 1 = 0 := (index7_5 t).2
  blk_ext [iblk, e0, e1]

theorem blk7_6 (t : Fin grid7.N) (i : Fin 1024) (x : Fin 512) :
    (iblk 4 V 6 t (ix2 i x) : Ideal .bf16) = (V (Proc.devRef .tc main_v12) (ix2 i x) : Ideal .bf16) := by
  have e0 : ((cfgs 4).win 6).index t 0 = 0 := (index7_6 t).1
  have e1 : ((cfgs 4).win 6).index t 1 = 0 := (index7_6 t).2
  blk_ext [iblk, e0, e1]

theorem blk7_7 (t : Fin grid7.N) (x : Fin 512) :
    (iblk 4 V 7 t (ix2 0 x) : Ideal .f32) = (V (Proc.devRef .tc main_v13) (ix2 0 x) : Ideal .f32) := by
  have e0 : ((cfgs 4).win 7).index t 0 = 0 := (index7_7 t).1
  have e1 : ((cfgs 4).win 7).index t 1 = 0 := (index7_7 t).2
  blk_ext [iblk, e0, e1]

theorem blk7_8 (t : Fin grid7.N) (x : Fin 512) :
    (iblk 4 V 8 t (ix2 0 x) : Ideal .f32) = (V (Proc.devRef .tc main_v14) (ix2 0 x) : Ideal .f32) := by
  have e0 : ((cfgs 4).win 8).index t 0 = 0 := (index7_8 t).1
  have e1 : ((cfgs 4).win 8).index t 1 = 0 := (index7_8 t).2
  blk_ext [iblk, e0, e1]

theorem blk7_9 (t : Fin grid7.N) (x : Fin 512) :
    (iblk 4 V 9 t (ix2 0 x) : Ideal .f32) = (V (Proc.devRef .tc main_v15) (ix2 0 x) : Ideal .f32) := by
  have e0 : ((cfgs 4).win 9).index t 0 = 0 := (index7_9 t).1
  have e1 : ((cfgs 4).win 9).index t 1 = 0 := (index7_9 t).2
  blk_ext [iblk, e0, e1]

theorem blk7_10 (t : Fin grid7.N) (i : Fin 512) (x : Fin 512) :
    (iblk 4 V 10 t (ix2 i x) : Ideal .bf16) = (V (Proc.devRef .tc main_v16) (ix2 i x) : Ideal .bf16) := by
  have e0 : ((cfgs 4).win 10).index t 0 = 0 := (index7_10 t).1
  have e1 : ((cfgs 4).win 10).index t 1 = 0 := (index7_10 t).2
  blk_ext [iblk, e0, e1]

theorem blk7_11 (t : Fin grid7.N) (x : Fin 512) :
    (iblk 4 V 11 t (ix2 0 x) : Ideal .f32) = (V (Proc.devRef .tc main_v17) (ix2 0 x) : Ideal .f32) := by
  have e0 : ((cfgs 4).win 11).index t 0 = 0 := (index7_11 t).1
  have e1 : ((cfgs 4).win 11).index t 1 = 0 := (index7_11 t).2
  blk_ext [iblk, e0, e1]

theorem blk7_12 (t : Fin grid7.N) (i : Fin 512) (x : Fin 512) :
    (iblk 4 V 12 t (ix2 i x) : Ideal .bf16) = (V (Proc.devRef .tc main_v18) (ix2 i x) : Ideal .bf16) := by
  have e0 : ((cfgs 4).win 12).index t 0 = 0 := (index7_12 t).1
  have e1 : ((cfgs 4).win 12).index t 1 = 0 := (index7_12 t).2
  blk_ext [iblk, e0, e1]

theorem blk7_13 (t : Fin grid7.N) (x : Fin 512) :
    (iblk 4 V 13 t (ix2 0 x) : Ideal .f32) = (V (Proc.devRef .tc main_v19) (ix2 0 x) : Ideal .f32) := by
  have e0 : ((cfgs 4).win 13).index t 0 = 0 := (index7_13 t).1
  have e1 : ((cfgs 4).win 13).index t 1 = 0 := (index7_13 t).2
  blk_ext [iblk, e0, e1]

theorem shape7 (y : S1x256x512.Idx) : y = ix3 0 (y 1) (y 2) := by
  funext a
  match a with
  | ⟨0, _⟩ => exact Fin.ext (by have := (y 0).isLt; simp at this; simpa using this)
  | ⟨1, _⟩ => rfl
  | ⟨2, _⟩ => rfl

theorem arr7_14 (n : ℕ) (E : Fin 2048 → Fin 1024 → EReal) (p : Params)
    (hn : ∀ r u, (V (Proc.devRef .tc main_v29) (ix3 0 r u) : Ideal .f32) = nearDist E r u)
    (hi : ∀ r u, (V (Proc.devRef .tc main_v30) (ix3 0 r u) : BitVec 32) = BitVec.ofNat 32 (near E r u).val)
    (ha : ∀ r o, (V (Proc.devRef .tc main_v8_1) (ix3 2 r o) : Ideal .bf16) = topo E p.W p.B r o)
    (hb : ∀ r o, (V (Proc.devRef .tc main_v8_0) (ix3 2 r o) : Ideal .f32) = topo E p.W p.B r o)
    (hp : HoldsPar V p) :
    (dat7 n V c).arrAt 14 cfg7.N = fun j : S1x2048x512.Idx => rowOut E p (j 1) (j 2) := by
  refine (dat7 n V c).arrAt_eq_of_covers 14 _ (by decide +kernel) fun t hf y => ?_
  blk_simp
  have e0 := index7_14 t
  have ht : t.val < 8 := t.isLt
  have hy1 : (y 1).val < 256 := (y 1).isLt
  show tail7 (iblk 4 V 0 t) (iblk 4 V 1 t) (iblk 4 V 2 t) (iblk 4 V 3 t) (iblk 4 V 4 t) (iblk 4 V 5 t) (iblk 4 V 6 t) (iblk 4 V 7 t) (iblk 4 V 8 t) (iblk 4 V 9 t) (iblk 4 V 10 t) (iblk 4 V 11 t) (iblk 4 V 12 t) (iblk 4 V 13 t) y = _
  obtain ⟨r, hr⟩ : ∃ r : Fin 2048, t.val * 256 + (y 1).val = r.val := ⟨⟨t.val * 256 + (y 1).val, by omega⟩, rfl⟩
  refine (congrArg _ (shape7 y)).trans ?_
  refine (tail7_at _ _ _ _ _ _ _ _ _ _ _ _ _ _ E p r (y 1) (fun u => (blk7_0 V t (y 1) r u hr).trans (hn r u)) (fun u => (blk7_1 V t (y 1) r u hr).trans (hi r u))
    (fun x o => (blk7_2 V t x o).trans (ha x o)) (fun o => (blk7_3 V t (y 1) r o hr).trans (hb r o))
    (fun x y => (blk7_4 V t x y).trans (hp.hW1 x y))
    (fun x => (blk7_5 V t x).trans (hp.hB1 x))
    (fun x y => (blk7_6 V t x y).trans (hp.hW2 x y))
    (fun x => (blk7_7 V t x).trans (hp.hB2 x))
    (fun x => (blk7_8 V t x).trans (hp.hG x))
    (fun x => (blk7_9 V t x).trans (hp.hH x))
    (fun x y => (blk7_10 V t x y).trans (hp.hW3 x y))
    (fun x => (blk7_11 V t x).trans (hp.hB3 x))
    (fun x y => (blk7_12 V t x y).trans (hp.hW4 x y))
    (fun x => (blk7_13 V t x).trans (hp.hB4 x))
    (y 2)).trans ?_
  refine congrArg₂ (rowOut E p) (Fin.ext ?_) (Fin.ext ?_)
  · blk_simp; rw [e0.2.1] <;> omega
  · blk_simp; rw [e0.2.2] <;> omega

end Cert.Topk
-- ==== Proof.TailV9.lean ====
/-
  The value the network kernel stores, at a row: the networks of the row's combined projection.
-/
module

public import proofs.«01_k».proof.Proof.Row
public import proofs.«01_k».proof.Proof.Tail9
public import Idealize.ShloMosaic.Lib.Pointwise

@[expose] public section

noncomputable section

namespace Cert.Topk

open Idealize.ShloMosaic Cert.KernelIdeal Cert.KernelIdeal.Gen

set_option maxHeartbeats 2000000

variable (X2 : S1x256x32.Idx → Elt Ideal .f32) (X3 : S1x256x32.Idx → Elt Ideal .i32)

/-- The weights over all rows: the selected ones' at their columns. -/
theorem acc9_at (i : Fin 256) (σ : Fin 32 → Fin 2048) (hσ : ∀ u, (X3 (ix3 0 i u) : BitVec 32) = BitVec.ofNat 32 (σ u).val) (j : Fin 2048) :
    (acc9 X2 X3 (ix2 i j) : EReal) = pick (fun t => (σ (Fin.ofNat 32 t)).val) (fun t => (k9_pay2 X2 (ix2 i (Fin.ofNat 32 t)) : EReal)) j.val 30 := by
  pointwise [acc9, k9_pay1, k9_pay3, k9_pay4, k9_pay5, k9_pay6, k9_pay7, k9_pay8, k9_pay9, k9_pay10]
  simp only [hσ, sel_eq]
  rfl

variable (X4 : S1x2048x512.Idx → Elt Ideal .bf16) (X5 : S1x256x512.Idx → Elt Ideal .f32) (X6 : S512x1024.Idx → Elt Ideal .bf16)
  (X7 : S1x1024.Idx → Elt Ideal .f32) (X8 : S1024x512.Idx → Elt Ideal .bf16) (X9 : S1x512.Idx → Elt Ideal .f32)
  (X10 X11 : S1x512.Idx → Elt Ideal .f32) (X12 : S512x512.Idx → Elt Ideal .bf16) (X13 : S1x512.Idx → Elt Ideal .f32)
  (X14 : S512x512.Idx → Elt Ideal .bf16) (X15 : S1x512.Idx → Elt Ideal .f32)

/-- The centred row of the first network. -/
abbrev cen9 : FVec Ideal S256x512 .f32 :=
  k9_pay13 (k9_pay1 X3) (iota .tc S256x2048 32 [1] iota_S256x2048_d1_w32) (k9_pay2 X2) (acc9 X2 X3) (k9_pay11 (k9_pay1 X3) (iota .tc S256x2048 32 [1] iota_S256x2048_d1_w32)) (k9_pay12 (k9_pay2 X2)) X4 X5 X6 X7 X8 X9

theorem cen9_at (p : Params) (i : Fin 256) (σ : Fin 32 → Fin 2048) (hi : Function.Injective σ) (w : Fin 32 → EReal) (C : Fin 512 → EReal) (T : Fin 2048 → Fin 512 → EReal)
    (hσ : ∀ u, (X3 (ix3 0 i u) : BitVec 32) = BitVec.ofNat 32 (σ u).val) (hw : ∀ u, (k9_pay2 X2 (ix2 i u) : EReal) = w u)
    (h4 : ∀ x o, (X4 (ix3 0 x o) : EReal) = T x o) (h5 : ∀ o, (X5 (ix3 0 i o) : EReal) + ∑ u, T (σ u) o * w u = C o)
    (h6 : ∀ x y, (X6 (ix2 x y) : EReal) = p.W1 x y) (h7 : ∀ x, (X7 (ix2 0 x) : EReal) = p.B1 x)
    (h8 : ∀ x y, (X8 (ix2 x y) : EReal) = p.W2 x y) (h9 : ∀ x, (X9 (ix2 0 x) : EReal) = p.B2 x) (o : Fin 512) :
    (cen9 X2 X3 X4 X5 X6 X7 X8 X9 (ix2 i o) : EReal) = centred (after1 p C) o := by
  have hp : ∀ x : Fin 2048, Scalar.select (IntOp.cmpi .eq (BitVec.ofNat 32 x.val) (X3 (ix3 0 i 31))) (k9_pay2 X2 (ix2 i 31) : EReal)
      (Scalar.select (IntOp.cmpi .eq (BitVec.ofNat 32 x.val) (X3 (ix3 0 i 30))) (k9_pay2 X2 (ix2 i 30) : EReal) (acc9 X2 X3 (ix2 i x) : EReal))
        = pick (fun t => (σ (Fin.ofNat 32 t)).val) (fun t => (k9_pay2 X2 (ix2 i (Fin.ofNat 32 t)) : EReal)) x.val 32 := fun x => by
    rw [acc9_at X2 X3 i σ hσ, hσ, hσ, sel_eq, sel_eq]; rfl
  have hs : ∀ o, ∑ x : Fin 2048, pick (fun t => (σ (Fin.ofNat 32 t)).val) (fun t => (k9_pay2 X2 (ix2 i (Fin.ofNat 32 t)) : EReal)) x.val 32 * T x o
      = ∑ u, T (σ u) o * w u := fun o =>
    pick_sum σ hi w _ _ (fun u => by simp) (fun u => by simp [hw]) fun x => T x o
  unfold cen9
  pointwise [k9_pay13, k9_pay11, k9_pay12, k9_pay1]
  simp only [hp, h4, hs, h5, h6, h7, h8, h9]
  rfl

theorem tail9_at (E : Fin 2048 → Fin 1024 → EReal) (p : Params) (r : Fin 2048) (i : Fin 256)
    (h2 : ∀ u, (X2 (ix3 0 i u) : EReal) = nearDist E r u)
    (h3 : ∀ u, (X3 (ix3 0 i u) : BitVec 32) = BitVec.ofNat 32 (near E r u).val)
    (h4 : ∀ x o, (X4 (ix3 0 x o) : EReal) = topo E p.W p.B x o) (h5 : ∀ o, (X5 (ix3 0 i o) : EReal) = topo E p.W p.B r o)
    (h6 : ∀ x y, (X6 (ix2 x y) : EReal) = p.W1 x y) (h7 : ∀ x, (X7 (ix2 0 x) : EReal) = p.B1 x)
    (h8 : ∀ x y, (X8 (ix2 x y) : EReal) = p.W2 x y) (h9 : ∀ x, (X9 (ix2 0 x) : EReal) = p.B2 x)
    (h10 : ∀ x, (X10 (ix2 0 x) : EReal) = p.G x) (h11 : ∀ x, (X11 (ix2 0 x) : EReal) = p.H x)
    (h12 : ∀ x y, (X12 (ix2 x y) : EReal) = p.W3 x y) (h13 : ∀ x, (X13 (ix2 0 x) : EReal) = p.B3 x)
    (h14 : ∀ x y, (X14 (ix2 x y) : EReal) = p.W4 x y) (h15 : ∀ x, (X15 (ix2 0 x) : EReal) = p.B4 x) (o : Fin 512) :
    (tail9 X2 X3 X4 X5 X6 X7 X8 X9 X10 X11 X12 X13 X14 X15 (ix3 0 i o) : EReal) = rowOut E p r o := by
  have hw : ∀ u, (k9_pay2 X2 (ix2 i u) : EReal) = wgt E r u := fun u => by
    pointwise [k9_pay2]
    simp only [h2]
    rfl
  have hc : ∀ o, (cen9 X2 X3 X4 X5 X6 X7 X8 X9 (ix2 i o) : EReal) = centred (after1 p (comb E p.W p.B r)) o :=
    cen9_at X2 X3 X4 X5 X6 X7 X8 X9 p i (near E r) (nth_injective _) (wgt E r) _ _ h3 hw h4 (fun o => by rw [h5]; rfl) h6 h7 h8 h9
  have hq : ∀ o, (k9_pay14 (k9_pay1 X3) (iota .tc S256x2048 32 [1] iota_S256x2048_d1_w32) (k9_pay2 X2) (acc9 X2 X3) (k9_pay11 (k9_pay1 X3) (iota .tc S256x2048 32 [1] iota_S256x2048_d1_w32)) (k9_pay12 (k9_pay2 X2)) X4 X5 X6 X7 X8 X9 (ix2 i o) : EReal)
      = centred (after1 p (comb E p.W p.B r)) o * centred (after1 p (comb E p.W p.B r)) o := fun o => by
    rw [← hc]; rfl
  unfold tail9
  generalize k9_pay14 (k9_pay1 X3) (iota .tc S256x2048 32 [1] iota_S256x2048_d1_w32) (k9_pay2 X2) (acc9 X2 X3) (k9_pay11 (k9_pay1 X3) (iota .tc S256x2048 32 [1] iota_S256x2048_d1_w32)) (k9_pay12 (k9_pay2 X2)) X4 X5 X6 X7 X8 X9 = Q at hq ⊢
  unfold cen9 at hc
  generalize k9_pay13 (k9_pay1 X3) (iota .tc S256x2048 32 [1] iota_S256x2048_d1_w32) (k9_pay2 X2) (acc9 X2 X3) (k9_pay11 (k9_pay1 X3) (iota .tc S256x2048 32 [1] iota_S256x2048_d1_w32)) (k9_pay12 (k9_pay2 X2)) X4 X5 X6 X7 X8 X9 = P at hc ⊢
  pointwise [k9_pay15]
  simp only [hc, hq, h10, h11, h12, h13, h14, h15]
  rfl

end Cert.Topk
-- ==== Proof.TailA9.lean ====
/-
  The first result's rows of one batch, over the arrays the network call reads.
-/
module

public import proofs.«01_k».proof.Proof.TailV9
public import proofs.«01_k».proof.Proof.ParV
public import Idealize.ShloMosaic.Lib.Pipeline.ValueKit.Geometry

@[expose] public section

noncomputable section

namespace Cert.Topk

open Idealize.ShloMosaic Cert.KernelIdeal Cert.KernelIdeal.Gen

set_option maxHeartbeats 2000000

theorem index9_0 : ∀ t : Fin grid9.N, win9_0.index t 0 = 0 ∧ win9_0.index t 1 = t.val ∧ win9_0.index t 2 = 0 := by decide +kernel
theorem index9_1 : ∀ t : Fin grid9.N, win9_1.index t 0 = 0 ∧ win9_1.index t 1 = t.val ∧ win9_1.index t 2 = 0 := by decide +kernel
theorem index9_2 : ∀ t : Fin grid9.N, win9_2.index t 0 = 3 ∧ win9_2.index t 1 = 0 ∧ win9_2.index t 2 = 0 := by decide +kernel
theorem index9_3 : ∀ t : Fin grid9.N, win9_3.index t 0 = 3 ∧ win9_3.index t 1 = t.val ∧ win9_3.index t 2 = 0 := by decide +kernel
theorem index9_4 : ∀ t : Fin grid9.N, win9_4.index t 0 = 0 ∧ win9_4.index t 1 = 0 := by decide +kernel
theorem index9_5 : ∀ t : Fin grid9.N, win9_5.index t 0 = 0 ∧ win9_5.index t 1 = 0 := by decide +kernel
theorem index9_6 : ∀ t : Fin grid9.N, win9_6.index t 0 = 0 ∧ win9_6.index t 1 = 0 := by decide +kernel
theorem index9_7 : ∀ t : Fin grid9.N, win9_7.index t 0 = 0 ∧ win9_7.index t 1 = 0 := by decide +kernel
theorem index9_8 : ∀ t : Fin grid9.N, win9_8.index t 0 = 0 ∧ win9_8.index t 1 = 0 := by decide +kernel
theorem index9_9 : ∀ t : Fin grid9.N, win9_9.index t 0 = 0 ∧ win9_9.index t 1 = 0 := by decide +kernel
theorem index9_10 : ∀ t : Fin grid9.N, win9_10.index t 0 = 0 ∧ win9_10.index t 1 = 0 := by decide +kernel
theorem index9_11 : ∀ t : Fin grid9.N, win9_11.index t 0 = 0 ∧ win9_11.index t 1 = 0 := by decide +kernel
theorem index9_12 : ∀ t : Fin grid9.N, win9_12.index t 0 = 0 ∧ win9_12.index t 1 = 0 := by decide +kernel
theorem index9_13 : ∀ t : Fin grid9.N, win9_13.index t 0 = 0 ∧ win9_13.index t 1 = 0 := by decide +kernel
theorem index9_14 : ∀ t : Fin grid9.N, win9_14.index t 0 = 0 ∧ win9_14.index t 1 = t.val ∧ win9_14.index t 2 = 0 := by decide +kernel

variable (V : Valuation τ sig (Elt Ideal)) (c : Dev nD)

theorem blk9_0 (t : Fin grid9.N) (i : Fin 256) (r : Fin 2048) (u : Fin 32) (h : t.val * 256 + i.val = r.val) :
    (iblk 5 V 0 t (ix3 0 i u) : Ideal .f32) = (V (Proc.devRef .tc main_v33) (ix3 0 r u) : Ideal .f32) := by
  have e0 : ((cfgs 5).win 0).index t 0 = 0 := (index9_0 t).1
  have e1 : ((cfgs 5).win 0).index t 1 = t.val := (index9_0 t).2.1
  have e2 : ((cfgs 5).win 0).index t 2 = 0 := (index9_0 t).2.2
  blk_ext [iblk, e0, e1, e2]

theorem blk9_1 (t : Fin grid9.N) (i : Fin 256) (r : Fin 2048) (u : Fin 32) (h : t.val * 256 + i.val = r.val) :
    (iblk 5 V 1 t (ix3 0 i u) : BitVec 32) = (V (Proc.devRef .tc main_v34) (ix3 0 r u) : BitVec 32) := by
  have e0 : ((cfgs 5).win 1).index t 0 = 0 := (index9_1 t).1
  have e1 : ((cfgs 5).win 1).index t 1 = t.val := (index9_1 t).2.1
  have e2 : ((cfgs 5).win 1).index t 2 = 0 := (index9_1 t).2.2
  blk_ext [iblk, e0, e1, e2]

theorem blk9_2 (t : Fin grid9.N) (i : Fin 2048) (u : Fin 512) :
    (iblk 5 V 2 t (ix3 0 i u) : Ideal .bf16) = (V (Proc.devRef .tc main_v8_1) (ix3 3 i u) : Ideal .bf16) := by
  have e0 : ((cfgs 5).win 2).index t 0 = 3 := (index9_2 t).1
  have e1 : ((cfgs 5).win 2).index t 1 = 0 := (index9_2 t).2.1
  have e2 : ((cfgs 5).win 2).index t 2 = 0 := (index9_2 t).2.2
  blk_ext [iblk, e0, e1, e2]

theorem blk9_3 (t : Fin grid9.N) (i : Fin 256) (r : Fin 2048) (u : Fin 512) (h : t.val * 256 + i.val = r.val) :
    (iblk 5 V 3 t (ix3 0 i u) : Ideal .f32) = (V (Proc.devRef .tc main_v8_0) (ix3 3 r u) : Ideal .f32) := by
  have e0 : ((cfgs 5).win 3).index t 0 = 3 := (index9_3 t).1
  have e1 : ((cfgs 5).win 3).index t 1 = t.val := (index9_3 t).2.1
  have e2 : ((cfgs 5).win 3).index t 2 = 0 := (index9_3 t).2.2
  blk_ext [iblk, e0, e1, e2]

theorem blk9_4 (t : Fin grid9.N) (i : Fin 512) (x : Fin 1024) :
    (iblk 5 V 4 t (ix2 i x) : Ideal .bf16) = (V (Proc.devRef .tc main_v10) (ix2 i x) : Ideal .bf16) := by
  have e0 : ((cfgs 5).win 4).index t 0 = 0 := (index9_4 t).1
  have e1 : ((cfgs 5).win 4).index t 1 = 0 := (index9_4 t).2
  blk_ext [iblk, e0, e1]

theorem blk9_5 (t : Fin grid9.N) (x : Fin 1024) :
    (iblk 5 V 5 t (ix2 0 x) : Ideal .f32) = (V (Proc.devRef .tc main_v11) (ix2 0 x) : Ideal .f32) := by
  have e0 : ((cfgs 5).win 5).index t 0 = 0 := (index9_5 t).1
  have e1 : ((cfgs 5).win 5).index t 1 = 0 := (index9_5 t).2
  blk_ext [iblk, e0, e1]

theorem blk9_6 (t : Fin grid9.N) (i : Fin 1024) (x : Fin 512) :
    (iblk 5 V 6 t (ix2 i x) : Ideal .bf16) = (V (Proc.devRef .tc main_v12) (ix2 i x) : Ideal .bf16) := by
  have e0 : ((cfgs 5).win 6).index t 0 = 0 := (index9_6 t).1
  have e1 : ((cfgs 5).win 6).index t 1 = 0 := (index9_6 t).2
  blk_ext [iblk, e0, e1]

theorem blk9_7 (t : Fin grid9.N) (x : Fin 512) :
    (iblk 5 V 7 t (ix2 0 x) : Ideal .f32) = (V (Proc.devRef .tc main_v13) (ix2 0 x) : Ideal .f32) := by
  have e0 : ((cfgs 5).win 7).index t 0 = 0 := (index9_7 t).1
  have e1 : ((cfgs 5).win 7).index t 1 = 0 := (index9_7 t).2
  blk_ext [iblk, e0, e1]

theorem blk9_8 (t : Fin grid9.N) (x : Fin 512) :
    (iblk 5 V 8 t (ix2 0 x) : Ideal .f32) = (V (Proc.devRef .tc main_v14) (ix2 0 x) : Ideal .f32) := by
  have e0 : ((cfgs 5).win 8).index t 0 = 0 := (index9_8 t).1
  have e1 : ((cfgs 5).win 8).index t 1 = 0 := (index9_8 t).2
  blk_ext [iblk, e0, e1]

theorem blk9_9 (t : Fin grid9.N) (x : Fin 512) :
    (iblk 5 V 9 t (ix2 0 x) : Ideal .f32) = (V (Proc.devRef .tc main_v15) (ix2 0 x) : Ideal .f32) := by
  have e0 : ((cfgs 5).win 9).index t 0 = 0 := (index9_9 t).1
  have e1 : ((cfgs 5).win 9).index t 1 = 0 := (index9_9 t).2
  blk_ext [iblk, e0, e1]

theorem blk9_10 (t : Fin grid9.N) (i : Fin 512) (x : Fin 512) :
    (iblk 5 V 10 t (ix2 i x) : Ideal .bf16) = (V (Proc.devRef .tc main_v16) (ix2 i x) : Ideal .bf16) := by
  have e0 : ((cfgs 5).win 10).index t 0 = 0 := (index9_10 t).1
  have e1 : ((cfgs 5).win 10).index t 1 = 0 := (index9_10 t).2
  blk_ext [iblk, e0, e1]

theorem blk9_11 (t : Fin grid9.N) (x : Fin 512) :
    (iblk 5 V 11 t (ix2 0 x) : Ideal .f32) = (V (Proc.devRef .tc main_v17) (ix2 0 x) : Ideal .f32) := by
  have e0 : ((cfgs 5).win 11).index t 0 = 0 := (index9_11 t).1
  have e1 : ((cfgs 5).win 11).index t 1 = 0 := (index9_11 t).2
  blk_ext [iblk, e0, e1]

theorem blk9_12 (t : Fin grid9.N) (i : Fin 512) (x : Fin 512) :
    (iblk 5 V 12 t (ix2 i x) : Ideal .bf16) = (V (Proc.devRef .tc main_v18) (ix2 i x) : Ideal .bf16) := by
  have e0 : ((cfgs 5).win 12).index t 0 = 0 := (index9_12 t).1
  have e1 : ((cfgs 5).win 12).index t 1 = 0 := (index9_12 t).2
  blk_ext [iblk, e0, e1]

theorem blk9_13 (t : Fin grid9.N) (x : Fin 512) :
    (iblk 5 V 13 t (ix2 0 x) : Ideal .f32) = (V (Proc.devRef .tc main_v19) (ix2 0 x) : Ideal .f32) := by
  have e0 : ((cfgs 5).win 13).index t 0 = 0 := (index9_13 t).1
  have e1 : ((cfgs 5).win 13).index t 1 = 0 := (index9_13 t).2
  blk_ext [iblk, e0, e1]

theorem shape9 (y : S1x256x512.Idx) : y = ix3 0 (y 1) (y 2) := by
  funext a
  match a with
  | ⟨0, _⟩ => exact Fin.ext (by have := (y 0).isLt; simp at this; simpa using this)
  | ⟨1, _⟩ => rfl
  | ⟨2, _⟩ => rfl

theorem arr9_14 (n : ℕ) (E : Fin 2048 → Fin 1024 → EReal) (p : Params)
    (hn : ∀ r u, (V (Proc.devRef .tc main_v33) (ix3 0 r u) : Ideal .f32) = nearDist E r u)
    (hi : ∀ r u, (V (Proc.devRef .tc main_v34) (ix3 0 r u) : BitVec 32) = BitVec.ofNat 32 (near E r u).val)
    (ha : ∀ r o, (V (Proc.devRef .tc main_v8_1) (ix3 3 r o) : Ideal .bf16) = topo E p.W p.B r o)
    (hb : ∀ r o, (V (Proc.devRef .tc main_v8_0) (ix3 3 r o) : Ideal .f32) = topo E p.W p.B r o)
    (hp : HoldsPar V p) :
    (dat9 n V c).arrAt 14 cfg9.N = fun j : S1x2048x512.Idx => rowOut E p (j 1) (j 2) := by
  refine (dat9 n V c).arrAt_eq_of_covers 14 _ (by decide +kernel) fun t hf y => ?_
  blk_simp
  have e0 := index9_14 t
  have ht : t.val < 8 := t.isLt
  have hy1 : (y 1).val < 256 := (y 1).isLt
  show tail9 (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t) (iblk 5 V 10 t) (iblk 5 V 11 t) (iblk 5 V 12 t) (iblk 5 V 13 t) y = _
  obtain ⟨r, hr⟩ : ∃ r : Fin 2048, t.val * 256 + (y 1).val = r.val := ⟨⟨t.val * 256 + (y 1).val, by omega⟩, rfl⟩
  refine (congrArg _ (shape9 y)).trans ?_
  refine (tail9_at _ _ _ _ _ _ _ _ _ _ _ _ _ _ E p r (y 1) (fun u => (blk9_0 V t (y 1) r u hr).trans (hn r u)) (fun u => (blk9_1 V t (y 1) r u hr).trans (hi r u))
    (fun x o => (blk9_2 V t x o).trans (ha x o)) (fun o => (blk9_3 V t (y 1) r o hr).trans (hb r o))
    (fun x y => (blk9_4 V t x y).trans (hp.hW1 x y))
    (fun x => (blk9_5 V t x).trans (hp.hB1 x))
    (fun x y => (blk9_6 V t x y).trans (hp.hW2 x y))
    (fun x => (blk9_7 V t x).trans (hp.hB2 x))
    (fun x => (blk9_8 V t x).trans (hp.hG x))
    (fun x => (blk9_9 V t x).trans (hp.hH x))
    (fun x y => (blk9_10 V t x y).trans (hp.hW3 x y))
    (fun x => (blk9_11 V t x).trans (hp.hB3 x))
    (fun x y => (blk9_12 V t x y).trans (hp.hW4 x y))
    (fun x => (blk9_13 V t x).trans (hp.hB4 x))
    (y 2)).trans ?_
  refine congrArg₂ (rowOut E p) (Fin.ext ?_) (Fin.ext ?_)
  · blk_simp; rw [e0.2.1] <;> omega
  · blk_simp; rw [e0.2.2] <;> omega

end Cert.Topk
-- ==== Proof.Chain.lean ====
/-
  The kernel's three results at an index, from the launch's arguments.
-/
module

public import proofs.«01_k».proof.Proof.HostV
public import proofs.«01_k».proof.Proof.PrepV
public import proofs.«01_k».proof.Proof.DistV
public import proofs.«01_k».proof.Proof.TailA3
public import proofs.«01_k».proof.Proof.TailA5
public import proofs.«01_k».proof.Proof.TailA7
public import proofs.«01_k».proof.Proof.TailA9

@[expose] public section

noncomputable section

namespace Cert.Topk

open Idealize.ShloMosaic Cert.KernelIdeal Cert.KernelIdeal.Gen

set_option maxHeartbeats 2000000

variable (V : Valuation τ sig (Elt Ideal)) (c : Dev nD)

theorem dev_ne {x y : Ref sig .tc} (h : x ≠ y) : (Proc.devRef .tc x : DevRef τ sig) ≠ Proc.devRef .tc y := fun e => h (Proc.devRef_injective _ e)

/-! ## What a stretch leaves alone -/

theorem stay_C (b : Ref sig .tc) (h0 : b ∉ ops0W) (h1 : b ≠ main_v8_0) (h2 : b ≠ main_v8_1) (h3 : b ≠ main_v9) :
    vC V c (Proc.devRef .tc b) = V (Proc.devRef .tc b) :=
  (val1_off _ _ _ b h3).trans <| (val0_off _ _ _ b h1 h2).trans (ops0_off _ b h0)

theorem stay_R0 (b : Ref sig .tc) (h : b ∉ opsR0W) (hN : b ≠ refN 0) (hI : b ≠ refI 0) :
    vR0 V c (Proc.devRef .tc b) = vD V c (Proc.devRef .tc b) :=
  (opsR0_off _ b h).trans (scVal_off 0 _ _ _ (dev_ne hN) (dev_ne hI))

theorem stay_T0 (b : Ref sig .tc) (h : b ≠ main_v23) : vT0 V c (Proc.devRef .tc b) = vR0 V c (Proc.devRef .tc b) := val3_off _ _ _ b h

theorem stay_R1 (b : Ref sig .tc) (h : b ∉ opsR1W) (hN : b ≠ refN 1) (hI : b ≠ refI 1) :
    vR1 V c (Proc.devRef .tc b) = vT0 V c (Proc.devRef .tc b) :=
  (opsR1_off _ b h).trans (scVal_off 1 _ _ _ (dev_ne hN) (dev_ne hI))

theorem stay_T1 (b : Ref sig .tc) (h : b ≠ main_v27) : vT1 V c (Proc.devRef .tc b) = vR1 V c (Proc.devRef .tc b) := val5_off _ _ _ b h

theorem stay_R2 (b : Ref sig .tc) (h : b ∉ opsR2W) (hN : b ≠ refN 2) (hI : b ≠ refI 2) :
    vR2 V c (Proc.devRef .tc b) = vT1 V c (Proc.devRef .tc b) :=
  (opsR2_off _ b h).trans (scVal_off 2 _ _ _ (dev_ne hN) (dev_ne hI))

theorem stay_T2 (b : Ref sig .tc) (h : b ≠ main_v31) : vT2 V c (Proc.devRef .tc b) = vR2 V c (Proc.devRef .tc b) := val7_off _ _ _ b h

theorem stay_R3 (b : Ref sig .tc) (h : b ∉ opsR3W) (hN : b ≠ refN 3) (hI : b ≠ refI 3) :
    vR3 V c (Proc.devRef .tc b) = vT2 V c (Proc.devRef .tc b) :=
  (opsR3_off _ b h).trans (scVal_off 3 _ _ _ (dev_ne hN) (dev_ne hI))

theorem stay_T3 (b : Ref sig .tc) (h : b ≠ main_v35) : vT3 V c (Proc.devRef .tc b) = vR3 V c (Proc.devRef .tc b) := val9_off _ _ _ b h

/-- A buffer that only the calls before the selections write. -/
def early (b : Ref sig .tc) : Prop :=
  b ∉ opsR0W ∧ b ∉ opsR1W ∧ b ∉ opsR2W ∧ b ∉ opsR3W ∧ b ∉ [main_v23, main_v27, main_v31, main_v35] ∧ (∀ q, b ≠ refN q) ∧ (∀ q, b ≠ refI q)

instance (b : Ref sig .tc) : Decidable (early b) := by unfold early; infer_instance

theorem early_R (b : Ref sig .tc) (h : early b) :
    vR0 V c (Proc.devRef .tc b) = vD V c (Proc.devRef .tc b) ∧ vR1 V c (Proc.devRef .tc b) = vD V c (Proc.devRef .tc b)
      ∧ vR2 V c (Proc.devRef .tc b) = vD V c (Proc.devRef .tc b) ∧ vR3 V c (Proc.devRef .tc b) = vD V c (Proc.devRef .tc b) := by
  obtain ⟨r0, r1, r2, r3, ho, hN, hI⟩ := h
  simp only [List.mem_cons, List.not_mem_nil, or_false, not_or] at ho
  obtain ⟨o0, o1, o2, o3⟩ := ho
  have a0 := stay_R0 V c b r0 (hN 0) (hI 0)
  have a1 := (stay_R1 V c b r1 (hN 1) (hI 1)).trans ((stay_T0 V c b o0).trans a0)
  have a2 := (stay_R2 V c b r2 (hN 2) (hI 2)).trans ((stay_T1 V c b o1).trans a1)
  have a3 := (stay_R3 V c b r3 (hN 3) (hI 3)).trans ((stay_T2 V c b o2).trans a2)
  exact ⟨a0, a1, a2, a3⟩

/-! ## The calls before the selections -/

theorem proj_at (X : S4x2048x1024.Idx → EReal) (W : S1024x512.Idx → EReal) (B : S1x512.Idx → EReal) (hX : X = V (Proc.devRef .tc main_arg0))
    (hW : ∀ x o, W (ix2 x o) = (kpar V).W x o) (hB : ∀ o, B (ix2 0 o) = (kpar V).B o) (b : Fin 4) (i : Fin 2048) (o : Fin 512) :
    projOf X W B (ix3 b i o) = topo (kemb V b) (kpar V).W (kpar V).B i o := by
  subst hX
  show ∑ x : Fin 1024, _ * W (ix2 x o) + B (ix2 0 o) = _
  simp only [hW, hB]
  rfl

theorem arg0_A : vA V (Proc.devRef .tc main_arg0) = V (Proc.devRef .tc main_arg0) := ops0_off V main_arg0 (by decide)

theorem topo_a (b : Fin 4) (i : Fin 2048) (o : Fin 512) :
    (vD V c (Proc.devRef .tc main_v8_1) (ix3 b i o) : Ideal .bf16) = topo (kemb V b) (kpar V).W (kpar V).B i o := by
  have e : vD V c (Proc.devRef .tc main_v8_1) = projOf (vA V (Proc.devRef .tc main_arg0)) (vA V (Proc.devRef .tc main_v6)) (vA V (Proc.devRef .tc main_v7)) :=
    (ops1_off _ main_v8_1 (by decide)).trans <| (val1_off _ _ _ main_v8_1 (by decide)).trans <| (val0_at1 _ _ _).trans (arr0_4 _ _ _)
  exact (congrFun e _).trans (proj_at V _ _ _ (arg0_A V) (weight_at V) (bias_at V) b i o)

theorem topo_b (b : Fin 4) (i : Fin 2048) (o : Fin 512) :
    (vD V c (Proc.devRef .tc main_v8_0) (ix3 b i o) : Ideal .f32) = topo (kemb V b) (kpar V).W (kpar V).B i o := by
  have e : vD V c (Proc.devRef .tc main_v8_0) = projOf (vA V (Proc.devRef .tc main_arg0)) (vA V (Proc.devRef .tc main_v6)) (vA V (Proc.devRef .tc main_v7)) :=
    (ops1_off _ main_v8_0 (by decide)).trans <| (val1_off _ _ _ main_v8_0 (by decide)).trans <| (val0_at0 _ _ _).trans (arr0_3 _ _ _)
  exact (congrFun e _).trans (proj_at V _ _ _ (arg0_A V) (weight_at V) (bias_at V) b i o)

theorem gap_at (A : S4x2048x1024.Idx → EReal) (hA : ∀ b i x, A (ix3 b i x) = unitRow (kemb V b) i x) (b : Fin 4) (i j : Fin 2048) :
    gapOf A (ix3 b i j) = dist (kemb V b) i j := by
  unfold gapOf dist
  show (if i.val = j.val then _ else 1 - ∑ x : Fin 1024, A (ix3 b i x) * A (ix3 b j x)) = _
  simp only [hA, Fin.val_inj]

theorem dist_at (b : Fin 4) (i j : Fin 2048) : (distOf V c (ix3 b i j) : EReal) = dist (kemb V b) i j := by
  have e5 : vB V c (Proc.devRef .tc main_v5) = vA V (Proc.devRef .tc main_v5) := val0_off _ _ _ main_v5 (by decide) (by decide)
  have e : distOf V c = gapOf (vB V c (Proc.devRef .tc main_v5)) := (val1_at0 _ _ _).trans (arr1_2 _ _ _)
  have hu : ∀ b i x, (vB V c (Proc.devRef .tc main_v5) (ix3 b i x) : Ideal .bf16) = unitRow (kemb V b) i x := fun b i x =>
    (congrFun e5 _).trans (unit_at V b i x)
  exact (congrFun e _).trans (gap_at V _ hu b i j)

theorem par_D : HoldsPar (vD V c) (kpar V) := by
  have h := ops1_par (vC V c)
  have e : kpar (vC V c) = kpar V := by
    unfold kpar
    rw [stay_C V c main_arg1 (by decide) (by decide) (by decide) (by decide)]
    rw [stay_C V c main_arg2 (by decide) (by decide) (by decide) (by decide)]
    rw [stay_C V c main_arg3 (by decide) (by decide) (by decide) (by decide)]
    rw [stay_C V c main_arg4 (by decide) (by decide) (by decide) (by decide)]
    rw [stay_C V c main_arg5 (by decide) (by decide) (by decide) (by decide)]
    rw [stay_C V c main_arg6 (by decide) (by decide) (by decide) (by decide)]
    rw [stay_C V c main_arg7 (by decide) (by decide) (by decide) (by decide)]
    rw [stay_C V c main_arg8 (by decide) (by decide) (by decide) (by decide)]
    rw [stay_C V c main_arg9 (by decide) (by decide) (by decide) (by decide)]
    rw [stay_C V c main_arg10 (by decide) (by decide) (by decide) (by decide)]
    rw [stay_C V c main_arg11 (by decide) (by decide) (by decide) (by decide)]
    rw [stay_C V c main_arg12 (by decide) (by decide) (by decide) (by decide)]
  rw [e] at h
  exact h

theorem par_of (W W' : Valuation τ sig (Elt Ideal)) (p : Params) (h : HoldsPar W p)
    (e : ∀ b : Ref sig .tc, b ∈ [main_v10, main_v11, main_v12, main_v13, main_v14, main_v15, main_v16, main_v17, main_v18, main_v19] →
      W' (Proc.devRef .tc b) = W (Proc.devRef .tc b)) : HoldsPar W' p where
  hW1 := fun x y => (congrFun (e main_v10 (by simp)) _).trans (h.hW1 x y)
  hB1 := fun x => (congrFun (e main_v11 (by simp)) _).trans (h.hB1 x)
  hW2 := fun x y => (congrFun (e main_v12 (by simp)) _).trans (h.hW2 x y)
  hB2 := fun x => (congrFun (e main_v13 (by simp)) _).trans (h.hB2 x)
  hG := fun x => (congrFun (e main_v14 (by simp)) _).trans (h.hG x)
  hH := fun x => (congrFun (e main_v15 (by simp)) _).trans (h.hH x)
  hW3 := fun x y => (congrFun (e main_v16 (by simp)) _).trans (h.hW3 x y)
  hB3 := fun x => (congrFun (e main_v17 (by simp)) _).trans (h.hB3 x)
  hW4 := fun x y => (congrFun (e main_v18 (by simp)) _).trans (h.hW4 x y)
  hB4 := fun x => (congrFun (e main_v19 (by simp)) _).trans (h.hB4 x)

theorem early_par (b : Ref sig .tc) (hb : b ∈ [main_v10, main_v11, main_v12, main_v13, main_v14, main_v15, main_v16, main_v17, main_v18, main_v19]) : early b := by
  have : ∀ b ∈ [main_v10, main_v11, main_v12, main_v13, main_v14, main_v15, main_v16, main_v17, main_v18, main_v19], early b := by decide
  exact this b hb

/-! ## A batch's selection and networks -/

theorem nd0 (i : Fin 2048) (u : Fin 32) : (vR0 V c (Proc.devRef .tc main_v21) (ix3 0 i u) : Ideal .f32) = nearDist (kemb V 0) i u :=
  (resh0_N (vS0 V c) i u _ (scVal_N 0 _ _)).trans (sel_row (distOf V c) 0 (kemb V 0) i (dist_at V c 0 i) u).1

theorem ni0 (i : Fin 2048) (u : Fin 32) : (vR0 V c (Proc.devRef .tc main_v22) (ix3 0 i u) : BitVec 32) = BitVec.ofNat 32 (near (kemb V 0) i u).val :=
  (resh0_I (vS0 V c) i u _ (scVal_I 0 _ _)).trans (sel_row (distOf V c) 0 (kemb V 0) i (dist_at V c 0 i) u).2

theorem pf0 (i : Fin 2048) (o : Fin 512) : (vT0 V c (Proc.devRef .tc main_v23) (ix3 0 i o) : Ideal .f32) = rowOut (kemb V 0) (kpar V) i o :=
  congrFun ((val3_at0 _ _ _).trans (arr3_14 (vR0 V c) c 1 (kemb V 0) (kpar V) (nd0 V c) (ni0 V c)
    (fun r o => (congrFun (early_R V c main_v8_1 (by decide)).1 _).trans (topo_a V c 0 r o))
    (fun r o => (congrFun (early_R V c main_v8_0 (by decide)).1 _).trans (topo_b V c 0 r o))
    (par_of _ _ _ (par_D V c) fun b hb => (early_R V c b (early_par b hb)).1))) _

theorem nd1 (i : Fin 2048) (u : Fin 32) : (vR1 V c (Proc.devRef .tc main_v25) (ix3 0 i u) : Ideal .f32) = nearDist (kemb V 1) i u :=
  (resh1_N (vS1 V c) i u _ (scVal_N 1 _ _)).trans (sel_row (distOf V c) 1 (kemb V 1) i (dist_at V c 1 i) u).1

theorem ni1 (i : Fin 2048) (u : Fin 32) : (vR1 V c (Proc.devRef .tc main_v26) (ix3 0 i u) : BitVec 32) = BitVec.ofNat 32 (near (kemb V 1) i u).val :=
  (resh1_I (vS1 V c) i u _ (scVal_I 1 _ _)).trans (sel_row (distOf V c) 1 (kemb V 1) i (dist_at V c 1 i) u).2

theorem pf1 (i : Fin 2048) (o : Fin 512) : (vT1 V c (Proc.devRef .tc main_v27) (ix3 0 i o) : Ideal .f32) = rowOut (kemb V 1) (kpar V) i o :=
  congrFun ((val5_at0 _ _ _).trans (arr5_14 (vR1 V c) c 2 (kemb V 1) (kpar V) (nd1 V c) (ni1 V c)
    (fun r o => (congrFun (early_R V c main_v8_1 (by decide)).2.1 _).trans (topo_a V c 1 r o))
    (fun r o => (congrFun (early_R V c main_v8_0 (by decide)).2.1 _).trans (topo_b V c 1 r o))
    (par_of _ _ _ (par_D V c) fun b hb => (early_R V c b (early_par b hb)).2.1))) _

theorem nd2 (i : Fin 2048) (u : Fin 32) : (vR2 V c (Proc.devRef .tc main_v29) (ix3 0 i u) : Ideal .f32) = nearDist (kemb V 2) i u :=
  (resh2_N (vS2 V c) i u _ (scVal_N 2 _ _)).trans (sel_row (distOf V c) 2 (kemb V 2) i (dist_at V c 2 i) u).1

theorem ni2 (i : Fin 2048) (u : Fin 32) : (vR2 V c (Proc.devRef .tc main_v30) (ix3 0 i u) : BitVec 32) = BitVec.ofNat 32 (near (kemb V 2) i u).val :=
  (resh2_I (vS2 V c) i u _ (scVal_I 2 _ _)).trans (sel_row (distOf V c) 2 (kemb V 2) i (dist_at V c 2 i) u).2

theorem pf2 (i : Fin 2048) (o : Fin 512) : (vT2 V c (Proc.devRef .tc main_v31) (ix3 0 i o) : Ideal .f32) = rowOut (kemb V 2) (kpar V) i o :=
  congrFun ((val7_at0 _ _ _).trans (arr7_14 (vR2 V c) c 3 (kemb V 2) (kpar V) (nd2 V c) (ni2 V c)
    (fun r o => (congrFun (early_R V c main_v8_1 (by decide)).2.2.1 _).trans (topo_a V c 2 r o))
    (fun r o => (congrFun (early_R V c main_v8_0 (by decide)).2.2.1 _).trans (topo_b V c 2 r o))
    (par_of _ _ _ (par_D V c) fun b hb => (early_R V c b (early_par b hb)).2.2.1))) _

theorem nd3 (i : Fin 2048) (u : Fin 32) : (vR3 V c (Proc.devRef .tc main_v33) (ix3 0 i u) : Ideal .f32) = nearDist (kemb V 3) i u :=
  (resh3_N (vS3 V c) i u _ (scVal_N 3 _ _)).trans (sel_row (distOf V c) 3 (kemb V 3) i (dist_at V c 3 i) u).1

theorem ni3 (i : Fin 2048) (u : Fin 32) : (vR3 V c (Proc.devRef .tc main_v34) (ix3 0 i u) : BitVec 32) = BitVec.ofNat 32 (near (kemb V 3) i u).val :=
  (resh3_I (vS3 V c) i u _ (scVal_I 3 _ _)).trans (sel_row (distOf V c) 3 (kemb V 3) i (dist_at V c 3 i) u).2

theorem pf3 (i : Fin 2048) (o : Fin 512) : (vT3 V c (Proc.devRef .tc main_v35) (ix3 0 i o) : Ideal .f32) = rowOut (kemb V 3) (kpar V) i o :=
  congrFun ((val9_at0 _ _ _).trans (arr9_14 (vR3 V c) c 4 (kemb V 3) (kpar V) (nd3 V c) (ni3 V c)
    (fun r o => (congrFun (early_R V c main_v8_1 (by decide)).2.2.2 _).trans (topo_a V c 3 r o))
    (fun r o => (congrFun (early_R V c main_v8_0 (by decide)).2.2.2 _).trans (topo_b V c 3 r o))
    (par_of _ _ _ (par_D V c) fun b hb => (early_R V c b (early_par b hb)).2.2.2))) _

/-! ## The results -/

theorem out_nd (b : Fin 4) (i : Fin 2048) (o : Fin 32) : (vZ V c (Proc.devRef .tc main_v36) (ix3 b i o) : Ideal .f32) = nearDist (kemb V b) i o :=
  cat_nd (vT3 V c) b i o (fun b i o => nearDist (kemb V b) i o)
    (fun i o => (congrFun ((stay_T3 V c main_v21 (by decide)).trans <| (stay_R3 V c main_v21 (by decide) (by decide) (by decide)).trans <| (stay_T2 V c main_v21 (by decide)).trans <| (stay_R2 V c main_v21 (by decide) (by decide) (by decide)).trans <| (stay_T1 V c main_v21 (by decide)).trans <| (stay_R1 V c main_v21 (by decide) (by decide) (by decide)).trans <| stay_T0 V c main_v21 (by decide)) _).trans (nd0 V c i o))
    (fun i o => (congrFun ((stay_T3 V c main_v25 (by decide)).trans <| (stay_R3 V c main_v25 (by decide) (by decide) (by decide)).trans <| (stay_T2 V c main_v25 (by decide)).trans <| (stay_R2 V c main_v25 (by decide) (by decide) (by decide)).trans <| stay_T1 V c main_v25 (by decide)) _).trans (nd1 V c i o))
    (fun i o => (congrFun ((stay_T3 V c main_v29 (by decide)).trans <| (stay_R3 V c main_v29 (by decide) (by decide) (by decide)).trans <| stay_T2 V c main_v29 (by decide)) _).trans (nd2 V c i o))
    (fun i o => (congrFun (stay_T3 V c main_v33 (by decide)) _).trans (nd3 V c i o))

theorem out_ni (b : Fin 4) (i : Fin 2048) (o : Fin 32) : (vZ V c (Proc.devRef .tc main_v37) (ix3 b i o) : BitVec 32) = BitVec.ofNat 32 (near (kemb V b) i o).val :=
  cat_ni (vT3 V c) b i o (fun b i o => BitVec.ofNat 32 (near (kemb V b) i o).val)
    (fun i o => (congrFun ((stay_T3 V c main_v22 (by decide)).trans <| (stay_R3 V c main_v22 (by decide) (by decide) (by decide)).trans <| (stay_T2 V c main_v22 (by decide)).trans <| (stay_R2 V c main_v22 (by decide) (by decide) (by decide)).trans <| (stay_T1 V c main_v22 (by decide)).trans <| (stay_R1 V c main_v22 (by decide) (by decide) (by decide)).trans <| stay_T0 V c main_v22 (by decide)) _).trans (ni0 V c i o))
    (fun i o => (congrFun ((stay_T3 V c main_v26 (by decide)).trans <| (stay_R3 V c main_v26 (by decide) (by decide) (by decide)).trans <| (stay_T2 V c main_v26 (by decide)).trans <| (stay_R2 V c main_v26 (by decide) (by decide) (by decide)).trans <| stay_T1 V c main_v26 (by decide)) _).trans (ni1 V c i o))
    (fun i o => (congrFun ((stay_T3 V c main_v30 (by decide)).trans <| (stay_R3 V c main_v30 (by decide) (by decide) (by decide)).trans <| stay_T2 V c main_v30 (by decide)) _).trans (ni2 V c i o))
    (fun i o => (congrFun (stay_T3 V c main_v34 (by decide)) _).trans (ni3 V c i o))

theorem out_pf (b : Fin 4) (i : Fin 2048) (o : Fin 512) : (vZ V c (Proc.devRef .tc main_v38) (ix3 b i o) : Ideal .f32) = rowOut (kemb V b) (kpar V) i o :=
  cat_pf (vT3 V c) b i o (fun b i o => rowOut (kemb V b) (kpar V) i o)
    (fun i o => (congrFun ((stay_T3 V c main_v23 (by decide)).trans <| (stay_R3 V c main_v23 (by decide) (by decide) (by decide)).trans <| (stay_T2 V c main_v23 (by decide)).trans <| (stay_R2 V c main_v23 (by decide) (by decide) (by decide)).trans <| (stay_T1 V c main_v23 (by decide)).trans <| (stay_R1 V c main_v23 (by decide) (by decide) (by decide)).trans <| rfl) _).trans (pf0 V c i o))
    (fun i o => (congrFun ((stay_T3 V c main_v27 (by decide)).trans <| (stay_R3 V c main_v27 (by decide) (by decide) (by decide)).trans <| (stay_T2 V c main_v27 (by decide)).trans <| (stay_R2 V c main_v27 (by decide) (by decide) (by decide)).trans <| rfl) _).trans (pf1 V c i o))
    (fun i o => (congrFun ((stay_T3 V c main_v31 (by decide)).trans <| (stay_R3 V c main_v31 (by decide) (by decide) (by decide)).trans <| rfl) _).trans (pf2 V c i o))
    (fun i o => (congrFun (rfl) _).trans (pf3 V c i o))

end Cert.Topk
-- ==== Proof.RefTop.lean ====
/-
  The reference's distances and selection, entry by entry.
-/
module

public import proofs.«01_k».proof.Proof.Spec
public import proofs.«01_k».proof.Proof.Gen.ReferenceIdeal.Run
public import Idealize.ShloMosaic.Lib.Pointwise

@[expose] public section

noncomputable section

namespace Cert.Topk.Ref

open Idealize.ShloMosaic Cert.ReferenceIdeal Cert.ReferenceIdeal.Gen Cert.ReferenceIdeal.Value

variable (V : Valuation τ sig (Elt Ideal))

/-- The embeddings of a batch. -/
def emb (b : Fin 4) : Fin 2048 → Fin 1024 → EReal := fun i k => V (Proc.devRef .tc main_arg0) (ix3 b i k)

theorem v8_at (b : Fin 4) (i : Fin 2048) (k : Fin 1024) : (res_main_v8 V (ix3 b i k) : Ideal .f32) = unitRow (emb V b) i k := by
  pointwise [res_main_v8]
  rfl

theorem half_val : Ideal.ofBits .f32 0x3F000000#32 = ((1 / 2 : ℝ) : EReal) := by
  simp [Ideal.ofBits, Ideal.ieee, -EReal.coe_mul]
  norm_num

theorem v24_at (b : Fin 4) (i j : Fin 2048) : (res_main_v24 V (ix3 b i j) : Ideal .f32) = dist (emb V b) i j := by
  have e : IntOp.cmpi .eq (IntOp.addi (BitVec.ofNat 32 i.val) 0#32) (BitVec.ofNat 32 j.val) = BitVec.ofBool (decide (i = j)) := by
    show BitVec.ofBool (decide (BitVec.ofNat 32 i.val + 0#32 = BitVec.ofNat 32 j.val)) = _
    congr 2
    rw [BitVec.add_zero]
    apply propext
    constructor
    · intro h
      have := congrArg BitVec.toNat h
      rw [BitVec.toNat_ofNat, BitVec.toNat_ofNat] at this
      exact Fin.ext (by omega)
    · intro h; rw [h]
  unfold dist
  simp only [← v8_at]
  pointwise [res_main_v24]
  rw [e, half_val]
  by_cases h : i = j
  · subst h
    have : ((1 / 2 : ℝ) : EReal) < FloatOps.uitofp (F := Ideal) .f32 (BitVec.ofBool (decide (i = i))) := by
      show ((1 / 2 : ℝ) : EReal) < (((BitVec.ofBool (decide (i = i))).toNat : ℝ) : EReal)
      rw [EReal.coe_lt_coe_iff]
      simp
      norm_num
    rw [if_pos this, if_pos rfl]
    rfl
  · have : ¬ ((1 / 2 : ℝ) : EReal) < FloatOps.uitofp (F := Ideal) .f32 (BitVec.ofBool (decide (i = j))) := by
      show ¬ ((1 / 2 : ℝ) : EReal) < (((BitVec.ofBool (decide (i = j))).toNat : ℝ) : EReal)
      simp [h]
    rw [if_neg this, if_neg h]

theorem zeroed (x : EReal) : Scalar.select (FloatOps.cmpf (F := Ideal) (φ := .f32) .oeq x (FloatOps.ofBits (F := Ideal) .f32 0#32)) (FloatOps.ofBits (F := Ideal) .f32 0#32) x = x := by
  show (if BitVec.ofBool (decide (x = Ideal.ofBits .f32 0#32)) = 1 then Ideal.ofBits .f32 0#32 else x) = x
  by_cases h : x = Ideal.ofBits .f32 0#32
  · rw [← h]; exact ite_self _
  · rw [decide_eq_false h]; rfl

theorem numbered (x y x' : EReal) : Scalar.select (FloatOps.cmpf (F := Ideal) (φ := .f32) .une x x) y x' = x' := by
  show (if BitVec.ofBool (decide (x ≠ x)) = 1 then y else x') = x'
  simp

theorem before_eq (l r : EReal × BitVec 32) : (comparator_f32_i32_d2 (F := Ideal) l r == 1#1) = decide (l.1 < r.1) := by
  unfold comparator_f32_i32_d2
  simp only [zeroed, numbered]
  show (BitVec.ofBool (decide (l.1 < r.1)) == 1#1) = _
  by_cases h : l.1 < r.1 <;> simp [h]

theorem along_last (b : Fin 4) (i j k : Fin 2048) : (ix3 b i j : S4x2048x2048.Idx).along (2 : Fin 3) k = ix3 b i k := by
  funext a
  match a with
  | ⟨0, _⟩ => rfl
  | ⟨1, _⟩ => rfl
  | ⟨2, _⟩ => rfl

theorem sort_at (x : S4x2048x2048.Idx → EReal) (y : S4x2048x2048.Idx → BitVec 32) (b : Fin 4) (i : Fin 2048) (key : Fin 2048 → EReal)
    (hk : ∀ j, x (ix3 b i j) = key j) (u : Fin 2048) :
    (Host.sort2 S4x2048x2048 2 (comparator_f32_i32_d2 (F := Ideal)) x y).2 (ix3 b i u) = y (ix3 b i (sortedFrom (fun k k' : Fin 2048 => decide (key k < key k')) u)) := by
  unfold Host.sort2
  rw [dif_pos (by decide)]
  show y ((ix3 b i u : S4x2048x2048.Idx).along (2 : Fin 3) (sortedFrom (n := 2048) (fun k k' => comparator_f32_i32_d2 (F := Ideal)
    (x ((ix3 b i u : S4x2048x2048.Idx).along (2 : Fin 3) k), y ((ix3 b i u : S4x2048x2048.Idx).along (2 : Fin 3) k))
    (x ((ix3 b i u : S4x2048x2048.Idx).along (2 : Fin 3) k'), y ((ix3 b i u : S4x2048x2048.Idx).along (2 : Fin 3) k')) == 1#1) u)) = _
  have e : (fun k k' : Fin 2048 => comparator_f32_i32_d2 (F := Ideal)
    (x ((ix3 b i u : S4x2048x2048.Idx).along (2 : Fin 3) k), y ((ix3 b i u : S4x2048x2048.Idx).along (2 : Fin 3) k))
    (x ((ix3 b i u : S4x2048x2048.Idx).along (2 : Fin 3) k'), y ((ix3 b i u : S4x2048x2048.Idx).along (2 : Fin 3) k')) == 1#1)
      = fun k k' : Fin 2048 => decide (key k < key k') := by
    funext k k'
    rw [before_eq, along_last, along_last, hk, hk]
  rw [e, along_last]

theorem v26_at (b : Fin 4) (i : Fin 2048) (u : Fin 32) : (res_main_v26 V (ix3 b i u) : BitVec 32) = BitVec.ofNat 32 (near (emb V b) i u).val := by
  unfold res_main_v26
  pointwise
  exact sort_at (res_main_v24 V) (res_main_call2_v0 V) b i (dist (emb V b) i) (fun j => v24_at V b i j) _

/-! ## The neighbours' distances, read back -/

theorem near_word (w : BitVec 32) (n : ℕ) (h : n < 2048) (hw : w = BitVec.ofNat 32 n) (m : BitVec 32) :
    Scalar.select (IntOp.cmpi .slt w 0#32) m w = w := by
  subst hw
  show (if BitVec.ofBool ((BitVec.ofNat 32 n).slt 0#32) = 1 then m else _) = _
  have : (BitVec.ofNat 32 n).slt 0#32 = false := by
    rw [BitVec.slt, BitVec.toInt_eq_toNat_cond, BitVec.toNat_ofNat]
    simp; omega
  rw [this]; rfl

theorem idx_at (b : Fin 4) (i : Fin 2048) (u : Fin 32) (z : Fin 1) : (res_main_call3_v5 V (ix4 b i u z) : BitVec 32) = BitVec.ofNat 32 (near (emb V b) i u).val := by
  unfold res_main_call3_v5
  pointwise
  have h := v26_at V b i u
  exact (near_word _ _ (near (emb V b) i u).isLt h _).trans h

theorem operand_at (idx : IVec S4x2048x32x1 32) (b : Fin 4) (i : Fin 2048) (u : Fin 32) (n : Fin 2048) (h : idx (ix4 b i u 0) = BitVec.ofNat 32 n.val) :
    gather_S4x2048x2048_S4x2048x32x1_S4x2048x32_n_2_01_01_2_3_111.operandIdx (ix3 b i u) idx = ix3 b i n := by
  have hs : gather_S4x2048x2048_S4x2048x32x1_S4x2048x32_n_2_01_01_2_3_111.siIdx (ix3 b i u) ⟨0, by decide⟩ = ix4 b i u 0 := by
    funext a
    match a with
    | ⟨0, _⟩ => rfl
    | ⟨1, _⟩ => rfl
    | ⟨2, _⟩ => rfl
    | ⟨3, _⟩ => rfl
  funext a
  match a with
  | ⟨0, _⟩ => exact Fin.ext (show 0 + b.val + 0 = b.val by omega)
  | ⟨1, _⟩ => exact Fin.ext (show 0 + i.val + 0 = i.val by omega)
  | ⟨2, _⟩ =>
    refine Fin.ext ?_
    show min (idx (gather_S4x2048x2048_S4x2048x32x1_S4x2048x32_n_2_01_01_2_3_111.siIdx (ix3 b i u) ⟨0, _⟩)).toInt.toNat 2047 + 0 + 0 = n.val
    rw [hs, h]
    have hn := n.isLt
    rw [BitVec.toInt_eq_toNat_cond, BitVec.toNat_ofNat]
    rw [if_pos (by omega)]
    omega

/-- The distances, as the run states them. -/
def nd : S4x2048x32.Idx → Ideal .f32 :=
  select (Host.reduce IntOp.andi (andi (cmpi .sge (res_main_call3_v5 V) (broadcastInDim S4x2048x32x1 ![] bcast_S_S4x2048x32x1 (constantI S_ 32 0#32))) (cmpi .sle (res_main_call3_v5 V) (broadcastInDim S4x2048x32x1 ![0, 1, 2, 3] bcast_S1x1x1x1_S4x2048x32x1_0_1_2_3 (broadcastInDim S1x1x1x1 ![3] bcast_S1_S1x1x1x1_3 (constantI S1 32 2047#32))))) (constantI S_ 1 1#1) reducesTo_S4x2048x32x1_S4x2048x32_d3 h_S_) (Host.gather gather_S4x2048x2048_S4x2048x32x1_S4x2048x32_n_2_01_01_2_3_111 (res_main_v24 V) (res_main_call3_v5 V)) (broadcastInDim S4x2048x32 ![] bcast_S_S4x2048x32 (constant S_ .f32 0x7FC00000#32))

theorem fold_one {ι : Type} (s : Finset ι) (f : ι → BitVec 1) (h : ∀ x ∈ s, f x = 1#1) : s.fold IntOp.andi 1#1 f = 1#1 := by
  classical
  induction s using Finset.induction_on with
  | empty => rfl
  | insert a s ha ih =>
    rw [Finset.fold_insert ha, h a (Finset.mem_insert_self _ _), ih fun x hx => h x (Finset.mem_insert_of_mem hx)]
    rfl

theorem in_range (n : ℕ) (h : n < 2048) :
    IntOp.andi (IntOp.cmpi .sge (BitVec.ofNat 32 n) 0#32) (IntOp.cmpi .sle (BitVec.ofNat 32 n) 2047#32) = 1#1 := by
  have e : (BitVec.ofNat 32 n).toInt = n := by
    rw [BitVec.toInt_eq_toNat_cond, BitVec.toNat_ofNat, if_pos (by omega)]; omega
  have h1 : (0#32).sle (BitVec.ofNat 32 n) = true := by rw [BitVec.sle, e]; simp
  have h2 : (BitVec.ofNat 32 n).sle 2047#32 = true := by rw [BitVec.sle, e]; simp; omega
  show BitVec.ofBool ((0#32).sle (BitVec.ofNat 32 n)) &&& BitVec.ofBool ((BitVec.ofNat 32 n).sle 2047#32) = 1#1
  rw [h1, h2]; rfl

theorem nd_at (b : Fin 4) (i : Fin 2048) (u : Fin 32) : nd V (ix3 b i u) = nearDist (emb V b) i u := by
  have hx : ∀ x : S4x2048x32x1.Idx, ∃ n, n < 2048 ∧ res_main_call3_v5 V x = BitVec.ofNat 32 n := fun x =>
    ⟨_, (near (emb V (x 0)) (x 1) (x 2)).isLt, by
      have e : x = ix4 (x 0) (x 1) (x 2) (x 3) := by
        funext a
        match a with
        | ⟨0, _⟩ => rfl
        | ⟨1, _⟩ => rfl
        | ⟨2, _⟩ => rfl
        | ⟨3, _⟩ => rfl
      exact (congrArg _ e).trans (idx_at V (x 0) (x 1) (x 2) (x 3))⟩
  unfold nd
  pointwise
  rw [fold_one _ _ fun x _ => by
    obtain ⟨n, hn, e⟩ := hx x
    rw [e]; exact in_range n hn]
  show Host.gather _ (res_main_v24 V) (res_main_call3_v5 V) (ix3 b i u) = _
  unfold Host.gather
  rw [operand_at _ b i u (near (emb V b) i u) (idx_at V b i u 0)]
  exact v24_at V b i _

/-! ## The weights -/

theorem neg_inf : Ideal.ofBits .f32 0xFF800000#32 = ⊥ := by simp [Ideal.ofBits, Ideal.ieee]

theorem v45_eq : res_main_v45 V = Host.negf (nd V) := rfl

theorem v45_at (b : Fin 4) (i : Fin 2048) (u : Fin 32) : (res_main_v45 V (ix3 b i u) : Ideal .f32) = -nearDist (emb V b) i u := by
  rw [v45_eq]
  show -(nd V (ix3 b i u)) = _
  rw [nd_at]

/-- A row's largest entry. -/
theorem row_max (X : S4x2048x32.Idx → EReal) (b : Fin 4) (i : Fin 2048)
    (dec : DecidablePred fun x => reducesTo_S4x2048x32_S4x2048_d2.drop x = ix2 b i) :
    (@Finset.filter _ (fun x => reducesTo_S4x2048x32_S4x2048_d2.drop x = ix2 b i) dec Finset.univ).fold max ⊥ X
      = (Finset.univ : Finset (Fin 32)).fold max ⊥ fun u => X (ix3 b i u) := by
  have h : Shape.Reduces S4x2048x32 [(2 : Fin 3)] S4x2048 := by decide
  have e : (X ∘ h.lift (ix2 b i)) = fun u : Fin 32 => X (ix3 b i u) := by
    funext u
    show X _ = X _
    congr 1
    funext a
    match a with
    | ⟨0, _⟩ => rfl
    | ⟨1, _⟩ => rfl
    | ⟨2, _⟩ => rfl
  refine Eq.trans ?_ ((h.fold_filter_drop_single max ⊥ X (ix2 b i)).trans (by rw [e]; rfl))
  rw [Subsingleton.elim dec]
  rfl

theorem exp_less (a : EReal) {z z' : EReal} (h : z = z') : Ideal.exp (a - max ⊥ z) = Ideal.exp (a - max ⊥ z') := by rw [h]

theorem v52_at (b : Fin 4) (i : Fin 2048) (u : Fin 32) : (res_main_v52 V (ix3 b i u) : Ideal .f32) = ex (emb V b) i u := by
  have e : (fun u => (res_main_v45 V (ix3 b i u) : Ideal .f32)) = fun u => -nearDist (emb V b) i u := funext fun u => v45_at V b i u
  pointwise [res_main_v52]
  rw [neg_inf]
  refine (exp_less _ ((row_max (res_main_v45 V) b i _).trans (congrArg (fun f => (Finset.univ : Finset (Fin 32)).fold max ⊥ f) e))).trans ?_
  rw [neg_max, v45_at, shift]
  rfl

end Cert.Topk.Ref
-- ==== Proof.RefTail.lean ====
/-
  The reference's first result at a row: the networks of the row's combined projection.
-/
module

public import proofs.«01_k».proof.Proof.RefTop
public import proofs.«01_k».proof.Proof.Row

@[expose] public section

noncomputable section

namespace Cert.Topk.Ref

open Idealize.ShloMosaic Cert.ReferenceIdeal Cert.ReferenceIdeal.Gen Cert.ReferenceIdeal.Value Cert.Topk

set_option maxHeartbeats 2000000

variable (V : Valuation τ sig (Elt Ideal))

/-- The parameters the reference is given. -/
def par : Params where
  W x o := (V (Proc.devRef .tc main_arg1) (ix2 x o) : Ideal .f32)
  B o := (V (Proc.devRef .tc main_arg2) (ix1 o) : Ideal .f32)
  W1 x o := (V (Proc.devRef .tc main_arg3) (ix2 x o) : Ideal .f32)
  B1 o := (V (Proc.devRef .tc main_arg4) (ix1 o) : Ideal .f32)
  W2 x o := (V (Proc.devRef .tc main_arg5) (ix2 x o) : Ideal .f32)
  B2 o := (V (Proc.devRef .tc main_arg6) (ix1 o) : Ideal .f32)
  G o := (V (Proc.devRef .tc main_arg7) (ix1 o) : Ideal .f32)
  H o := (V (Proc.devRef .tc main_arg8) (ix1 o) : Ideal .f32)
  W3 x o := (V (Proc.devRef .tc main_arg9) (ix2 x o) : Ideal .f32)
  B3 o := (V (Proc.devRef .tc main_arg10) (ix1 o) : Ideal .f32)
  W4 x o := (V (Proc.devRef .tc main_arg11) (ix2 x o) : Ideal .f32)
  B4 o := (V (Proc.devRef .tc main_arg12) (ix1 o) : Ideal .f32)

theorem v3_at (b : Fin 4) (i : Fin 2048) (o : Fin 512) : (res_main_v3 V (ix3 b i o) : Ideal .f32) = topo (emb V b) (par V).W (par V).B i o := by
  pointwise [res_main_v3]
  rfl

/-- The gathered rows' start indices: batch and row number. -/
abbrev start : IVec S4x2048x32x2 32 :=
  (concatenate S4x2048x32x2 3 [⟨S4x2048x32x1, (broadcastInDim S4x2048x32x1 ![0, 1, 2] bcast_S4x2048x32_S4x2048x32x1_0_1_2 (select (cmpi .slt (res_main_v30 V) (broadcastInDim S4x2048x32 ![] bcast_S_S4x2048x32 (constantI S_ 32 0#32))) (addi (res_main_v30 V) (broadcastInDim S4x2048x32 ![] bcast_S_S4x2048x32 (constantI S_ 32 4#32))) (res_main_v30 V)))⟩, ⟨S4x2048x32x1, (broadcastInDim S4x2048x32x1 ![0, 1, 2] bcast_S4x2048x32_S4x2048x32x1_0_1_2 (select (cmpi .slt (res_main_v26 V) (broadcastInDim S4x2048x32 ![] bcast_S_S4x2048x32 (constantI S_ 32 0#32))) (addi (res_main_v26 V) (broadcastInDim S4x2048x32 ![] bcast_S_S4x2048x32 (constantI S_ 32 2048#32))) (res_main_v26 V)))⟩] concatenates_S4x2048x32x1_S4x2048x32x1_S4x2048x32x2_d3)

theorem v30_at (b : Fin 4) (i : Fin 2048) (u : Fin 32) : (res_main_v30 V (ix3 b i u) : BitVec 32) = BitVec.ofNat 32 b.val := by
  pointwise [res_main_v30]

theorem kept_word (w : BitVec 32) (n : ℕ) (h : n < 2048) (hw : w = BitVec.ofNat 32 n) (z : BitVec 32) :
    Scalar.select (IntOp.cmpi .slt w 0#32) z w = BitVec.ofNat 32 n := by
  subst hw
  exact near_word _ n h rfl z

theorem start_batch (b : Fin 4) (i : Fin 2048) (u : Fin 32) : start V (ix4 b i u 0) = BitVec.ofNat 32 b.val := by
  unfold start
  pointwise
  exact kept_word _ _ (by omega) (v30_at V b i u) _

theorem start_row (b : Fin 4) (i : Fin 2048) (u : Fin 32) : start V (ix4 b i u 1) = BitVec.ofNat 32 (near (emb V b) i u).val := by
  unfold start
  pointwise
  exact kept_word _ _ (near (emb V b) i u).isLt (v26_at V b i u) _

theorem row_index (idx : IVec S4x2048x32x2 32) (b : Fin 4) (i : Fin 2048) (u : Fin 32) (o : Fin 512) (n : Fin 2048)
    (h0 : idx (ix4 b i u 0) = BitVec.ofNat 32 b.val) (h1 : idx (ix4 b i u 1) = BitVec.ofNat 32 n.val) :
    gather_S4x2048x512_S4x2048x32x2_S4x2048x32x512_3_01_n_n_01_3_11512.operandIdx (ix4 b i u o) idx = ix3 b n o := by
  have hs0 : gather_S4x2048x512_S4x2048x32x2_S4x2048x32x512_3_01_n_n_01_3_11512.siIdx (ix4 b i u o) ⟨0, by decide⟩ = ix4 b i u 0 := by
    funext a
    match a with
    | ⟨0, _⟩ => rfl
    | ⟨1, _⟩ => rfl
    | ⟨2, _⟩ => rfl
    | ⟨3, _⟩ => rfl
  have hs1 : gather_S4x2048x512_S4x2048x32x2_S4x2048x32x512_3_01_n_n_01_3_11512.siIdx (ix4 b i u o) ⟨1, by decide⟩ = ix4 b i u 1 := by
    funext a
    match a with
    | ⟨0, _⟩ => rfl
    | ⟨1, _⟩ => rfl
    | ⟨2, _⟩ => rfl
    | ⟨3, _⟩ => rfl
  funext a
  match a with
  | ⟨0, _⟩ =>
    refine Fin.ext ?_
    show min (idx (gather_S4x2048x512_S4x2048x32x2_S4x2048x32x512_3_01_n_n_01_3_11512.siIdx (ix4 b i u o) ⟨0, _⟩)).toInt.toNat 3 + 0 + 0 = b.val
    rw [hs0, h0]
    have hn := b.isLt
    rw [BitVec.toInt_eq_toNat_cond, BitVec.toNat_ofNat]
    rw [if_pos (by omega)]
    omega
  | ⟨1, _⟩ =>
    refine Fin.ext ?_
    show min (idx (gather_S4x2048x512_S4x2048x32x2_S4x2048x32x512_3_01_n_n_01_3_11512.siIdx (ix4 b i u o) ⟨1, _⟩)).toInt.toNat 2047 + 0 + 0 = n.val
    rw [hs1, h1]
    have hn := n.isLt
    rw [BitVec.toInt_eq_toNat_cond, BitVec.toNat_ofNat]
    rw [if_pos (by omega)]
    omega
  | ⟨2, _⟩ => exact Fin.ext (show 0 + 0 + o.val = o.val by omega)

/-- The gathered rows. -/
def gat : S4x2048x32x512.Idx → Ideal .f32 :=
  Host.gather gather_S4x2048x512_S4x2048x32x2_S4x2048x32x512_3_01_n_n_01_3_11512 (res_main_v3 V) (start V)

theorem gat_at (b : Fin 4) (i : Fin 2048) (u : Fin 32) (o : Fin 512) :
    gat V (ix4 b i u o) = topo (emb V b) (par V).W (par V).B (near (emb V b) i u) o := by
  unfold gat Host.gather
  rw [row_index _ b i u o (near (emb V b) i u) (start_batch V b i u) (start_row V b i u)]
  exact v3_at V b _ o

theorem v70_eq : res_main_v70 V = addf (Host.dotGeneral (φ₁ := .f32) (φ₂ := .f32) dot_S4x2048x1024_S1024x512_S4x2048x512_2_0_01_1_n_n none (maximumf (addf (Host.dotGeneral (φ₁ := .f32) (φ₂ := .f32) dot_S4x2048x512_S512x1024_S4x2048x1024_2_0_01_1_n_n none (addf (res_main_v3 V) (Host.reduceAdd (mulf (gat V) (broadcastInDim S4x2048x32x512 ![0, 1, 2, 3] bcast_S4x2048x32x1_S4x2048x32x512_0_1_2_3 (broadcastInDim S4x2048x32x1 ![0, 1, 2] bcast_S4x2048x32_S4x2048x32x1_0_1_2 (Host.divf (res_main_v52 V) (broadcastInDim S4x2048x32 ![0, 1, 2] bcast_S4x2048x1_S4x2048x32_0_1_2 (broadcastInDim S4x2048x1 ![0, 1] bcast_S4x2048_S4x2048x1_0_1 (Host.reduceAdd (res_main_v52 V) (constant S_ .f32 0x00000000#32) reducesTo_S4x2048x32_S4x2048_d2 h_S_))))))) (constant S_ .f32 0x00000000#32) reducesTo_S4x2048x32x512_S4x2048x512_d2 h_S_)) (V (Proc.devRef .tc main_arg3))) (broadcastInDim S4x2048x1024 ![0, 1, 2] bcast_S1x1x1024_S4x2048x1024_0_1_2 (broadcastInDim S1x1x1024 ![2] bcast_S1024_S1x1x1024_2 (V (Proc.devRef .tc main_arg4))))) (broadcastInDim S4x2048x1024 ![] bcast_S_S4x2048x1024 (constant S_ .f32 0x00000000#32))) (V (Proc.devRef .tc main_arg5))) (broadcastInDim S4x2048x512 ![0, 1, 2] bcast_S1x1x512_S4x2048x512_0_1_2 (broadcastInDim S1x1x512 ![2] bcast_S512_S1x1x512_2 (V (Proc.devRef .tc main_arg6)))) := rfl

theorem v70_at (b : Fin 4) (i : Fin 2048) (o : Fin 512) : (res_main_v70 V (ix3 b i o) : Ideal .f32) = after1 (par V) (comb (emb V b) (par V).W (par V).B i) o := by
  rw [v70_eq]
  pointwise
  simp only [gat_at, v3_at, v52_at]
  rfl

theorem five12 : Ideal.ofBits .f32 0x44000000#32 = ((512 : ℝ) : EReal) := by
  simp [Ideal.ofBits, Ideal.ieee, -EReal.coe_mul]
  norm_num

theorem count_at (j : S_.Idx) : (res_main_call5_v8 V j : Ideal .f32) = Ideal.ofBits .f32 0x44000000#32 := by
  pointwise [res_main_call5_v8]
  show (Ideal.ofBits .f32 0x44000000#32 : EReal) - (((0#32 : BitVec 32).toInt : ℝ) : EReal) = _
  rw [show (0#32 : BitVec 32).toInt = 0 from rfl]
  simp

theorem count_pos : (0 : EReal) < Ideal.ofBits .f32 0x44000000#32 := by
  rw [five12]
  exact_mod_cast (by norm_num : (0 : ℝ) < 512)

theorem v5_at (b : Fin 4) (i : Fin 2048) (o : Fin 512) : (res_main_call5_v5 V (ix3 b i o) : Ideal .f32) = centred (after1 (par V) (comb (emb V b) (par V).W (par V).B i)) o := by
  pointwise [res_main_call5_v5]
  simp only [v70_at]
  rfl

/-- The reference's first result. -/
def pf : S4x2048x512.Idx → Ideal .f32 :=
  addf (Host.dotGeneral (φ₁ := .f32) (φ₂ := .f32) dot_S4x2048x512_S512x512_S4x2048x512_2_0_01_1_n_n none (maximumf (addf (Host.dotGeneral (φ₁ := .f32) (φ₂ := .f32) dot_S4x2048x512_S512x512_S4x2048x512_2_0_01_1_n_n none (addf (mulf (Host.divf (subf (res_main_v70 V) (broadcastInDim S4x2048x512 ![0, 1, 2] bcast_S4x2048x1_S4x2048x512_0_1_2 (Host.divf (broadcastInDim S4x2048x1 ![0, 1] bcast_S4x2048_S4x2048x1_0_1 (Host.reduceAdd (res_main_v70 V) (constant S_ .f32 0x00000000#32) reducesTo_S4x2048x512_S4x2048_d2 h_S_)) (broadcastInDim S4x2048x1 ![] bcast_S_S4x2048x1 (constant S_ .f32 0x44000000#32))))) (broadcastInDim S4x2048x512 ![0, 1, 2] bcast_S4x2048x1_S4x2048x512_0_1_2 (Host.sqrt (addf (select (broadcastInDim S4x2048x1 ![] bcast_S_S4x2048x1 (cmpf .ogt (res_main_call5_v8 V) (constant S_ .f32 0x00000000#32))) (Host.divf (broadcastInDim S4x2048x1 ![0, 1] bcast_S4x2048_S4x2048x1_0_1 (Host.reduceAdd (mulf (res_main_call5_v5 V) (res_main_call5_v5 V)) (constant S_ .f32 0x00000000#32) reducesTo_S4x2048x512_S4x2048_d2 h_S_)) (broadcastInDim S4x2048x1 ![] bcast_S_S4x2048x1 (res_main_call5_v8 V))) (broadcastInDim S4x2048x1 ![] bcast_S_S4x2048x1 (id (constant S_ .f32 0x7FC00000#32)))) (broadcastInDim S4x2048x1 ![] bcast_S_S4x2048x1 (constant S_ .f32 0x358637BD#32)))))) (broadcastInDim S4x2048x512 ![0, 1, 2] bcast_S1x1x512_S4x2048x512_0_1_2 (broadcastInDim S1x1x512 ![2] bcast_S512_S1x1x512_2 (V (Proc.devRef .tc main_arg7))))) (broadcastInDim S4x2048x512 ![0, 1, 2] bcast_S1x1x512_S4x2048x512_0_1_2 (broadcastInDim S1x1x512 ![2] bcast_S512_S1x1x512_2 (V (Proc.devRef .tc main_arg8))))) (V (Proc.devRef .tc main_arg9))) (broadcastInDim S4x2048x512 ![0, 1, 2] bcast_S1x1x512_S4x2048x512_0_1_2 (broadcastInDim S1x1x512 ![2] bcast_S512_S1x1x512_2 (V (Proc.devRef .tc main_arg10))))) (broadcastInDim S4x2048x512 ![] bcast_S_S4x2048x512 (constant S_ .f32 0x00000000#32))) (V (Proc.devRef .tc main_arg11))) (broadcastInDim S4x2048x512 ![0, 1, 2] bcast_S1x1x512_S4x2048x512_0_1_2 (broadcastInDim S1x1x512 ![2] bcast_S512_S1x1x512_2 (V (Proc.devRef .tc main_arg12))))

theorem pf_at (b : Fin 4) (i : Fin 2048) (o : Fin 512) : pf V (ix3 b i o) = rowOut (emb V b) (par V) i o := by
  unfold pf
  pointwise
  simp only [v70_at, v5_at, count_at, if_pos count_pos]
  rfl

end Cert.Topk.Ref
-- ==== Proof.Alg.lean ====
/-
  The kernel and the reference return the same three arrays over the extended reals.
-/
module

public import proofs.«01_k».proof.Defs
public import proofs.«01_k».proof.Proof.Chain
public import proofs.«01_k».proof.Proof.RefTail
public import proofs.«01_k».proof.Proof.Frames

@[expose] public section

noncomputable section

namespace Cert.Topk

open Idealize.ShloMosaic Idealize.ShloMosaic.StableHlo Idealize.SL.Sem

set_option maxHeartbeats 2000000

section Same
variable (V : Valuation Cert.KernelIdeal.τ Cert.KernelIdeal.sig (Elt Ideal)) (V' : Valuation Cert.ReferenceIdeal.τ Cert.ReferenceIdeal.sig (Elt Ideal))

/-- Both programs are given the same arguments. -/
structure SameArgs : Prop where
  a0 : (V' (Proc.devRef .tc Cert.ReferenceIdeal.main_arg0) : Cert.KernelIdeal.S4x2048x1024.Idx → EReal) = V (Proc.devRef .tc Cert.KernelIdeal.main_arg0)
  a1 : (V' (Proc.devRef .tc Cert.ReferenceIdeal.main_arg1) : Cert.KernelIdeal.S1024x512.Idx → EReal) = V (Proc.devRef .tc Cert.KernelIdeal.main_arg1)
  a2 : (V' (Proc.devRef .tc Cert.ReferenceIdeal.main_arg2) : Cert.KernelIdeal.S512.Idx → EReal) = V (Proc.devRef .tc Cert.KernelIdeal.main_arg2)
  a3 : (V' (Proc.devRef .tc Cert.ReferenceIdeal.main_arg3) : Cert.KernelIdeal.S512x1024.Idx → EReal) = V (Proc.devRef .tc Cert.KernelIdeal.main_arg3)
  a4 : (V' (Proc.devRef .tc Cert.ReferenceIdeal.main_arg4) : Cert.KernelIdeal.S1024.Idx → EReal) = V (Proc.devRef .tc Cert.KernelIdeal.main_arg4)
  a5 : (V' (Proc.devRef .tc Cert.ReferenceIdeal.main_arg5) : Cert.KernelIdeal.S1024x512.Idx → EReal) = V (Proc.devRef .tc Cert.KernelIdeal.main_arg5)
  a6 : (V' (Proc.devRef .tc Cert.ReferenceIdeal.main_arg6) : Cert.KernelIdeal.S512.Idx → EReal) = V (Proc.devRef .tc Cert.KernelIdeal.main_arg6)
  a7 : (V' (Proc.devRef .tc Cert.ReferenceIdeal.main_arg7) : Cert.KernelIdeal.S512.Idx → EReal) = V (Proc.devRef .tc Cert.KernelIdeal.main_arg7)
  a8 : (V' (Proc.devRef .tc Cert.ReferenceIdeal.main_arg8) : Cert.KernelIdeal.S512.Idx → EReal) = V (Proc.devRef .tc Cert.KernelIdeal.main_arg8)
  a9 : (V' (Proc.devRef .tc Cert.ReferenceIdeal.main_arg9) : Cert.KernelIdeal.S512x512.Idx → EReal) = V (Proc.devRef .tc Cert.KernelIdeal.main_arg9)
  a10 : (V' (Proc.devRef .tc Cert.ReferenceIdeal.main_arg10) : Cert.KernelIdeal.S512.Idx → EReal) = V (Proc.devRef .tc Cert.KernelIdeal.main_arg10)
  a11 : (V' (Proc.devRef .tc Cert.ReferenceIdeal.main_arg11) : Cert.KernelIdeal.S512x512.Idx → EReal) = V (Proc.devRef .tc Cert.KernelIdeal.main_arg11)
  a12 : (V' (Proc.devRef .tc Cert.ReferenceIdeal.main_arg12) : Cert.KernelIdeal.S512.Idx → EReal) = V (Proc.devRef .tc Cert.KernelIdeal.main_arg12)

/-- The reference's embeddings are the kernel's. -/
theorem SameArgs.emb (h : SameArgs V V') : Ref.emb V' = kemb V := by
  funext b i k
  exact congrFun h.a0 _

/-- The reference's weights are the kernel's. -/
theorem SameArgs.par (h : SameArgs V V') : Ref.par V' = kpar V := by
  unfold Ref.par kpar
  rw [h.a1, h.a2, h.a3, h.a4, h.a5, h.a6, h.a7, h.a8, h.a9, h.a10, h.a11, h.a12]

variable (c : Dev Cert.KernelIdeal.nD)

/-- The first result, the networks' output, is the same. -/
theorem SameArgs.pf (h : SameArgs V V') :
    Ref.pf V' = vZ V c (Proc.devRef .tc Cert.KernelIdeal.main_v38) := by
  funext j
  have e : j = ix3 (j 0) (j 1) (j 2) := by
    funext a
    match a with
    | ⟨0, _⟩ => rfl
    | ⟨1, _⟩ => rfl
    | ⟨2, _⟩ => rfl
  refine (congrArg _ e).trans (Eq.trans ?_ (congrArg _ e).symm)
  refine (Ref.pf_at V' _ _ _).trans (Eq.trans ?_ (out_pf V c _ _ _).symm)
  rw [h.emb, h.par]

/-- The second result, the neighbours' distances, is the same. -/
theorem SameArgs.nd (h : SameArgs V V') :
    Ref.nd V' = vZ V c (Proc.devRef .tc Cert.KernelIdeal.main_v36) := by
  funext j
  have e : j = ix3 (j 0) (j 1) (j 2) := by
    funext a
    match a with
    | ⟨0, _⟩ => rfl
    | ⟨1, _⟩ => rfl
    | ⟨2, _⟩ => rfl
  refine (congrArg _ e).trans (Eq.trans ?_ (congrArg _ e).symm)
  refine (Ref.nd_at V' _ _ _).trans (Eq.trans ?_ (out_nd V c _ _ _).symm)
  rw [h.emb]

/-- The third result, the neighbours' columns, is the same. -/
theorem SameArgs.ni (h : SameArgs V V') :
    Cert.ReferenceIdeal.Value.res_main_v26 V' = vZ V c (Proc.devRef .tc Cert.KernelIdeal.main_v37) := by
  funext j
  have e : j = ix3 (j 0) (j 1) (j 2) := by
    funext a
    match a with
    | ⟨0, _⟩ => rfl
    | ⟨1, _⟩ => rfl
    | ⟨2, _⟩ => rfl
  refine (congrArg _ e).trans (Eq.trans ?_ (congrArg _ e).symm)
  refine (Ref.v26_at V' _ _ _).trans (Eq.trans ?_ (out_ni V c _ _ _).symm)
  rw [h.emb]

end Same

/-- Kernel and reference compute the same function over the extended reals. -/
theorem algebraic : Cert.algebraic_KernelIdeal_ReferenceIdeal := fun m g m' g' _ hargs => by
  have hs : ∀ c : Dev Cert.KernelIdeal.nD, SameArgs (V0 m c) (launchContents m' c) := fun c => by
    obtain ⟨h0, h1, h2, h3, h4, h5, h6, h7, h8, h9, h10, h11, h12⟩ := hargs c
    exact ⟨h0, h1, h2, h3, h4, h5, h6, h7, h8, h9, h10, h11, h12⟩
  refine ⟨fun c => vZ (V0 m c) c (Proc.devRef .tc Cert.KernelIdeal.main_v38), fun c => vZ (V0 m c) c (Proc.devRef .tc Cert.KernelIdeal.main_v36),
    fun c => vZ (V0 m c) c (Proc.devRef .tc Cert.KernelIdeal.main_v37), ?_, ?_⟩
  · exact (θ_run Cert.KernelIdeal.defs _ _).mono (fun r h c =>
      ⟨h.1 c _ (mem_uc Cert.KernelIdeal.main_v38 rfl), h.1 c _ (mem_uc Cert.KernelIdeal.main_v36 rfl), h.1 c _ (mem_uc Cert.KernelIdeal.main_v37 rfl), args_same m h c⟩)
      (run_main (F := Ideal) m g)
  · exact (θ_run Cert.ReferenceIdeal.defs _ _).mono (fun r h c =>
      ⟨(h c).1.trans ((hs c).pf _ _ c), (h c).2.1.trans ((hs c).nd _ _ c), (h c).2.2.1.trans ((hs c).ni _ _ c), (h c).2.2.2⟩)
      (Cert.ReferenceIdeal.Value.run (F := Ideal) m' g')

end Cert.Topk
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.FrameK
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The reference's frame: its run writes no argument, and it declares no semaphore. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Topk.frame_kernel, Cert.Topk.frame_ideal, frame_reference, trivial, Cert.Topk.algebraic⟩

end Cert.Proof

end
